-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FfnDgrad (m : (ℓ : Loc Cert.FfnDgrad.nD Cert.FfnDgrad.τ Cert.FfnDgrad.sig) → Buf (Elt Bits) ℓ) : Prop :=
  True

def Pre_FfnDgradIdeal (m : (ℓ : Loc Cert.FfnDgradIdeal.nD Cert.FfnDgradIdeal.τ Cert.FfnDgradIdeal.sig) → Buf (Elt Ideal) ℓ) : Prop :=
  True

def Pre_FfnDgradIdeal_finite_ffn [hPre_finite_ffn : Cert.Pre_finite_ffn.Facts] (m : (ℓ : Loc Cert.FfnDgradIdeal.nD Cert.FfnDgradIdeal.τ Cert.FfnDgradIdeal.sig) → Buf (Elt Ideal) ℓ) : Prop :=
  ∀ c : Dev Cert.FfnDgradIdeal.nD,
    (Cert.Pre_finite_ffn.fn (F := Ideal) (m ((c.tc : Thread Cert.FfnDgradIdeal.nD Cert.FfnDgradIdeal.τ).loc Cert.FfnDgradIdeal.main_arg0)) (m ((c.tc : Thread Cert.FfnDgradIdeal.nD Cert.FfnDgradIdeal.τ).loc Cert.FfnDgradIdeal.main_arg1)) (m ((c.tc : Thread Cert.FfnDgradIdeal.nD Cert.FfnDgradIdeal.τ).loc Cert.FfnDgradIdeal.main_arg2)) (m ((c.tc : Thread Cert.FfnDgradIdeal.nD Cert.FfnDgradIdeal.τ).loc Cert.FfnDgradIdeal.main_arg3)) (m ((c.tc : Thread Cert.FfnDgradIdeal.nD Cert.FfnDgradIdeal.τ).loc Cert.FfnDgradIdeal.main_arg4))) = (fun _ => 1#1)

def Pre_FfnDgradRefIdeal (m : (ℓ : Loc Cert.FfnDgradRefIdeal.nD Cert.FfnDgradRefIdeal.τ Cert.FfnDgradRefIdeal.sig) → Buf (Elt Ideal) ℓ) : Prop :=
  True

def Pre_FfnDgradRefIdeal_finite_ffn [hPre_finite_ffn : Cert.Pre_finite_ffn.Facts] (m : (ℓ : Loc Cert.FfnDgradRefIdeal.nD Cert.FfnDgradRefIdeal.τ Cert.FfnDgradRefIdeal.sig) → Buf (Elt Ideal) ℓ) : Prop :=
  ∀ c : Dev Cert.FfnDgradRefIdeal.nD,
    (Cert.Pre_finite_ffn.fn (F := Ideal) (m ((c.tc : Thread Cert.FfnDgradRefIdeal.nD Cert.FfnDgradRefIdeal.τ).loc Cert.FfnDgradRefIdeal.main_arg0)) (m ((c.tc : Thread Cert.FfnDgradRefIdeal.nD Cert.FfnDgradRefIdeal.τ).loc Cert.FfnDgradRefIdeal.main_arg1)) (m ((c.tc : Thread Cert.FfnDgradRefIdeal.nD Cert.FfnDgradRefIdeal.τ).loc Cert.FfnDgradRefIdeal.main_arg2)) (m ((c.tc : Thread Cert.FfnDgradRefIdeal.nD Cert.FfnDgradRefIdeal.τ).loc Cert.FfnDgradRefIdeal.main_arg3)) (m ((c.tc : Thread Cert.FfnDgradRefIdeal.nD Cert.FfnDgradRefIdeal.τ).loc Cert.FfnDgradRefIdeal.main_arg4))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_finite_up [hPre_finite_up : Cert.Pre_finite_up.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_finite_up.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3))) = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_finite_up [hPre_finite_up : Cert.Pre_finite_up.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_finite_up.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3))) = (fun _ => 1#1)

def Pre_FfnOutWgrad (m : (ℓ : Loc Cert.FfnOutWgrad.nD Cert.FfnOutWgrad.τ Cert.FfnOutWgrad.sig) → Buf (Elt Bits) ℓ) : Prop :=
  True

def Pre_FfnOutWgradIdeal (m : (ℓ : Loc Cert.FfnOutWgradIdeal.nD Cert.FfnOutWgradIdeal.τ Cert.FfnOutWgradIdeal.sig) → Buf (Elt Ideal) ℓ) : Prop :=
  True

def Pre_FfnOutWgradRefIdeal (m : (ℓ : Loc Cert.FfnOutWgradRefIdeal.nD Cert.FfnOutWgradRefIdeal.τ Cert.FfnOutWgradRefIdeal.sig) → Buf (Elt Ideal) ℓ) : Prop :=
  True

def Pre_FfnInWgrad (m : (ℓ : Loc Cert.FfnInWgrad.nD Cert.FfnInWgrad.τ Cert.FfnInWgrad.sig) → Buf (Elt Bits) ℓ) : Prop :=
  True

def Pre_FfnInWgradIdeal (m : (ℓ : Loc Cert.FfnInWgradIdeal.nD Cert.FfnInWgradIdeal.τ Cert.FfnInWgradIdeal.sig) → Buf (Elt Ideal) ℓ) : Prop :=
  True

def Pre_FfnInWgradRefIdeal (m : (ℓ : Loc Cert.FfnInWgradRefIdeal.nD Cert.FfnInWgradRefIdeal.τ Cert.FfnInWgradRefIdeal.sig) → Buf (Elt Ideal) ℓ) : Prop :=
  True

def Pre_MixInDgrad (m : (ℓ : Loc Cert.MixInDgrad.nD Cert.MixInDgrad.τ Cert.MixInDgrad.sig) → Buf (Elt Bits) ℓ) : Prop :=
  True

def Pre_MixInDgradIdeal (m : (ℓ : Loc Cert.MixInDgradIdeal.nD Cert.MixInDgradIdeal.τ Cert.MixInDgradIdeal.sig) → Buf (Elt Ideal) ℓ) : Prop :=
  True

def Pre_MixInDgradRefIdeal (m : (ℓ : Loc Cert.MixInDgradRefIdeal.nD Cert.MixInDgradRefIdeal.τ Cert.MixInDgradRefIdeal.sig) → Buf (Elt Ideal) ℓ) : Prop :=
  True

def Pre_MixInWgrad (m : (ℓ : Loc Cert.MixInWgrad.nD Cert.MixInWgrad.τ Cert.MixInWgrad.sig) → Buf (Elt Bits) ℓ) : Prop :=
  True

def Pre_MixInWgradIdeal (m : (ℓ : Loc Cert.MixInWgradIdeal.nD Cert.MixInWgradIdeal.τ Cert.MixInWgradIdeal.sig) → Buf (Elt Ideal) ℓ) : Prop :=
  True

def Pre_MixInWgradRefIdeal (m : (ℓ : Loc Cert.MixInWgradRefIdeal.nD Cert.MixInWgradRefIdeal.τ Cert.MixInWgradRefIdeal.sig) → Buf (Elt Ideal) ℓ) : Prop :=
  True

def Pre_HgrnOut (m : (ℓ : Loc Cert.HgrnOut.nD Cert.HgrnOut.τ Cert.HgrnOut.sig) → Buf (Elt Bits) ℓ) : Prop :=
  True

def Pre_HgrnOutIdeal (m : (ℓ : Loc Cert.HgrnOutIdeal.nD Cert.HgrnOutIdeal.τ Cert.HgrnOutIdeal.sig) → Buf (Elt Ideal) ℓ) : Prop :=
  True

def Pre_HgrnOutRefIdeal (m : (ℓ : Loc Cert.HgrnOutRefIdeal.nD Cert.HgrnOutRefIdeal.τ Cert.HgrnOutRefIdeal.sig) → Buf (Elt Ideal) ℓ) : Prop :=
  True

def Pre_HgrnOutWgrad (m : (ℓ : Loc Cert.HgrnOutWgrad.nD Cert.HgrnOutWgrad.τ Cert.HgrnOutWgrad.sig) → Buf (Elt Bits) ℓ) : Prop :=
  True

def Pre_HgrnOutWgradIdeal (m : (ℓ : Loc Cert.HgrnOutWgradIdeal.nD Cert.HgrnOutWgradIdeal.τ Cert.HgrnOutWgradIdeal.sig) → Buf (Elt Ideal) ℓ) : Prop :=
  True

def Pre_HgrnOutWgradRefIdeal (m : (ℓ : Loc Cert.HgrnOutWgradRefIdeal.nD Cert.HgrnOutWgradRefIdeal.τ Cert.HgrnOutWgradRefIdeal.sig) → Buf (Elt Ideal) ℓ) : Prop :=
  True

def Pre_HgrnOutDgrad (m : (ℓ : Loc Cert.HgrnOutDgrad.nD Cert.HgrnOutDgrad.τ Cert.HgrnOutDgrad.sig) → Buf (Elt Bits) ℓ) : Prop :=
  True

def Pre_HgrnOutDgradIdeal (m : (ℓ : Loc Cert.HgrnOutDgradIdeal.nD Cert.HgrnOutDgradIdeal.τ Cert.HgrnOutDgradIdeal.sig) → Buf (Elt Ideal) ℓ) : Prop :=
  True

def Pre_HgrnOutDgradRefIdeal (m : (ℓ : Loc Cert.HgrnOutDgradRefIdeal.nD Cert.HgrnOutDgradRefIdeal.τ Cert.HgrnOutDgradRefIdeal.sig) → Buf (Elt Ideal) ℓ) : Prop :=
  True

def Pre_GmlpOut (m : (ℓ : Loc Cert.GmlpOut.nD Cert.GmlpOut.τ Cert.GmlpOut.sig) → Buf (Elt Bits) ℓ) : Prop :=
  True

def Pre_GmlpOutIdeal (m : (ℓ : Loc Cert.GmlpOutIdeal.nD Cert.GmlpOutIdeal.τ Cert.GmlpOutIdeal.sig) → Buf (Elt Ideal) ℓ) : Prop :=
  True

def Pre_GmlpOutRefIdeal (m : (ℓ : Loc Cert.GmlpOutRefIdeal.nD Cert.GmlpOutRefIdeal.τ Cert.GmlpOutRefIdeal.sig) → Buf (Elt Ideal) ℓ) : Prop :=
  True

def Pre_GmlpOutWgrad (m : (ℓ : Loc Cert.GmlpOutWgrad.nD Cert.GmlpOutWgrad.τ Cert.GmlpOutWgrad.sig) → Buf (Elt Bits) ℓ) : Prop :=
  True

def Pre_GmlpOutWgradIdeal (m : (ℓ : Loc Cert.GmlpOutWgradIdeal.nD Cert.GmlpOutWgradIdeal.τ Cert.GmlpOutWgradIdeal.sig) → Buf (Elt Ideal) ℓ) : Prop :=
  True

def Pre_GmlpOutWgradRefIdeal (m : (ℓ : Loc Cert.GmlpOutWgradRefIdeal.nD Cert.GmlpOutWgradRefIdeal.τ Cert.GmlpOutWgradRefIdeal.sig) → Buf (Elt Ideal) ℓ) : Prop :=
  True

def Pre_GmlpOutDgrad (m : (ℓ : Loc Cert.GmlpOutDgrad.nD Cert.GmlpOutDgrad.τ Cert.GmlpOutDgrad.sig) → Buf (Elt Bits) ℓ) : Prop :=
  True

def Pre_GmlpOutDgradIdeal (m : (ℓ : Loc Cert.GmlpOutDgradIdeal.nD Cert.GmlpOutDgradIdeal.τ Cert.GmlpOutDgradIdeal.sig) → Buf (Elt Ideal) ℓ) : Prop :=
  True

def Pre_GmlpOutDgradRefIdeal (m : (ℓ : Loc Cert.GmlpOutDgradRefIdeal.nD Cert.GmlpOutDgradRefIdeal.τ Cert.GmlpOutDgradRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemKvWgrad (m : (ℓ : Loc Cert.MemKvWgrad.nD Cert.MemKvWgrad.τ Cert.MemKvWgrad.sig) → Buf (Elt Bits) ℓ) : Prop :=
  True

def Pre_MemKvWgradIdeal (m : (ℓ : Loc Cert.MemKvWgradIdeal.nD Cert.MemKvWgradIdeal.τ Cert.MemKvWgradIdeal.sig) → Buf (Elt Ideal) ℓ) : Prop :=
  True

def Pre_MemKvWgradRefIdeal (m : (ℓ : Loc Cert.MemKvWgradRefIdeal.nD Cert.MemKvWgradRefIdeal.τ Cert.MemKvWgradRefIdeal.sig) → Buf (Elt Ideal) ℓ) : Prop :=
  True

def Pre_MemKvDgrad (m : (ℓ : Loc Cert.MemKvDgrad.nD Cert.MemKvDgrad.τ Cert.MemKvDgrad.sig) → Buf (Elt Bits) ℓ) : Prop :=
  True

def Pre_MemKvDgradIdeal (m : (ℓ : Loc Cert.MemKvDgradIdeal.nD Cert.MemKvDgradIdeal.τ Cert.MemKvDgradIdeal.sig) → Buf (Elt Ideal) ℓ) : Prop :=
  True

def Pre_MemKvDgradRefIdeal (m : (ℓ : Loc Cert.MemKvDgradRefIdeal.nD Cert.MemKvDgradRefIdeal.τ Cert.MemKvDgradRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_MemNormBwd (m : (ℓ : Loc Cert.MemNormBwd.nD Cert.MemNormBwd.τ Cert.MemNormBwd.sig) → Buf (Elt Bits) ℓ) : Prop :=
  True

def Pre_MemNormBwdIdeal (m : (ℓ : Loc Cert.MemNormBwdIdeal.nD Cert.MemNormBwdIdeal.τ Cert.MemNormBwdIdeal.sig) → Buf (Elt Ideal) ℓ) : Prop :=
  True

def Pre_MemNormBwdRefIdeal (m : (ℓ : Loc Cert.MemNormBwdRefIdeal.nD Cert.MemNormBwdRefIdeal.τ Cert.MemNormBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_AdamHgrnOut (m : (ℓ : Loc Cert.AdamHgrnOut.nD Cert.AdamHgrnOut.τ Cert.AdamHgrnOut.sig) → Buf (Elt Bits) ℓ) : Prop :=
  True

def Pre_AdamHgrnOutIdeal (m : (ℓ : Loc Cert.AdamHgrnOutIdeal.nD Cert.AdamHgrnOutIdeal.τ Cert.AdamHgrnOutIdeal.sig) → Buf (Elt Ideal) ℓ) : Prop :=
  True

def Pre_AdamHgrnOutRefIdeal (m : (ℓ : Loc Cert.AdamHgrnOutRefIdeal.nD Cert.AdamHgrnOutRefIdeal.τ Cert.AdamHgrnOutRefIdeal.sig) → Buf (Elt Ideal) ℓ) : Prop :=
  True

def Pre_AdamGmlpOut (m : (ℓ : Loc Cert.AdamGmlpOut.nD Cert.AdamGmlpOut.τ Cert.AdamGmlpOut.sig) → Buf (Elt Bits) ℓ) : Prop :=
  True

def Pre_AdamGmlpOutIdeal (m : (ℓ : Loc Cert.AdamGmlpOutIdeal.nD Cert.AdamGmlpOutIdeal.τ Cert.AdamGmlpOutIdeal.sig) → Buf (Elt Ideal) ℓ) : Prop :=
  True

def Pre_AdamGmlpOutRefIdeal (m : (ℓ : Loc Cert.AdamGmlpOutRefIdeal.nD Cert.AdamGmlpOutRefIdeal.τ Cert.AdamGmlpOutRefIdeal.sig) → Buf (Elt Ideal) ℓ) : Prop :=
  True

def Pre_AdamMixIn (m : (ℓ : Loc Cert.AdamMixIn.nD Cert.AdamMixIn.τ Cert.AdamMixIn.sig) → Buf (Elt Bits) ℓ) : Prop :=
  True

def Pre_AdamMixInIdeal (m : (ℓ : Loc Cert.AdamMixInIdeal.nD Cert.AdamMixInIdeal.τ Cert.AdamMixInIdeal.sig) → Buf (Elt Ideal) ℓ) : Prop :=
  True

def Pre_AdamMixInRefIdeal (m : (ℓ : Loc Cert.AdamMixInRefIdeal.nD Cert.AdamMixInRefIdeal.τ Cert.AdamMixInRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_AdamMemKv (m : (ℓ : Loc Cert.AdamMemKv.nD Cert.AdamMemKv.τ Cert.AdamMemKv.sig) → Buf (Elt Bits) ℓ) : Prop :=
  True

def Pre_AdamMemKvIdeal (m : (ℓ : Loc Cert.AdamMemKvIdeal.nD Cert.AdamMemKvIdeal.τ Cert.AdamMemKvIdeal.sig) → Buf (Elt Ideal) ℓ) : Prop :=
  True

def Pre_AdamMemKvRefIdeal (m : (ℓ : Loc Cert.AdamMemKvRefIdeal.nD Cert.AdamMemKvRefIdeal.τ Cert.AdamMemKvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnDgrad [hFfnDgrad : Cert.FfnDgrad.Facts] : Prop :=
  ∀ (m : (ℓ : Loc Cert.FfnDgrad.nD Cert.FfnDgrad.τ Cert.FfnDgrad.sig) → Buf (Elt Bits) ℓ) (g : Dev Cert.FfnDgrad.nD → PrngReg), Pre_FfnDgrad m →
    θ_run (Cert.FfnDgrad.defs (F := Bits)) (onTc (τ := Cert.FfnDgrad.τ) (Cert.FfnDgrad.main (F := Bits))) ⟨m, fun _ => 0, g⟩ (fun r => (∀ c : Dev Cert.FfnDgrad.nD,
      r.2.mem ((c.tc : Thread Cert.FfnDgrad.nD Cert.FfnDgrad.τ).loc Cert.FfnDgrad.main_arg0) = m ((c.tc : Thread Cert.FfnDgrad.nD Cert.FfnDgrad.τ).loc Cert.FfnDgrad.main_arg0)
      ∧ r.2.mem ((c.tc : Thread Cert.FfnDgrad.nD Cert.FfnDgrad.τ).loc Cert.FfnDgrad.main_arg1) = m ((c.tc : Thread Cert.FfnDgrad.nD Cert.FfnDgrad.τ).loc Cert.FfnDgrad.main_arg1)
      ∧ r.2.mem ((c.tc : Thread Cert.FfnDgrad.nD Cert.FfnDgrad.τ).loc Cert.FfnDgrad.main_arg2) = m ((c.tc : Thread Cert.FfnDgrad.nD Cert.FfnDgrad.τ).loc Cert.FfnDgrad.main_arg2)
      ∧ r.2.mem ((c.tc : Thread Cert.FfnDgrad.nD Cert.FfnDgrad.τ).loc Cert.FfnDgrad.main_arg3) = m ((c.tc : Thread Cert.FfnDgrad.nD Cert.FfnDgrad.τ).loc Cert.FfnDgrad.main_arg3)
      ∧ r.2.mem ((c.tc : Thread Cert.FfnDgrad.nD Cert.FfnDgrad.τ).loc Cert.FfnDgrad.main_arg4) = m ((c.tc : Thread Cert.FfnDgrad.nD Cert.FfnDgrad.τ).loc Cert.FfnDgrad.main_arg4))
      ∧ r.2.sem = fun _ => 0)

def quiescent_FfnDgradIdeal [hFfnDgradIdeal : Cert.FfnDgradIdeal.Facts] : Prop :=
  ∀ (m : (ℓ : Loc Cert.FfnDgradIdeal.nD Cert.FfnDgradIdeal.τ Cert.FfnDgradIdeal.sig) → Buf (Elt Ideal) ℓ) (g : Dev Cert.FfnDgradIdeal.nD → PrngReg), Pre_FfnDgradIdeal m →
    θ_run (Cert.FfnDgradIdeal.defs (F := Ideal)) (onTc (τ := Cert.FfnDgradIdeal.τ) (Cert.FfnDgradIdeal.main (F := Ideal))) ⟨m, fun _ => 0, g⟩ (fun r => (∀ c : Dev Cert.FfnDgradIdeal.nD,
      r.2.mem ((c.tc : Thread Cert.FfnDgradIdeal.nD Cert.FfnDgradIdeal.τ).loc Cert.FfnDgradIdeal.main_arg0) = m ((c.tc : Thread Cert.FfnDgradIdeal.nD Cert.FfnDgradIdeal.τ).loc Cert.FfnDgradIdeal.main_arg0)
      ∧ r.2.mem ((c.tc : Thread Cert.FfnDgradIdeal.nD Cert.FfnDgradIdeal.τ).loc Cert.FfnDgradIdeal.main_arg1) = m ((c.tc : Thread Cert.FfnDgradIdeal.nD Cert.FfnDgradIdeal.τ).loc Cert.FfnDgradIdeal.main_arg1)
      ∧ r.2.mem ((c.tc : Thread Cert.FfnDgradIdeal.nD Cert.FfnDgradIdeal.τ).loc Cert.FfnDgradIdeal.main_arg2) = m ((c.tc : Thread Cert.FfnDgradIdeal.nD Cert.FfnDgradIdeal.τ).loc Cert.FfnDgradIdeal.main_arg2)
      ∧ r.2.mem ((c.tc : Thread Cert.FfnDgradIdeal.nD Cert.FfnDgradIdeal.τ).loc Cert.FfnDgradIdeal.main_arg3) = m ((c.tc : Thread Cert.FfnDgradIdeal.nD Cert.FfnDgradIdeal.τ).loc Cert.FfnDgradIdeal.main_arg3)
      ∧ r.2.mem ((c.tc : Thread Cert.FfnDgradIdeal.nD Cert.FfnDgradIdeal.τ).loc Cert.FfnDgradIdeal.main_arg4) = m ((c.tc : Thread Cert.FfnDgradIdeal.nD Cert.FfnDgradIdeal.τ).loc Cert.FfnDgradIdeal.main_arg4))
      ∧ r.2.sem = fun _ => 0)

def quiescent_FfnDgradIdeal_pre_finite_ffn [hFfnDgradIdeal : Cert.FfnDgradIdeal.Facts] [hPre_finite_ffn : Cert.Pre_finite_ffn.Facts] : Prop :=
  ∀ (m : (ℓ : Loc Cert.FfnDgradIdeal.nD Cert.FfnDgradIdeal.τ Cert.FfnDgradIdeal.sig) → Buf (Elt Ideal) ℓ) (g : Dev Cert.FfnDgradIdeal.nD → PrngReg), Pre_FfnDgradIdeal_finite_ffn m →
    θ_run (Cert.FfnDgradIdeal.defs (F := Ideal)) (onTc (τ := Cert.FfnDgradIdeal.τ) (Cert.FfnDgradIdeal.main (F := Ideal))) ⟨m, fun _ => 0, g⟩ (fun r => (∀ c : Dev Cert.FfnDgradIdeal.nD,
      r.2.mem ((c.tc : Thread Cert.FfnDgradIdeal.nD Cert.FfnDgradIdeal.τ).loc Cert.FfnDgradIdeal.main_arg0) = m ((c.tc : Thread Cert.FfnDgradIdeal.nD Cert.FfnDgradIdeal.τ).loc Cert.FfnDgradIdeal.main_arg0)
      ∧ r.2.mem ((c.tc : Thread Cert.FfnDgradIdeal.nD Cert.FfnDgradIdeal.τ).loc Cert.FfnDgradIdeal.main_arg1) = m ((c.tc : Thread Cert.FfnDgradIdeal.nD Cert.FfnDgradIdeal.τ).loc Cert.FfnDgradIdeal.main_arg1)
      ∧ r.2.mem ((c.tc : Thread Cert.FfnDgradIdeal.nD Cert.FfnDgradIdeal.τ).loc Cert.FfnDgradIdeal.main_arg2) = m ((c.tc : Thread Cert.FfnDgradIdeal.nD Cert.FfnDgradIdeal.τ).loc Cert.FfnDgradIdeal.main_arg2)
      ∧ r.2.mem ((c.tc : Thread Cert.FfnDgradIdeal.nD Cert.FfnDgradIdeal.τ).loc Cert.FfnDgradIdeal.main_arg3) = m ((c.tc : Thread Cert.FfnDgradIdeal.nD Cert.FfnDgradIdeal.τ).loc Cert.FfnDgradIdeal.main_arg3)
      ∧ r.2.mem ((c.tc : Thread Cert.FfnDgradIdeal.nD Cert.FfnDgradIdeal.τ).loc Cert.FfnDgradIdeal.main_arg4) = m ((c.tc : Thread Cert.FfnDgradIdeal.nD Cert.FfnDgradIdeal.τ).loc Cert.FfnDgradIdeal.main_arg4))
      ∧ r.2.sem = fun _ => 0)

def quiescent_FfnDgradRefIdeal [hFfnDgradRefIdeal : Cert.FfnDgradRefIdeal.Facts] : Prop :=
  ∀ (m : (ℓ : Loc Cert.FfnDgradRefIdeal.nD Cert.FfnDgradRefIdeal.τ Cert.FfnDgradRefIdeal.sig) → Buf (Elt Ideal) ℓ) (g : Dev Cert.FfnDgradRefIdeal.nD → PrngReg), Pre_FfnDgradRefIdeal m →
    θ_run (Cert.FfnDgradRefIdeal.defs (F := Ideal)) (onTc (τ := Cert.FfnDgradRefIdeal.τ) (Cert.FfnDgradRefIdeal.main (F := Ideal))) ⟨m, fun _ => 0, g⟩ (fun r => (∀ c : Dev Cert.FfnDgradRefIdeal.nD,
      r.2.mem ((c.tc : Thread Cert.FfnDgradRefIdeal.nD Cert.FfnDgradRefIdeal.τ).loc Cert.FfnDgradRefIdeal.main_arg0) = m ((c.tc : Thread Cert.FfnDgradRefIdeal.nD Cert.FfnDgradRefIdeal.τ).loc Cert.FfnDgradRefIdeal.main_arg0)
      ∧ r.2.mem ((c.tc : Thread Cert.FfnDgradRefIdeal.nD Cert.FfnDgradRefIdeal.τ).loc Cert.FfnDgradRefIdeal.main_arg1) = m ((c.tc : Thread Cert.FfnDgradRefIdeal.nD Cert.FfnDgradRefIdeal.τ).loc Cert.FfnDgradRefIdeal.main_arg1)
      ∧ r.2.mem ((c.tc : Thread Cert.FfnDgradRefIdeal.nD Cert.FfnDgradRefIdeal.τ).loc Cert.FfnDgradRefIdeal.main_arg2) = m ((c.tc : Thread Cert.FfnDgradRefIdeal.nD Cert.FfnDgradRefIdeal.τ).loc Cert.FfnDgradRefIdeal.main_arg2)
      ∧ r.2.mem ((c.tc : Thread Cert.FfnDgradRefIdeal.nD Cert.FfnDgradRefIdeal.τ).loc Cert.FfnDgradRefIdeal.main_arg3) = m ((c.tc : Thread Cert.FfnDgradRefIdeal.nD Cert.FfnDgradRefIdeal.τ).loc Cert.FfnDgradRefIdeal.main_arg3)
      ∧ r.2.mem ((c.tc : Thread Cert.FfnDgradRefIdeal.nD Cert.FfnDgradRefIdeal.τ).loc Cert.FfnDgradRefIdeal.main_arg4) = m ((c.tc : Thread Cert.FfnDgradRefIdeal.nD Cert.FfnDgradRefIdeal.τ).loc Cert.FfnDgradRefIdeal.main_arg4))
      ∧ r.2.sem = fun _ => 0)

def quiescent_FfnDgradRefIdeal_pre_finite_ffn [hFfnDgradRefIdeal : Cert.FfnDgradRefIdeal.Facts] [hPre_finite_ffn : Cert.Pre_finite_ffn.Facts] : Prop :=
  ∀ (m : (ℓ : Loc Cert.FfnDgradRefIdeal.nD Cert.FfnDgradRefIdeal.τ Cert.FfnDgradRefIdeal.sig) → Buf (Elt Ideal) ℓ) (g : Dev Cert.FfnDgradRefIdeal.nD → PrngReg), Pre_FfnDgradRefIdeal_finite_ffn m →
    θ_run (Cert.FfnDgradRefIdeal.defs (F := Ideal)) (onTc (τ := Cert.FfnDgradRefIdeal.τ) (Cert.FfnDgradRefIdeal.main (F := Ideal))) ⟨m, fun _ => 0, g⟩ (fun r => (∀ c : Dev Cert.FfnDgradRefIdeal.nD,
      r.2.mem ((c.tc : Thread Cert.FfnDgradRefIdeal.nD Cert.FfnDgradRefIdeal.τ).loc Cert.FfnDgradRefIdeal.main_arg0) = m ((c.tc : Thread Cert.FfnDgradRefIdeal.nD Cert.FfnDgradRefIdeal.τ).loc Cert.FfnDgradRefIdeal.main_arg0)
      ∧ r.2.mem ((c.tc : Thread Cert.FfnDgradRefIdeal.nD Cert.FfnDgradRefIdeal.τ).loc Cert.FfnDgradRefIdeal.main_arg1) = m ((c.tc : Thread Cert.FfnDgradRefIdeal.nD Cert.FfnDgradRefIdeal.τ).loc Cert.FfnDgradRefIdeal.main_arg1)
      ∧ r.2.mem ((c.tc : Thread Cert.FfnDgradRefIdeal.nD Cert.FfnDgradRefIdeal.τ).loc Cert.FfnDgradRefIdeal.main_arg2) = m ((c.tc : Thread Cert.FfnDgradRefIdeal.nD Cert.FfnDgradRefIdeal.τ).loc Cert.FfnDgradRefIdeal.main_arg2)
      ∧ r.2.mem ((c.tc : Thread Cert.FfnDgradRefIdeal.nD Cert.FfnDgradRefIdeal.τ).loc Cert.FfnDgradRefIdeal.main_arg3) = m ((c.tc : Thread Cert.FfnDgradRefIdeal.nD Cert.FfnDgradRefIdeal.τ).loc Cert.FfnDgradRefIdeal.main_arg3)
      ∧ r.2.mem ((c.tc : Thread Cert.FfnDgradRefIdeal.nD Cert.FfnDgradRefIdeal.τ).loc Cert.FfnDgradRefIdeal.main_arg4) = m ((c.tc : Thread Cert.FfnDgradRefIdeal.nD Cert.FfnDgradRefIdeal.τ).loc Cert.FfnDgradRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdIdeal_pre_finite_up [hFfnFwdIdeal : Cert.FfnFwdIdeal.Facts] [hPre_finite_up : Cert.Pre_finite_up.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_finite_up m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_FfnFwdRefIdeal_pre_finite_up [hFfnFwdRefIdeal : Cert.FfnFwdRefIdeal.Facts] [hPre_finite_up : Cert.Pre_finite_up.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_finite_up m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_FfnOutWgrad [hFfnOutWgrad : Cert.FfnOutWgrad.Facts] : Prop :=
  ∀ (m : (ℓ : Loc Cert.FfnOutWgrad.nD Cert.FfnOutWgrad.τ Cert.FfnOutWgrad.sig) → Buf (Elt Bits) ℓ) (g : Dev Cert.FfnOutWgrad.nD → PrngReg), Pre_FfnOutWgrad m →
    θ_run (Cert.FfnOutWgrad.defs (F := Bits)) (onTc (τ := Cert.FfnOutWgrad.τ) (Cert.FfnOutWgrad.main (F := Bits))) ⟨m, fun _ => 0, g⟩ (fun r => (∀ c : Dev Cert.FfnOutWgrad.nD,
      r.2.mem ((c.tc : Thread Cert.FfnOutWgrad.nD Cert.FfnOutWgrad.τ).loc Cert.FfnOutWgrad.main_arg0) = m ((c.tc : Thread Cert.FfnOutWgrad.nD Cert.FfnOutWgrad.τ).loc Cert.FfnOutWgrad.main_arg0)
      ∧ r.2.mem ((c.tc : Thread Cert.FfnOutWgrad.nD Cert.FfnOutWgrad.τ).loc Cert.FfnOutWgrad.main_arg1) = m ((c.tc : Thread Cert.FfnOutWgrad.nD Cert.FfnOutWgrad.τ).loc Cert.FfnOutWgrad.main_arg1))
      ∧ r.2.sem = fun _ => 0)

def quiescent_FfnOutWgradIdeal [hFfnOutWgradIdeal : Cert.FfnOutWgradIdeal.Facts] : Prop :=
  ∀ (m : (ℓ : Loc Cert.FfnOutWgradIdeal.nD Cert.FfnOutWgradIdeal.τ Cert.FfnOutWgradIdeal.sig) → Buf (Elt Ideal) ℓ) (g : Dev Cert.FfnOutWgradIdeal.nD → PrngReg), Pre_FfnOutWgradIdeal m →
    θ_run (Cert.FfnOutWgradIdeal.defs (F := Ideal)) (onTc (τ := Cert.FfnOutWgradIdeal.τ) (Cert.FfnOutWgradIdeal.main (F := Ideal))) ⟨m, fun _ => 0, g⟩ (fun r => (∀ c : Dev Cert.FfnOutWgradIdeal.nD,
      r.2.mem ((c.tc : Thread Cert.FfnOutWgradIdeal.nD Cert.FfnOutWgradIdeal.τ).loc Cert.FfnOutWgradIdeal.main_arg0) = m ((c.tc : Thread Cert.FfnOutWgradIdeal.nD Cert.FfnOutWgradIdeal.τ).loc Cert.FfnOutWgradIdeal.main_arg0)
      ∧ r.2.mem ((c.tc : Thread Cert.FfnOutWgradIdeal.nD Cert.FfnOutWgradIdeal.τ).loc Cert.FfnOutWgradIdeal.main_arg1) = m ((c.tc : Thread Cert.FfnOutWgradIdeal.nD Cert.FfnOutWgradIdeal.τ).loc Cert.FfnOutWgradIdeal.main_arg1))
      ∧ r.2.sem = fun _ => 0)

def quiescent_FfnOutWgradRefIdeal [hFfnOutWgradRefIdeal : Cert.FfnOutWgradRefIdeal.Facts] : Prop :=
  ∀ (m : (ℓ : Loc Cert.FfnOutWgradRefIdeal.nD Cert.FfnOutWgradRefIdeal.τ Cert.FfnOutWgradRefIdeal.sig) → Buf (Elt Ideal) ℓ) (g : Dev Cert.FfnOutWgradRefIdeal.nD → PrngReg), Pre_FfnOutWgradRefIdeal m →
    θ_run (Cert.FfnOutWgradRefIdeal.defs (F := Ideal)) (onTc (τ := Cert.FfnOutWgradRefIdeal.τ) (Cert.FfnOutWgradRefIdeal.main (F := Ideal))) ⟨m, fun _ => 0, g⟩ (fun r => (∀ c : Dev Cert.FfnOutWgradRefIdeal.nD,
      r.2.mem ((c.tc : Thread Cert.FfnOutWgradRefIdeal.nD Cert.FfnOutWgradRefIdeal.τ).loc Cert.FfnOutWgradRefIdeal.main_arg0) = m ((c.tc : Thread Cert.FfnOutWgradRefIdeal.nD Cert.FfnOutWgradRefIdeal.τ).loc Cert.FfnOutWgradRefIdeal.main_arg0)
      ∧ r.2.mem ((c.tc : Thread Cert.FfnOutWgradRefIdeal.nD Cert.FfnOutWgradRefIdeal.τ).loc Cert.FfnOutWgradRefIdeal.main_arg1) = m ((c.tc : Thread Cert.FfnOutWgradRefIdeal.nD Cert.FfnOutWgradRefIdeal.τ).loc Cert.FfnOutWgradRefIdeal.main_arg1))
      ∧ r.2.sem = fun _ => 0)

def quiescent_FfnInWgrad [hFfnInWgrad : Cert.FfnInWgrad.Facts] : Prop :=
  ∀ (m : (ℓ : Loc Cert.FfnInWgrad.nD Cert.FfnInWgrad.τ Cert.FfnInWgrad.sig) → Buf (Elt Bits) ℓ) (g : Dev Cert.FfnInWgrad.nD → PrngReg), Pre_FfnInWgrad m →
    θ_run (Cert.FfnInWgrad.defs (F := Bits)) (onTc (τ := Cert.FfnInWgrad.τ) (Cert.FfnInWgrad.main (F := Bits))) ⟨m, fun _ => 0, g⟩ (fun r => (∀ c : Dev Cert.FfnInWgrad.nD,
      r.2.mem ((c.tc : Thread Cert.FfnInWgrad.nD Cert.FfnInWgrad.τ).loc Cert.FfnInWgrad.main_arg0) = m ((c.tc : Thread Cert.FfnInWgrad.nD Cert.FfnInWgrad.τ).loc Cert.FfnInWgrad.main_arg0)
      ∧ r.2.mem ((c.tc : Thread Cert.FfnInWgrad.nD Cert.FfnInWgrad.τ).loc Cert.FfnInWgrad.main_arg1) = m ((c.tc : Thread Cert.FfnInWgrad.nD Cert.FfnInWgrad.τ).loc Cert.FfnInWgrad.main_arg1))
      ∧ r.2.sem = fun _ => 0)

def quiescent_FfnInWgradIdeal [hFfnInWgradIdeal : Cert.FfnInWgradIdeal.Facts] : Prop :=
  ∀ (m : (ℓ : Loc Cert.FfnInWgradIdeal.nD Cert.FfnInWgradIdeal.τ Cert.FfnInWgradIdeal.sig) → Buf (Elt Ideal) ℓ) (g : Dev Cert.FfnInWgradIdeal.nD → PrngReg), Pre_FfnInWgradIdeal m →
    θ_run (Cert.FfnInWgradIdeal.defs (F := Ideal)) (onTc (τ := Cert.FfnInWgradIdeal.τ) (Cert.FfnInWgradIdeal.main (F := Ideal))) ⟨m, fun _ => 0, g⟩ (fun r => (∀ c : Dev Cert.FfnInWgradIdeal.nD,
      r.2.mem ((c.tc : Thread Cert.FfnInWgradIdeal.nD Cert.FfnInWgradIdeal.τ).loc Cert.FfnInWgradIdeal.main_arg0) = m ((c.tc : Thread Cert.FfnInWgradIdeal.nD Cert.FfnInWgradIdeal.τ).loc Cert.FfnInWgradIdeal.main_arg0)
      ∧ r.2.mem ((c.tc : Thread Cert.FfnInWgradIdeal.nD Cert.FfnInWgradIdeal.τ).loc Cert.FfnInWgradIdeal.main_arg1) = m ((c.tc : Thread Cert.FfnInWgradIdeal.nD Cert.FfnInWgradIdeal.τ).loc Cert.FfnInWgradIdeal.main_arg1))
      ∧ r.2.sem = fun _ => 0)

def quiescent_FfnInWgradRefIdeal [hFfnInWgradRefIdeal : Cert.FfnInWgradRefIdeal.Facts] : Prop :=
  ∀ (m : (ℓ : Loc Cert.FfnInWgradRefIdeal.nD Cert.FfnInWgradRefIdeal.τ Cert.FfnInWgradRefIdeal.sig) → Buf (Elt Ideal) ℓ) (g : Dev Cert.FfnInWgradRefIdeal.nD → PrngReg), Pre_FfnInWgradRefIdeal m →
    θ_run (Cert.FfnInWgradRefIdeal.defs (F := Ideal)) (onTc (τ := Cert.FfnInWgradRefIdeal.τ) (Cert.FfnInWgradRefIdeal.main (F := Ideal))) ⟨m, fun _ => 0, g⟩ (fun r => (∀ c : Dev Cert.FfnInWgradRefIdeal.nD,
      r.2.mem ((c.tc : Thread Cert.FfnInWgradRefIdeal.nD Cert.FfnInWgradRefIdeal.τ).loc Cert.FfnInWgradRefIdeal.main_arg0) = m ((c.tc : Thread Cert.FfnInWgradRefIdeal.nD Cert.FfnInWgradRefIdeal.τ).loc Cert.FfnInWgradRefIdeal.main_arg0)
      ∧ r.2.mem ((c.tc : Thread Cert.FfnInWgradRefIdeal.nD Cert.FfnInWgradRefIdeal.τ).loc Cert.FfnInWgradRefIdeal.main_arg1) = m ((c.tc : Thread Cert.FfnInWgradRefIdeal.nD Cert.FfnInWgradRefIdeal.τ).loc Cert.FfnInWgradRefIdeal.main_arg1))
      ∧ r.2.sem = fun _ => 0)

def quiescent_MixInDgrad [hMixInDgrad : Cert.MixInDgrad.Facts] : Prop :=
  ∀ (m : (ℓ : Loc Cert.MixInDgrad.nD Cert.MixInDgrad.τ Cert.MixInDgrad.sig) → Buf (Elt Bits) ℓ) (g : Dev Cert.MixInDgrad.nD → PrngReg), Pre_MixInDgrad m →
    θ_run (Cert.MixInDgrad.defs (F := Bits)) (onTc (τ := Cert.MixInDgrad.τ) (Cert.MixInDgrad.main (F := Bits))) ⟨m, fun _ => 0, g⟩ (fun r => (∀ c : Dev Cert.MixInDgrad.nD,
      r.2.mem ((c.tc : Thread Cert.MixInDgrad.nD Cert.MixInDgrad.τ).loc Cert.MixInDgrad.main_arg0) = m ((c.tc : Thread Cert.MixInDgrad.nD Cert.MixInDgrad.τ).loc Cert.MixInDgrad.main_arg0)
      ∧ r.2.mem ((c.tc : Thread Cert.MixInDgrad.nD Cert.MixInDgrad.τ).loc Cert.MixInDgrad.main_arg1) = m ((c.tc : Thread Cert.MixInDgrad.nD Cert.MixInDgrad.τ).loc Cert.MixInDgrad.main_arg1)
      ∧ r.2.mem ((c.tc : Thread Cert.MixInDgrad.nD Cert.MixInDgrad.τ).loc Cert.MixInDgrad.main_arg2) = m ((c.tc : Thread Cert.MixInDgrad.nD Cert.MixInDgrad.τ).loc Cert.MixInDgrad.main_arg2)
      ∧ r.2.mem ((c.tc : Thread Cert.MixInDgrad.nD Cert.MixInDgrad.τ).loc Cert.MixInDgrad.main_arg3) = m ((c.tc : Thread Cert.MixInDgrad.nD Cert.MixInDgrad.τ).loc Cert.MixInDgrad.main_arg3)
      ∧ r.2.mem ((c.tc : Thread Cert.MixInDgrad.nD Cert.MixInDgrad.τ).loc Cert.MixInDgrad.main_arg4) = m ((c.tc : Thread Cert.MixInDgrad.nD Cert.MixInDgrad.τ).loc Cert.MixInDgrad.main_arg4))
      ∧ r.2.sem = fun _ => 0)

def quiescent_MixInDgradIdeal [hMixInDgradIdeal : Cert.MixInDgradIdeal.Facts] : Prop :=
  ∀ (m : (ℓ : Loc Cert.MixInDgradIdeal.nD Cert.MixInDgradIdeal.τ Cert.MixInDgradIdeal.sig) → Buf (Elt Ideal) ℓ) (g : Dev Cert.MixInDgradIdeal.nD → PrngReg), Pre_MixInDgradIdeal m →
    θ_run (Cert.MixInDgradIdeal.defs (F := Ideal)) (onTc (τ := Cert.MixInDgradIdeal.τ) (Cert.MixInDgradIdeal.main (F := Ideal))) ⟨m, fun _ => 0, g⟩ (fun r => (∀ c : Dev Cert.MixInDgradIdeal.nD,
      r.2.mem ((c.tc : Thread Cert.MixInDgradIdeal.nD Cert.MixInDgradIdeal.τ).loc Cert.MixInDgradIdeal.main_arg0) = m ((c.tc : Thread Cert.MixInDgradIdeal.nD Cert.MixInDgradIdeal.τ).loc Cert.MixInDgradIdeal.main_arg0)
      ∧ r.2.mem ((c.tc : Thread Cert.MixInDgradIdeal.nD Cert.MixInDgradIdeal.τ).loc Cert.MixInDgradIdeal.main_arg1) = m ((c.tc : Thread Cert.MixInDgradIdeal.nD Cert.MixInDgradIdeal.τ).loc Cert.MixInDgradIdeal.main_arg1)
      ∧ r.2.mem ((c.tc : Thread Cert.MixInDgradIdeal.nD Cert.MixInDgradIdeal.τ).loc Cert.MixInDgradIdeal.main_arg2) = m ((c.tc : Thread Cert.MixInDgradIdeal.nD Cert.MixInDgradIdeal.τ).loc Cert.MixInDgradIdeal.main_arg2)
      ∧ r.2.mem ((c.tc : Thread Cert.MixInDgradIdeal.nD Cert.MixInDgradIdeal.τ).loc Cert.MixInDgradIdeal.main_arg3) = m ((c.tc : Thread Cert.MixInDgradIdeal.nD Cert.MixInDgradIdeal.τ).loc Cert.MixInDgradIdeal.main_arg3)
      ∧ r.2.mem ((c.tc : Thread Cert.MixInDgradIdeal.nD Cert.MixInDgradIdeal.τ).loc Cert.MixInDgradIdeal.main_arg4) = m ((c.tc : Thread Cert.MixInDgradIdeal.nD Cert.MixInDgradIdeal.τ).loc Cert.MixInDgradIdeal.main_arg4))
      ∧ r.2.sem = fun _ => 0)

def quiescent_MixInDgradRefIdeal [hMixInDgradRefIdeal : Cert.MixInDgradRefIdeal.Facts] : Prop :=
  ∀ (m : (ℓ : Loc Cert.MixInDgradRefIdeal.nD Cert.MixInDgradRefIdeal.τ Cert.MixInDgradRefIdeal.sig) → Buf (Elt Ideal) ℓ) (g : Dev Cert.MixInDgradRefIdeal.nD → PrngReg), Pre_MixInDgradRefIdeal m →
    θ_run (Cert.MixInDgradRefIdeal.defs (F := Ideal)) (onTc (τ := Cert.MixInDgradRefIdeal.τ) (Cert.MixInDgradRefIdeal.main (F := Ideal))) ⟨m, fun _ => 0, g⟩ (fun r => (∀ c : Dev Cert.MixInDgradRefIdeal.nD,
      r.2.mem ((c.tc : Thread Cert.MixInDgradRefIdeal.nD Cert.MixInDgradRefIdeal.τ).loc Cert.MixInDgradRefIdeal.main_arg0) = m ((c.tc : Thread Cert.MixInDgradRefIdeal.nD Cert.MixInDgradRefIdeal.τ).loc Cert.MixInDgradRefIdeal.main_arg0)
      ∧ r.2.mem ((c.tc : Thread Cert.MixInDgradRefIdeal.nD Cert.MixInDgradRefIdeal.τ).loc Cert.MixInDgradRefIdeal.main_arg1) = m ((c.tc : Thread Cert.MixInDgradRefIdeal.nD Cert.MixInDgradRefIdeal.τ).loc Cert.MixInDgradRefIdeal.main_arg1)
      ∧ r.2.mem ((c.tc : Thread Cert.MixInDgradRefIdeal.nD Cert.MixInDgradRefIdeal.τ).loc Cert.MixInDgradRefIdeal.main_arg2) = m ((c.tc : Thread Cert.MixInDgradRefIdeal.nD Cert.MixInDgradRefIdeal.τ).loc Cert.MixInDgradRefIdeal.main_arg2)
      ∧ r.2.mem ((c.tc : Thread Cert.MixInDgradRefIdeal.nD Cert.MixInDgradRefIdeal.τ).loc Cert.MixInDgradRefIdeal.main_arg3) = m ((c.tc : Thread Cert.MixInDgradRefIdeal.nD Cert.MixInDgradRefIdeal.τ).loc Cert.MixInDgradRefIdeal.main_arg3)
      ∧ r.2.mem ((c.tc : Thread Cert.MixInDgradRefIdeal.nD Cert.MixInDgradRefIdeal.τ).loc Cert.MixInDgradRefIdeal.main_arg4) = m ((c.tc : Thread Cert.MixInDgradRefIdeal.nD Cert.MixInDgradRefIdeal.τ).loc Cert.MixInDgradRefIdeal.main_arg4))
      ∧ r.2.sem = fun _ => 0)

def quiescent_MixInWgrad [hMixInWgrad : Cert.MixInWgrad.Facts] : Prop :=
  ∀ (m : (ℓ : Loc Cert.MixInWgrad.nD Cert.MixInWgrad.τ Cert.MixInWgrad.sig) → Buf (Elt Bits) ℓ) (g : Dev Cert.MixInWgrad.nD → PrngReg), Pre_MixInWgrad m →
    θ_run (Cert.MixInWgrad.defs (F := Bits)) (onTc (τ := Cert.MixInWgrad.τ) (Cert.MixInWgrad.main (F := Bits))) ⟨m, fun _ => 0, g⟩ (fun r => (∀ c : Dev Cert.MixInWgrad.nD,
      r.2.mem ((c.tc : Thread Cert.MixInWgrad.nD Cert.MixInWgrad.τ).loc Cert.MixInWgrad.main_arg0) = m ((c.tc : Thread Cert.MixInWgrad.nD Cert.MixInWgrad.τ).loc Cert.MixInWgrad.main_arg0)
      ∧ r.2.mem ((c.tc : Thread Cert.MixInWgrad.nD Cert.MixInWgrad.τ).loc Cert.MixInWgrad.main_arg1) = m ((c.tc : Thread Cert.MixInWgrad.nD Cert.MixInWgrad.τ).loc Cert.MixInWgrad.main_arg1))
      ∧ r.2.sem = fun _ => 0)

def quiescent_MixInWgradIdeal [hMixInWgradIdeal : Cert.MixInWgradIdeal.Facts] : Prop :=
  ∀ (m : (ℓ : Loc Cert.MixInWgradIdeal.nD Cert.MixInWgradIdeal.τ Cert.MixInWgradIdeal.sig) → Buf (Elt Ideal) ℓ) (g : Dev Cert.MixInWgradIdeal.nD → PrngReg), Pre_MixInWgradIdeal m →
    θ_run (Cert.MixInWgradIdeal.defs (F := Ideal)) (onTc (τ := Cert.MixInWgradIdeal.τ) (Cert.MixInWgradIdeal.main (F := Ideal))) ⟨m, fun _ => 0, g⟩ (fun r => (∀ c : Dev Cert.MixInWgradIdeal.nD,
      r.2.mem ((c.tc : Thread Cert.MixInWgradIdeal.nD Cert.MixInWgradIdeal.τ).loc Cert.MixInWgradIdeal.main_arg0) = m ((c.tc : Thread Cert.MixInWgradIdeal.nD Cert.MixInWgradIdeal.τ).loc Cert.MixInWgradIdeal.main_arg0)
      ∧ r.2.mem ((c.tc : Thread Cert.MixInWgradIdeal.nD Cert.MixInWgradIdeal.τ).loc Cert.MixInWgradIdeal.main_arg1) = m ((c.tc : Thread Cert.MixInWgradIdeal.nD Cert.MixInWgradIdeal.τ).loc Cert.MixInWgradIdeal.main_arg1))
      ∧ r.2.sem = fun _ => 0)

def quiescent_MixInWgradRefIdeal [hMixInWgradRefIdeal : Cert.MixInWgradRefIdeal.Facts] : Prop :=
  ∀ (m : (ℓ : Loc Cert.MixInWgradRefIdeal.nD Cert.MixInWgradRefIdeal.τ Cert.MixInWgradRefIdeal.sig) → Buf (Elt Ideal) ℓ) (g : Dev Cert.MixInWgradRefIdeal.nD → PrngReg), Pre_MixInWgradRefIdeal m →
    θ_run (Cert.MixInWgradRefIdeal.defs (F := Ideal)) (onTc (τ := Cert.MixInWgradRefIdeal.τ) (Cert.MixInWgradRefIdeal.main (F := Ideal))) ⟨m, fun _ => 0, g⟩ (fun r => (∀ c : Dev Cert.MixInWgradRefIdeal.nD,
      r.2.mem ((c.tc : Thread Cert.MixInWgradRefIdeal.nD Cert.MixInWgradRefIdeal.τ).loc Cert.MixInWgradRefIdeal.main_arg0) = m ((c.tc : Thread Cert.MixInWgradRefIdeal.nD Cert.MixInWgradRefIdeal.τ).loc Cert.MixInWgradRefIdeal.main_arg0)
      ∧ r.2.mem ((c.tc : Thread Cert.MixInWgradRefIdeal.nD Cert.MixInWgradRefIdeal.τ).loc Cert.MixInWgradRefIdeal.main_arg1) = m ((c.tc : Thread Cert.MixInWgradRefIdeal.nD Cert.MixInWgradRefIdeal.τ).loc Cert.MixInWgradRefIdeal.main_arg1))
      ∧ r.2.sem = fun _ => 0)

def quiescent_HgrnOut [hHgrnOut : Cert.HgrnOut.Facts] : Prop :=
  ∀ (m : (ℓ : Loc Cert.HgrnOut.nD Cert.HgrnOut.τ Cert.HgrnOut.sig) → Buf (Elt Bits) ℓ) (g : Dev Cert.HgrnOut.nD → PrngReg), Pre_HgrnOut m →
    θ_run (Cert.HgrnOut.defs (F := Bits)) (onTc (τ := Cert.HgrnOut.τ) (Cert.HgrnOut.main (F := Bits))) ⟨m, fun _ => 0, g⟩ (fun r => (∀ c : Dev Cert.HgrnOut.nD,
      r.2.mem ((c.tc : Thread Cert.HgrnOut.nD Cert.HgrnOut.τ).loc Cert.HgrnOut.main_arg0) = m ((c.tc : Thread Cert.HgrnOut.nD Cert.HgrnOut.τ).loc Cert.HgrnOut.main_arg0)
      ∧ r.2.mem ((c.tc : Thread Cert.HgrnOut.nD Cert.HgrnOut.τ).loc Cert.HgrnOut.main_arg1) = m ((c.tc : Thread Cert.HgrnOut.nD Cert.HgrnOut.τ).loc Cert.HgrnOut.main_arg1)
      ∧ r.2.mem ((c.tc : Thread Cert.HgrnOut.nD Cert.HgrnOut.τ).loc Cert.HgrnOut.main_arg2) = m ((c.tc : Thread Cert.HgrnOut.nD Cert.HgrnOut.τ).loc Cert.HgrnOut.main_arg2))
      ∧ r.2.sem = fun _ => 0)

def quiescent_HgrnOutIdeal [hHgrnOutIdeal : Cert.HgrnOutIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
      ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2))
      ∧ r.2.sem = fun _ => 0)

def quiescent_HgrnOutRefIdeal [hHgrnOutRefIdeal : Cert.HgrnOutRefIdeal.Facts] : Prop :=
  ∀ (m : (ℓ : Loc Cert.HgrnOutRefIdeal.nD Cert.HgrnOutRefIdeal.τ Cert.HgrnOutRefIdeal.sig) → Buf (Elt Ideal) ℓ) (g : Dev Cert.HgrnOutRefIdeal.nD → PrngReg), Pre_HgrnOutRefIdeal m →
    θ_run (Cert.HgrnOutRefIdeal.defs (F := Ideal)) (onTc (τ := Cert.HgrnOutRefIdeal.τ) (Cert.HgrnOutRefIdeal.main (F := Ideal))) ⟨m, fun _ => 0, g⟩ (fun r => (∀ c : Dev Cert.HgrnOutRefIdeal.nD,
      r.2.mem ((c.tc : Thread Cert.HgrnOutRefIdeal.nD Cert.HgrnOutRefIdeal.τ).loc Cert.HgrnOutRefIdeal.main_arg0) = m ((c.tc : Thread Cert.HgrnOutRefIdeal.nD Cert.HgrnOutRefIdeal.τ).loc Cert.HgrnOutRefIdeal.main_arg0)
      ∧ r.2.mem ((c.tc : Thread Cert.HgrnOutRefIdeal.nD Cert.HgrnOutRefIdeal.τ).loc Cert.HgrnOutRefIdeal.main_arg1) = m ((c.tc : Thread Cert.HgrnOutRefIdeal.nD Cert.HgrnOutRefIdeal.τ).loc Cert.HgrnOutRefIdeal.main_arg1)
      ∧ r.2.mem ((c.tc : Thread Cert.HgrnOutRefIdeal.nD Cert.HgrnOutRefIdeal.τ).loc Cert.HgrnOutRefIdeal.main_arg2) = m ((c.tc : Thread Cert.HgrnOutRefIdeal.nD Cert.HgrnOutRefIdeal.τ).loc Cert.HgrnOutRefIdeal.main_arg2))
      ∧ r.2.sem = fun _ => 0)

def quiescent_HgrnOutWgrad [hHgrnOutWgrad : Cert.HgrnOutWgrad.Facts] : Prop :=
  ∀ (m : (ℓ : Loc Cert.HgrnOutWgrad.nD Cert.HgrnOutWgrad.τ Cert.HgrnOutWgrad.sig) → Buf (Elt Bits) ℓ) (g : Dev Cert.HgrnOutWgrad.nD → PrngReg), Pre_HgrnOutWgrad m →
    θ_run (Cert.HgrnOutWgrad.defs (F := Bits)) (onTc (τ := Cert.HgrnOutWgrad.τ) (Cert.HgrnOutWgrad.main (F := Bits))) ⟨m, fun _ => 0, g⟩ (fun r => (∀ c : Dev Cert.HgrnOutWgrad.nD,
      r.2.mem ((c.tc : Thread Cert.HgrnOutWgrad.nD Cert.HgrnOutWgrad.τ).loc Cert.HgrnOutWgrad.main_arg0) = m ((c.tc : Thread Cert.HgrnOutWgrad.nD Cert.HgrnOutWgrad.τ).loc Cert.HgrnOutWgrad.main_arg0)
      ∧ r.2.mem ((c.tc : Thread Cert.HgrnOutWgrad.nD Cert.HgrnOutWgrad.τ).loc Cert.HgrnOutWgrad.main_arg1) = m ((c.tc : Thread Cert.HgrnOutWgrad.nD Cert.HgrnOutWgrad.τ).loc Cert.HgrnOutWgrad.main_arg1))
      ∧ r.2.sem = fun _ => 0)

def quiescent_HgrnOutWgradIdeal [hHgrnOutWgradIdeal : Cert.HgrnOutWgradIdeal.Facts] : Prop :=
  ∀ (m : (ℓ : Loc Cert.HgrnOutWgradIdeal.nD Cert.HgrnOutWgradIdeal.τ Cert.HgrnOutWgradIdeal.sig) → Buf (Elt Ideal) ℓ) (g : Dev Cert.HgrnOutWgradIdeal.nD → PrngReg), Pre_HgrnOutWgradIdeal m →
    θ_run (Cert.HgrnOutWgradIdeal.defs (F := Ideal)) (onTc (τ := Cert.HgrnOutWgradIdeal.τ) (Cert.HgrnOutWgradIdeal.main (F := Ideal))) ⟨m, fun _ => 0, g⟩ (fun r => (∀ c : Dev Cert.HgrnOutWgradIdeal.nD,
      r.2.mem ((c.tc : Thread Cert.HgrnOutWgradIdeal.nD Cert.HgrnOutWgradIdeal.τ).loc Cert.HgrnOutWgradIdeal.main_arg0) = m ((c.tc : Thread Cert.HgrnOutWgradIdeal.nD Cert.HgrnOutWgradIdeal.τ).loc Cert.HgrnOutWgradIdeal.main_arg0)
      ∧ r.2.mem ((c.tc : Thread Cert.HgrnOutWgradIdeal.nD Cert.HgrnOutWgradIdeal.τ).loc Cert.HgrnOutWgradIdeal.main_arg1) = m ((c.tc : Thread Cert.HgrnOutWgradIdeal.nD Cert.HgrnOutWgradIdeal.τ).loc Cert.HgrnOutWgradIdeal.main_arg1))
      ∧ r.2.sem = fun _ => 0)

def quiescent_HgrnOutWgradRefIdeal [hHgrnOutWgradRefIdeal : Cert.HgrnOutWgradRefIdeal.Facts] : Prop :=
  ∀ (m : (ℓ : Loc Cert.HgrnOutWgradRefIdeal.nD Cert.HgrnOutWgradRefIdeal.τ Cert.HgrnOutWgradRefIdeal.sig) → Buf (Elt Ideal) ℓ) (g : Dev Cert.HgrnOutWgradRefIdeal.nD → PrngReg), Pre_HgrnOutWgradRefIdeal m →
    θ_run (Cert.HgrnOutWgradRefIdeal.defs (F := Ideal)) (onTc (τ := Cert.HgrnOutWgradRefIdeal.τ) (Cert.HgrnOutWgradRefIdeal.main (F := Ideal))) ⟨m, fun _ => 0, g⟩ (fun r => (∀ c : Dev Cert.HgrnOutWgradRefIdeal.nD,
      r.2.mem ((c.tc : Thread Cert.HgrnOutWgradRefIdeal.nD Cert.HgrnOutWgradRefIdeal.τ).loc Cert.HgrnOutWgradRefIdeal.main_arg0) = m ((c.tc : Thread Cert.HgrnOutWgradRefIdeal.nD Cert.HgrnOutWgradRefIdeal.τ).loc Cert.HgrnOutWgradRefIdeal.main_arg0)
      ∧ r.2.mem ((c.tc : Thread Cert.HgrnOutWgradRefIdeal.nD Cert.HgrnOutWgradRefIdeal.τ).loc Cert.HgrnOutWgradRefIdeal.main_arg1) = m ((c.tc : Thread Cert.HgrnOutWgradRefIdeal.nD Cert.HgrnOutWgradRefIdeal.τ).loc Cert.HgrnOutWgradRefIdeal.main_arg1))
      ∧ r.2.sem = fun _ => 0)

def quiescent_HgrnOutDgrad [hHgrnOutDgrad : Cert.HgrnOutDgrad.Facts] : Prop :=
  ∀ (m : (ℓ : Loc Cert.HgrnOutDgrad.nD Cert.HgrnOutDgrad.τ Cert.HgrnOutDgrad.sig) → Buf (Elt Bits) ℓ) (g : Dev Cert.HgrnOutDgrad.nD → PrngReg), Pre_HgrnOutDgrad m →
    θ_run (Cert.HgrnOutDgrad.defs (F := Bits)) (onTc (τ := Cert.HgrnOutDgrad.τ) (Cert.HgrnOutDgrad.main (F := Bits))) ⟨m, fun _ => 0, g⟩ (fun r => (∀ c : Dev Cert.HgrnOutDgrad.nD,
      r.2.mem ((c.tc : Thread Cert.HgrnOutDgrad.nD Cert.HgrnOutDgrad.τ).loc Cert.HgrnOutDgrad.main_arg0) = m ((c.tc : Thread Cert.HgrnOutDgrad.nD Cert.HgrnOutDgrad.τ).loc Cert.HgrnOutDgrad.main_arg0)
      ∧ r.2.mem ((c.tc : Thread Cert.HgrnOutDgrad.nD Cert.HgrnOutDgrad.τ).loc Cert.HgrnOutDgrad.main_arg1) = m ((c.tc : Thread Cert.HgrnOutDgrad.nD Cert.HgrnOutDgrad.τ).loc Cert.HgrnOutDgrad.main_arg1))
      ∧ r.2.sem = fun _ => 0)

def quiescent_HgrnOutDgradIdeal [hHgrnOutDgradIdeal : Cert.HgrnOutDgradIdeal.Facts] : Prop :=
  ∀ (m : (ℓ : Loc Cert.HgrnOutDgradIdeal.nD Cert.HgrnOutDgradIdeal.τ Cert.HgrnOutDgradIdeal.sig) → Buf (Elt Ideal) ℓ) (g : Dev Cert.HgrnOutDgradIdeal.nD → PrngReg), Pre_HgrnOutDgradIdeal m →
    θ_run (Cert.HgrnOutDgradIdeal.defs (F := Ideal)) (onTc (τ := Cert.HgrnOutDgradIdeal.τ) (Cert.HgrnOutDgradIdeal.main (F := Ideal))) ⟨m, fun _ => 0, g⟩ (fun r => (∀ c : Dev Cert.HgrnOutDgradIdeal.nD,
      r.2.mem ((c.tc : Thread Cert.HgrnOutDgradIdeal.nD Cert.HgrnOutDgradIdeal.τ).loc Cert.HgrnOutDgradIdeal.main_arg0) = m ((c.tc : Thread Cert.HgrnOutDgradIdeal.nD Cert.HgrnOutDgradIdeal.τ).loc Cert.HgrnOutDgradIdeal.main_arg0)
      ∧ r.2.mem ((c.tc : Thread Cert.HgrnOutDgradIdeal.nD Cert.HgrnOutDgradIdeal.τ).loc Cert.HgrnOutDgradIdeal.main_arg1) = m ((c.tc : Thread Cert.HgrnOutDgradIdeal.nD Cert.HgrnOutDgradIdeal.τ).loc Cert.HgrnOutDgradIdeal.main_arg1))
      ∧ r.2.sem = fun _ => 0)

def quiescent_HgrnOutDgradRefIdeal [hHgrnOutDgradRefIdeal : Cert.HgrnOutDgradRefIdeal.Facts] : Prop :=
  ∀ (m : (ℓ : Loc Cert.HgrnOutDgradRefIdeal.nD Cert.HgrnOutDgradRefIdeal.τ Cert.HgrnOutDgradRefIdeal.sig) → Buf (Elt Ideal) ℓ) (g : Dev Cert.HgrnOutDgradRefIdeal.nD → PrngReg), Pre_HgrnOutDgradRefIdeal m →
    θ_run (Cert.HgrnOutDgradRefIdeal.defs (F := Ideal)) (onTc (τ := Cert.HgrnOutDgradRefIdeal.τ) (Cert.HgrnOutDgradRefIdeal.main (F := Ideal))) ⟨m, fun _ => 0, g⟩ (fun r => (∀ c : Dev Cert.HgrnOutDgradRefIdeal.nD,
      r.2.mem ((c.tc : Thread Cert.HgrnOutDgradRefIdeal.nD Cert.HgrnOutDgradRefIdeal.τ).loc Cert.HgrnOutDgradRefIdeal.main_arg0) = m ((c.tc : Thread Cert.HgrnOutDgradRefIdeal.nD Cert.HgrnOutDgradRefIdeal.τ).loc Cert.HgrnOutDgradRefIdeal.main_arg0)
      ∧ r.2.mem ((c.tc : Thread Cert.HgrnOutDgradRefIdeal.nD Cert.HgrnOutDgradRefIdeal.τ).loc Cert.HgrnOutDgradRefIdeal.main_arg1) = m ((c.tc : Thread Cert.HgrnOutDgradRefIdeal.nD Cert.HgrnOutDgradRefIdeal.τ).loc Cert.HgrnOutDgradRefIdeal.main_arg1))
      ∧ r.2.sem = fun _ => 0)

def quiescent_GmlpOut [hGmlpOut : Cert.GmlpOut.Facts] : Prop :=
  ∀ (m : (ℓ : Loc Cert.GmlpOut.nD Cert.GmlpOut.τ Cert.GmlpOut.sig) → Buf (Elt Bits) ℓ) (g : Dev Cert.GmlpOut.nD → PrngReg), Pre_GmlpOut m →
    θ_run (Cert.GmlpOut.defs (F := Bits)) (onTc (τ := Cert.GmlpOut.τ) (Cert.GmlpOut.main (F := Bits))) ⟨m, fun _ => 0, g⟩ (fun r => (∀ c : Dev Cert.GmlpOut.nD,
      r.2.mem ((c.tc : Thread Cert.GmlpOut.nD Cert.GmlpOut.τ).loc Cert.GmlpOut.main_arg0) = m ((c.tc : Thread Cert.GmlpOut.nD Cert.GmlpOut.τ).loc Cert.GmlpOut.main_arg0)
      ∧ r.2.mem ((c.tc : Thread Cert.GmlpOut.nD Cert.GmlpOut.τ).loc Cert.GmlpOut.main_arg1) = m ((c.tc : Thread Cert.GmlpOut.nD Cert.GmlpOut.τ).loc Cert.GmlpOut.main_arg1)
      ∧ r.2.mem ((c.tc : Thread Cert.GmlpOut.nD Cert.GmlpOut.τ).loc Cert.GmlpOut.main_arg2) = m ((c.tc : Thread Cert.GmlpOut.nD Cert.GmlpOut.τ).loc Cert.GmlpOut.main_arg2))
      ∧ r.2.sem = fun _ => 0)

def quiescent_GmlpOutIdeal [hGmlpOutIdeal : Cert.GmlpOutIdeal.Facts] : Prop :=
  ∀ (m : (ℓ : Loc Cert.GmlpOutIdeal.nD Cert.GmlpOutIdeal.τ Cert.GmlpOutIdeal.sig) → Buf (Elt Ideal) ℓ) (g : Dev Cert.GmlpOutIdeal.nD → PrngReg), Pre_GmlpOutIdeal m →
    θ_run (Cert.GmlpOutIdeal.defs (F := Ideal)) (onTc (τ := Cert.GmlpOutIdeal.τ) (Cert.GmlpOutIdeal.main (F := Ideal))) ⟨m, fun _ => 0, g⟩ (fun r => (∀ c : Dev Cert.GmlpOutIdeal.nD,
      r.2.mem ((c.tc : Thread Cert.GmlpOutIdeal.nD Cert.GmlpOutIdeal.τ).loc Cert.GmlpOutIdeal.main_arg0) = m ((c.tc : Thread Cert.GmlpOutIdeal.nD Cert.GmlpOutIdeal.τ).loc Cert.GmlpOutIdeal.main_arg0)
      ∧ r.2.mem ((c.tc : Thread Cert.GmlpOutIdeal.nD Cert.GmlpOutIdeal.τ).loc Cert.GmlpOutIdeal.main_arg1) = m ((c.tc : Thread Cert.GmlpOutIdeal.nD Cert.GmlpOutIdeal.τ).loc Cert.GmlpOutIdeal.main_arg1)
      ∧ r.2.mem ((c.tc : Thread Cert.GmlpOutIdeal.nD Cert.GmlpOutIdeal.τ).loc Cert.GmlpOutIdeal.main_arg2) = m ((c.tc : Thread Cert.GmlpOutIdeal.nD Cert.GmlpOutIdeal.τ).loc Cert.GmlpOutIdeal.main_arg2))
      ∧ r.2.sem = fun _ => 0)

def quiescent_GmlpOutRefIdeal [hGmlpOutRefIdeal : Cert.GmlpOutRefIdeal.Facts] : Prop :=
  ∀ (m : (ℓ : Loc Cert.GmlpOutRefIdeal.nD Cert.GmlpOutRefIdeal.τ Cert.GmlpOutRefIdeal.sig) → Buf (Elt Ideal) ℓ) (g : Dev Cert.GmlpOutRefIdeal.nD → PrngReg), Pre_GmlpOutRefIdeal m →
    θ_run (Cert.GmlpOutRefIdeal.defs (F := Ideal)) (onTc (τ := Cert.GmlpOutRefIdeal.τ) (Cert.GmlpOutRefIdeal.main (F := Ideal))) ⟨m, fun _ => 0, g⟩ (fun r => (∀ c : Dev Cert.GmlpOutRefIdeal.nD,
      r.2.mem ((c.tc : Thread Cert.GmlpOutRefIdeal.nD Cert.GmlpOutRefIdeal.τ).loc Cert.GmlpOutRefIdeal.main_arg0) = m ((c.tc : Thread Cert.GmlpOutRefIdeal.nD Cert.GmlpOutRefIdeal.τ).loc Cert.GmlpOutRefIdeal.main_arg0)
      ∧ r.2.mem ((c.tc : Thread Cert.GmlpOutRefIdeal.nD Cert.GmlpOutRefIdeal.τ).loc Cert.GmlpOutRefIdeal.main_arg1) = m ((c.tc : Thread Cert.GmlpOutRefIdeal.nD Cert.GmlpOutRefIdeal.τ).loc Cert.GmlpOutRefIdeal.main_arg1)
      ∧ r.2.mem ((c.tc : Thread Cert.GmlpOutRefIdeal.nD Cert.GmlpOutRefIdeal.τ).loc Cert.GmlpOutRefIdeal.main_arg2) = m ((c.tc : Thread Cert.GmlpOutRefIdeal.nD Cert.GmlpOutRefIdeal.τ).loc Cert.GmlpOutRefIdeal.main_arg2))
      ∧ r.2.sem = fun _ => 0)

def quiescent_GmlpOutWgrad [hGmlpOutWgrad : Cert.GmlpOutWgrad.Facts] : Prop :=
  ∀ (m : (ℓ : Loc Cert.GmlpOutWgrad.nD Cert.GmlpOutWgrad.τ Cert.GmlpOutWgrad.sig) → Buf (Elt Bits) ℓ) (g : Dev Cert.GmlpOutWgrad.nD → PrngReg), Pre_GmlpOutWgrad m →
    θ_run (Cert.GmlpOutWgrad.defs (F := Bits)) (onTc (τ := Cert.GmlpOutWgrad.τ) (Cert.GmlpOutWgrad.main (F := Bits))) ⟨m, fun _ => 0, g⟩ (fun r => (∀ c : Dev Cert.GmlpOutWgrad.nD,
      r.2.mem ((c.tc : Thread Cert.GmlpOutWgrad.nD Cert.GmlpOutWgrad.τ).loc Cert.GmlpOutWgrad.main_arg0) = m ((c.tc : Thread Cert.GmlpOutWgrad.nD Cert.GmlpOutWgrad.τ).loc Cert.GmlpOutWgrad.main_arg0)
      ∧ r.2.mem ((c.tc : Thread Cert.GmlpOutWgrad.nD Cert.GmlpOutWgrad.τ).loc Cert.GmlpOutWgrad.main_arg1) = m ((c.tc : Thread Cert.GmlpOutWgrad.nD Cert.GmlpOutWgrad.τ).loc Cert.GmlpOutWgrad.main_arg1))
      ∧ r.2.sem = fun _ => 0)

def quiescent_GmlpOutWgradIdeal [hGmlpOutWgradIdeal : Cert.GmlpOutWgradIdeal.Facts] : Prop :=
  ∀ (m : (ℓ : Loc Cert.GmlpOutWgradIdeal.nD Cert.GmlpOutWgradIdeal.τ Cert.GmlpOutWgradIdeal.sig) → Buf (Elt Ideal) ℓ) (g : Dev Cert.GmlpOutWgradIdeal.nD → PrngReg), Pre_GmlpOutWgradIdeal m →
    θ_run (Cert.GmlpOutWgradIdeal.defs (F := Ideal)) (onTc (τ := Cert.GmlpOutWgradIdeal.τ) (Cert.GmlpOutWgradIdeal.main (F := Ideal))) ⟨m, fun _ => 0, g⟩ (fun r => (∀ c : Dev Cert.GmlpOutWgradIdeal.nD,
      r.2.mem ((c.tc : Thread Cert.GmlpOutWgradIdeal.nD Cert.GmlpOutWgradIdeal.τ).loc Cert.GmlpOutWgradIdeal.main_arg0) = m ((c.tc : Thread Cert.GmlpOutWgradIdeal.nD Cert.GmlpOutWgradIdeal.τ).loc Cert.GmlpOutWgradIdeal.main_arg0)
      ∧ r.2.mem ((c.tc : Thread Cert.GmlpOutWgradIdeal.nD Cert.GmlpOutWgradIdeal.τ).loc Cert.GmlpOutWgradIdeal.main_arg1) = m ((c.tc : Thread Cert.GmlpOutWgradIdeal.nD Cert.GmlpOutWgradIdeal.τ).loc Cert.GmlpOutWgradIdeal.main_arg1))
      ∧ r.2.sem = fun _ => 0)

def quiescent_GmlpOutWgradRefIdeal [hGmlpOutWgradRefIdeal : Cert.GmlpOutWgradRefIdeal.Facts] : Prop :=
  ∀ (m : (ℓ : Loc Cert.GmlpOutWgradRefIdeal.nD Cert.GmlpOutWgradRefIdeal.τ Cert.GmlpOutWgradRefIdeal.sig) → Buf (Elt Ideal) ℓ) (g : Dev Cert.GmlpOutWgradRefIdeal.nD → PrngReg), Pre_GmlpOutWgradRefIdeal m →
    θ_run (Cert.GmlpOutWgradRefIdeal.defs (F := Ideal)) (onTc (τ := Cert.GmlpOutWgradRefIdeal.τ) (Cert.GmlpOutWgradRefIdeal.main (F := Ideal))) ⟨m, fun _ => 0, g⟩ (fun r => (∀ c : Dev Cert.GmlpOutWgradRefIdeal.nD,
      r.2.mem ((c.tc : Thread Cert.GmlpOutWgradRefIdeal.nD Cert.GmlpOutWgradRefIdeal.τ).loc Cert.GmlpOutWgradRefIdeal.main_arg0) = m ((c.tc : Thread Cert.GmlpOutWgradRefIdeal.nD Cert.GmlpOutWgradRefIdeal.τ).loc Cert.GmlpOutWgradRefIdeal.main_arg0)
      ∧ r.2.mem ((c.tc : Thread Cert.GmlpOutWgradRefIdeal.nD Cert.GmlpOutWgradRefIdeal.τ).loc Cert.GmlpOutWgradRefIdeal.main_arg1) = m ((c.tc : Thread Cert.GmlpOutWgradRefIdeal.nD Cert.GmlpOutWgradRefIdeal.τ).loc Cert.GmlpOutWgradRefIdeal.main_arg1))
      ∧ r.2.sem = fun _ => 0)

def quiescent_GmlpOutDgrad [hGmlpOutDgrad : Cert.GmlpOutDgrad.Facts] : Prop :=
  ∀ (m : (ℓ : Loc Cert.GmlpOutDgrad.nD Cert.GmlpOutDgrad.τ Cert.GmlpOutDgrad.sig) → Buf (Elt Bits) ℓ) (g : Dev Cert.GmlpOutDgrad.nD → PrngReg), Pre_GmlpOutDgrad m →
    θ_run (Cert.GmlpOutDgrad.defs (F := Bits)) (onTc (τ := Cert.GmlpOutDgrad.τ) (Cert.GmlpOutDgrad.main (F := Bits))) ⟨m, fun _ => 0, g⟩ (fun r => (∀ c : Dev Cert.GmlpOutDgrad.nD,
      r.2.mem ((c.tc : Thread Cert.GmlpOutDgrad.nD Cert.GmlpOutDgrad.τ).loc Cert.GmlpOutDgrad.main_arg0) = m ((c.tc : Thread Cert.GmlpOutDgrad.nD Cert.GmlpOutDgrad.τ).loc Cert.GmlpOutDgrad.main_arg0)
      ∧ r.2.mem ((c.tc : Thread Cert.GmlpOutDgrad.nD Cert.GmlpOutDgrad.τ).loc Cert.GmlpOutDgrad.main_arg1) = m ((c.tc : Thread Cert.GmlpOutDgrad.nD Cert.GmlpOutDgrad.τ).loc Cert.GmlpOutDgrad.main_arg1))
      ∧ r.2.sem = fun _ => 0)

def quiescent_GmlpOutDgradIdeal [hGmlpOutDgradIdeal : Cert.GmlpOutDgradIdeal.Facts] : Prop :=
  ∀ (m : (ℓ : Loc Cert.GmlpOutDgradIdeal.nD Cert.GmlpOutDgradIdeal.τ Cert.GmlpOutDgradIdeal.sig) → Buf (Elt Ideal) ℓ) (g : Dev Cert.GmlpOutDgradIdeal.nD → PrngReg), Pre_GmlpOutDgradIdeal m →
    θ_run (Cert.GmlpOutDgradIdeal.defs (F := Ideal)) (onTc (τ := Cert.GmlpOutDgradIdeal.τ) (Cert.GmlpOutDgradIdeal.main (F := Ideal))) ⟨m, fun _ => 0, g⟩ (fun r => (∀ c : Dev Cert.GmlpOutDgradIdeal.nD,
      r.2.mem ((c.tc : Thread Cert.GmlpOutDgradIdeal.nD Cert.GmlpOutDgradIdeal.τ).loc Cert.GmlpOutDgradIdeal.main_arg0) = m ((c.tc : Thread Cert.GmlpOutDgradIdeal.nD Cert.GmlpOutDgradIdeal.τ).loc Cert.GmlpOutDgradIdeal.main_arg0)
      ∧ r.2.mem ((c.tc : Thread Cert.GmlpOutDgradIdeal.nD Cert.GmlpOutDgradIdeal.τ).loc Cert.GmlpOutDgradIdeal.main_arg1) = m ((c.tc : Thread Cert.GmlpOutDgradIdeal.nD Cert.GmlpOutDgradIdeal.τ).loc Cert.GmlpOutDgradIdeal.main_arg1))
      ∧ r.2.sem = fun _ => 0)

def quiescent_GmlpOutDgradRefIdeal [hGmlpOutDgradRefIdeal : Cert.GmlpOutDgradRefIdeal.Facts] : Prop :=
  ∀ (m : (ℓ : Loc Cert.GmlpOutDgradRefIdeal.nD Cert.GmlpOutDgradRefIdeal.τ Cert.GmlpOutDgradRefIdeal.sig) → Buf (Elt Ideal) ℓ) (g : Dev Cert.GmlpOutDgradRefIdeal.nD → PrngReg), Pre_GmlpOutDgradRefIdeal m →
    θ_run (Cert.GmlpOutDgradRefIdeal.defs (F := Ideal)) (onTc (τ := Cert.GmlpOutDgradRefIdeal.τ) (Cert.GmlpOutDgradRefIdeal.main (F := Ideal))) ⟨m, fun _ => 0, g⟩ (fun r => (∀ c : Dev Cert.GmlpOutDgradRefIdeal.nD,
      r.2.mem ((c.tc : Thread Cert.GmlpOutDgradRefIdeal.nD Cert.GmlpOutDgradRefIdeal.τ).loc Cert.GmlpOutDgradRefIdeal.main_arg0) = m ((c.tc : Thread Cert.GmlpOutDgradRefIdeal.nD Cert.GmlpOutDgradRefIdeal.τ).loc Cert.GmlpOutDgradRefIdeal.main_arg0)
      ∧ r.2.mem ((c.tc : Thread Cert.GmlpOutDgradRefIdeal.nD Cert.GmlpOutDgradRefIdeal.τ).loc Cert.GmlpOutDgradRefIdeal.main_arg1) = m ((c.tc : Thread Cert.GmlpOutDgradRefIdeal.nD Cert.GmlpOutDgradRefIdeal.τ).loc Cert.GmlpOutDgradRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MemKvWgrad [hMemKvWgrad : Cert.MemKvWgrad.Facts] : Prop :=
  ∀ (m : (ℓ : Loc Cert.MemKvWgrad.nD Cert.MemKvWgrad.τ Cert.MemKvWgrad.sig) → Buf (Elt Bits) ℓ) (g : Dev Cert.MemKvWgrad.nD → PrngReg), Pre_MemKvWgrad m →
    θ_run (Cert.MemKvWgrad.defs (F := Bits)) (onTc (τ := Cert.MemKvWgrad.τ) (Cert.MemKvWgrad.main (F := Bits))) ⟨m, fun _ => 0, g⟩ (fun r => (∀ c : Dev Cert.MemKvWgrad.nD,
      r.2.mem ((c.tc : Thread Cert.MemKvWgrad.nD Cert.MemKvWgrad.τ).loc Cert.MemKvWgrad.main_arg0) = m ((c.tc : Thread Cert.MemKvWgrad.nD Cert.MemKvWgrad.τ).loc Cert.MemKvWgrad.main_arg0)
      ∧ r.2.mem ((c.tc : Thread Cert.MemKvWgrad.nD Cert.MemKvWgrad.τ).loc Cert.MemKvWgrad.main_arg1) = m ((c.tc : Thread Cert.MemKvWgrad.nD Cert.MemKvWgrad.τ).loc Cert.MemKvWgrad.main_arg1))
      ∧ r.2.sem = fun _ => 0)

def quiescent_MemKvWgradIdeal [hMemKvWgradIdeal : Cert.MemKvWgradIdeal.Facts] : Prop :=
  ∀ (m : (ℓ : Loc Cert.MemKvWgradIdeal.nD Cert.MemKvWgradIdeal.τ Cert.MemKvWgradIdeal.sig) → Buf (Elt Ideal) ℓ) (g : Dev Cert.MemKvWgradIdeal.nD → PrngReg), Pre_MemKvWgradIdeal m →
    θ_run (Cert.MemKvWgradIdeal.defs (F := Ideal)) (onTc (τ := Cert.MemKvWgradIdeal.τ) (Cert.MemKvWgradIdeal.main (F := Ideal))) ⟨m, fun _ => 0, g⟩ (fun r => (∀ c : Dev Cert.MemKvWgradIdeal.nD,
      r.2.mem ((c.tc : Thread Cert.MemKvWgradIdeal.nD Cert.MemKvWgradIdeal.τ).loc Cert.MemKvWgradIdeal.main_arg0) = m ((c.tc : Thread Cert.MemKvWgradIdeal.nD Cert.MemKvWgradIdeal.τ).loc Cert.MemKvWgradIdeal.main_arg0)
      ∧ r.2.mem ((c.tc : Thread Cert.MemKvWgradIdeal.nD Cert.MemKvWgradIdeal.τ).loc Cert.MemKvWgradIdeal.main_arg1) = m ((c.tc : Thread Cert.MemKvWgradIdeal.nD Cert.MemKvWgradIdeal.τ).loc Cert.MemKvWgradIdeal.main_arg1))
      ∧ r.2.sem = fun _ => 0)

def quiescent_MemKvWgradRefIdeal [hMemKvWgradRefIdeal : Cert.MemKvWgradRefIdeal.Facts] : Prop :=
  ∀ (m : (ℓ : Loc Cert.MemKvWgradRefIdeal.nD Cert.MemKvWgradRefIdeal.τ Cert.MemKvWgradRefIdeal.sig) → Buf (Elt Ideal) ℓ) (g : Dev Cert.MemKvWgradRefIdeal.nD → PrngReg), Pre_MemKvWgradRefIdeal m →
    θ_run (Cert.MemKvWgradRefIdeal.defs (F := Ideal)) (onTc (τ := Cert.MemKvWgradRefIdeal.τ) (Cert.MemKvWgradRefIdeal.main (F := Ideal))) ⟨m, fun _ => 0, g⟩ (fun r => (∀ c : Dev Cert.MemKvWgradRefIdeal.nD,
      r.2.mem ((c.tc : Thread Cert.MemKvWgradRefIdeal.nD Cert.MemKvWgradRefIdeal.τ).loc Cert.MemKvWgradRefIdeal.main_arg0) = m ((c.tc : Thread Cert.MemKvWgradRefIdeal.nD Cert.MemKvWgradRefIdeal.τ).loc Cert.MemKvWgradRefIdeal.main_arg0)
      ∧ r.2.mem ((c.tc : Thread Cert.MemKvWgradRefIdeal.nD Cert.MemKvWgradRefIdeal.τ).loc Cert.MemKvWgradRefIdeal.main_arg1) = m ((c.tc : Thread Cert.MemKvWgradRefIdeal.nD Cert.MemKvWgradRefIdeal.τ).loc Cert.MemKvWgradRefIdeal.main_arg1))
      ∧ r.2.sem = fun _ => 0)

def quiescent_MemKvDgrad [hMemKvDgrad : Cert.MemKvDgrad.Facts] : Prop :=
  ∀ (m : (ℓ : Loc Cert.MemKvDgrad.nD Cert.MemKvDgrad.τ Cert.MemKvDgrad.sig) → Buf (Elt Bits) ℓ) (g : Dev Cert.MemKvDgrad.nD → PrngReg), Pre_MemKvDgrad m →
    θ_run (Cert.MemKvDgrad.defs (F := Bits)) (onTc (τ := Cert.MemKvDgrad.τ) (Cert.MemKvDgrad.main (F := Bits))) ⟨m, fun _ => 0, g⟩ (fun r => (∀ c : Dev Cert.MemKvDgrad.nD,
      r.2.mem ((c.tc : Thread Cert.MemKvDgrad.nD Cert.MemKvDgrad.τ).loc Cert.MemKvDgrad.main_arg0) = m ((c.tc : Thread Cert.MemKvDgrad.nD Cert.MemKvDgrad.τ).loc Cert.MemKvDgrad.main_arg0)
      ∧ r.2.mem ((c.tc : Thread Cert.MemKvDgrad.nD Cert.MemKvDgrad.τ).loc Cert.MemKvDgrad.main_arg1) = m ((c.tc : Thread Cert.MemKvDgrad.nD Cert.MemKvDgrad.τ).loc Cert.MemKvDgrad.main_arg1)
      ∧ r.2.mem ((c.tc : Thread Cert.MemKvDgrad.nD Cert.MemKvDgrad.τ).loc Cert.MemKvDgrad.main_arg2) = m ((c.tc : Thread Cert.MemKvDgrad.nD Cert.MemKvDgrad.τ).loc Cert.MemKvDgrad.main_arg2))
      ∧ r.2.sem = fun _ => 0)

def quiescent_MemKvDgradIdeal [hMemKvDgradIdeal : Cert.MemKvDgradIdeal.Facts] : Prop :=
  ∀ (m : (ℓ : Loc Cert.MemKvDgradIdeal.nD Cert.MemKvDgradIdeal.τ Cert.MemKvDgradIdeal.sig) → Buf (Elt Ideal) ℓ) (g : Dev Cert.MemKvDgradIdeal.nD → PrngReg), Pre_MemKvDgradIdeal m →
    θ_run (Cert.MemKvDgradIdeal.defs (F := Ideal)) (onTc (τ := Cert.MemKvDgradIdeal.τ) (Cert.MemKvDgradIdeal.main (F := Ideal))) ⟨m, fun _ => 0, g⟩ (fun r => (∀ c : Dev Cert.MemKvDgradIdeal.nD,
      r.2.mem ((c.tc : Thread Cert.MemKvDgradIdeal.nD Cert.MemKvDgradIdeal.τ).loc Cert.MemKvDgradIdeal.main_arg0) = m ((c.tc : Thread Cert.MemKvDgradIdeal.nD Cert.MemKvDgradIdeal.τ).loc Cert.MemKvDgradIdeal.main_arg0)
      ∧ r.2.mem ((c.tc : Thread Cert.MemKvDgradIdeal.nD Cert.MemKvDgradIdeal.τ).loc Cert.MemKvDgradIdeal.main_arg1) = m ((c.tc : Thread Cert.MemKvDgradIdeal.nD Cert.MemKvDgradIdeal.τ).loc Cert.MemKvDgradIdeal.main_arg1)
      ∧ r.2.mem ((c.tc : Thread Cert.MemKvDgradIdeal.nD Cert.MemKvDgradIdeal.τ).loc Cert.MemKvDgradIdeal.main_arg2) = m ((c.tc : Thread Cert.MemKvDgradIdeal.nD Cert.MemKvDgradIdeal.τ).loc Cert.MemKvDgradIdeal.main_arg2))
      ∧ r.2.sem = fun _ => 0)

def quiescent_MemKvDgradRefIdeal [hMemKvDgradRefIdeal : Cert.MemKvDgradRefIdeal.Facts] : Prop :=
  ∀ (m : (ℓ : Loc Cert.MemKvDgradRefIdeal.nD Cert.MemKvDgradRefIdeal.τ Cert.MemKvDgradRefIdeal.sig) → Buf (Elt Ideal) ℓ) (g : Dev Cert.MemKvDgradRefIdeal.nD → PrngReg), Pre_MemKvDgradRefIdeal m →
    θ_run (Cert.MemKvDgradRefIdeal.defs (F := Ideal)) (onTc (τ := Cert.MemKvDgradRefIdeal.τ) (Cert.MemKvDgradRefIdeal.main (F := Ideal))) ⟨m, fun _ => 0, g⟩ (fun r => (∀ c : Dev Cert.MemKvDgradRefIdeal.nD,
      r.2.mem ((c.tc : Thread Cert.MemKvDgradRefIdeal.nD Cert.MemKvDgradRefIdeal.τ).loc Cert.MemKvDgradRefIdeal.main_arg0) = m ((c.tc : Thread Cert.MemKvDgradRefIdeal.nD Cert.MemKvDgradRefIdeal.τ).loc Cert.MemKvDgradRefIdeal.main_arg0)
      ∧ r.2.mem ((c.tc : Thread Cert.MemKvDgradRefIdeal.nD Cert.MemKvDgradRefIdeal.τ).loc Cert.MemKvDgradRefIdeal.main_arg1) = m ((c.tc : Thread Cert.MemKvDgradRefIdeal.nD Cert.MemKvDgradRefIdeal.τ).loc Cert.MemKvDgradRefIdeal.main_arg1)
      ∧ r.2.mem ((c.tc : Thread Cert.MemKvDgradRefIdeal.nD Cert.MemKvDgradRefIdeal.τ).loc Cert.MemKvDgradRefIdeal.main_arg2) = m ((c.tc : Thread Cert.MemKvDgradRefIdeal.nD Cert.MemKvDgradRefIdeal.τ).loc Cert.MemKvDgradRefIdeal.main_arg2))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_MemNormBwd [hMemNormBwd : Cert.MemNormBwd.Facts] : Prop :=
  ∀ (m : (ℓ : Loc Cert.MemNormBwd.nD Cert.MemNormBwd.τ Cert.MemNormBwd.sig) → Buf (Elt Bits) ℓ) (g : Dev Cert.MemNormBwd.nD → PrngReg), Pre_MemNormBwd m →
    θ_run (Cert.MemNormBwd.defs (F := Bits)) (onTc (τ := Cert.MemNormBwd.τ) (Cert.MemNormBwd.main (F := Bits))) ⟨m, fun _ => 0, g⟩ (fun r => (∀ c : Dev Cert.MemNormBwd.nD,
      r.2.mem ((c.tc : Thread Cert.MemNormBwd.nD Cert.MemNormBwd.τ).loc Cert.MemNormBwd.main_arg0) = m ((c.tc : Thread Cert.MemNormBwd.nD Cert.MemNormBwd.τ).loc Cert.MemNormBwd.main_arg0)
      ∧ r.2.mem ((c.tc : Thread Cert.MemNormBwd.nD Cert.MemNormBwd.τ).loc Cert.MemNormBwd.main_arg1) = m ((c.tc : Thread Cert.MemNormBwd.nD Cert.MemNormBwd.τ).loc Cert.MemNormBwd.main_arg1)
      ∧ r.2.mem ((c.tc : Thread Cert.MemNormBwd.nD Cert.MemNormBwd.τ).loc Cert.MemNormBwd.main_arg2) = m ((c.tc : Thread Cert.MemNormBwd.nD Cert.MemNormBwd.τ).loc Cert.MemNormBwd.main_arg2)
      ∧ r.2.mem ((c.tc : Thread Cert.MemNormBwd.nD Cert.MemNormBwd.τ).loc Cert.MemNormBwd.main_arg3) = m ((c.tc : Thread Cert.MemNormBwd.nD Cert.MemNormBwd.τ).loc Cert.MemNormBwd.main_arg3))
      ∧ r.2.sem = fun _ => 0)

def quiescent_MemNormBwdIdeal [hMemNormBwdIdeal : Cert.MemNormBwdIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg), Pre_MemNormBwdIdeal m →
    θ_run (Cert.MemNormBwdIdeal.defs (F := Ideal)) (onTc (τ := Cert.MemNormBwdIdeal.τ) (Cert.MemNormBwdIdeal.main (F := Ideal))) ⟨m, fun _ => 0, g⟩ (fun r => (∀ c : Dev Cert.MemNormBwdIdeal.nD,
      r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
      ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
      ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2)
      ∧ r.2.mem ((c.tc : Thread Cert.MemNormBwdIdeal.nD Cert.MemNormBwdIdeal.τ).loc Cert.MemNormBwdIdeal.main_arg3) = m ((c.tc : Thread Cert.MemNormBwdIdeal.nD Cert.MemNormBwdIdeal.τ).loc Cert.MemNormBwdIdeal.main_arg3))
      ∧ r.2.sem = fun _ => 0)

def quiescent_MemNormBwdRefIdeal [hMemNormBwdRefIdeal : Cert.MemNormBwdRefIdeal.Facts] : Prop :=
  ∀ (m : (ℓ : Loc Cert.MemNormBwdRefIdeal.nD Cert.MemNormBwdRefIdeal.τ Cert.MemNormBwdRefIdeal.sig) → Buf (Elt Ideal) ℓ) (g : Dev Cert.MemNormBwdRefIdeal.nD → PrngReg), Pre_MemNormBwdRefIdeal m →
    θ_run (Cert.MemNormBwdRefIdeal.defs (F := Ideal)) (onTc (τ := Cert.MemNormBwdRefIdeal.τ) (Cert.MemNormBwdRefIdeal.main (F := Ideal))) ⟨m, fun _ => 0, g⟩ (fun r => (∀ c : Dev Cert.MemNormBwdRefIdeal.nD,
      r.2.mem ((c.tc : Thread Cert.MemNormBwdRefIdeal.nD Cert.MemNormBwdRefIdeal.τ).loc Cert.MemNormBwdRefIdeal.main_arg0) = m ((c.tc : Thread Cert.MemNormBwdRefIdeal.nD Cert.MemNormBwdRefIdeal.τ).loc Cert.MemNormBwdRefIdeal.main_arg0)
      ∧ r.2.mem ((c.tc : Thread Cert.MemNormBwdRefIdeal.nD Cert.MemNormBwdRefIdeal.τ).loc Cert.MemNormBwdRefIdeal.main_arg1) = m ((c.tc : Thread Cert.MemNormBwdRefIdeal.nD Cert.MemNormBwdRefIdeal.τ).loc Cert.MemNormBwdRefIdeal.main_arg1)
      ∧ r.2.mem ((c.tc : Thread Cert.MemNormBwdRefIdeal.nD Cert.MemNormBwdRefIdeal.τ).loc Cert.MemNormBwdRefIdeal.main_arg2) = m ((c.tc : Thread Cert.MemNormBwdRefIdeal.nD Cert.MemNormBwdRefIdeal.τ).loc Cert.MemNormBwdRefIdeal.main_arg2)
      ∧ r.2.mem ((c.tc : Thread Cert.MemNormBwdRefIdeal.nD Cert.MemNormBwdRefIdeal.τ).loc Cert.MemNormBwdRefIdeal.main_arg3) = m ((c.tc : Thread Cert.MemNormBwdRefIdeal.nD Cert.MemNormBwdRefIdeal.τ).loc Cert.MemNormBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4)
      ∧ r.2.mem ((c.tc : Thread Cert.GmlpFwd.nD Cert.GmlpFwd.τ).loc Cert.GmlpFwd.main_arg5) = m ((c.tc : Thread Cert.GmlpFwd.nD Cert.GmlpFwd.τ).loc Cert.GmlpFwd.main_arg5))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4)
      ∧ r.2.mem ((c.tc : Thread Cert.GmlpFwdIdeal.nD Cert.GmlpFwdIdeal.τ).loc Cert.GmlpFwdIdeal.main_arg5) = m ((c.tc : Thread Cert.GmlpFwdIdeal.nD Cert.GmlpFwdIdeal.τ).loc Cert.GmlpFwdIdeal.main_arg5))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4)
      ∧ r.2.mem ((c.tc : Thread Cert.GmlpFwdRefIdeal.nD Cert.GmlpFwdRefIdeal.τ).loc Cert.GmlpFwdRefIdeal.main_arg5) = m ((c.tc : Thread Cert.GmlpFwdRefIdeal.nD Cert.GmlpFwdRefIdeal.τ).loc Cert.GmlpFwdRefIdeal.main_arg5))
      ∧ r.2.sem = fun _ => 0)

def quiescent_AdamHgrnOut [hAdamHgrnOut : Cert.AdamHgrnOut.Facts] : Prop :=
  ∀ (m : (ℓ : Loc Cert.AdamHgrnOut.nD Cert.AdamHgrnOut.τ Cert.AdamHgrnOut.sig) → Buf (Elt Bits) ℓ) (g : Dev Cert.AdamHgrnOut.nD → PrngReg), Pre_AdamHgrnOut m →
    θ_run (Cert.AdamHgrnOut.defs (F := Bits)) (onTc (τ := Cert.AdamHgrnOut.τ) (Cert.AdamHgrnOut.main (F := Bits))) ⟨m, fun _ => 0, g⟩ (fun r => (∀ c : Dev Cert.AdamHgrnOut.nD,
      r.2.mem ((c.tc : Thread Cert.AdamHgrnOut.nD Cert.AdamHgrnOut.τ).loc Cert.AdamHgrnOut.main_arg0) = m ((c.tc : Thread Cert.AdamHgrnOut.nD Cert.AdamHgrnOut.τ).loc Cert.AdamHgrnOut.main_arg0)
      ∧ r.2.mem ((c.tc : Thread Cert.AdamHgrnOut.nD Cert.AdamHgrnOut.τ).loc Cert.AdamHgrnOut.main_arg1) = m ((c.tc : Thread Cert.AdamHgrnOut.nD Cert.AdamHgrnOut.τ).loc Cert.AdamHgrnOut.main_arg1)
      ∧ r.2.mem ((c.tc : Thread Cert.AdamHgrnOut.nD Cert.AdamHgrnOut.τ).loc Cert.AdamHgrnOut.main_arg2) = m ((c.tc : Thread Cert.AdamHgrnOut.nD Cert.AdamHgrnOut.τ).loc Cert.AdamHgrnOut.main_arg2)
      ∧ r.2.mem ((c.tc : Thread Cert.AdamHgrnOut.nD Cert.AdamHgrnOut.τ).loc Cert.AdamHgrnOut.main_arg3) = m ((c.tc : Thread Cert.AdamHgrnOut.nD Cert.AdamHgrnOut.τ).loc Cert.AdamHgrnOut.main_arg3))
      ∧ r.2.sem = fun _ => 0)

def quiescent_AdamHgrnOutIdeal [hAdamHgrnOutIdeal : Cert.AdamHgrnOutIdeal.Facts] : Prop :=
  ∀ (m : (ℓ : Loc Cert.AdamHgrnOutIdeal.nD Cert.AdamHgrnOutIdeal.τ Cert.AdamHgrnOutIdeal.sig) → Buf (Elt Ideal) ℓ) (g : Dev Cert.AdamHgrnOutIdeal.nD → PrngReg), Pre_AdamHgrnOutIdeal m →
    θ_run (Cert.AdamHgrnOutIdeal.defs (F := Ideal)) (onTc (τ := Cert.AdamHgrnOutIdeal.τ) (Cert.AdamHgrnOutIdeal.main (F := Ideal))) ⟨m, fun _ => 0, g⟩ (fun r => (∀ c : Dev Cert.AdamHgrnOutIdeal.nD,
      r.2.mem ((c.tc : Thread Cert.AdamHgrnOutIdeal.nD Cert.AdamHgrnOutIdeal.τ).loc Cert.AdamHgrnOutIdeal.main_arg0) = m ((c.tc : Thread Cert.AdamHgrnOutIdeal.nD Cert.AdamHgrnOutIdeal.τ).loc Cert.AdamHgrnOutIdeal.main_arg0)
      ∧ r.2.mem ((c.tc : Thread Cert.AdamHgrnOutIdeal.nD Cert.AdamHgrnOutIdeal.τ).loc Cert.AdamHgrnOutIdeal.main_arg1) = m ((c.tc : Thread Cert.AdamHgrnOutIdeal.nD Cert.AdamHgrnOutIdeal.τ).loc Cert.AdamHgrnOutIdeal.main_arg1)
      ∧ r.2.mem ((c.tc : Thread Cert.AdamHgrnOutIdeal.nD Cert.AdamHgrnOutIdeal.τ).loc Cert.AdamHgrnOutIdeal.main_arg2) = m ((c.tc : Thread Cert.AdamHgrnOutIdeal.nD Cert.AdamHgrnOutIdeal.τ).loc Cert.AdamHgrnOutIdeal.main_arg2)
      ∧ r.2.mem ((c.tc : Thread Cert.AdamHgrnOutIdeal.nD Cert.AdamHgrnOutIdeal.τ).loc Cert.AdamHgrnOutIdeal.main_arg3) = m ((c.tc : Thread Cert.AdamHgrnOutIdeal.nD Cert.AdamHgrnOutIdeal.τ).loc Cert.AdamHgrnOutIdeal.main_arg3))
      ∧ r.2.sem = fun _ => 0)

def quiescent_AdamHgrnOutRefIdeal [hAdamHgrnOutRefIdeal : Cert.AdamHgrnOutRefIdeal.Facts] : Prop :=
  ∀ (m : (ℓ : Loc Cert.AdamHgrnOutRefIdeal.nD Cert.AdamHgrnOutRefIdeal.τ Cert.AdamHgrnOutRefIdeal.sig) → Buf (Elt Ideal) ℓ) (g : Dev Cert.AdamHgrnOutRefIdeal.nD → PrngReg), Pre_AdamHgrnOutRefIdeal m →
    θ_run (Cert.AdamHgrnOutRefIdeal.defs (F := Ideal)) (onTc (τ := Cert.AdamHgrnOutRefIdeal.τ) (Cert.AdamHgrnOutRefIdeal.main (F := Ideal))) ⟨m, fun _ => 0, g⟩ (fun r => (∀ c : Dev Cert.AdamHgrnOutRefIdeal.nD,
      r.2.mem ((c.tc : Thread Cert.AdamHgrnOutRefIdeal.nD Cert.AdamHgrnOutRefIdeal.τ).loc Cert.AdamHgrnOutRefIdeal.main_arg0) = m ((c.tc : Thread Cert.AdamHgrnOutRefIdeal.nD Cert.AdamHgrnOutRefIdeal.τ).loc Cert.AdamHgrnOutRefIdeal.main_arg0)
      ∧ r.2.mem ((c.tc : Thread Cert.AdamHgrnOutRefIdeal.nD Cert.AdamHgrnOutRefIdeal.τ).loc Cert.AdamHgrnOutRefIdeal.main_arg1) = m ((c.tc : Thread Cert.AdamHgrnOutRefIdeal.nD Cert.AdamHgrnOutRefIdeal.τ).loc Cert.AdamHgrnOutRefIdeal.main_arg1)
      ∧ r.2.mem ((c.tc : Thread Cert.AdamHgrnOutRefIdeal.nD Cert.AdamHgrnOutRefIdeal.τ).loc Cert.AdamHgrnOutRefIdeal.main_arg2) = m ((c.tc : Thread Cert.AdamHgrnOutRefIdeal.nD Cert.AdamHgrnOutRefIdeal.τ).loc Cert.AdamHgrnOutRefIdeal.main_arg2)
      ∧ r.2.mem ((c.tc : Thread Cert.AdamHgrnOutRefIdeal.nD Cert.AdamHgrnOutRefIdeal.τ).loc Cert.AdamHgrnOutRefIdeal.main_arg3) = m ((c.tc : Thread Cert.AdamHgrnOutRefIdeal.nD Cert.AdamHgrnOutRefIdeal.τ).loc Cert.AdamHgrnOutRefIdeal.main_arg3))
      ∧ r.2.sem = fun _ => 0)

def quiescent_AdamGmlpOut [hAdamGmlpOut : Cert.AdamGmlpOut.Facts] : Prop :=
  ∀ (m : (ℓ : Loc Cert.AdamGmlpOut.nD Cert.AdamGmlpOut.τ Cert.AdamGmlpOut.sig) → Buf (Elt Bits) ℓ) (g : Dev Cert.AdamGmlpOut.nD → PrngReg), Pre_AdamGmlpOut m →
    θ_run (Cert.AdamGmlpOut.defs (F := Bits)) (onTc (τ := Cert.AdamGmlpOut.τ) (Cert.AdamGmlpOut.main (F := Bits))) ⟨m, fun _ => 0, g⟩ (fun r => (∀ c : Dev Cert.AdamGmlpOut.nD,
      r.2.mem ((c.tc : Thread Cert.AdamGmlpOut.nD Cert.AdamGmlpOut.τ).loc Cert.AdamGmlpOut.main_arg0) = m ((c.tc : Thread Cert.AdamGmlpOut.nD Cert.AdamGmlpOut.τ).loc Cert.AdamGmlpOut.main_arg0)
      ∧ r.2.mem ((c.tc : Thread Cert.AdamGmlpOut.nD Cert.AdamGmlpOut.τ).loc Cert.AdamGmlpOut.main_arg1) = m ((c.tc : Thread Cert.AdamGmlpOut.nD Cert.AdamGmlpOut.τ).loc Cert.AdamGmlpOut.main_arg1)
      ∧ r.2.mem ((c.tc : Thread Cert.AdamGmlpOut.nD Cert.AdamGmlpOut.τ).loc Cert.AdamGmlpOut.main_arg2) = m ((c.tc : Thread Cert.AdamGmlpOut.nD Cert.AdamGmlpOut.τ).loc Cert.AdamGmlpOut.main_arg2)
      ∧ r.2.mem ((c.tc : Thread Cert.AdamGmlpOut.nD Cert.AdamGmlpOut.τ).loc Cert.AdamGmlpOut.main_arg3) = m ((c.tc : Thread Cert.AdamGmlpOut.nD Cert.AdamGmlpOut.τ).loc Cert.AdamGmlpOut.main_arg3))
      ∧ r.2.sem = fun _ => 0)

def quiescent_AdamGmlpOutIdeal [hAdamGmlpOutIdeal : Cert.AdamGmlpOutIdeal.Facts] : Prop :=
  ∀ (m : (ℓ : Loc Cert.AdamGmlpOutIdeal.nD Cert.AdamGmlpOutIdeal.τ Cert.AdamGmlpOutIdeal.sig) → Buf (Elt Ideal) ℓ) (g : Dev Cert.AdamGmlpOutIdeal.nD → PrngReg), Pre_AdamGmlpOutIdeal m →
    θ_run (Cert.AdamGmlpOutIdeal.defs (F := Ideal)) (onTc (τ := Cert.AdamGmlpOutIdeal.τ) (Cert.AdamGmlpOutIdeal.main (F := Ideal))) ⟨m, fun _ => 0, g⟩ (fun r => (∀ c : Dev Cert.AdamGmlpOutIdeal.nD,
      r.2.mem ((c.tc : Thread Cert.AdamGmlpOutIdeal.nD Cert.AdamGmlpOutIdeal.τ).loc Cert.AdamGmlpOutIdeal.main_arg0) = m ((c.tc : Thread Cert.AdamGmlpOutIdeal.nD Cert.AdamGmlpOutIdeal.τ).loc Cert.AdamGmlpOutIdeal.main_arg0)
      ∧ r.2.mem ((c.tc : Thread Cert.AdamGmlpOutIdeal.nD Cert.AdamGmlpOutIdeal.τ).loc Cert.AdamGmlpOutIdeal.main_arg1) = m ((c.tc : Thread Cert.AdamGmlpOutIdeal.nD Cert.AdamGmlpOutIdeal.τ).loc Cert.AdamGmlpOutIdeal.main_arg1)
      ∧ r.2.mem ((c.tc : Thread Cert.AdamGmlpOutIdeal.nD Cert.AdamGmlpOutIdeal.τ).loc Cert.AdamGmlpOutIdeal.main_arg2) = m ((c.tc : Thread Cert.AdamGmlpOutIdeal.nD Cert.AdamGmlpOutIdeal.τ).loc Cert.AdamGmlpOutIdeal.main_arg2)
      ∧ r.2.mem ((c.tc : Thread Cert.AdamGmlpOutIdeal.nD Cert.AdamGmlpOutIdeal.τ).loc Cert.AdamGmlpOutIdeal.main_arg3) = m ((c.tc : Thread Cert.AdamGmlpOutIdeal.nD Cert.AdamGmlpOutIdeal.τ).loc Cert.AdamGmlpOutIdeal.main_arg3))
      ∧ r.2.sem = fun _ => 0)

def quiescent_AdamGmlpOutRefIdeal [hAdamGmlpOutRefIdeal : Cert.AdamGmlpOutRefIdeal.Facts] : Prop :=
  ∀ (m : (ℓ : Loc Cert.AdamGmlpOutRefIdeal.nD Cert.AdamGmlpOutRefIdeal.τ Cert.AdamGmlpOutRefIdeal.sig) → Buf (Elt Ideal) ℓ) (g : Dev Cert.AdamGmlpOutRefIdeal.nD → PrngReg), Pre_AdamGmlpOutRefIdeal m →
    θ_run (Cert.AdamGmlpOutRefIdeal.defs (F := Ideal)) (onTc (τ := Cert.AdamGmlpOutRefIdeal.τ) (Cert.AdamGmlpOutRefIdeal.main (F := Ideal))) ⟨m, fun _ => 0, g⟩ (fun r => (∀ c : Dev Cert.AdamGmlpOutRefIdeal.nD,
      r.2.mem ((c.tc : Thread Cert.AdamGmlpOutRefIdeal.nD Cert.AdamGmlpOutRefIdeal.τ).loc Cert.AdamGmlpOutRefIdeal.main_arg0) = m ((c.tc : Thread Cert.AdamGmlpOutRefIdeal.nD Cert.AdamGmlpOutRefIdeal.τ).loc Cert.AdamGmlpOutRefIdeal.main_arg0)
      ∧ r.2.mem ((c.tc : Thread Cert.AdamGmlpOutRefIdeal.nD Cert.AdamGmlpOutRefIdeal.τ).loc Cert.AdamGmlpOutRefIdeal.main_arg1) = m ((c.tc : Thread Cert.AdamGmlpOutRefIdeal.nD Cert.AdamGmlpOutRefIdeal.τ).loc Cert.AdamGmlpOutRefIdeal.main_arg1)
      ∧ r.2.mem ((c.tc : Thread Cert.AdamGmlpOutRefIdeal.nD Cert.AdamGmlpOutRefIdeal.τ).loc Cert.AdamGmlpOutRefIdeal.main_arg2) = m ((c.tc : Thread Cert.AdamGmlpOutRefIdeal.nD Cert.AdamGmlpOutRefIdeal.τ).loc Cert.AdamGmlpOutRefIdeal.main_arg2)
      ∧ r.2.mem ((c.tc : Thread Cert.AdamGmlpOutRefIdeal.nD Cert.AdamGmlpOutRefIdeal.τ).loc Cert.AdamGmlpOutRefIdeal.main_arg3) = m ((c.tc : Thread Cert.AdamGmlpOutRefIdeal.nD Cert.AdamGmlpOutRefIdeal.τ).loc Cert.AdamGmlpOutRefIdeal.main_arg3))
      ∧ r.2.sem = fun _ => 0)

def quiescent_AdamMixIn [hAdamMixIn : Cert.AdamMixIn.Facts] : Prop :=
  ∀ (m : (ℓ : Loc Cert.AdamMixIn.nD Cert.AdamMixIn.τ Cert.AdamMixIn.sig) → Buf (Elt Bits) ℓ) (g : Dev Cert.AdamMixIn.nD → PrngReg), Pre_AdamMixIn m →
    θ_run (Cert.AdamMixIn.defs (F := Bits)) (onTc (τ := Cert.AdamMixIn.τ) (Cert.AdamMixIn.main (F := Bits))) ⟨m, fun _ => 0, g⟩ (fun r => (∀ c : Dev Cert.AdamMixIn.nD,
      r.2.mem ((c.tc : Thread Cert.AdamMixIn.nD Cert.AdamMixIn.τ).loc Cert.AdamMixIn.main_arg0) = m ((c.tc : Thread Cert.AdamMixIn.nD Cert.AdamMixIn.τ).loc Cert.AdamMixIn.main_arg0)
      ∧ r.2.mem ((c.tc : Thread Cert.AdamMixIn.nD Cert.AdamMixIn.τ).loc Cert.AdamMixIn.main_arg1) = m ((c.tc : Thread Cert.AdamMixIn.nD Cert.AdamMixIn.τ).loc Cert.AdamMixIn.main_arg1)
      ∧ r.2.mem ((c.tc : Thread Cert.AdamMixIn.nD Cert.AdamMixIn.τ).loc Cert.AdamMixIn.main_arg2) = m ((c.tc : Thread Cert.AdamMixIn.nD Cert.AdamMixIn.τ).loc Cert.AdamMixIn.main_arg2)
      ∧ r.2.mem ((c.tc : Thread Cert.AdamMixIn.nD Cert.AdamMixIn.τ).loc Cert.AdamMixIn.main_arg3) = m ((c.tc : Thread Cert.AdamMixIn.nD Cert.AdamMixIn.τ).loc Cert.AdamMixIn.main_arg3))
      ∧ r.2.sem = fun _ => 0)

def quiescent_AdamMixInIdeal [hAdamMixInIdeal : Cert.AdamMixInIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg), Pre_AdamMixInIdeal m →
    θ_run (Cert.AdamMixInIdeal.defs (F := Ideal)) (onTc (τ := Cert.AdamMixInIdeal.τ) (Cert.AdamMixInIdeal.main (F := Ideal))) ⟨m, fun _ => 0, g⟩ (fun r => (∀ c : Dev Cert.AdamMixInIdeal.nD,
      r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
      ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
      ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
      ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3))
      ∧ r.2.sem = fun _ => 0)

def quiescent_AdamMixInRefIdeal [hAdamMixInRefIdeal : Cert.AdamMixInRefIdeal.Facts] : Prop :=
  ∀ (m : (ℓ : Loc Cert.AdamMixInRefIdeal.nD Cert.AdamMixInRefIdeal.τ Cert.AdamMixInRefIdeal.sig) → Buf (Elt Ideal) ℓ) (g : Dev Cert.AdamMixInRefIdeal.nD → PrngReg), Pre_AdamMixInRefIdeal m →
    θ_run (Cert.AdamMixInRefIdeal.defs (F := Ideal)) (onTc (τ := Cert.AdamMixInRefIdeal.τ) (Cert.AdamMixInRefIdeal.main (F := Ideal))) ⟨m, fun _ => 0, g⟩ (fun r => (∀ c : Dev Cert.AdamMixInRefIdeal.nD,
      r.2.mem ((c.tc : Thread Cert.AdamMixInRefIdeal.nD Cert.AdamMixInRefIdeal.τ).loc Cert.AdamMixInRefIdeal.main_arg0) = m ((c.tc : Thread Cert.AdamMixInRefIdeal.nD Cert.AdamMixInRefIdeal.τ).loc Cert.AdamMixInRefIdeal.main_arg0)
      ∧ r.2.mem ((c.tc : Thread Cert.AdamMixInRefIdeal.nD Cert.AdamMixInRefIdeal.τ).loc Cert.AdamMixInRefIdeal.main_arg1) = m ((c.tc : Thread Cert.AdamMixInRefIdeal.nD Cert.AdamMixInRefIdeal.τ).loc Cert.AdamMixInRefIdeal.main_arg1)
      ∧ r.2.mem ((c.tc : Thread Cert.AdamMixInRefIdeal.nD Cert.AdamMixInRefIdeal.τ).loc Cert.AdamMixInRefIdeal.main_arg2) = m ((c.tc : Thread Cert.AdamMixInRefIdeal.nD Cert.AdamMixInRefIdeal.τ).loc Cert.AdamMixInRefIdeal.main_arg2)
      ∧ r.2.mem ((c.tc : Thread Cert.AdamMixInRefIdeal.nD Cert.AdamMixInRefIdeal.τ).loc Cert.AdamMixInRefIdeal.main_arg3) = m ((c.tc : Thread Cert.AdamMixInRefIdeal.nD Cert.AdamMixInRefIdeal.τ).loc Cert.AdamMixInRefIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3)
      ∧ r.2.mem ((c.tc : Thread Cert.AdamFfnIn.nD Cert.AdamFfnIn.τ).loc Cert.AdamFfnIn.main_arg4) = m ((c.tc : Thread Cert.AdamFfnIn.nD Cert.AdamFfnIn.τ).loc Cert.AdamFfnIn.main_arg4))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
      ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3)
      ∧ r.2.mem ((c.tc : Thread Cert.AdamFfnInRefIdeal.nD Cert.AdamFfnInRefIdeal.τ).loc Cert.AdamFfnInRefIdeal.main_arg4) = m ((c.tc : Thread Cert.AdamFfnInRefIdeal.nD Cert.AdamFfnInRefIdeal.τ).loc Cert.AdamFfnInRefIdeal.main_arg4))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3)
      ∧ r.2.mem ((c.tc : Thread Cert.AdamFfnOut.nD Cert.AdamFfnOut.τ).loc Cert.AdamFfnOut.main_arg4) = m ((c.tc : Thread Cert.AdamFfnOut.nD Cert.AdamFfnOut.τ).loc Cert.AdamFfnOut.main_arg4))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
      ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3)
      ∧ r.2.mem ((c.tc : Thread Cert.AdamFfnOutRefIdeal.nD Cert.AdamFfnOutRefIdeal.τ).loc Cert.AdamFfnOutRefIdeal.main_arg4) = m ((c.tc : Thread Cert.AdamFfnOutRefIdeal.nD Cert.AdamFfnOutRefIdeal.τ).loc Cert.AdamFfnOutRefIdeal.main_arg4))
      ∧ r.2.sem = fun _ => 0)

def quiescent_AdamMemKv [hAdamMemKv : Cert.AdamMemKv.Facts] : Prop :=
  ∀ (m : (ℓ : Loc Cert.AdamMemKv.nD Cert.AdamMemKv.τ Cert.AdamMemKv.sig) → Buf (Elt Bits) ℓ) (g : Dev Cert.AdamMemKv.nD → PrngReg), Pre_AdamMemKv m →
    θ_run (Cert.AdamMemKv.defs (F := Bits)) (onTc (τ := Cert.AdamMemKv.τ) (Cert.AdamMemKv.main (F := Bits))) ⟨m, fun _ => 0, g⟩ (fun r => (∀ c : Dev Cert.AdamMemKv.nD,
      r.2.mem ((c.tc : Thread Cert.AdamMemKv.nD Cert.AdamMemKv.τ).loc Cert.AdamMemKv.main_arg0) = m ((c.tc : Thread Cert.AdamMemKv.nD Cert.AdamMemKv.τ).loc Cert.AdamMemKv.main_arg0)
      ∧ r.2.mem ((c.tc : Thread Cert.AdamMemKv.nD Cert.AdamMemKv.τ).loc Cert.AdamMemKv.main_arg1) = m ((c.tc : Thread Cert.AdamMemKv.nD Cert.AdamMemKv.τ).loc Cert.AdamMemKv.main_arg1)
      ∧ r.2.mem ((c.tc : Thread Cert.AdamMemKv.nD Cert.AdamMemKv.τ).loc Cert.AdamMemKv.main_arg2) = m ((c.tc : Thread Cert.AdamMemKv.nD Cert.AdamMemKv.τ).loc Cert.AdamMemKv.main_arg2)
      ∧ r.2.mem ((c.tc : Thread Cert.AdamMemKv.nD Cert.AdamMemKv.τ).loc Cert.AdamMemKv.main_arg3) = m ((c.tc : Thread Cert.AdamMemKv.nD Cert.AdamMemKv.τ).loc Cert.AdamMemKv.main_arg3)
      ∧ r.2.mem ((c.tc : Thread Cert.AdamMemKv.nD Cert.AdamMemKv.τ).loc Cert.AdamMemKv.main_arg4) = m ((c.tc : Thread Cert.AdamMemKv.nD Cert.AdamMemKv.τ).loc Cert.AdamMemKv.main_arg4))
      ∧ r.2.sem = fun _ => 0)

def quiescent_AdamMemKvIdeal [hAdamMemKvIdeal : Cert.AdamMemKvIdeal.Facts] : Prop :=
  ∀ (m : (ℓ : Loc Cert.AdamMemKvIdeal.nD Cert.AdamMemKvIdeal.τ Cert.AdamMemKvIdeal.sig) → Buf (Elt Ideal) ℓ) (g : Dev Cert.AdamMemKvIdeal.nD → PrngReg), Pre_AdamMemKvIdeal m →
    θ_run (Cert.AdamMemKvIdeal.defs (F := Ideal)) (onTc (τ := Cert.AdamMemKvIdeal.τ) (Cert.AdamMemKvIdeal.main (F := Ideal))) ⟨m, fun _ => 0, g⟩ (fun r => (∀ c : Dev Cert.AdamMemKvIdeal.nD,
      r.2.mem ((c.tc : Thread Cert.AdamMemKvIdeal.nD Cert.AdamMemKvIdeal.τ).loc Cert.AdamMemKvIdeal.main_arg0) = m ((c.tc : Thread Cert.AdamMemKvIdeal.nD Cert.AdamMemKvIdeal.τ).loc Cert.AdamMemKvIdeal.main_arg0)
      ∧ r.2.mem ((c.tc : Thread Cert.AdamMemKvIdeal.nD Cert.AdamMemKvIdeal.τ).loc Cert.AdamMemKvIdeal.main_arg1) = m ((c.tc : Thread Cert.AdamMemKvIdeal.nD Cert.AdamMemKvIdeal.τ).loc Cert.AdamMemKvIdeal.main_arg1)
      ∧ r.2.mem ((c.tc : Thread Cert.AdamMemKvIdeal.nD Cert.AdamMemKvIdeal.τ).loc Cert.AdamMemKvIdeal.main_arg2) = m ((c.tc : Thread Cert.AdamMemKvIdeal.nD Cert.AdamMemKvIdeal.τ).loc Cert.AdamMemKvIdeal.main_arg2)
      ∧ r.2.mem ((c.tc : Thread Cert.AdamMemKvIdeal.nD Cert.AdamMemKvIdeal.τ).loc Cert.AdamMemKvIdeal.main_arg3) = m ((c.tc : Thread Cert.AdamMemKvIdeal.nD Cert.AdamMemKvIdeal.τ).loc Cert.AdamMemKvIdeal.main_arg3)
      ∧ r.2.mem ((c.tc : Thread Cert.AdamMemKvIdeal.nD Cert.AdamMemKvIdeal.τ).loc Cert.AdamMemKvIdeal.main_arg4) = m ((c.tc : Thread Cert.AdamMemKvIdeal.nD Cert.AdamMemKvIdeal.τ).loc Cert.AdamMemKvIdeal.main_arg4))
      ∧ r.2.sem = fun _ => 0)

def quiescent_AdamMemKvRefIdeal [hAdamMemKvRefIdeal : Cert.AdamMemKvRefIdeal.Facts] : Prop :=
  ∀ (m : (ℓ : Loc Cert.AdamMemKvRefIdeal.nD Cert.AdamMemKvRefIdeal.τ Cert.AdamMemKvRefIdeal.sig) → Buf (Elt Ideal) ℓ) (g : Dev Cert.AdamMemKvRefIdeal.nD → PrngReg), Pre_AdamMemKvRefIdeal m →
    θ_run (Cert.AdamMemKvRefIdeal.defs (F := Ideal)) (onTc (τ := Cert.AdamMemKvRefIdeal.τ) (Cert.AdamMemKvRefIdeal.main (F := Ideal))) ⟨m, fun _ => 0, g⟩ (fun r => (∀ c : Dev Cert.AdamMemKvRefIdeal.nD,
      r.2.mem ((c.tc : Thread Cert.AdamMemKvRefIdeal.nD Cert.AdamMemKvRefIdeal.τ).loc Cert.AdamMemKvRefIdeal.main_arg0) = m ((c.tc : Thread Cert.AdamMemKvRefIdeal.nD Cert.AdamMemKvRefIdeal.τ).loc Cert.AdamMemKvRefIdeal.main_arg0)
      ∧ r.2.mem ((c.tc : Thread Cert.AdamMemKvRefIdeal.nD Cert.AdamMemKvRefIdeal.τ).loc Cert.AdamMemKvRefIdeal.main_arg1) = m ((c.tc : Thread Cert.AdamMemKvRefIdeal.nD Cert.AdamMemKvRefIdeal.τ).loc Cert.AdamMemKvRefIdeal.main_arg1)
      ∧ r.2.mem ((c.tc : Thread Cert.AdamMemKvRefIdeal.nD Cert.AdamMemKvRefIdeal.τ).loc Cert.AdamMemKvRefIdeal.main_arg2) = m ((c.tc : Thread Cert.AdamMemKvRefIdeal.nD Cert.AdamMemKvRefIdeal.τ).loc Cert.AdamMemKvRefIdeal.main_arg2)
      ∧ r.2.mem ((c.tc : Thread Cert.AdamMemKvRefIdeal.nD Cert.AdamMemKvRefIdeal.τ).loc Cert.AdamMemKvRefIdeal.main_arg3) = m ((c.tc : Thread Cert.AdamMemKvRefIdeal.nD Cert.AdamMemKvRefIdeal.τ).loc Cert.AdamMemKvRefIdeal.main_arg3)
      ∧ r.2.mem ((c.tc : Thread Cert.AdamMemKvRefIdeal.nD Cert.AdamMemKvRefIdeal.τ).loc Cert.AdamMemKvRefIdeal.main_arg4) = m ((c.tc : Thread Cert.AdamMemKvRefIdeal.nD Cert.AdamMemKvRefIdeal.τ).loc Cert.AdamMemKvRefIdeal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnDgrad_FfnDgradIdeal : Prop :=
  True

def algebraic_FfnDgradIdeal_FfnDgradRefIdeal_pre_finite_ffn [hFfnDgradIdeal : Cert.FfnDgradIdeal.Facts] [hFfnDgradRefIdeal : Cert.FfnDgradRefIdeal.Facts] [hPre_finite_ffn : Cert.Pre_finite_ffn.Facts] : Prop :=
  ∀ (m : (ℓ : Loc Cert.FfnDgradIdeal.nD Cert.FfnDgradIdeal.τ Cert.FfnDgradIdeal.sig) → Buf (Elt Ideal) ℓ) (g : Dev Cert.FfnDgradIdeal.nD → PrngReg)
    (m' : (ℓ : Loc Cert.FfnDgradRefIdeal.nD Cert.FfnDgradRefIdeal.τ Cert.FfnDgradRefIdeal.sig) → Buf (Elt Ideal) ℓ) (g' : Dev Cert.FfnDgradRefIdeal.nD → PrngReg), Pre_FfnDgradIdeal_finite_ffn m →
    (∀ c : Dev Cert.FfnDgradIdeal.nD,
      m' ((c.tc : Thread Cert.FfnDgradRefIdeal.nD Cert.FfnDgradRefIdeal.τ).loc Cert.FfnDgradRefIdeal.main_arg0) = m ((c.tc : Thread Cert.FfnDgradIdeal.nD Cert.FfnDgradIdeal.τ).loc Cert.FfnDgradIdeal.main_arg0)
      ∧ m' ((c.tc : Thread Cert.FfnDgradRefIdeal.nD Cert.FfnDgradRefIdeal.τ).loc Cert.FfnDgradRefIdeal.main_arg1) = m ((c.tc : Thread Cert.FfnDgradIdeal.nD Cert.FfnDgradIdeal.τ).loc Cert.FfnDgradIdeal.main_arg1)
      ∧ m' ((c.tc : Thread Cert.FfnDgradRefIdeal.nD Cert.FfnDgradRefIdeal.τ).loc Cert.FfnDgradRefIdeal.main_arg2) = m ((c.tc : Thread Cert.FfnDgradIdeal.nD Cert.FfnDgradIdeal.τ).loc Cert.FfnDgradIdeal.main_arg2)
      ∧ m' ((c.tc : Thread Cert.FfnDgradRefIdeal.nD Cert.FfnDgradRefIdeal.τ).loc Cert.FfnDgradRefIdeal.main_arg3) = m ((c.tc : Thread Cert.FfnDgradIdeal.nD Cert.FfnDgradIdeal.τ).loc Cert.FfnDgradIdeal.main_arg3)
      ∧ m' ((c.tc : Thread Cert.FfnDgradRefIdeal.nD Cert.FfnDgradRefIdeal.τ).loc Cert.FfnDgradRefIdeal.main_arg4) = m ((c.tc : Thread Cert.FfnDgradIdeal.nD Cert.FfnDgradIdeal.τ).loc Cert.FfnDgradIdeal.main_arg4)) →
    ∃ (v0 : (c : Dev Cert.FfnDgradIdeal.nD) → Buf (Elt Ideal) ((c.tc : Thread Cert.FfnDgradIdeal.nD Cert.FfnDgradIdeal.τ).loc Cert.FfnDgradIdeal.main_v34_0)) (v1 : (c : Dev Cert.FfnDgradIdeal.nD) → Buf (Elt Ideal) ((c.tc : Thread Cert.FfnDgradIdeal.nD Cert.FfnDgradIdeal.τ).loc Cert.FfnDgradIdeal.main_v34_1)) (v2 : (c : Dev Cert.FfnDgradIdeal.nD) → Buf (Elt Ideal) ((c.tc : Thread Cert.FfnDgradIdeal.nD Cert.FfnDgradIdeal.τ).loc Cert.FfnDgradIdeal.main_v34_2)) (v3 : (c : Dev Cert.FfnDgradIdeal.nD) → Buf (Elt Ideal) ((c.tc : Thread Cert.FfnDgradIdeal.nD Cert.FfnDgradIdeal.τ).loc Cert.FfnDgradIdeal.main_v34_3)),
      θ_run (Cert.FfnDgradIdeal.defs (F := Ideal)) (onTc (τ := Cert.FfnDgradIdeal.τ) (Cert.FfnDgradIdeal.main (F := Ideal))) ⟨m, fun _ => 0, g⟩ (fun r => ∀ c : Dev Cert.FfnDgradIdeal.nD,
          r.2.mem ((c.tc : Thread Cert.FfnDgradIdeal.nD Cert.FfnDgradIdeal.τ).loc Cert.FfnDgradIdeal.main_v34_0) = v0 c
          ∧ r.2.mem ((c.tc : Thread Cert.FfnDgradIdeal.nD Cert.FfnDgradIdeal.τ).loc Cert.FfnDgradIdeal.main_v34_1) = v1 c
          ∧ r.2.mem ((c.tc : Thread Cert.FfnDgradIdeal.nD Cert.FfnDgradIdeal.τ).loc Cert.FfnDgradIdeal.main_v34_2) = v2 c
          ∧ r.2.mem ((c.tc : Thread Cert.FfnDgradIdeal.nD Cert.FfnDgradIdeal.τ).loc Cert.FfnDgradIdeal.main_v34_3) = v3 c
          ∧ r.2.mem ((c.tc : Thread Cert.FfnDgradIdeal.nD Cert.FfnDgradIdeal.τ).loc Cert.FfnDgradIdeal.main_arg0) = m ((c.tc : Thread Cert.FfnDgradIdeal.nD Cert.FfnDgradIdeal.τ).loc Cert.FfnDgradIdeal.main_arg0)
          ∧ r.2.mem ((c.tc : Thread Cert.FfnDgradIdeal.nD Cert.FfnDgradIdeal.τ).loc Cert.FfnDgradIdeal.main_arg1) = m ((c.tc : Thread Cert.FfnDgradIdeal.nD Cert.FfnDgradIdeal.τ).loc Cert.FfnDgradIdeal.main_arg1)
          ∧ r.2.mem ((c.tc : Thread Cert.FfnDgradIdeal.nD Cert.FfnDgradIdeal.τ).loc Cert.FfnDgradIdeal.main_arg2) = m ((c.tc : Thread Cert.FfnDgradIdeal.nD Cert.FfnDgradIdeal.τ).loc Cert.FfnDgradIdeal.main_arg2)
          ∧ r.2.mem ((c.tc : Thread Cert.FfnDgradIdeal.nD Cert.FfnDgradIdeal.τ).loc Cert.FfnDgradIdeal.main_arg3) = m ((c.tc : Thread Cert.FfnDgradIdeal.nD Cert.FfnDgradIdeal.τ).loc Cert.FfnDgradIdeal.main_arg3)
          ∧ r.2.mem ((c.tc : Thread Cert.FfnDgradIdeal.nD Cert.FfnDgradIdeal.τ).loc Cert.FfnDgradIdeal.main_arg4) = m ((c.tc : Thread Cert.FfnDgradIdeal.nD Cert.FfnDgradIdeal.τ).loc Cert.FfnDgradIdeal.main_arg4))
      ∧ θ_run (Cert.FfnDgradRefIdeal.defs (F := Ideal)) (onTc (τ := Cert.FfnDgradRefIdeal.τ) (Cert.FfnDgradRefIdeal.main (F := Ideal))) ⟨m', fun _ => 0, g'⟩ (fun r => ∀ c : Dev Cert.FfnDgradRefIdeal.nD,
          r.2.mem ((c.tc : Thread Cert.FfnDgradRefIdeal.nD Cert.FfnDgradRefIdeal.τ).loc Cert.FfnDgradRefIdeal.main_v87) = v0 c
          ∧ r.2.mem ((c.tc : Thread Cert.FfnDgradRefIdeal.nD Cert.FfnDgradRefIdeal.τ).loc Cert.FfnDgradRefIdeal.main_v52) = v1 c
          ∧ r.2.mem ((c.tc : Thread Cert.FfnDgradRefIdeal.nD Cert.FfnDgradRefIdeal.τ).loc Cert.FfnDgradRefIdeal.main_v88) = v2 c
          ∧ r.2.mem ((c.tc : Thread Cert.FfnDgradRefIdeal.nD Cert.FfnDgradRefIdeal.τ).loc Cert.FfnDgradRefIdeal.main_v35) = v3 c
          ∧ r.2.mem ((c.tc : Thread Cert.FfnDgradRefIdeal.nD Cert.FfnDgradRefIdeal.τ).loc Cert.FfnDgradRefIdeal.main_arg0) = m' ((c.tc : Thread Cert.FfnDgradRefIdeal.nD Cert.FfnDgradRefIdeal.τ).loc Cert.FfnDgradRefIdeal.main_arg0)
          ∧ r.2.mem ((c.tc : Thread Cert.FfnDgradRefIdeal.nD Cert.FfnDgradRefIdeal.τ).loc Cert.FfnDgradRefIdeal.main_arg1) = m' ((c.tc : Thread Cert.FfnDgradRefIdeal.nD Cert.FfnDgradRefIdeal.τ).loc Cert.FfnDgradRefIdeal.main_arg1)
          ∧ r.2.mem ((c.tc : Thread Cert.FfnDgradRefIdeal.nD Cert.FfnDgradRefIdeal.τ).loc Cert.FfnDgradRefIdeal.main_arg2) = m' ((c.tc : Thread Cert.FfnDgradRefIdeal.nD Cert.FfnDgradRefIdeal.τ).loc Cert.FfnDgradRefIdeal.main_arg2)
          ∧ r.2.mem ((c.tc : Thread Cert.FfnDgradRefIdeal.nD Cert.FfnDgradRefIdeal.τ).loc Cert.FfnDgradRefIdeal.main_arg3) = m' ((c.tc : Thread Cert.FfnDgradRefIdeal.nD Cert.FfnDgradRefIdeal.τ).loc Cert.FfnDgradRefIdeal.main_arg3)
          ∧ r.2.mem ((c.tc : Thread Cert.FfnDgradRefIdeal.nD Cert.FfnDgradRefIdeal.τ).loc Cert.FfnDgradRefIdeal.main_arg4) = m' ((c.tc : Thread Cert.FfnDgradRefIdeal.nD Cert.FfnDgradRefIdeal.τ).loc Cert.FfnDgradRefIdeal.main_arg4))

def preserves_FfnFwd_FfnFwdIdeal : Prop :=
  True

def algebraic_FfnFwdIdeal_FfnFwdRefIdeal_pre_finite_up [hFfnFwdIdeal : Cert.FfnFwdIdeal.Facts] [hFfnFwdRefIdeal : Cert.FfnFwdRefIdeal.Facts] [hPre_finite_up : Cert.Pre_finite_up.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_finite_up m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v3_0)) (v1 : (c : Dev Cert.FfnFwdIdeal.nD) → Buf (Elt Ideal) ((c.tc : Thread Cert.FfnFwdIdeal.nD Cert.FfnFwdIdeal.τ).loc Cert.FfnFwdIdeal.main_v3_1)) (v2 : (c : Dev Cert.FfnFwdIdeal.nD) → Buf (Elt Ideal) ((c.tc : Thread Cert.FfnFwdIdeal.nD Cert.FfnFwdIdeal.τ).loc Cert.FfnFwdIdeal.main_v3_2)) (v3 : (c : Dev Cert.FfnFwdIdeal.nD) → Buf (Elt Ideal) ((c.tc : Thread Cert.FfnFwdIdeal.nD Cert.FfnFwdIdeal.τ).loc Cert.FfnFwdIdeal.main_v3_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v3_0) = v0 c
          ∧ r.2.mem ((c.tc : Thread Cert.FfnFwdIdeal.nD Cert.FfnFwdIdeal.τ).loc Cert.FfnFwdIdeal.main_v3_1) = v1 c
          ∧ r.2.mem ((c.tc : Thread Cert.FfnFwdIdeal.nD Cert.FfnFwdIdeal.τ).loc Cert.FfnFwdIdeal.main_v3_2) = v2 c
          ∧ r.2.mem ((c.tc : Thread Cert.FfnFwdIdeal.nD Cert.FfnFwdIdeal.τ).loc Cert.FfnFwdIdeal.main_v3_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v23) = v0 c
          ∧ r.2.mem ((c.tc : Thread Cert.FfnFwdRefIdeal.nD Cert.FfnFwdRefIdeal.τ).loc Cert.FfnFwdRefIdeal.main_v24) = v1 c
          ∧ r.2.mem ((c.tc : Thread Cert.FfnFwdRefIdeal.nD Cert.FfnFwdRefIdeal.τ).loc Cert.FfnFwdRefIdeal.main_v54) = v2 c
          ∧ r.2.mem ((c.tc : Thread Cert.FfnFwdRefIdeal.nD Cert.FfnFwdRefIdeal.τ).loc Cert.FfnFwdRefIdeal.main_v57) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_FfnOutWgrad_FfnOutWgradIdeal : Prop :=
  True

def algebraic_FfnOutWgradIdeal_FfnOutWgradRefIdeal [hFfnOutWgradIdeal : Cert.FfnOutWgradIdeal.Facts] [hFfnOutWgradRefIdeal : Cert.FfnOutWgradRefIdeal.Facts] : Prop :=
  ∀ (m : (ℓ : Loc Cert.FfnOutWgradIdeal.nD Cert.FfnOutWgradIdeal.τ Cert.FfnOutWgradIdeal.sig) → Buf (Elt Ideal) ℓ) (g : Dev Cert.FfnOutWgradIdeal.nD → PrngReg)
    (m' : (ℓ : Loc Cert.FfnOutWgradRefIdeal.nD Cert.FfnOutWgradRefIdeal.τ Cert.FfnOutWgradRefIdeal.sig) → Buf (Elt Ideal) ℓ) (g' : Dev Cert.FfnOutWgradRefIdeal.nD → PrngReg), Pre_FfnOutWgradIdeal m →
    (∀ c : Dev Cert.FfnOutWgradIdeal.nD,
      m' ((c.tc : Thread Cert.FfnOutWgradRefIdeal.nD Cert.FfnOutWgradRefIdeal.τ).loc Cert.FfnOutWgradRefIdeal.main_arg0) = m ((c.tc : Thread Cert.FfnOutWgradIdeal.nD Cert.FfnOutWgradIdeal.τ).loc Cert.FfnOutWgradIdeal.main_arg0)
      ∧ m' ((c.tc : Thread Cert.FfnOutWgradRefIdeal.nD Cert.FfnOutWgradRefIdeal.τ).loc Cert.FfnOutWgradRefIdeal.main_arg1) = m ((c.tc : Thread Cert.FfnOutWgradIdeal.nD Cert.FfnOutWgradIdeal.τ).loc Cert.FfnOutWgradIdeal.main_arg1)) →
    ∃ (v0 : (c : Dev Cert.FfnOutWgradIdeal.nD) → Buf (Elt Ideal) ((c.tc : Thread Cert.FfnOutWgradIdeal.nD Cert.FfnOutWgradIdeal.τ).loc Cert.FfnOutWgradIdeal.main_v2)),
      θ_run (Cert.FfnOutWgradIdeal.defs (F := Ideal)) (onTc (τ := Cert.FfnOutWgradIdeal.τ) (Cert.FfnOutWgradIdeal.main (F := Ideal))) ⟨m, fun _ => 0, g⟩ (fun r => ∀ c : Dev Cert.FfnOutWgradIdeal.nD,
          r.2.mem ((c.tc : Thread Cert.FfnOutWgradIdeal.nD Cert.FfnOutWgradIdeal.τ).loc Cert.FfnOutWgradIdeal.main_v2) = v0 c
          ∧ r.2.mem ((c.tc : Thread Cert.FfnOutWgradIdeal.nD Cert.FfnOutWgradIdeal.τ).loc Cert.FfnOutWgradIdeal.main_arg0) = m ((c.tc : Thread Cert.FfnOutWgradIdeal.nD Cert.FfnOutWgradIdeal.τ).loc Cert.FfnOutWgradIdeal.main_arg0)
          ∧ r.2.mem ((c.tc : Thread Cert.FfnOutWgradIdeal.nD Cert.FfnOutWgradIdeal.τ).loc Cert.FfnOutWgradIdeal.main_arg1) = m ((c.tc : Thread Cert.FfnOutWgradIdeal.nD Cert.FfnOutWgradIdeal.τ).loc Cert.FfnOutWgradIdeal.main_arg1))
      ∧ θ_run (Cert.FfnOutWgradRefIdeal.defs (F := Ideal)) (onTc (τ := Cert.FfnOutWgradRefIdeal.τ) (Cert.FfnOutWgradRefIdeal.main (F := Ideal))) ⟨m', fun _ => 0, g'⟩ (fun r => ∀ c : Dev Cert.FfnOutWgradRefIdeal.nD,
          r.2.mem ((c.tc : Thread Cert.FfnOutWgradRefIdeal.nD Cert.FfnOutWgradRefIdeal.τ).loc Cert.FfnOutWgradRefIdeal.main_v8) = v0 c
          ∧ r.2.mem ((c.tc : Thread Cert.FfnOutWgradRefIdeal.nD Cert.FfnOutWgradRefIdeal.τ).loc Cert.FfnOutWgradRefIdeal.main_arg0) = m' ((c.tc : Thread Cert.FfnOutWgradRefIdeal.nD Cert.FfnOutWgradRefIdeal.τ).loc Cert.FfnOutWgradRefIdeal.main_arg0)
          ∧ r.2.mem ((c.tc : Thread Cert.FfnOutWgradRefIdeal.nD Cert.FfnOutWgradRefIdeal.τ).loc Cert.FfnOutWgradRefIdeal.main_arg1) = m' ((c.tc : Thread Cert.FfnOutWgradRefIdeal.nD Cert.FfnOutWgradRefIdeal.τ).loc Cert.FfnOutWgradRefIdeal.main_arg1))

def preserves_FfnInWgrad_FfnInWgradIdeal : Prop :=
  True

def algebraic_FfnInWgradIdeal_FfnInWgradRefIdeal [hFfnInWgradIdeal : Cert.FfnInWgradIdeal.Facts] [hFfnInWgradRefIdeal : Cert.FfnInWgradRefIdeal.Facts] : Prop :=
  ∀ (m : (ℓ : Loc Cert.FfnInWgradIdeal.nD Cert.FfnInWgradIdeal.τ Cert.FfnInWgradIdeal.sig) → Buf (Elt Ideal) ℓ) (g : Dev Cert.FfnInWgradIdeal.nD → PrngReg)
    (m' : (ℓ : Loc Cert.FfnInWgradRefIdeal.nD Cert.FfnInWgradRefIdeal.τ Cert.FfnInWgradRefIdeal.sig) → Buf (Elt Ideal) ℓ) (g' : Dev Cert.FfnInWgradRefIdeal.nD → PrngReg), Pre_FfnInWgradIdeal m →
    (∀ c : Dev Cert.FfnInWgradIdeal.nD,
      m' ((c.tc : Thread Cert.FfnInWgradRefIdeal.nD Cert.FfnInWgradRefIdeal.τ).loc Cert.FfnInWgradRefIdeal.main_arg0) = m ((c.tc : Thread Cert.FfnInWgradIdeal.nD Cert.FfnInWgradIdeal.τ).loc Cert.FfnInWgradIdeal.main_arg0)
      ∧ m' ((c.tc : Thread Cert.FfnInWgradRefIdeal.nD Cert.FfnInWgradRefIdeal.τ).loc Cert.FfnInWgradRefIdeal.main_arg1) = m ((c.tc : Thread Cert.FfnInWgradIdeal.nD Cert.FfnInWgradIdeal.τ).loc Cert.FfnInWgradIdeal.main_arg1)) →
    ∃ (v0 : (c : Dev Cert.FfnInWgradIdeal.nD) → Buf (Elt Ideal) ((c.tc : Thread Cert.FfnInWgradIdeal.nD Cert.FfnInWgradIdeal.τ).loc Cert.FfnInWgradIdeal.main_v7)),
      θ_run (Cert.FfnInWgradIdeal.defs (F := Ideal)) (onTc (τ := Cert.FfnInWgradIdeal.τ) (Cert.FfnInWgradIdeal.main (F := Ideal))) ⟨m, fun _ => 0, g⟩ (fun r => ∀ c : Dev Cert.FfnInWgradIdeal.nD,
          r.2.mem ((c.tc : Thread Cert.FfnInWgradIdeal.nD Cert.FfnInWgradIdeal.τ).loc Cert.FfnInWgradIdeal.main_v7) = v0 c
          ∧ r.2.mem ((c.tc : Thread Cert.FfnInWgradIdeal.nD Cert.FfnInWgradIdeal.τ).loc Cert.FfnInWgradIdeal.main_arg0) = m ((c.tc : Thread Cert.FfnInWgradIdeal.nD Cert.FfnInWgradIdeal.τ).loc Cert.FfnInWgradIdeal.main_arg0)
          ∧ r.2.mem ((c.tc : Thread Cert.FfnInWgradIdeal.nD Cert.FfnInWgradIdeal.τ).loc Cert.FfnInWgradIdeal.main_arg1) = m ((c.tc : Thread Cert.FfnInWgradIdeal.nD Cert.FfnInWgradIdeal.τ).loc Cert.FfnInWgradIdeal.main_arg1))
      ∧ θ_run (Cert.FfnInWgradRefIdeal.defs (F := Ideal)) (onTc (τ := Cert.FfnInWgradRefIdeal.τ) (Cert.FfnInWgradRefIdeal.main (F := Ideal))) ⟨m', fun _ => 0, g'⟩ (fun r => ∀ c : Dev Cert.FfnInWgradRefIdeal.nD,
          r.2.mem ((c.tc : Thread Cert.FfnInWgradRefIdeal.nD Cert.FfnInWgradRefIdeal.τ).loc Cert.FfnInWgradRefIdeal.main_v5) = v0 c
          ∧ r.2.mem ((c.tc : Thread Cert.FfnInWgradRefIdeal.nD Cert.FfnInWgradRefIdeal.τ).loc Cert.FfnInWgradRefIdeal.main_arg0) = m' ((c.tc : Thread Cert.FfnInWgradRefIdeal.nD Cert.FfnInWgradRefIdeal.τ).loc Cert.FfnInWgradRefIdeal.main_arg0)
          ∧ r.2.mem ((c.tc : Thread Cert.FfnInWgradRefIdeal.nD Cert.FfnInWgradRefIdeal.τ).loc Cert.FfnInWgradRefIdeal.main_arg1) = m' ((c.tc : Thread Cert.FfnInWgradRefIdeal.nD Cert.FfnInWgradRefIdeal.τ).loc Cert.FfnInWgradRefIdeal.main_arg1))

def preserves_MixInDgrad_MixInDgradIdeal : Prop :=
  True

def algebraic_MixInDgradIdeal_MixInDgradRefIdeal [hMixInDgradIdeal : Cert.MixInDgradIdeal.Facts] [hMixInDgradRefIdeal : Cert.MixInDgradRefIdeal.Facts] : Prop :=
  ∀ (m : (ℓ : Loc Cert.MixInDgradIdeal.nD Cert.MixInDgradIdeal.τ Cert.MixInDgradIdeal.sig) → Buf (Elt Ideal) ℓ) (g : Dev Cert.MixInDgradIdeal.nD → PrngReg)
    (m' : (ℓ : Loc Cert.MixInDgradRefIdeal.nD Cert.MixInDgradRefIdeal.τ Cert.MixInDgradRefIdeal.sig) → Buf (Elt Ideal) ℓ) (g' : Dev Cert.MixInDgradRefIdeal.nD → PrngReg), Pre_MixInDgradIdeal m →
    (∀ c : Dev Cert.MixInDgradIdeal.nD,
      m' ((c.tc : Thread Cert.MixInDgradRefIdeal.nD Cert.MixInDgradRefIdeal.τ).loc Cert.MixInDgradRefIdeal.main_arg0) = m ((c.tc : Thread Cert.MixInDgradIdeal.nD Cert.MixInDgradIdeal.τ).loc Cert.MixInDgradIdeal.main_arg0)
      ∧ m' ((c.tc : Thread Cert.MixInDgradRefIdeal.nD Cert.MixInDgradRefIdeal.τ).loc Cert.MixInDgradRefIdeal.main_arg1) = m ((c.tc : Thread Cert.MixInDgradIdeal.nD Cert.MixInDgradIdeal.τ).loc Cert.MixInDgradIdeal.main_arg1)
      ∧ m' ((c.tc : Thread Cert.MixInDgradRefIdeal.nD Cert.MixInDgradRefIdeal.τ).loc Cert.MixInDgradRefIdeal.main_arg2) = m ((c.tc : Thread Cert.MixInDgradIdeal.nD Cert.MixInDgradIdeal.τ).loc Cert.MixInDgradIdeal.main_arg2)
      ∧ m' ((c.tc : Thread Cert.MixInDgradRefIdeal.nD Cert.MixInDgradRefIdeal.τ).loc Cert.MixInDgradRefIdeal.main_arg3) = m ((c.tc : Thread Cert.MixInDgradIdeal.nD Cert.MixInDgradIdeal.τ).loc Cert.MixInDgradIdeal.main_arg3)
      ∧ m' ((c.tc : Thread Cert.MixInDgradRefIdeal.nD Cert.MixInDgradRefIdeal.τ).loc Cert.MixInDgradRefIdeal.main_arg4) = m ((c.tc : Thread Cert.MixInDgradIdeal.nD Cert.MixInDgradIdeal.τ).loc Cert.MixInDgradIdeal.main_arg4)) →
    ∃ (v0 : (c : Dev Cert.MixInDgradIdeal.nD) → Buf (Elt Ideal) ((c.tc : Thread Cert.MixInDgradIdeal.nD Cert.MixInDgradIdeal.τ).loc Cert.MixInDgradIdeal.main_v3_0)) (v1 : (c : Dev Cert.MixInDgradIdeal.nD) → Buf (Elt Ideal) ((c.tc : Thread Cert.MixInDgradIdeal.nD Cert.MixInDgradIdeal.τ).loc Cert.MixInDgradIdeal.main_v3_1)) (v2 : (c : Dev Cert.MixInDgradIdeal.nD) → Buf (Elt Ideal) ((c.tc : Thread Cert.MixInDgradIdeal.nD Cert.MixInDgradIdeal.τ).loc Cert.MixInDgradIdeal.main_v3_2)),
      θ_run (Cert.MixInDgradIdeal.defs (F := Ideal)) (onTc (τ := Cert.MixInDgradIdeal.τ) (Cert.MixInDgradIdeal.main (F := Ideal))) ⟨m, fun _ => 0, g⟩ (fun r => ∀ c : Dev Cert.MixInDgradIdeal.nD,
          r.2.mem ((c.tc : Thread Cert.MixInDgradIdeal.nD Cert.MixInDgradIdeal.τ).loc Cert.MixInDgradIdeal.main_v3_0) = v0 c
          ∧ r.2.mem ((c.tc : Thread Cert.MixInDgradIdeal.nD Cert.MixInDgradIdeal.τ).loc Cert.MixInDgradIdeal.main_v3_1) = v1 c
          ∧ r.2.mem ((c.tc : Thread Cert.MixInDgradIdeal.nD Cert.MixInDgradIdeal.τ).loc Cert.MixInDgradIdeal.main_v3_2) = v2 c
          ∧ r.2.mem ((c.tc : Thread Cert.MixInDgradIdeal.nD Cert.MixInDgradIdeal.τ).loc Cert.MixInDgradIdeal.main_arg0) = m ((c.tc : Thread Cert.MixInDgradIdeal.nD Cert.MixInDgradIdeal.τ).loc Cert.MixInDgradIdeal.main_arg0)
          ∧ r.2.mem ((c.tc : Thread Cert.MixInDgradIdeal.nD Cert.MixInDgradIdeal.τ).loc Cert.MixInDgradIdeal.main_arg1) = m ((c.tc : Thread Cert.MixInDgradIdeal.nD Cert.MixInDgradIdeal.τ).loc Cert.MixInDgradIdeal.main_arg1)
          ∧ r.2.mem ((c.tc : Thread Cert.MixInDgradIdeal.nD Cert.MixInDgradIdeal.τ).loc Cert.MixInDgradIdeal.main_arg2) = m ((c.tc : Thread Cert.MixInDgradIdeal.nD Cert.MixInDgradIdeal.τ).loc Cert.MixInDgradIdeal.main_arg2)
          ∧ r.2.mem ((c.tc : Thread Cert.MixInDgradIdeal.nD Cert.MixInDgradIdeal.τ).loc Cert.MixInDgradIdeal.main_arg3) = m ((c.tc : Thread Cert.MixInDgradIdeal.nD Cert.MixInDgradIdeal.τ).loc Cert.MixInDgradIdeal.main_arg3)
          ∧ r.2.mem ((c.tc : Thread Cert.MixInDgradIdeal.nD Cert.MixInDgradIdeal.τ).loc Cert.MixInDgradIdeal.main_arg4) = m ((c.tc : Thread Cert.MixInDgradIdeal.nD Cert.MixInDgradIdeal.τ).loc Cert.MixInDgradIdeal.main_arg4))
      ∧ θ_run (Cert.MixInDgradRefIdeal.defs (F := Ideal)) (onTc (τ := Cert.MixInDgradRefIdeal.τ) (Cert.MixInDgradRefIdeal.main (F := Ideal))) ⟨m', fun _ => 0, g'⟩ (fun r => ∀ c : Dev Cert.MixInDgradRefIdeal.nD,
          r.2.mem ((c.tc : Thread Cert.MixInDgradRefIdeal.nD Cert.MixInDgradRefIdeal.τ).loc Cert.MixInDgradRefIdeal.main_v36) = v0 c
          ∧ r.2.mem ((c.tc : Thread Cert.MixInDgradRefIdeal.nD Cert.MixInDgradRefIdeal.τ).loc Cert.MixInDgradRefIdeal.main_v37) = v1 c
          ∧ r.2.mem ((c.tc : Thread Cert.MixInDgradRefIdeal.nD Cert.MixInDgradRefIdeal.τ).loc Cert.MixInDgradRefIdeal.main_v19) = v2 c
          ∧ r.2.mem ((c.tc : Thread Cert.MixInDgradRefIdeal.nD Cert.MixInDgradRefIdeal.τ).loc Cert.MixInDgradRefIdeal.main_arg0) = m' ((c.tc : Thread Cert.MixInDgradRefIdeal.nD Cert.MixInDgradRefIdeal.τ).loc Cert.MixInDgradRefIdeal.main_arg0)
          ∧ r.2.mem ((c.tc : Thread Cert.MixInDgradRefIdeal.nD Cert.MixInDgradRefIdeal.τ).loc Cert.MixInDgradRefIdeal.main_arg1) = m' ((c.tc : Thread Cert.MixInDgradRefIdeal.nD Cert.MixInDgradRefIdeal.τ).loc Cert.MixInDgradRefIdeal.main_arg1)
          ∧ r.2.mem ((c.tc : Thread Cert.MixInDgradRefIdeal.nD Cert.MixInDgradRefIdeal.τ).loc Cert.MixInDgradRefIdeal.main_arg2) = m' ((c.tc : Thread Cert.MixInDgradRefIdeal.nD Cert.MixInDgradRefIdeal.τ).loc Cert.MixInDgradRefIdeal.main_arg2)
          ∧ r.2.mem ((c.tc : Thread Cert.MixInDgradRefIdeal.nD Cert.MixInDgradRefIdeal.τ).loc Cert.MixInDgradRefIdeal.main_arg3) = m' ((c.tc : Thread Cert.MixInDgradRefIdeal.nD Cert.MixInDgradRefIdeal.τ).loc Cert.MixInDgradRefIdeal.main_arg3)
          ∧ r.2.mem ((c.tc : Thread Cert.MixInDgradRefIdeal.nD Cert.MixInDgradRefIdeal.τ).loc Cert.MixInDgradRefIdeal.main_arg4) = m' ((c.tc : Thread Cert.MixInDgradRefIdeal.nD Cert.MixInDgradRefIdeal.τ).loc Cert.MixInDgradRefIdeal.main_arg4))

def preserves_MixInWgrad_MixInWgradIdeal : Prop :=
  True

def algebraic_MixInWgradIdeal_MixInWgradRefIdeal [hMixInWgradIdeal : Cert.MixInWgradIdeal.Facts] [hMixInWgradRefIdeal : Cert.MixInWgradRefIdeal.Facts] : Prop :=
  ∀ (m : (ℓ : Loc Cert.MixInWgradIdeal.nD Cert.MixInWgradIdeal.τ Cert.MixInWgradIdeal.sig) → Buf (Elt Ideal) ℓ) (g : Dev Cert.MixInWgradIdeal.nD → PrngReg)
    (m' : (ℓ : Loc Cert.MixInWgradRefIdeal.nD Cert.MixInWgradRefIdeal.τ Cert.MixInWgradRefIdeal.sig) → Buf (Elt Ideal) ℓ) (g' : Dev Cert.MixInWgradRefIdeal.nD → PrngReg), Pre_MixInWgradIdeal m →
    (∀ c : Dev Cert.MixInWgradIdeal.nD,
      m' ((c.tc : Thread Cert.MixInWgradRefIdeal.nD Cert.MixInWgradRefIdeal.τ).loc Cert.MixInWgradRefIdeal.main_arg0) = m ((c.tc : Thread Cert.MixInWgradIdeal.nD Cert.MixInWgradIdeal.τ).loc Cert.MixInWgradIdeal.main_arg0)
      ∧ m' ((c.tc : Thread Cert.MixInWgradRefIdeal.nD Cert.MixInWgradRefIdeal.τ).loc Cert.MixInWgradRefIdeal.main_arg1) = m ((c.tc : Thread Cert.MixInWgradIdeal.nD Cert.MixInWgradIdeal.τ).loc Cert.MixInWgradIdeal.main_arg1)) →
    ∃ (v0 : (c : Dev Cert.MixInWgradIdeal.nD) → Buf (Elt Ideal) ((c.tc : Thread Cert.MixInWgradIdeal.nD Cert.MixInWgradIdeal.τ).loc Cert.MixInWgradIdeal.main_v2)),
      θ_run (Cert.MixInWgradIdeal.defs (F := Ideal)) (onTc (τ := Cert.MixInWgradIdeal.τ) (Cert.MixInWgradIdeal.main (F := Ideal))) ⟨m, fun _ => 0, g⟩ (fun r => ∀ c : Dev Cert.MixInWgradIdeal.nD,
          r.2.mem ((c.tc : Thread Cert.MixInWgradIdeal.nD Cert.MixInWgradIdeal.τ).loc Cert.MixInWgradIdeal.main_v2) = v0 c
          ∧ r.2.mem ((c.tc : Thread Cert.MixInWgradIdeal.nD Cert.MixInWgradIdeal.τ).loc Cert.MixInWgradIdeal.main_arg0) = m ((c.tc : Thread Cert.MixInWgradIdeal.nD Cert.MixInWgradIdeal.τ).loc Cert.MixInWgradIdeal.main_arg0)
          ∧ r.2.mem ((c.tc : Thread Cert.MixInWgradIdeal.nD Cert.MixInWgradIdeal.τ).loc Cert.MixInWgradIdeal.main_arg1) = m ((c.tc : Thread Cert.MixInWgradIdeal.nD Cert.MixInWgradIdeal.τ).loc Cert.MixInWgradIdeal.main_arg1))
      ∧ θ_run (Cert.MixInWgradRefIdeal.defs (F := Ideal)) (onTc (τ := Cert.MixInWgradRefIdeal.τ) (Cert.MixInWgradRefIdeal.main (F := Ideal))) ⟨m', fun _ => 0, g'⟩ (fun r => ∀ c : Dev Cert.MixInWgradRefIdeal.nD,
          r.2.mem ((c.tc : Thread Cert.MixInWgradRefIdeal.nD Cert.MixInWgradRefIdeal.τ).loc Cert.MixInWgradRefIdeal.main_v5) = v0 c
          ∧ r.2.mem ((c.tc : Thread Cert.MixInWgradRefIdeal.nD Cert.MixInWgradRefIdeal.τ).loc Cert.MixInWgradRefIdeal.main_arg0) = m' ((c.tc : Thread Cert.MixInWgradRefIdeal.nD Cert.MixInWgradRefIdeal.τ).loc Cert.MixInWgradRefIdeal.main_arg0)
          ∧ r.2.mem ((c.tc : Thread Cert.MixInWgradRefIdeal.nD Cert.MixInWgradRefIdeal.τ).loc Cert.MixInWgradRefIdeal.main_arg1) = m' ((c.tc : Thread Cert.MixInWgradRefIdeal.nD Cert.MixInWgradRefIdeal.τ).loc Cert.MixInWgradRefIdeal.main_arg1))

def preserves_HgrnOut_HgrnOutIdeal : Prop :=
  True

def algebraic_HgrnOutIdeal_HgrnOutRefIdeal [hHgrnOutIdeal : Cert.HgrnOutIdeal.Facts] [hHgrnOutRefIdeal : Cert.HgrnOutRefIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg)
    (m' : (ℓ : Loc Cert.HgrnOutRefIdeal.nD Cert.HgrnOutRefIdeal.τ Cert.HgrnOutRefIdeal.sig) → Buf (Elt Ideal) ℓ) (g' : Dev Cert.HgrnOutRefIdeal.nD → PrngReg), Pre_HgrnOutIdeal m →
    (∀ c : Dev Cert.HgrnOutIdeal.nD,
      m' ((c.tc : Thread Cert.HgrnOutRefIdeal.nD Cert.HgrnOutRefIdeal.τ).loc Cert.HgrnOutRefIdeal.main_arg0) = m ((c.tc : Thread Cert.HgrnOutIdeal.nD Cert.HgrnOutIdeal.τ).loc Cert.HgrnOutIdeal.main_arg0)
      ∧ m' ((c.tc : Thread Cert.HgrnOutRefIdeal.nD Cert.HgrnOutRefIdeal.τ).loc Cert.HgrnOutRefIdeal.main_arg1) = m ((c.tc : Thread Cert.HgrnOutIdeal.nD Cert.HgrnOutIdeal.τ).loc Cert.HgrnOutIdeal.main_arg1)
      ∧ m' ((c.tc : Thread Cert.HgrnOutRefIdeal.nD Cert.HgrnOutRefIdeal.τ).loc Cert.HgrnOutRefIdeal.main_arg2) = m ((c.tc : Thread Cert.HgrnOutIdeal.nD Cert.HgrnOutIdeal.τ).loc Cert.HgrnOutIdeal.main_arg2)) →
    ∃ (v0 : (c : Dev Cert.HgrnOutIdeal.nD) → Buf (Elt Ideal) ((c.tc : Thread Cert.HgrnOutIdeal.nD Cert.HgrnOutIdeal.τ).loc Cert.HgrnOutIdeal.main_v2)),
      θ_run (Cert.HgrnOutIdeal.defs (F := Ideal)) (onTc (τ := Cert.HgrnOutIdeal.τ) (Cert.HgrnOutIdeal.main (F := Ideal))) ⟨m, fun _ => 0, g⟩ (fun r => ∀ c : Dev Cert.HgrnOutIdeal.nD,
          r.2.mem ((c.tc : Thread Cert.HgrnOutIdeal.nD Cert.HgrnOutIdeal.τ).loc Cert.HgrnOutIdeal.main_v2) = v0 c
          ∧ r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
          ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
          ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2))
      ∧ θ_run (Cert.HgrnOutRefIdeal.defs (F := Ideal)) (onTc (τ := Cert.HgrnOutRefIdeal.τ) (Cert.HgrnOutRefIdeal.main (F := Ideal))) ⟨m', fun _ => 0, g'⟩ (fun r => ∀ c : Dev Cert.HgrnOutRefIdeal.nD,
          r.2.mem ((c.tc : Thread Cert.HgrnOutRefIdeal.nD Cert.HgrnOutRefIdeal.τ).loc Cert.HgrnOutRefIdeal.main_v1) = v0 c
          ∧ r.2.mem ((c.tc : Thread Cert.HgrnOutRefIdeal.nD Cert.HgrnOutRefIdeal.τ).loc Cert.HgrnOutRefIdeal.main_arg0) = m' ((c.tc : Thread Cert.HgrnOutRefIdeal.nD Cert.HgrnOutRefIdeal.τ).loc Cert.HgrnOutRefIdeal.main_arg0)
          ∧ r.2.mem ((c.tc : Thread Cert.HgrnOutRefIdeal.nD Cert.HgrnOutRefIdeal.τ).loc Cert.HgrnOutRefIdeal.main_arg1) = m' ((c.tc : Thread Cert.HgrnOutRefIdeal.nD Cert.HgrnOutRefIdeal.τ).loc Cert.HgrnOutRefIdeal.main_arg1)
          ∧ r.2.mem ((c.tc : Thread Cert.HgrnOutRefIdeal.nD Cert.HgrnOutRefIdeal.τ).loc Cert.HgrnOutRefIdeal.main_arg2) = m' ((c.tc : Thread Cert.HgrnOutRefIdeal.nD Cert.HgrnOutRefIdeal.τ).loc Cert.HgrnOutRefIdeal.main_arg2))

def preserves_HgrnOutWgrad_HgrnOutWgradIdeal : Prop :=
  True

def algebraic_HgrnOutWgradIdeal_HgrnOutWgradRefIdeal [hHgrnOutWgradIdeal : Cert.HgrnOutWgradIdeal.Facts] [hHgrnOutWgradRefIdeal : Cert.HgrnOutWgradRefIdeal.Facts] : Prop :=
  ∀ (m : (ℓ : Loc Cert.HgrnOutWgradIdeal.nD Cert.HgrnOutWgradIdeal.τ Cert.HgrnOutWgradIdeal.sig) → Buf (Elt Ideal) ℓ) (g : Dev Cert.HgrnOutWgradIdeal.nD → PrngReg)
    (m' : (ℓ : Loc Cert.HgrnOutWgradRefIdeal.nD Cert.HgrnOutWgradRefIdeal.τ Cert.HgrnOutWgradRefIdeal.sig) → Buf (Elt Ideal) ℓ) (g' : Dev Cert.HgrnOutWgradRefIdeal.nD → PrngReg), Pre_HgrnOutWgradIdeal m →
    (∀ c : Dev Cert.HgrnOutWgradIdeal.nD,
      m' ((c.tc : Thread Cert.HgrnOutWgradRefIdeal.nD Cert.HgrnOutWgradRefIdeal.τ).loc Cert.HgrnOutWgradRefIdeal.main_arg0) = m ((c.tc : Thread Cert.HgrnOutWgradIdeal.nD Cert.HgrnOutWgradIdeal.τ).loc Cert.HgrnOutWgradIdeal.main_arg0)
      ∧ m' ((c.tc : Thread Cert.HgrnOutWgradRefIdeal.nD Cert.HgrnOutWgradRefIdeal.τ).loc Cert.HgrnOutWgradRefIdeal.main_arg1) = m ((c.tc : Thread Cert.HgrnOutWgradIdeal.nD Cert.HgrnOutWgradIdeal.τ).loc Cert.HgrnOutWgradIdeal.main_arg1)) →
    ∃ (v0 : (c : Dev Cert.HgrnOutWgradIdeal.nD) → Buf (Elt Ideal) ((c.tc : Thread Cert.HgrnOutWgradIdeal.nD Cert.HgrnOutWgradIdeal.τ).loc Cert.HgrnOutWgradIdeal.main_v2)),
      θ_run (Cert.HgrnOutWgradIdeal.defs (F := Ideal)) (onTc (τ := Cert.HgrnOutWgradIdeal.τ) (Cert.HgrnOutWgradIdeal.main (F := Ideal))) ⟨m, fun _ => 0, g⟩ (fun r => ∀ c : Dev Cert.HgrnOutWgradIdeal.nD,
          r.2.mem ((c.tc : Thread Cert.HgrnOutWgradIdeal.nD Cert.HgrnOutWgradIdeal.τ).loc Cert.HgrnOutWgradIdeal.main_v2) = v0 c
          ∧ r.2.mem ((c.tc : Thread Cert.HgrnOutWgradIdeal.nD Cert.HgrnOutWgradIdeal.τ).loc Cert.HgrnOutWgradIdeal.main_arg0) = m ((c.tc : Thread Cert.HgrnOutWgradIdeal.nD Cert.HgrnOutWgradIdeal.τ).loc Cert.HgrnOutWgradIdeal.main_arg0)
          ∧ r.2.mem ((c.tc : Thread Cert.HgrnOutWgradIdeal.nD Cert.HgrnOutWgradIdeal.τ).loc Cert.HgrnOutWgradIdeal.main_arg1) = m ((c.tc : Thread Cert.HgrnOutWgradIdeal.nD Cert.HgrnOutWgradIdeal.τ).loc Cert.HgrnOutWgradIdeal.main_arg1))
      ∧ θ_run (Cert.HgrnOutWgradRefIdeal.defs (F := Ideal)) (onTc (τ := Cert.HgrnOutWgradRefIdeal.τ) (Cert.HgrnOutWgradRefIdeal.main (F := Ideal))) ⟨m', fun _ => 0, g'⟩ (fun r => ∀ c : Dev Cert.HgrnOutWgradRefIdeal.nD,
          r.2.mem ((c.tc : Thread Cert.HgrnOutWgradRefIdeal.nD Cert.HgrnOutWgradRefIdeal.τ).loc Cert.HgrnOutWgradRefIdeal.main_v4) = v0 c
          ∧ r.2.mem ((c.tc : Thread Cert.HgrnOutWgradRefIdeal.nD Cert.HgrnOutWgradRefIdeal.τ).loc Cert.HgrnOutWgradRefIdeal.main_arg0) = m' ((c.tc : Thread Cert.HgrnOutWgradRefIdeal.nD Cert.HgrnOutWgradRefIdeal.τ).loc Cert.HgrnOutWgradRefIdeal.main_arg0)
          ∧ r.2.mem ((c.tc : Thread Cert.HgrnOutWgradRefIdeal.nD Cert.HgrnOutWgradRefIdeal.τ).loc Cert.HgrnOutWgradRefIdeal.main_arg1) = m' ((c.tc : Thread Cert.HgrnOutWgradRefIdeal.nD Cert.HgrnOutWgradRefIdeal.τ).loc Cert.HgrnOutWgradRefIdeal.main_arg1))

def preserves_HgrnOutDgrad_HgrnOutDgradIdeal : Prop :=
  True

def algebraic_HgrnOutDgradIdeal_HgrnOutDgradRefIdeal [hHgrnOutDgradIdeal : Cert.HgrnOutDgradIdeal.Facts] [hHgrnOutDgradRefIdeal : Cert.HgrnOutDgradRefIdeal.Facts] : Prop :=
  ∀ (m : (ℓ : Loc Cert.HgrnOutDgradIdeal.nD Cert.HgrnOutDgradIdeal.τ Cert.HgrnOutDgradIdeal.sig) → Buf (Elt Ideal) ℓ) (g : Dev Cert.HgrnOutDgradIdeal.nD → PrngReg)
    (m' : (ℓ : Loc Cert.HgrnOutDgradRefIdeal.nD Cert.HgrnOutDgradRefIdeal.τ Cert.HgrnOutDgradRefIdeal.sig) → Buf (Elt Ideal) ℓ) (g' : Dev Cert.HgrnOutDgradRefIdeal.nD → PrngReg), Pre_HgrnOutDgradIdeal m →
    (∀ c : Dev Cert.HgrnOutDgradIdeal.nD,
      m' ((c.tc : Thread Cert.HgrnOutDgradRefIdeal.nD Cert.HgrnOutDgradRefIdeal.τ).loc Cert.HgrnOutDgradRefIdeal.main_arg0) = m ((c.tc : Thread Cert.HgrnOutDgradIdeal.nD Cert.HgrnOutDgradIdeal.τ).loc Cert.HgrnOutDgradIdeal.main_arg0)
      ∧ m' ((c.tc : Thread Cert.HgrnOutDgradRefIdeal.nD Cert.HgrnOutDgradRefIdeal.τ).loc Cert.HgrnOutDgradRefIdeal.main_arg1) = m ((c.tc : Thread Cert.HgrnOutDgradIdeal.nD Cert.HgrnOutDgradIdeal.τ).loc Cert.HgrnOutDgradIdeal.main_arg1)) →
    ∃ (v0 : (c : Dev Cert.HgrnOutDgradIdeal.nD) → Buf (Elt Ideal) ((c.tc : Thread Cert.HgrnOutDgradIdeal.nD Cert.HgrnOutDgradIdeal.τ).loc Cert.HgrnOutDgradIdeal.main_v2)),
      θ_run (Cert.HgrnOutDgradIdeal.defs (F := Ideal)) (onTc (τ := Cert.HgrnOutDgradIdeal.τ) (Cert.HgrnOutDgradIdeal.main (F := Ideal))) ⟨m, fun _ => 0, g⟩ (fun r => ∀ c : Dev Cert.HgrnOutDgradIdeal.nD,
          r.2.mem ((c.tc : Thread Cert.HgrnOutDgradIdeal.nD Cert.HgrnOutDgradIdeal.τ).loc Cert.HgrnOutDgradIdeal.main_v2) = v0 c
          ∧ r.2.mem ((c.tc : Thread Cert.HgrnOutDgradIdeal.nD Cert.HgrnOutDgradIdeal.τ).loc Cert.HgrnOutDgradIdeal.main_arg0) = m ((c.tc : Thread Cert.HgrnOutDgradIdeal.nD Cert.HgrnOutDgradIdeal.τ).loc Cert.HgrnOutDgradIdeal.main_arg0)
          ∧ r.2.mem ((c.tc : Thread Cert.HgrnOutDgradIdeal.nD Cert.HgrnOutDgradIdeal.τ).loc Cert.HgrnOutDgradIdeal.main_arg1) = m ((c.tc : Thread Cert.HgrnOutDgradIdeal.nD Cert.HgrnOutDgradIdeal.τ).loc Cert.HgrnOutDgradIdeal.main_arg1))
      ∧ θ_run (Cert.HgrnOutDgradRefIdeal.defs (F := Ideal)) (onTc (τ := Cert.HgrnOutDgradRefIdeal.τ) (Cert.HgrnOutDgradRefIdeal.main (F := Ideal))) ⟨m', fun _ => 0, g'⟩ (fun r => ∀ c : Dev Cert.HgrnOutDgradRefIdeal.nD,
          r.2.mem ((c.tc : Thread Cert.HgrnOutDgradRefIdeal.nD Cert.HgrnOutDgradRefIdeal.τ).loc Cert.HgrnOutDgradRefIdeal.main_v2) = v0 c
          ∧ r.2.mem ((c.tc : Thread Cert.HgrnOutDgradRefIdeal.nD Cert.HgrnOutDgradRefIdeal.τ).loc Cert.HgrnOutDgradRefIdeal.main_arg0) = m' ((c.tc : Thread Cert.HgrnOutDgradRefIdeal.nD Cert.HgrnOutDgradRefIdeal.τ).loc Cert.HgrnOutDgradRefIdeal.main_arg0)
          ∧ r.2.mem ((c.tc : Thread Cert.HgrnOutDgradRefIdeal.nD Cert.HgrnOutDgradRefIdeal.τ).loc Cert.HgrnOutDgradRefIdeal.main_arg1) = m' ((c.tc : Thread Cert.HgrnOutDgradRefIdeal.nD Cert.HgrnOutDgradRefIdeal.τ).loc Cert.HgrnOutDgradRefIdeal.main_arg1))

def preserves_GmlpOut_GmlpOutIdeal : Prop :=
  True

def algebraic_GmlpOutIdeal_GmlpOutRefIdeal [hGmlpOutIdeal : Cert.GmlpOutIdeal.Facts] [hGmlpOutRefIdeal : Cert.GmlpOutRefIdeal.Facts] : Prop :=
  ∀ (m : (ℓ : Loc Cert.GmlpOutIdeal.nD Cert.GmlpOutIdeal.τ Cert.GmlpOutIdeal.sig) → Buf (Elt Ideal) ℓ) (g : Dev Cert.GmlpOutIdeal.nD → PrngReg)
    (m' : (ℓ : Loc Cert.GmlpOutRefIdeal.nD Cert.GmlpOutRefIdeal.τ Cert.GmlpOutRefIdeal.sig) → Buf (Elt Ideal) ℓ) (g' : Dev Cert.GmlpOutRefIdeal.nD → PrngReg), Pre_GmlpOutIdeal m →
    (∀ c : Dev Cert.GmlpOutIdeal.nD,
      m' ((c.tc : Thread Cert.GmlpOutRefIdeal.nD Cert.GmlpOutRefIdeal.τ).loc Cert.GmlpOutRefIdeal.main_arg0) = m ((c.tc : Thread Cert.GmlpOutIdeal.nD Cert.GmlpOutIdeal.τ).loc Cert.GmlpOutIdeal.main_arg0)
      ∧ m' ((c.tc : Thread Cert.GmlpOutRefIdeal.nD Cert.GmlpOutRefIdeal.τ).loc Cert.GmlpOutRefIdeal.main_arg1) = m ((c.tc : Thread Cert.GmlpOutIdeal.nD Cert.GmlpOutIdeal.τ).loc Cert.GmlpOutIdeal.main_arg1)
      ∧ m' ((c.tc : Thread Cert.GmlpOutRefIdeal.nD Cert.GmlpOutRefIdeal.τ).loc Cert.GmlpOutRefIdeal.main_arg2) = m ((c.tc : Thread Cert.GmlpOutIdeal.nD Cert.GmlpOutIdeal.τ).loc Cert.GmlpOutIdeal.main_arg2)) →
    ∃ (v0 : (c : Dev Cert.GmlpOutIdeal.nD) → Buf (Elt Ideal) ((c.tc : Thread Cert.GmlpOutIdeal.nD Cert.GmlpOutIdeal.τ).loc Cert.GmlpOutIdeal.main_v2)),
      θ_run (Cert.GmlpOutIdeal.defs (F := Ideal)) (onTc (τ := Cert.GmlpOutIdeal.τ) (Cert.GmlpOutIdeal.main (F := Ideal))) ⟨m, fun _ => 0, g⟩ (fun r => ∀ c : Dev Cert.GmlpOutIdeal.nD,
          r.2.mem ((c.tc : Thread Cert.GmlpOutIdeal.nD Cert.GmlpOutIdeal.τ).loc Cert.GmlpOutIdeal.main_v2) = v0 c
          ∧ r.2.mem ((c.tc : Thread Cert.GmlpOutIdeal.nD Cert.GmlpOutIdeal.τ).loc Cert.GmlpOutIdeal.main_arg0) = m ((c.tc : Thread Cert.GmlpOutIdeal.nD Cert.GmlpOutIdeal.τ).loc Cert.GmlpOutIdeal.main_arg0)
          ∧ r.2.mem ((c.tc : Thread Cert.GmlpOutIdeal.nD Cert.GmlpOutIdeal.τ).loc Cert.GmlpOutIdeal.main_arg1) = m ((c.tc : Thread Cert.GmlpOutIdeal.nD Cert.GmlpOutIdeal.τ).loc Cert.GmlpOutIdeal.main_arg1)
          ∧ r.2.mem ((c.tc : Thread Cert.GmlpOutIdeal.nD Cert.GmlpOutIdeal.τ).loc Cert.GmlpOutIdeal.main_arg2) = m ((c.tc : Thread Cert.GmlpOutIdeal.nD Cert.GmlpOutIdeal.τ).loc Cert.GmlpOutIdeal.main_arg2))
      ∧ θ_run (Cert.GmlpOutRefIdeal.defs (F := Ideal)) (onTc (τ := Cert.GmlpOutRefIdeal.τ) (Cert.GmlpOutRefIdeal.main (F := Ideal))) ⟨m', fun _ => 0, g'⟩ (fun r => ∀ c : Dev Cert.GmlpOutRefIdeal.nD,
          r.2.mem ((c.tc : Thread Cert.GmlpOutRefIdeal.nD Cert.GmlpOutRefIdeal.τ).loc Cert.GmlpOutRefIdeal.main_v1) = v0 c
          ∧ r.2.mem ((c.tc : Thread Cert.GmlpOutRefIdeal.nD Cert.GmlpOutRefIdeal.τ).loc Cert.GmlpOutRefIdeal.main_arg0) = m' ((c.tc : Thread Cert.GmlpOutRefIdeal.nD Cert.GmlpOutRefIdeal.τ).loc Cert.GmlpOutRefIdeal.main_arg0)
          ∧ r.2.mem ((c.tc : Thread Cert.GmlpOutRefIdeal.nD Cert.GmlpOutRefIdeal.τ).loc Cert.GmlpOutRefIdeal.main_arg1) = m' ((c.tc : Thread Cert.GmlpOutRefIdeal.nD Cert.GmlpOutRefIdeal.τ).loc Cert.GmlpOutRefIdeal.main_arg1)
          ∧ r.2.mem ((c.tc : Thread Cert.GmlpOutRefIdeal.nD Cert.GmlpOutRefIdeal.τ).loc Cert.GmlpOutRefIdeal.main_arg2) = m' ((c.tc : Thread Cert.GmlpOutRefIdeal.nD Cert.GmlpOutRefIdeal.τ).loc Cert.GmlpOutRefIdeal.main_arg2))

def preserves_GmlpOutWgrad_GmlpOutWgradIdeal : Prop :=
  True

def algebraic_GmlpOutWgradIdeal_GmlpOutWgradRefIdeal [hGmlpOutWgradIdeal : Cert.GmlpOutWgradIdeal.Facts] [hGmlpOutWgradRefIdeal : Cert.GmlpOutWgradRefIdeal.Facts] : Prop :=
  ∀ (m : (ℓ : Loc Cert.GmlpOutWgradIdeal.nD Cert.GmlpOutWgradIdeal.τ Cert.GmlpOutWgradIdeal.sig) → Buf (Elt Ideal) ℓ) (g : Dev Cert.GmlpOutWgradIdeal.nD → PrngReg)
    (m' : (ℓ : Loc Cert.GmlpOutWgradRefIdeal.nD Cert.GmlpOutWgradRefIdeal.τ Cert.GmlpOutWgradRefIdeal.sig) → Buf (Elt Ideal) ℓ) (g' : Dev Cert.GmlpOutWgradRefIdeal.nD → PrngReg), Pre_GmlpOutWgradIdeal m →
    (∀ c : Dev Cert.GmlpOutWgradIdeal.nD,
      m' ((c.tc : Thread Cert.GmlpOutWgradRefIdeal.nD Cert.GmlpOutWgradRefIdeal.τ).loc Cert.GmlpOutWgradRefIdeal.main_arg0) = m ((c.tc : Thread Cert.GmlpOutWgradIdeal.nD Cert.GmlpOutWgradIdeal.τ).loc Cert.GmlpOutWgradIdeal.main_arg0)
      ∧ m' ((c.tc : Thread Cert.GmlpOutWgradRefIdeal.nD Cert.GmlpOutWgradRefIdeal.τ).loc Cert.GmlpOutWgradRefIdeal.main_arg1) = m ((c.tc : Thread Cert.GmlpOutWgradIdeal.nD Cert.GmlpOutWgradIdeal.τ).loc Cert.GmlpOutWgradIdeal.main_arg1)) →
    ∃ (v0 : (c : Dev Cert.GmlpOutWgradIdeal.nD) → Buf (Elt Ideal) ((c.tc : Thread Cert.GmlpOutWgradIdeal.nD Cert.GmlpOutWgradIdeal.τ).loc Cert.GmlpOutWgradIdeal.main_v2)),
      θ_run (Cert.GmlpOutWgradIdeal.defs (F := Ideal)) (onTc (τ := Cert.GmlpOutWgradIdeal.τ) (Cert.GmlpOutWgradIdeal.main (F := Ideal))) ⟨m, fun _ => 0, g⟩ (fun r => ∀ c : Dev Cert.GmlpOutWgradIdeal.nD,
          r.2.mem ((c.tc : Thread Cert.GmlpOutWgradIdeal.nD Cert.GmlpOutWgradIdeal.τ).loc Cert.GmlpOutWgradIdeal.main_v2) = v0 c
          ∧ r.2.mem ((c.tc : Thread Cert.GmlpOutWgradIdeal.nD Cert.GmlpOutWgradIdeal.τ).loc Cert.GmlpOutWgradIdeal.main_arg0) = m ((c.tc : Thread Cert.GmlpOutWgradIdeal.nD Cert.GmlpOutWgradIdeal.τ).loc Cert.GmlpOutWgradIdeal.main_arg0)
          ∧ r.2.mem ((c.tc : Thread Cert.GmlpOutWgradIdeal.nD Cert.GmlpOutWgradIdeal.τ).loc Cert.GmlpOutWgradIdeal.main_arg1) = m ((c.tc : Thread Cert.GmlpOutWgradIdeal.nD Cert.GmlpOutWgradIdeal.τ).loc Cert.GmlpOutWgradIdeal.main_arg1))
      ∧ θ_run (Cert.GmlpOutWgradRefIdeal.defs (F := Ideal)) (onTc (τ := Cert.GmlpOutWgradRefIdeal.τ) (Cert.GmlpOutWgradRefIdeal.main (F := Ideal))) ⟨m', fun _ => 0, g'⟩ (fun r => ∀ c : Dev Cert.GmlpOutWgradRefIdeal.nD,
          r.2.mem ((c.tc : Thread Cert.GmlpOutWgradRefIdeal.nD Cert.GmlpOutWgradRefIdeal.τ).loc Cert.GmlpOutWgradRefIdeal.main_v4) = v0 c
          ∧ r.2.mem ((c.tc : Thread Cert.GmlpOutWgradRefIdeal.nD Cert.GmlpOutWgradRefIdeal.τ).loc Cert.GmlpOutWgradRefIdeal.main_arg0) = m' ((c.tc : Thread Cert.GmlpOutWgradRefIdeal.nD Cert.GmlpOutWgradRefIdeal.τ).loc Cert.GmlpOutWgradRefIdeal.main_arg0)
          ∧ r.2.mem ((c.tc : Thread Cert.GmlpOutWgradRefIdeal.nD Cert.GmlpOutWgradRefIdeal.τ).loc Cert.GmlpOutWgradRefIdeal.main_arg1) = m' ((c.tc : Thread Cert.GmlpOutWgradRefIdeal.nD Cert.GmlpOutWgradRefIdeal.τ).loc Cert.GmlpOutWgradRefIdeal.main_arg1))

def preserves_GmlpOutDgrad_GmlpOutDgradIdeal : Prop :=
  True

def algebraic_GmlpOutDgradIdeal_GmlpOutDgradRefIdeal [hGmlpOutDgradIdeal : Cert.GmlpOutDgradIdeal.Facts] [hGmlpOutDgradRefIdeal : Cert.GmlpOutDgradRefIdeal.Facts] : Prop :=
  ∀ (m : (ℓ : Loc Cert.GmlpOutDgradIdeal.nD Cert.GmlpOutDgradIdeal.τ Cert.GmlpOutDgradIdeal.sig) → Buf (Elt Ideal) ℓ) (g : Dev Cert.GmlpOutDgradIdeal.nD → PrngReg)
    (m' : (ℓ : Loc Cert.GmlpOutDgradRefIdeal.nD Cert.GmlpOutDgradRefIdeal.τ Cert.GmlpOutDgradRefIdeal.sig) → Buf (Elt Ideal) ℓ) (g' : Dev Cert.GmlpOutDgradRefIdeal.nD → PrngReg), Pre_GmlpOutDgradIdeal m →
    (∀ c : Dev Cert.GmlpOutDgradIdeal.nD,
      m' ((c.tc : Thread Cert.GmlpOutDgradRefIdeal.nD Cert.GmlpOutDgradRefIdeal.τ).loc Cert.GmlpOutDgradRefIdeal.main_arg0) = m ((c.tc : Thread Cert.GmlpOutDgradIdeal.nD Cert.GmlpOutDgradIdeal.τ).loc Cert.GmlpOutDgradIdeal.main_arg0)
      ∧ m' ((c.tc : Thread Cert.GmlpOutDgradRefIdeal.nD Cert.GmlpOutDgradRefIdeal.τ).loc Cert.GmlpOutDgradRefIdeal.main_arg1) = m ((c.tc : Thread Cert.GmlpOutDgradIdeal.nD Cert.GmlpOutDgradIdeal.τ).loc Cert.GmlpOutDgradIdeal.main_arg1)) →
    ∃ (v0 : (c : Dev Cert.GmlpOutDgradIdeal.nD) → Buf (Elt Ideal) ((c.tc : Thread Cert.GmlpOutDgradIdeal.nD Cert.GmlpOutDgradIdeal.τ).loc Cert.GmlpOutDgradIdeal.main_v2)),
      θ_run (Cert.GmlpOutDgradIdeal.defs (F := Ideal)) (onTc (τ := Cert.GmlpOutDgradIdeal.τ) (Cert.GmlpOutDgradIdeal.main (F := Ideal))) ⟨m, fun _ => 0, g⟩ (fun r => ∀ c : Dev Cert.GmlpOutDgradIdeal.nD,
          r.2.mem ((c.tc : Thread Cert.GmlpOutDgradIdeal.nD Cert.GmlpOutDgradIdeal.τ).loc Cert.GmlpOutDgradIdeal.main_v2) = v0 c
          ∧ r.2.mem ((c.tc : Thread Cert.GmlpOutDgradIdeal.nD Cert.GmlpOutDgradIdeal.τ).loc Cert.GmlpOutDgradIdeal.main_arg0) = m ((c.tc : Thread Cert.GmlpOutDgradIdeal.nD Cert.GmlpOutDgradIdeal.τ).loc Cert.GmlpOutDgradIdeal.main_arg0)
          ∧ r.2.mem ((c.tc : Thread Cert.GmlpOutDgradIdeal.nD Cert.GmlpOutDgradIdeal.τ).loc Cert.GmlpOutDgradIdeal.main_arg1) = m ((c.tc : Thread Cert.GmlpOutDgradIdeal.nD Cert.GmlpOutDgradIdeal.τ).loc Cert.GmlpOutDgradIdeal.main_arg1))
      ∧ θ_run (Cert.GmlpOutDgradRefIdeal.defs (F := Ideal)) (onTc (τ := Cert.GmlpOutDgradRefIdeal.τ) (Cert.GmlpOutDgradRefIdeal.main (F := Ideal))) ⟨m', fun _ => 0, g'⟩ (fun r => ∀ c : Dev Cert.GmlpOutDgradRefIdeal.nD,
          r.2.mem ((c.tc : Thread Cert.GmlpOutDgradRefIdeal.nD Cert.GmlpOutDgradRefIdeal.τ).loc Cert.GmlpOutDgradRefIdeal.main_v2) = v0 c
          ∧ r.2.mem ((c.tc : Thread Cert.GmlpOutDgradRefIdeal.nD Cert.GmlpOutDgradRefIdeal.τ).loc Cert.GmlpOutDgradRefIdeal.main_arg0) = m' ((c.tc : Thread Cert.GmlpOutDgradRefIdeal.nD Cert.GmlpOutDgradRefIdeal.τ).loc Cert.GmlpOutDgradRefIdeal.main_arg0)
          ∧ r.2.mem ((c.tc : Thread Cert.GmlpOutDgradRefIdeal.nD Cert.GmlpOutDgradRefIdeal.τ).loc Cert.GmlpOutDgradRefIdeal.main_arg1) = m' ((c.tc : Thread Cert.GmlpOutDgradRefIdeal.nD Cert.GmlpOutDgradRefIdeal.τ).loc Cert.GmlpOutDgradRefIdeal.main_arg1))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v25) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v0) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MemKvWgrad_MemKvWgradIdeal : Prop :=
  True

def algebraic_MemKvWgradIdeal_MemKvWgradRefIdeal [hMemKvWgradIdeal : Cert.MemKvWgradIdeal.Facts] [hMemKvWgradRefIdeal : Cert.MemKvWgradRefIdeal.Facts] : Prop :=
  ∀ (m : (ℓ : Loc Cert.MemKvWgradIdeal.nD Cert.MemKvWgradIdeal.τ Cert.MemKvWgradIdeal.sig) → Buf (Elt Ideal) ℓ) (g : Dev Cert.MemKvWgradIdeal.nD → PrngReg)
    (m' : (ℓ : Loc Cert.MemKvWgradRefIdeal.nD Cert.MemKvWgradRefIdeal.τ Cert.MemKvWgradRefIdeal.sig) → Buf (Elt Ideal) ℓ) (g' : Dev Cert.MemKvWgradRefIdeal.nD → PrngReg), Pre_MemKvWgradIdeal m →
    (∀ c : Dev Cert.MemKvWgradIdeal.nD,
      m' ((c.tc : Thread Cert.MemKvWgradRefIdeal.nD Cert.MemKvWgradRefIdeal.τ).loc Cert.MemKvWgradRefIdeal.main_arg0) = m ((c.tc : Thread Cert.MemKvWgradIdeal.nD Cert.MemKvWgradIdeal.τ).loc Cert.MemKvWgradIdeal.main_arg0)
      ∧ m' ((c.tc : Thread Cert.MemKvWgradRefIdeal.nD Cert.MemKvWgradRefIdeal.τ).loc Cert.MemKvWgradRefIdeal.main_arg1) = m ((c.tc : Thread Cert.MemKvWgradIdeal.nD Cert.MemKvWgradIdeal.τ).loc Cert.MemKvWgradIdeal.main_arg1)) →
    ∃ (v0 : (c : Dev Cert.MemKvWgradIdeal.nD) → Buf (Elt Ideal) ((c.tc : Thread Cert.MemKvWgradIdeal.nD Cert.MemKvWgradIdeal.τ).loc Cert.MemKvWgradIdeal.main_v1)),
      θ_run (Cert.MemKvWgradIdeal.defs (F := Ideal)) (onTc (τ := Cert.MemKvWgradIdeal.τ) (Cert.MemKvWgradIdeal.main (F := Ideal))) ⟨m, fun _ => 0, g⟩ (fun r => ∀ c : Dev Cert.MemKvWgradIdeal.nD,
          r.2.mem ((c.tc : Thread Cert.MemKvWgradIdeal.nD Cert.MemKvWgradIdeal.τ).loc Cert.MemKvWgradIdeal.main_v1) = v0 c
          ∧ r.2.mem ((c.tc : Thread Cert.MemKvWgradIdeal.nD Cert.MemKvWgradIdeal.τ).loc Cert.MemKvWgradIdeal.main_arg0) = m ((c.tc : Thread Cert.MemKvWgradIdeal.nD Cert.MemKvWgradIdeal.τ).loc Cert.MemKvWgradIdeal.main_arg0)
          ∧ r.2.mem ((c.tc : Thread Cert.MemKvWgradIdeal.nD Cert.MemKvWgradIdeal.τ).loc Cert.MemKvWgradIdeal.main_arg1) = m ((c.tc : Thread Cert.MemKvWgradIdeal.nD Cert.MemKvWgradIdeal.τ).loc Cert.MemKvWgradIdeal.main_arg1))
      ∧ θ_run (Cert.MemKvWgradRefIdeal.defs (F := Ideal)) (onTc (τ := Cert.MemKvWgradRefIdeal.τ) (Cert.MemKvWgradRefIdeal.main (F := Ideal))) ⟨m', fun _ => 0, g'⟩ (fun r => ∀ c : Dev Cert.MemKvWgradRefIdeal.nD,
          r.2.mem ((c.tc : Thread Cert.MemKvWgradRefIdeal.nD Cert.MemKvWgradRefIdeal.τ).loc Cert.MemKvWgradRefIdeal.main_v5) = v0 c
          ∧ r.2.mem ((c.tc : Thread Cert.MemKvWgradRefIdeal.nD Cert.MemKvWgradRefIdeal.τ).loc Cert.MemKvWgradRefIdeal.main_arg0) = m' ((c.tc : Thread Cert.MemKvWgradRefIdeal.nD Cert.MemKvWgradRefIdeal.τ).loc Cert.MemKvWgradRefIdeal.main_arg0)
          ∧ r.2.mem ((c.tc : Thread Cert.MemKvWgradRefIdeal.nD Cert.MemKvWgradRefIdeal.τ).loc Cert.MemKvWgradRefIdeal.main_arg1) = m' ((c.tc : Thread Cert.MemKvWgradRefIdeal.nD Cert.MemKvWgradRefIdeal.τ).loc Cert.MemKvWgradRefIdeal.main_arg1))

def preserves_MemKvDgrad_MemKvDgradIdeal : Prop :=
  True

def algebraic_MemKvDgradIdeal_MemKvDgradRefIdeal [hMemKvDgradIdeal : Cert.MemKvDgradIdeal.Facts] [hMemKvDgradRefIdeal : Cert.MemKvDgradRefIdeal.Facts] : Prop :=
  ∀ (m : (ℓ : Loc Cert.MemKvDgradIdeal.nD Cert.MemKvDgradIdeal.τ Cert.MemKvDgradIdeal.sig) → Buf (Elt Ideal) ℓ) (g : Dev Cert.MemKvDgradIdeal.nD → PrngReg)
    (m' : (ℓ : Loc Cert.MemKvDgradRefIdeal.nD Cert.MemKvDgradRefIdeal.τ Cert.MemKvDgradRefIdeal.sig) → Buf (Elt Ideal) ℓ) (g' : Dev Cert.MemKvDgradRefIdeal.nD → PrngReg), Pre_MemKvDgradIdeal m →
    (∀ c : Dev Cert.MemKvDgradIdeal.nD,
      m' ((c.tc : Thread Cert.MemKvDgradRefIdeal.nD Cert.MemKvDgradRefIdeal.τ).loc Cert.MemKvDgradRefIdeal.main_arg0) = m ((c.tc : Thread Cert.MemKvDgradIdeal.nD Cert.MemKvDgradIdeal.τ).loc Cert.MemKvDgradIdeal.main_arg0)
      ∧ m' ((c.tc : Thread Cert.MemKvDgradRefIdeal.nD Cert.MemKvDgradRefIdeal.τ).loc Cert.MemKvDgradRefIdeal.main_arg1) = m ((c.tc : Thread Cert.MemKvDgradIdeal.nD Cert.MemKvDgradIdeal.τ).loc Cert.MemKvDgradIdeal.main_arg1)
      ∧ m' ((c.tc : Thread Cert.MemKvDgradRefIdeal.nD Cert.MemKvDgradRefIdeal.τ).loc Cert.MemKvDgradRefIdeal.main_arg2) = m ((c.tc : Thread Cert.MemKvDgradIdeal.nD Cert.MemKvDgradIdeal.τ).loc Cert.MemKvDgradIdeal.main_arg2)) →
    ∃ (v0 : (c : Dev Cert.MemKvDgradIdeal.nD) → Buf (Elt Ideal) ((c.tc : Thread Cert.MemKvDgradIdeal.nD Cert.MemKvDgradIdeal.τ).loc Cert.MemKvDgradIdeal.main_v2)),
      θ_run (Cert.MemKvDgradIdeal.defs (F := Ideal)) (onTc (τ := Cert.MemKvDgradIdeal.τ) (Cert.MemKvDgradIdeal.main (F := Ideal))) ⟨m, fun _ => 0, g⟩ (fun r => ∀ c : Dev Cert.MemKvDgradIdeal.nD,
          r.2.mem ((c.tc : Thread Cert.MemKvDgradIdeal.nD Cert.MemKvDgradIdeal.τ).loc Cert.MemKvDgradIdeal.main_v2) = v0 c
          ∧ r.2.mem ((c.tc : Thread Cert.MemKvDgradIdeal.nD Cert.MemKvDgradIdeal.τ).loc Cert.MemKvDgradIdeal.main_arg0) = m ((c.tc : Thread Cert.MemKvDgradIdeal.nD Cert.MemKvDgradIdeal.τ).loc Cert.MemKvDgradIdeal.main_arg0)
          ∧ r.2.mem ((c.tc : Thread Cert.MemKvDgradIdeal.nD Cert.MemKvDgradIdeal.τ).loc Cert.MemKvDgradIdeal.main_arg1) = m ((c.tc : Thread Cert.MemKvDgradIdeal.nD Cert.MemKvDgradIdeal.τ).loc Cert.MemKvDgradIdeal.main_arg1)
          ∧ r.2.mem ((c.tc : Thread Cert.MemKvDgradIdeal.nD Cert.MemKvDgradIdeal.τ).loc Cert.MemKvDgradIdeal.main_arg2) = m ((c.tc : Thread Cert.MemKvDgradIdeal.nD Cert.MemKvDgradIdeal.τ).loc Cert.MemKvDgradIdeal.main_arg2))
      ∧ θ_run (Cert.MemKvDgradRefIdeal.defs (F := Ideal)) (onTc (τ := Cert.MemKvDgradRefIdeal.τ) (Cert.MemKvDgradRefIdeal.main (F := Ideal))) ⟨m', fun _ => 0, g'⟩ (fun r => ∀ c : Dev Cert.MemKvDgradRefIdeal.nD,
          r.2.mem ((c.tc : Thread Cert.MemKvDgradRefIdeal.nD Cert.MemKvDgradRefIdeal.τ).loc Cert.MemKvDgradRefIdeal.main_v3) = v0 c
          ∧ r.2.mem ((c.tc : Thread Cert.MemKvDgradRefIdeal.nD Cert.MemKvDgradRefIdeal.τ).loc Cert.MemKvDgradRefIdeal.main_arg0) = m' ((c.tc : Thread Cert.MemKvDgradRefIdeal.nD Cert.MemKvDgradRefIdeal.τ).loc Cert.MemKvDgradRefIdeal.main_arg0)
          ∧ r.2.mem ((c.tc : Thread Cert.MemKvDgradRefIdeal.nD Cert.MemKvDgradRefIdeal.τ).loc Cert.MemKvDgradRefIdeal.main_arg1) = m' ((c.tc : Thread Cert.MemKvDgradRefIdeal.nD Cert.MemKvDgradRefIdeal.τ).loc Cert.MemKvDgradRefIdeal.main_arg1)
          ∧ r.2.mem ((c.tc : Thread Cert.MemKvDgradRefIdeal.nD Cert.MemKvDgradRefIdeal.τ).loc Cert.MemKvDgradRefIdeal.main_arg2) = m' ((c.tc : Thread Cert.MemKvDgradRefIdeal.nD Cert.MemKvDgradRefIdeal.τ).loc Cert.MemKvDgradRefIdeal.main_arg2))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v0)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v0) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v12) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_MemNormBwd_MemNormBwdIdeal : Prop :=
  True

def algebraic_MemNormBwdIdeal_MemNormBwdRefIdeal [hMemNormBwdIdeal : Cert.MemNormBwdIdeal.Facts] [hMemNormBwdRefIdeal : Cert.MemNormBwdRefIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg)
    (m' : (ℓ : Loc Cert.MemNormBwdRefIdeal.nD Cert.MemNormBwdRefIdeal.τ Cert.MemNormBwdRefIdeal.sig) → Buf (Elt Ideal) ℓ) (g' : Dev Cert.MemNormBwdRefIdeal.nD → PrngReg), Pre_MemNormBwdIdeal m →
    (∀ c : Dev Cert.MemNormBwdIdeal.nD,
      m' ((c.tc : Thread Cert.MemNormBwdRefIdeal.nD Cert.MemNormBwdRefIdeal.τ).loc Cert.MemNormBwdRefIdeal.main_arg0) = m ((c.tc : Thread Cert.MemNormBwdIdeal.nD Cert.MemNormBwdIdeal.τ).loc Cert.MemNormBwdIdeal.main_arg0)
      ∧ m' ((c.tc : Thread Cert.MemNormBwdRefIdeal.nD Cert.MemNormBwdRefIdeal.τ).loc Cert.MemNormBwdRefIdeal.main_arg1) = m ((c.tc : Thread Cert.MemNormBwdIdeal.nD Cert.MemNormBwdIdeal.τ).loc Cert.MemNormBwdIdeal.main_arg1)
      ∧ m' ((c.tc : Thread Cert.MemNormBwdRefIdeal.nD Cert.MemNormBwdRefIdeal.τ).loc Cert.MemNormBwdRefIdeal.main_arg2) = m ((c.tc : Thread Cert.MemNormBwdIdeal.nD Cert.MemNormBwdIdeal.τ).loc Cert.MemNormBwdIdeal.main_arg2)
      ∧ m' ((c.tc : Thread Cert.MemNormBwdRefIdeal.nD Cert.MemNormBwdRefIdeal.τ).loc Cert.MemNormBwdRefIdeal.main_arg3) = m ((c.tc : Thread Cert.MemNormBwdIdeal.nD Cert.MemNormBwdIdeal.τ).loc Cert.MemNormBwdIdeal.main_arg3)) →
    ∃ (v0 : (c : Dev Cert.MemNormBwdIdeal.nD) → Buf (Elt Ideal) ((c.tc : Thread Cert.MemNormBwdIdeal.nD Cert.MemNormBwdIdeal.τ).loc Cert.MemNormBwdIdeal.main_v0_0)) (v1 : (c : Dev Cert.MemNormBwdIdeal.nD) → Buf (Elt Ideal) ((c.tc : Thread Cert.MemNormBwdIdeal.nD Cert.MemNormBwdIdeal.τ).loc Cert.MemNormBwdIdeal.main_v0_1)) (v2 : (c : Dev Cert.MemNormBwdIdeal.nD) → Buf (Elt Ideal) ((c.tc : Thread Cert.MemNormBwdIdeal.nD Cert.MemNormBwdIdeal.τ).loc Cert.MemNormBwdIdeal.main_v0_2)),
      θ_run (Cert.MemNormBwdIdeal.defs (F := Ideal)) (onTc (τ := Cert.MemNormBwdIdeal.τ) (Cert.MemNormBwdIdeal.main (F := Ideal))) ⟨m, fun _ => 0, g⟩ (fun r => ∀ c : Dev Cert.MemNormBwdIdeal.nD,
          r.2.mem ((c.tc : Thread Cert.MemNormBwdIdeal.nD Cert.MemNormBwdIdeal.τ).loc Cert.MemNormBwdIdeal.main_v0_0) = v0 c
          ∧ r.2.mem ((c.tc : Thread Cert.MemNormBwdIdeal.nD Cert.MemNormBwdIdeal.τ).loc Cert.MemNormBwdIdeal.main_v0_1) = v1 c
          ∧ r.2.mem ((c.tc : Thread Cert.MemNormBwdIdeal.nD Cert.MemNormBwdIdeal.τ).loc Cert.MemNormBwdIdeal.main_v0_2) = v2 c
          ∧ r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
          ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
          ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2)
          ∧ r.2.mem ((c.tc : Thread Cert.MemNormBwdIdeal.nD Cert.MemNormBwdIdeal.τ).loc Cert.MemNormBwdIdeal.main_arg3) = m ((c.tc : Thread Cert.MemNormBwdIdeal.nD Cert.MemNormBwdIdeal.τ).loc Cert.MemNormBwdIdeal.main_arg3))
      ∧ θ_run (Cert.MemNormBwdRefIdeal.defs (F := Ideal)) (onTc (τ := Cert.MemNormBwdRefIdeal.τ) (Cert.MemNormBwdRefIdeal.main (F := Ideal))) ⟨m', fun _ => 0, g'⟩ (fun r => ∀ c : Dev Cert.MemNormBwdRefIdeal.nD,
          r.2.mem ((c.tc : Thread Cert.MemNormBwdRefIdeal.nD Cert.MemNormBwdRefIdeal.τ).loc Cert.MemNormBwdRefIdeal.main_v34) = v0 c
          ∧ r.2.mem ((c.tc : Thread Cert.MemNormBwdRefIdeal.nD Cert.MemNormBwdRefIdeal.τ).loc Cert.MemNormBwdRefIdeal.main_v35) = v1 c
          ∧ r.2.mem ((c.tc : Thread Cert.MemNormBwdRefIdeal.nD Cert.MemNormBwdRefIdeal.τ).loc Cert.MemNormBwdRefIdeal.main_v17) = v2 c
          ∧ r.2.mem ((c.tc : Thread Cert.MemNormBwdRefIdeal.nD Cert.MemNormBwdRefIdeal.τ).loc Cert.MemNormBwdRefIdeal.main_arg0) = m' ((c.tc : Thread Cert.MemNormBwdRefIdeal.nD Cert.MemNormBwdRefIdeal.τ).loc Cert.MemNormBwdRefIdeal.main_arg0)
          ∧ r.2.mem ((c.tc : Thread Cert.MemNormBwdRefIdeal.nD Cert.MemNormBwdRefIdeal.τ).loc Cert.MemNormBwdRefIdeal.main_arg1) = m' ((c.tc : Thread Cert.MemNormBwdRefIdeal.nD Cert.MemNormBwdRefIdeal.τ).loc Cert.MemNormBwdRefIdeal.main_arg1)
          ∧ r.2.mem ((c.tc : Thread Cert.MemNormBwdRefIdeal.nD Cert.MemNormBwdRefIdeal.τ).loc Cert.MemNormBwdRefIdeal.main_arg2) = m' ((c.tc : Thread Cert.MemNormBwdRefIdeal.nD Cert.MemNormBwdRefIdeal.τ).loc Cert.MemNormBwdRefIdeal.main_arg2)
          ∧ r.2.mem ((c.tc : Thread Cert.MemNormBwdRefIdeal.nD Cert.MemNormBwdRefIdeal.τ).loc Cert.MemNormBwdRefIdeal.main_arg3) = m' ((c.tc : Thread Cert.MemNormBwdRefIdeal.nD Cert.MemNormBwdRefIdeal.τ).loc Cert.MemNormBwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v48) = v0 c
          ∧ r.2.mem ((c.tc : Thread Cert.LossHeadRefIdeal.nD Cert.LossHeadRefIdeal.τ).loc Cert.LossHeadRefIdeal.main_v49) = v1 c
          ∧ r.2.mem ((c.tc : Thread Cert.LossHeadRefIdeal.nD Cert.LossHeadRefIdeal.τ).loc Cert.LossHeadRefIdeal.main_v32) = v2 c
          ∧ r.2.mem ((c.tc : Thread Cert.LossHeadRefIdeal.nD Cert.LossHeadRefIdeal.τ).loc Cert.LossHeadRefIdeal.main_v50) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_GmlpFwd_GmlpFwdIdeal : Prop :=
  True

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)
      ∧ m' ((c.tc : Thread Cert.GmlpFwdRefIdeal.nD Cert.GmlpFwdRefIdeal.τ).loc Cert.GmlpFwdRefIdeal.main_arg4) = m ((c.tc : Thread Cert.GmlpFwdIdeal.nD Cert.GmlpFwdIdeal.τ).loc Cert.GmlpFwdIdeal.main_arg4)
      ∧ m' ((c.tc : Thread Cert.GmlpFwdRefIdeal.nD Cert.GmlpFwdRefIdeal.τ).loc Cert.GmlpFwdRefIdeal.main_arg5) = m ((c.tc : Thread Cert.GmlpFwdIdeal.nD Cert.GmlpFwdIdeal.τ).loc Cert.GmlpFwdIdeal.main_arg5)) →
    ∃ (v0 : (c : Dev Cert.GmlpFwdIdeal.nD) → Buf (Elt Ideal) ((c.tc : Thread Cert.GmlpFwdIdeal.nD Cert.GmlpFwdIdeal.τ).loc Cert.GmlpFwdIdeal.main_v2)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v2) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4)
          ∧ r.2.mem ((c.tc : Thread Cert.GmlpFwdIdeal.nD Cert.GmlpFwdIdeal.τ).loc Cert.GmlpFwdIdeal.main_arg5) = m ((c.tc : Thread Cert.GmlpFwdIdeal.nD Cert.GmlpFwdIdeal.τ).loc Cert.GmlpFwdIdeal.main_arg5))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v57) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3)
          ∧ r.2.mem ((c.tc : Thread Cert.GmlpFwdRefIdeal.nD Cert.GmlpFwdRefIdeal.τ).loc Cert.GmlpFwdRefIdeal.main_arg4) = m' ((c.tc : Thread Cert.GmlpFwdRefIdeal.nD Cert.GmlpFwdRefIdeal.τ).loc Cert.GmlpFwdRefIdeal.main_arg4)
          ∧ r.2.mem ((c.tc : Thread Cert.GmlpFwdRefIdeal.nD Cert.GmlpFwdRefIdeal.τ).loc Cert.GmlpFwdRefIdeal.main_arg5) = m' ((c.tc : Thread Cert.GmlpFwdRefIdeal.nD Cert.GmlpFwdRefIdeal.τ).loc Cert.GmlpFwdRefIdeal.main_arg5))

def preserves_AdamHgrnOut_AdamHgrnOutIdeal : Prop :=
  True

def algebraic_AdamHgrnOutIdeal_AdamHgrnOutRefIdeal [hAdamHgrnOutIdeal : Cert.AdamHgrnOutIdeal.Facts] [hAdamHgrnOutRefIdeal : Cert.AdamHgrnOutRefIdeal.Facts] : Prop :=
  ∀ (m : (ℓ : Loc Cert.AdamHgrnOutIdeal.nD Cert.AdamHgrnOutIdeal.τ Cert.AdamHgrnOutIdeal.sig) → Buf (Elt Ideal) ℓ) (g : Dev Cert.AdamHgrnOutIdeal.nD → PrngReg)
    (m' : (ℓ : Loc Cert.AdamHgrnOutRefIdeal.nD Cert.AdamHgrnOutRefIdeal.τ Cert.AdamHgrnOutRefIdeal.sig) → Buf (Elt Ideal) ℓ) (g' : Dev Cert.AdamHgrnOutRefIdeal.nD → PrngReg), Pre_AdamHgrnOutIdeal m →
    (∀ c : Dev Cert.AdamHgrnOutIdeal.nD,
      m' ((c.tc : Thread Cert.AdamHgrnOutRefIdeal.nD Cert.AdamHgrnOutRefIdeal.τ).loc Cert.AdamHgrnOutRefIdeal.main_arg0) = m ((c.tc : Thread Cert.AdamHgrnOutIdeal.nD Cert.AdamHgrnOutIdeal.τ).loc Cert.AdamHgrnOutIdeal.main_arg0)
      ∧ m' ((c.tc : Thread Cert.AdamHgrnOutRefIdeal.nD Cert.AdamHgrnOutRefIdeal.τ).loc Cert.AdamHgrnOutRefIdeal.main_arg1) = m ((c.tc : Thread Cert.AdamHgrnOutIdeal.nD Cert.AdamHgrnOutIdeal.τ).loc Cert.AdamHgrnOutIdeal.main_arg1)
      ∧ m' ((c.tc : Thread Cert.AdamHgrnOutRefIdeal.nD Cert.AdamHgrnOutRefIdeal.τ).loc Cert.AdamHgrnOutRefIdeal.main_arg2) = m ((c.tc : Thread Cert.AdamHgrnOutIdeal.nD Cert.AdamHgrnOutIdeal.τ).loc Cert.AdamHgrnOutIdeal.main_arg2)
      ∧ m' ((c.tc : Thread Cert.AdamHgrnOutRefIdeal.nD Cert.AdamHgrnOutRefIdeal.τ).loc Cert.AdamHgrnOutRefIdeal.main_arg3) = m ((c.tc : Thread Cert.AdamHgrnOutIdeal.nD Cert.AdamHgrnOutIdeal.τ).loc Cert.AdamHgrnOutIdeal.main_arg3)) →
    ∃ (v0 : (c : Dev Cert.AdamHgrnOutIdeal.nD) → Buf (Elt Ideal) ((c.tc : Thread Cert.AdamHgrnOutIdeal.nD Cert.AdamHgrnOutIdeal.τ).loc Cert.AdamHgrnOutIdeal.main_v0_0)) (v1 : (c : Dev Cert.AdamHgrnOutIdeal.nD) → Buf (Elt Ideal) ((c.tc : Thread Cert.AdamHgrnOutIdeal.nD Cert.AdamHgrnOutIdeal.τ).loc Cert.AdamHgrnOutIdeal.main_v0_1)) (v2 : (c : Dev Cert.AdamHgrnOutIdeal.nD) → Buf (Elt Ideal) ((c.tc : Thread Cert.AdamHgrnOutIdeal.nD Cert.AdamHgrnOutIdeal.τ).loc Cert.AdamHgrnOutIdeal.main_v0_2)) (v3 : (c : Dev Cert.AdamHgrnOutIdeal.nD) → Buf (Elt Ideal) ((c.tc : Thread Cert.AdamHgrnOutIdeal.nD Cert.AdamHgrnOutIdeal.τ).loc Cert.AdamHgrnOutIdeal.main_v0_3)),
      θ_run (Cert.AdamHgrnOutIdeal.defs (F := Ideal)) (onTc (τ := Cert.AdamHgrnOutIdeal.τ) (Cert.AdamHgrnOutIdeal.main (F := Ideal))) ⟨m, fun _ => 0, g⟩ (fun r => ∀ c : Dev Cert.AdamHgrnOutIdeal.nD,
          r.2.mem ((c.tc : Thread Cert.AdamHgrnOutIdeal.nD Cert.AdamHgrnOutIdeal.τ).loc Cert.AdamHgrnOutIdeal.main_v0_0) = v0 c
          ∧ r.2.mem ((c.tc : Thread Cert.AdamHgrnOutIdeal.nD Cert.AdamHgrnOutIdeal.τ).loc Cert.AdamHgrnOutIdeal.main_v0_1) = v1 c
          ∧ r.2.mem ((c.tc : Thread Cert.AdamHgrnOutIdeal.nD Cert.AdamHgrnOutIdeal.τ).loc Cert.AdamHgrnOutIdeal.main_v0_2) = v2 c
          ∧ r.2.mem ((c.tc : Thread Cert.AdamHgrnOutIdeal.nD Cert.AdamHgrnOutIdeal.τ).loc Cert.AdamHgrnOutIdeal.main_v0_3) = v3 c
          ∧ r.2.mem ((c.tc : Thread Cert.AdamHgrnOutIdeal.nD Cert.AdamHgrnOutIdeal.τ).loc Cert.AdamHgrnOutIdeal.main_arg0) = m ((c.tc : Thread Cert.AdamHgrnOutIdeal.nD Cert.AdamHgrnOutIdeal.τ).loc Cert.AdamHgrnOutIdeal.main_arg0)
          ∧ r.2.mem ((c.tc : Thread Cert.AdamHgrnOutIdeal.nD Cert.AdamHgrnOutIdeal.τ).loc Cert.AdamHgrnOutIdeal.main_arg1) = m ((c.tc : Thread Cert.AdamHgrnOutIdeal.nD Cert.AdamHgrnOutIdeal.τ).loc Cert.AdamHgrnOutIdeal.main_arg1)
          ∧ r.2.mem ((c.tc : Thread Cert.AdamHgrnOutIdeal.nD Cert.AdamHgrnOutIdeal.τ).loc Cert.AdamHgrnOutIdeal.main_arg2) = m ((c.tc : Thread Cert.AdamHgrnOutIdeal.nD Cert.AdamHgrnOutIdeal.τ).loc Cert.AdamHgrnOutIdeal.main_arg2)
          ∧ r.2.mem ((c.tc : Thread Cert.AdamHgrnOutIdeal.nD Cert.AdamHgrnOutIdeal.τ).loc Cert.AdamHgrnOutIdeal.main_arg3) = m ((c.tc : Thread Cert.AdamHgrnOutIdeal.nD Cert.AdamHgrnOutIdeal.τ).loc Cert.AdamHgrnOutIdeal.main_arg3))
      ∧ θ_run (Cert.AdamHgrnOutRefIdeal.defs (F := Ideal)) (onTc (τ := Cert.AdamHgrnOutRefIdeal.τ) (Cert.AdamHgrnOutRefIdeal.main (F := Ideal))) ⟨m', fun _ => 0, g'⟩ (fun r => ∀ c : Dev Cert.AdamHgrnOutRefIdeal.nD,
          r.2.mem ((c.tc : Thread Cert.AdamHgrnOutRefIdeal.nD Cert.AdamHgrnOutRefIdeal.τ).loc Cert.AdamHgrnOutRefIdeal.main_v2) = v0 c
          ∧ r.2.mem ((c.tc : Thread Cert.AdamHgrnOutRefIdeal.nD Cert.AdamHgrnOutRefIdeal.τ).loc Cert.AdamHgrnOutRefIdeal.main_v26) = v1 c
          ∧ r.2.mem ((c.tc : Thread Cert.AdamHgrnOutRefIdeal.nD Cert.AdamHgrnOutRefIdeal.τ).loc Cert.AdamHgrnOutRefIdeal.main_v7) = v2 c
          ∧ r.2.mem ((c.tc : Thread Cert.AdamHgrnOutRefIdeal.nD Cert.AdamHgrnOutRefIdeal.τ).loc Cert.AdamHgrnOutRefIdeal.main_v13) = v3 c
          ∧ r.2.mem ((c.tc : Thread Cert.AdamHgrnOutRefIdeal.nD Cert.AdamHgrnOutRefIdeal.τ).loc Cert.AdamHgrnOutRefIdeal.main_arg0) = m' ((c.tc : Thread Cert.AdamHgrnOutRefIdeal.nD Cert.AdamHgrnOutRefIdeal.τ).loc Cert.AdamHgrnOutRefIdeal.main_arg0)
          ∧ r.2.mem ((c.tc : Thread Cert.AdamHgrnOutRefIdeal.nD Cert.AdamHgrnOutRefIdeal.τ).loc Cert.AdamHgrnOutRefIdeal.main_arg1) = m' ((c.tc : Thread Cert.AdamHgrnOutRefIdeal.nD Cert.AdamHgrnOutRefIdeal.τ).loc Cert.AdamHgrnOutRefIdeal.main_arg1)
          ∧ r.2.mem ((c.tc : Thread Cert.AdamHgrnOutRefIdeal.nD Cert.AdamHgrnOutRefIdeal.τ).loc Cert.AdamHgrnOutRefIdeal.main_arg2) = m' ((c.tc : Thread Cert.AdamHgrnOutRefIdeal.nD Cert.AdamHgrnOutRefIdeal.τ).loc Cert.AdamHgrnOutRefIdeal.main_arg2)
          ∧ r.2.mem ((c.tc : Thread Cert.AdamHgrnOutRefIdeal.nD Cert.AdamHgrnOutRefIdeal.τ).loc Cert.AdamHgrnOutRefIdeal.main_arg3) = m' ((c.tc : Thread Cert.AdamHgrnOutRefIdeal.nD Cert.AdamHgrnOutRefIdeal.τ).loc Cert.AdamHgrnOutRefIdeal.main_arg3))

def preserves_AdamGmlpOut_AdamGmlpOutIdeal : Prop :=
  True

def algebraic_AdamGmlpOutIdeal_AdamGmlpOutRefIdeal [hAdamGmlpOutIdeal : Cert.AdamGmlpOutIdeal.Facts] [hAdamGmlpOutRefIdeal : Cert.AdamGmlpOutRefIdeal.Facts] : Prop :=
  ∀ (m : (ℓ : Loc Cert.AdamGmlpOutIdeal.nD Cert.AdamGmlpOutIdeal.τ Cert.AdamGmlpOutIdeal.sig) → Buf (Elt Ideal) ℓ) (g : Dev Cert.AdamGmlpOutIdeal.nD → PrngReg)
    (m' : (ℓ : Loc Cert.AdamGmlpOutRefIdeal.nD Cert.AdamGmlpOutRefIdeal.τ Cert.AdamGmlpOutRefIdeal.sig) → Buf (Elt Ideal) ℓ) (g' : Dev Cert.AdamGmlpOutRefIdeal.nD → PrngReg), Pre_AdamGmlpOutIdeal m →
    (∀ c : Dev Cert.AdamGmlpOutIdeal.nD,
      m' ((c.tc : Thread Cert.AdamGmlpOutRefIdeal.nD Cert.AdamGmlpOutRefIdeal.τ).loc Cert.AdamGmlpOutRefIdeal.main_arg0) = m ((c.tc : Thread Cert.AdamGmlpOutIdeal.nD Cert.AdamGmlpOutIdeal.τ).loc Cert.AdamGmlpOutIdeal.main_arg0)
      ∧ m' ((c.tc : Thread Cert.AdamGmlpOutRefIdeal.nD Cert.AdamGmlpOutRefIdeal.τ).loc Cert.AdamGmlpOutRefIdeal.main_arg1) = m ((c.tc : Thread Cert.AdamGmlpOutIdeal.nD Cert.AdamGmlpOutIdeal.τ).loc Cert.AdamGmlpOutIdeal.main_arg1)
      ∧ m' ((c.tc : Thread Cert.AdamGmlpOutRefIdeal.nD Cert.AdamGmlpOutRefIdeal.τ).loc Cert.AdamGmlpOutRefIdeal.main_arg2) = m ((c.tc : Thread Cert.AdamGmlpOutIdeal.nD Cert.AdamGmlpOutIdeal.τ).loc Cert.AdamGmlpOutIdeal.main_arg2)
      ∧ m' ((c.tc : Thread Cert.AdamGmlpOutRefIdeal.nD Cert.AdamGmlpOutRefIdeal.τ).loc Cert.AdamGmlpOutRefIdeal.main_arg3) = m ((c.tc : Thread Cert.AdamGmlpOutIdeal.nD Cert.AdamGmlpOutIdeal.τ).loc Cert.AdamGmlpOutIdeal.main_arg3)) →
    ∃ (v0 : (c : Dev Cert.AdamGmlpOutIdeal.nD) → Buf (Elt Ideal) ((c.tc : Thread Cert.AdamGmlpOutIdeal.nD Cert.AdamGmlpOutIdeal.τ).loc Cert.AdamGmlpOutIdeal.main_v0_0)) (v1 : (c : Dev Cert.AdamGmlpOutIdeal.nD) → Buf (Elt Ideal) ((c.tc : Thread Cert.AdamGmlpOutIdeal.nD Cert.AdamGmlpOutIdeal.τ).loc Cert.AdamGmlpOutIdeal.main_v0_1)) (v2 : (c : Dev Cert.AdamGmlpOutIdeal.nD) → Buf (Elt Ideal) ((c.tc : Thread Cert.AdamGmlpOutIdeal.nD Cert.AdamGmlpOutIdeal.τ).loc Cert.AdamGmlpOutIdeal.main_v0_2)) (v3 : (c : Dev Cert.AdamGmlpOutIdeal.nD) → Buf (Elt Ideal) ((c.tc : Thread Cert.AdamGmlpOutIdeal.nD Cert.AdamGmlpOutIdeal.τ).loc Cert.AdamGmlpOutIdeal.main_v0_3)),
      θ_run (Cert.AdamGmlpOutIdeal.defs (F := Ideal)) (onTc (τ := Cert.AdamGmlpOutIdeal.τ) (Cert.AdamGmlpOutIdeal.main (F := Ideal))) ⟨m, fun _ => 0, g⟩ (fun r => ∀ c : Dev Cert.AdamGmlpOutIdeal.nD,
          r.2.mem ((c.tc : Thread Cert.AdamGmlpOutIdeal.nD Cert.AdamGmlpOutIdeal.τ).loc Cert.AdamGmlpOutIdeal.main_v0_0) = v0 c
          ∧ r.2.mem ((c.tc : Thread Cert.AdamGmlpOutIdeal.nD Cert.AdamGmlpOutIdeal.τ).loc Cert.AdamGmlpOutIdeal.main_v0_1) = v1 c
          ∧ r.2.mem ((c.tc : Thread Cert.AdamGmlpOutIdeal.nD Cert.AdamGmlpOutIdeal.τ).loc Cert.AdamGmlpOutIdeal.main_v0_2) = v2 c
          ∧ r.2.mem ((c.tc : Thread Cert.AdamGmlpOutIdeal.nD Cert.AdamGmlpOutIdeal.τ).loc Cert.AdamGmlpOutIdeal.main_v0_3) = v3 c
          ∧ r.2.mem ((c.tc : Thread Cert.AdamGmlpOutIdeal.nD Cert.AdamGmlpOutIdeal.τ).loc Cert.AdamGmlpOutIdeal.main_arg0) = m ((c.tc : Thread Cert.AdamGmlpOutIdeal.nD Cert.AdamGmlpOutIdeal.τ).loc Cert.AdamGmlpOutIdeal.main_arg0)
          ∧ r.2.mem ((c.tc : Thread Cert.AdamGmlpOutIdeal.nD Cert.AdamGmlpOutIdeal.τ).loc Cert.AdamGmlpOutIdeal.main_arg1) = m ((c.tc : Thread Cert.AdamGmlpOutIdeal.nD Cert.AdamGmlpOutIdeal.τ).loc Cert.AdamGmlpOutIdeal.main_arg1)
          ∧ r.2.mem ((c.tc : Thread Cert.AdamGmlpOutIdeal.nD Cert.AdamGmlpOutIdeal.τ).loc Cert.AdamGmlpOutIdeal.main_arg2) = m ((c.tc : Thread Cert.AdamGmlpOutIdeal.nD Cert.AdamGmlpOutIdeal.τ).loc Cert.AdamGmlpOutIdeal.main_arg2)
          ∧ r.2.mem ((c.tc : Thread Cert.AdamGmlpOutIdeal.nD Cert.AdamGmlpOutIdeal.τ).loc Cert.AdamGmlpOutIdeal.main_arg3) = m ((c.tc : Thread Cert.AdamGmlpOutIdeal.nD Cert.AdamGmlpOutIdeal.τ).loc Cert.AdamGmlpOutIdeal.main_arg3))
      ∧ θ_run (Cert.AdamGmlpOutRefIdeal.defs (F := Ideal)) (onTc (τ := Cert.AdamGmlpOutRefIdeal.τ) (Cert.AdamGmlpOutRefIdeal.main (F := Ideal))) ⟨m', fun _ => 0, g'⟩ (fun r => ∀ c : Dev Cert.AdamGmlpOutRefIdeal.nD,
          r.2.mem ((c.tc : Thread Cert.AdamGmlpOutRefIdeal.nD Cert.AdamGmlpOutRefIdeal.τ).loc Cert.AdamGmlpOutRefIdeal.main_v2) = v0 c
          ∧ r.2.mem ((c.tc : Thread Cert.AdamGmlpOutRefIdeal.nD Cert.AdamGmlpOutRefIdeal.τ).loc Cert.AdamGmlpOutRefIdeal.main_v26) = v1 c
          ∧ r.2.mem ((c.tc : Thread Cert.AdamGmlpOutRefIdeal.nD Cert.AdamGmlpOutRefIdeal.τ).loc Cert.AdamGmlpOutRefIdeal.main_v7) = v2 c
          ∧ r.2.mem ((c.tc : Thread Cert.AdamGmlpOutRefIdeal.nD Cert.AdamGmlpOutRefIdeal.τ).loc Cert.AdamGmlpOutRefIdeal.main_v13) = v3 c
          ∧ r.2.mem ((c.tc : Thread Cert.AdamGmlpOutRefIdeal.nD Cert.AdamGmlpOutRefIdeal.τ).loc Cert.AdamGmlpOutRefIdeal.main_arg0) = m' ((c.tc : Thread Cert.AdamGmlpOutRefIdeal.nD Cert.AdamGmlpOutRefIdeal.τ).loc Cert.AdamGmlpOutRefIdeal.main_arg0)
          ∧ r.2.mem ((c.tc : Thread Cert.AdamGmlpOutRefIdeal.nD Cert.AdamGmlpOutRefIdeal.τ).loc Cert.AdamGmlpOutRefIdeal.main_arg1) = m' ((c.tc : Thread Cert.AdamGmlpOutRefIdeal.nD Cert.AdamGmlpOutRefIdeal.τ).loc Cert.AdamGmlpOutRefIdeal.main_arg1)
          ∧ r.2.mem ((c.tc : Thread Cert.AdamGmlpOutRefIdeal.nD Cert.AdamGmlpOutRefIdeal.τ).loc Cert.AdamGmlpOutRefIdeal.main_arg2) = m' ((c.tc : Thread Cert.AdamGmlpOutRefIdeal.nD Cert.AdamGmlpOutRefIdeal.τ).loc Cert.AdamGmlpOutRefIdeal.main_arg2)
          ∧ r.2.mem ((c.tc : Thread Cert.AdamGmlpOutRefIdeal.nD Cert.AdamGmlpOutRefIdeal.τ).loc Cert.AdamGmlpOutRefIdeal.main_arg3) = m' ((c.tc : Thread Cert.AdamGmlpOutRefIdeal.nD Cert.AdamGmlpOutRefIdeal.τ).loc Cert.AdamGmlpOutRefIdeal.main_arg3))

def preserves_AdamMixIn_AdamMixInIdeal : Prop :=
  True

def algebraic_AdamMixInIdeal_AdamMixInRefIdeal [hAdamMixInIdeal : Cert.AdamMixInIdeal.Facts] [hAdamMixInRefIdeal : Cert.AdamMixInRefIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg)
    (m' : (ℓ : Loc Cert.AdamMixInRefIdeal.nD Cert.AdamMixInRefIdeal.τ Cert.AdamMixInRefIdeal.sig) → Buf (Elt Ideal) ℓ) (g' : Dev Cert.AdamMixInRefIdeal.nD → PrngReg), Pre_AdamMixInIdeal m →
    (∀ c : Dev Cert.AdamMixInIdeal.nD,
      m' ((c.tc : Thread Cert.AdamMixInRefIdeal.nD Cert.AdamMixInRefIdeal.τ).loc Cert.AdamMixInRefIdeal.main_arg0) = m ((c.tc : Thread Cert.AdamMixInIdeal.nD Cert.AdamMixInIdeal.τ).loc Cert.AdamMixInIdeal.main_arg0)
      ∧ m' ((c.tc : Thread Cert.AdamMixInRefIdeal.nD Cert.AdamMixInRefIdeal.τ).loc Cert.AdamMixInRefIdeal.main_arg1) = m ((c.tc : Thread Cert.AdamMixInIdeal.nD Cert.AdamMixInIdeal.τ).loc Cert.AdamMixInIdeal.main_arg1)
      ∧ m' ((c.tc : Thread Cert.AdamMixInRefIdeal.nD Cert.AdamMixInRefIdeal.τ).loc Cert.AdamMixInRefIdeal.main_arg2) = m ((c.tc : Thread Cert.AdamMixInIdeal.nD Cert.AdamMixInIdeal.τ).loc Cert.AdamMixInIdeal.main_arg2)
      ∧ m' ((c.tc : Thread Cert.AdamMixInRefIdeal.nD Cert.AdamMixInRefIdeal.τ).loc Cert.AdamMixInRefIdeal.main_arg3) = m ((c.tc : Thread Cert.AdamMixInIdeal.nD Cert.AdamMixInIdeal.τ).loc Cert.AdamMixInIdeal.main_arg3)) →
    ∃ (v0 : (c : Dev Cert.AdamMixInIdeal.nD) → Buf (Elt Ideal) ((c.tc : Thread Cert.AdamMixInIdeal.nD Cert.AdamMixInIdeal.τ).loc Cert.AdamMixInIdeal.main_v0_0)) (v1 : (c : Dev Cert.AdamMixInIdeal.nD) → Buf (Elt Ideal) ((c.tc : Thread Cert.AdamMixInIdeal.nD Cert.AdamMixInIdeal.τ).loc Cert.AdamMixInIdeal.main_v0_1)) (v2 : (c : Dev Cert.AdamMixInIdeal.nD) → Buf (Elt Ideal) ((c.tc : Thread Cert.AdamMixInIdeal.nD Cert.AdamMixInIdeal.τ).loc Cert.AdamMixInIdeal.main_v0_2)) (v3 : (c : Dev Cert.AdamMixInIdeal.nD) → Buf (Elt Ideal) ((c.tc : Thread Cert.AdamMixInIdeal.nD Cert.AdamMixInIdeal.τ).loc Cert.AdamMixInIdeal.main_v0_3)),
      θ_run (Cert.AdamMixInIdeal.defs (F := Ideal)) (onTc (τ := Cert.AdamMixInIdeal.τ) (Cert.AdamMixInIdeal.main (F := Ideal))) ⟨m, fun _ => 0, g⟩ (fun r => ∀ c : Dev Cert.AdamMixInIdeal.nD,
          r.2.mem ((c.tc : Thread Cert.AdamMixInIdeal.nD Cert.AdamMixInIdeal.τ).loc Cert.AdamMixInIdeal.main_v0_0) = v0 c
          ∧ r.2.mem ((c.tc : Thread Cert.AdamMixInIdeal.nD Cert.AdamMixInIdeal.τ).loc Cert.AdamMixInIdeal.main_v0_1) = v1 c
          ∧ r.2.mem ((c.tc : Thread Cert.AdamMixInIdeal.nD Cert.AdamMixInIdeal.τ).loc Cert.AdamMixInIdeal.main_v0_2) = v2 c
          ∧ r.2.mem ((c.tc : Thread Cert.AdamMixInIdeal.nD Cert.AdamMixInIdeal.τ).loc Cert.AdamMixInIdeal.main_v0_3) = v3 c
          ∧ r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
          ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
          ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
          ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3))
      ∧ θ_run (Cert.AdamMixInRefIdeal.defs (F := Ideal)) (onTc (τ := Cert.AdamMixInRefIdeal.τ) (Cert.AdamMixInRefIdeal.main (F := Ideal))) ⟨m', fun _ => 0, g'⟩ (fun r => ∀ c : Dev Cert.AdamMixInRefIdeal.nD,
          r.2.mem ((c.tc : Thread Cert.AdamMixInRefIdeal.nD Cert.AdamMixInRefIdeal.τ).loc Cert.AdamMixInRefIdeal.main_v3) = v0 c
          ∧ r.2.mem ((c.tc : Thread Cert.AdamMixInRefIdeal.nD Cert.AdamMixInRefIdeal.τ).loc Cert.AdamMixInRefIdeal.main_v27) = v1 c
          ∧ r.2.mem ((c.tc : Thread Cert.AdamMixInRefIdeal.nD Cert.AdamMixInRefIdeal.τ).loc Cert.AdamMixInRefIdeal.main_v8) = v2 c
          ∧ r.2.mem ((c.tc : Thread Cert.AdamMixInRefIdeal.nD Cert.AdamMixInRefIdeal.τ).loc Cert.AdamMixInRefIdeal.main_v14) = v3 c
          ∧ r.2.mem ((c.tc : Thread Cert.AdamMixInRefIdeal.nD Cert.AdamMixInRefIdeal.τ).loc Cert.AdamMixInRefIdeal.main_arg0) = m' ((c.tc : Thread Cert.AdamMixInRefIdeal.nD Cert.AdamMixInRefIdeal.τ).loc Cert.AdamMixInRefIdeal.main_arg0)
          ∧ r.2.mem ((c.tc : Thread Cert.AdamMixInRefIdeal.nD Cert.AdamMixInRefIdeal.τ).loc Cert.AdamMixInRefIdeal.main_arg1) = m' ((c.tc : Thread Cert.AdamMixInRefIdeal.nD Cert.AdamMixInRefIdeal.τ).loc Cert.AdamMixInRefIdeal.main_arg1)
          ∧ r.2.mem ((c.tc : Thread Cert.AdamMixInRefIdeal.nD Cert.AdamMixInRefIdeal.τ).loc Cert.AdamMixInRefIdeal.main_arg2) = m' ((c.tc : Thread Cert.AdamMixInRefIdeal.nD Cert.AdamMixInRefIdeal.τ).loc Cert.AdamMixInRefIdeal.main_arg2)
          ∧ r.2.mem ((c.tc : Thread Cert.AdamMixInRefIdeal.nD Cert.AdamMixInRefIdeal.τ).loc Cert.AdamMixInRefIdeal.main_arg3) = m' ((c.tc : Thread Cert.AdamMixInRefIdeal.nD Cert.AdamMixInRefIdeal.τ).loc Cert.AdamMixInRefIdeal.main_arg3))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)
      ∧ m' ((c.tc : Thread Cert.AdamFfnInRefIdeal.nD Cert.AdamFfnInRefIdeal.τ).loc Cert.AdamFfnInRefIdeal.main_arg4) = m ((c.tc : Thread Cert.AdamFfnInIdeal.nD Cert.AdamFfnInIdeal.τ).loc Cert.AdamFfnInIdeal.main_arg4)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)) (v3 : (c : Dev Cert.AdamFfnInIdeal.nD) → Buf (Elt Ideal) ((c.tc : Thread Cert.AdamFfnInIdeal.nD Cert.AdamFfnInIdeal.τ).loc Cert.AdamFfnInIdeal.main_v0_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_v0_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
          ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v6) = v0 c
          ∧ r.2.mem ((c.tc : Thread Cert.AdamFfnInRefIdeal.nD Cert.AdamFfnInRefIdeal.τ).loc Cert.AdamFfnInRefIdeal.main_v30) = v1 c
          ∧ r.2.mem ((c.tc : Thread Cert.AdamFfnInRefIdeal.nD Cert.AdamFfnInRefIdeal.τ).loc Cert.AdamFfnInRefIdeal.main_v11) = v2 c
          ∧ r.2.mem ((c.tc : Thread Cert.AdamFfnInRefIdeal.nD Cert.AdamFfnInRefIdeal.τ).loc Cert.AdamFfnInRefIdeal.main_v17) = v3 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3)
          ∧ r.2.mem ((c.tc : Thread Cert.AdamFfnInRefIdeal.nD Cert.AdamFfnInRefIdeal.τ).loc Cert.AdamFfnInRefIdeal.main_arg4) = m' ((c.tc : Thread Cert.AdamFfnInRefIdeal.nD Cert.AdamFfnInRefIdeal.τ).loc Cert.AdamFfnInRefIdeal.main_arg4))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)
      ∧ m' ((c.tc : Thread Cert.AdamFfnOutRefIdeal.nD Cert.AdamFfnOutRefIdeal.τ).loc Cert.AdamFfnOutRefIdeal.main_arg4) = m ((c.tc : Thread Cert.AdamFfnOutIdeal.nD Cert.AdamFfnOutIdeal.τ).loc Cert.AdamFfnOutIdeal.main_arg4)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)) (v3 : (c : Dev Cert.AdamFfnOutIdeal.nD) → Buf (Elt Ideal) ((c.tc : Thread Cert.AdamFfnOutIdeal.nD Cert.AdamFfnOutIdeal.τ).loc Cert.AdamFfnOutIdeal.main_v0_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_v0_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
          ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v6) = v0 c
          ∧ r.2.mem ((c.tc : Thread Cert.AdamFfnOutRefIdeal.nD Cert.AdamFfnOutRefIdeal.τ).loc Cert.AdamFfnOutRefIdeal.main_v30) = v1 c
          ∧ r.2.mem ((c.tc : Thread Cert.AdamFfnOutRefIdeal.nD Cert.AdamFfnOutRefIdeal.τ).loc Cert.AdamFfnOutRefIdeal.main_v11) = v2 c
          ∧ r.2.mem ((c.tc : Thread Cert.AdamFfnOutRefIdeal.nD Cert.AdamFfnOutRefIdeal.τ).loc Cert.AdamFfnOutRefIdeal.main_v17) = v3 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3)
          ∧ r.2.mem ((c.tc : Thread Cert.AdamFfnOutRefIdeal.nD Cert.AdamFfnOutRefIdeal.τ).loc Cert.AdamFfnOutRefIdeal.main_arg4) = m' ((c.tc : Thread Cert.AdamFfnOutRefIdeal.nD Cert.AdamFfnOutRefIdeal.τ).loc Cert.AdamFfnOutRefIdeal.main_arg4))

def preserves_AdamMemKv_AdamMemKvIdeal : Prop :=
  True

def algebraic_AdamMemKvIdeal_AdamMemKvRefIdeal [hAdamMemKvIdeal : Cert.AdamMemKvIdeal.Facts] [hAdamMemKvRefIdeal : Cert.AdamMemKvRefIdeal.Facts] : Prop :=
  ∀ (m : (ℓ : Loc Cert.AdamMemKvIdeal.nD Cert.AdamMemKvIdeal.τ Cert.AdamMemKvIdeal.sig) → Buf (Elt Ideal) ℓ) (g : Dev Cert.AdamMemKvIdeal.nD → PrngReg)
    (m' : (ℓ : Loc Cert.AdamMemKvRefIdeal.nD Cert.AdamMemKvRefIdeal.τ Cert.AdamMemKvRefIdeal.sig) → Buf (Elt Ideal) ℓ) (g' : Dev Cert.AdamMemKvRefIdeal.nD → PrngReg), Pre_AdamMemKvIdeal m →
    (∀ c : Dev Cert.AdamMemKvIdeal.nD,
      m' ((c.tc : Thread Cert.AdamMemKvRefIdeal.nD Cert.AdamMemKvRefIdeal.τ).loc Cert.AdamMemKvRefIdeal.main_arg0) = m ((c.tc : Thread Cert.AdamMemKvIdeal.nD Cert.AdamMemKvIdeal.τ).loc Cert.AdamMemKvIdeal.main_arg0)
      ∧ m' ((c.tc : Thread Cert.AdamMemKvRefIdeal.nD Cert.AdamMemKvRefIdeal.τ).loc Cert.AdamMemKvRefIdeal.main_arg1) = m ((c.tc : Thread Cert.AdamMemKvIdeal.nD Cert.AdamMemKvIdeal.τ).loc Cert.AdamMemKvIdeal.main_arg1)
      ∧ m' ((c.tc : Thread Cert.AdamMemKvRefIdeal.nD Cert.AdamMemKvRefIdeal.τ).loc Cert.AdamMemKvRefIdeal.main_arg2) = m ((c.tc : Thread Cert.AdamMemKvIdeal.nD Cert.AdamMemKvIdeal.τ).loc Cert.AdamMemKvIdeal.main_arg2)
      ∧ m' ((c.tc : Thread Cert.AdamMemKvRefIdeal.nD Cert.AdamMemKvRefIdeal.τ).loc Cert.AdamMemKvRefIdeal.main_arg3) = m ((c.tc : Thread Cert.AdamMemKvIdeal.nD Cert.AdamMemKvIdeal.τ).loc Cert.AdamMemKvIdeal.main_arg3)
      ∧ m' ((c.tc : Thread Cert.AdamMemKvRefIdeal.nD Cert.AdamMemKvRefIdeal.τ).loc Cert.AdamMemKvRefIdeal.main_arg4) = m ((c.tc : Thread Cert.AdamMemKvIdeal.nD Cert.AdamMemKvIdeal.τ).loc Cert.AdamMemKvIdeal.main_arg4)) →
    ∃ (v0 : (c : Dev Cert.AdamMemKvIdeal.nD) → Buf (Elt Ideal) ((c.tc : Thread Cert.AdamMemKvIdeal.nD Cert.AdamMemKvIdeal.τ).loc Cert.AdamMemKvIdeal.main_v0_0)) (v1 : (c : Dev Cert.AdamMemKvIdeal.nD) → Buf (Elt Ideal) ((c.tc : Thread Cert.AdamMemKvIdeal.nD Cert.AdamMemKvIdeal.τ).loc Cert.AdamMemKvIdeal.main_v0_1)) (v2 : (c : Dev Cert.AdamMemKvIdeal.nD) → Buf (Elt Ideal) ((c.tc : Thread Cert.AdamMemKvIdeal.nD Cert.AdamMemKvIdeal.τ).loc Cert.AdamMemKvIdeal.main_v0_2)) (v3 : (c : Dev Cert.AdamMemKvIdeal.nD) → Buf (Elt Ideal) ((c.tc : Thread Cert.AdamMemKvIdeal.nD Cert.AdamMemKvIdeal.τ).loc Cert.AdamMemKvIdeal.main_v0_3)),
      θ_run (Cert.AdamMemKvIdeal.defs (F := Ideal)) (onTc (τ := Cert.AdamMemKvIdeal.τ) (Cert.AdamMemKvIdeal.main (F := Ideal))) ⟨m, fun _ => 0, g⟩ (fun r => ∀ c : Dev Cert.AdamMemKvIdeal.nD,
          r.2.mem ((c.tc : Thread Cert.AdamMemKvIdeal.nD Cert.AdamMemKvIdeal.τ).loc Cert.AdamMemKvIdeal.main_v0_0) = v0 c
          ∧ r.2.mem ((c.tc : Thread Cert.AdamMemKvIdeal.nD Cert.AdamMemKvIdeal.τ).loc Cert.AdamMemKvIdeal.main_v0_1) = v1 c
          ∧ r.2.mem ((c.tc : Thread Cert.AdamMemKvIdeal.nD Cert.AdamMemKvIdeal.τ).loc Cert.AdamMemKvIdeal.main_v0_2) = v2 c
          ∧ r.2.mem ((c.tc : Thread Cert.AdamMemKvIdeal.nD Cert.AdamMemKvIdeal.τ).loc Cert.AdamMemKvIdeal.main_v0_3) = v3 c
          ∧ r.2.mem ((c.tc : Thread Cert.AdamMemKvIdeal.nD Cert.AdamMemKvIdeal.τ).loc Cert.AdamMemKvIdeal.main_arg0) = m ((c.tc : Thread Cert.AdamMemKvIdeal.nD Cert.AdamMemKvIdeal.τ).loc Cert.AdamMemKvIdeal.main_arg0)
          ∧ r.2.mem ((c.tc : Thread Cert.AdamMemKvIdeal.nD Cert.AdamMemKvIdeal.τ).loc Cert.AdamMemKvIdeal.main_arg1) = m ((c.tc : Thread Cert.AdamMemKvIdeal.nD Cert.AdamMemKvIdeal.τ).loc Cert.AdamMemKvIdeal.main_arg1)
          ∧ r.2.mem ((c.tc : Thread Cert.AdamMemKvIdeal.nD Cert.AdamMemKvIdeal.τ).loc Cert.AdamMemKvIdeal.main_arg2) = m ((c.tc : Thread Cert.AdamMemKvIdeal.nD Cert.AdamMemKvIdeal.τ).loc Cert.AdamMemKvIdeal.main_arg2)
          ∧ r.2.mem ((c.tc : Thread Cert.AdamMemKvIdeal.nD Cert.AdamMemKvIdeal.τ).loc Cert.AdamMemKvIdeal.main_arg3) = m ((c.tc : Thread Cert.AdamMemKvIdeal.nD Cert.AdamMemKvIdeal.τ).loc Cert.AdamMemKvIdeal.main_arg3)
          ∧ r.2.mem ((c.tc : Thread Cert.AdamMemKvIdeal.nD Cert.AdamMemKvIdeal.τ).loc Cert.AdamMemKvIdeal.main_arg4) = m ((c.tc : Thread Cert.AdamMemKvIdeal.nD Cert.AdamMemKvIdeal.τ).loc Cert.AdamMemKvIdeal.main_arg4))
      ∧ θ_run (Cert.AdamMemKvRefIdeal.defs (F := Ideal)) (onTc (τ := Cert.AdamMemKvRefIdeal.τ) (Cert.AdamMemKvRefIdeal.main (F := Ideal))) ⟨m', fun _ => 0, g'⟩ (fun r => ∀ c : Dev Cert.AdamMemKvRefIdeal.nD,
          r.2.mem ((c.tc : Thread Cert.AdamMemKvRefIdeal.nD Cert.AdamMemKvRefIdeal.τ).loc Cert.AdamMemKvRefIdeal.main_v8) = v0 c
          ∧ r.2.mem ((c.tc : Thread Cert.AdamMemKvRefIdeal.nD Cert.AdamMemKvRefIdeal.τ).loc Cert.AdamMemKvRefIdeal.main_v32) = v1 c
          ∧ r.2.mem ((c.tc : Thread Cert.AdamMemKvRefIdeal.nD Cert.AdamMemKvRefIdeal.τ).loc Cert.AdamMemKvRefIdeal.main_v13) = v2 c
          ∧ r.2.mem ((c.tc : Thread Cert.AdamMemKvRefIdeal.nD Cert.AdamMemKvRefIdeal.τ).loc Cert.AdamMemKvRefIdeal.main_v19) = v3 c
          ∧ r.2.mem ((c.tc : Thread Cert.AdamMemKvRefIdeal.nD Cert.AdamMemKvRefIdeal.τ).loc Cert.AdamMemKvRefIdeal.main_arg0) = m' ((c.tc : Thread Cert.AdamMemKvRefIdeal.nD Cert.AdamMemKvRefIdeal.τ).loc Cert.AdamMemKvRefIdeal.main_arg0)
          ∧ r.2.mem ((c.tc : Thread Cert.AdamMemKvRefIdeal.nD Cert.AdamMemKvRefIdeal.τ).loc Cert.AdamMemKvRefIdeal.main_arg1) = m' ((c.tc : Thread Cert.AdamMemKvRefIdeal.nD Cert.AdamMemKvRefIdeal.τ).loc Cert.AdamMemKvRefIdeal.main_arg1)
          ∧ r.2.mem ((c.tc : Thread Cert.AdamMemKvRefIdeal.nD Cert.AdamMemKvRefIdeal.τ).loc Cert.AdamMemKvRefIdeal.main_arg2) = m' ((c.tc : Thread Cert.AdamMemKvRefIdeal.nD Cert.AdamMemKvRefIdeal.τ).loc Cert.AdamMemKvRefIdeal.main_arg2)
          ∧ r.2.mem ((c.tc : Thread Cert.AdamMemKvRefIdeal.nD Cert.AdamMemKvRefIdeal.τ).loc Cert.AdamMemKvRefIdeal.main_arg3) = m' ((c.tc : Thread Cert.AdamMemKvRefIdeal.nD Cert.AdamMemKvRefIdeal.τ).loc Cert.AdamMemKvRefIdeal.main_arg3)
          ∧ r.2.mem ((c.tc : Thread Cert.AdamMemKvRefIdeal.nD Cert.AdamMemKvRefIdeal.τ).loc Cert.AdamMemKvRefIdeal.main_arg4) = m' ((c.tc : Thread Cert.AdamMemKvRefIdeal.nD Cert.AdamMemKvRefIdeal.τ).loc Cert.AdamMemKvRefIdeal.main_arg4))

def Claim : Prop :=
  ∃ (hKernel : Cert.Kernel.Facts) (hKernelIdeal : Cert.KernelIdeal.Facts) (hReferenceIdeal : Cert.ReferenceIdeal.Facts) (hFfnDgrad : Cert.FfnDgrad.Facts) (hFfnDgradIdeal : Cert.FfnDgradIdeal.Facts) (hFfnDgradRefIdeal : Cert.FfnDgradRefIdeal.Facts) (hFfnFwd : Cert.FfnFwd.Facts) (hFfnFwdIdeal : Cert.FfnFwdIdeal.Facts) (hFfnFwdRefIdeal : Cert.FfnFwdRefIdeal.Facts) (hFfnOutWgrad : Cert.FfnOutWgrad.Facts) (hFfnOutWgradIdeal : Cert.FfnOutWgradIdeal.Facts) (hFfnOutWgradRefIdeal : Cert.FfnOutWgradRefIdeal.Facts) (hFfnInWgrad : Cert.FfnInWgrad.Facts) (hFfnInWgradIdeal : Cert.FfnInWgradIdeal.Facts) (hFfnInWgradRefIdeal : Cert.FfnInWgradRefIdeal.Facts) (hMixInDgrad : Cert.MixInDgrad.Facts) (hMixInDgradIdeal : Cert.MixInDgradIdeal.Facts) (hMixInDgradRefIdeal : Cert.MixInDgradRefIdeal.Facts) (hMixInWgrad : Cert.MixInWgrad.Facts) (hMixInWgradIdeal : Cert.MixInWgradIdeal.Facts) (hMixInWgradRefIdeal : Cert.MixInWgradRefIdeal.Facts) (hHgrnOut : Cert.HgrnOut.Facts) (hHgrnOutIdeal : Cert.HgrnOutIdeal.Facts) (hHgrnOutRefIdeal : Cert.HgrnOutRefIdeal.Facts) (hHgrnOutWgrad : Cert.HgrnOutWgrad.Facts) (hHgrnOutWgradIdeal : Cert.HgrnOutWgradIdeal.Facts) (hHgrnOutWgradRefIdeal : Cert.HgrnOutWgradRefIdeal.Facts) (hHgrnOutDgrad : Cert.HgrnOutDgrad.Facts) (hHgrnOutDgradIdeal : Cert.HgrnOutDgradIdeal.Facts) (hHgrnOutDgradRefIdeal : Cert.HgrnOutDgradRefIdeal.Facts) (hGmlpOut : Cert.GmlpOut.Facts) (hGmlpOutIdeal : Cert.GmlpOutIdeal.Facts) (hGmlpOutRefIdeal : Cert.GmlpOutRefIdeal.Facts) (hGmlpOutWgrad : Cert.GmlpOutWgrad.Facts) (hGmlpOutWgradIdeal : Cert.GmlpOutWgradIdeal.Facts) (hGmlpOutWgradRefIdeal : Cert.GmlpOutWgradRefIdeal.Facts) (hGmlpOutDgrad : Cert.GmlpOutDgrad.Facts) (hGmlpOutDgradIdeal : Cert.GmlpOutDgradIdeal.Facts) (hGmlpOutDgradRefIdeal : Cert.GmlpOutDgradRefIdeal.Facts) (hAttnFwd : Cert.AttnFwd.Facts) (hAttnFwdIdeal : Cert.AttnFwdIdeal.Facts) (hAttnFwdRefIdeal : Cert.AttnFwdRefIdeal.Facts) (hMemKv : Cert.MemKv.Facts) (hMemKvIdeal : Cert.MemKvIdeal.Facts) (hMemKvRefIdeal : Cert.MemKvRefIdeal.Facts) (hMemKvWgrad : Cert.MemKvWgrad.Facts) (hMemKvWgradIdeal : Cert.MemKvWgradIdeal.Facts) (hMemKvWgradRefIdeal : Cert.MemKvWgradRefIdeal.Facts) (hMemKvDgrad : Cert.MemKvDgrad.Facts) (hMemKvDgradIdeal : Cert.MemKvDgradIdeal.Facts) (hMemKvDgradRefIdeal : Cert.MemKvDgradRefIdeal.Facts) (hMemNorm : Cert.MemNorm.Facts) (hMemNormIdeal : Cert.MemNormIdeal.Facts) (hMemNormRefIdeal : Cert.MemNormRefIdeal.Facts) (hMemNormBwd : Cert.MemNormBwd.Facts) (hMemNormBwdIdeal : Cert.MemNormBwdIdeal.Facts) (hMemNormBwdRefIdeal : Cert.MemNormBwdRefIdeal.Facts) (hLossHead : Cert.LossHead.Facts) (hLossHeadIdeal : Cert.LossHeadIdeal.Facts) (hLossHeadRefIdeal : Cert.LossHeadRefIdeal.Facts) (hGmlpFwd : Cert.GmlpFwd.Facts) (hGmlpFwdIdeal : Cert.GmlpFwdIdeal.Facts) (hGmlpFwdRefIdeal : Cert.GmlpFwdRefIdeal.Facts) (hAdamHgrnOut : Cert.AdamHgrnOut.Facts) (hAdamHgrnOutIdeal : Cert.AdamHgrnOutIdeal.Facts) (hAdamHgrnOutRefIdeal : Cert.AdamHgrnOutRefIdeal.Facts) (hAdamGmlpOut : Cert.AdamGmlpOut.Facts) (hAdamGmlpOutIdeal : Cert.AdamGmlpOutIdeal.Facts) (hAdamGmlpOutRefIdeal : Cert.AdamGmlpOutRefIdeal.Facts) (hAdamMixIn : Cert.AdamMixIn.Facts) (hAdamMixInIdeal : Cert.AdamMixInIdeal.Facts) (hAdamMixInRefIdeal : Cert.AdamMixInRefIdeal.Facts) (hAdamFfnIn : Cert.AdamFfnIn.Facts) (hAdamFfnInIdeal : Cert.AdamFfnInIdeal.Facts) (hAdamFfnInRefIdeal : Cert.AdamFfnInRefIdeal.Facts) (hAdamFfnOut : Cert.AdamFfnOut.Facts) (hAdamFfnOutIdeal : Cert.AdamFfnOutIdeal.Facts) (hAdamFfnOutRefIdeal : Cert.AdamFfnOutRefIdeal.Facts) (hAdamMemKv : Cert.AdamMemKv.Facts) (hAdamMemKvIdeal : Cert.AdamMemKvIdeal.Facts) (hAdamMemKvRefIdeal : Cert.AdamMemKvRefIdeal.Facts) (hPre_finite_scores : Cert.Pre_finite_scores.Facts) (hPre_finite_ffn : Cert.Pre_finite_ffn.Facts) (hPre_finite_up : Cert.Pre_finite_up.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_FfnDgrad (hFfnDgrad := hFfnDgrad)
    ∧ quiescent_FfnDgradIdeal (hFfnDgradIdeal := hFfnDgradIdeal)
    ∧ quiescent_FfnDgradIdeal_pre_finite_ffn (hFfnDgradIdeal := hFfnDgradIdeal) (hPre_finite_ffn := hPre_finite_ffn)
    ∧ quiescent_FfnDgradRefIdeal (hFfnDgradRefIdeal := hFfnDgradRefIdeal)
    ∧ quiescent_FfnDgradRefIdeal_pre_finite_ffn (hFfnDgradRefIdeal := hFfnDgradRefIdeal) (hPre_finite_ffn := hPre_finite_ffn)
    ∧ quiescent_FfnFwd (hFfnFwd := hFfnFwd)
    ∧ quiescent_FfnFwdIdeal (hFfnFwdIdeal := hFfnFwdIdeal)
    ∧ quiescent_FfnFwdIdeal_pre_finite_up (hFfnFwdIdeal := hFfnFwdIdeal) (hPre_finite_up := hPre_finite_up)
    ∧ quiescent_FfnFwdRefIdeal (hFfnFwdRefIdeal := hFfnFwdRefIdeal)
    ∧ quiescent_FfnFwdRefIdeal_pre_finite_up (hFfnFwdRefIdeal := hFfnFwdRefIdeal) (hPre_finite_up := hPre_finite_up)
    ∧ quiescent_FfnOutWgrad (hFfnOutWgrad := hFfnOutWgrad)
    ∧ quiescent_FfnOutWgradIdeal (hFfnOutWgradIdeal := hFfnOutWgradIdeal)
    ∧ quiescent_FfnOutWgradRefIdeal (hFfnOutWgradRefIdeal := hFfnOutWgradRefIdeal)
    ∧ quiescent_FfnInWgrad (hFfnInWgrad := hFfnInWgrad)
    ∧ quiescent_FfnInWgradIdeal (hFfnInWgradIdeal := hFfnInWgradIdeal)
    ∧ quiescent_FfnInWgradRefIdeal (hFfnInWgradRefIdeal := hFfnInWgradRefIdeal)
    ∧ quiescent_MixInDgrad (hMixInDgrad := hMixInDgrad)
    ∧ quiescent_MixInDgradIdeal (hMixInDgradIdeal := hMixInDgradIdeal)
    ∧ quiescent_MixInDgradRefIdeal (hMixInDgradRefIdeal := hMixInDgradRefIdeal)
    ∧ quiescent_MixInWgrad (hMixInWgrad := hMixInWgrad)
    ∧ quiescent_MixInWgradIdeal (hMixInWgradIdeal := hMixInWgradIdeal)
    ∧ quiescent_MixInWgradRefIdeal (hMixInWgradRefIdeal := hMixInWgradRefIdeal)
    ∧ quiescent_HgrnOut (hHgrnOut := hHgrnOut)
    ∧ quiescent_HgrnOutIdeal (hHgrnOutIdeal := hHgrnOutIdeal)
    ∧ quiescent_HgrnOutRefIdeal (hHgrnOutRefIdeal := hHgrnOutRefIdeal)
    ∧ quiescent_HgrnOutWgrad (hHgrnOutWgrad := hHgrnOutWgrad)
    ∧ quiescent_HgrnOutWgradIdeal (hHgrnOutWgradIdeal := hHgrnOutWgradIdeal)
    ∧ quiescent_HgrnOutWgradRefIdeal (hHgrnOutWgradRefIdeal := hHgrnOutWgradRefIdeal)
    ∧ quiescent_HgrnOutDgrad (hHgrnOutDgrad := hHgrnOutDgrad)
    ∧ quiescent_HgrnOutDgradIdeal (hHgrnOutDgradIdeal := hHgrnOutDgradIdeal)
    ∧ quiescent_HgrnOutDgradRefIdeal (hHgrnOutDgradRefIdeal := hHgrnOutDgradRefIdeal)
    ∧ quiescent_GmlpOut (hGmlpOut := hGmlpOut)
    ∧ quiescent_GmlpOutIdeal (hGmlpOutIdeal := hGmlpOutIdeal)
    ∧ quiescent_GmlpOutRefIdeal (hGmlpOutRefIdeal := hGmlpOutRefIdeal)
    ∧ quiescent_GmlpOutWgrad (hGmlpOutWgrad := hGmlpOutWgrad)
    ∧ quiescent_GmlpOutWgradIdeal (hGmlpOutWgradIdeal := hGmlpOutWgradIdeal)
    ∧ quiescent_GmlpOutWgradRefIdeal (hGmlpOutWgradRefIdeal := hGmlpOutWgradRefIdeal)
    ∧ quiescent_GmlpOutDgrad (hGmlpOutDgrad := hGmlpOutDgrad)
    ∧ quiescent_GmlpOutDgradIdeal (hGmlpOutDgradIdeal := hGmlpOutDgradIdeal)
    ∧ quiescent_GmlpOutDgradRefIdeal (hGmlpOutDgradRefIdeal := hGmlpOutDgradRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemKvWgrad (hMemKvWgrad := hMemKvWgrad)
    ∧ quiescent_MemKvWgradIdeal (hMemKvWgradIdeal := hMemKvWgradIdeal)
    ∧ quiescent_MemKvWgradRefIdeal (hMemKvWgradRefIdeal := hMemKvWgradRefIdeal)
    ∧ quiescent_MemKvDgrad (hMemKvDgrad := hMemKvDgrad)
    ∧ quiescent_MemKvDgradIdeal (hMemKvDgradIdeal := hMemKvDgradIdeal)
    ∧ quiescent_MemKvDgradRefIdeal (hMemKvDgradRefIdeal := hMemKvDgradRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_MemNormBwd (hMemNormBwd := hMemNormBwd)
    ∧ quiescent_MemNormBwdIdeal (hMemNormBwdIdeal := hMemNormBwdIdeal)
    ∧ quiescent_MemNormBwdRefIdeal (hMemNormBwdRefIdeal := hMemNormBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ quiescent_AdamHgrnOut (hAdamHgrnOut := hAdamHgrnOut)
    ∧ quiescent_AdamHgrnOutIdeal (hAdamHgrnOutIdeal := hAdamHgrnOutIdeal)
    ∧ quiescent_AdamHgrnOutRefIdeal (hAdamHgrnOutRefIdeal := hAdamHgrnOutRefIdeal)
    ∧ quiescent_AdamGmlpOut (hAdamGmlpOut := hAdamGmlpOut)
    ∧ quiescent_AdamGmlpOutIdeal (hAdamGmlpOutIdeal := hAdamGmlpOutIdeal)
    ∧ quiescent_AdamGmlpOutRefIdeal (hAdamGmlpOutRefIdeal := hAdamGmlpOutRefIdeal)
    ∧ quiescent_AdamMixIn (hAdamMixIn := hAdamMixIn)
    ∧ quiescent_AdamMixInIdeal (hAdamMixInIdeal := hAdamMixInIdeal)
    ∧ quiescent_AdamMixInRefIdeal (hAdamMixInRefIdeal := hAdamMixInRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_AdamMemKv (hAdamMemKv := hAdamMemKv)
    ∧ quiescent_AdamMemKvIdeal (hAdamMemKvIdeal := hAdamMemKvIdeal)
    ∧ quiescent_AdamMemKvRefIdeal (hAdamMemKvRefIdeal := hAdamMemKvRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_FfnDgrad_FfnDgradIdeal
    ∧ algebraic_FfnDgradIdeal_FfnDgradRefIdeal_pre_finite_ffn (hFfnDgradIdeal := hFfnDgradIdeal) (hFfnDgradRefIdeal := hFfnDgradRefIdeal) (hPre_finite_ffn := hPre_finite_ffn)
    ∧ preserves_FfnFwd_FfnFwdIdeal
    ∧ algebraic_FfnFwdIdeal_FfnFwdRefIdeal_pre_finite_up (hFfnFwdIdeal := hFfnFwdIdeal) (hFfnFwdRefIdeal := hFfnFwdRefIdeal) (hPre_finite_up := hPre_finite_up)
    ∧ preserves_FfnOutWgrad_FfnOutWgradIdeal
    ∧ algebraic_FfnOutWgradIdeal_FfnOutWgradRefIdeal (hFfnOutWgradIdeal := hFfnOutWgradIdeal) (hFfnOutWgradRefIdeal := hFfnOutWgradRefIdeal)
    ∧ preserves_FfnInWgrad_FfnInWgradIdeal
    ∧ algebraic_FfnInWgradIdeal_FfnInWgradRefIdeal (hFfnInWgradIdeal := hFfnInWgradIdeal) (hFfnInWgradRefIdeal := hFfnInWgradRefIdeal)
    ∧ preserves_MixInDgrad_MixInDgradIdeal
    ∧ algebraic_MixInDgradIdeal_MixInDgradRefIdeal (hMixInDgradIdeal := hMixInDgradIdeal) (hMixInDgradRefIdeal := hMixInDgradRefIdeal)
    ∧ preserves_MixInWgrad_MixInWgradIdeal
    ∧ algebraic_MixInWgradIdeal_MixInWgradRefIdeal (hMixInWgradIdeal := hMixInWgradIdeal) (hMixInWgradRefIdeal := hMixInWgradRefIdeal)
    ∧ preserves_HgrnOut_HgrnOutIdeal
    ∧ algebraic_HgrnOutIdeal_HgrnOutRefIdeal (hHgrnOutIdeal := hHgrnOutIdeal) (hHgrnOutRefIdeal := hHgrnOutRefIdeal)
    ∧ preserves_HgrnOutWgrad_HgrnOutWgradIdeal
    ∧ algebraic_HgrnOutWgradIdeal_HgrnOutWgradRefIdeal (hHgrnOutWgradIdeal := hHgrnOutWgradIdeal) (hHgrnOutWgradRefIdeal := hHgrnOutWgradRefIdeal)
    ∧ preserves_HgrnOutDgrad_HgrnOutDgradIdeal
    ∧ algebraic_HgrnOutDgradIdeal_HgrnOutDgradRefIdeal (hHgrnOutDgradIdeal := hHgrnOutDgradIdeal) (hHgrnOutDgradRefIdeal := hHgrnOutDgradRefIdeal)
    ∧ preserves_GmlpOut_GmlpOutIdeal
    ∧ algebraic_GmlpOutIdeal_GmlpOutRefIdeal (hGmlpOutIdeal := hGmlpOutIdeal) (hGmlpOutRefIdeal := hGmlpOutRefIdeal)
    ∧ preserves_GmlpOutWgrad_GmlpOutWgradIdeal
    ∧ algebraic_GmlpOutWgradIdeal_GmlpOutWgradRefIdeal (hGmlpOutWgradIdeal := hGmlpOutWgradIdeal) (hGmlpOutWgradRefIdeal := hGmlpOutWgradRefIdeal)
    ∧ preserves_GmlpOutDgrad_GmlpOutDgradIdeal
    ∧ algebraic_GmlpOutDgradIdeal_GmlpOutDgradRefIdeal (hGmlpOutDgradIdeal := hGmlpOutDgradIdeal) (hGmlpOutDgradRefIdeal := hGmlpOutDgradRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_MemKv_MemKvIdeal
    ∧ algebraic_MemKvIdeal_MemKvRefIdeal (hMemKvIdeal := hMemKvIdeal) (hMemKvRefIdeal := hMemKvRefIdeal)
    ∧ preserves_MemKvWgrad_MemKvWgradIdeal
    ∧ algebraic_MemKvWgradIdeal_MemKvWgradRefIdeal (hMemKvWgradIdeal := hMemKvWgradIdeal) (hMemKvWgradRefIdeal := hMemKvWgradRefIdeal)
    ∧ preserves_MemKvDgrad_MemKvDgradIdeal
    ∧ algebraic_MemKvDgradIdeal_MemKvDgradRefIdeal (hMemKvDgradIdeal := hMemKvDgradIdeal) (hMemKvDgradRefIdeal := hMemKvDgradRefIdeal)
    ∧ preserves_MemNorm_MemNormIdeal
    ∧ algebraic_MemNormIdeal_MemNormRefIdeal (hMemNormIdeal := hMemNormIdeal) (hMemNormRefIdeal := hMemNormRefIdeal)
    ∧ preserves_MemNormBwd_MemNormBwdIdeal
    ∧ algebraic_MemNormBwdIdeal_MemNormBwdRefIdeal (hMemNormBwdIdeal := hMemNormBwdIdeal) (hMemNormBwdRefIdeal := hMemNormBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
    ∧ preserves_AdamHgrnOut_AdamHgrnOutIdeal
    ∧ algebraic_AdamHgrnOutIdeal_AdamHgrnOutRefIdeal (hAdamHgrnOutIdeal := hAdamHgrnOutIdeal) (hAdamHgrnOutRefIdeal := hAdamHgrnOutRefIdeal)
    ∧ preserves_AdamGmlpOut_AdamGmlpOutIdeal
    ∧ algebraic_AdamGmlpOutIdeal_AdamGmlpOutRefIdeal (hAdamGmlpOutIdeal := hAdamGmlpOutIdeal) (hAdamGmlpOutRefIdeal := hAdamGmlpOutRefIdeal)
    ∧ preserves_AdamMixIn_AdamMixInIdeal
    ∧ algebraic_AdamMixInIdeal_AdamMixInRefIdeal (hAdamMixInIdeal := hAdamMixInIdeal) (hAdamMixInRefIdeal := hAdamMixInRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_AdamMemKv_AdamMemKvIdeal
    ∧ algebraic_AdamMemKvIdeal_AdamMemKvRefIdeal (hAdamMemKvIdeal := hAdamMemKvIdeal) (hAdamMemKvRefIdeal := hAdamMemKvRefIdeal)
-- ==== Pre_finite_ffn.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1x1024 .f32) (main_arg2 : FVec F S1024x5632 .f32) (main_arg3 : FVec F S2816x1024 .f32) (main_arg4 : FVec F S4096x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x5632 .f32 := Host.absf main_arg2
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite_scores.lean ====
abbrev S4096x5120 : Shape := ⟨2, ![4096, 5120]⟩
abbrev S512x2048 : Shape := ⟨2, ![512, 2048]⟩
abbrev S4096x2048 : Shape := ⟨2, ![4096, 2048]⟩
abbrev S4096x1024 : Shape := ⟨2, ![4096, 1024]⟩
abbrev S_ : Shape := ⟨0, ![]⟩
abbrev S512x1024 : Shape := ⟨2, ![512, 1024]⟩

class Facts : Prop where
  slices_S4096x5120_S4096x1024_0_4096 : S4096x5120.Slices ![0, 4096] S4096x1024
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S512x2048_S512x1024_0_0 : S512x2048.Slices ![0, 0] S512x1024
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S4096x5120 .f32) (main_arg1 : FVec F S512x2048 .f32) (main_arg2 : FVec F S4096x2048 .f32) : IVec S_ 1 :=
  let main_v0 : FVec F S4096x1024 .f32 := (extractStridedSlice S4096x1024 ![0, 4096] · slices_S4096x5120_S4096x1024_0_4096) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S512x1024 .f32 := (extractStridedSlice S512x1024 ![0, 0] · slices_S512x2048_S512x1024_0_0) main_arg1
  let main_v6 : FVec F S512x1024 .f32 := Host.absf main_v5
  let main_cst_0 : FVec F S_ .f32 := constant S_ .f32 0x7F800000#32
  let main_v7 : FVec F S512x1024 .f32 := broadcastInDim S512x1024 ![] bcast_S_S512x1024 main_cst_0
  let main_v8 : IVec S512x1024 1 := cmpf .olt main_v6 main_v7
  let main_c_1 : IVec S_ 1 := constantI S_ 1 1#1
  let main_v9 : IVec S_ 1 := (fun x v => Host.reduce IntOp.andi x v reducesTo_S512x1024_S_d0_1 h_S_) main_v8 main_c_1
  let main_v10 : IVec S_ 1 := andi main_v4 main_v9
  main_v10
-- ==== Pre_finite_up.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S4096x1024 .f32) (main_arg1 : FVec F S1x1024 .f32) (main_arg2 : FVec F S1024x5632 .f32) (main_arg3 : FVec F S2816x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x5632 .f32 := Host.absf main_arg2
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  main_v8
-- ==== Kernel.lean ====
abbrev S4096x5120 : Shape := ⟨2, ![4096, 5120]⟩
abbrev S512x2048 : Shape := ⟨2, ![512, 2048]⟩
abbrev S4096x2048 : Shape := ⟨2, ![4096, 2048]⟩
abbrev S4096x1024 : Shape := ⟨2, ![4096, 1024]⟩
abbrev S512x1024 : Shape := ⟨2, ![512, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 6
  | .vmem => 14
  | .smem => 0
  | _ => 0

abbrev bufTy : (tb : Table) → Fin (tcTables nBuf tb) → BufTy
  | .hbm, ⟨0, _⟩ => ⟨S4096x5120, .f32⟩
  | .hbm, ⟨1, _⟩ => ⟨S512x2048, .f32⟩
  | .hbm, ⟨2, _⟩ => ⟨S4096x2048, .f32⟩
  | .hbm, ⟨3, _⟩ => ⟨S4096x1024, .bf16⟩
  | .hbm, ⟨4, _⟩ => ⟨S512x1024, .f32⟩
  | .hbm, ⟨5, _⟩ => ⟨S512x1024, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v36 : BitVec 1 := Scalar.cmpi .eq arg2 c0_i32
  let v37 : BitVec 32 := Scalar.extui v36
  let c0_i32_18 : BitVec 32 := 0#32
  let v38 : BitVec 1 := Scalar.cmpi .ne v37 c0_i32_18
  v38

def k0_cond2 (i : grid0.Coords) : BitVec 1 :=
  let arg2 : BitVec 32 := BitVec.ofNat 32 (i 2).val
  let c0_i32_19 : BitVec 32 := 0#32
  let v39 : BitVec 1 := Scalar.cmpi .sgt arg2 c0_i32_19
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S4096x5120 : Shape := ⟨2, ![4096, 5120]⟩
abbrev S512x2048 : Shape := ⟨2, ![512, 2048]⟩
abbrev S4096x2048 : Shape := ⟨2, ![4096, 2048]⟩
abbrev S4096x1024 : Shape := ⟨2, ![4096, 1024]⟩
abbrev S2x2048x1024 : Shape := ⟨3, ![2, 2048, 1024]⟩
abbrev S512x1024 : Shape := ⟨2, ![512, 1024]⟩
abbrev S2x256x4x256 : Shape := ⟨4, ![2, 256, 4, 256]⟩
abbrev S2x2048x4x256 : Shape := ⟨4, ![2, 2048, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩

abbrev nBuf : Space → Nat
  | .hbm => 88
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S512x2048, .f32⟩
  | .hbm, ⟨2, _⟩ => ⟨S4096x2048, .f32⟩
  | .hbm, ⟨3, _⟩ => ⟨S4096x1024, .f32⟩
  | .hbm, ⟨4, _⟩ => ⟨S2x2048x1024, .f32⟩
  | .hbm, ⟨5, _⟩ => ⟨S512x1024, .f32⟩
  | .hbm, ⟨6, _⟩ => ⟨S512x1024, .f32⟩
  | .hbm, ⟨7, _⟩ => ⟨S2x256x4x256, .f32⟩
  | .hbm, ⟨8, _⟩ => ⟨S2x256x4x256, .f32⟩
  | .hbm, ⟨9, _⟩ => ⟨S4096x1024, .f32⟩
  | .hbm, ⟨10, _⟩ => ⟨S2x2048x1024, .f32⟩
  | .hbm, ⟨11, _⟩ => ⟨S2x2048x4x256, .f32⟩
  | .hbm, ⟨12, _⟩ => ⟨S2x4x2048x256, .f32⟩
  | .hbm, ⟨13, _⟩ => ⟨S_, .f32⟩
  | .hbm, ⟨14, _⟩ => ⟨S2x4x2048x256, .f32⟩
  | .hbm, ⟨15, _⟩ => ⟨S2x4x2048x256, .f32⟩
  | .hbm, ⟨16, _⟩ => ⟨S_, .f32⟩
  | .hbm, ⟨17, _⟩ => ⟨S2x4x2048, .f32⟩
  | .hbm, ⟨18, _⟩ => ⟨S2x4x2048x1, .f32⟩
  | .hbm, ⟨19, _⟩ => ⟨S2x4x2048x256, .f32⟩
  | .hbm, ⟨20, _⟩ => ⟨S2x4x2048x256, .i1⟩
  | .hbm, ⟨21, _⟩ => ⟨S2x4x2048x256, .f32⟩
  | .hbm, ⟨22, _⟩ => ⟨S_, .f32⟩
  | .hbm, ⟨23, _⟩ => ⟨S2x4x2048, .f32⟩
  | .hbm, ⟨24, _⟩ => ⟨S_, .f32⟩
  | .hbm, ⟨25, _⟩ => ⟨S2x4x2048, .f32⟩
  | .hbm, ⟨26, _⟩ => ⟨S2x4x2048, .f32⟩
  | .hbm, ⟨27, _⟩ => ⟨S_, .f32⟩
  | .hbm, ⟨28, _⟩ => ⟨S2x4x2048, .f32⟩
  | .hbm, ⟨29, _⟩ => ⟨S2x4x2048, .i1⟩
  | .hbm, ⟨30, _⟩ => ⟨S_, .f32⟩
  | .hbm, ⟨31, _⟩ => ⟨S2x4x2048, .f32⟩
  | .hbm, ⟨32, _⟩ => ⟨S2x4x2048, .i1⟩
  | .hbm, ⟨33, _⟩ => ⟨S_, .f32⟩
  | .hbm, ⟨34, _⟩ => ⟨S2x4x2048, .f32⟩
  | .hbm, ⟨35, _⟩ => ⟨S_, .f32⟩
  | .hbm, ⟨36, _⟩ => ⟨S2x4x2048, .f32⟩
  | .hbm, ⟨37, _⟩ => ⟨S_, .f32⟩
  | .hbm, ⟨38, _⟩ => ⟨S2x4x2048, .f32⟩
  | .hbm, ⟨39, _⟩ => ⟨S2x4x2048, .f32⟩
  | .hbm, ⟨40, _⟩ => ⟨S2x4x2048, .f32⟩
  | .hbm, ⟨41, _⟩ => ⟨S2x4x2048x1, .f32⟩
  | .hbm, ⟨42, _⟩ => ⟨S2x4x2048x256, .f32⟩
  | .hbm, ⟨43, _⟩ => ⟨S2x4x2048x256, .f32⟩
  | .hbm, ⟨44, _⟩ => ⟨S2x4x2048x256, .f32⟩
  | .hbm, ⟨45, _⟩ => ⟨S_, .f32⟩
  | .hbm, ⟨46, _⟩ => ⟨S2x4x2048, .f32⟩
  | .hbm, ⟨47, _⟩ => ⟨S2x4x2048x1, .f32⟩
  | .hbm, ⟨48, _⟩ => ⟨S2x4x2048x256, .f32⟩
  | .hbm, ⟨49, _⟩ => ⟨S2x4x2048x256, .f32⟩
  | .hbm, ⟨50, _⟩ => ⟨S2x4x2048x1, .f32⟩
  | .hbm, ⟨51, _⟩ => ⟨S_, .f32⟩
  | .hbm, ⟨52, _⟩ => ⟨S2x4x2048x1, .f32⟩
  | .hbm, ⟨53, _⟩ => ⟨S2x4x2048x1, .f32⟩
  | .hbm, ⟨54, _⟩ => ⟨S2x4x256x2048, .f32⟩
  | .hbm, ⟨55, _⟩ => ⟨S2x2048x4x256, .f32⟩
  | .hbm, ⟨56, _⟩ => ⟨S2x2048x1024, .f32⟩
  | .hbm, ⟨57, _⟩ => ⟨S2x2048x4x256, .f32⟩
  | .hbm, ⟨58, _⟩ => ⟨S2x4x256x2048, .f32⟩
  | .hbm, ⟨59, _⟩ => ⟨S2x4x2048x256, .f32⟩
  | .hbm, ⟨60, _⟩ => ⟨S2x4x256x256, .f32⟩
  | .hbm, ⟨61, _⟩ => ⟨S2x256x4x256, .f32⟩
  | .hbm, ⟨62, _⟩ => ⟨S2x4x2048x256, .f32⟩
  | .hbm, ⟨63, _⟩ => ⟨S2x4x2048x256, .f32⟩
  | .hbm, ⟨64, _⟩ => ⟨S2x4x2048x256, .f32⟩
  | .hbm, ⟨65, _⟩ => ⟨S_, .f32⟩
  | .hbm, ⟨66, _⟩ => ⟨S2x4x2048, .f32⟩
  | .hbm, ⟨67, _⟩ => ⟨S2x4x2048x1, .f32⟩
  | .hbm, ⟨68, _⟩ => ⟨S2x4x2048x1, .f32⟩
  | .hbm, ⟨69, _⟩ => ⟨S2x4x2048x256, .f32⟩
  | .hbm, ⟨70, _⟩ => ⟨S2x4x2048x256, .f32⟩
  | .hbm, ⟨71, _⟩ => ⟨S_, .f32⟩
  | .hbm, ⟨72, _⟩ => ⟨S2x4x2048, .f32⟩
  | .hbm, ⟨73, _⟩ => ⟨S2x4x2048x256, .f32⟩
  | .hbm, ⟨74, _⟩ => ⟨S2x4x2048x256, .f32⟩
  | .hbm, ⟨75, _⟩ => ⟨S2x4x2048x256, .f32⟩
  | .hbm, ⟨76, _⟩ => ⟨S_, .f32⟩
  | .hbm, ⟨77, _⟩ => ⟨S2x4x2048x256, .f32⟩
  | .hbm, ⟨78, _⟩ => ⟨S2x4x2048x256, .f32⟩
  | .hbm, ⟨79, _⟩ => ⟨S2x4x256x256, .f32⟩
  | .hbm, ⟨80, _⟩ => ⟨S2x256x4x256, .f32⟩
  | .hbm, ⟨81, _⟩ => ⟨S2x4x2048x256, .f32⟩
  | .hbm, ⟨82, _⟩ => ⟨S2x2048x4x256, .f32⟩
  | .hbm, ⟨83, _⟩ => ⟨S2x2048x1024, .f32⟩
  | .hbm, ⟨84, _⟩ => ⟨S4096x1024, .f32⟩
  | .hbm, ⟨85, _⟩ => ⟨S4096x1024, .bf16⟩
  | .hbm, ⟨86, _⟩ => ⟨S512x1024, .f32⟩
  | .hbm, ⟨87, _⟩ => ⟨S512x1024, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== FfnDgrad.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S5632x1024 : Shape := ⟨2, ![5632, 1024]⟩
abbrev S256x1024 : Shape := ⟨2, ![256, 1024]⟩
abbrev S2x256x2816 : Shape := ⟨3, ![2, 256, 2816]⟩
abbrev S1408x1024 : Shape := ⟨2, ![1408, 1024]⟩
abbrev S256x1408 : Shape := ⟨2, ![256, 1408]⟩
abbrev S1x256x1408 : Shape := ⟨3, ![1, 256, 1408]⟩
abbrev S1x256x2816 : Shape := ⟨3, ![1, 256, 2816]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 64
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x5632, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S_, .f32⟩
  | .hbm, ⟨48, _⟩ => ⟨S4096x5632, .f32⟩
  | .hbm, ⟨49, _⟩ => ⟨S4096x5632, .f32⟩
  | .hbm, ⟨50, _⟩ => ⟨S4096x2816, .f32⟩
  | .hbm, ⟨51, _⟩ => ⟨S4096x2816, .f32⟩
  | .hbm, ⟨52, _⟩ => ⟨S1x4096x2816, .f32⟩
  | .hbm, ⟨53, _⟩ => ⟨S1x4096x2816, .f32⟩
  | .hbm, ⟨54, _⟩ => ⟨S2x4096x2816, .f32⟩
  | .hbm, ⟨55, _⟩ => ⟨S2x4096x2816, .bf16⟩
  | .hbm, ⟨56, _⟩ => ⟨S4096x1024, .bf16⟩
  | .hbm, ⟨57, _⟩ => ⟨S2816x1024, .bf16⟩
  | .hbm, ⟨58, _⟩ => ⟨S5632x1024, .f32⟩
  | .hbm, ⟨59, _⟩ => ⟨S5632x1024, .bf16⟩
  | .hbm, ⟨60, _⟩ => ⟨S2x4096x2816, .bf16⟩
  | .hbm, ⟨61, _⟩ => ⟨S4096x1024, .f32⟩
  | .hbm, ⟨62, _⟩ => ⟨S4096x1024, .bf16⟩
  | .hbm, ⟨63, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S2816x1024, .bf16⟩
  | .local _ .vmem, ⟨5, _⟩ => ⟨S2x256x2816, .bf16⟩
  | .local _ .vmem, ⟨6, _⟩ => ⟨S2x256x2816, .bf16⟩
  | .local _ .vmem, ⟨7, _⟩ => ⟨S5632x1024, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S2x256x2816, .bf16⟩
  | .local _ .vmem, ⟨12, _⟩ => ⟨S2x256x2816, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v14_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v14_1 : Ref sig .tc := ⟨.hbm, 33, rfl⟩
abbrev main_v14_0 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v21 : Ref sig .tc := ⟨.hbm, 46, rfl⟩
abbrev main_cst_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34_0 : Ref sig .tc := ⟨.hbm, 60, rfl⟩
abbrev main_v34_1 : Ref sig .tc := ⟨.hbm, 61, rfl⟩
abbrev main_v34_2 : Ref sig .tc := ⟨.hbm, 62, rfl⟩
abbrev main_v34_3 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_47 : BitVec 32 := 0#32
  let v71 : BitVec 1 := Scalar.cmpi .ne v70 c0_i32_47
  v71

def k0_cond2 (i : grid0.Coords) : BitVec 1 :=
  let arg0 : BitVec 32 := BitVec.ofNat 32 (i 0).val
  let c0_i32_48 : BitVec 32 := 0#32
  let v72 : BitVec 1 := Scalar.cmpi .sgt arg0 c0_i32_48
  let v73 : BitVec 32 := Scalar.extui v72
  let c0_i32_49 : BitVec 32 := 0#32
  let v74 : BitVec 1 := Scalar.cmpi .ne v73 c0_i32_49
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnDgradRefIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024 : Shape := ⟨1, ![1024]⟩
abbrev S1x4096x2816 : Shape := ⟨3, ![1, 4096, 2816]⟩
abbrev S2x4096x2816 : Shape := ⟨3, ![2, 4096, 2816]⟩

abbrev nBuf : Space → Nat
  | .hbm => 141
  | .vmem => 0
  | .smem => 0
  | _ => 0

abbrev hbmTy0_0 (i : Nat) : BufTy := match i % 128 with
  | 0 => ⟨S4096x1024, .f32⟩
  | 1 => ⟨S1x1024, .f32⟩
  | 2 => ⟨S1024x5632, .f32⟩
  | 3 => ⟨S2816x1024, .f32⟩
  | 4 => ⟨S4096x1024, .f32⟩
  | 5 => ⟨S4096x1024, .f32⟩
  | 6 => ⟨S_, .f32⟩
  | 7 => ⟨S4096, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096x1, .f32⟩
  | 14 => ⟨S4096x1, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1024, .f32⟩
  | 21 => ⟨S4096x1024, .f32⟩
  | 22 => ⟨S4096x1024, .f32⟩
  | 23 => ⟨S4096x1024, .f32⟩
  | 24 => ⟨S4096x5632, .f32⟩
  | 25 => ⟨S4096x2816, .f32⟩
  | 26 => ⟨S4096x2816, .f32⟩
  | 27 => ⟨S4096x2816, .f32⟩
  | 28 => ⟨S4096x2816, .f32⟩
  | 29 => ⟨S_, .f32⟩
  | 30 => ⟨S4096x2816, .f32⟩
  | 31 => ⟨S4096x2816, .f32⟩
  | 32 => ⟨S_, .f32⟩
  | 33 => ⟨S4096x2816, .f32⟩
  | 34 => ⟨S4096x2816, .f32⟩
  | 35 => ⟨S_, .f32⟩
  | 36 => ⟨S4096x2816, .f32⟩
  | 37 => ⟨S4096x2816, .f32⟩
  | 38 => ⟨S4096x2816, .f32⟩
  | 39 => ⟨S4096x2816, .f32⟩
  | 40 => ⟨S4096x2816, .f32⟩
  | 41 => ⟨S4096x1024, .f32⟩
  | 42 => ⟨S_, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S4096x2816, .f32⟩
  | 51 => ⟨S4096x2816, .f32⟩
  | 52 => ⟨S4096x2816, .f32⟩
  | 53 => ⟨S4096x2816, .f32⟩
  | 54 => ⟨S4096x2816, .f32⟩
  | 55 => ⟨S4096x2816, .f32⟩
  | 56 => ⟨S4096x2816, .f32⟩
  | 57 => ⟨S4096x5632, .f32⟩
  | 58 => ⟨S4096x1024, .f32⟩
  | 59 => ⟨S4096x1024, .f32⟩
  | 60 => ⟨S_, .f32⟩
  | 61 => ⟨S1024, .f32⟩
  | 62 => ⟨S1x1024, .f32⟩
  | 63 => ⟨S4096x1024, .f32⟩
  | 64 => ⟨S4096x1024, .f32⟩
  | 65 => ⟨S4096x1024, .f32⟩
  | 66 => ⟨S_, .f32⟩
  | 67 => ⟨S4096, .f32⟩
  | 68 => ⟨S4096x1, .f32⟩
  | 69 => ⟨S4096x1024, .f32⟩
  | 70 => ⟨S4096x1024, .f32⟩
  | 71 => ⟨S4096x1024, .f32⟩
  | 72 => ⟨S4096x1, .f32⟩
  | 73 => ⟨S_, .f32⟩
  | 74 => ⟨S4096x1, .f32⟩
  | 75 => ⟨S4096x1, .f32⟩
  | 76 => ⟨S_, .f32⟩
  | 77 => ⟨S4096, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S_, .f32⟩
  | 85 => ⟨S4096, .f32⟩
  | 86 => ⟨S4096x1, .f32⟩
  | 87 => ⟨S_, .f32⟩
  | 88 => ⟨S4096x1, .f32⟩
  | 89 => ⟨S4096x1, .f32⟩
  | 90 => ⟨S_, .f32⟩
  | 91 => ⟨S4096x1, .f32⟩
  | 92 => ⟨S4096x1, .f32⟩
  | 93 => ⟨S4096x1, .f32⟩
  | 94 => ⟨S4096x1024, .f32⟩
  | 95 => ⟨S4096x1024, .f32⟩
  | 96 => ⟨S4096x1024, .f32⟩
  | 97 => ⟨S4096x1024, .f32⟩
  | 98 => ⟨S4096x5632, .f32⟩
  | 99 => ⟨S4096x2816, .f32⟩
  | 100 => ⟨S4096x2816, .f32⟩
  | 101 => ⟨S4096x2816, .f32⟩
  | 102 => ⟨S_, .f32⟩
  | 103 => ⟨S4096x2816, .f32⟩
  | 104 => ⟨S4096x2816, .f32⟩
  | 105 => ⟨S_, .f32⟩
  | 106 => ⟨S4096x2816, .f32⟩
  | 107 => ⟨S4096x2816, .f32⟩
  | 108 => ⟨S_, .f32⟩
  | 109 => ⟨S4096x2816, .f32⟩
  | 110 => ⟨S4096x2816, .f32⟩
  | 111 => ⟨S4096x2816, .f32⟩
  | 112 => ⟨S4096x2816, .f32⟩
  | 113 => ⟨S4096x2816, .f32⟩
  | 114 => ⟨S4096x2816, .f32⟩
  | 115 => ⟨S4096x1024, .f32⟩
  | 116 => ⟨S_, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S4096x2816, .f32⟩
  | 123 => ⟨S4096x2816, .f32⟩
  | 124 => ⟨S4096x2816, .f32⟩
  | 125 => ⟨S_, .f32⟩
  | 126 => ⟨S4096x5632, .f32⟩
  | 127 => ⟨S4096x2816, .f32⟩
  | _ => ⟨S4096x1024, .f32⟩

abbrev hbmTy0_1 (i : Nat) : BufTy := match i % 128 with
  | 0 => ⟨S4096x2816, .f32⟩
  | 1 => ⟨S4096x2816, .f32⟩
  | 2 => ⟨S4096x2816, .f32⟩
  | 3 => ⟨S_, .f32⟩
  | 4 => ⟨S4096x5632, .f32⟩
  | 5 => ⟨S4096x5632, .f32⟩
  | 6 => ⟨S4096x2816, .f32⟩
  | 7 => ⟨S4096x2816, .f32⟩
  | 8 => ⟨S1x4096x2816, .f32⟩
  | 9 => ⟨S1x4096x2816, .f32⟩
  | 10 => ⟨S2x4096x2816, .f32⟩
  | 11 => ⟨S2x4096x2816, .bf16⟩
  | 12 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call2_v0 : Ref sig .tc := ⟨.hbm, 100, rfl⟩
abbrev main_call2_v1 : Ref sig .tc := ⟨.hbm, 101, rfl⟩
abbrev main_call2_cst : Ref sig .tc := ⟨.hbm, 102, rfl⟩
abbrev main_call2_v2 : Ref sig .tc := ⟨.hbm, 103, rfl⟩
abbrev main_call2_v3 : Ref sig .tc := ⟨.hbm, 104, rfl⟩
abbrev main_call2_cst_0 : Ref sig .tc := ⟨.hbm, 105, rfl⟩
abbrev main_call2_v4 : Ref sig .tc := ⟨.hbm, 106, rfl⟩
abbrev main_v67_2 : Ref sig .tc := ⟨.hbm, 107, rfl⟩
abbrev main_call2_cst_1 : Ref sig .tc := ⟨.hbm, 108, rfl⟩
abbrev main_call2_v6 : Ref sig .tc := ⟨.hbm, 109, rfl⟩
abbrev main_call2_v7 : Ref sig .tc := ⟨.hbm, 110, rfl⟩
abbrev main_v67_1 : Ref sig .tc := ⟨.hbm, 111, rfl⟩
abbrev main_v67_0 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_cst_12 : Ref sig .tc := ⟨.hbm, 116, rfl⟩
abbrev main_v71 : Ref sig .tc := ⟨.hbm, 117, rfl⟩
abbrev main_v72 : Ref sig .tc := ⟨.hbm, 118, rfl⟩
abbrev main_cst_13 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_14 : Ref sig .tc := ⟨.hbm, 125, rfl⟩
abbrev main_v78 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_v79 : Ref sig .tc := ⟨.hbm, 130, rfl⟩
abbrev main_cst_15 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩

abbrev nD : Nat := 1
abbrev τ : Topo := Topo.v7x

variable {F : FTy → Type} [FloatOps F]
-- ==== FfnFwd.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S2x4096x2816 : Shape := ⟨3, ![2, 4096, 2816]⟩
abbrev S4096x2816 : Shape := ⟨2, ![4096, 2816]⟩
abbrev S256x1024 : Shape := ⟨2, ![256, 1024]⟩
abbrev S2x256x2816 : Shape := ⟨3, ![2, 256, 2816]⟩
abbrev S256x2816 : Shape := ⟨2, ![256, 2816]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩
abbrev S1x256x1408 : Shape := ⟨3, ![1, 256, 1408]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S5632x1024, .f32⟩
  | .hbm, ⟨5, _⟩ => ⟨S5632x1024, .bf16⟩
  | .hbm, ⟨6, _⟩ => ⟨S2816x1024, .bf16⟩
  | .hbm, ⟨7, _⟩ => ⟨S4096x1024, .f32⟩
  | .hbm, ⟨8, _⟩ => ⟨S4096x1024, .bf16⟩
  | .hbm, ⟨9, _⟩ => ⟨S2x4096x2816, .bf16⟩
  | .hbm, ⟨10, _⟩ => ⟨S4096x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5632x1024, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S2x256x2816, .bf16⟩
  | .local _ .vmem, ⟨10, _⟩ => ⟨S2x256x2816, .bf16⟩
  | .local _ .vmem, ⟨11, _⟩ => ⟨S256x2816, .bf16⟩
  | .local _ .vmem, ⟨12, _⟩ => ⟨S256x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdRefIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x2816, .f32⟩
  | .hbm, ⟨21, _⟩ => ⟨S4096x2816, .f32⟩
  | .hbm, ⟨22, _⟩ => ⟨S4096x5632, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x5632, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S_, .f32⟩
  | .hbm, ⟨61, _⟩ => ⟨S4096x2816, .f32⟩
  | .hbm, ⟨62, _⟩ => ⟨S4096x2816, .f32⟩
  | .hbm, ⟨63, _⟩ => ⟨S_, .f32⟩
  | .hbm, ⟨64, _⟩ => ⟨S4096x2816, .f32⟩
  | .hbm, ⟨65, _⟩ => ⟨S4096x2816, .f32⟩
  | .hbm, ⟨66, _⟩ => ⟨S_, .f32⟩
  | .hbm, ⟨67, _⟩ => ⟨S4096x2816, .f32⟩
  | .hbm, ⟨68, _⟩ => ⟨S4096x2816, .f32⟩
  | .hbm, ⟨69, _⟩ => ⟨S4096x2816, .f32⟩
  | .hbm, ⟨70, _⟩ => ⟨S4096x2816, .f32⟩
  | .hbm, ⟨71, _⟩ => ⟨S4096x2816, .f32⟩
  | .hbm, ⟨72, _⟩ => ⟨S4096x2816, .f32⟩
  | .hbm, ⟨73, _⟩ => ⟨S_, .f32⟩
  | .hbm, ⟨74, _⟩ => ⟨S4096x2816, .f32⟩
  | .hbm, ⟨75, _⟩ => ⟨S4096x2816, .f32⟩
  | .hbm, ⟨76, _⟩ => ⟨S4096x2816, .f32⟩
  | .hbm, ⟨77, _⟩ => ⟨S_, .f32⟩
  | .hbm, ⟨78, _⟩ => ⟨S4096x5632, .f32⟩
  | .hbm, ⟨79, _⟩ => ⟨S4096x2816, .f32⟩
  | .hbm, ⟨80, _⟩ => ⟨S4096x2816, .f32⟩
  | .hbm, ⟨81, _⟩ => ⟨S4096x2816, .f32⟩
  | .hbm, ⟨82, _⟩ => ⟨S4096x2816, .f32⟩
  | .hbm, ⟨83, _⟩ => ⟨S_, .f32⟩
  | .hbm, ⟨84, _⟩ => ⟨S4096x5632, .f32⟩
  | .hbm, ⟨85, _⟩ => ⟨S4096x5632, .f32⟩
  | .hbm, ⟨86, _⟩ => ⟨S4096x2816, .f32⟩
  | .hbm, ⟨87, _⟩ => ⟨S4096x2816, .f32⟩
  | .hbm, ⟨88, _⟩ => ⟨S1x4096x2816, .f32⟩
  | .hbm, ⟨89, _⟩ => ⟨S1x4096x2816, .f32⟩
  | .hbm, ⟨90, _⟩ => ⟨S2x4096x2816, .f32⟩
  | .hbm, ⟨91, _⟩ => ⟨S2x4096x2816, .bf16⟩
  | .hbm, ⟨92, _⟩ => ⟨S4096x2816, .f32⟩
  | .hbm, ⟨93, _⟩ => ⟨S4096x2816, .f32⟩
  | .hbm, ⟨94, _⟩ => ⟨S_, .f32⟩
  | .hbm, ⟨95, _⟩ => ⟨S4096x2816, .f32⟩
  | .hbm, ⟨96, _⟩ => ⟨S4096x2816, .f32⟩
  | .hbm, ⟨97, _⟩ => ⟨S_, .f32⟩
  | .hbm, ⟨98, _⟩ => ⟨S4096x2816, .f32⟩
  | .hbm, ⟨99, _⟩ => ⟨S4096x2816, .f32⟩
  | .hbm, ⟨100, _⟩ => ⟨S4096x2816, .f32⟩
  | .hbm, ⟨101, _⟩ => ⟨S4096x2816, .f32⟩
  | .hbm, ⟨102, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_v39_2 : Ref sig .tc := ⟨.hbm, 65, rfl⟩
abbrev main_call1_cst_1 : Ref sig .tc := ⟨.hbm, 66, rfl⟩
abbrev main_call1_v6 : Ref sig .tc := ⟨.hbm, 67, rfl⟩
abbrev main_call1_v7 : Ref sig .tc := ⟨.hbm, 68, rfl⟩
abbrev main_v39_1 : Ref sig .tc := ⟨.hbm, 69, rfl⟩
abbrev main_v39_0 : Ref sig .tc := ⟨.hbm, 70, rfl⟩
abbrev main_v40 : Ref sig .tc := ⟨.hbm, 71, rfl⟩
abbrev main_v41 : Ref sig .tc := ⟨.hbm, 72, rfl⟩
abbrev main_cst_6 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_7 : Ref sig .tc := ⟨.hbm, 77, rfl⟩
abbrev main_v45 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v46 : Ref sig .tc := ⟨.hbm, 82, rfl⟩
abbrev main_cst_8 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_call3_v0 : Ref sig .tc := ⟨.hbm, 92, rfl⟩
abbrev main_call3_v1 : Ref sig .tc := ⟨.hbm, 93, rfl⟩
abbrev main_call3_cst : Ref sig .tc := ⟨.hbm, 94, rfl⟩
abbrev main_call3_v2 : Ref sig .tc := ⟨.hbm, 95, rfl⟩
abbrev main_call3_v3 : Ref sig .tc := ⟨.hbm, 96, rfl⟩
abbrev main_call3_cst_0 : Ref sig .tc := ⟨.hbm, 97, rfl⟩
abbrev main_call3_v4 : Ref sig .tc := ⟨.hbm, 98, rfl⟩
abbrev main_call3_v5 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩

abbrev nD : Nat := 1
abbrev τ : Topo := Topo.v7x

variable {F : FTy → Type} [FloatOps F]
-- ==== FfnOutWgrad.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S1408x1024 : Shape := ⟨2, ![1408, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutWgradRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S1024x2816, .f32⟩
  | .hbm, ⟨12, _⟩ => ⟨S2816x1024, .f32⟩
  | .hbm, ⟨13, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== FfnInWgrad.lean ====
abbrev S4096x1024 : Shape := ⟨2, ![4096, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S5632x1024 : Shape := ⟨2, ![5632, 1024]⟩
abbrev S1x4096x1408 : Shape := ⟨3, ![1, 4096, 1408]⟩
abbrev S1408x1024 : Shape := ⟨2, ![1408, 1024]⟩
abbrev S4096x1408 : Shape := ⟨2, ![4096, 1408]⟩

abbrev nBuf : Space → Nat
  | .hbm => 10
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x2816, .f32⟩
  | .hbm, ⟨3, _⟩ => ⟨S4096x2816, .f32⟩
  | .hbm, ⟨4, _⟩ => ⟨S1x4096x2816, .f32⟩
  | .hbm, ⟨5, _⟩ => ⟨S1x4096x2816, .f32⟩
  | .hbm, ⟨6, _⟩ => ⟨S2x4096x2816, .f32⟩
  | .hbm, ⟨7, _⟩ => ⟨S2x4096x2816, .bf16⟩
  | .hbm, ⟨8, _⟩ => ⟨S4096x1024, .bf16⟩
  | .hbm, ⟨9, _⟩ => ⟨S5632x1024, .bf16⟩
  | .local _ .vmem, ⟨0, _⟩ => ⟨S1x4096x1408, .bf16⟩
  | .local _ .vmem, ⟨1, _⟩ => ⟨S1x4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c2_i32 : BitVec 32 := 2#32
  let v0 : BitVec 1 := Scalar.cmpi .slt arg0 c2_i32
  let c0_i32 : BitVec 32 := 0#32
  let c1_i32 : BitVec 32 := 1#32
  let v1 : BitVec 32 := Scalar.select v0 c0_i32 c1_i32
  let c2_i32_0 : BitVec 32 := 2#32
  let v2 : BitVec 1 := Scalar.cmpi .slt arg0 c2_i32_0
  let c2_i32_1 : BitVec 32 := 2#32
  let v3 : BitVec 32 := Scalar.subi arg0 c2_i32_1
  let v4 : BitVec 32 := Scalar.select v2 arg0 v3
  let c0_i32_2 : BitVec 32 := 0#32
  let c0_i32_3 : BitVec 32 := 0#32
  ![v1.toNat, c0_i32_2.toNat, v4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnInWgradRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S5632x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixInDgrad.lean ====
abbrev S4096x1024 : Shape := ⟨2, ![4096, 1024]⟩
abbrev S1x1024 : Shape := ⟨2, ![1, 1024]⟩
abbrev S1024x5120 : Shape := ⟨2, ![1024, 5120]⟩
abbrev S4096x5120 : Shape := ⟨2, ![4096, 5120]⟩
abbrev S5120x1024 : Shape := ⟨2, ![5120, 1024]⟩
abbrev S512x5120 : Shape := ⟨2, ![512, 5120]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5120, .f32⟩
  | .hbm, ⟨3, _⟩ => ⟨S4096x5120, .f32⟩
  | .hbm, ⟨4, _⟩ => ⟨S4096x1024, .f32⟩
  | .hbm, ⟨5, _⟩ => ⟨S4096x5120, .bf16⟩
  | .hbm, ⟨6, _⟩ => ⟨S5120x1024, .f32⟩
  | .hbm, ⟨7, _⟩ => ⟨S5120x1024, .bf16⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S512x5120, .bf16⟩
  | .local _ .vmem, ⟨1, _⟩ => ⟨S512x5120, .bf16⟩
  | .local _ .vmem, ⟨2, _⟩ => ⟨S5120x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_9 : BitVec 32 := 0#32
  let v21 : BitVec 1 := Scalar.cmpi .ne v20 c0_i32_9
  v21

def k0_cond2 (i : grid0.Coords) : BitVec 1 :=
  let arg0 : BitVec 32 := BitVec.ofNat 32 (i 0).val
  let c0_i32_10 : BitVec 32 := 0#32
  let v22 : BitVec 1 := Scalar.cmpi .sgt arg0 c0_i32_10
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixInDgradRefIdeal.lean ====
abbrev S4096x1024 : Shape := ⟨2, ![4096, 1024]⟩
abbrev S1x1024 : Shape := ⟨2, ![1, 1024]⟩
abbrev S1024x5120 : Shape := ⟨2, ![1024, 5120]⟩
abbrev S4096x5120 : Shape := ⟨2, ![4096, 5120]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5120, .f32⟩
  | .hbm, ⟨3, _⟩ => ⟨S4096x5120, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5120, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== MixInWgrad.lean ====
abbrev S4096x1024 : Shape := ⟨2, ![4096, 1024]⟩
abbrev S4096x5120 : Shape := ⟨2, ![4096, 5120]⟩
abbrev S5120x1024 : Shape := ⟨2, ![5120, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x5120, .f32⟩
  | .hbm, ⟨2, _⟩ => ⟨S4096x5120, .bf16⟩
  | .hbm, ⟨3, _⟩ => ⟨S4096x1024, .bf16⟩
  | .hbm, ⟨4, _⟩ => ⟨S5120x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInWgradRefIdeal.lean ====
abbrev S4096x1024 : Shape := ⟨2, ![4096, 1024]⟩
abbrev S4096x5120 : Shape := ⟨2, ![4096, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5120, .f32⟩
  | .hbm, ⟨2, _⟩ => ⟨S_, .f32⟩
  | .hbm, ⟨3, _⟩ => ⟨S1024x5120, .f32⟩
  | .hbm, ⟨4, _⟩ => ⟨S4096x5120, .f32⟩
  | .hbm, ⟨5, _⟩ => ⟨S5120x1024, .f32⟩
  | .hbm, ⟨6, _⟩ => ⟨S1024x5120, .f32⟩
  | .hbm, ⟨7, _⟩ => ⟨S5120x1024, .f32⟩
  | .hbm, ⟨8, _⟩ => ⟨S5120x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== HgrnOut.lean ====
abbrev S4096x1024 : Shape := ⟨2, ![4096, 1024]⟩
abbrev S4096x2048 : Shape := ⟨2, ![4096, 2048]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S4096x2048, .bf16⟩
  | .hbm, ⟨4, _⟩ => ⟨S2048x1024, .bf16⟩
  | .hbm, ⟨5, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HgrnOutIdeal.lean ====
abbrev S4096x1024 : Shape := ⟨2, ![4096, 1024]⟩
abbrev S4096x2048 : Shape := ⟨2, ![4096, 2048]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S4096x2048, .bf16⟩
  | .hbm, ⟨4, _⟩ => ⟨S2048x1024, .bf16⟩
  | .hbm, ⟨5, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HgrnOutRefIdeal.lean ====
abbrev S4096x1024 : Shape := ⟨2, ![4096, 1024]⟩
abbrev S4096x2048 : Shape := ⟨2, ![4096, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== HgrnOutWgrad.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S4096x1024, .bf16⟩
  | .hbm, ⟨4, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnOutWgradIdeal.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S4096x1024, .bf16⟩
  | .hbm, ⟨4, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnOutWgradRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== HgrnOutDgrad.lean ====
abbrev S2048x1024 : Shape := ⟨2, ![2048, 1024]⟩
abbrev S4096x1024 : Shape := ⟨2, ![4096, 1024]⟩
abbrev S4096x2048 : Shape := ⟨2, ![4096, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S4096x1024, .bf16⟩
  | .hbm, ⟨3, _⟩ => ⟨S2048x1024, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnOutDgradIdeal.lean ====
abbrev S2048x1024 : Shape := ⟨2, ![2048, 1024]⟩
abbrev S4096x1024 : Shape := ⟨2, ![4096, 1024]⟩
abbrev S4096x2048 : Shape := ⟨2, ![4096, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S4096x1024, .bf16⟩
  | .hbm, ⟨3, _⟩ => ⟨S2048x1024, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnOutDgradRefIdeal.lean ====
abbrev S2048x1024 : Shape := ⟨2, ![2048, 1024]⟩
abbrev S4096x1024 : Shape := ⟨2, ![4096, 1024]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S_, .f32⟩
  | .hbm, ⟨3, _⟩ => ⟨S4096x2048, .f32⟩
  | .hbm, ⟨4, _⟩ => ⟨S4096x1024, .f32⟩
  | .hbm, ⟨5, _⟩ => ⟨S4096x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GmlpOut.lean ====
abbrev S4096x1024 : Shape := ⟨2, ![4096, 1024]⟩
abbrev S4096x3072 : Shape := ⟨2, ![4096, 3072]⟩
abbrev S3072x1024 : Shape := ⟨2, ![3072, 1024]⟩
abbrev S512x3072 : Shape := ⟨2, ![512, 3072]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S3072x1024, .f32⟩
  | .hbm, ⟨3, _⟩ => ⟨S4096x3072, .bf16⟩
  | .hbm, ⟨4, _⟩ => ⟨S3072x1024, .bf16⟩
  | .hbm, ⟨5, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GmlpOutRefIdeal.lean ====
abbrev S4096x1024 : Shape := ⟨2, ![4096, 1024]⟩
abbrev S4096x3072 : Shape := ⟨2, ![4096, 3072]⟩
abbrev S3072x1024 : Shape := ⟨2, ![3072, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S3072x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== GmlpOutWgrad.lean ====
abbrev S4096x3072 : Shape := ⟨2, ![4096, 3072]⟩
abbrev S4096x1024 : Shape := ⟨2, ![4096, 1024]⟩
abbrev S3072x1024 : Shape := ⟨2, ![3072, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x3072, .bf16⟩
  | .hbm, ⟨3, _⟩ => ⟨S4096x1024, .bf16⟩
  | .hbm, ⟨4, _⟩ => ⟨S3072x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmlpOutWgradRefIdeal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S_, .f32⟩
  | .hbm, ⟨3, _⟩ => ⟨S3072x1024, .f32⟩
  | .hbm, ⟨4, _⟩ => ⟨S4096x1024, .f32⟩
  | .hbm, ⟨5, _⟩ => ⟨S1024x3072, .f32⟩
  | .hbm, ⟨6, _⟩ => ⟨S3072x1024, .f32⟩
  | .hbm, ⟨7, _⟩ => ⟨S3072x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GmlpOutDgrad.lean ====
abbrev S3072x1024 : Shape := ⟨2, ![3072, 1024]⟩
abbrev S4096x1024 : Shape := ⟨2, ![4096, 1024]⟩
abbrev S4096x3072 : Shape := ⟨2, ![4096, 3072]⟩
abbrev S1024x1024 : Shape := ⟨2, ![1024, 1024]⟩
abbrev S1536x1024 : Shape := ⟨2, ![1536, 1024]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S3072x1024, .f32⟩
  | .hbm, ⟨1, _⟩ => ⟨S4096x1024, .f32⟩
  | .hbm, ⟨2, _⟩ => ⟨S4096x1024, .bf16⟩
  | .hbm, ⟨3, _⟩ => ⟨S3072x1024, .bf16⟩
  | .hbm, ⟨4, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1536, .f32⟩
  | .local _ .vmem, ⟨5, _⟩ => ⟨S1024x1536, .f32⟩
  | _, _ => ⟨S3072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmlpOutDgradRefIdeal.lean ====
abbrev S3072x1024 : Shape := ⟨2, ![3072, 1024]⟩
abbrev S4096x1024 : Shape := ⟨2, ![4096, 1024]⟩
abbrev S_ : Shape := ⟨0, ![]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S3072x1024, .f32⟩
  | .hbm, ⟨1, _⟩ => ⟨S4096x1024, .f32⟩
  | .hbm, ⟨2, _⟩ => ⟨S_, .f32⟩
  | .hbm, ⟨3, _⟩ => ⟨S4096x3072, .f32⟩
  | .hbm, ⟨4, _⟩ => ⟨S4096x1024, .f32⟩
  | .hbm, ⟨5, _⟩ => ⟨S4096x3072, .f32⟩
  | _, _ => ⟨S3072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AttnFwd.lean ====
abbrev S4096x5120 : Shape := ⟨2, ![4096, 5120]⟩
abbrev S512x2048 : Shape := ⟨2, ![512, 2048]⟩
abbrev S4096x1024 : Shape := ⟨2, ![4096, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x5120, .f32⟩
  | .hbm, ⟨1, _⟩ => ⟨S512x2048, .f32⟩
  | .hbm, ⟨2, _⟩ => ⟨S4096x1024, .bf16⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S2048x256, .bf16⟩
  | .local _ .vmem, ⟨7, _⟩ => ⟨S2048x256, .bf16⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnFwdRefIdeal.lean ====
abbrev S4096x5120 : Shape := ⟨2, ![4096, 5120]⟩
abbrev S512x2048 : Shape := ⟨2, ![512, 2048]⟩
abbrev S4096x1024 : Shape := ⟨2, ![4096, 1024]⟩
abbrev S2x2048x1024 : Shape := ⟨3, ![2, 2048, 1024]⟩
abbrev S512x1024 : Shape := ⟨2, ![512, 1024]⟩
abbrev S2x256x4x256 : Shape := ⟨4, ![2, 256, 4, 256]⟩
abbrev S2x2048x4x256 : Shape := ⟨4, ![2, 2048, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S512x2048, .f32⟩
  | .hbm, ⟨2, _⟩ => ⟨S4096x1024, .f32⟩
  | .hbm, ⟨3, _⟩ => ⟨S2x2048x1024, .f32⟩
  | .hbm, ⟨4, _⟩ => ⟨S512x1024, .f32⟩
  | .hbm, ⟨5, _⟩ => ⟨S512x1024, .f32⟩
  | .hbm, ⟨6, _⟩ => ⟨S2x256x4x256, .f32⟩
  | .hbm, ⟨7, _⟩ => ⟨S2x256x4x256, .f32⟩
  | .hbm, ⟨8, _⟩ => ⟨S2x2048x4x256, .f32⟩
  | .hbm, ⟨9, _⟩ => ⟨S2x4x2048x256, .f32⟩
  | .hbm, ⟨10, _⟩ => ⟨S_, .f32⟩
  | .hbm, ⟨11, _⟩ => ⟨S2x4x2048x256, .f32⟩
  | .hbm, ⟨12, _⟩ => ⟨S2x4x2048x256, .f32⟩
  | .hbm, ⟨13, _⟩ => ⟨S_, .f32⟩
  | .hbm, ⟨14, _⟩ => ⟨S2x4x2048, .f32⟩
  | .hbm, ⟨15, _⟩ => ⟨S_, .f32⟩
  | .hbm, ⟨16, _⟩ => ⟨S2x4x2048, .f32⟩
  | .hbm, ⟨17, _⟩ => ⟨S2x4x2048, .f32⟩
  | .hbm, ⟨18, _⟩ => ⟨S2x4x2048x1, .f32⟩
  | .hbm, ⟨19, _⟩ => ⟨S2x4x2048x256, .f32⟩
  | .hbm, ⟨20, _⟩ => ⟨S2x4x2048x256, .f32⟩
  | .hbm, ⟨21, _⟩ => ⟨S2x4x2048x256, .f32⟩
  | .hbm, ⟨22, _⟩ => ⟨S_, .f32⟩
  | .hbm, ⟨23, _⟩ => ⟨S2x4x2048, .f32⟩
  | .hbm, ⟨24, _⟩ => ⟨S2x4x2048x1, .f32⟩
  | .hbm, ⟨25, _⟩ => ⟨S2x4x2048x256, .f32⟩
  | .hbm, ⟨26, _⟩ => ⟨S2x4x2048x256, .f32⟩
  | .hbm, ⟨27, _⟩ => ⟨S2x4x256x2048, .f32⟩
  | .hbm, ⟨28, _⟩ => ⟨S2x2048x4x256, .f32⟩
  | .hbm, ⟨29, _⟩ => ⟨S2x2048x1024, .f32⟩
  | .hbm, ⟨30, _⟩ => ⟨S4096x1024, .f32⟩
  | .hbm, ⟨31, _⟩ => ⟨S4096x1024, .bf16⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== MemKv.lean ====
abbrev S512x1024 : Shape := ⟨2, ![512, 1024]⟩
abbrev S1024x2048 : Shape := ⟨2, ![1024, 2048]⟩
abbrev S2048x1024 : Shape := ⟨2, ![2048, 1024]⟩
abbrev S512x2048 : Shape := ⟨2, ![512, 2048]⟩
abbrev S512x512 : Shape := ⟨2, ![512, 512]⟩

abbrev nBuf : Space → Nat
  | .hbm => 6
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1024x2048, .f32⟩
  | .hbm, ⟨2, _⟩ => ⟨S512x1024, .bf16⟩
  | .hbm, ⟨3, _⟩ => ⟨S2048x1024, .f32⟩
  | .hbm, ⟨4, _⟩ => ⟨S2048x1024, .bf16⟩
  | .hbm, ⟨5, _⟩ => ⟨S512x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvRefIdeal.lean ====
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 3
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x2048, .f32⟩
  | .hbm, ⟨2, _⟩ => ⟨S512x2048, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MemKvWgrad.lean ====
abbrev S512x1024 : Shape := ⟨2, ![512, 1024]⟩
abbrev S512x2048 : Shape := ⟨2, ![512, 2048]⟩
abbrev S2048x1024 : Shape := ⟨2, ![2048, 1024]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S512x2048, .f32⟩
  | .hbm, ⟨2, _⟩ => ⟨S512x1024, .bf16⟩
  | .hbm, ⟨3, _⟩ => ⟨S2048x1024, .bf16⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvWgradRefIdeal.lean ====
abbrev S512x1024 : Shape := ⟨2, ![512, 1024]⟩
abbrev S512x2048 : Shape := ⟨2, ![512, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x2048, .f32⟩
  | .hbm, ⟨2, _⟩ => ⟨S_, .f32⟩
  | .hbm, ⟨3, _⟩ => ⟨S1024x2048, .f32⟩
  | .hbm, ⟨4, _⟩ => ⟨S512x2048, .f32⟩
  | .hbm, ⟨5, _⟩ => ⟨S2048x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemKvDgrad.lean ====
abbrev S512x2048 : Shape := ⟨2, ![512, 2048]⟩
abbrev S1024x2048 : Shape := ⟨2, ![1024, 2048]⟩
abbrev S512x1024 : Shape := ⟨2, ![512, 1024]⟩
abbrev S2048x1024 : Shape := ⟨2, ![2048, 1024]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S1024x2048, .f32⟩
  | .hbm, ⟨2, _⟩ => ⟨S512x1024, .f32⟩
  | .hbm, ⟨3, _⟩ => ⟨S2048x1024, .f32⟩
  | .hbm, ⟨4, _⟩ => ⟨S2048x1024, .bf16⟩
  | .hbm, ⟨5, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== MemKvDgradRefIdeal.lean ====
abbrev S512x2048 : Shape := ⟨2, ![512, 2048]⟩
abbrev S1024x2048 : Shape := ⟨2, ![1024, 2048]⟩
abbrev S512x1024 : Shape := ⟨2, ![512, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1024x2048, .f32⟩
  | .hbm, ⟨2, _⟩ => ⟨S512x1024, .f32⟩
  | .hbm, ⟨3, _⟩ => ⟨S_, .f32⟩
  | .hbm, ⟨4, _⟩ => ⟨S512x1024, .f32⟩
  | .hbm, ⟨5, _⟩ => ⟨S512x2048, .f32⟩
  | .hbm, ⟨6, _⟩ => ⟨S512x1024, .f32⟩
  | .hbm, ⟨7, _⟩ => ⟨S512x1024, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MemNorm.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormRefIdeal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemNormBwd.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .bf16⟩
  | .hbm, ⟨6, _⟩ => ⟨S1x1024, .f32⟩
  | .local _ .vmem, ⟨0, _⟩ => ⟨S512x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S1x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MemNormBwdRefIdeal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512, .f32⟩
  | .hbm, ⟨32, _⟩ => ⟨S512x1, .f32⟩
  | .hbm, ⟨33, _⟩ => ⟨S512x1024, .f32⟩
  | .hbm, ⟨34, _⟩ => ⟨S512x1024, .f32⟩
  | .hbm, ⟨35, _⟩ => ⟨S512x1, .f32⟩
  | .hbm, ⟨36, _⟩ => ⟨S_, .f32⟩
  | .hbm, ⟨37, _⟩ => ⟨S512x1, .f32⟩
  | .hbm, ⟨38, _⟩ => ⟨S512x1, .f32⟩
  | .hbm, ⟨39, _⟩ => ⟨S_, .f32⟩
  | .hbm, ⟨40, _⟩ => ⟨S512, .f32⟩
  | .hbm, ⟨41, _⟩ => ⟨S512x1024, .f32⟩
  | .hbm, ⟨42, _⟩ => ⟨S512x1024, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S512x1024, .f32⟩
  | .hbm, ⟨47, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== LossHead.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_14 : BitVec 32 := 0#32
  let v36 : BitVec 1 := Scalar.cmpi .ne v35 c0_i32_14
  v36

def k0_cond2 (i : grid0.Coords) : BitVec 1 :=
  let arg0 : BitVec 32 := BitVec.ofNat 32 (i 0).val
  let c0_i32_15 : BitVec 32 := 0#32
  let v37 : BitVec 1 := Scalar.cmpi .sgt arg0 c0_i32_15
  let v38 : BitVec 32 := Scalar.extui v37
  let c0_i32_16 : BitVec 32 := 0#32
  let v39 : BitVec 1 := Scalar.cmpi .ne v38 c0_i32_16
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .bf16⟩
  | .hbm, ⟨69, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== GmlpFwd.lean ====
abbrev S4096x5120 : Shape := ⟨2, ![4096, 5120]⟩
abbrev S4096x1024 : Shape := ⟨2, ![4096, 1024]⟩
abbrev S1x2048 : Shape := ⟨2, ![1, 2048]⟩
abbrev S8x128x128 : Shape := ⟨3, ![8, 128, 128]⟩
abbrev S8x128 : Shape := ⟨2, ![8, 128]⟩
abbrev S128x8 : Shape := ⟨2, ![128, 8]⟩
abbrev S4096x3072 : Shape := ⟨2, ![4096, 3072]⟩
abbrev S256x2048 : Shape := ⟨2, ![256, 2048]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x256 : Shape := ⟨2, ![128, 256]⟩
abbrev S128x1 : Shape := ⟨2, ![128, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .hbm, ⟨2, _⟩ => ⟨S1x2048, .f32⟩
  | .hbm, ⟨3, _⟩ => ⟨S1x2048, .f32⟩
  | .hbm, ⟨4, _⟩ => ⟨S8x128x128, .f32⟩
  | .hbm, ⟨5, _⟩ => ⟨S8x128, .f32⟩
  | .hbm, ⟨6, _⟩ => ⟨S4096x1024, .bf16⟩
  | .hbm, ⟨7, _⟩ => ⟨S128x8, .f32⟩
  | .hbm, ⟨8, _⟩ => ⟨S4096x3072, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1024, .bf16⟩
  | .local _ .vmem, ⟨5, _⟩ => ⟨S256x1024, .bf16⟩
  | .local _ .vmem, ⟨6, _⟩ => ⟨S1x2048, .f32⟩
  | .local _ .vmem, ⟨7, _⟩ => ⟨S1x2048, .f32⟩
  | .local _ .vmem, ⟨8, _⟩ => ⟨S8x128x128, .f32⟩
  | .local _ .vmem, ⟨9, _⟩ => ⟨S128x8, .f32⟩
  | .local _ .vmem, ⟨10, _⟩ => ⟨S256x3072, .bf16⟩
  | .local _ .vmem, ⟨11, _⟩ => ⟨S256x3072, .bf16⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GmlpFwdRefIdeal.lean ====
abbrev S4096x5120 : Shape := ⟨2, ![4096, 5120]⟩
abbrev S4096x1024 : Shape := ⟨2, ![4096, 1024]⟩
abbrev S1x2048 : Shape := ⟨2, ![1, 2048]⟩
abbrev S8x128x128 : Shape := ⟨3, ![8, 128, 128]⟩
abbrev S8x128 : Shape := ⟨2, ![8, 128]⟩
abbrev S2x2048x5120 : Shape := ⟨3, ![2, 2048, 5120]⟩
abbrev S2x2048x2048 : Shape := ⟨3, ![2, 2048, 2048]⟩
abbrev S2x2048x1024 : Shape := ⟨3, ![2, 2048, 1024]⟩
abbrev S2048 : Shape := ⟨1, ![2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S2x16x128x8x256 : Shape := ⟨5, ![2, 16, 128, 8, 256]⟩
abbrev S128x128 : Shape := ⟨2, ![128, 128]⟩
abbrev S1x128x128 : Shape := ⟨3, ![1, 128, 128]⟩
abbrev S8x2x16x256x128 : Shape := ⟨5, ![8, 2, 16, 256, 128]⟩
abbrev S128x8 : Shape := ⟨2, ![128, 8]⟩
abbrev S1x1x128x8x1 : Shape := ⟨5, ![1, 1, 128, 8, 1]⟩
abbrev S4096x2048 : Shape := ⟨2, ![4096, 2048]⟩
abbrev S4096x3072 : Shape := ⟨2, ![4096, 3072]⟩

abbrev nBuf : Space → Nat
  | .hbm => 86
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .hbm, ⟨2, _⟩ => ⟨S1x2048, .f32⟩
  | .hbm, ⟨3, _⟩ => ⟨S1x2048, .f32⟩
  | .hbm, ⟨4, _⟩ => ⟨S8x128x128, .f32⟩
  | .hbm, ⟨5, _⟩ => ⟨S8x128, .f32⟩
  | .hbm, ⟨6, _⟩ => ⟨S2x2048x5120, .f32⟩
  | .hbm, ⟨7, _⟩ => ⟨S2x2048x2048, .f32⟩
  | .hbm, ⟨8, _⟩ => ⟨S2x2048x2048, .f32⟩
  | .hbm, ⟨9, _⟩ => ⟨S2x2048x1024, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S2x2048x2048, .f32⟩
  | .hbm, ⟨14, _⟩ => ⟨S2x2048x2048, .f32⟩
  | .hbm, ⟨15, _⟩ => ⟨S2x2048x2048, .f32⟩
  | .hbm, ⟨16, _⟩ => ⟨S_, .f32⟩
  | .hbm, ⟨17, _⟩ => ⟨S2x2048x2048, .f32⟩
  | .hbm, ⟨18, _⟩ => ⟨S2x2048x2048, .f32⟩
  | .hbm, ⟨19, _⟩ => ⟨S2x2048x2048, .f32⟩
  | .hbm, ⟨20, _⟩ => ⟨S2x2048x2048, .f32⟩
  | .hbm, ⟨21, _⟩ => ⟨S_, .f32⟩
  | .hbm, ⟨22, _⟩ => ⟨S2x2048x2048, .f32⟩
  | .hbm, ⟨23, _⟩ => ⟨S2x2048x2048, .f32⟩
  | .hbm, ⟨24, _⟩ => ⟨S2x2048x2048, .f32⟩
  | .hbm, ⟨25, _⟩ => ⟨S_, .f32⟩
  | .hbm, ⟨26, _⟩ => ⟨S2x2048x2048, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S_, .f32⟩
  | .hbm, ⟨31, _⟩ => ⟨S2x2048, .f32⟩
  | .hbm, ⟨32, _⟩ => ⟨S2x2048x1, .f32⟩
  | .hbm, ⟨33, _⟩ => ⟨S_, .f32⟩
  | .hbm, ⟨34, _⟩ => ⟨S2x2048x1, .f32⟩
  | .hbm, ⟨35, _⟩ => ⟨S2x2048x1, .f32⟩
  | .hbm, ⟨36, _⟩ => ⟨S2x2048x2048, .f32⟩
  | .hbm, ⟨37, _⟩ => ⟨S2x2048x2048, .f32⟩
  | .hbm, ⟨38, _⟩ => ⟨S2x2048x2048, .f32⟩
  | .hbm, ⟨39, _⟩ => ⟨S_, .f32⟩
  | .hbm, ⟨40, _⟩ => ⟨S2x2048, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S2x2048x1, .f32⟩
  | .hbm, ⟨49, _⟩ => ⟨S2x2048x2048, .f32⟩
  | .hbm, ⟨50, _⟩ => ⟨S2x2048x2048, .f32⟩
  | .hbm, ⟨51, _⟩ => ⟨S1x1x2048, .f32⟩
  | .hbm, ⟨52, _⟩ => ⟨S2x2048x2048, .f32⟩
  | .hbm, ⟨53, _⟩ => ⟨S2x2048x2048, .f32⟩
  | .hbm, ⟨54, _⟩ => ⟨S1x1x2048, .f32⟩
  | .hbm, ⟨55, _⟩ => ⟨S2x2048x2048, .f32⟩
  | .hbm, ⟨56, _⟩ => ⟨S2x2048x2048, .f32⟩
  | .hbm, ⟨57, _⟩ => ⟨S2x16x128x8x256, .f32⟩
  | .hbm, ⟨58, _⟩ => ⟨S_, .i1⟩
  | .hbm, ⟨59, _⟩ => ⟨S128x128, .i1⟩
  | .hbm, ⟨60, _⟩ => ⟨S128x128, .i32⟩
  | .hbm, ⟨61, _⟩ => ⟨S_, .i32⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S128x128, .i1⟩
  | .hbm, ⟨66, _⟩ => ⟨S_, .i1⟩
  | .hbm, ⟨67, _⟩ => ⟨S128x128, .i1⟩
  | .hbm, ⟨68, _⟩ => ⟨S128x128, .i1⟩
  | .hbm, ⟨69, _⟩ => ⟨S1x128x128, .i1⟩
  | .hbm, ⟨70, _⟩ => ⟨S_, .f32⟩
  | .hbm, ⟨71, _⟩ => ⟨S_, .f32⟩
  | .hbm, ⟨72, _⟩ => ⟨S8x128x128, .i1⟩
  | .hbm, ⟨73, _⟩ => ⟨S8x128x128, .f32⟩
  | .hbm, ⟨74, _⟩ => ⟨S8x128x128, .f32⟩
  | .hbm, ⟨75, _⟩ => ⟨S8x2x16x256x128, .f32⟩
  | .hbm, ⟨76, _⟩ => ⟨S2x16x128x8x256, .f32⟩
  | .hbm, ⟨77, _⟩ => ⟨S128x8, .f32⟩
  | .hbm, ⟨78, _⟩ => ⟨S1x1x128x8x1, .f32⟩
  | .hbm, ⟨79, _⟩ => ⟨S2x16x128x8x256, .f32⟩
  | .hbm, ⟨80, _⟩ => ⟨S2x16x128x8x256, .f32⟩
  | .hbm, ⟨81, _⟩ => ⟨S2x2048x2048, .f32⟩
  | .hbm, ⟨82, _⟩ => ⟨S2x2048x2048, .f32⟩
  | .hbm, ⟨83, _⟩ => ⟨S4096x2048, .f32⟩
  | .hbm, ⟨84, _⟩ => ⟨S4096x3072, .f32⟩
  | .hbm, ⟨85, _⟩ => ⟨S4096x3072, .bf16⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c : Ref sig .tc := ⟨.hbm, 58, rfl⟩
abbrev main_v43 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_c_0 : Ref sig .tc := ⟨.hbm, 66, rfl⟩
abbrev main_call0_v5 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]
-- ==== AdamHgrnOut.lean ====
abbrev S8x256x1024 : Shape := ⟨3, ![8, 256, 1024]⟩
abbrev S1x256x1024 : Shape := ⟨3, ![1, 256, 1024]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 8
  | .vmem => 17
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S256x512, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c1_i32 : BitVec 32 := 1#32
  let v2 : BitVec 32 := Scalar.select v1 c1_i32 arg1
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, c0_i32_3.toNat, v3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamHgrnOutIdeal.lean ====
abbrev S8x256x1024 : Shape := ⟨3, ![8, 256, 1024]⟩
abbrev S1x256x1024 : Shape := ⟨3, ![1, 256, 1024]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 8
  | .vmem => 17
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S256x512, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c1_i32 : BitVec 32 := 1#32
  let v2 : BitVec 32 := Scalar.select v1 c1_i32 arg1
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, c0_i32_3.toNat, v3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamHgrnOutRefIdeal.lean ====
abbrev S8x256x1024 : Shape := ⟨3, ![8, 256, 1024]⟩
abbrev S1x256x1024 : Shape := ⟨3, ![1, 256, 1024]⟩
abbrev S_ : Shape := ⟨0, ![]⟩
abbrev S256x1024 : Shape := ⟨2, ![256, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamGmlpOut.lean ====
abbrev S8x384x1024 : Shape := ⟨3, ![8, 384, 1024]⟩
abbrev S1x384x1024 : Shape := ⟨3, ![1, 384, 1024]⟩
abbrev S8x384x512 : Shape := ⟨3, ![8, 384, 512]⟩
abbrev S1x384x512 : Shape := ⟨3, ![1, 384, 512]⟩
abbrev S384x512 : Shape := ⟨2, ![384, 512]⟩

abbrev nBuf : Space → Nat
  | .hbm => 8
  | .vmem => 17
  | .smem => 0
  | _ => 0

abbrev bufTy : (tb : Table) → Fin (tcTables nBuf tb) → BufTy
  | .hbm, ⟨0, _⟩ => ⟨S8x384x1024, .bf16⟩
  | .hbm, ⟨1, _⟩ => ⟨S1x384x1024, .f32⟩
  | .hbm, ⟨2, _⟩ => ⟨S1x384x1024, .f32⟩
  | .hbm, ⟨3, _⟩ => ⟨S1x384x1024, .f32⟩
  | .hbm, ⟨4, _⟩ => ⟨S1x384x1024, .f32⟩
  | .hbm, ⟨5, _⟩ => ⟨S1x384x1024, .f32⟩
  | .hbm, ⟨6, _⟩ => ⟨S1x384x1024, .f32⟩
  | .hbm, ⟨7, _⟩ => ⟨S1x384x1024, .f32⟩
  | .local _ .vmem, ⟨0, _⟩ => ⟨S8x384x512, .bf16⟩
  | .local _ .vmem, ⟨1, _⟩ => ⟨S8x384x512, .bf16⟩
  | .local _ .vmem, ⟨2, _⟩ => ⟨S1x384x512, .f32⟩
  | .local _ .vmem, ⟨3, _⟩ => ⟨S1x384x512, .f32⟩
  | .local _ .vmem, ⟨4, _⟩ => ⟨S1x384x512, .f32⟩
  | .local _ .vmem, ⟨5, _⟩ => ⟨S1x384x512, .f32⟩
  | .local _ .vmem, ⟨6, _⟩ => ⟨S1x384x512, .f32⟩
  | .local _ .vmem, ⟨7, _⟩ => ⟨S1x384x512, .f32⟩
  | .local _ .vmem, ⟨8, _⟩ => ⟨S1x384x512, .f32⟩
  | .local _ .vmem, ⟨9, _⟩ => ⟨S1x384x512, .f32⟩
  | .local _ .vmem, ⟨10, _⟩ => ⟨S1x384x512, .f32⟩
  | .local _ .vmem, ⟨11, _⟩ => ⟨S1x384x512, .f32⟩
  | .local _ .vmem, ⟨12, _⟩ => ⟨S1x384x512, .f32⟩
  | .local _ .vmem, ⟨13, _⟩ => ⟨S1x384x512, .f32⟩
  | .local _ .vmem, ⟨14, _⟩ => ⟨S1x384x512, .f32⟩
  | .local _ .vmem, ⟨15, _⟩ => ⟨S1x384x512, .f32⟩
  | .local _ .vmem, ⟨16, _⟩ => ⟨S384x512, .f32⟩
  | _, _ => ⟨S8x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c1_i32 : BitVec 32 := 1#32
  let v2 : BitVec 32 := Scalar.select v1 c1_i32 arg1
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, c0_i32_3.toNat, v3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x384x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x384x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamGmlpOutRefIdeal.lean ====
abbrev S8x384x1024 : Shape := ⟨3, ![8, 384, 1024]⟩
abbrev S1x384x1024 : Shape := ⟨3, ![1, 384, 1024]⟩
abbrev S_ : Shape := ⟨0, ![]⟩
abbrev S384x1024 : Shape := ⟨2, ![384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x384x1024, .bf16⟩
  | .hbm, ⟨1, _⟩ => ⟨S1x384x1024, .f32⟩
  | .hbm, ⟨2, _⟩ => ⟨S1x384x1024, .f32⟩
  | .hbm, ⟨3, _⟩ => ⟨S1x384x1024, .f32⟩
  | .hbm, ⟨4, _⟩ => ⟨S8x384x1024, .f32⟩
  | .hbm, ⟨5, _⟩ => ⟨S_, .f32⟩
  | .hbm, ⟨6, _⟩ => ⟨S384x1024, .f32⟩
  | .hbm, ⟨7, _⟩ => ⟨S1x384x1024, .f32⟩
  | .hbm, ⟨8, _⟩ => ⟨S_, .f32⟩
  | .hbm, ⟨9, _⟩ => ⟨S1x384x1024, .f32⟩
  | .hbm, ⟨10, _⟩ => ⟨S1x384x1024, .f32⟩
  | .hbm, ⟨11, _⟩ => ⟨S_, .f32⟩
  | .hbm, ⟨12, _⟩ => ⟨S1x384x1024, .f32⟩
  | .hbm, ⟨13, _⟩ => ⟨S1x384x1024, .f32⟩
  | .hbm, ⟨14, _⟩ => ⟨S1x384x1024, .f32⟩
  | .hbm, ⟨15, _⟩ => ⟨S_, .f32⟩
  | .hbm, ⟨16, _⟩ => ⟨S1x384x1024, .f32⟩
  | .hbm, ⟨17, _⟩ => ⟨S1x384x1024, .f32⟩
  | .hbm, ⟨18, _⟩ => ⟨S1x384x1024, .f32⟩
  | .hbm, ⟨19, _⟩ => ⟨S_, .f32⟩
  | .hbm, ⟨20, _⟩ => ⟨S1x384x1024, .f32⟩
  | .hbm, ⟨21, _⟩ => ⟨S1x384x1024, .f32⟩
  | .hbm, ⟨22, _⟩ => ⟨S1x384x1024, .f32⟩
  | .hbm, ⟨23, _⟩ => ⟨S_, .f32⟩
  | .hbm, ⟨24, _⟩ => ⟨S1x384x1024, .f32⟩
  | .hbm, ⟨25, _⟩ => ⟨S1x384x1024, .f32⟩
  | .hbm, ⟨26, _⟩ => ⟨S_, .f32⟩
  | .hbm, ⟨27, _⟩ => ⟨S1x384x1024, .f32⟩
  | .hbm, ⟨28, _⟩ => ⟨S1x384x1024, .f32⟩
  | .hbm, ⟨29, _⟩ => ⟨S1x384x1024, .f32⟩
  | .hbm, ⟨30, _⟩ => ⟨S_, .f32⟩
  | .hbm, ⟨31, _⟩ => ⟨S1x384x1024, .f32⟩
  | .hbm, ⟨32, _⟩ => ⟨S1x384x1024, .f32⟩
  | .hbm, ⟨33, _⟩ => ⟨S1x384x1024, .f32⟩
  | .hbm, ⟨34, _⟩ => ⟨S_, .f32⟩
  | .hbm, ⟨35, _⟩ => ⟨S1x384x1024, .f32⟩
  | .hbm, ⟨36, _⟩ => ⟨S1x384x1024, .f32⟩
  | .hbm, ⟨37, _⟩ => ⟨S1x384x1024, .f32⟩
  | .hbm, ⟨38, _⟩ => ⟨S_, .f32⟩
  | .hbm, ⟨39, _⟩ => ⟨S1x384x1024, .f32⟩
  | .hbm, ⟨40, _⟩ => ⟨S1x384x1024, .f32⟩
  | _, _ => ⟨S8x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamMixIn.lean ====
abbrev S8x640x1024 : Shape := ⟨3, ![8, 640, 1024]⟩
abbrev S1x1024x640 : Shape := ⟨3, ![1, 1024, 640]⟩
abbrev S8x640x512 : Shape := ⟨3, ![8, 640, 512]⟩
abbrev S1x512x640 : Shape := ⟨3, ![1, 512, 640]⟩
abbrev S640x512 : Shape := ⟨2, ![640, 512]⟩
abbrev S1x640x512 : Shape := ⟨3, ![1, 640, 512]⟩
abbrev S512x640 : Shape := ⟨2, ![512, 640]⟩

abbrev nBuf : Space → Nat
  | .hbm => 8
  | .vmem => 17
  | .smem => 0
  | _ => 0

abbrev bufTy : (tb : Table) → Fin (tcTables nBuf tb) → BufTy
  | .hbm, ⟨0, _⟩ => ⟨S8x640x1024, .bf16⟩
  | .hbm, ⟨1, _⟩ => ⟨S1x1024x640, .f32⟩
  | .hbm, ⟨2, _⟩ => ⟨S1x1024x640, .f32⟩
  | .hbm, ⟨3, _⟩ => ⟨S1x1024x640, .f32⟩
  | .hbm, ⟨4, _⟩ => ⟨S1x1024x640, .f32⟩
  | .hbm, ⟨5, _⟩ => ⟨S1x1024x640, .f32⟩
  | .hbm, ⟨6, _⟩ => ⟨S1x1024x640, .f32⟩
  | .hbm, ⟨7, _⟩ => ⟨S1x1024x640, .f32⟩
  | .local _ .vmem, ⟨0, _⟩ => ⟨S8x640x512, .bf16⟩
  | .local _ .vmem, ⟨1, _⟩ => ⟨S8x640x512, .bf16⟩
  | .local _ .vmem, ⟨2, _⟩ => ⟨S1x512x640, .f32⟩
  | .local _ .vmem, ⟨3, _⟩ => ⟨S1x512x640, .f32⟩
  | .local _ .vmem, ⟨4, _⟩ => ⟨S1x512x640, .f32⟩
  | .local _ .vmem, ⟨5, _⟩ => ⟨S1x512x640, .f32⟩
  | .local _ .vmem, ⟨6, _⟩ => ⟨S1x512x640, .f32⟩
  | .local _ .vmem, ⟨7, _⟩ => ⟨S1x512x640, .f32⟩
  | .local _ .vmem, ⟨8, _⟩ => ⟨S1x512x640, .f32⟩
  | .local _ .vmem, ⟨9, _⟩ => ⟨S1x512x640, .f32⟩
  | .local _ .vmem, ⟨10, _⟩ => ⟨S1x512x640, .f32⟩
  | .local _ .vmem, ⟨11, _⟩ => ⟨S1x512x640, .f32⟩
  | .local _ .vmem, ⟨12, _⟩ => ⟨S1x512x640, .f32⟩
  | .local _ .vmem, ⟨13, _⟩ => ⟨S1x512x640, .f32⟩
  | .local _ .vmem, ⟨14, _⟩ => ⟨S1x512x640, .f32⟩
  | .local _ .vmem, ⟨15, _⟩ => ⟨S1x512x640, .f32⟩
  | .local _ .vmem, ⟨16, _⟩ => ⟨S640x512, .f32⟩
  | _, _ => ⟨S8x640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c1_i32 : BitVec 32 := 1#32
  let v2 : BitVec 32 := Scalar.select v1 c1_i32 arg1
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, c0_i32_3.toNat, v3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamMixInRefIdeal.lean ====
abbrev S8x640x1024 : Shape := ⟨3, ![8, 640, 1024]⟩
abbrev S1x1024x640 : Shape := ⟨3, ![1, 1024, 640]⟩
abbrev S_ : Shape := ⟨0, ![]⟩
abbrev S640x1024 : Shape := ⟨2, ![640, 1024]⟩
abbrev S1024x640 : Shape := ⟨2, ![1024, 640]⟩

abbrev nBuf : Space → Nat
  | .hbm => 42
  | .vmem => 0
  | .smem => 0
  | _ => 0

abbrev bufTy : (tb : Table) → Fin (tcTables nBuf tb) → BufTy
  | .hbm, ⟨0, _⟩ => ⟨S8x640x1024, .bf16⟩
  | .hbm, ⟨1, _⟩ => ⟨S1x1024x640, .f32⟩
  | .hbm, ⟨2, _⟩ => ⟨S1x1024x640, .f32⟩
  | .hbm, ⟨3, _⟩ => ⟨S1x1024x640, .f32⟩
  | .hbm, ⟨4, _⟩ => ⟨S8x640x1024, .f32⟩
  | .hbm, ⟨5, _⟩ => ⟨S_, .f32⟩
  | .hbm, ⟨6, _⟩ => ⟨S640x1024, .f32⟩
  | .hbm, ⟨7, _⟩ => ⟨S1024x640, .f32⟩
  | .hbm, ⟨8, _⟩ => ⟨S1x1024x640, .f32⟩
  | .hbm, ⟨9, _⟩ => ⟨S_, .f32⟩
  | .hbm, ⟨10, _⟩ => ⟨S1x1024x640, .f32⟩
  | .hbm, ⟨11, _⟩ => ⟨S1x1024x640, .f32⟩
  | .hbm, ⟨12, _⟩ => ⟨S_, .f32⟩
  | .hbm, ⟨13, _⟩ => ⟨S1x1024x640, .f32⟩
  | .hbm, ⟨14, _⟩ => ⟨S1x1024x640, .f32⟩
  | .hbm, ⟨15, _⟩ => ⟨S1x1024x640, .f32⟩
  | .hbm, ⟨16, _⟩ => ⟨S_, .f32⟩
  | .hbm, ⟨17, _⟩ => ⟨S1x1024x640, .f32⟩
  | .hbm, ⟨18, _⟩ => ⟨S1x1024x640, .f32⟩
  | .hbm, ⟨19, _⟩ => ⟨S1x1024x640, .f32⟩
  | .hbm, ⟨20, _⟩ => ⟨S_, .f32⟩
  | .hbm, ⟨21, _⟩ => ⟨S1x1024x640, .f32⟩
  | .hbm, ⟨22, _⟩ => ⟨S1x1024x640, .f32⟩
  | .hbm, ⟨23, _⟩ => ⟨S1x1024x640, .f32⟩
  | .hbm, ⟨24, _⟩ => ⟨S_, .f32⟩
  | .hbm, ⟨25, _⟩ => ⟨S1x1024x640, .f32⟩
  | .hbm, ⟨26, _⟩ => ⟨S1x1024x640, .f32⟩
  | .hbm, ⟨27, _⟩ => ⟨S_, .f32⟩
  | .hbm, ⟨28, _⟩ => ⟨S1x1024x640, .f32⟩
  | .hbm, ⟨29, _⟩ => ⟨S1x1024x640, .f32⟩
  | .hbm, ⟨30, _⟩ => ⟨S1x1024x640, .f32⟩
  | .hbm, ⟨31, _⟩ => ⟨S_, .f32⟩
  | .hbm, ⟨32, _⟩ => ⟨S1x1024x640, .f32⟩
  | .hbm, ⟨33, _⟩ => ⟨S1x1024x640, .f32⟩
  | .hbm, ⟨34, _⟩ => ⟨S1x1024x640, .f32⟩
  | .hbm, ⟨35, _⟩ => ⟨S_, .f32⟩
  | .hbm, ⟨36, _⟩ => ⟨S1x1024x640, .f32⟩
  | .hbm, ⟨37, _⟩ => ⟨S1x1024x640, .f32⟩
  | .hbm, ⟨38, _⟩ => ⟨S1x1024x640, .f32⟩
  | .hbm, ⟨39, _⟩ => ⟨S_, .f32⟩
  | .hbm, ⟨40, _⟩ => ⟨S1x1024x640, .f32⟩
  | .hbm, ⟨41, _⟩ => ⟨S1x1024x640, .f32⟩
  | _, _ => ⟨S8x640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdamFfnIn.lean ====
abbrev S8x704x1024 : Shape := ⟨3, ![8, 704, 1024]⟩
abbrev S2x704x1024 : Shape := ⟨3, ![2, 704, 1024]⟩
abbrev S8x704x512 : Shape := ⟨3, ![8, 704, 512]⟩
abbrev S1x704x512 : Shape := ⟨3, ![1, 704, 512]⟩
abbrev S704x512 : Shape := ⟨2, ![704, 512]⟩

abbrev nBuf : Space → Nat
  | .hbm => 9
  | .vmem => 19
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S8x704x512, .bf16⟩
  | .local _ .vmem, ⟨1, _⟩ => ⟨S8x704x512, .bf16⟩
  | .local _ .vmem, ⟨2, _⟩ => ⟨S8x704x512, .bf16⟩
  | .local _ .vmem, ⟨3, _⟩ => ⟨S8x704x512, .bf16⟩
  | .local _ .vmem, ⟨4, _⟩ => ⟨S1x704x512, .f32⟩
  | .local _ .vmem, ⟨5, _⟩ => ⟨S1x704x512, .f32⟩
  | .local _ .vmem, ⟨6, _⟩ => ⟨S1x704x512, .f32⟩
  | .local _ .vmem, ⟨7, _⟩ => ⟨S1x704x512, .f32⟩
  | .local _ .vmem, ⟨8, _⟩ => ⟨S1x704x512, .f32⟩
  | .local _ .vmem, ⟨9, _⟩ => ⟨S1x704x512, .f32⟩
  | .local _ .vmem, ⟨10, _⟩ => ⟨S1x704x512, .f32⟩
  | .local _ .vmem, ⟨11, _⟩ => ⟨S1x704x512, .f32⟩
  | .local _ .vmem, ⟨12, _⟩ => ⟨S1x704x512, .f32⟩
  | .local _ .vmem, ⟨13, _⟩ => ⟨S1x704x512, .f32⟩
  | .local _ .vmem, ⟨14, _⟩ => ⟨S1x704x512, .f32⟩
  | .local _ .vmem, ⟨15, _⟩ => ⟨S1x704x512, .f32⟩
  | .local _ .vmem, ⟨16, _⟩ => ⟨S1x704x512, .f32⟩
  | .local _ .vmem, ⟨17, _⟩ => ⟨S1x704x512, .f32⟩
  | .local _ .vmem, ⟨18, _⟩ => ⟨S704x512, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c1_i32 : BitVec 32 := 1#32
  let v2 : BitVec 32 := Scalar.select v1 c1_i32 arg1
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, c0_i32_3.toNat, v3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c1_i32_1 : BitVec 32 := 1#32
  let v2 : BitVec 32 := Scalar.select v1 c1_i32_1 arg1
  let c0_i32 : BitVec 32 := 0#32
  let v3 : BitVec 32 := Scalar.select v0 c0_i32 v2
  let c0_i32_2 : BitVec 32 := 0#32
  let c0_i32_3 : BitVec 32 := 0#32
  let c0_i32_4 : BitVec 32 := 0#32
  ![c0_i32_2.toNat, c0_i32_3.toNat, v3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x704x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x704x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfnInIdeal.lean ====
abbrev S8x704x1024 : Shape := ⟨3, ![8, 704, 1024]⟩
abbrev S2x704x1024 : Shape := ⟨3, ![2, 704, 1024]⟩
abbrev S8x704x512 : Shape := ⟨3, ![8, 704, 512]⟩
abbrev S1x704x512 : Shape := ⟨3, ![1, 704, 512]⟩
abbrev S704x512 : Shape := ⟨2, ![704, 512]⟩

abbrev nBuf : Space → Nat
  | .hbm => 9
  | .vmem => 19
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S8x704x512, .bf16⟩
  | .local _ .vmem, ⟨1, _⟩ => ⟨S8x704x512, .bf16⟩
  | .local _ .vmem, ⟨2, _⟩ => ⟨S8x704x512, .bf16⟩
  | .local _ .vmem, ⟨3, _⟩ => ⟨S8x704x512, .bf16⟩
  | .local _ .vmem, ⟨4, _⟩ => ⟨S1x704x512, .f32⟩
  | .local _ .vmem, ⟨5, _⟩ => ⟨S1x704x512, .f32⟩
  | .local _ .vmem, ⟨6, _⟩ => ⟨S1x704x512, .f32⟩
  | .local _ .vmem, ⟨7, _⟩ => ⟨S1x704x512, .f32⟩
  | .local _ .vmem, ⟨8, _⟩ => ⟨S1x704x512, .f32⟩
  | .local _ .vmem, ⟨9, _⟩ => ⟨S1x704x512, .f32⟩
  | .local _ .vmem, ⟨10, _⟩ => ⟨S1x704x512, .f32⟩
  | .local _ .vmem, ⟨11, _⟩ => ⟨S1x704x512, .f32⟩
  | .local _ .vmem, ⟨12, _⟩ => ⟨S1x704x512, .f32⟩
  | .local _ .vmem, ⟨13, _⟩ => ⟨S1x704x512, .f32⟩
  | .local _ .vmem, ⟨14, _⟩ => ⟨S1x704x512, .f32⟩
  | .local _ .vmem, ⟨15, _⟩ => ⟨S1x704x512, .f32⟩
  | .local _ .vmem, ⟨16, _⟩ => ⟨S1x704x512, .f32⟩
  | .local _ .vmem, ⟨17, _⟩ => ⟨S1x704x512, .f32⟩
  | .local _ .vmem, ⟨18, _⟩ => ⟨S704x512, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c1_i32 : BitVec 32 := 1#32
  let v2 : BitVec 32 := Scalar.select v1 c1_i32 arg1
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, c0_i32_3.toNat, v3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c1_i32_1 : BitVec 32 := 1#32
  let v2 : BitVec 32 := Scalar.select v1 c1_i32_1 arg1
  let c0_i32 : BitVec 32 := 0#32
  let v3 : BitVec 32 := Scalar.select v0 c0_i32 v2
  let c0_i32_2 : BitVec 32 := 0#32
  let c0_i32_3 : BitVec 32 := 0#32
  let c0_i32_4 : BitVec 32 := 0#32
  ![c0_i32_2.toNat, c0_i32_3.toNat, v3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x704x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x704x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfnInRefIdeal.lean ====
abbrev S8x704x1024 : Shape := ⟨3, ![8, 704, 1024]⟩
abbrev S2x704x1024 : Shape := ⟨3, ![2, 704, 1024]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S2x704x1024, .f32⟩
  | .hbm, ⟨14, _⟩ => ⟨S_, .f32⟩
  | .hbm, ⟨15, _⟩ => ⟨S2x704x1024, .f32⟩
  | .hbm, ⟨16, _⟩ => ⟨S2x704x1024, .f32⟩
  | .hbm, ⟨17, _⟩ => ⟨S_, .f32⟩
  | .hbm, ⟨18, _⟩ => ⟨S2x704x1024, .f32⟩
  | .hbm, ⟨19, _⟩ => ⟨S2x704x1024, .f32⟩
  | .hbm, ⟨20, _⟩ => ⟨S2x704x1024, .f32⟩
  | .hbm, ⟨21, _⟩ => ⟨S_, .f32⟩
  | .hbm, ⟨22, _⟩ => ⟨S2x704x1024, .f32⟩
  | .hbm, ⟨23, _⟩ => ⟨S2x704x1024, .f32⟩
  | .hbm, ⟨24, _⟩ => ⟨S2x704x1024, .f32⟩
  | .hbm, ⟨25, _⟩ => ⟨S_, .f32⟩
  | .hbm, ⟨26, _⟩ => ⟨S2x704x1024, .f32⟩
  | .hbm, ⟨27, _⟩ => ⟨S2x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S2x704x1024, .f32⟩
  | .hbm, ⟨36, _⟩ => ⟨S_, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S_, .f32⟩
  | .hbm, ⟨41, _⟩ => ⟨S2x704x1024, .f32⟩
  | .hbm, ⟨42, _⟩ => ⟨S2x704x1024, .f32⟩
  | .hbm, ⟨43, _⟩ => ⟨S2x704x1024, .f32⟩
  | .hbm, ⟨44, _⟩ => ⟨S_, .f32⟩
  | .hbm, ⟨45, _⟩ => ⟨S2x704x1024, .f32⟩
  | .hbm, ⟨46, _⟩ => ⟨S2x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamFfnOut.lean ====
abbrev S8x352x1024 : Shape := ⟨3, ![8, 352, 1024]⟩
abbrev S2x352x1024 : Shape := ⟨3, ![2, 352, 1024]⟩
abbrev S8x352x512 : Shape := ⟨3, ![8, 352, 512]⟩
abbrev S1x352x512 : Shape := ⟨3, ![1, 352, 512]⟩
abbrev S352x512 : Shape := ⟨2, ![352, 512]⟩

abbrev nBuf : Space → Nat
  | .hbm => 9
  | .vmem => 19
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x352x512, .bf16⟩
  | .local _ .vmem, ⟨1, _⟩ => ⟨S8x352x512, .bf16⟩
  | .local _ .vmem, ⟨2, _⟩ => ⟨S8x352x512, .bf16⟩
  | .local _ .vmem, ⟨3, _⟩ => ⟨S8x352x512, .bf16⟩
  | .local _ .vmem, ⟨4, _⟩ => ⟨S1x352x512, .f32⟩
  | .local _ .vmem, ⟨5, _⟩ => ⟨S1x352x512, .f32⟩
  | .local _ .vmem, ⟨6, _⟩ => ⟨S1x352x512, .f32⟩
  | .local _ .vmem, ⟨7, _⟩ => ⟨S1x352x512, .f32⟩
  | .local _ .vmem, ⟨8, _⟩ => ⟨S1x352x512, .f32⟩
  | .local _ .vmem, ⟨9, _⟩ => ⟨S1x352x512, .f32⟩
  | .local _ .vmem, ⟨10, _⟩ => ⟨S1x352x512, .f32⟩
  | .local _ .vmem, ⟨11, _⟩ => ⟨S1x352x512, .f32⟩
  | .local _ .vmem, ⟨12, _⟩ => ⟨S1x352x512, .f32⟩
  | .local _ .vmem, ⟨13, _⟩ => ⟨S1x352x512, .f32⟩
  | .local _ .vmem, ⟨14, _⟩ => ⟨S1x352x512, .f32⟩
  | .local _ .vmem, ⟨15, _⟩ => ⟨S1x352x512, .f32⟩
  | .local _ .vmem, ⟨16, _⟩ => ⟨S1x352x512, .f32⟩
  | .local _ .vmem, ⟨17, _⟩ => ⟨S1x352x512, .f32⟩
  | .local _ .vmem, ⟨18, _⟩ => ⟨S352x512, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c1_i32 : BitVec 32 := 1#32
  let v2 : BitVec 32 := Scalar.select v1 c1_i32 arg1
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, c0_i32_3.toNat, v3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c1_i32_1 : BitVec 32 := 1#32
  let v2 : BitVec 32 := Scalar.select v1 c1_i32_1 arg1
  let c0_i32 : BitVec 32 := 0#32
  let v3 : BitVec 32 := Scalar.select v0 c0_i32 v2
  let c0_i32_2 : BitVec 32 := 0#32
  let c0_i32_3 : BitVec 32 := 0#32
  let c0_i32_4 : BitVec 32 := 0#32
  ![c0_i32_2.toNat, c0_i32_3.toNat, v3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfnOutRefIdeal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamMemKv.lean ====
abbrev S8x256x1024 : Shape := ⟨3, ![8, 256, 1024]⟩
abbrev S2x1024x256 : Shape := ⟨3, ![2, 1024, 256]⟩
abbrev S8x256x512 : Shape := ⟨3, ![8, 256, 512]⟩
abbrev S1x512x256 : Shape := ⟨3, ![1, 512, 256]⟩
abbrev S256x512 : Shape := ⟨2, ![256, 512]⟩
abbrev S1x256x512 : Shape := ⟨3, ![1, 256, 512]⟩
abbrev S512x256 : Shape := ⟨2, ![512, 256]⟩

abbrev nBuf : Space → Nat
  | .hbm => 9
  | .vmem => 19
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S256x512, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c1_i32 : BitVec 32 := 1#32
  let v2 : BitVec 32 := Scalar.select v1 c1_i32 arg1
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, c0_i32_3.toNat, v3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c1_i32_1 : BitVec 32 := 1#32
  let v2 : BitVec 32 := Scalar.select v1 c1_i32_1 arg1
  let c0_i32 : BitVec 32 := 0#32
  let v3 : BitVec 32 := Scalar.select v0 c0_i32 v2
  let c0_i32_2 : BitVec 32 := 0#32
  let c0_i32_3 : BitVec 32 := 0#32
  let c0_i32_4 : BitVec 32 := 0#32
  ![c0_i32_2.toNat, c0_i32_3.toNat, v3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamMemKvRefIdeal.lean ====
abbrev S8x256x1024 : Shape := ⟨3, ![8, 256, 1024]⟩
abbrev S2x1024x256 : Shape := ⟨3, ![2, 1024, 256]⟩
abbrev S_ : Shape := ⟨0, ![]⟩
abbrev S256x1024 : Shape := ⟨2, ![256, 1024]⟩
abbrev S1024x256 : Shape := ⟨2, ![1024, 256]⟩
abbrev S1x1024x256 : Shape := ⟨3, ![1, 1024, 256]⟩

abbrev nBuf : Space → Nat
  | .hbm => 49
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S8x256x1024, .f32⟩
  | .hbm, ⟨6, _⟩ => ⟨S_, .f32⟩
  | .hbm, ⟨7, _⟩ => ⟨S256x1024, .f32⟩
  | .hbm, ⟨8, _⟩ => ⟨S1024x256, .f32⟩
  | .hbm, ⟨9, _⟩ => ⟨S8x256x1024, .f32⟩
  | .hbm, ⟨10, _⟩ => ⟨S_, .f32⟩
  | .hbm, ⟨11, _⟩ => ⟨S256x1024, .f32⟩
  | .hbm, ⟨12, _⟩ => ⟨S1024x256, .f32⟩
  | .hbm, ⟨13, _⟩ => ⟨S1x1024x256, .f32⟩
  | .hbm, ⟨14, _⟩ => ⟨S1x1024x256, .f32⟩
  | .hbm, ⟨15, _⟩ => ⟨S2x1024x256, .f32⟩
  | .hbm, ⟨16, _⟩ => ⟨S_, .f32⟩
  | .hbm, ⟨17, _⟩ => ⟨S2x1024x256, .f32⟩
  | .hbm, ⟨18, _⟩ => ⟨S2x1024x256, .f32⟩
  | .hbm, ⟨19, _⟩ => ⟨S_, .f32⟩
  | .hbm, ⟨20, _⟩ => ⟨S2x1024x256, .f32⟩
  | .hbm, ⟨21, _⟩ => ⟨S2x1024x256, .f32⟩
  | .hbm, ⟨22, _⟩ => ⟨S2x1024x256, .f32⟩
  | .hbm, ⟨23, _⟩ => ⟨S_, .f32⟩
  | .hbm, ⟨24, _⟩ => ⟨S2x1024x256, .f32⟩
  | .hbm, ⟨25, _⟩ => ⟨S2x1024x256, .f32⟩
  | .hbm, ⟨26, _⟩ => ⟨S2x1024x256, .f32⟩
  | .hbm, ⟨27, _⟩ => ⟨S_, .f32⟩
  | .hbm, ⟨28, _⟩ => ⟨S2x1024x256, .f32⟩
  | .hbm, ⟨29, _⟩ => ⟨S2x1024x256, .f32⟩
  | .hbm, ⟨30, _⟩ => ⟨S2x1024x256, .f32⟩
  | .hbm, ⟨31, _⟩ => ⟨S_, .f32⟩
  | .hbm, ⟨32, _⟩ => ⟨S2x1024x256, .f32⟩
  | .hbm, ⟨33, _⟩ => ⟨S2x1024x256, .f32⟩
  | .hbm, ⟨34, _⟩ => ⟨S_, .f32⟩
  | .hbm, ⟨35, _⟩ => ⟨S2x1024x256, .f32⟩
  | .hbm, ⟨36, _⟩ => ⟨S2x1024x256, .f32⟩
  | .hbm, ⟨37, _⟩ => ⟨S2x1024x256, .f32⟩
  | .hbm, ⟨38, _⟩ => ⟨S_, .f32⟩
  | .hbm, ⟨39, _⟩ => ⟨S2x1024x256, .f32⟩
  | .hbm, ⟨40, _⟩ => ⟨S2x1024x256, .f32⟩
  | .hbm, ⟨41, _⟩ => ⟨S2x1024x256, .f32⟩
  | .hbm, ⟨42, _⟩ => ⟨S_, .f32⟩
  | .hbm, ⟨43, _⟩ => ⟨S2x1024x256, .f32⟩
  | .hbm, ⟨44, _⟩ => ⟨S2x1024x256, .f32⟩
  | .hbm, ⟨45, _⟩ => ⟨S2x1024x256, .f32⟩
  | .hbm, ⟨46, _⟩ => ⟨S_, .f32⟩
  | .hbm, ⟨47, _⟩ => ⟨S2x1024x256, .f32⟩
  | .hbm, ⟨48, _⟩ => ⟨S2x1024x256, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Proof.Reals.lean ====
/-
  Facts about sums and products of extended reals that the value proofs share. A product by a real number that is
  not negative distributes over every sum, infinite terms included; a product by an arbitrary real number does not,
  and then the terms must be real.
-/
module

public import Idealize.ShloMosaic.Lib.Pointwise
public import Idealize.ShloMosaic.Lib.ReduceAll

@[expose] public section

noncomputable section

open Idealize.ShloMosaic

namespace Cert.Reals

/-- A factor that is a real number and not negative goes into a sum, whatever the terms. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- The same with the factor on the right. -/
theorem sum_mul_coe {ι : Type*} (s : Finset ι) {c : ℝ} (hc : 0 ≤ c) (f : ι → EReal) :
    (∑ i ∈ s, f i) * (c : EReal) = ∑ i ∈ s, f i * (c : EReal) := by
  rw [mul_comm, coe_mul_sum s hc]
  exact Finset.sum_congr rfl fun i _ => mul_comm _ _

/-- One half, -/
def half : EReal := ((1 / 2 : ℝ) : EReal)

/-- the value of its word. -/
theorem ofBits_half : Ideal.ofBits .f32 0x3F000000#32 = half := by
  simp [half, Ideal.ofBits, Ideal.ieee, -EReal.coe_mul]; norm_num

theorem half_mul_sum {ι : Type*} (s : Finset ι) (f : ι → EReal) : half * ∑ i ∈ s, f i = ∑ i ∈ s, half * f i :=
  coe_mul_sum s (by norm_num) f

/-- A factor that is a real number and not negative goes into a difference. -/
theorem coe_mul_sub {c : ℝ} (hc : 0 ≤ c) (x y : EReal) : (c : EReal) * (x - y) = c * x - c * y := by
  rw [sub_eq_add_neg, EReal.left_distrib_of_nonneg_of_ne_top (EReal.coe_nonneg.2 hc) (EReal.coe_ne_top c),
    mul_neg, ← sub_eq_add_neg]

/-- The sum of real numbers is the same in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The extended real is a real number. -/
def Fin' (x : EReal) : Prop := ∃ r : ℝ, x = r

/-- A number below `+∞` in absolute value is real. -/
theorem fin_of_abs_lt {x : EReal} (h : max x (-x) < ⊤) : Fin' x := by
  induction x with
  | bot => simp at h
  | top => simp at h
  | coe r => exact ⟨r, rfl⟩

theorem Fin'.mul {x y : EReal} (hx : Fin' x) (hy : Fin' y) : Fin' (x * y) := by
  obtain ⟨r, rfl⟩ := hx; obtain ⟨s, rfl⟩ := hy; exact ⟨r * s, (EReal.coe_mul r s).symm⟩

theorem Fin'.add {x y : EReal} (hx : Fin' x) (hy : Fin' y) : Fin' (x + y) := by
  obtain ⟨r, rfl⟩ := hx; obtain ⟨s, rfl⟩ := hy; exact ⟨r + s, (EReal.coe_add r s).symm⟩

theorem Fin'.sum {ι : Type*} (s : Finset ι) {f : ι → EReal} (h : ∀ i, Fin' (f i)) : Fin' (∑ i ∈ s, f i) := by
  classical
  induction s using Finset.induction_on with
  | empty => exact ⟨0, by simp⟩
  | insert a s ha ih => rw [Finset.sum_insert ha]; exact (h a).add ih

/-- A finiteness test that came out true, read back. -/
theorem fin_of_bit {x : EReal}
    (h : BitVec.ofBool (decide (FloatOps.absf (F := Ideal) (φ := .f32) x < Ideal.ofBits .f32 0x7F800000#32)) = 1#1) : Fin' x := by
  have e : Ideal.ofBits .f32 0x7F800000#32 = ⊤ := by simp [Ideal.ofBits, Ideal.ieee]
  rw [e] at h
  refine fin_of_abs_lt ?_
  by_contra hn
  have hf : decide (FloatOps.absf (F := Ideal) (φ := .f32) x < (⊤ : EReal)) = false := decide_eq_false hn
  rw [hf] at h
  exact absurd h (by decide)

end Cert.Reals

end
-- ==== Proof.Softmax.lean ====
/-
  The softmax of one row of scores and its derivative, over the extended reals. The row is `e k / S` with
  `e k = exp (s k - max s)` and `S = ∑ e`. The derivative is taken in two forms: the short one, `p * (d - ∑ d * p)`, and the
  one that differentiating the quotient gives, `(d / S + -(∑ (d * (1 / (S * S))) * e)) * e`. They agree where every
  score is real, whatever the cotangent `d` is.
-/
module

public import proofs.«01_k».proof.Proof.Reals

@[expose] public section

noncomputable section

open Idealize.ShloMosaic Cert.Reals

namespace Cert.Softmax

variable {n : ℕ}

/-- The greatest score of the row, `-∞` for none. -/
def top (s : Fin n → EReal) : EReal := Finset.univ.fold max ⊥ s
/-- The exponential of a score less the greatest. -/
def ex (s : Fin n → EReal) (k : Fin n) : EReal := Ideal.exp (s k - top s)
/-- The sum of the exponentials. -/
def tot (s : Fin n → EReal) : EReal := ∑ k, ex s k
/-- One entry of the softmax. -/
def prob (s : Fin n → EReal) (k : Fin n) : EReal := Ideal.div (ex s k) (tot s)
/-- The derivative in the short form. -/
def grad (s d : Fin n → EReal) (k : Fin n) : EReal := prob s k * (d k - ∑ j, d j * prob s j)

/-- The greatest of a row of real scores is one of them. -/
theorem top_real [NeZero n] {s : Fin n → EReal} (h : ∀ k, Fin' (s k)) : Fin' (top s) := by
  obtain ⟨k, -, hk⟩ := Finset.exists_mem_eq_sup (Finset.univ : Finset (Fin n)) Finset.univ_nonempty s
  have : top s = s k := hk
  rw [this]; exact h k

/-- For real scores the exponentials are positive real numbers, -/
theorem ex_real [NeZero n] {s : Fin n → EReal} (h : ∀ k, Fin' (s k)) :
    ∃ e : Fin n → ℝ, (∀ k, 0 < e k) ∧ ∀ k, ex s k = (e k : EReal) := by
  obtain ⟨t, ht⟩ := top_real h
  choose r hr using h
  refine ⟨fun k => Real.exp (r k - t), fun k => Real.exp_pos _, fun k => ?_⟩
  show Ideal.exp (s k - top s) = _
  rw [hr k, ht, ← EReal.coe_sub]; rfl

/-- and so is their sum. -/
theorem tot_real [NeZero n] {s : Fin n → EReal} {e : Fin n → ℝ} (hp : ∀ k, 0 < e k) (he : ∀ k, ex s k = (e k : EReal)) :
    0 < ∑ k, e k ∧ tot s = ((∑ k, e k : ℝ) : EReal) := by
  refine ⟨Finset.sum_pos (fun k _ => hp k) Finset.univ_nonempty, ?_⟩
  unfold tot
  rw [coe_sum]
  exact Finset.sum_congr rfl fun k _ => he k

theorem div_real {x : EReal} {S : ℝ} (hS : 0 < S) : Ideal.div x S = x * ((S⁻¹ : ℝ) : EReal) := by
  have : (S : EReal) ≠ 0 := by exact_mod_cast hS.ne'
  unfold Ideal.div
  rw [if_neg this, EReal.coe_inv]

/-- The two forms of the derivative agree on real scores. -/
theorem grad_eq [NeZero n] {s : Fin n → EReal} (h : ∀ k, Fin' (s k)) (d : Fin n → EReal) (k : Fin n) :
    (Ideal.div (d k) (tot s) + -(∑ j, d j * Ideal.div 1 (tot s * tot s) * ex s j)) * ex s k = grad s d k := by
  obtain ⟨e, hp, he⟩ := ex_real h
  obtain ⟨hS, hT⟩ := tot_real hp he
  set S := ∑ k, e k
  unfold grad prob
  have hSS : (0 : ℝ) < S * S := mul_pos hS hS
  simp only [hT, he, ← EReal.coe_mul, div_real hS, div_real hSS, one_mul]
  have hc : (0 : ℝ) ≤ S⁻¹ := (inv_pos.2 hS).le
  have hcc : (0 : ℝ) ≤ (S * S)⁻¹ := (inv_pos.2 hSS).le
  have e1 : ∑ j, d j * (((S * S)⁻¹ : ℝ) : EReal) * (e j : EReal)
      = (((S * S)⁻¹ : ℝ) : EReal) * ∑ j, d j * (e j : EReal) := by
    rw [coe_mul_sum _ hcc]
    exact Finset.sum_congr rfl fun j _ => by ac_rfl
  have e2 : ∑ j, d j * ((e j * S⁻¹ : ℝ) : EReal) = ((S⁻¹ : ℝ) : EReal) * ∑ j, d j * (e j : EReal) := by
    rw [coe_mul_sum _ hc]
    exact Finset.sum_congr rfl fun j _ => by rw [EReal.coe_mul]; ac_rfl
  rw [e1, e2, ← sub_eq_add_neg, mul_inv, EReal.coe_mul, EReal.coe_mul, mul_assoc ((S⁻¹ : ℝ) : EReal), mul_comm (d k),
    ← coe_mul_sub hc, mul_comm _ (e k : EReal), mul_assoc]

end Cert.Softmax

end
-- ==== Proof.Attn.Model.lean ====
/-
  The memory attention's gradient as formulas over the elements of its arguments: `z` (its last 1024 columns are the
  queries of the 4096 tokens), `kv` (keys, then values, of the 2 × 256 memory tokens) and `dcat` (its last 1024 columns are
  the gradient of the attention's output). A batch `b` of 2, a head `h` of 4, a token `t` of 2048, a memory token `m` of 256.
-/
module

public import proofs.«01_k».proof.Proof.Softmax

@[expose] public section

noncomputable section

open Idealize.ShloMosaic

namespace Cert.Attn

/-- The printed scale of the scores, `1/16`. -/
abbrev scale : EReal := Ideal.ofBits .f32 0x3D800000#32

variable (z : (⟨2, ![4096, 5120]⟩ : Shape).Idx → EReal) (kv : (⟨2, ![512, 2048]⟩ : Shape).Idx → EReal)
  (dcat : (⟨2, ![4096, 2048]⟩ : Shape).Idx → EReal)

/-- The query of token `t` of batch `b`, head `h`, coordinate `d`. -/
def q (b : Fin 2) (h : Fin 4) (t : Fin 2048) (d : Fin 256) : EReal :=
  z (ix2 ⟨b * 2048 + t, by omega⟩ ⟨4096 + (h * 256 + d), by omega⟩)
/-- The key, -/
def k (b : Fin 2) (h : Fin 4) (m d : Fin 256) : EReal := kv (ix2 ⟨b * 256 + m, by omega⟩ ⟨h * 256 + d, by omega⟩)
/-- the value, -/
def v (b : Fin 2) (h : Fin 4) (m d : Fin 256) : EReal := kv (ix2 ⟨b * 256 + m, by omega⟩ ⟨1024 + (h * 256 + d), by omega⟩)
/-- and the output's gradient. -/
def o (b : Fin 2) (h : Fin 4) (t : Fin 2048) (d : Fin 256) : EReal :=
  dcat (ix2 ⟨b * 2048 + t, by omega⟩ ⟨1024 + (h * 256 + d), by omega⟩)

/-- One row of scores. -/
def score (b : Fin 2) (h : Fin 4) (t : Fin 2048) (m : Fin 256) : EReal := (∑ d : Fin 256, q z b h t d * k kv b h m d) * scale
/-- The gradient of one row of the softmax. -/
def dp (b : Fin 2) (h : Fin 4) (t : Fin 2048) (m : Fin 256) : EReal := ∑ d : Fin 256, o dcat b h t d * v kv b h m d
/-- The gradient of one row of scores, scaled. -/
def ds (b : Fin 2) (h : Fin 4) (t : Fin 2048) (m : Fin 256) : EReal :=
  Softmax.grad (score z kv b h t) (dp kv dcat b h t) m * scale

/-- The gradients of the queries, -/
def dq (b : Fin 2) (h : Fin 4) (t : Fin 2048) (d : Fin 256) : EReal := ∑ m : Fin 256, ds z kv dcat b h t m * k kv b h m d
/-- of the keys -/
def dk (b : Fin 2) (h : Fin 4) (m d : Fin 256) : EReal := ∑ t : Fin 2048, ds z kv dcat b h t m * q z b h t d
/-- and of the values. -/
def dv (b : Fin 2) (h : Fin 4) (m d : Fin 256) : EReal :=
  ∑ t : Fin 2048, Softmax.prob (score z kv b h t) m * o dcat b h t d

/-- The gradient of the queries as the array that holds it: rows are tokens, columns head by head. -/
def dqArr (i : (⟨2, ![4096, 1024]⟩ : Shape).Idx) : EReal :=
  dq z kv dcat ⟨(i 0 : ℕ) / 2048, by have h : (i 0 : ℕ) < 4096 := (i 0).isLt; omega⟩
    ⟨(i 1 : ℕ) / 256, by have h : (i 1 : ℕ) < 1024 := (i 1).isLt; omega⟩
    ⟨(i 0 : ℕ) % 2048, Nat.mod_lt _ (by norm_num)⟩ ⟨(i 1 : ℕ) % 256, Nat.mod_lt _ (by norm_num)⟩
/-- The gradient of the keys as an array. -/
def dkArr (i : (⟨2, ![512, 1024]⟩ : Shape).Idx) : EReal :=
  dk z kv dcat ⟨(i 0 : ℕ) / 256, by have h : (i 0 : ℕ) < 512 := (i 0).isLt; omega⟩
    ⟨(i 1 : ℕ) / 256, by have h : (i 1 : ℕ) < 1024 := (i 1).isLt; omega⟩
    ⟨(i 0 : ℕ) % 256, Nat.mod_lt _ (by norm_num)⟩ ⟨(i 1 : ℕ) % 256, Nat.mod_lt _ (by norm_num)⟩
/-- The gradient of the values as an array. -/
def dvArr (i : (⟨2, ![512, 1024]⟩ : Shape).Idx) : EReal :=
  dv z kv dcat ⟨(i 0 : ℕ) / 256, by have h : (i 0 : ℕ) < 512 := (i 0).isLt; omega⟩
    ⟨(i 1 : ℕ) / 256, by have h : (i 1 : ℕ) < 1024 := (i 1).isLt; omega⟩
    ⟨(i 0 : ℕ) % 256, Nat.mod_lt _ (by norm_num)⟩ ⟨(i 1 : ℕ) % 256, Nat.mod_lt _ (by norm_num)⟩

theorem dqArr_apply (b : Fin 2) (h : Fin 4) (t : Fin 2048) (d : Fin 256) (hb : b.val * 2048 + t.val < 4096) (hd : h.val * 256 + d.val < 1024) :
    dqArr z kv dcat (ix2 ⟨b * 2048 + t, hb⟩ ⟨h * 256 + d, hd⟩) = dq z kv dcat b h t d := by
  unfold dqArr
  congr 1 <;> apply Fin.ext
  · show (b.val * 2048 + t.val) / 2048 = b.val
    omega
  · show (h.val * 256 + d.val) / 256 = h.val
    omega
  · show (b.val * 2048 + t.val) % 2048 = t.val
    omega
  · show (h.val * 256 + d.val) % 256 = d.val
    omega

theorem dkArr_apply (b : Fin 2) (h : Fin 4) (t : Fin 256) (d : Fin 256) (hb : b.val * 256 + t.val < 512) (hd : h.val * 256 + d.val < 1024) :
    dkArr z kv dcat (ix2 ⟨b * 256 + t, hb⟩ ⟨h * 256 + d, hd⟩) = dk z kv dcat b h t d := by
  unfold dkArr
  congr 1 <;> apply Fin.ext
  · show (b.val * 256 + t.val) / 256 = b.val
    omega
  · show (h.val * 256 + d.val) / 256 = h.val
    omega
  · show (b.val * 256 + t.val) % 256 = t.val
    omega
  · show (h.val * 256 + d.val) % 256 = d.val
    omega

theorem dvArr_apply (b : Fin 2) (h : Fin 4) (t : Fin 256) (d : Fin 256) (hb : b.val * 256 + t.val < 512) (hd : h.val * 256 + d.val < 1024) :
    dvArr z kv dcat (ix2 ⟨b * 256 + t, hb⟩ ⟨h * 256 + d, hd⟩) = dv z kv dcat b h t d := by
  unfold dvArr
  congr 1 <;> apply Fin.ext
  · show (b.val * 256 + t.val) / 256 = b.val
    omega
  · show (h.val * 256 + d.val) / 256 = h.val
    omega
  · show (b.val * 256 + t.val) % 256 = t.val
    omega
  · show (h.val * 256 + d.val) % 256 = d.val
    omega

/-- Every index of a result array is one batch's, head's, row's and column's. -/
theorem idx_split {n N : ℕ} (hN : N = 2 * n) (hn : 0 < n) (i : (⟨2, ![N, 1024]⟩ : Shape).Idx) :
    ∃ (b : Fin 2) (h : Fin 4) (t : Fin n) (d : Fin 256) (hb : b.val * n + t.val < N) (hd : h.val * 256 + d.val < 1024),
      i = ix2 ⟨b * n + t, hb⟩ ⟨h * 256 + d, hd⟩ := by
  have h0 : (i 0 : ℕ) < N := (i 0).isLt
  have h1 : (i 1 : ℕ) < 1024 := (i 1).isLt
  have e0 : (i 0 : ℕ) / n * n + (i 0 : ℕ) % n = i 0 := Nat.div_add_mod' _ _
  have e1 : (i 1 : ℕ) / 256 * 256 + (i 1 : ℕ) % 256 = i 1 := Nat.div_add_mod' _ _
  refine ⟨⟨(i 0 : ℕ) / n, by rw [Nat.div_lt_iff_lt_mul hn]; omega⟩, ⟨(i 1 : ℕ) / 256, by omega⟩, ⟨(i 0 : ℕ) % n, Nat.mod_lt _ hn⟩,
    ⟨(i 1 : ℕ) % 256, Nat.mod_lt _ (by norm_num)⟩, by show (i 0 : ℕ) / n * n + (i 0 : ℕ) % n < N; omega,
    by show (i 1 : ℕ) / 256 * 256 + (i 1 : ℕ) % 256 < 1024; omega, ?_⟩
  funext a; apply Fin.ext
  match a with
  | ⟨0, _⟩ => exact e0.symm
  | ⟨1, _⟩ => exact e1.symm

end Cert.Attn

end
-- ==== Proof.Attn.Max.lean ====
/-
  The host's maximum over the last of four axes, read at an index, at any sizes.
-/
module

public import proofs.«01_k».proof.Proof.Softmax

@[expose] public section

noncomputable section

open Idealize.ShloMosaic

namespace Cert.Attn

theorem hostMax_apply {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel)
    (i0 : Fin n0) (i1 : Fin n1) (i2 : Fin n2) :
    Host.reduce FloatOps.maximumf x init h hu (ix3 i0 i1 i2)
      = (Finset.univ : Finset (Fin n3)).fold max (init (Shape.Idx.first hu)) (fun k => x (ix4 i0 i1 i2 k)) := by
  rw [Host.reduce_eq_fold, Shape.ReducesTo.fold_fiber_r4_a3]
  rfl

theorem fold_max_top {n : ℕ} (f : Fin n → EReal) (c : EReal) :
    max c ((Finset.univ : Finset (Fin n)).fold max c f) = (Finset.univ : Finset (Fin n)).fold max c f := by
  apply max_eq_right
  rw [Finset.le_fold_max]
  exact Or.inl le_rfl

theorem ofBits_bot : Ideal.ofBits .f32 0xFF800000#32 = ⊥ := by simp [Ideal.ofBits, Ideal.ieee]

end Cert.Attn

end
-- ==== Proof.Attn.Pay.lean ====
/-
  What the kernel stores at one grid point, read at an index, as a function of the blocks it loads: the queries `x0`, the
  keys `x1`, the values `x2` and the output's gradient `x3` of one batch and head.
-/
module

public import proofs.«01_k».proof.Proof.Attn.Max
public import proofs.«01_k».proof.Proof.Gen.KernelIdeal.Skeleton

@[expose] public section

set_option maxRecDepth 16384

noncomputable section

open Idealize.ShloMosaic

namespace Cert.Attn.Pay

open Cert.KernelIdeal Cert.KernelIdeal.Gen

abbrev scale : EReal := Ideal.ofBits .f32 0x3D800000#32

variable (x0 : Vec Ideal S2048x256 .f32) (x1 x2 : Vec Ideal S256x256 .f32) (x3 : Vec Ideal S2048x256 .f32)

/-- A block's scores, -/
def sc (t : Fin 2048) (m : Fin 256) : EReal := (∑ d : Fin 256, x0 (ix2 t d) * x1 (ix2 m d)) * scale
/-- the gradient of its softmax -/
def dpb (t : Fin 2048) (m : Fin 256) : EReal := ∑ d : Fin 256, x3 (ix2 t d) * x2 (ix2 m d)
/-- and of its scores. -/
def dsb (t : Fin 2048) (m : Fin 256) : EReal := Softmax.grad (sc x0 x1 t) (dpb x2 x3 t) m * scale

theorem pay6_apply (t : Fin 2048) (m : Fin 256) : k0_pay6 (F := Ideal) x0 x1 (ix2 t m) = Softmax.prob (sc x0 x1 t) m := by
  unfold k0_pay6 k0_pay3 k0_pay4
  pointwise
  simp only [ofBits_bot]
  rfl

theorem pay7_apply (m d : Fin 256) : k0_pay7 (F := Ideal) x0 x1 x3 (ix2 m d)
    = ∑ t : Fin 2048, Softmax.prob (sc x0 x1 t) m * x3 (ix2 t d) := by
  unfold k0_pay7 k0_pay5
  pointwise
  simp only [pay6_apply]

theorem pay8_apply (t : Fin 2048) (m : Fin 256) : k0_pay8 (F := Ideal) x0 x1 x2 x3 (ix2 t m) = dsb x0 x1 x2 x3 t m := by
  unfold k0_pay8 k0_pay5
  pointwise
  simp only [pay6_apply]
  rfl

theorem pay9_apply (t : Fin 2048) (d : Fin 256) : k0_pay9 (F := Ideal) x0 x1 x2 x3 (ix2 t d)
    = ∑ m : Fin 256, dsb x0 x1 x2 x3 t m * x1 (ix2 m d) := by
  unfold k0_pay9 k0_pay4
  pointwise
  simp only [pay8_apply]

theorem pay10_apply (m d : Fin 256) : k0_pay10 (F := Ideal) x0 x1 x2 x3 (ix2 m d)
    = ∑ t : Fin 2048, dsb x0 x1 x2 x3 t m * x0 (ix2 t d) := by
  unfold k0_pay10 k0_pay3
  pointwise
  simp only [pay8_apply]

end Cert.Attn.Pay

end
-- ==== Proof.Attn.Kernel.lean ====
/-
  The memory attention's kernel: after its run the three result arrays hold the formulas of `Model.lean`.
  A grid point is one batch and one head; it writes one block of each result, and the blocks tile the arrays.
-/
module

public import proofs.«01_k».proof.Proof.Attn.Model
public import proofs.«01_k».proof.Proof.Attn.Pay
public import proofs.«01_k».proof.Proof.Gen.KernelIdeal.Value

@[expose] public section

set_option maxRecDepth 16384

noncomputable section

open Idealize.ShloMosaic Idealize.ShloMosaic.TcCoe Idealize.SL.Sem

namespace Cert.Attn.Kernel

open Cert.KernelIdeal Cert.KernelIdeal.Gen

variable (m : (ℓ : Loc nD τ sig) → Buf (Elt Ideal) ℓ) (ρ : Dev nD → PrngReg) (c : Dev nD)

abbrev z : S4096x5120.Idx → EReal := m ((c : Thread nD τ).loc main_arg0)
abbrev kv : S512x2048.Idx → EReal := m ((c : Thread nD τ).loc main_arg1)
abbrev dcat : S4096x2048.Idx → EReal := m ((c : Thread nD τ).loc main_arg2)

/-- A point's batch -/
def bt (t : Fin cfg0.N) : Fin 2 := ⟨t.val / 4, by have h : t.val < 8 := t.isLt; omega⟩
/-- and its head. -/
def hd (t : Fin cfg0.N) : Fin 4 := ⟨t.val % 4, by omega⟩

theorem index0 : ∀ t : Fin cfg0.N, win0_0.index t 0 = t.val / 4 ∧ win0_0.index t 1 = 16 + t.val % 4 :=
  (by decide +kernel : ∀ t : Fin grid0.N, win0_0.index t 0 = t.val / 4 ∧ win0_0.index t 1 = 16 + t.val % 4)
theorem index1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
theorem index2 : ∀ t : Fin cfg0.N, win0_2.index t 0 = t.val / 4 ∧ win0_2.index t 1 = 4 + t.val % 4 :=
  (by decide +kernel : ∀ t : Fin grid0.N, win0_2.index t 0 = t.val / 4 ∧ win0_2.index t 1 = 4 + t.val % 4)
theorem index3 : ∀ t : Fin cfg0.N, win0_3.index t 0 = t.val / 4 ∧ win0_3.index t 1 = 4 + t.val % 4 :=
  (by decide +kernel : ∀ t : Fin grid0.N, win0_3.index t 0 = t.val / 4 ∧ win0_3.index t 1 = 4 + t.val % 4)
theorem index4 : ∀ t : Fin cfg0.N, win0_4.index t 0 = t.val / 4 ∧ win0_4.index t 1 = t.val % 4 :=
  (by decide +kernel : ∀ t : Fin grid0.N, win0_4.index t 0 = t.val / 4 ∧ win0_4.index t 1 = t.val % 4)
theorem index5 : ∀ t : Fin cfg0.N, win0_5.index t 0 = t.val / 4 ∧ win0_5.index t 1 = t.val % 4 :=
  (by decide +kernel : ∀ t : Fin grid0.N, win0_5.index t 0 = t.val / 4 ∧ win0_5.index t 1 = t.val % 4)
theorem index6 : ∀ t : Fin cfg0.N, win0_6.index t 0 = t.val / 4 ∧ win0_6.index t 1 = t.val % 4 :=
  (by decide +kernel : ∀ t : Fin grid0.N, win0_6.index t 0 = t.val / 4 ∧ win0_6.index t 1 = t.val % 4)

/-! ## The blocks a point reads -/

theorem blk0 (t : Fin cfg0.N) (a : Fin 2048) (d : Fin 256) :
    iblk m c 0 t (ix2 a d) = q (z m c) (bt t) (hd t) a d := by
  unfold iblk
  rw [View.read_apply]
  show V m c main_arg0 _ = m ((c : Thread nD τ).loc main_arg0) _
  unfold V
  congr 1; funext x; apply Fin.ext
  match x with
  | ⟨0, _⟩ => show win0_0.index t 0 * 2048 + 1 * a.val = t.val / 4 * 2048 + a.val
              rw [(index0 t).1]; omega
  | ⟨1, _⟩ => show win0_0.index t 1 * 256 + 1 * d.val = 4096 + (t.val % 4 * 256 + d.val)
              rw [(index0 t).2]; omega

theorem blk1 (t : Fin cfg0.N) (a d : Fin 256) : iblk m c 1 t (ix2 a d) = k (kv m c) (bt t) (hd t) a d := by
  unfold iblk
  rw [View.read_apply]
  show V m c main_arg1 _ = m ((c : Thread nD τ).loc main_arg1) _
  unfold V
  congr 1; funext x; apply Fin.ext
  match x with
  | ⟨0, _⟩ => show win0_1.index t 0 * 256 + 1 * a.val = t.val / 4 * 256 + a.val
              rw [(index1 t).1]; omega
  | ⟨1, _⟩ => show win0_1.index t 1 * 256 + 1 * d.val = t.val % 4 * 256 + d.val
              rw [(index1 t).2]; omega

theorem blk2 (t : Fin cfg0.N) (a d : Fin 256) : iblk m c 2 t (ix2 a d) = v (kv m c) (bt t) (hd t) a d := by
  unfold iblk
  rw [View.read_apply]
  show V m c main_arg1 _ = m ((c : Thread nD τ).loc main_arg1) _
  unfold V
  congr 1; funext x; apply Fin.ext
  match x with
  | ⟨0, _⟩ => show win0_2.index t 0 * 256 + 1 * a.val = t.val / 4 * 256 + a.val
              rw [(index2 t).1]; omega
  | ⟨1, _⟩ => show win0_2.index t 1 * 256 + 1 * d.val = 1024 + (t.val % 4 * 256 + d.val)
              rw [(index2 t).2]; omega

theorem blk3 (t : Fin cfg0.N) (a : Fin 2048) (d : Fin 256) :
    iblk m c 3 t (ix2 a d) = o (dcat m c) (bt t) (hd t) a d := by
  unfold iblk
  rw [View.read_apply]
  show V m c main_arg2 _ = m ((c : Thread nD τ).loc main_arg2) _
  unfold V
  congr 1; funext x; apply Fin.ext
  match x with
  | ⟨0, _⟩ => show win0_3.index t 0 * 2048 + 1 * a.val = t.val / 4 * 2048 + a.val
              rw [(index3 t).1]; omega
  | ⟨1, _⟩ => show win0_3.index t 1 * 256 + 1 * d.val = 1024 + (t.val % 4 * 256 + d.val)
              rw [(index3 t).2]; omega

theorem sc_blk (t : Fin cfg0.N) (a : Fin 2048) :
    Pay.sc (iblk m c 0 t) (iblk m c 1 t) a = score (z m c) (kv m c) (bt t) (hd t) a := by
  funext x
  unfold Pay.sc score
  simp only [blk0, blk1]

theorem dp_blk (t : Fin cfg0.N) (a : Fin 2048) :
    Pay.dpb (iblk m c 2 t) (iblk m c 3 t) a = dp (kv m c) (dcat m c) (bt t) (hd t) a := by
  funext x
  unfold Pay.dpb dp
  simp only [blk2, blk3]

theorem ds_blk (t : Fin cfg0.N) (a : Fin 2048) (x : Fin 256) :
    Pay.dsb (iblk m c 0 t) (iblk m c 1 t) (iblk m c 2 t) (iblk m c 3 t) a x
      = ds (z m c) (kv m c) (dcat m c) (bt t) (hd t) a x := by
  unfold Pay.dsb ds
  rw [sc_blk, dp_blk]

/-! ## What a point writes back -/

theorem hz : (![0, 0] : Fin 2 → Nat) = fun _ => 0 := funext fun a => by fin_cases a <;> rfl

theorem after4 (t : Fin cfg0.N) : (dats m 0 c).flushed 4 t
    = (cfg0.win 4).cut (grid0.coords t) (k0_pay9 (iblk m c 0 t) (iblk m c 1 t) (iblk m c 2 t) (iblk m c 3 t)) := by
  rw [Value.flushed4_A]
  unfold out0_A_4
  rw [View.read_writes_eq_canon _ _ _ (cover0_A_4 c _ _ _ _ _ _ _ _ _ _ _ _ _ _ _ _ _ _ _ _ _)]
  unfold kernelRun0_A
  dsimp only
  rw [View.canon_unit_zero hz]
  simp only [View.readAt_eq_ld, (hs0_0 t).read_unread, (hs0_1 t).read_unread, (hs0_2 t).read_unread, (hs0_3 t).read_unread,
    View.ld_unit_zero (S := S2048x256) hz, View.ld_unit_zero (S := S256x256) hz]

theorem after5 (t : Fin cfg0.N) : (dats m 0 c).flushed 5 t
    = (cfg0.win 5).cut (grid0.coords t) (k0_pay10 (iblk m c 0 t) (iblk m c 1 t) (iblk m c 2 t) (iblk m c 3 t)) := by
  rw [Value.flushed5_A]
  unfold out0_A_5
  rw [View.read_writes_eq_canon _ _ _ (cover0_A_5 c _ _ _ _ _ _ _ _ _ _ _ _ _ _ _ _ _ _ _ _ _)]
  unfold kernelRun0_A
  dsimp only
  rw [View.canon_unit_zero hz]
  unfold kernelRun0_A.sl.r_1
  simp only [View.readAt_eq_ld, (hs0_0 t).read_unread, (hs0_1 t).read_unread, (hs0_2 t).read_unread, (hs0_3 t).read_unread,
    View.ld_unit_zero (S := S2048x256) hz, View.ld_unit_zero (S := S256x256) hz]

theorem after6 (t : Fin cfg0.N) : (dats m 0 c).flushed 6 t
    = (cfg0.win 6).cut (grid0.coords t) (k0_pay7 (iblk m c 0 t) (iblk m c 1 t) (iblk m c 3 t)) := by
  rw [Value.flushed6_A]
  unfold out0_A_6
  rw [View.read_writes_eq_canon _ _ _ (cover0_A_6 c _ _ _ _ _ _ _ _ _ _ _ _ _ _ _ _ _ _ _ _ _)]
  unfold kernelRun0_A
  dsimp only
  rw [View.canon_unit_zero hz]
  unfold kernelRun0_A.sl.r
  simp only [View.readAt_eq_ld, (hs0_0 t).read_unread, (hs0_1 t).read_unread, (hs0_2 t).read_unread, (hs0_3 t).read_unread,
    View.ld_unit_zero (S := S2048x256) hz, View.ld_unit_zero (S := S256x256) hz]

/-! ## The arrays after the run -/

theorem cut4 (f : S2048x256.Idx → EReal) (G : S4096x1024.Idx → EReal) (t : Fin cfg0.N)
    (h : ∀ (a : Fin 2048) (d : Fin 256) (hb : (bt t).val * 2048 + a.val < 4096) (hd' : (hd t).val * 256 + d.val < 1024),
      f (ix2 a d) = G (ix2 ⟨(bt t).val * 2048 + a.val, hb⟩ ⟨(hd t).val * 256 + d.val, hd'⟩)) :
    (cfg0.win 4).cut (grid0.coords t) f = ((cfg0.win 4).blk t).view.read (Elt Ideal) G := by
  funext j
  rw [View.read_apply]
  have h0 : (j 0 : ℕ) < 2048 := (j 0).isLt
  have h1 : (j 1 : ℕ) < 256 := (j 1).isLt
  have hb : (bt t).val * 2048 + (j 0 : ℕ) < 4096 := by have h : (bt t).val < 2 := (bt t).isLt; omega
  have hd' : (hd t).val * 256 + (j 1 : ℕ) < 1024 := by have h : (hd t).val < 4 := (hd t).isLt; omega
  refine (congrArg f ?_).trans ((h ⟨(j 0 : ℕ), h0⟩ ⟨(j 1 : ℕ), h1⟩ hb hd').trans (congrArg G ?_))
  · funext x
    match x with
    | ⟨0, _⟩ => rfl
    | ⟨1, _⟩ => rfl
  · funext x; apply Fin.ext
    match x with
    | ⟨0, _⟩ => show t.val / 4 * 2048 + (j 0 : ℕ) = win0_4.index t 0 * 2048 + 1 * (j 0 : ℕ)
                rw [(index4 t).1]; omega
    | ⟨1, _⟩ => show t.val % 4 * 256 + (j 1 : ℕ) = win0_4.index t 1 * 256 + 1 * (j 1 : ℕ)
                rw [(index4 t).2]; omega

theorem flushed4 (t : Fin cfg0.N) : (dats m 0 c).flushed 4 t
    = ((cfg0.win 4).blk t).view.read (Elt Ideal) (dqArr (z m c) (kv m c) (dcat m c)) := by
  rw [after4]
  refine cut4 _ _ t fun a d hb hd' => ?_
  rw [dqArr_apply, Pay.pay9_apply]
  unfold dq
  simp only [ds_blk, blk1]

theorem cover4 (i : S4096x1024.Idx) : ∃ t : Fin cfg0.N, (cfg0.win 4).flush t = true ∧ i ∈ ((cfg0.win 4).blk t).view.set := by
  have h0 : (i 0 : ℕ) < 4096 := (i 0).isLt
  have h1 : (i 1 : ℕ) < 1024 := (i 1).isLt
  have hN : cfg0.N = 8 := N_0
  obtain ⟨t, ht⟩ : ∃ t : Fin cfg0.N, t.val = (i 0 : ℕ) / 2048 * 4 + (i 1 : ℕ) / 256 := ⟨⟨_, by omega⟩, rfl⟩
  have e := index4 t
  refine ⟨t, flush0_4 _, ?_⟩
  show i ∈ ((View.whole main_v0_0).slice (win0_4.rect t)).set
  rw [View.set_slice_whole, Rect.mem_set_unit]
  intro a
  match a with
  | ⟨0, _⟩ => show win0_4.index t 0 * 2048 ≤ (i 0 : ℕ) ∧ (i 0 : ℕ) < win0_4.index t 0 * 2048 + 2048
              rw [e.1, ht]; omega
  | ⟨1, _⟩ => show win0_4.index t 1 * 256 ≤ (i 1 : ℕ) ∧ (i 1 : ℕ) < win0_4.index t 1 * 256 + 256
              rw [e.2, ht]; omega

theorem final4 : (dats m 0 c).arrAt 4 cfg0.N = dqArr (z m c) (kv m c) (dcat m c) :=
  (dats m 0 c).arrAt_eq_of_cover 4 _ (fun t _ => flushed4 m c t) cover4

theorem cut5 (f : S256x256.Idx → EReal) (G : S512x1024.Idx → EReal) (t : Fin cfg0.N)
    (h : ∀ (a : Fin 256) (d : Fin 256) (hb : (bt t).val * 256 + a.val < 512) (hd' : (hd t).val * 256 + d.val < 1024),
      f (ix2 a d) = G (ix2 ⟨(bt t).val * 256 + a.val, hb⟩ ⟨(hd t).val * 256 + d.val, hd'⟩)) :
    (cfg0.win 5).cut (grid0.coords t) f = ((cfg0.win 5).blk t).view.read (Elt Ideal) G := by
  funext j
  rw [View.read_apply]
  have h0 : (j 0 : ℕ) < 256 := (j 0).isLt
  have h1 : (j 1 : ℕ) < 256 := (j 1).isLt
  have hb : (bt t).val * 256 + (j 0 : ℕ) < 512 := by have h : (bt t).val < 2 := (bt t).isLt; omega
  have hd' : (hd t).val * 256 + (j 1 : ℕ) < 1024 := by have h : (hd t).val < 4 := (hd t).isLt; omega
  refine (congrArg f ?_).trans ((h ⟨(j 0 : ℕ), h0⟩ ⟨(j 1 : ℕ), h1⟩ hb hd').trans (congrArg G ?_))
  · funext x
    match x with
    | ⟨0, _⟩ => rfl
    | ⟨1, _⟩ => rfl
  · funext x; apply Fin.ext
    match x with
    | ⟨0, _⟩ => show t.val / 4 * 256 + (j 0 : ℕ) = win0_5.index t 0 * 256 + 1 * (j 0 : ℕ)
                rw [(index5 t).1]; omega
    | ⟨1, _⟩ => show t.val % 4 * 256 + (j 1 : ℕ) = win0_5.index t 1 * 256 + 1 * (j 1 : ℕ)
                rw [(index5 t).2]; omega

theorem flushed5 (t : Fin cfg0.N) : (dats m 0 c).flushed 5 t
    = ((cfg0.win 5).blk t).view.read (Elt Ideal) (dkArr (z m c) (kv m c) (dcat m c)) := by
  rw [after5]
  refine cut5 _ _ t fun a d hb hd' => ?_
  rw [dkArr_apply, Pay.pay10_apply]
  unfold dk
  simp only [ds_blk, blk0]

theorem cover5 (i : S512x1024.Idx) : ∃ t : Fin cfg0.N, (cfg0.win 5).flush t = true ∧ i ∈ ((cfg0.win 5).blk t).view.set := by
  have h0 : (i 0 : ℕ) < 512 := (i 0).isLt
  have h1 : (i 1 : ℕ) < 1024 := (i 1).isLt
  have hN : cfg0.N = 8 := N_0
  obtain ⟨t, ht⟩ : ∃ t : Fin cfg0.N, t.val = (i 0 : ℕ) / 256 * 4 + (i 1 : ℕ) / 256 := ⟨⟨_, by omega⟩, rfl⟩
  have e := index5 t
  refine ⟨t, flush0_5 _, ?_⟩
  show i ∈ ((View.whole main_v0_1).slice (win0_5.rect t)).set
  rw [View.set_slice_whole, Rect.mem_set_unit]
  intro a
  match a with
  | ⟨0, _⟩ => show win0_5.index t 0 * 256 ≤ (i 0 : ℕ) ∧ (i 0 : ℕ) < win0_5.index t 0 * 256 + 256
              rw [e.1, ht]; omega
  | ⟨1, _⟩ => show win0_5.index t 1 * 256 ≤ (i 1 : ℕ) ∧ (i 1 : ℕ) < win0_5.index t 1 * 256 + 256
              rw [e.2, ht]; omega

theorem final5 : (dats m 0 c).arrAt 5 cfg0.N = dkArr (z m c) (kv m c) (dcat m c) :=
  (dats m 0 c).arrAt_eq_of_cover 5 _ (fun t _ => flushed5 m c t) cover5

theorem cut6 (f : S256x256.Idx → EReal) (G : S512x1024.Idx → EReal) (t : Fin cfg0.N)
    (h : ∀ (a : Fin 256) (d : Fin 256) (hb : (bt t).val * 256 + a.val < 512) (hd' : (hd t).val * 256 + d.val < 1024),
      f (ix2 a d) = G (ix2 ⟨(bt t).val * 256 + a.val, hb⟩ ⟨(hd t).val * 256 + d.val, hd'⟩)) :
    (cfg0.win 6).cut (grid0.coords t) f = ((cfg0.win 6).blk t).view.read (Elt Ideal) G := by
  funext j
  rw [View.read_apply]
  have h0 : (j 0 : ℕ) < 256 := (j 0).isLt
  have h1 : (j 1 : ℕ) < 256 := (j 1).isLt
  have hb : (bt t).val * 256 + (j 0 : ℕ) < 512 := by have h : (bt t).val < 2 := (bt t).isLt; omega
  have hd' : (hd t).val * 256 + (j 1 : ℕ) < 1024 := by have h : (hd t).val < 4 := (hd t).isLt; omega
  refine (congrArg f ?_).trans ((h ⟨(j 0 : ℕ), h0⟩ ⟨(j 1 : ℕ), h1⟩ hb hd').trans (congrArg G ?_))
  · funext x
    match x with
    | ⟨0, _⟩ => rfl
    | ⟨1, _⟩ => rfl
  · funext x; apply Fin.ext
    match x with
    | ⟨0, _⟩ => show t.val / 4 * 256 + (j 0 : ℕ) = win0_6.index t 0 * 256 + 1 * (j 0 : ℕ)
                rw [(index6 t).1]; omega
    | ⟨1, _⟩ => show t.val % 4 * 256 + (j 1 : ℕ) = win0_6.index t 1 * 256 + 1 * (j 1 : ℕ)
                rw [(index6 t).2]; omega

theorem flushed6 (t : Fin cfg0.N) : (dats m 0 c).flushed 6 t
    = ((cfg0.win 6).blk t).view.read (Elt Ideal) (dvArr (z m c) (kv m c) (dcat m c)) := by
  rw [after6]
  refine cut6 _ _ t fun a d hb hd' => ?_
  rw [dvArr_apply, Pay.pay7_apply]
  unfold dv
  simp only [sc_blk, blk3]

theorem cover6 (i : S512x1024.Idx) : ∃ t : Fin cfg0.N, (cfg0.win 6).flush t = true ∧ i ∈ ((cfg0.win 6).blk t).view.set := by
  have h0 : (i 0 : ℕ) < 512 := (i 0).isLt
  have h1 : (i 1 : ℕ) < 1024 := (i 1).isLt
  have hN : cfg0.N = 8 := N_0
  obtain ⟨t, ht⟩ : ∃ t : Fin cfg0.N, t.val = (i 0 : ℕ) / 256 * 4 + (i 1 : ℕ) / 256 := ⟨⟨_, by omega⟩, rfl⟩
  have e := index6 t
  refine ⟨t, flush0_6 _, ?_⟩
  show i ∈ ((View.whole main_v0_2).slice (win0_6.rect t)).set
  rw [View.set_slice_whole, Rect.mem_set_unit]
  intro a
  match a with
  | ⟨0, _⟩ => show win0_6.index t 0 * 256 ≤ (i 0 : ℕ) ∧ (i 0 : ℕ) < win0_6.index t 0 * 256 + 256
              rw [e.1, ht]; omega
  | ⟨1, _⟩ => show win0_6.index t 1 * 256 ≤ (i 1 : ℕ) ∧ (i 1 : ℕ) < win0_6.index t 1 * 256 + 256
              rw [e.2, ht]; omega

theorem final6 : (dats m 0 c).arrAt 6 cfg0.N = dvArr (z m c) (kv m c) (dcat m c) :=
  (dats m 0 c).arrAt_eq_of_cover 6 _ (fun t _ => flushed6 m c t) cover6

/-- The run, read: the three results at the formulas, the arguments unchanged. -/
theorem run : θ_run defs (onTc (τ := τ) (main (F := Ideal))) ⟨m, fun _ => 0, ρ⟩ fun r => ∀ c : Dev nD,
      r.2.mem ((c : Thread nD τ).loc main_v0_0) = dqArr (z m c) (kv m c) (dcat m c)
      ∧ r.2.mem ((c : Thread nD τ).loc main_v0_1) = dkArr (z m c) (kv m c) (dcat m c)
      ∧ r.2.mem ((c : Thread nD τ).loc main_v0_2) = dvArr (z m c) (kv m c) (dcat m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final4 m c), (h c).2.1.trans (final5 m c), (h c).2.2.1.trans (final6 m c),
    (h c).2.2.2⟩) (Value.run_blocks m ρ)

end Cert.Attn.Kernel

end
-- ==== Proof.Attn.Ref.lean ====
/-
  The reference of the memory attention's gradient, read at an index: its results are the formulas of `Model.lean`.
-/
module

public import proofs.«01_k».proof.Proof.Attn.Model
public import proofs.«01_k».proof.Proof.Attn.Max
public import proofs.«01_k».proof.Proof.Gen.ReferenceIdeal.Read

@[expose] public section

set_option maxRecDepth 16384

noncomputable section

open Idealize.ShloMosaic

namespace Cert.Attn.Ref

open Cert.ReferenceIdeal Cert.ReferenceIdeal.Read

variable (z : (⟨2, ![4096, 5120]⟩ : Shape).Idx → EReal) (kv : (⟨2, ![512, 2048]⟩ : Shape).Idx → EReal)
  (dcat : (⟨2, ![4096, 2048]⟩ : Shape).Idx → EReal)

theorem q_apply (b : Fin 2) (h : Fin 4) (t : Fin 2048) (d : Fin 256) :
    val_main_v8 (F := Ideal) z (ix4 b t h d) = q z b h t d := by
  unfold val_main_v8 val_main_v1 val_main_v0
  pointwise
  rfl

theorem k_apply (b : Fin 2) (h : Fin 4) (m d : Fin 256) :
    val_main_v4 (F := Ideal) kv (ix4 b m h d) = k kv b h m d := by
  unfold val_main_v4 val_main_v2
  pointwise
  rfl

theorem v_apply (b : Fin 2) (h : Fin 4) (m d : Fin 256) :
    val_main_v5 (F := Ideal) kv (ix4 b m h d) = v kv b h m d := by
  unfold val_main_v5 val_main_v3
  pointwise
  rfl

theorem o_apply (b : Fin 2) (h : Fin 4) (t : Fin 2048) (d : Fin 256) :
    val_main_v44 (F := Ideal) dcat (ix4 b h d t) = o dcat b h t d := by
  unfold val_main_v44 val_main_v43 val_main_v7 val_main_v6
  pointwise
  rfl

theorem s_apply (b : Fin 2) (h : Fin 4) (t : Fin 2048) (m : Fin 256) :
    val_main_v11 (F := Ideal) z kv (ix4 b h t m) = score z kv b h t m := by
  unfold val_main_v11 val_main_v10 val_main_v9 val_main_cst
  pointwise
  simp only [q_apply, k_apply]
  rfl

/-- A row's maximum, -/
theorem max_row (b : Fin 2) (h : Fin 4) (t : Fin 2048) :
    val_main_v12 (F := Ideal) z kv (ix3 b h t) = (Finset.univ : Finset (Fin 256)).fold max ⊥ (score z kv b h t) := by
  have e := hostMax_apply (val_main_v11 (F := Ideal) z kv) (val_main_cst_0 (F := Ideal))
    Gen.reducesTo_S2x4x2048x256_S2x4x2048_d3 Gen.h_S_ b h t
  have e0 : val_main_cst_0 (F := Ideal) (Shape.Idx.first Gen.h_S_) = ⊥ := ofBits_bot
  rw [e0] at e
  simp only [s_apply] at e
  exact e

/-- and the same again beside `-∞`. -/
theorem max_apply (b : Fin 2) (h : Fin 4) (t : Fin 2048) :
    val_main_v19 (F := Ideal) z kv (ix3 b h t) = Softmax.top (score z kv b h t) := by
  rw [val_main_v19_apply, val_main_v18_apply, val_main_cst_2_apply, max_row]
  unfold Softmax.top
  generalize score z kv b h t = f
  exact (congrArg (fun c => max c ((Finset.univ : Finset (Fin 256)).fold max ⊥ f)) ofBits_bot).trans (fold_max_top f ⊥)

theorem e_apply (b : Fin 2) (h : Fin 4) (t : Fin 2048) (m : Fin 256) :
    val_main_v32 (F := Ideal) z kv (ix4 b h t m) = Softmax.ex (score z kv b h t) m := by
  unfold val_main_v32 val_main_v31 val_main_v30 val_main_v29
  pointwise
  simp only [s_apply, max_apply]
  rfl

theorem l_apply (b : Fin 2) (h : Fin 4) (t : Fin 2048) :
    val_main_v33 (F := Ideal) z kv (ix3 b h t) = Softmax.tot (score z kv b h t) := by
  unfold val_main_v33 val_main_cst_8
  pointwise
  simp only [e_apply, Ideal.ofBits_zero_f32, zero_add]
  rfl

theorem p_apply (b : Fin 2) (h : Fin 4) (t : Fin 2048) (m : Fin 256) :
    val_main_v36 (F := Ideal) z kv (ix4 b h t m) = Softmax.prob (score z kv b h t) m := by
  unfold val_main_v36 val_main_v35 val_main_v34
  pointwise
  simp only [e_apply, l_apply]
  rfl

theorem dp_apply (b : Fin 2) (h : Fin 4) (t : Fin 2048) (m : Fin 256) :
    val_main_v45 (F := Ideal) kv dcat (ix4 b h t m) = dp kv dcat b h t m := by
  unfold val_main_v45
  pointwise
  simp only [o_apply, v_apply]
  rfl

theorem ds_apply (b : Fin 2) (h : Fin 4) (t : Fin 2048) (m : Fin 256) :
    val_main_v61 (F := Ideal) z kv dcat (ix4 b h t m) =
      (Ideal.div (dp kv dcat b h t m) (Softmax.tot (score z kv b h t))
        + -(∑ j, dp kv dcat b h t j * Ideal.div 1 (Softmax.tot (score z kv b h t) * Softmax.tot (score z kv b h t))
            * Softmax.ex (score z kv b h t) j)) * Softmax.ex (score z kv b h t) m * scale := by
  unfold val_main_v61 val_main_v60 val_main_v59 val_main_v58 val_main_v57 val_main_v56 val_main_v55 val_main_v54
    val_main_v53 val_main_v52 val_main_v51 val_main_v50 val_main_v49 val_main_v48 val_main_v39 val_main_v38 val_main_v37 val_main_v34
    val_main_cst_9 val_main_cst_10 val_main_cst_11 val_main_cst_12
  pointwise
  simp only [dp_apply, e_apply, l_apply, Ideal.ofBits_zero_f32, Ideal.ofBits_one_f32, zero_add, Fin.sum_univ_one]

theorem dv_apply (b : Fin 2) (h : Fin 4) (m d : Fin 256) :
    val_main_v70 (F := Ideal) z kv dcat (ix2 ⟨b * 256 + m, by omega⟩ ⟨h * 256 + d, by omega⟩) = dv z kv dcat b h m d := by
  unfold val_main_v70 val_main_v47 val_main_v46
  pointwise
  simp only [o_apply, p_apply, mul_comm (o _ _ _ _ _)]
  rfl

theorem dk_apply (b : Fin 2) (h : Fin 4) (m d : Fin 256) :
    val_main_v69 (F := Ideal) z kv dcat (ix2 ⟨b * 256 + m, by omega⟩ ⟨h * 256 + d, by omega⟩)
      = ∑ t : Fin 2048, val_main_v61 (F := Ideal) z kv dcat (ix4 b h t m) * q z b h t d := by
  unfold val_main_v69 val_main_v63 val_main_v62
  pointwise
  simp only [q_apply]

theorem dq_apply (b : Fin 2) (h : Fin 4) (t : Fin 2048) (d : Fin 256) :
    val_main_v68 (F := Ideal) z kv dcat (ix2 ⟨b * 2048 + t, by omega⟩ ⟨h * 256 + d, by omega⟩)
      = ∑ m : Fin 256, val_main_v61 (F := Ideal) z kv dcat (ix4 b h t m) * k kv b h m d := by
  unfold val_main_v68 val_main_v67 val_main_v66 val_main_v65 val_main_v64
  pointwise
  simp only [k_apply]

theorem scale_eq : scale = ((1 / 16 : ℝ) : EReal) := by
  simp [scale, Ideal.ofBits, Ideal.ieee, -EReal.coe_mul]
  norm_num

theorem scale_fin : Reals.Fin' scale := ⟨_, scale_eq⟩

/-- Finite queries and keys give finite scores. -/
theorem score_fin (hz : ∀ i : Fin 4096, ∀ j : Fin 1024, Reals.Fin' (z (ix2 i ⟨4096 + j, by omega⟩)))
    (hk : ∀ i : Fin 512, ∀ j : Fin 1024, Reals.Fin' (kv (ix2 i ⟨j, by omega⟩)))
    (b : Fin 2) (h : Fin 4) (t : Fin 2048) (m : Fin 256) : Reals.Fin' (score z kv b h t m) := by
  unfold score
  refine Reals.Fin'.mul (Reals.Fin'.sum _ fun d => Reals.Fin'.mul ?_ ?_) scale_fin
  · exact hz ⟨b * 2048 + t, by omega⟩ ⟨h * 256 + d, by omega⟩
  · exact hk ⟨b * 256 + m, by omega⟩ ⟨h * 256 + d, by omega⟩

section Finite

variable (hf : ∀ b h t m, Reals.Fin' (score z kv b h t m))
include hf

/-- The gradient of the scores, as the quotient rule writes it, is the softmax's gradient. -/
theorem ds_eq (b : Fin 2) (h : Fin 4) (t : Fin 2048) (m : Fin 256) :
    val_main_v61 (F := Ideal) z kv dcat (ix4 b h t m) = ds z kv dcat b h t m := by
  rw [ds_apply, Softmax.grad_eq (hf b h t)]
  rfl

theorem dk_eq (b : Fin 2) (h : Fin 4) (m d : Fin 256) :
    val_main_v69 (F := Ideal) z kv dcat (ix2 ⟨b * 256 + m, by omega⟩ ⟨h * 256 + d, by omega⟩) = dk z kv dcat b h m d := by
  rw [dk_apply]
  simp only [ds_eq z kv dcat hf]
  rfl

theorem dq_eq (b : Fin 2) (h : Fin 4) (t : Fin 2048) (d : Fin 256) :
    val_main_v68 (F := Ideal) z kv dcat (ix2 ⟨b * 2048 + t, by omega⟩ ⟨h * 256 + d, by omega⟩) = dq z kv dcat b h t d := by
  rw [dq_apply]
  simp only [ds_eq z kv dcat hf]
  rfl

end Finite

end Cert.Attn.Ref

end
-- ==== Proof.Attn.Claim.lean ====
/-
  The claims about the memory attention's gradient: frames, and the kernel's results equal to the reference's where the
  queries and the keys are finite.
-/
module

public import proofs.«01_k».proof.Defs
public import proofs.«01_k».proof.Proof.Attn.Kernel
public import proofs.«01_k».proof.Proof.Attn.Ref
public import proofs.«01_k».proof.Proof.Gen.Kernel.Frame
public import proofs.«01_k».proof.Proof.Gen.Pre_finite_scores
public import Idealize.ShloMosaic.Lib.Quiescent

@[expose] public section

set_option maxRecDepth 16384

noncomputable section

open Idealize.ShloMosaic Idealize.ShloMosaic.TcCoe Idealize.SL.Sem

namespace Cert.Attn

/-! ## The precondition, read -/

section Pre

variable {z : (⟨2, ![4096, 5120]⟩ : Shape).Idx → EReal} {kv : (⟨2, ![512, 2048]⟩ : Shape).Idx → EReal}
  {dcat : (⟨2, ![4096, 2048]⟩ : Shape).Idx → EReal}
  (h : Cert.Pre_finite_scores.fn (F := Ideal) z kv dcat = fun _ => 1#1)
include h

theorem pre_q (i : Fin 4096) (j : Fin 1024) : Reals.Fin' (z (ix2 i ⟨4096 + j, by omega⟩)) := by
  have e := congrFun h ix0
  unfold Cert.Pre_finite_scores.fn at e
  dsimp only at e
  have e1 := Host.reduce_andi_all _ _ _ _ _ (IntOp.andi_eq_one.1 e).1 (ix2 i j)
  pointwise at e1
  exact Reals.fin_of_bit e1

theorem pre_k (i : Fin 512) (j : Fin 1024) : Reals.Fin' (kv (ix2 i ⟨j, by omega⟩)) := by
  have e := congrFun h ix0
  unfold Cert.Pre_finite_scores.fn at e
  dsimp only at e
  have e1 := Host.reduce_andi_all _ _ _ _ _ (IntOp.andi_eq_one.1 e).2 (ix2 i j)
  pointwise at e1
  exact Reals.fin_of_bit e1

end Pre

/-! ## The reference's results as arrays -/

section Results

variable (z : (⟨2, ![4096, 5120]⟩ : Shape).Idx → EReal) (kv : (⟨2, ![512, 2048]⟩ : Shape).Idx → EReal)
  (dcat : (⟨2, ![4096, 2048]⟩ : Shape).Idx → EReal)

theorem ref_dv : Cert.ReferenceIdeal.Read.val_main_v70 (F := Ideal) z kv dcat = dvArr z kv dcat := by
  funext i
  obtain ⟨b, h, t, d, hb, hd, rfl⟩ := idx_split (n := 256) rfl (by norm_num) i
  rw [dvArr_apply]
  exact Ref.dv_apply z kv dcat b h t d

variable (hf : ∀ b h t m, Reals.Fin' (score z kv b h t m))
include hf

theorem ref_dq : Cert.ReferenceIdeal.Read.val_main_v68 (F := Ideal) z kv dcat = dqArr z kv dcat := by
  funext i
  obtain ⟨b, h, t, d, hb, hd, rfl⟩ := idx_split (n := 2048) rfl (by norm_num) i
  rw [dqArr_apply]
  exact Ref.dq_eq z kv dcat hf b h t d

theorem ref_dk : Cert.ReferenceIdeal.Read.val_main_v69 (F := Ideal) z kv dcat = dkArr z kv dcat := by
  funext i
  obtain ⟨b, h, t, d, hb, hd, rfl⟩ := idx_split (n := 256) rfl (by norm_num) i
  rw [dkArr_apply]
  exact Ref.dk_eq z kv dcat hf b h t d

end Results

/-! ## The claims -/

theorem frame_ref : Cert.quiescent_ReferenceIdeal := fun m ρ _ =>
  (θ_run _ _ _).mono (fun r h => ⟨fun c => (h c).2.2.2, sem_eq_zero_of_no_sems (by decide) r.2⟩)
    (Cert.ReferenceIdeal.Value.run (F := Ideal) m ρ)

theorem algebraic : Cert.algebraic_KernelIdeal_ReferenceIdeal_pre_finite_scores := by
  intro m ρ m' ρ' pre args
  refine ⟨fun c => dqArr (Kernel.z m c) (Kernel.kv m c) (Kernel.dcat m c), fun c => dkArr (Kernel.z m c) (Kernel.kv m c) (Kernel.dcat m c),
    fun c => dvArr (Kernel.z m c) (Kernel.kv m c) (Kernel.dcat m c), Kernel.run m ρ, ?_⟩
  refine (θ_run _ _ _).mono (fun r h c => ?_) (Cert.ReferenceIdeal.Value.run (F := Ideal) m' ρ')
  have hf := Ref.score_fin (Kernel.z m c) (Kernel.kv m c) (pre_q (pre c)) (pre_k (pre c))
  obtain ⟨a0, a1, a2⟩ := args c
  obtain ⟨h0, h1, h2, hk⟩ := h c
  refine ⟨h0.trans ?_, h1.trans ?_, h2.trans ?_, hk⟩
  · rw [Cert.ReferenceIdeal.Read.val_main_v68_eq, a0, a1, a2]
    exact ref_dq _ _ _ hf
  · rw [Cert.ReferenceIdeal.Read.val_main_v69_eq, a0, a1, a2]
    exact ref_dk _ _ _ hf
  · rw [Cert.ReferenceIdeal.Read.val_main_v70_eq, a0, a1, a2]
    exact ref_dv _ _ _

end Cert.Attn

end
-- ==== Proof.AttnFwdRef.lean ====
/-
  The memory attention itself: its result as a formula over its arguments, and the reference read at an index, which is
  that formula. The scores are those of the gradient's model.
-/
module

public import proofs.«01_k».proof.Proof.Attn.Model
public import proofs.«01_k».proof.Proof.Attn.Max
public import proofs.«01_k».proof.Proof.Gen.AttnFwdRefIdeal.Read

@[expose] public section

set_option maxRecDepth 16384

noncomputable section

open Idealize.ShloMosaic

namespace Cert.Attn.Fwd

variable (z : (⟨2, ![4096, 5120]⟩ : Shape).Idx → EReal) (kv : (⟨2, ![512, 2048]⟩ : Shape).Idx → EReal)

/-- The attention of token `t` of batch `b`, head `h`, coordinate `d`. -/
def out (b : Fin 2) (h : Fin 4) (t : Fin 2048) (d : Fin 256) : EReal :=
  ∑ m : Fin 256, Softmax.prob (score z kv b h t) m * v kv b h m d

/-- The attention as the array that holds it: rows are tokens, columns head by head. -/
def outArr (i : (⟨2, ![4096, 1024]⟩ : Shape).Idx) : EReal :=
  out z kv ⟨(i 0 : ℕ) / 2048, by have h : (i 0 : ℕ) < 4096 := (i 0).isLt; omega⟩
    ⟨(i 1 : ℕ) / 256, by have h : (i 1 : ℕ) < 1024 := (i 1).isLt; omega⟩
    ⟨(i 0 : ℕ) % 2048, Nat.mod_lt _ (by norm_num)⟩ ⟨(i 1 : ℕ) % 256, Nat.mod_lt _ (by norm_num)⟩

theorem outArr_apply (b : Fin 2) (h : Fin 4) (t : Fin 2048) (d : Fin 256) (hb : b.val * 2048 + t.val < 4096)
    (hd : h.val * 256 + d.val < 1024) : outArr z kv (ix2 ⟨b * 2048 + t, hb⟩ ⟨h * 256 + d, hd⟩) = out z kv b h t d := by
  unfold outArr
  congr 1 <;> apply Fin.ext
  · show (b.val * 2048 + t.val) / 2048 = b.val
    omega
  · show (h.val * 256 + d.val) / 256 = h.val
    omega
  · show (b.val * 2048 + t.val) % 2048 = t.val
    omega
  · show (h.val * 256 + d.val) % 256 = d.val
    omega

/-! ## The reference, stage by stage -/

open Cert.AttnFwdRefIdeal Cert.AttnFwdRefIdeal.Read

theorem q_apply (b : Fin 2) (h : Fin 4) (t : Fin 2048) (d : Fin 256) :
    val_main_v6 (F := Ideal) z (ix4 b t h d) = q z b h t d := by
  unfold val_main_v6 val_main_v1 val_main_v0
  pointwise
  rfl

theorem k_apply (b : Fin 2) (h : Fin 4) (m d : Fin 256) : val_main_v4 (F := Ideal) kv (ix4 b m h d) = k kv b h m d := by
  unfold val_main_v4 val_main_v2
  pointwise
  rfl

theorem v_apply (b : Fin 2) (h : Fin 4) (m d : Fin 256) : val_main_v5 (F := Ideal) kv (ix4 b m h d) = v kv b h m d := by
  unfold val_main_v5 val_main_v3
  pointwise
  rfl

theorem s_apply (b : Fin 2) (h : Fin 4) (t : Fin 2048) (m : Fin 256) :
    val_main_v9 (F := Ideal) z kv (ix4 b h t m) = score z kv b h t m := by
  unfold val_main_v9 val_main_v8 val_main_v7 val_main_cst
  pointwise
  simp only [q_apply, k_apply]
  rfl

/-- A row's maximum, -/
theorem max_row (b : Fin 2) (h : Fin 4) (t : Fin 2048) :
    val_main_v10 (F := Ideal) z kv (ix3 b h t) = (Finset.univ : Finset (Fin 256)).fold max ⊥ (score z kv b h t) := by
  have e := hostMax_apply (val_main_v9 (F := Ideal) z kv) (val_main_cst_0 (F := Ideal))
    Gen.reducesTo_S2x4x2048x256_S2x4x2048_d3 Gen.h_S_ b h t
  have e0 : val_main_cst_0 (F := Ideal) (Shape.Idx.first Gen.h_S_) = ⊥ := ofBits_bot
  rw [e0] at e
  simp only [s_apply] at e
  exact e

/-- and the same again beside `-∞`. -/
theorem max_apply (b : Fin 2) (h : Fin 4) (t : Fin 2048) :
    val_main_v12 (F := Ideal) z kv (ix3 b h t) = Softmax.top (score z kv b h t) := by
  rw [val_main_v12_apply, val_main_v11_apply, val_main_cst_1_apply, max_row]
  unfold Softmax.top
  generalize score z kv b h t = f
  exact (congrArg (fun c => max c ((Finset.univ : Finset (Fin 256)).fold max ⊥ f)) ofBits_bot).trans (fold_max_top f ⊥)

theorem e_apply (b : Fin 2) (h : Fin 4) (t : Fin 2048) (m : Fin 256) :
    val_main_v16 (F := Ideal) z kv (ix4 b h t m) = Softmax.ex (score z kv b h t) m := by
  unfold val_main_v16 val_main_v15 val_main_v14 val_main_v13
  pointwise
  simp only [s_apply, max_apply]
  rfl

theorem l_apply (b : Fin 2) (h : Fin 4) (t : Fin 2048) :
    val_main_v17 (F := Ideal) z kv (ix3 b h t) = Softmax.tot (score z kv b h t) := by
  unfold val_main_v17 val_main_cst_2
  pointwise
  simp only [e_apply, Ideal.ofBits_zero_f32, zero_add]
  rfl

theorem p_apply (b : Fin 2) (h : Fin 4) (t : Fin 2048) (m : Fin 256) :
    val_main_v20 (F := Ideal) z kv (ix4 b h t m) = Softmax.prob (score z kv b h t) m := by
  unfold val_main_v20 val_main_v19 val_main_v18
  pointwise
  simp only [e_apply, l_apply]
  rfl

theorem out_apply (b : Fin 2) (h : Fin 4) (t : Fin 2048) (d : Fin 256) :
    val_main_v25 (F := Ideal) z kv (ix2 ⟨b * 2048 + t, by omega⟩ ⟨h * 256 + d, by omega⟩) = out z kv b h t d := by
  unfold val_main_v25 val_main_v24 val_main_v23 val_main_v22 val_main_v21
  pointwise
  simp only [v_apply, p_apply]
  exact Finset.sum_congr rfl fun m _ => mul_comm _ _

theorem ref_eq : val_main_v25 (F := Ideal) z kv = outArr z kv := by
  funext i
  obtain ⟨b, h, t, d, hb, hd, rfl⟩ := idx_split (n := 2048) rfl (by norm_num) i
  rw [outArr_apply]
  exact out_apply z kv b h t d

end Cert.Attn.Fwd

end
-- ==== Proof.Products.AttnFwd.lean ====
/-
  The memory attention itself: a batch's and a head's block of tokens at a point.
-/
module

public import Idealize.ShloMosaic.Lib.Pointwise
public import Idealize.ShloMosaic.Lib.Quiescent
public import proofs.«01_k».proof.Proof.AttnFwdRef
public import proofs.«01_k».proof.Defs
public import proofs.«01_k».proof.Proof.Gen.AttnFwdIdeal.Value
public import proofs.«01_k».proof.Proof.Gen.AttnFwdRefIdeal.Run
public import proofs.«01_k».proof.Proof.Gen.AttnFwdRefIdeal.Read

@[expose] public section

set_option maxRecDepth 16384

noncomputable section

open Idealize.ShloMosaic Idealize.ShloMosaic.TcCoe Idealize.SL.Sem

namespace Cert.Products.AttnFwd

/-! ## The mathematics -/

section Model
variable (z : (⟨2, ![4096, 5120]⟩ : Shape).Idx → EReal) (kv : (⟨2, ![512, 2048]⟩ : Shape).Idx → EReal)
/-- The result, entry by entry. -/
def entry (i : Fin 4096) (j : Fin 1024) : EReal := Attn.Fwd.outArr z kv (ix2 i j)

/-- The result as an array. -/
def result : (⟨2, ![4096, 1024]⟩ : Shape).Idx → EReal := fun i => entry z kv (i 0) (i 1)

theorem result_apply (i : Fin 4096) (j : Fin 1024) : result z kv (ix2 i j) = entry z kv i j := rfl

/-! ## The reference -/

open Cert.AttnFwdRefIdeal.Read in
theorem ref_eq : val_main_v25 (F := Ideal) z kv = result z kv := by
  funext i
  obtain ⟨a, b, rfl⟩ : ∃ a b, i = ix2 a b := ⟨i 0, i 1, by funext x; match x with | ⟨0, _⟩ => rfl | ⟨1, _⟩ => rfl⟩
  rw [Attn.Fwd.ref_eq]
  rfl

end Model

/-! ## The kernel -/

open Cert.AttnFwdIdeal Cert.AttnFwdIdeal.Gen

section Kernel

variable (m : (ℓ : Loc nD τ sig) → Buf (Elt Ideal) ℓ) (ρ : Dev nD → PrngReg) (c : Dev nD)
abbrev z : S4096x5120.Idx → EReal := m ((c : Thread nD τ).loc main_arg0)
abbrev kv : S512x2048.Idx → EReal := m ((c : Thread nD τ).loc main_arg1)

/-! Where the block of a point lies in an array. -/

theorem index0 : ∀ t : Fin cfg0.N, win0_0.index t 0 = t.val / 4 ∧ win0_0.index t 1 = (16 + t.val % 4) :=
  (by decide +kernel : ∀ t : Fin grid0.N, win0_0.index t 0 = t.val / 4 ∧ win0_0.index t 1 = (16 + t.val % 4))
def zRow (t : Fin cfg0.N) (a : Fin 2048) : Fin 4096 :=
  ⟨t.val / 4 * 2048 + a.val, by have h : t.val < 8 := t.isLt; omega⟩
def zCol (t : Fin cfg0.N) (a : Fin 256) : Fin 5120 :=
  ⟨(16 + t.val % 4) * 256 + a.val, by have h : t.val < 8 := t.isLt; omega⟩
theorem index1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
def keyRow (t : Fin cfg0.N) (a : Fin 256) : Fin 512 :=
  ⟨t.val / 4 * 256 + a.val, by have h : t.val < 8 := t.isLt; omega⟩
def keyCol (t : Fin cfg0.N) (a : Fin 256) : Fin 2048 :=
  ⟨t.val % 4 * 256 + a.val, by have h : t.val < 8 := t.isLt; omega⟩
theorem index2 : ∀ t : Fin cfg0.N, win0_2.index t 0 = t.val / 4 ∧ win0_2.index t 1 = (4 + t.val % 4) :=
  (by decide +kernel : ∀ t : Fin grid0.N, win0_2.index t 0 = t.val / 4 ∧ win0_2.index t 1 = (4 + t.val % 4))
def valueRow (t : Fin cfg0.N) (a : Fin 256) : Fin 512 :=
  ⟨t.val / 4 * 256 + a.val, by have h : t.val < 8 := t.isLt; omega⟩
def valueCol (t : Fin cfg0.N) (a : Fin 256) : Fin 2048 :=
  ⟨(4 + t.val % 4) * 256 + a.val, by have h : t.val < 8 := t.isLt; omega⟩
theorem index3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)
def outRow (t : Fin cfg0.N) (a : Fin 2048) : Fin 4096 :=
  ⟨t.val / 4 * 2048 + a.val, by have h : t.val < 8 := t.isLt; omega⟩
def outCol (t : Fin cfg0.N) (a : Fin 256) : Fin 1024 :=
  ⟨t.val % 4 * 256 + a.val, by have h : t.val < 8 := t.isLt; omega⟩

/-! What a point reads. -/

theorem array0 : V m c main_arg0 = z m c := V_main_arg0 m c

theorem blk0 (t : Fin cfg0.N) (a : Fin 2048) (d : Fin 256) :
    iblk m c 0 t (ix2 a d) = z m c (ix2 (zRow t a) (zCol t d)) := by
  unfold iblk
  rw [View.read_apply]
  show V m c main_arg0 _ = _
  rw [array0]
  congr 1; funext x; apply Fin.ext
  match x with
  | ⟨0, _⟩ => show win0_0.index t 0 * 2048 + 1 * a.val = t.val / 4 * 2048 + a.val
              rw [(index0 t).1]; omega
  | ⟨1, _⟩ => show win0_0.index t 1 * 256 + 1 * d.val = (16 + t.val % 4) * 256 + d.val
              rw [(index0 t).2]; omega

theorem array1 : V m c main_arg1 = kv m c := V_main_arg1 m c

theorem blk1 (t : Fin cfg0.N) (a : Fin 256) (d : Fin 256) :
    iblk m c 1 t (ix2 a d) = kv m c (ix2 (keyRow t a) (keyCol t d)) := by
  unfold iblk
  rw [View.read_apply]
  show V m c main_arg1 _ = _
  rw [array1]
  congr 1; funext x; apply Fin.ext
  match x with
  | ⟨0, _⟩ => show win0_1.index t 0 * 256 + 1 * a.val = t.val / 4 * 256 + a.val
              rw [(index1 t).1]; omega
  | ⟨1, _⟩ => show win0_1.index t 1 * 256 + 1 * d.val = t.val % 4 * 256 + d.val
              rw [(index1 t).2]; omega

theorem array2 : V m c main_arg1 = kv m c := V_main_arg1 m c

theorem blk2 (t : Fin cfg0.N) (a : Fin 256) (d : Fin 256) :
    iblk m c 2 t (ix2 a d) = kv m c (ix2 (valueRow t a) (valueCol t d)) := by
  unfold iblk
  rw [View.read_apply]
  show V m c main_arg1 _ = _
  rw [array2]
  congr 1; funext x; apply Fin.ext
  match x with
  | ⟨0, _⟩ => show win0_2.index t 0 * 256 + 1 * a.val = t.val / 4 * 256 + a.val
              rw [(index2 t).1]; omega
  | ⟨1, _⟩ => show win0_2.index t 1 * 256 + 1 * d.val = (4 + t.val % 4) * 256 + d.val
              rw [(index2 t).2]; omega

theorem hz : (![0, 0] : Fin 2 → Nat) = fun _ => 0 := funext fun a => by fin_cases a <;> rfl

/-- What a point writes back, -/
theorem after (t : Fin cfg0.N) : (dats m 0 c).flushed 3 t
    = (cfg0.win 3).cut (grid0.coords t) (k0_pay1 (iblk m c 0 t) (iblk m c 1 t) (iblk m c 2 t)) := by
  rw [Value.flushed3]
  unfold out0_3
  rw [View.canon_unit_zero hz]
  simp only [View.ld_unit_zero (S := S2048x256) hz, View.ld_unit_zero (S := S256x256) hz]

/-- entry by entry: the entries of its block of the result. -/
theorem pay_apply (t : Fin cfg0.N) (a : Fin 2048) (d : Fin 256) :
    k0_pay1 (iblk m c 0 t) (iblk m c 1 t) (iblk m c 2 t) (ix2 a d) = entry (z m c) (kv m c) (outRow t a) (outCol t d) := by
  have ht : t.val < 8 := t.isLt
  obtain ⟨b, hb⟩ : ∃ b : Fin 2, b.val = t.val / 4 := ⟨⟨t.val / 4, by omega⟩, rfl⟩
  obtain ⟨h, hh⟩ : ∃ h : Fin 4, h.val = t.val % 4 := ⟨⟨t.val % 4, by omega⟩, rfl⟩
  have eo : ix2 (outRow t a) (outCol t d)
      = ix2 (⟨b * 2048 + a, by omega⟩ : Fin 4096) (⟨h * 256 + d, by omega⟩ : Fin 1024) := by
    congr 1 <;> apply Fin.ext
    · show t.val / 4 * 2048 + a.val = b.val * 2048 + a.val
      rw [hb]
    · show t.val % 4 * 256 + d.val = h.val * 256 + d.val
      rw [hh]
  have eq (e : Fin 256) : z m c (ix2 (zRow t a) (zCol t e)) = Attn.q (z m c) b h a e := by
    unfold Attn.q
    congr 2 <;> apply Fin.ext
    · show t.val / 4 * 2048 + a.val = b.val * 2048 + a.val
      rw [hb]
    · show (16 + t.val % 4) * 256 + e.val = 4096 + (h.val * 256 + e.val)
      omega
  have ek (j e : Fin 256) : kv m c (ix2 (keyRow t j) (keyCol t e)) = Attn.k (kv m c) b h j e := by
    unfold Attn.k
    congr 2 <;> apply Fin.ext
    · show t.val / 4 * 256 + j.val = b.val * 256 + j.val
      rw [hb]
    · show t.val % 4 * 256 + e.val = h.val * 256 + e.val
      rw [hh]
  have ev (j e : Fin 256) : kv m c (ix2 (valueRow t j) (valueCol t e)) = Attn.v (kv m c) b h j e := by
    unfold Attn.v
    congr 2 <;> apply Fin.ext
    · show t.val / 4 * 256 + j.val = b.val * 256 + j.val
      rw [hb]
    · show (4 + t.val % 4) * 256 + e.val = 1024 + (h.val * 256 + e.val)
      omega
  unfold entry
  rw [eo, Attn.Fwd.outArr_apply]
  unfold k0_pay1
  pointwise
  simp only [blk0, blk1, blk2, eq, ek, ev, Attn.ofBits_bot]
  rfl

theorem cut (f : S2048x256.Idx → EReal) (G : S4096x1024.Idx → EReal) (t : Fin cfg0.N)
    (h : ∀ (a : Fin 2048) (d : Fin 256), f (ix2 a d) = G (ix2 (outRow t a) (outCol t d))) :
    (cfg0.win 3).cut (grid0.coords t) f = ((cfg0.win 3).blk t).view.read (Elt Ideal) G := by
  funext j
  rw [View.read_apply]
  have h0 : (j 0 : ℕ) < 2048 := (j 0).isLt
  have h1 : (j 1 : ℕ) < 256 := (j 1).isLt
  refine (congrArg f ?_).trans ((h ⟨(j 0 : ℕ), h0⟩ ⟨(j 1 : ℕ), h1⟩).trans (congrArg G ?_))
  · funext x
    match x with
    | ⟨0, _⟩ => rfl
    | ⟨1, _⟩ => rfl
  · funext x; apply Fin.ext
    match x with
    | ⟨0, _⟩ => show t.val / 4 * 2048 + (j 0 : ℕ) = win0_3.index t 0 * 2048 + 1 * (j 0 : ℕ)
                rw [(index3 t).1]; omega
    | ⟨1, _⟩ => show t.val % 4 * 256 + (j 1 : ℕ) = win0_3.index t 1 * 256 + 1 * (j 1 : ℕ)
                rw [(index3 t).2]; omega

theorem flushed (t : Fin cfg0.N) : (dats m 0 c).flushed 3 t
    = ((cfg0.win 3).blk t).view.read (Elt Ideal) (result (z m c) (kv m c)) := by
  rw [after]
  exact cut _ _ t fun a d => pay_apply m c t a d

/-- The blocks cover the result. -/
theorem cover (i : S4096x1024.Idx) : ∃ t : Fin cfg0.N, (cfg0.win 3).flush t = true ∧ i ∈ ((cfg0.win 3).blk t).view.set := by
  have h0 : (i 0 : ℕ) < 4096 := (i 0).isLt
  have h1 : (i 1 : ℕ) < 1024 := (i 1).isLt
  have hN : cfg0.N = 8 := N_0
  obtain ⟨t, ht⟩ : ∃ t : Fin cfg0.N, t.val = (i 0 : ℕ) / 2048 * 4 + (i 1 : ℕ) / 256 := ⟨⟨_, by omega⟩, rfl⟩
  have e := index3 t
  refine ⟨t, flush0_3 _, ?_⟩
  show i ∈ ((View.whole main_v0).slice (win0_3.rect t)).set
  rw [View.set_slice_whole, Rect.mem_set_unit]
  intro a
  match a with
  | ⟨0, _⟩ => show win0_3.index t 0 * 2048 ≤ (i 0 : ℕ) ∧ (i 0 : ℕ) < win0_3.index t 0 * 2048 + 2048
              rw [e.1, ht]; omega
  | ⟨1, _⟩ => show win0_3.index t 1 * 256 ≤ (i 1 : ℕ) ∧ (i 1 : ℕ) < win0_3.index t 1 * 256 + 256
              rw [e.2, ht]; omega

theorem final : (dats m 0 c).arrAt 3 cfg0.N = (result (z m c) (kv m c)) :=
  (dats m 0 c).arrAt_eq_of_cover 3 _ (fun t _ => flushed m c t) cover

/-- The run, read: the result at its formula, the arguments unchanged. -/
theorem run : θ_run defs (onTc (τ := τ) (main (F := Ideal))) ⟨m, fun _ => 0, ρ⟩ fun r => ∀ c : Dev nD,
      r.2.mem ((c : Thread nD τ).loc main_v0) = (result (z m c) (kv m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Kernel

/-! ## The claims -/

theorem frame_ref : Cert.quiescent_AttnFwdRefIdeal := fun m ρ _ =>
  (θ_run _ _ _).mono (fun r h => ⟨fun c => (h c).2, sem_eq_zero_of_no_sems (by decide) r.2⟩)
    (Cert.AttnFwdRefIdeal.Value.run (F := Ideal) m ρ)

theorem algebraic : Cert.algebraic_AttnFwdIdeal_AttnFwdRefIdeal := by
  intro m ρ m' ρ' _ args
  refine ⟨fun c => (result (z m c) (kv m c)), run m ρ, ?_⟩
  refine (θ_run _ _ _).mono (fun r h c => ?_) (Cert.AttnFwdRefIdeal.Value.run (F := Ideal) m' ρ')
  obtain ⟨a0, a1⟩ := args c
  obtain ⟨h0, hk⟩ := h c
  refine ⟨h0.trans ?_, hk⟩
  rw [Cert.AttnFwdRefIdeal.Read.val_main_v25_eq, a0, a1]
  exact ref_eq _ _

end Cert.Products.AttnFwd

end
-- ==== Proof.Planes.lean ====
/-
  Two halves of a matrix's columns as the planes of one array of rank three.
-/
module

public import Idealize.ShloMosaic.Lib.Pointwise

@[expose] public section

noncomputable section

open Idealize.ShloMosaic

namespace Cert.Planes

/-- The planes of `u`: plane `p` is the columns `p * w` to `p * w + w - 1`. -/
def planes (n w k : ℕ) (hk : k = 2 * w) (u : (⟨2, ![n, k]⟩ : Shape).Idx → EReal) : (⟨3, ![2, n, w]⟩ : Shape).Idx → EReal := fun i =>
  u (ix2 (i 1) ⟨(i 0).val * w + (i 2).val, by
    have h0 : (i 0).val < 2 := (i 0).isLt
    have h2 : (i 2).val < w := (i 2).isLt
    have := Nat.mul_le_mul_right w (Nat.le_of_lt_succ h0)
    omega⟩)

theorem planes_apply {n w k : ℕ} (hk : k = 2 * w) (u : (⟨2, ![n, k]⟩ : Shape).Idx → EReal) (p : Fin 2) (a : Fin n) (b : Fin w) :
    planes n w k hk u (ix3 p a b) = u (ix2 a ⟨p.val * w + b.val, by
      have := Nat.mul_le_mul_right w (Nat.le_of_lt_succ p.isLt)
      have := b.isLt
      omega⟩) := rfl

theorem idx_split {l n w : ℕ} (i : (⟨3, ![l, n, w]⟩ : Shape).Idx) : ∃ p a b, i = ix3 p a b :=
  ⟨i 0, i 1, i 2, by funext x; match x with | ⟨0, _⟩ => rfl | ⟨1, _⟩ => rfl | ⟨2, _⟩ => rfl⟩

end Cert.Planes

end
-- ==== Proof.Products.FfnInWgrad.lean ====
/-
  The gradient of the first weight of a half-step FFN: `duᵀ h`, a tile of rows at a point. The kernel takes `du` as two planes.
-/
module

public import Idealize.ShloMosaic.Lib.Pointwise
public import Idealize.ShloMosaic.Lib.Quiescent
public import proofs.«01_k».proof.Proof.Planes
public import proofs.«01_k».proof.Defs
public import proofs.«01_k».proof.Proof.Gen.FfnInWgradIdeal.Value
public import proofs.«01_k».proof.Proof.Gen.FfnInWgradRefIdeal.Run
public import proofs.«01_k».proof.Proof.Gen.FfnInWgradRefIdeal.Read

@[expose] public section

set_option maxRecDepth 16384

noncomputable section

open Idealize.ShloMosaic Idealize.ShloMosaic.TcCoe Idealize.SL.Sem

namespace Cert.Products.FfnInWgrad

/-! ## The mathematics -/

section Model
variable (h : (⟨2, ![4096, 1024]⟩ : Shape).Idx → EReal) (du : (⟨2, ![4096, 5632]⟩ : Shape).Idx → EReal)
/-- The result, entry by entry. -/
def entry (i : Fin 5632) (j : Fin 1024) : EReal := ∑ k : Fin 4096, du (ix2 k i) * h (ix2 k j)

/-- The result as an array. -/
def result : (⟨2, ![5632, 1024]⟩ : Shape).Idx → EReal := fun i => entry h du (i 0) (i 1)

theorem result_apply (i : Fin 5632) (j : Fin 1024) : result h du (ix2 i j) = entry h du i j := rfl

/-! ## The reference -/

open Cert.FfnInWgradRefIdeal.Read in
theorem ref_apply (i : Fin 5632) (j : Fin 1024) : val_main_v5 (F := Ideal) h du (ix2 i j) = entry h du i j := by
  unfold val_main_v5 val_main_v4 val_main_v3 val_main_v2
  pointwise
  rfl

open Cert.FfnInWgradRefIdeal.Read in
theorem ref_eq : val_main_v5 (F := Ideal) h du = result h du := by
  funext i
  obtain ⟨a, b, rfl⟩ : ∃ a b, i = ix2 a b := ⟨i 0, i 1, by funext x; match x with | ⟨0, _⟩ => rfl | ⟨1, _⟩ => rfl⟩
  exact (ref_apply h du a b).trans (result_apply h du a b).symm

end Model

/-! ## The kernel -/

open Cert.FfnInWgradIdeal Cert.FfnInWgradIdeal.Gen

section Kernel

variable (m : (ℓ : Loc nD τ sig) → Buf (Elt Ideal) ℓ) (ρ : Dev nD → PrngReg) (c : Dev nD)
abbrev h : S4096x1024.Idx → EReal := m ((c : Thread nD τ).loc main_arg0)
abbrev du : S4096x5632.Idx → EReal := m ((c : Thread nD τ).loc main_arg1)

/-! Where the block of a point lies in an array. -/

theorem index0 : ∀ t : Fin cfg0.N, win0_0.index t 0 = t.val / 2 ∧ win0_0.index t 1 = 0 ∧ win0_0.index t 2 = t.val % 2 :=
  (by decide +kernel : ∀ t : Fin grid0.N, win0_0.index t 0 = t.val / 2 ∧ win0_0.index t 1 = 0 ∧ win0_0.index t 2 = t.val % 2)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
def outRow (t : Fin cfg0.N) (a : Fin 1408) : Fin 5632 :=
  ⟨t.val * 1408 + a.val, by have h : t.val < 4 := t.isLt; omega⟩

/-! What a point reads. -/

theorem array0 : V m c main_v5 = Planes.planes 4096 2816 5632 rfl (du m c) := by
  unfold V
  after_results
  funext i
  obtain ⟨p, k, j, rfl⟩ : ∃ p k j, i = ix3 p k j := Planes.idx_split i
  rw [Planes.planes_apply]
  match p with
  | ⟨0, _⟩ => pointwise
  | ⟨1, _⟩ => pointwise

theorem blk0 (t : Fin cfg0.N) (a : Fin 4096) (d : Fin 1408) :
    iblk m c 0 t (ix3 0 a d) = du m c (ix2 a (outRow t d)) := by
  unfold iblk
  rw [View.read_apply]
  show V m c main_v5 _ = _
  rw [array0]
  have ht : t.val < 4 := t.isLt
  have e : (⟨t.val / 2 * 2816 + (t.val % 2 * 1408 + d.val), by omega⟩ : Fin 5632) = outRow t d :=
    Fin.ext (show t.val / 2 * 2816 + (t.val % 2 * 1408 + d.val) = t.val * 1408 + d.val by omega)
  rw [← e]
  refine Eq.trans (congrArg (Planes.planes 4096 2816 5632 rfl (du m c)) ?_)
    (Planes.planes_apply (n := 4096) (w := 2816) (k := 5632) rfl (du m c) ⟨t.val / 2, by omega⟩ a ⟨t.val % 2 * 1408 + d.val, by omega⟩)
  funext x; apply Fin.ext
  match x with
  | ⟨0, _⟩ => show win0_0.index t 0 * 1 + 1 * 0 = t.val / 2
              rw [(index0 t).1]; omega
  | ⟨1, _⟩ => show win0_0.index t 1 * 4096 + 1 * a.val = a.val
              rw [(index0 t).2.1]; omega
  | ⟨2, _⟩ => show win0_0.index t 2 * 1408 + 1 * d.val = t.val % 2 * 1408 + d.val
              rw [(index0 t).2.2]; omega

theorem array1 : V m c main_v6 = h m c := by
  unfold V
  after_results
  rfl

theorem blk1 (t : Fin cfg0.N) (a : Fin 4096) (d : Fin 1024) :
    iblk m c 1 t (ix2 a d) = h m c (ix2 a d) := by
  unfold iblk
  rw [View.read_apply]
  show V m c main_v6 _ = _
  rw [array1]
  congr 1; funext x; apply Fin.ext
  match x with
  | ⟨0, _⟩ => show win0_1.index t 0 * 4096 + 1 * a.val = a.val
              rw [(index1 t).1]; omega
  | ⟨1, _⟩ => show win0_1.index t 1 * 1024 + 1 * d.val = d.val
              rw [(index1 t).2]; omega

theorem hz : (![0, 0] : Fin 2 → Nat) = fun _ => 0 := funext fun a => by fin_cases a <;> rfl

theorem hz3 : (![0, 0, 0] : Fin 3 → Nat) = fun _ => 0 := funext fun a => by fin_cases a <;> rfl

/-- What a point writes back, -/
theorem after (t : Fin cfg0.N) : (dats m 0 c).flushed 2 t
    = (cfg0.win 2).cut (grid0.coords t) (k0_pay1 (iblk m c 0 t) (iblk m c 1 t)) := by
  rw [Value.flushed2]
  unfold out0_2
  rw [View.canon_unit_zero hz]
  simp only [View.ld_unit_zero (S := S1x4096x1408) hz3, View.ld_unit_zero (S := S4096x1024) hz]

/-- entry by entry: the entries of its block of the result. -/
theorem pay_apply (t : Fin cfg0.N) (a : Fin 1408) (d : Fin 1024) :
    k0_pay1 (iblk m c 0 t) (iblk m c 1 t) (ix2 a d)
      = entry (h m c) (du m c) (outRow t a) d := by
  unfold k0_pay1
  pointwise
  simp only [blk0, blk1]
  rfl

theorem cut (f : S1408x1024.Idx → EReal) (G : S5632x1024.Idx → EReal) (t : Fin cfg0.N)
    (h : ∀ (a : Fin 1408) (d : Fin 1024), f (ix2 a d) = G (ix2 (outRow t a) d)) :
    (cfg0.win 2).cut (grid0.coords t) f = ((cfg0.win 2).blk t).view.read (Elt Ideal) G := by
  funext j
  rw [View.read_apply]
  have h0 : (j 0 : ℕ) < 1408 := (j 0).isLt
  have h1 : (j 1 : ℕ) < 1024 := (j 1).isLt
  refine (congrArg f ?_).trans ((h ⟨(j 0 : ℕ), h0⟩ ⟨(j 1 : ℕ), h1⟩).trans (congrArg G ?_))
  · funext x
    match x with
    | ⟨0, _⟩ => rfl
    | ⟨1, _⟩ => rfl
  · funext x; apply Fin.ext
    match x with
    | ⟨0, _⟩ => show t.val * 1408 + (j 0 : ℕ) = win0_2.index t 0 * 1408 + 1 * (j 0 : ℕ)
                rw [(index2 t).1]; omega
    | ⟨1, _⟩ => show (j 1 : ℕ) = win0_2.index t 1 * 1024 + 1 * (j 1 : ℕ)
                rw [(index2 t).2]; omega

theorem flushed (t : Fin cfg0.N) : (dats m 0 c).flushed 2 t
    = ((cfg0.win 2).blk t).view.read (Elt Ideal) (result (h m c) (du m c)) := by
  rw [after]
  exact cut _ _ t fun a d => pay_apply m c t a d

/-- The blocks cover the result. -/
theorem cover (i : S5632x1024.Idx) : ∃ t : Fin cfg0.N, (cfg0.win 2).flush t = true ∧ i ∈ ((cfg0.win 2).blk t).view.set := by
  have h0 : (i 0 : ℕ) < 5632 := (i 0).isLt
  have h1 : (i 1 : ℕ) < 1024 := (i 1).isLt
  have hN : cfg0.N = 4 := N_0
  obtain ⟨t, ht⟩ : ∃ t : Fin cfg0.N, t.val = (i 0 : ℕ) / 1408 := ⟨⟨_, by omega⟩, rfl⟩
  have e := index2 t
  refine ⟨t, flush0_2 _, ?_⟩
  show i ∈ ((View.whole main_v7).slice (win0_2.rect t)).set
  rw [View.set_slice_whole, Rect.mem_set_unit]
  intro a
  match a with
  | ⟨0, _⟩ => show win0_2.index t 0 * 1408 ≤ (i 0 : ℕ) ∧ (i 0 : ℕ) < win0_2.index t 0 * 1408 + 1408
              rw [e.1, ht]; omega
  | ⟨1, _⟩ => show win0_2.index t 1 * 1024 ≤ (i 1 : ℕ) ∧ (i 1 : ℕ) < win0_2.index t 1 * 1024 + 1024
              rw [e.2]; omega

theorem final : (dats m 0 c).arrAt 2 cfg0.N = (result (h m c) (du m c)) :=
  (dats m 0 c).arrAt_eq_of_cover 2 _ (fun t _ => flushed m c t) cover

/-- The run, read: the result at its formula, the arguments unchanged. -/
theorem run : θ_run defs (onTc (τ := τ) (main (F := Ideal))) ⟨m, fun _ => 0, ρ⟩ fun r => ∀ c : Dev nD,
      r.2.mem ((c : Thread nD τ).loc main_v7) = (result (h m c) (du m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Kernel

/-! ## The claims -/

theorem frame_ref : Cert.quiescent_FfnInWgradRefIdeal := fun m ρ _ =>
  (θ_run _ _ _).mono (fun r h => ⟨fun c => (h c).2, sem_eq_zero_of_no_sems (by decide) r.2⟩)
    (Cert.FfnInWgradRefIdeal.Value.run (F := Ideal) m ρ)

theorem algebraic : Cert.algebraic_FfnInWgradIdeal_FfnInWgradRefIdeal := by
  intro m ρ m' ρ' _ args
  refine ⟨fun c => (result (h m c) (du m c)), run m ρ, ?_⟩
  refine (θ_run _ _ _).mono (fun r h c => ?_) (Cert.FfnInWgradRefIdeal.Value.run (F := Ideal) m' ρ')
  obtain ⟨a0, a1⟩ := args c
  obtain ⟨h0, hk⟩ := h c
  refine ⟨h0.trans ?_, hk⟩
  rw [Cert.FfnInWgradRefIdeal.Read.val_main_v5_eq, a0, a1]
  exact ref_eq _ _

end Cert.Products.FfnInWgrad

end
-- ==== Proof.Products.FfnOutWgrad.lean ====
/-
  The gradient of the second weight of a half-step FFN: `½ actᵀ dy`, a tile of rows at a point.
-/
module

public import Idealize.ShloMosaic.Lib.Pointwise
public import Idealize.ShloMosaic.Lib.Quiescent
public import proofs.«01_k».proof.Proof.Reals
public import proofs.«01_k».proof.Defs
public import proofs.«01_k».proof.Proof.Gen.FfnOutWgradIdeal.Value
public import proofs.«01_k».proof.Proof.Gen.FfnOutWgradRefIdeal.Run
public import proofs.«01_k».proof.Proof.Gen.FfnOutWgradRefIdeal.Read

@[expose] public section

set_option maxRecDepth 16384

noncomputable section

open Idealize.ShloMosaic Idealize.ShloMosaic.TcCoe Idealize.SL.Sem

namespace Cert.Products.FfnOutWgrad

/-! ## The mathematics -/

section Model
variable (act : (⟨2, ![4096, 2816]⟩ : Shape).Idx → EReal) (dy : (⟨2, ![4096, 1024]⟩ : Shape).Idx → EReal)
/-- The result, entry by entry. -/
def entry (i : Fin 2816) (j : Fin 1024) : EReal := Reals.half * ∑ k : Fin 4096, act (ix2 k i) * dy (ix2 k j)

/-- The result as an array. -/
def result : (⟨2, ![2816, 1024]⟩ : Shape).Idx → EReal := fun i => entry act dy (i 0) (i 1)

theorem result_apply (i : Fin 2816) (j : Fin 1024) : result act dy (ix2 i j) = entry act dy i j := rfl

/-! ## The reference -/

open Cert.FfnOutWgradRefIdeal.Read in
theorem ref_apply (i : Fin 2816) (j : Fin 1024) : val_main_v8 (F := Ideal) act dy (ix2 i j) = entry act dy i j := by
  unfold val_main_v8 val_main_v7 val_main_v6 val_main_v5 val_main_v4 val_main_cst_1
  pointwise
  unfold entry
  rw [Reals.half_mul_sum, Reals.ofBits_half]
  exact Finset.sum_congr rfl fun k _ => by rw [mul_assoc, mul_comm (dy _)]

open Cert.FfnOutWgradRefIdeal.Read in
theorem ref_eq : val_main_v8 (F := Ideal) act dy = result act dy := by
  funext i
  obtain ⟨a, b, rfl⟩ : ∃ a b, i = ix2 a b := ⟨i 0, i 1, by funext x; match x with | ⟨0, _⟩ => rfl | ⟨1, _⟩ => rfl⟩
  exact (ref_apply act dy a b).trans (result_apply act dy a b).symm

end Model

/-! ## The kernel -/

open Cert.FfnOutWgradIdeal Cert.FfnOutWgradIdeal.Gen

section Kernel

variable (m : (ℓ : Loc nD τ sig) → Buf (Elt Ideal) ℓ) (ρ : Dev nD → PrngReg) (c : Dev nD)
abbrev act : S4096x2816.Idx → EReal := m ((c : Thread nD τ).loc main_arg0)
abbrev dy : S4096x1024.Idx → EReal := m ((c : Thread nD τ).loc main_arg1)

/-! Where the block of a point lies in an array. -/

theorem index0 : ∀ t : Fin cfg0.N, win0_0.index t 0 = 0 ∧ win0_0.index t 1 = t.val :=
  (by decide +kernel : ∀ t : Fin grid0.N, win0_0.index t 0 = 0 ∧ win0_0.index t 1 = t.val)
def actCol (t : Fin cfg0.N) (a : Fin 1408) : Fin 2816 :=
  ⟨t.val * 1408 + a.val, by have h : t.val < 2 := t.isLt; omega⟩
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
def outRow (t : Fin cfg0.N) (a : Fin 1408) : Fin 2816 :=
  ⟨t.val * 1408 + a.val, by have h : t.val < 2 := t.isLt; omega⟩

/-! What a point reads. -/

theorem array0 : V m c main_v0 = act m c := by
  unfold V
  after_results
  rfl

theorem blk0 (t : Fin cfg0.N) (a : Fin 4096) (d : Fin 1408) :
    iblk m c 0 t (ix2 a d) = act m c (ix2 a (actCol t d)) := by
  unfold iblk
  rw [View.read_apply]
  show V m c main_v0 _ = _
  rw [array0]
  congr 1; funext x; apply Fin.ext
  match x with
  | ⟨0, _⟩ => show win0_0.index t 0 * 4096 + 1 * a.val = a.val
              rw [(index0 t).1]; omega
  | ⟨1, _⟩ => show win0_0.index t 1 * 1408 + 1 * d.val = t.val * 1408 + d.val
              rw [(index0 t).2]; omega

theorem array1 : V m c main_v1 = dy m c := by
  unfold V
  after_results
  rfl

theorem blk1 (t : Fin cfg0.N) (a : Fin 4096) (d : Fin 1024) :
    iblk m c 1 t (ix2 a d) = dy m c (ix2 a d) := by
  unfold iblk
  rw [View.read_apply]
  show V m c main_v1 _ = _
  rw [array1]
  congr 1; funext x; apply Fin.ext
  match x with
  | ⟨0, _⟩ => show win0_1.index t 0 * 4096 + 1 * a.val = a.val
              rw [(index1 t).1]; omega
  | ⟨1, _⟩ => show win0_1.index t 1 * 1024 + 1 * d.val = d.val
              rw [(index1 t).2]; omega

theorem hz : (![0, 0] : Fin 2 → Nat) = fun _ => 0 := funext fun a => by fin_cases a <;> rfl

/-- What a point writes back, -/
theorem after (t : Fin cfg0.N) : (dats m 0 c).flushed 2 t
    = (cfg0.win 2).cut (grid0.coords t) (k0_pay1 (iblk m c 0 t) (iblk m c 1 t)) := by
  rw [Value.flushed2]
  unfold out0_2
  rw [View.canon_unit_zero hz]
  simp only [View.ld_unit_zero (S := S4096x1024) hz, View.ld_unit_zero (S := S4096x1408) hz]

/-- entry by entry: the entries of its block of the result. -/
theorem pay_apply (t : Fin cfg0.N) (a : Fin 1408) (d : Fin 1024) :
    k0_pay1 (iblk m c 0 t) (iblk m c 1 t) (ix2 a d)
      = entry (act m c) (dy m c) (outRow t a) d := by
  unfold k0_pay1
  pointwise
  simp only [blk0, blk1, Reals.ofBits_half]
  rfl

theorem cut (f : S1408x1024.Idx → EReal) (G : S2816x1024.Idx → EReal) (t : Fin cfg0.N)
    (h : ∀ (a : Fin 1408) (d : Fin 1024), f (ix2 a d) = G (ix2 (outRow t a) d)) :
    (cfg0.win 2).cut (grid0.coords t) f = ((cfg0.win 2).blk t).view.read (Elt Ideal) G := by
  funext j
  rw [View.read_apply]
  have h0 : (j 0 : ℕ) < 1408 := (j 0).isLt
  have h1 : (j 1 : ℕ) < 1024 := (j 1).isLt
  refine (congrArg f ?_).trans ((h ⟨(j 0 : ℕ), h0⟩ ⟨(j 1 : ℕ), h1⟩).trans (congrArg G ?_))
  · funext x
    match x with
    | ⟨0, _⟩ => rfl
    | ⟨1, _⟩ => rfl
  · funext x; apply Fin.ext
    match x with
    | ⟨0, _⟩ => show t.val * 1408 + (j 0 : ℕ) = win0_2.index t 0 * 1408 + 1 * (j 0 : ℕ)
                rw [(index2 t).1]; omega
    | ⟨1, _⟩ => show (j 1 : ℕ) = win0_2.index t 1 * 1024 + 1 * (j 1 : ℕ)
                rw [(index2 t).2]; omega

theorem flushed (t : Fin cfg0.N) : (dats m 0 c).flushed 2 t
    = ((cfg0.win 2).blk t).view.read (Elt Ideal) (result (act m c) (dy m c)) := by
  rw [after]
  exact cut _ _ t fun a d => pay_apply m c t a d

/-- The blocks cover the result. -/
theorem cover (i : S2816x1024.Idx) : ∃ t : Fin cfg0.N, (cfg0.win 2).flush t = true ∧ i ∈ ((cfg0.win 2).blk t).view.set := by
  have h0 : (i 0 : ℕ) < 2816 := (i 0).isLt
  have h1 : (i 1 : ℕ) < 1024 := (i 1).isLt
  have hN : cfg0.N = 2 := N_0
  obtain ⟨t, ht⟩ : ∃ t : Fin cfg0.N, t.val = (i 0 : ℕ) / 1408 := ⟨⟨_, by omega⟩, rfl⟩
  have e := index2 t
  refine ⟨t, flush0_2 _, ?_⟩
  show i ∈ ((View.whole main_v2).slice (win0_2.rect t)).set
  rw [View.set_slice_whole, Rect.mem_set_unit]
  intro a
  match a with
  | ⟨0, _⟩ => show win0_2.index t 0 * 1408 ≤ (i 0 : ℕ) ∧ (i 0 : ℕ) < win0_2.index t 0 * 1408 + 1408
              rw [e.1, ht]; omega
  | ⟨1, _⟩ => show win0_2.index t 1 * 1024 ≤ (i 1 : ℕ) ∧ (i 1 : ℕ) < win0_2.index t 1 * 1024 + 1024
              rw [e.2]; omega

theorem final : (dats m 0 c).arrAt 2 cfg0.N = (result (act m c) (dy m c)) :=
  (dats m 0 c).arrAt_eq_of_cover 2 _ (fun t _ => flushed m c t) cover

/-- The run, read: the result at its formula, the arguments unchanged. -/
theorem run : θ_run defs (onTc (τ := τ) (main (F := Ideal))) ⟨m, fun _ => 0, ρ⟩ fun r => ∀ c : Dev nD,
      r.2.mem ((c : Thread nD τ).loc main_v2) = (result (act m c) (dy m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Kernel

/-! ## The claims -/

theorem frame_ref : Cert.quiescent_FfnOutWgradRefIdeal := fun m ρ _ =>
  (θ_run _ _ _).mono (fun r h => ⟨fun c => (h c).2, sem_eq_zero_of_no_sems (by decide) r.2⟩)
    (Cert.FfnOutWgradRefIdeal.Value.run (F := Ideal) m ρ)

theorem algebraic : Cert.algebraic_FfnOutWgradIdeal_FfnOutWgradRefIdeal := by
  intro m ρ m' ρ' _ args
  refine ⟨fun c => (result (act m c) (dy m c)), run m ρ, ?_⟩
  refine (θ_run _ _ _).mono (fun r h c => ?_) (Cert.FfnOutWgradRefIdeal.Value.run (F := Ideal) m' ρ')
  obtain ⟨a0, a1⟩ := args c
  obtain ⟨h0, hk⟩ := h c
  refine ⟨h0.trans ?_, hk⟩
  rw [Cert.FfnOutWgradRefIdeal.Read.val_main_v8_eq, a0, a1]
  exact ref_eq _ _

end Cert.Products.FfnOutWgrad

end
-- ==== Proof.Products.GmlpOut.lean ====
/-
  The product out of the gating mixer with its residual: `x + cat w`, a block of rows at a point.
-/
module

public import Idealize.ShloMosaic.Lib.Pointwise
public import Idealize.ShloMosaic.Lib.Quiescent
public import proofs.«01_k».proof.Proof.Reals
public import proofs.«01_k».proof.Defs
public import proofs.«01_k».proof.Proof.Gen.GmlpOutIdeal.Value
public import proofs.«01_k».proof.Proof.Gen.GmlpOutRefIdeal.Run
public import proofs.«01_k».proof.Proof.Gen.GmlpOutRefIdeal.Read

@[expose] public section

set_option maxRecDepth 16384

noncomputable section

open Idealize.ShloMosaic Idealize.ShloMosaic.TcCoe Idealize.SL.Sem

namespace Cert.Products.GmlpOut

/-! ## The mathematics -/

section Model
variable (x : (⟨2, ![4096, 1024]⟩ : Shape).Idx → EReal) (cat : (⟨2, ![4096, 3072]⟩ : Shape).Idx → EReal) (w : (⟨2, ![3072, 1024]⟩ : Shape).Idx → EReal)
/-- The result, entry by entry. -/
def entry (i : Fin 4096) (j : Fin 1024) : EReal := x (ix2 i j) + ∑ k : Fin 3072, cat (ix2 i k) * w (ix2 k j)

/-- The result as an array. -/
def result : (⟨2, ![4096, 1024]⟩ : Shape).Idx → EReal := fun i => entry x cat w (i 0) (i 1)

theorem result_apply (i : Fin 4096) (j : Fin 1024) : result x cat w (ix2 i j) = entry x cat w i j := rfl

/-! ## The reference -/

open Cert.GmlpOutRefIdeal.Read in
theorem ref_apply (i : Fin 4096) (j : Fin 1024) : val_main_v1 (F := Ideal) x cat w (ix2 i j) = entry x cat w i j := by
  unfold val_main_v1 val_main_v0
  pointwise
  rfl

open Cert.GmlpOutRefIdeal.Read in
theorem ref_eq : val_main_v1 (F := Ideal) x cat w = result x cat w := by
  funext i
  obtain ⟨a, b, rfl⟩ : ∃ a b, i = ix2 a b := ⟨i 0, i 1, by funext x; match x with | ⟨0, _⟩ => rfl | ⟨1, _⟩ => rfl⟩
  exact (ref_apply x cat w a b).trans (result_apply x cat w a b).symm

end Model

/-! ## The kernel -/

open Cert.GmlpOutIdeal Cert.GmlpOutIdeal.Gen

section Kernel

variable (m : (ℓ : Loc nD τ sig) → Buf (Elt Ideal) ℓ) (ρ : Dev nD → PrngReg) (c : Dev nD)
abbrev x : S4096x1024.Idx → EReal := m ((c : Thread nD τ).loc main_arg0)
abbrev cat : S4096x3072.Idx → EReal := m ((c : Thread nD τ).loc main_arg1)
abbrev w : S3072x1024.Idx → EReal := m ((c : Thread nD τ).loc main_arg2)

/-! Where the block of a point lies in an array. -/

theorem index0 : ∀ t : Fin cfg0.N, win0_0.index t 0 = t.val ∧ win0_0.index t 1 = 0 :=
  (by decide +kernel : ∀ t : Fin grid0.N, win0_0.index t 0 = t.val ∧ win0_0.index t 1 = 0)
def catRow (t : Fin cfg0.N) (a : Fin 512) : Fin 4096 :=
  ⟨t.val * 512 + a.val, by have h : t.val < 8 := t.isLt; omega⟩
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
def xRow (t : Fin cfg0.N) (a : Fin 512) : Fin 4096 :=
  ⟨t.val * 512 + a.val, by have h : t.val < 8 := t.isLt; omega⟩
theorem index3 : ∀ t : Fin cfg0.N, win0_3.index t 0 = t.val ∧ win0_3.index t 1 = 0 :=
  (by decide +kernel : ∀ t : Fin grid0.N, win0_3.index t 0 = t.val ∧ win0_3.index t 1 = 0)
def outRow (t : Fin cfg0.N) (a : Fin 512) : Fin 4096 :=
  ⟨t.val * 512 + a.val, by have h : t.val < 8 := t.isLt; omega⟩

/-! What a point reads. -/

theorem array0 : V m c main_v0 = cat m c := by
  unfold V
  after_results
  rfl

theorem blk0 (t : Fin cfg0.N) (a : Fin 512) (d : Fin 3072) :
    iblk m c 0 t (ix2 a d) = cat m c (ix2 (catRow t a) d) := by
  unfold iblk
  rw [View.read_apply]
  show V m c main_v0 _ = _
  rw [array0]
  congr 1; funext x; apply Fin.ext
  match x with
  | ⟨0, _⟩ => show win0_0.index t 0 * 512 + 1 * a.val = t.val * 512 + a.val
              rw [(index0 t).1]; omega
  | ⟨1, _⟩ => show win0_0.index t 1 * 3072 + 1 * d.val = d.val
              rw [(index0 t).2]; omega

theorem array1 : V m c main_v1 = w m c := by
  unfold V
  after_results
  rfl

theorem blk1 (t : Fin cfg0.N) (a : Fin 3072) (d : Fin 1024) :
    iblk m c 1 t (ix2 a d) = w m c (ix2 a d) := by
  unfold iblk
  rw [View.read_apply]
  show V m c main_v1 _ = _
  rw [array1]
  congr 1; funext x; apply Fin.ext
  match x with
  | ⟨0, _⟩ => show win0_1.index t 0 * 3072 + 1 * a.val = a.val
              rw [(index1 t).1]; omega
  | ⟨1, _⟩ => show win0_1.index t 1 * 1024 + 1 * d.val = d.val
              rw [(index1 t).2]; omega

theorem array2 : V m c main_arg0 = x m c := V_main_arg0 m c

theorem blk2 (t : Fin cfg0.N) (a : Fin 512) (d : Fin 1024) :
    iblk m c 2 t (ix2 a d) = x m c (ix2 (xRow t a) d) := by
  unfold iblk
  rw [View.read_apply]
  show V m c main_arg0 _ = _
  rw [array2]
  congr 1; funext x; apply Fin.ext
  match x with
  | ⟨0, _⟩ => show win0_2.index t 0 * 512 + 1 * a.val = t.val * 512 + a.val
              rw [(index2 t).1]; omega
  | ⟨1, _⟩ => show win0_2.index t 1 * 1024 + 1 * d.val = d.val
              rw [(index2 t).2]; omega

theorem hz : (![0, 0] : Fin 2 → Nat) = fun _ => 0 := funext fun a => by fin_cases a <;> rfl

/-- What a point writes back, -/
theorem after (t : Fin cfg0.N) : (dats m 0 c).flushed 3 t
    = (cfg0.win 3).cut (grid0.coords t) (k0_pay1 (iblk m c 0 t) (iblk m c 1 t) (iblk m c 2 t)) := by
  rw [Value.flushed3]
  unfold out0_3
  rw [View.canon_unit_zero hz]
  simp only [View.ld_unit_zero (S := S3072x1024) hz, View.ld_unit_zero (S := S512x1024) hz, View.ld_unit_zero (S := S512x3072) hz]

/-- entry by entry: the entries of its block of the result. -/
theorem pay_apply (t : Fin cfg0.N) (a : Fin 512) (d : Fin 1024) :
    k0_pay1 (iblk m c 0 t) (iblk m c 1 t) (iblk m c 2 t) (ix2 a d)
      = entry (x m c) (cat m c) (w m c) (outRow t a) d := by
  unfold k0_pay1
  pointwise
  simp only [blk0, blk1, blk2]
  rfl

theorem cut (f : S512x1024.Idx → EReal) (G : S4096x1024.Idx → EReal) (t : Fin cfg0.N)
    (h : ∀ (a : Fin 512) (d : Fin 1024), f (ix2 a d) = G (ix2 (outRow t a) d)) :
    (cfg0.win 3).cut (grid0.coords t) f = ((cfg0.win 3).blk t).view.read (Elt Ideal) G := by
  funext j
  rw [View.read_apply]
  have h0 : (j 0 : ℕ) < 512 := (j 0).isLt
  have h1 : (j 1 : ℕ) < 1024 := (j 1).isLt
  refine (congrArg f ?_).trans ((h ⟨(j 0 : ℕ), h0⟩ ⟨(j 1 : ℕ), h1⟩).trans (congrArg G ?_))
  · funext x
    match x with
    | ⟨0, _⟩ => rfl
    | ⟨1, _⟩ => rfl
  · funext x; apply Fin.ext
    match x with
    | ⟨0, _⟩ => show t.val * 512 + (j 0 : ℕ) = win0_3.index t 0 * 512 + 1 * (j 0 : ℕ)
                rw [(index3 t).1]; omega
    | ⟨1, _⟩ => show (j 1 : ℕ) = win0_3.index t 1 * 1024 + 1 * (j 1 : ℕ)
                rw [(index3 t).2]; omega

theorem flushed (t : Fin cfg0.N) : (dats m 0 c).flushed 3 t
    = ((cfg0.win 3).blk t).view.read (Elt Ideal) (result (x m c) (cat m c) (w m c)) := by
  rw [after]
  exact cut _ _ t fun a d => pay_apply m c t a d

/-- The blocks cover the result. -/
theorem cover (i : S4096x1024.Idx) : ∃ t : Fin cfg0.N, (cfg0.win 3).flush t = true ∧ i ∈ ((cfg0.win 3).blk t).view.set := by
  have h0 : (i 0 : ℕ) < 4096 := (i 0).isLt
  have h1 : (i 1 : ℕ) < 1024 := (i 1).isLt
  have hN : cfg0.N = 8 := N_0
  obtain ⟨t, ht⟩ : ∃ t : Fin cfg0.N, t.val = (i 0 : ℕ) / 512 := ⟨⟨_, by omega⟩, rfl⟩
  have e := index3 t
  refine ⟨t, flush0_3 _, ?_⟩
  show i ∈ ((View.whole main_v2).slice (win0_3.rect t)).set
  rw [View.set_slice_whole, Rect.mem_set_unit]
  intro a
  match a with
  | ⟨0, _⟩ => show win0_3.index t 0 * 512 ≤ (i 0 : ℕ) ∧ (i 0 : ℕ) < win0_3.index t 0 * 512 + 512
              rw [e.1, ht]; omega
  | ⟨1, _⟩ => show win0_3.index t 1 * 1024 ≤ (i 1 : ℕ) ∧ (i 1 : ℕ) < win0_3.index t 1 * 1024 + 1024
              rw [e.2]; omega

theorem final : (dats m 0 c).arrAt 3 cfg0.N = (result (x m c) (cat m c) (w m c)) :=
  (dats m 0 c).arrAt_eq_of_cover 3 _ (fun t _ => flushed m c t) cover

/-- The run, read: the result at its formula, the arguments unchanged. -/
theorem run : θ_run defs (onTc (τ := τ) (main (F := Ideal))) ⟨m, fun _ => 0, ρ⟩ fun r => ∀ c : Dev nD,
      r.2.mem ((c : Thread nD τ).loc main_v2) = (result (x m c) (cat m c) (w m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Kernel

/-! ## The claims -/

theorem frame_ref : Cert.quiescent_GmlpOutRefIdeal := fun m ρ _ =>
  (θ_run _ _ _).mono (fun r h => ⟨fun c => (h c).2, sem_eq_zero_of_no_sems (by decide) r.2⟩)
    (Cert.GmlpOutRefIdeal.Value.run (F := Ideal) m ρ)

theorem algebraic : Cert.algebraic_GmlpOutIdeal_GmlpOutRefIdeal := by
  intro m ρ m' ρ' _ args
  refine ⟨fun c => (result (x m c) (cat m c) (w m c)), run m ρ, ?_⟩
  refine (θ_run _ _ _).mono (fun r h c => ?_) (Cert.GmlpOutRefIdeal.Value.run (F := Ideal) m' ρ')
  obtain ⟨a0, a1, a2⟩ := args c
  obtain ⟨h0, hk⟩ := h c
  refine ⟨h0.trans ?_, hk⟩
  rw [Cert.GmlpOutRefIdeal.Read.val_main_v1_eq, a0, a1, a2]
  exact ref_eq _ _ _

end Cert.Products.GmlpOut

end
-- ==== Proof.Products.GmlpOutDgrad.lean ====
/-
  The gradient of what the gating mixer gives to its product: `dx wᵀ`, a tile at a point.
-/
module

public import Idealize.ShloMosaic.Lib.Pointwise
public import Idealize.ShloMosaic.Lib.Quiescent
public import proofs.«01_k».proof.Proof.Reals
public import proofs.«01_k».proof.Defs
public import proofs.«01_k».proof.Proof.Gen.GmlpOutDgradIdeal.Value
public import proofs.«01_k».proof.Proof.Gen.GmlpOutDgradRefIdeal.Run
public import proofs.«01_k».proof.Proof.Gen.GmlpOutDgradRefIdeal.Read

@[expose] public section

set_option maxRecDepth 16384

noncomputable section

open Idealize.ShloMosaic Idealize.ShloMosaic.TcCoe Idealize.SL.Sem

namespace Cert.Products.GmlpOutDgrad

/-! ## The mathematics -/

section Model
variable (w : (⟨2, ![3072, 1024]⟩ : Shape).Idx → EReal) (dx : (⟨2, ![4096, 1024]⟩ : Shape).Idx → EReal)
/-- The result, entry by entry. -/
def entry (i : Fin 4096) (j : Fin 3072) : EReal := ∑ k : Fin 1024, dx (ix2 i k) * w (ix2 j k)

/-- The result as an array. -/
def result : (⟨2, ![4096, 3072]⟩ : Shape).Idx → EReal := fun i => entry w dx (i 0) (i 1)

theorem result_apply (i : Fin 4096) (j : Fin 3072) : result w dx (ix2 i j) = entry w dx i j := rfl

/-! ## The reference -/

open Cert.GmlpOutDgradRefIdeal.Read in
theorem ref_apply (i : Fin 4096) (j : Fin 3072) : val_main_v2 (F := Ideal) w dx (ix2 i j) = entry w dx i j := by
  unfold val_main_v2
  pointwise
  rfl

open Cert.GmlpOutDgradRefIdeal.Read in
theorem ref_eq : val_main_v2 (F := Ideal) w dx = result w dx := by
  funext i
  obtain ⟨a, b, rfl⟩ : ∃ a b, i = ix2 a b := ⟨i 0, i 1, by funext x; match x with | ⟨0, _⟩ => rfl | ⟨1, _⟩ => rfl⟩
  exact (ref_apply w dx a b).trans (result_apply w dx a b).symm

end Model

/-! ## The kernel -/

open Cert.GmlpOutDgradIdeal Cert.GmlpOutDgradIdeal.Gen

section Kernel

variable (m : (ℓ : Loc nD τ sig) → Buf (Elt Ideal) ℓ) (ρ : Dev nD → PrngReg) (c : Dev nD)
abbrev w : S3072x1024.Idx → EReal := m ((c : Thread nD τ).loc main_arg0)
abbrev dx : S4096x1024.Idx → EReal := m ((c : Thread nD τ).loc main_arg1)

/-! Where the block of a point lies in an array. -/

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
def dxRow (t : Fin cfg0.N) (a : Fin 1024) : Fin 4096 :=
  ⟨t.val / 2 * 1024 + a.val, by have h : t.val < 8 := t.isLt; omega⟩
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
def wRow (t : Fin cfg0.N) (a : Fin 1536) : Fin 3072 :=
  ⟨t.val % 2 * 1536 + a.val, by have h : t.val < 8 := t.isLt; omega⟩
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)
def outRow (t : Fin cfg0.N) (a : Fin 1024) : Fin 4096 :=
  ⟨t.val / 2 * 1024 + a.val, by have h : t.val < 8 := t.isLt; omega⟩
def outCol (t : Fin cfg0.N) (a : Fin 1536) : Fin 3072 :=
  ⟨t.val % 2 * 1536 + a.val, by have h : t.val < 8 := t.isLt; omega⟩

/-! What a point reads. -/

theorem array0 : V m c main_v0 = dx m c := by
  unfold V
  after_results
  rfl

theorem blk0 (t : Fin cfg0.N) (a : Fin 1024) (d : Fin 1024) :
    iblk m c 0 t (ix2 a d) = dx m c (ix2 (dxRow t a) d) := by
  unfold iblk
  rw [View.read_apply]
  show V m c main_v0 _ = _
  rw [array0]
  congr 1; funext x; apply Fin.ext
  match x with
  | ⟨0, _⟩ => show win0_0.index t 0 * 1024 + 1 * a.val = t.val / 2 * 1024 + a.val
              rw [(index0 t).1]; omega
  | ⟨1, _⟩ => show win0_0.index t 1 * 1024 + 1 * d.val = d.val
              rw [(index0 t).2]; omega

theorem array1 : V m c main_v1 = w m c := by
  unfold V
  after_results
  rfl

theorem blk1 (t : Fin cfg0.N) (a : Fin 1536) (d : Fin 1024) :
    iblk m c 1 t (ix2 a d) = w m c (ix2 (wRow t a) d) := by
  unfold iblk
  rw [View.read_apply]
  show V m c main_v1 _ = _
  rw [array1]
  congr 1; funext x; apply Fin.ext
  match x with
  | ⟨0, _⟩ => show win0_1.index t 0 * 1536 + 1 * a.val = t.val % 2 * 1536 + a.val
              rw [(index1 t).1]; omega
  | ⟨1, _⟩ => show win0_1.index t 1 * 1024 + 1 * d.val = d.val
              rw [(index1 t).2]; omega

theorem hz : (![0, 0] : Fin 2 → Nat) = fun _ => 0 := funext fun a => by fin_cases a <;> rfl

/-- What a point writes back, -/
theorem after (t : Fin cfg0.N) : (dats m 0 c).flushed 2 t
    = (cfg0.win 2).cut (grid0.coords t) (k0_pay1 (iblk m c 0 t) (iblk m c 1 t)) := by
  rw [Value.flushed2]
  unfold out0_2
  rw [View.canon_unit_zero hz]
  simp only [View.ld_unit_zero (S := S1024x1024) hz, View.ld_unit_zero (S := S1536x1024) hz]

/-- entry by entry: the entries of its block of the result. -/
theorem pay_apply (t : Fin cfg0.N) (a : Fin 1024) (d : Fin 1536) :
    k0_pay1 (iblk m c 0 t) (iblk m c 1 t) (ix2 a d)
      = entry (w m c) (dx m c) (outRow t a) (outCol t d) := by
  unfold k0_pay1
  pointwise
  simp only [blk0, blk1]
  rfl

theorem cut (f : S1024x1536.Idx → EReal) (G : S4096x3072.Idx → EReal) (t : Fin cfg0.N)
    (h : ∀ (a : Fin 1024) (d : Fin 1536), f (ix2 a d) = G (ix2 (outRow t a) (outCol t d))) :
    (cfg0.win 2).cut (grid0.coords t) f = ((cfg0.win 2).blk t).view.read (Elt Ideal) G := by
  funext j
  rw [View.read_apply]
  have h0 : (j 0 : ℕ) < 1024 := (j 0).isLt
  have h1 : (j 1 : ℕ) < 1536 := (j 1).isLt
  refine (congrArg f ?_).trans ((h ⟨(j 0 : ℕ), h0⟩ ⟨(j 1 : ℕ), h1⟩).trans (congrArg G ?_))
  · funext x
    match x with
    | ⟨0, _⟩ => rfl
    | ⟨1, _⟩ => rfl
  · funext x; apply Fin.ext
    match x with
    | ⟨0, _⟩ => show t.val / 2 * 1024 + (j 0 : ℕ) = win0_2.index t 0 * 1024 + 1 * (j 0 : ℕ)
                rw [(index2 t).1]; omega
    | ⟨1, _⟩ => show t.val % 2 * 1536 + (j 1 : ℕ) = win0_2.index t 1 * 1536 + 1 * (j 1 : ℕ)
                rw [(index2 t).2]; omega

theorem flushed (t : Fin cfg0.N) : (dats m 0 c).flushed 2 t
    = ((cfg0.win 2).blk t).view.read (Elt Ideal) (result (w m c) (dx m c)) := by
  rw [after]
  exact cut _ _ t fun a d => pay_apply m c t a d

/-- The blocks cover the result. -/
theorem cover (i : S4096x3072.Idx) : ∃ t : Fin cfg0.N, (cfg0.win 2).flush t = true ∧ i ∈ ((cfg0.win 2).blk t).view.set := by
  have h0 : (i 0 : ℕ) < 4096 := (i 0).isLt
  have h1 : (i 1 : ℕ) < 3072 := (i 1).isLt
  have hN : cfg0.N = 8 := N_0
  obtain ⟨t, ht⟩ : ∃ t : Fin cfg0.N, t.val = (i 0 : ℕ) / 1024 * 2 + (i 1 : ℕ) / 1536 := ⟨⟨_, by omega⟩, rfl⟩
  have e := index2 t
  refine ⟨t, flush0_2 _, ?_⟩
  show i ∈ ((View.whole main_v2).slice (win0_2.rect t)).set
  rw [View.set_slice_whole, Rect.mem_set_unit]
  intro a
  match a with
  | ⟨0, _⟩ => show win0_2.index t 0 * 1024 ≤ (i 0 : ℕ) ∧ (i 0 : ℕ) < win0_2.index t 0 * 1024 + 1024
              rw [e.1, ht]; omega
  | ⟨1, _⟩ => show win0_2.index t 1 * 1536 ≤ (i 1 : ℕ) ∧ (i 1 : ℕ) < win0_2.index t 1 * 1536 + 1536
              rw [e.2, ht]; omega

theorem final : (dats m 0 c).arrAt 2 cfg0.N = (result (w m c) (dx m c)) :=
  (dats m 0 c).arrAt_eq_of_cover 2 _ (fun t _ => flushed m c t) cover

/-- The run, read: the result at its formula, the arguments unchanged. -/
theorem run : θ_run defs (onTc (τ := τ) (main (F := Ideal))) ⟨m, fun _ => 0, ρ⟩ fun r => ∀ c : Dev nD,
      r.2.mem ((c : Thread nD τ).loc main_v2) = (result (w m c) (dx m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Kernel

/-! ## The claims -/

theorem frame_ref : Cert.quiescent_GmlpOutDgradRefIdeal := fun m ρ _ =>
  (θ_run _ _ _).mono (fun r h => ⟨fun c => (h c).2, sem_eq_zero_of_no_sems (by decide) r.2⟩)
    (Cert.GmlpOutDgradRefIdeal.Value.run (F := Ideal) m ρ)

theorem algebraic : Cert.algebraic_GmlpOutDgradIdeal_GmlpOutDgradRefIdeal := by
  intro m ρ m' ρ' _ args
  refine ⟨fun c => (result (w m c) (dx m c)), run m ρ, ?_⟩
  refine (θ_run _ _ _).mono (fun r h c => ?_) (Cert.GmlpOutDgradRefIdeal.Value.run (F := Ideal) m' ρ')
  obtain ⟨a0, a1⟩ := args c
  obtain ⟨h0, hk⟩ := h c
  refine ⟨h0.trans ?_, hk⟩
  rw [Cert.GmlpOutDgradRefIdeal.Read.val_main_v2_eq, a0, a1]
  exact ref_eq _ _

end Cert.Products.GmlpOutDgrad

end
-- ==== Proof.Products.GmlpOutWgrad.lean ====
/-
  The gradient of the weight of the product out of the gating mixer: `catᵀ dx`, a tile of rows at a point.
-/
module

public import Idealize.ShloMosaic.Lib.Pointwise
public import Idealize.ShloMosaic.Lib.Quiescent
public import proofs.«01_k».proof.Proof.Reals
public import proofs.«01_k».proof.Defs
public import proofs.«01_k».proof.Proof.Gen.GmlpOutWgradIdeal.Value
public import proofs.«01_k».proof.Proof.Gen.GmlpOutWgradRefIdeal.Run
public import proofs.«01_k».proof.Proof.Gen.GmlpOutWgradRefIdeal.Read

@[expose] public section

set_option maxRecDepth 16384

noncomputable section

open Idealize.ShloMosaic Idealize.ShloMosaic.TcCoe Idealize.SL.Sem

namespace Cert.Products.GmlpOutWgrad

/-! ## The mathematics -/

section Model
variable (cat : (⟨2, ![4096, 3072]⟩ : Shape).Idx → EReal) (dx : (⟨2, ![4096, 1024]⟩ : Shape).Idx → EReal)
/-- The result, entry by entry. -/
def entry (i : Fin 3072) (j : Fin 1024) : EReal := ∑ k : Fin 4096, cat (ix2 k i) * dx (ix2 k j)

/-- The result as an array. -/
def result : (⟨2, ![3072, 1024]⟩ : Shape).Idx → EReal := fun i => entry cat dx (i 0) (i 1)

theorem result_apply (i : Fin 3072) (j : Fin 1024) : result cat dx (ix2 i j) = entry cat dx i j := rfl

/-! ## The reference -/

open Cert.GmlpOutWgradRefIdeal.Read in
theorem ref_apply (i : Fin 3072) (j : Fin 1024) : val_main_v4 (F := Ideal) cat dx (ix2 i j) = entry cat dx i j := by
  unfold val_main_v4 val_main_v3 val_main_v2
  pointwise
  exact Finset.sum_congr rfl fun k _ => mul_comm _ _

open Cert.GmlpOutWgradRefIdeal.Read in
theorem ref_eq : val_main_v4 (F := Ideal) cat dx = result cat dx := by
  funext i
  obtain ⟨a, b, rfl⟩ : ∃ a b, i = ix2 a b := ⟨i 0, i 1, by funext x; match x with | ⟨0, _⟩ => rfl | ⟨1, _⟩ => rfl⟩
  exact (ref_apply cat dx a b).trans (result_apply cat dx a b).symm

end Model

/-! ## The kernel -/

open Cert.GmlpOutWgradIdeal Cert.GmlpOutWgradIdeal.Gen

section Kernel

variable (m : (ℓ : Loc nD τ sig) → Buf (Elt Ideal) ℓ) (ρ : Dev nD → PrngReg) (c : Dev nD)
abbrev cat : S4096x3072.Idx → EReal := m ((c : Thread nD τ).loc main_arg0)
abbrev dx : S4096x1024.Idx → EReal := m ((c : Thread nD τ).loc main_arg1)

/-! Where the block of a point lies in an array. -/

theorem index0 : ∀ t : Fin cfg0.N, win0_0.index t 0 = 0 ∧ win0_0.index t 1 = t.val :=
  (by decide +kernel : ∀ t : Fin grid0.N, win0_0.index t 0 = 0 ∧ win0_0.index t 1 = t.val)
def catCol (t : Fin cfg0.N) (a : Fin 1024) : Fin 3072 :=
  ⟨t.val * 1024 + a.val, by have h : t.val < 3 := t.isLt; omega⟩
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
def outRow (t : Fin cfg0.N) (a : Fin 1024) : Fin 3072 :=
  ⟨t.val * 1024 + a.val, by have h : t.val < 3 := t.isLt; omega⟩

/-! What a point reads. -/

theorem array0 : V m c main_v0 = cat m c := by
  unfold V
  after_results
  rfl

theorem blk0 (t : Fin cfg0.N) (a : Fin 4096) (d : Fin 1024) :
    iblk m c 0 t (ix2 a d) = cat m c (ix2 a (catCol t d)) := by
  unfold iblk
  rw [View.read_apply]
  show V m c main_v0 _ = _
  rw [array0]
  congr 1; funext x; apply Fin.ext
  match x with
  | ⟨0, _⟩ => show win0_0.index t 0 * 4096 + 1 * a.val = a.val
              rw [(index0 t).1]; omega
  | ⟨1, _⟩ => show win0_0.index t 1 * 1024 + 1 * d.val = t.val * 1024 + d.val
              rw [(index0 t).2]; omega

theorem array1 : V m c main_v1 = dx m c := by
  unfold V
  after_results
  rfl

theorem blk1 (t : Fin cfg0.N) (a : Fin 4096) (d : Fin 1024) :
    iblk m c 1 t (ix2 a d) = dx m c (ix2 a d) := by
  unfold iblk
  rw [View.read_apply]
  show V m c main_v1 _ = _
  rw [array1]
  congr 1; funext x; apply Fin.ext
  match x with
  | ⟨0, _⟩ => show win0_1.index t 0 * 4096 + 1 * a.val = a.val
              rw [(index1 t).1]; omega
  | ⟨1, _⟩ => show win0_1.index t 1 * 1024 + 1 * d.val = d.val
              rw [(index1 t).2]; omega

theorem hz : (![0, 0] : Fin 2 → Nat) = fun _ => 0 := funext fun a => by fin_cases a <;> rfl

/-- What a point writes back, -/
theorem after (t : Fin cfg0.N) : (dats m 0 c).flushed 2 t
    = (cfg0.win 2).cut (grid0.coords t) (k0_pay1 (iblk m c 0 t) (iblk m c 1 t)) := by
  rw [Value.flushed2]
  unfold out0_2
  rw [View.canon_unit_zero hz]
  simp only [View.ld_unit_zero (S := S4096x1024) hz]

/-- entry by entry: the entries of its block of the result. -/
theorem pay_apply (t : Fin cfg0.N) (a : Fin 1024) (d : Fin 1024) :
    k0_pay1 (iblk m c 0 t) (iblk m c 1 t) (ix2 a d)
      = entry (cat m c) (dx m c) (outRow t a) d := by
  unfold k0_pay1
  pointwise
  simp only [blk0, blk1]
  rfl

theorem cut (f : S1024x1024.Idx → EReal) (G : S3072x1024.Idx → EReal) (t : Fin cfg0.N)
    (h : ∀ (a : Fin 1024) (d : Fin 1024), f (ix2 a d) = G (ix2 (outRow t a) d)) :
    (cfg0.win 2).cut (grid0.coords t) f = ((cfg0.win 2).blk t).view.read (Elt Ideal) G := by
  funext j
  rw [View.read_apply]
  have h0 : (j 0 : ℕ) < 1024 := (j 0).isLt
  have h1 : (j 1 : ℕ) < 1024 := (j 1).isLt
  refine (congrArg f ?_).trans ((h ⟨(j 0 : ℕ), h0⟩ ⟨(j 1 : ℕ), h1⟩).trans (congrArg G ?_))
  · funext x
    match x with
    | ⟨0, _⟩ => rfl
    | ⟨1, _⟩ => rfl
  · funext x; apply Fin.ext
    match x with
    | ⟨0, _⟩ => show t.val * 1024 + (j 0 : ℕ) = win0_2.index t 0 * 1024 + 1 * (j 0 : ℕ)
                rw [(index2 t).1]; omega
    | ⟨1, _⟩ => show (j 1 : ℕ) = win0_2.index t 1 * 1024 + 1 * (j 1 : ℕ)
                rw [(index2 t).2]; omega

theorem flushed (t : Fin cfg0.N) : (dats m 0 c).flushed 2 t
    = ((cfg0.win 2).blk t).view.read (Elt Ideal) (result (cat m c) (dx m c)) := by
  rw [after]
  exact cut _ _ t fun a d => pay_apply m c t a d

/-- The blocks cover the result. -/
theorem cover (i : S3072x1024.Idx) : ∃ t : Fin cfg0.N, (cfg0.win 2).flush t = true ∧ i ∈ ((cfg0.win 2).blk t).view.set := by
  have h0 : (i 0 : ℕ) < 3072 := (i 0).isLt
  have h1 : (i 1 : ℕ) < 1024 := (i 1).isLt
  have hN : cfg0.N = 3 := N_0
  obtain ⟨t, ht⟩ : ∃ t : Fin cfg0.N, t.val = (i 0 : ℕ) / 1024 := ⟨⟨_, by omega⟩, rfl⟩
  have e := index2 t
  refine ⟨t, flush0_2 _, ?_⟩
  show i ∈ ((View.whole main_v2).slice (win0_2.rect t)).set
  rw [View.set_slice_whole, Rect.mem_set_unit]
  intro a
  match a with
  | ⟨0, _⟩ => show win0_2.index t 0 * 1024 ≤ (i 0 : ℕ) ∧ (i 0 : ℕ) < win0_2.index t 0 * 1024 + 1024
              rw [e.1, ht]; omega
  | ⟨1, _⟩ => show win0_2.index t 1 * 1024 ≤ (i 1 : ℕ) ∧ (i 1 : ℕ) < win0_2.index t 1 * 1024 + 1024
              rw [e.2]; omega

theorem final : (dats m 0 c).arrAt 2 cfg0.N = (result (cat m c) (dx m c)) :=
  (dats m 0 c).arrAt_eq_of_cover 2 _ (fun t _ => flushed m c t) cover

/-- The run, read: the result at its formula, the arguments unchanged. -/
theorem run : θ_run defs (onTc (τ := τ) (main (F := Ideal))) ⟨m, fun _ => 0, ρ⟩ fun r => ∀ c : Dev nD,
      r.2.mem ((c : Thread nD τ).loc main_v2) = (result (cat m c) (dx m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Kernel

/-! ## The claims -/

theorem frame_ref : Cert.quiescent_GmlpOutWgradRefIdeal := fun m ρ _ =>
  (θ_run _ _ _).mono (fun r h => ⟨fun c => (h c).2, sem_eq_zero_of_no_sems (by decide) r.2⟩)
    (Cert.GmlpOutWgradRefIdeal.Value.run (F := Ideal) m ρ)

theorem algebraic : Cert.algebraic_GmlpOutWgradIdeal_GmlpOutWgradRefIdeal := by
  intro m ρ m' ρ' _ args
  refine ⟨fun c => (result (cat m c) (dx m c)), run m ρ, ?_⟩
  refine (θ_run _ _ _).mono (fun r h c => ?_) (Cert.GmlpOutWgradRefIdeal.Value.run (F := Ideal) m' ρ')
  obtain ⟨a0, a1⟩ := args c
  obtain ⟨h0, hk⟩ := h c
  refine ⟨h0.trans ?_, hk⟩
  rw [Cert.GmlpOutWgradRefIdeal.Read.val_main_v4_eq, a0, a1]
  exact ref_eq _ _

end Cert.Products.GmlpOutWgrad

end
-- ==== Proof.Products.HgrnOut.lean ====
/-
  The product out of the recurrent mixer with its residual: `x + cat w`, a block of rows at a point.
-/
module

public import Idealize.ShloMosaic.Lib.Pointwise
public import Idealize.ShloMosaic.Lib.Quiescent
public import proofs.«01_k».proof.Proof.Reals
public import proofs.«01_k».proof.Defs
public import proofs.«01_k».proof.Proof.Gen.HgrnOutIdeal.Value
public import proofs.«01_k».proof.Proof.Gen.HgrnOutRefIdeal.Run
public import proofs.«01_k».proof.Proof.Gen.HgrnOutRefIdeal.Read

@[expose] public section

set_option maxRecDepth 16384

noncomputable section

open Idealize.ShloMosaic Idealize.ShloMosaic.TcCoe Idealize.SL.Sem

namespace Cert.Products.HgrnOut

/-! ## The mathematics -/

section Model
variable (x : (⟨2, ![4096, 1024]⟩ : Shape).Idx → EReal) (cat : (⟨2, ![4096, 2048]⟩ : Shape).Idx → EReal) (w : (⟨2, ![2048, 1024]⟩ : Shape).Idx → EReal)
/-- The result, entry by entry. -/
def entry (i : Fin 4096) (j : Fin 1024) : EReal := x (ix2 i j) + ∑ k : Fin 2048, cat (ix2 i k) * w (ix2 k j)

/-- The result as an array. -/
def result : (⟨2, ![4096, 1024]⟩ : Shape).Idx → EReal := fun i => entry x cat w (i 0) (i 1)

theorem result_apply (i : Fin 4096) (j : Fin 1024) : result x cat w (ix2 i j) = entry x cat w i j := rfl

/-! ## The reference -/

open Cert.HgrnOutRefIdeal.Read in
theorem ref_apply (i : Fin 4096) (j : Fin 1024) : val_main_v1 (F := Ideal) x cat w (ix2 i j) = entry x cat w i j := by
  unfold val_main_v1 val_main_v0
  pointwise
  rfl

open Cert.HgrnOutRefIdeal.Read in
theorem ref_eq : val_main_v1 (F := Ideal) x cat w = result x cat w := by
  funext i
  obtain ⟨a, b, rfl⟩ : ∃ a b, i = ix2 a b := ⟨i 0, i 1, by funext x; match x with | ⟨0, _⟩ => rfl | ⟨1, _⟩ => rfl⟩
  exact (ref_apply x cat w a b).trans (result_apply x cat w a b).symm

end Model

/-! ## The kernel -/

open Cert.HgrnOutIdeal Cert.HgrnOutIdeal.Gen

section Kernel

variable (m : (ℓ : Loc nD τ sig) → Buf (Elt Ideal) ℓ) (ρ : Dev nD → PrngReg) (c : Dev nD)
abbrev x : S4096x1024.Idx → EReal := m ((c : Thread nD τ).loc main_arg0)
abbrev cat : S4096x2048.Idx → EReal := m ((c : Thread nD τ).loc main_arg1)
abbrev w : S2048x1024.Idx → EReal := m ((c : Thread nD τ).loc main_arg2)

/-! Where the block of a point lies in an array. -/

theorem index0 : ∀ t : Fin cfg0.N, win0_0.index t 0 = t.val ∧ win0_0.index t 1 = 0 :=
  (by decide +kernel : ∀ t : Fin grid0.N, win0_0.index t 0 = t.val ∧ win0_0.index t 1 = 0)
def catRow (t : Fin cfg0.N) (a : Fin 512) : Fin 4096 :=
  ⟨t.val * 512 + a.val, by have h : t.val < 8 := t.isLt; omega⟩
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
def xRow (t : Fin cfg0.N) (a : Fin 512) : Fin 4096 :=
  ⟨t.val * 512 + a.val, by have h : t.val < 8 := t.isLt; omega⟩
theorem index3 : ∀ t : Fin cfg0.N, win0_3.index t 0 = t.val ∧ win0_3.index t 1 = 0 :=
  (by decide +kernel : ∀ t : Fin grid0.N, win0_3.index t 0 = t.val ∧ win0_3.index t 1 = 0)
def outRow (t : Fin cfg0.N) (a : Fin 512) : Fin 4096 :=
  ⟨t.val * 512 + a.val, by have h : t.val < 8 := t.isLt; omega⟩

/-! What a point reads. -/

theorem array0 : V m c main_v0 = cat m c := by
  unfold V
  after_results
  rfl

theorem blk0 (t : Fin cfg0.N) (a : Fin 512) (d : Fin 2048) :
    iblk m c 0 t (ix2 a d) = cat m c (ix2 (catRow t a) d) := by
  unfold iblk
  rw [View.read_apply]
  show V m c main_v0 _ = _
  rw [array0]
  congr 1; funext x; apply Fin.ext
  match x with
  | ⟨0, _⟩ => show win0_0.index t 0 * 512 + 1 * a.val = t.val * 512 + a.val
              rw [(index0 t).1]; omega
  | ⟨1, _⟩ => show win0_0.index t 1 * 2048 + 1 * d.val = d.val
              rw [(index0 t).2]; omega

theorem array1 : V m c main_v1 = w m c := by
  unfold V
  after_results
  rfl

theorem blk1 (t : Fin cfg0.N) (a : Fin 2048) (d : Fin 1024) :
    iblk m c 1 t (ix2 a d) = w m c (ix2 a d) := by
  unfold iblk
  rw [View.read_apply]
  show V m c main_v1 _ = _
  rw [array1]
  congr 1; funext x; apply Fin.ext
  match x with
  | ⟨0, _⟩ => show win0_1.index t 0 * 2048 + 1 * a.val = a.val
              rw [(index1 t).1]; omega
  | ⟨1, _⟩ => show win0_1.index t 1 * 1024 + 1 * d.val = d.val
              rw [(index1 t).2]; omega

theorem array2 : V m c main_arg0 = x m c := V_main_arg0 m c

theorem blk2 (t : Fin cfg0.N) (a : Fin 512) (d : Fin 1024) :
    iblk m c 2 t (ix2 a d) = x m c (ix2 (xRow t a) d) := by
  unfold iblk
  rw [View.read_apply]
  show V m c main_arg0 _ = _
  rw [array2]
  congr 1; funext x; apply Fin.ext
  match x with
  | ⟨0, _⟩ => show win0_2.index t 0 * 512 + 1 * a.val = t.val * 512 + a.val
              rw [(index2 t).1]; omega
  | ⟨1, _⟩ => show win0_2.index t 1 * 1024 + 1 * d.val = d.val
              rw [(index2 t).2]; omega

theorem hz : (![0, 0] : Fin 2 → Nat) = fun _ => 0 := funext fun a => by fin_cases a <;> rfl

/-- What a point writes back, -/
theorem after (t : Fin cfg0.N) : (dats m 0 c).flushed 3 t
    = (cfg0.win 3).cut (grid0.coords t) (k0_pay1 (iblk m c 0 t) (iblk m c 1 t) (iblk m c 2 t)) := by
  rw [Value.flushed3]
  unfold out0_3
  rw [View.canon_unit_zero hz]
  simp only [View.ld_unit_zero (S := S2048x1024) hz, View.ld_unit_zero (S := S512x1024) hz, View.ld_unit_zero (S := S512x2048) hz]

/-- entry by entry: the entries of its block of the result. -/
theorem pay_apply (t : Fin cfg0.N) (a : Fin 512) (d : Fin 1024) :
    k0_pay1 (iblk m c 0 t) (iblk m c 1 t) (iblk m c 2 t) (ix2 a d)
      = entry (x m c) (cat m c) (w m c) (outRow t a) d := by
  unfold k0_pay1
  pointwise
  simp only [blk0, blk1, blk2]
  rfl

theorem cut (f : S512x1024.Idx → EReal) (G : S4096x1024.Idx → EReal) (t : Fin cfg0.N)
    (h : ∀ (a : Fin 512) (d : Fin 1024), f (ix2 a d) = G (ix2 (outRow t a) d)) :
    (cfg0.win 3).cut (grid0.coords t) f = ((cfg0.win 3).blk t).view.read (Elt Ideal) G := by
  funext j
  rw [View.read_apply]
  have h0 : (j 0 : ℕ) < 512 := (j 0).isLt
  have h1 : (j 1 : ℕ) < 1024 := (j 1).isLt
  refine (congrArg f ?_).trans ((h ⟨(j 0 : ℕ), h0⟩ ⟨(j 1 : ℕ), h1⟩).trans (congrArg G ?_))
  · funext x
    match x with
    | ⟨0, _⟩ => rfl
    | ⟨1, _⟩ => rfl
  · funext x; apply Fin.ext
    match x with
    | ⟨0, _⟩ => show t.val * 512 + (j 0 : ℕ) = win0_3.index t 0 * 512 + 1 * (j 0 : ℕ)
                rw [(index3 t).1]; omega
    | ⟨1, _⟩ => show (j 1 : ℕ) = win0_3.index t 1 * 1024 + 1 * (j 1 : ℕ)
                rw [(index3 t).2]; omega

theorem flushed (t : Fin cfg0.N) : (dats m 0 c).flushed 3 t
    = ((cfg0.win 3).blk t).view.read (Elt Ideal) (result (x m c) (cat m c) (w m c)) := by
  rw [after]
  exact cut _ _ t fun a d => pay_apply m c t a d

/-- The blocks cover the result. -/
theorem cover (i : S4096x1024.Idx) : ∃ t : Fin cfg0.N, (cfg0.win 3).flush t = true ∧ i ∈ ((cfg0.win 3).blk t).view.set := by
  have h0 : (i 0 : ℕ) < 4096 := (i 0).isLt
  have h1 : (i 1 : ℕ) < 1024 := (i 1).isLt
  have hN : cfg0.N = 8 := N_0
  obtain ⟨t, ht⟩ : ∃ t : Fin cfg0.N, t.val = (i 0 : ℕ) / 512 := ⟨⟨_, by omega⟩, rfl⟩
  have e := index3 t
  refine ⟨t, flush0_3 _, ?_⟩
  show i ∈ ((View.whole main_v2).slice (win0_3.rect t)).set
  rw [View.set_slice_whole, Rect.mem_set_unit]
  intro a
  match a with
  | ⟨0, _⟩ => show win0_3.index t 0 * 512 ≤ (i 0 : ℕ) ∧ (i 0 : ℕ) < win0_3.index t 0 * 512 + 512
              rw [e.1, ht]; omega
  | ⟨1, _⟩ => show win0_3.index t 1 * 1024 ≤ (i 1 : ℕ) ∧ (i 1 : ℕ) < win0_3.index t 1 * 1024 + 1024
              rw [e.2]; omega

theorem final : (dats m 0 c).arrAt 3 cfg0.N = (result (x m c) (cat m c) (w m c)) :=
  (dats m 0 c).arrAt_eq_of_cover 3 _ (fun t _ => flushed m c t) cover

/-- The run, read: the result at its formula, the arguments unchanged. -/
theorem run : θ_run defs (onTc (τ := τ) (main (F := Ideal))) ⟨m, fun _ => 0, ρ⟩ fun r => ∀ c : Dev nD,
      r.2.mem ((c : Thread nD τ).loc main_v2) = (result (x m c) (cat m c) (w m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Kernel

/-! ## The claims -/

theorem frame_ref : Cert.quiescent_HgrnOutRefIdeal := fun m ρ _ =>
  (θ_run _ _ _).mono (fun r h => ⟨fun c => (h c).2, sem_eq_zero_of_no_sems (by decide) r.2⟩)
    (Cert.HgrnOutRefIdeal.Value.run (F := Ideal) m ρ)

theorem algebraic : Cert.algebraic_HgrnOutIdeal_HgrnOutRefIdeal := by
  intro m ρ m' ρ' _ args
  refine ⟨fun c => (result (x m c) (cat m c) (w m c)), run m ρ, ?_⟩
  refine (θ_run _ _ _).mono (fun r h c => ?_) (Cert.HgrnOutRefIdeal.Value.run (F := Ideal) m' ρ')
  obtain ⟨a0, a1, a2⟩ := args c
  obtain ⟨h0, hk⟩ := h c
  refine ⟨h0.trans ?_, hk⟩
  rw [Cert.HgrnOutRefIdeal.Read.val_main_v1_eq, a0, a1, a2]
  exact ref_eq _ _ _

end Cert.Products.HgrnOut

end
-- ==== Proof.Products.HgrnOutDgrad.lean ====
/-
  The gradient of what the recurrent mixer gives to its product: `dx wᵀ`, a tile at a point.
-/
module

public import Idealize.ShloMosaic.Lib.Pointwise
public import Idealize.ShloMosaic.Lib.Quiescent
public import proofs.«01_k».proof.Proof.Reals
public import proofs.«01_k».proof.Defs
public import proofs.«01_k».proof.Proof.Gen.HgrnOutDgradIdeal.Value
public import proofs.«01_k».proof.Proof.Gen.HgrnOutDgradRefIdeal.Run
public import proofs.«01_k».proof.Proof.Gen.HgrnOutDgradRefIdeal.Read

@[expose] public section

set_option maxRecDepth 16384

noncomputable section

open Idealize.ShloMosaic Idealize.ShloMosaic.TcCoe Idealize.SL.Sem

namespace Cert.Products.HgrnOutDgrad

/-! ## The mathematics -/

section Model
variable (w : (⟨2, ![2048, 1024]⟩ : Shape).Idx → EReal) (dx : (⟨2, ![4096, 1024]⟩ : Shape).Idx → EReal)
/-- The result, entry by entry. -/
def entry (i : Fin 4096) (j : Fin 2048) : EReal := ∑ k : Fin 1024, dx (ix2 i k) * w (ix2 j k)

/-- The result as an array. -/
def result : (⟨2, ![4096, 2048]⟩ : Shape).Idx → EReal := fun i => entry w dx (i 0) (i 1)

theorem result_apply (i : Fin 4096) (j : Fin 2048) : result w dx (ix2 i j) = entry w dx i j := rfl

/-! ## The reference -/

open Cert.HgrnOutDgradRefIdeal.Read in
theorem ref_apply (i : Fin 4096) (j : Fin 2048) : val_main_v2 (F := Ideal) w dx (ix2 i j) = entry w dx i j := by
  unfold val_main_v2
  pointwise
  rfl

open Cert.HgrnOutDgradRefIdeal.Read in
theorem ref_eq : val_main_v2 (F := Ideal) w dx = result w dx := by
  funext i
  obtain ⟨a, b, rfl⟩ : ∃ a b, i = ix2 a b := ⟨i 0, i 1, by funext x; match x with | ⟨0, _⟩ => rfl | ⟨1, _⟩ => rfl⟩
  exact (ref_apply w dx a b).trans (result_apply w dx a b).symm

end Model

/-! ## The kernel -/

open Cert.HgrnOutDgradIdeal Cert.HgrnOutDgradIdeal.Gen

section Kernel

variable (m : (ℓ : Loc nD τ sig) → Buf (Elt Ideal) ℓ) (ρ : Dev nD → PrngReg) (c : Dev nD)
abbrev w : S2048x1024.Idx → EReal := m ((c : Thread nD τ).loc main_arg0)
abbrev dx : S4096x1024.Idx → EReal := m ((c : Thread nD τ).loc main_arg1)

/-! Where the block of a point lies in an array. -/

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
def dxRow (t : Fin cfg0.N) (a : Fin 1024) : Fin 4096 :=
  ⟨t.val / 2 * 1024 + a.val, by have h : t.val < 8 := t.isLt; omega⟩
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
def wRow (t : Fin cfg0.N) (a : Fin 1024) : Fin 2048 :=
  ⟨t.val % 2 * 1024 + a.val, by have h : t.val < 8 := t.isLt; omega⟩
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)
def outRow (t : Fin cfg0.N) (a : Fin 1024) : Fin 4096 :=
  ⟨t.val / 2 * 1024 + a.val, by have h : t.val < 8 := t.isLt; omega⟩
def outCol (t : Fin cfg0.N) (a : Fin 1024) : Fin 2048 :=
  ⟨t.val % 2 * 1024 + a.val, by have h : t.val < 8 := t.isLt; omega⟩

/-! What a point reads. -/

theorem array0 : V m c main_v0 = dx m c := by
  unfold V
  after_results
  rfl

theorem blk0 (t : Fin cfg0.N) (a : Fin 1024) (d : Fin 1024) :
    iblk m c 0 t (ix2 a d) = dx m c (ix2 (dxRow t a) d) := by
  unfold iblk
  rw [View.read_apply]
  show V m c main_v0 _ = _
  rw [array0]
  congr 1; funext x; apply Fin.ext
  match x with
  | ⟨0, _⟩ => show win0_0.index t 0 * 1024 + 1 * a.val = t.val / 2 * 1024 + a.val
              rw [(index0 t).1]; omega
  | ⟨1, _⟩ => show win0_0.index t 1 * 1024 + 1 * d.val = d.val
              rw [(index0 t).2]; omega

theorem array1 : V m c main_v1 = w m c := by
  unfold V
  after_results
  rfl

theorem blk1 (t : Fin cfg0.N) (a : Fin 1024) (d : Fin 1024) :
    iblk m c 1 t (ix2 a d) = w m c (ix2 (wRow t a) d) := by
  unfold iblk
  rw [View.read_apply]
  show V m c main_v1 _ = _
  rw [array1]
  congr 1; funext x; apply Fin.ext
  match x with
  | ⟨0, _⟩ => show win0_1.index t 0 * 1024 + 1 * a.val = t.val % 2 * 1024 + a.val
              rw [(index1 t).1]; omega
  | ⟨1, _⟩ => show win0_1.index t 1 * 1024 + 1 * d.val = d.val
              rw [(index1 t).2]; omega

theorem hz : (![0, 0] : Fin 2 → Nat) = fun _ => 0 := funext fun a => by fin_cases a <;> rfl

/-- What a point writes back, -/
theorem after (t : Fin cfg0.N) : (dats m 0 c).flushed 2 t
    = (cfg0.win 2).cut (grid0.coords t) (k0_pay1 (iblk m c 0 t) (iblk m c 1 t)) := by
  rw [Value.flushed2]
  unfold out0_2
  rw [View.canon_unit_zero hz]
  simp only [View.ld_unit_zero (S := S1024x1024) hz]

/-- entry by entry: the entries of its block of the result. -/
theorem pay_apply (t : Fin cfg0.N) (a : Fin 1024) (d : Fin 1024) :
    k0_pay1 (iblk m c 0 t) (iblk m c 1 t) (ix2 a d)
      = entry (w m c) (dx m c) (outRow t a) (outCol t d) := by
  unfold k0_pay1
  pointwise
  simp only [blk0, blk1]
  rfl

theorem cut (f : S1024x1024.Idx → EReal) (G : S4096x2048.Idx → EReal) (t : Fin cfg0.N)
    (h : ∀ (a : Fin 1024) (d : Fin 1024), f (ix2 a d) = G (ix2 (outRow t a) (outCol t d))) :
    (cfg0.win 2).cut (grid0.coords t) f = ((cfg0.win 2).blk t).view.read (Elt Ideal) G := by
  funext j
  rw [View.read_apply]
  have h0 : (j 0 : ℕ) < 1024 := (j 0).isLt
  have h1 : (j 1 : ℕ) < 1024 := (j 1).isLt
  refine (congrArg f ?_).trans ((h ⟨(j 0 : ℕ), h0⟩ ⟨(j 1 : ℕ), h1⟩).trans (congrArg G ?_))
  · funext x
    match x with
    | ⟨0, _⟩ => rfl
    | ⟨1, _⟩ => rfl
  · funext x; apply Fin.ext
    match x with
    | ⟨0, _⟩ => show t.val / 2 * 1024 + (j 0 : ℕ) = win0_2.index t 0 * 1024 + 1 * (j 0 : ℕ)
                rw [(index2 t).1]; omega
    | ⟨1, _⟩ => show t.val % 2 * 1024 + (j 1 : ℕ) = win0_2.index t 1 * 1024 + 1 * (j 1 : ℕ)
                rw [(index2 t).2]; omega

theorem flushed (t : Fin cfg0.N) : (dats m 0 c).flushed 2 t
    = ((cfg0.win 2).blk t).view.read (Elt Ideal) (result (w m c) (dx m c)) := by
  rw [after]
  exact cut _ _ t fun a d => pay_apply m c t a d

/-- The blocks cover the result. -/
theorem cover (i : S4096x2048.Idx) : ∃ t : Fin cfg0.N, (cfg0.win 2).flush t = true ∧ i ∈ ((cfg0.win 2).blk t).view.set := by
  have h0 : (i 0 : ℕ) < 4096 := (i 0).isLt
  have h1 : (i 1 : ℕ) < 2048 := (i 1).isLt
  have hN : cfg0.N = 8 := N_0
  obtain ⟨t, ht⟩ : ∃ t : Fin cfg0.N, t.val = (i 0 : ℕ) / 1024 * 2 + (i 1 : ℕ) / 1024 := ⟨⟨_, by omega⟩, rfl⟩
  have e := index2 t
  refine ⟨t, flush0_2 _, ?_⟩
  show i ∈ ((View.whole main_v2).slice (win0_2.rect t)).set
  rw [View.set_slice_whole, Rect.mem_set_unit]
  intro a
  match a with
  | ⟨0, _⟩ => show win0_2.index t 0 * 1024 ≤ (i 0 : ℕ) ∧ (i 0 : ℕ) < win0_2.index t 0 * 1024 + 1024
              rw [e.1, ht]; omega
  | ⟨1, _⟩ => show win0_2.index t 1 * 1024 ≤ (i 1 : ℕ) ∧ (i 1 : ℕ) < win0_2.index t 1 * 1024 + 1024
              rw [e.2, ht]; omega

theorem final : (dats m 0 c).arrAt 2 cfg0.N = (result (w m c) (dx m c)) :=
  (dats m 0 c).arrAt_eq_of_cover 2 _ (fun t _ => flushed m c t) cover

/-- The run, read: the result at its formula, the arguments unchanged. -/
theorem run : θ_run defs (onTc (τ := τ) (main (F := Ideal))) ⟨m, fun _ => 0, ρ⟩ fun r => ∀ c : Dev nD,
      r.2.mem ((c : Thread nD τ).loc main_v2) = (result (w m c) (dx m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Kernel

/-! ## The claims -/

theorem frame_ref : Cert.quiescent_HgrnOutDgradRefIdeal := fun m ρ _ =>
  (θ_run _ _ _).mono (fun r h => ⟨fun c => (h c).2, sem_eq_zero_of_no_sems (by decide) r.2⟩)
    (Cert.HgrnOutDgradRefIdeal.Value.run (F := Ideal) m ρ)

theorem algebraic : Cert.algebraic_HgrnOutDgradIdeal_HgrnOutDgradRefIdeal := by
  intro m ρ m' ρ' _ args
  refine ⟨fun c => (result (w m c) (dx m c)), run m ρ, ?_⟩
  refine (θ_run _ _ _).mono (fun r h c => ?_) (Cert.HgrnOutDgradRefIdeal.Value.run (F := Ideal) m' ρ')
  obtain ⟨a0, a1⟩ := args c
  obtain ⟨h0, hk⟩ := h c
  refine ⟨h0.trans ?_, hk⟩
  rw [Cert.HgrnOutDgradRefIdeal.Read.val_main_v2_eq, a0, a1]
  exact ref_eq _ _

end Cert.Products.HgrnOutDgrad

end
-- ==== Proof.Products.HgrnOutWgrad.lean ====
/-
  The gradient of the weight of the product out of the recurrent mixer: `catᵀ dx`, a tile of rows at a point.
-/
module

public import Idealize.ShloMosaic.Lib.Pointwise
public import Idealize.ShloMosaic.Lib.Quiescent
public import proofs.«01_k».proof.Proof.Reals
public import proofs.«01_k».proof.Defs
public import proofs.«01_k».proof.Proof.Gen.HgrnOutWgradIdeal.Value
public import proofs.«01_k».proof.Proof.Gen.HgrnOutWgradRefIdeal.Run
public import proofs.«01_k».proof.Proof.Gen.HgrnOutWgradRefIdeal.Read

@[expose] public section

set_option maxRecDepth 16384

noncomputable section

open Idealize.ShloMosaic Idealize.ShloMosaic.TcCoe Idealize.SL.Sem

namespace Cert.Products.HgrnOutWgrad

/-! ## The mathematics -/

section Model
variable (cat : (⟨2, ![4096, 2048]⟩ : Shape).Idx → EReal) (dx : (⟨2, ![4096, 1024]⟩ : Shape).Idx → EReal)
/-- The result, entry by entry. -/
def entry (i : Fin 2048) (j : Fin 1024) : EReal := ∑ k : Fin 4096, cat (ix2 k i) * dx (ix2 k j)

/-- The result as an array. -/
def result : (⟨2, ![2048, 1024]⟩ : Shape).Idx → EReal := fun i => entry cat dx (i 0) (i 1)

theorem result_apply (i : Fin 2048) (j : Fin 1024) : result cat dx (ix2 i j) = entry cat dx i j := rfl

/-! ## The reference -/

open Cert.HgrnOutWgradRefIdeal.Read in
theorem ref_apply (i : Fin 2048) (j : Fin 1024) : val_main_v4 (F := Ideal) cat dx (ix2 i j) = entry cat dx i j := by
  unfold val_main_v4 val_main_v3 val_main_v2
  pointwise
  exact Finset.sum_congr rfl fun k _ => mul_comm _ _

open Cert.HgrnOutWgradRefIdeal.Read in
theorem ref_eq : val_main_v4 (F := Ideal) cat dx = result cat dx := by
  funext i
  obtain ⟨a, b, rfl⟩ : ∃ a b, i = ix2 a b := ⟨i 0, i 1, by funext x; match x with | ⟨0, _⟩ => rfl | ⟨1, _⟩ => rfl⟩
  exact (ref_apply cat dx a b).trans (result_apply cat dx a b).symm

end Model

/-! ## The kernel -/

open Cert.HgrnOutWgradIdeal Cert.HgrnOutWgradIdeal.Gen

section Kernel

variable (m : (ℓ : Loc nD τ sig) → Buf (Elt Ideal) ℓ) (ρ : Dev nD → PrngReg) (c : Dev nD)
abbrev cat : S4096x2048.Idx → EReal := m ((c : Thread nD τ).loc main_arg0)
abbrev dx : S4096x1024.Idx → EReal := m ((c : Thread nD τ).loc main_arg1)

/-! Where the block of a point lies in an array. -/

theorem index0 : ∀ t : Fin cfg0.N, win0_0.index t 0 = 0 ∧ win0_0.index t 1 = t.val :=
  (by decide +kernel : ∀ t : Fin grid0.N, win0_0.index t 0 = 0 ∧ win0_0.index t 1 = t.val)
def catCol (t : Fin cfg0.N) (a : Fin 1024) : Fin 2048 :=
  ⟨t.val * 1024 + a.val, by have h : t.val < 2 := t.isLt; omega⟩
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
def outRow (t : Fin cfg0.N) (a : Fin 1024) : Fin 2048 :=
  ⟨t.val * 1024 + a.val, by have h : t.val < 2 := t.isLt; omega⟩

/-! What a point reads. -/

theorem array0 : V m c main_v0 = cat m c := by
  unfold V
  after_results
  rfl

theorem blk0 (t : Fin cfg0.N) (a : Fin 4096) (d : Fin 1024) :
    iblk m c 0 t (ix2 a d) = cat m c (ix2 a (catCol t d)) := by
  unfold iblk
  rw [View.read_apply]
  show V m c main_v0 _ = _
  rw [array0]
  congr 1; funext x; apply Fin.ext
  match x with
  | ⟨0, _⟩ => show win0_0.index t 0 * 4096 + 1 * a.val = a.val
              rw [(index0 t).1]; omega
  | ⟨1, _⟩ => show win0_0.index t 1 * 1024 + 1 * d.val = t.val * 1024 + d.val
              rw [(index0 t).2]; omega

theorem array1 : V m c main_v1 = dx m c := by
  unfold V
  after_results
  rfl

theorem blk1 (t : Fin cfg0.N) (a : Fin 4096) (d : Fin 1024) :
    iblk m c 1 t (ix2 a d) = dx m c (ix2 a d) := by
  unfold iblk
  rw [View.read_apply]
  show V m c main_v1 _ = _
  rw [array1]
  congr 1; funext x; apply Fin.ext
  match x with
  | ⟨0, _⟩ => show win0_1.index t 0 * 4096 + 1 * a.val = a.val
              rw [(index1 t).1]; omega
  | ⟨1, _⟩ => show win0_1.index t 1 * 1024 + 1 * d.val = d.val
              rw [(index1 t).2]; omega

theorem hz : (![0, 0] : Fin 2 → Nat) = fun _ => 0 := funext fun a => by fin_cases a <;> rfl

/-- What a point writes back, -/
theorem after (t : Fin cfg0.N) : (dats m 0 c).flushed 2 t
    = (cfg0.win 2).cut (grid0.coords t) (k0_pay1 (iblk m c 0 t) (iblk m c 1 t)) := by
  rw [Value.flushed2]
  unfold out0_2
  rw [View.canon_unit_zero hz]
  simp only [View.ld_unit_zero (S := S4096x1024) hz]

/-- entry by entry: the entries of its block of the result. -/
theorem pay_apply (t : Fin cfg0.N) (a : Fin 1024) (d : Fin 1024) :
    k0_pay1 (iblk m c 0 t) (iblk m c 1 t) (ix2 a d)
      = entry (cat m c) (dx m c) (outRow t a) d := by
  unfold k0_pay1
  pointwise
  simp only [blk0, blk1]
  rfl

theorem cut (f : S1024x1024.Idx → EReal) (G : S2048x1024.Idx → EReal) (t : Fin cfg0.N)
    (h : ∀ (a : Fin 1024) (d : Fin 1024), f (ix2 a d) = G (ix2 (outRow t a) d)) :
    (cfg0.win 2).cut (grid0.coords t) f = ((cfg0.win 2).blk t).view.read (Elt Ideal) G := by
  funext j
  rw [View.read_apply]
  have h0 : (j 0 : ℕ) < 1024 := (j 0).isLt
  have h1 : (j 1 : ℕ) < 1024 := (j 1).isLt
  refine (congrArg f ?_).trans ((h ⟨(j 0 : ℕ), h0⟩ ⟨(j 1 : ℕ), h1⟩).trans (congrArg G ?_))
  · funext x
    match x with
    | ⟨0, _⟩ => rfl
    | ⟨1, _⟩ => rfl
  · funext x; apply Fin.ext
    match x with
    | ⟨0, _⟩ => show t.val * 1024 + (j 0 : ℕ) = win0_2.index t 0 * 1024 + 1 * (j 0 : ℕ)
                rw [(index2 t).1]; omega
    | ⟨1, _⟩ => show (j 1 : ℕ) = win0_2.index t 1 * 1024 + 1 * (j 1 : ℕ)
                rw [(index2 t).2]; omega

theorem flushed (t : Fin cfg0.N) : (dats m 0 c).flushed 2 t
    = ((cfg0.win 2).blk t).view.read (Elt Ideal) (result (cat m c) (dx m c)) := by
  rw [after]
  exact cut _ _ t fun a d => pay_apply m c t a d

/-- The blocks cover the result. -/
theorem cover (i : S2048x1024.Idx) : ∃ t : Fin cfg0.N, (cfg0.win 2).flush t = true ∧ i ∈ ((cfg0.win 2).blk t).view.set := by
  have h0 : (i 0 : ℕ) < 2048 := (i 0).isLt
  have h1 : (i 1 : ℕ) < 1024 := (i 1).isLt
  have hN : cfg0.N = 2 := N_0
  obtain ⟨t, ht⟩ : ∃ t : Fin cfg0.N, t.val = (i 0 : ℕ) / 1024 := ⟨⟨_, by omega⟩, rfl⟩
  have e := index2 t
  refine ⟨t, flush0_2 _, ?_⟩
  show i ∈ ((View.whole main_v2).slice (win0_2.rect t)).set
  rw [View.set_slice_whole, Rect.mem_set_unit]
  intro a
  match a with
  | ⟨0, _⟩ => show win0_2.index t 0 * 1024 ≤ (i 0 : ℕ) ∧ (i 0 : ℕ) < win0_2.index t 0 * 1024 + 1024
              rw [e.1, ht]; omega
  | ⟨1, _⟩ => show win0_2.index t 1 * 1024 ≤ (i 1 : ℕ) ∧ (i 1 : ℕ) < win0_2.index t 1 * 1024 + 1024
              rw [e.2]; omega

theorem final : (dats m 0 c).arrAt 2 cfg0.N = (result (cat m c) (dx m c)) :=
  (dats m 0 c).arrAt_eq_of_cover 2 _ (fun t _ => flushed m c t) cover

/-- The run, read: the result at its formula, the arguments unchanged. -/
theorem run : θ_run defs (onTc (τ := τ) (main (F := Ideal))) ⟨m, fun _ => 0, ρ⟩ fun r => ∀ c : Dev nD,
      r.2.mem ((c : Thread nD τ).loc main_v2) = (result (cat m c) (dx m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Kernel

/-! ## The claims -/

theorem frame_ref : Cert.quiescent_HgrnOutWgradRefIdeal := fun m ρ _ =>
  (θ_run _ _ _).mono (fun r h => ⟨fun c => (h c).2, sem_eq_zero_of_no_sems (by decide) r.2⟩)
    (Cert.HgrnOutWgradRefIdeal.Value.run (F := Ideal) m ρ)

theorem algebraic : Cert.algebraic_HgrnOutWgradIdeal_HgrnOutWgradRefIdeal := by
  intro m ρ m' ρ' _ args
  refine ⟨fun c => (result (cat m c) (dx m c)), run m ρ, ?_⟩
  refine (θ_run _ _ _).mono (fun r h c => ?_) (Cert.HgrnOutWgradRefIdeal.Value.run (F := Ideal) m' ρ')
  obtain ⟨a0, a1⟩ := args c
  obtain ⟨h0, hk⟩ := h c
  refine ⟨h0.trans ?_, hk⟩
  rw [Cert.HgrnOutWgradRefIdeal.Read.val_main_v4_eq, a0, a1]
  exact ref_eq _ _

end Cert.Products.HgrnOutWgrad

end
-- ==== Proof.Products.MemKv.lean ====
/-
  The keys and values of the memory: the product of its normed tokens by the weight, a tile of columns at a point.
-/
module

public import Idealize.ShloMosaic.Lib.Pointwise
public import Idealize.ShloMosaic.Lib.Quiescent
public import proofs.«01_k».proof.Proof.Reals
public import proofs.«01_k».proof.Defs
public import proofs.«01_k».proof.Proof.Gen.MemKvIdeal.Value
public import proofs.«01_k».proof.Proof.Gen.MemKvRefIdeal.Run
public import proofs.«01_k».proof.Proof.Gen.MemKvRefIdeal.Read

@[expose] public section

set_option maxRecDepth 16384

noncomputable section

open Idealize.ShloMosaic Idealize.ShloMosaic.TcCoe Idealize.SL.Sem

namespace Cert.Products.MemKv

/-! ## The mathematics -/

section Model
variable (h : (⟨2, ![512, 1024]⟩ : Shape).Idx → EReal) (w : (⟨2, ![1024, 2048]⟩ : Shape).Idx → EReal)
/-- The result, entry by entry. -/
def entry (i : Fin 512) (j : Fin 2048) : EReal := ∑ k : Fin 1024, h (ix2 i k) * w (ix2 k j)

/-- The result as an array. -/
def result : (⟨2, ![512, 2048]⟩ : Shape).Idx → EReal := fun i => entry h w (i 0) (i 1)

theorem result_apply (i : Fin 512) (j : Fin 2048) : result h w (ix2 i j) = entry h w i j := rfl

/-! ## The reference -/

open Cert.MemKvRefIdeal.Read in
theorem ref_apply (i : Fin 512) (j : Fin 2048) : val_main_v0 (F := Ideal) h w (ix2 i j) = entry h w i j := by
  unfold val_main_v0
  pointwise
  rfl

open Cert.MemKvRefIdeal.Read in
theorem ref_eq : val_main_v0 (F := Ideal) h w = result h w := by
  funext i
  obtain ⟨a, b, rfl⟩ : ∃ a b, i = ix2 a b := ⟨i 0, i 1, by funext x; match x with | ⟨0, _⟩ => rfl | ⟨1, _⟩ => rfl⟩
  exact (ref_apply h w a b).trans (result_apply h w a b).symm

end Model

/-! ## The kernel -/

open Cert.MemKvIdeal Cert.MemKvIdeal.Gen

section Kernel

variable (m : (ℓ : Loc nD τ sig) → Buf (Elt Ideal) ℓ) (ρ : Dev nD → PrngReg) (c : Dev nD)
abbrev h : S512x1024.Idx → EReal := m ((c : Thread nD τ).loc main_arg0)
abbrev w : S1024x2048.Idx → EReal := m ((c : Thread nD τ).loc main_arg1)

/-! Where the block of a point lies in an array. -/

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
def wRow (t : Fin cfg0.N) (a : Fin 512) : Fin 2048 :=
  ⟨t.val * 512 + a.val, by have h : t.val < 4 := t.isLt; omega⟩
theorem index2 : ∀ t : Fin cfg0.N, win0_2.index t 0 = 0 ∧ win0_2.index t 1 = t.val :=
  (by decide +kernel : ∀ t : Fin grid0.N, win0_2.index t 0 = 0 ∧ win0_2.index t 1 = t.val)
def outCol (t : Fin cfg0.N) (a : Fin 512) : Fin 2048 :=
  ⟨t.val * 512 + a.val, by have h : t.val < 4 := t.isLt; omega⟩

/-! What a point reads. -/

theorem array0 : V m c main_v0 = h m c := by
  unfold V
  after_results
  rfl

theorem blk0 (t : Fin cfg0.N) (a : Fin 512) (d : Fin 1024) :
    iblk m c 0 t (ix2 a d) = h m c (ix2 a d) := by
  unfold iblk
  rw [View.read_apply]
  show V m c main_v0 _ = _
  rw [array0]
  congr 1; funext x; apply Fin.ext
  match x with
  | ⟨0, _⟩ => show win0_0.index t 0 * 512 + 1 * a.val = a.val
              rw [(index0 t).1]; omega
  | ⟨1, _⟩ => show win0_0.index t 1 * 1024 + 1 * d.val = d.val
              rw [(index0 t).2]; omega

/-- The kernel takes the weight transposed. -/
theorem array1 : V m c main_v2 = fun i => w m c (ix2 (i 1) (i 0)) := by
  unfold V
  after_results
  funext i
  obtain ⟨a, b, rfl⟩ : ∃ a b, i = ix2 a b := ⟨i 0, i 1, by funext x; match x with | ⟨0, _⟩ => rfl | ⟨1, _⟩ => rfl⟩
  pointwise

theorem blk1 (t : Fin cfg0.N) (a : Fin 512) (d : Fin 1024) :
    iblk m c 1 t (ix2 a d) = w m c (ix2 d (wRow t a)) := by
  unfold iblk
  rw [View.read_apply]
  show V m c main_v2 _ = _
  rw [array1]
  refine congrArg (w m c) ?_; funext x; apply Fin.ext
  match x with
  | ⟨0, _⟩ => show win0_1.index t 1 * 1024 + 1 * d.val = d.val
              rw [(index1 t).2]; omega
  | ⟨1, _⟩ => show win0_1.index t 0 * 512 + 1 * a.val = t.val * 512 + a.val
              rw [(index1 t).1]; omega

theorem hz : (![0, 0] : Fin 2 → Nat) = fun _ => 0 := funext fun a => by fin_cases a <;> rfl

/-- What a point writes back, -/
theorem after (t : Fin cfg0.N) : (dats m 0 c).flushed 2 t
    = (cfg0.win 2).cut (grid0.coords t) (k0_pay1 (iblk m c 0 t) (iblk m c 1 t)) := by
  rw [Value.flushed2]
  unfold out0_2
  rw [View.canon_unit_zero hz]
  simp only [View.ld_unit_zero (S := S512x1024) hz]

/-- entry by entry: the entries of its block of the result. -/
theorem pay_apply (t : Fin cfg0.N) (a : Fin 512) (d : Fin 512) :
    k0_pay1 (iblk m c 0 t) (iblk m c 1 t) (ix2 a d)
      = entry (h m c) (w m c) a (outCol t d) := by
  unfold k0_pay1
  pointwise
  simp only [blk0, blk1]
  rfl

theorem cut (f : S512x512.Idx → EReal) (G : S512x2048.Idx → EReal) (t : Fin cfg0.N)
    (h : ∀ (a : Fin 512) (d : Fin 512), f (ix2 a d) = G (ix2 a (outCol t d))) :
    (cfg0.win 2).cut (grid0.coords t) f = ((cfg0.win 2).blk t).view.read (Elt Ideal) G := by
  funext j
  rw [View.read_apply]
  have h0 : (j 0 : ℕ) < 512 := (j 0).isLt
  have h1 : (j 1 : ℕ) < 512 := (j 1).isLt
  refine (congrArg f ?_).trans ((h ⟨(j 0 : ℕ), h0⟩ ⟨(j 1 : ℕ), h1⟩).trans (congrArg G ?_))
  · funext x
    match x with
    | ⟨0, _⟩ => rfl
    | ⟨1, _⟩ => rfl
  · funext x; apply Fin.ext
    match x with
    | ⟨0, _⟩ => show (j 0 : ℕ) = win0_2.index t 0 * 512 + 1 * (j 0 : ℕ)
                rw [(index2 t).1]; omega
    | ⟨1, _⟩ => show t.val * 512 + (j 1 : ℕ) = win0_2.index t 1 * 512 + 1 * (j 1 : ℕ)
                rw [(index2 t).2]; omega

theorem flushed (t : Fin cfg0.N) : (dats m 0 c).flushed 2 t
    = ((cfg0.win 2).blk t).view.read (Elt Ideal) (result (h m c) (w m c)) := by
  rw [after]
  exact cut _ _ t fun a d => pay_apply m c t a d

/-- The blocks cover the result. -/
theorem cover (i : S512x2048.Idx) : ∃ t : Fin cfg0.N, (cfg0.win 2).flush t = true ∧ i ∈ ((cfg0.win 2).blk t).view.set := by
  have h0 : (i 0 : ℕ) < 512 := (i 0).isLt
  have h1 : (i 1 : ℕ) < 2048 := (i 1).isLt
  have hN : cfg0.N = 4 := N_0
  obtain ⟨t, ht⟩ : ∃ t : Fin cfg0.N, t.val = (i 0 : ℕ) / 512 * 4 + (i 1 : ℕ) / 512 := ⟨⟨_, by omega⟩, rfl⟩
  have e := index2 t
  refine ⟨t, flush0_2 _, ?_⟩
  show i ∈ ((View.whole main_v3).slice (win0_2.rect t)).set
  rw [View.set_slice_whole, Rect.mem_set_unit]
  intro a
  match a with
  | ⟨0, _⟩ => show win0_2.index t 0 * 512 ≤ (i 0 : ℕ) ∧ (i 0 : ℕ) < win0_2.index t 0 * 512 + 512
              rw [e.1]; omega
  | ⟨1, _⟩ => show win0_2.index t 1 * 512 ≤ (i 1 : ℕ) ∧ (i 1 : ℕ) < win0_2.index t 1 * 512 + 512
              rw [e.2, ht]; omega

theorem final : (dats m 0 c).arrAt 2 cfg0.N = (result (h m c) (w m c)) :=
  (dats m 0 c).arrAt_eq_of_cover 2 _ (fun t _ => flushed m c t) cover

/-- The run, read: the result at its formula, the arguments unchanged. -/
theorem run : θ_run defs (onTc (τ := τ) (main (F := Ideal))) ⟨m, fun _ => 0, ρ⟩ fun r => ∀ c : Dev nD,
      r.2.mem ((c : Thread nD τ).loc main_v3) = (result (h m c) (w m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Kernel

/-! ## The claims -/

theorem frame_ref : Cert.quiescent_MemKvRefIdeal := fun m ρ _ =>
  (θ_run _ _ _).mono (fun r h => ⟨fun c => (h c).2, sem_eq_zero_of_no_sems (by decide) r.2⟩)
    (Cert.MemKvRefIdeal.Value.run (F := Ideal) m ρ)

theorem algebraic : Cert.algebraic_MemKvIdeal_MemKvRefIdeal := by
  intro m ρ m' ρ' _ args
  refine ⟨fun c => (result (h m c) (w m c)), run m ρ, ?_⟩
  refine (θ_run _ _ _).mono (fun r h c => ?_) (Cert.MemKvRefIdeal.Value.run (F := Ideal) m' ρ')
  obtain ⟨a0, a1⟩ := args c
  obtain ⟨h0, hk⟩ := h c
  refine ⟨h0.trans ?_, hk⟩
  rw [Cert.MemKvRefIdeal.Read.val_main_v0_eq, a0, a1]
  exact ref_eq _ _

end Cert.Products.MemKv

end
-- ==== Proof.Blocks.lean ====
/-
  A sum over the rows of an array, formed a block of rows at a time.
-/
module

public import proofs.«01_k».proof.Proof.Reals

@[expose] public section

noncomputable section

open Idealize.ShloMosaic

namespace Cert.Blocks

/-- The running sum of what the points give, -/
def acc (s : ℕ → EReal) : ℕ → EReal
  | 0 => s 0
  | n + 1 => acc s n + s (n + 1)

/-- which depends on the points so far alone. -/
theorem acc_congr {s s' : ℕ → EReal} : ∀ n : ℕ, (∀ t ≤ n, s t = s' t) → acc s n = acc s' n
  | 0, h => h 0 le_rfl
  | n + 1, h => by
    show acc s n + s (n + 1) = acc s' n + s' (n + 1)
    rw [acc_congr n fun t ht => h t (by omega), h (n + 1) le_rfl]

/-- Where a point gives the sum of its block of rows, the running sum is the sum of all rows so far. -/
theorem acc_range (B : ℕ) (g : ℕ → EReal) :
    ∀ n : ℕ, acc (fun t => ∑ a : Fin B, g (t * B + a)) n = ∑ i ∈ Finset.range ((n + 1) * B), g i
  | 0 => by
    show ∑ a : Fin B, g (0 * B + a) = _
    rw [zero_add, one_mul, Finset.sum_range]
    exact Finset.sum_congr rfl fun a _ => by rw [zero_mul, zero_add]
  | n + 1 => by
    show acc _ n + ∑ a : Fin B, g ((n + 1) * B + a) = _
    rw [acc_range B g n, add_mul (n + 1) 1 B, Finset.sum_range_add, one_mul, Finset.sum_range (fun x => g ((n + 1) * B + x))]

/-- So after the last point it is the sum over the array. -/
theorem acc_rows {N B R : ℕ} (hR : (N + 1) * B = R) (s : ℕ → EReal) (f : Fin R → EReal)
    (h : ∀ t (ht : t ≤ N), s t = ∑ a : Fin B, f ⟨t * B + a, by
      have := a.isLt
      have : (t + 1) * B ≤ (N + 1) * B := Nat.mul_le_mul_right _ (by omega)
      have : (t + 1) * B = t * B + B := by ring
      omega⟩) :
    acc s N = ∑ i : Fin R, f i := by
  let g : ℕ → EReal := fun i => if h : i < R then f ⟨i, h⟩ else 0
  have e : acc s N = acc (fun t => ∑ a : Fin B, g (t * B + a)) N :=
    acc_congr N fun t ht => by
      rw [h t ht]
      refine Finset.sum_congr rfl fun a _ => ?_
      show _ = dite _ _ _
      rw [dif_pos]
  rw [e, acc_range B g, hR, Finset.sum_range]
  exact Finset.sum_congr rfl fun i _ => dif_pos i.isLt

end Cert.Blocks

end
-- ==== Proof.Products.MemKvDgrad.lean ====
/-
  The gradient of the memory's normed tokens, on top of the gradient they have: `dmemn + dkv wᵀ`. The sum over the columns runs over four points, which add up in a scratch buffer; the last one writes the result back.
-/
module

public import Idealize.ShloMosaic.Lib.Pointwise
public import Idealize.ShloMosaic.Lib.Quiescent
public import proofs.«01_k».proof.Proof.Blocks
public import proofs.«01_k».proof.Defs
public import proofs.«01_k».proof.Proof.Gen.MemKvDgradIdeal.Value
public import proofs.«01_k».proof.Proof.Gen.MemKvDgradRefIdeal.Run
public import proofs.«01_k».proof.Proof.Gen.MemKvDgradRefIdeal.Read

@[expose] public section

set_option maxRecDepth 16384

noncomputable section

open Idealize.ShloMosaic Idealize.ShloMosaic.TcCoe Idealize.SL.Sem

namespace Cert.Products.MemKvDgrad

/-! ## The mathematics -/

section Model
variable (dkv : (⟨2, ![512, 2048]⟩ : Shape).Idx → EReal) (w : (⟨2, ![1024, 2048]⟩ : Shape).Idx → EReal) (dh : (⟨2, ![512, 1024]⟩ : Shape).Idx → EReal)
/-- The result, entry by entry. -/
def entry (i : Fin 512) (j : Fin 1024) : EReal := dh (ix2 i j) + ∑ k : Fin 2048, dkv (ix2 i k) * w (ix2 j k)

/-- The result as an array. -/
def result : (⟨2, ![512, 1024]⟩ : Shape).Idx → EReal := fun i => entry dkv w dh (i 0) (i 1)

theorem result_apply (i : Fin 512) (j : Fin 1024) : result dkv w dh (ix2 i j) = entry dkv w dh i j := rfl

/-! ## The reference -/

open Cert.MemKvDgradRefIdeal.Read in
theorem ref_apply (i : Fin 512) (j : Fin 1024) : val_main_v3 (F := Ideal) dkv w dh (ix2 i j) = entry dkv w dh i j := by
  unfold val_main_v3 val_main_v2
  pointwise
  rfl

open Cert.MemKvDgradRefIdeal.Read in
theorem ref_eq : val_main_v3 (F := Ideal) dkv w dh = result dkv w dh := by
  funext i
  obtain ⟨a, b, rfl⟩ : ∃ a b, i = ix2 a b := ⟨i 0, i 1, by funext x; match x with | ⟨0, _⟩ => rfl | ⟨1, _⟩ => rfl⟩
  exact (ref_apply dkv w dh a b).trans (result_apply dkv w dh a b).symm

end Model

/-! ## The kernel -/

open Cert.MemKvDgradIdeal Cert.MemKvDgradIdeal.Gen

section Kernel

variable (m : (ℓ : Loc nD τ sig) → Buf (Elt Ideal) ℓ) (ρ : Dev nD → PrngReg) (c : Dev nD)
abbrev dkv : S512x2048.Idx → EReal := m ((c : Thread nD τ).loc main_arg0)
abbrev w : S1024x2048.Idx → EReal := m ((c : Thread nD τ).loc main_arg1)
abbrev dh : S512x1024.Idx → EReal := m ((c : Thread nD τ).loc main_arg2)

/-! Where the block of a point lies in an array. -/

theorem index0 : ∀ t : Fin cfg0.N, win0_0.index t 0 = 0 ∧ win0_0.index t 1 = t.val :=
  (by decide +kernel : ∀ t : Fin grid0.N, win0_0.index t 0 = 0 ∧ win0_0.index t 1 = t.val)
def dkvCol (t : Fin cfg0.N) (a : Fin 512) : Fin 2048 :=
  ⟨t.val * 512 + a.val, by have h : t.val < 4 := t.isLt; omega⟩
theorem index1 : ∀ t : Fin cfg0.N, win0_1.index t 0 = t.val ∧ win0_1.index t 1 = 0 :=
  (by decide +kernel : ∀ t : Fin grid0.N, win0_1.index t 0 = t.val ∧ win0_1.index t 1 = 0)
def wRow (t : Fin cfg0.N) (a : Fin 512) : Fin 2048 :=
  ⟨t.val * 512 + a.val, by have h : t.val < 4 := t.isLt; omega⟩
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)

/-! What a point reads. -/

theorem array0 : V m c main_arg0 = dkv m c := V_main_arg0 m c

theorem blk0 (t : Fin cfg0.N) (a : Fin 512) (d : Fin 512) :
    iblk m c 0 t (ix2 a d) = dkv m c (ix2 a (dkvCol t d)) := by
  unfold iblk
  rw [View.read_apply]
  show V m c main_arg0 _ = _
  rw [array0]
  congr 1; funext x; apply Fin.ext
  match x with
  | ⟨0, _⟩ => show win0_0.index t 0 * 512 + 1 * a.val = a.val
              rw [(index0 t).1]; omega
  | ⟨1, _⟩ => show win0_0.index t 1 * 512 + 1 * d.val = t.val * 512 + d.val
              rw [(index0 t).2]; omega

/-- The kernel takes the weight transposed. -/
theorem array1 : V m c main_v1 = fun i => w m c (ix2 (i 1) (i 0)) := by
  unfold V
  after_results
  funext i
  obtain ⟨a, b, rfl⟩ : ∃ a b, i = ix2 a b := ⟨i 0, i 1, by funext x; match x with | ⟨0, _⟩ => rfl | ⟨1, _⟩ => rfl⟩
  pointwise

theorem blk1 (t : Fin cfg0.N) (a : Fin 512) (d : Fin 1024) :
    iblk m c 1 t (ix2 a d) = w m c (ix2 d (wRow t a)) := by
  unfold iblk
  rw [View.read_apply]
  show V m c main_v1 _ = _
  rw [array1]
  refine congrArg (w m c) ?_; funext x; apply Fin.ext
  match x with
  | ⟨0, _⟩ => show win0_1.index t 1 * 1024 + 1 * d.val = d.val
              rw [(index1 t).2]; omega
  | ⟨1, _⟩ => show win0_1.index t 0 * 512 + 1 * a.val = t.val * 512 + a.val
              rw [(index1 t).1]; omega

theorem array2 : V m c main_arg2 = dh m c := V_main_arg2 m c

theorem blk2 (t : Fin cfg0.N) (a : Fin 512) (d : Fin 1024) :
    iblk m c 2 t (ix2 a d) = dh m c (ix2 a d) := by
  unfold iblk
  rw [View.read_apply]
  show V m c main_arg2 _ = _
  rw [array2]
  congr 1; funext x; apply Fin.ext
  match x with
  | ⟨0, _⟩ => show win0_2.index t 0 * 512 + 1 * a.val = a.val
              rw [(index2 t).1]; omega
  | ⟨1, _⟩ => show win0_2.index t 1 * 1024 + 1 * d.val = d.val
              rw [(index2 t).2]; omega

theorem hz : (![0, 0] : Fin 2 → Nat) = fun _ => 0 := funext fun a => by fin_cases a <;> rfl

/-! What the scratch buffer holds after a point. -/

/-- The product of a point's blocks. -/
def part (t : Fin cfg0.N) : S512x1024.Idx → EReal := k0_pay1 (F := Ideal) (iblk m c 0 t) (iblk m c 1 t)

theorem part_apply (t : Fin cfg0.N) (a : Fin 512) (d : Fin 1024) :
    part m c t (ix2 a d) = ∑ k : Fin 512, dkv m c (ix2 a (dkvCol t k)) * w m c (ix2 d (wRow t k)) := by
  unfold part k0_pay1
  pointwise
  simp only [blk0, blk1]

/-- The same, one number for a point, -/
def give (a : Fin 512) (d : Fin 1024) (n : ℕ) : EReal := if h : n < cfg0.N then part m c ⟨n, h⟩ (ix2 a d) else 0

theorem give_at (t : Fin cfg0.N) (a : Fin 512) (d : Fin 1024) : give m c a d t.val = part m c t (ix2 a d) := dif_pos t.isLt

/-- which add up to the sum over all columns. -/
theorem sum_give (a : Fin 512) (d : Fin 1024) :
    Blocks.acc (give m c a d) 3 = ∑ k : Fin 2048, dkv m c (ix2 a k) * w m c (ix2 d k) :=
  Blocks.acc_rows (N := 3) (B := 512) rfl _ (fun k => dkv m c (ix2 a k) * w m c (ix2 d k)) fun n hn => by
    have hN : cfg0.N = 4 := N_0
    exact (give_at m c ⟨n, by omega⟩ a d).trans (part_apply m c ⟨n, by omega⟩ a d)

/-- The first point stores its product, -/
theorem first (t : Fin cfg0.N) (h : t.val = 0) (a : Fin 512) (d : Fin 1024) :
    (outsAt0 m c t.val t.isLt).2 (ix2 a d) = part m c t (ix2 a d) := by
  rw [outsAt0_A m c t (by omega) (by omega) (by omega)]
  unfold sout0_A_0
  dsimp only
  rw [View.read_writes_eq_canon _ _ _ (scover0_A_0 c _ _ _ _ _ _ _ _ _ _ _ _ _ _ _ _ _)]
  unfold kernelRun0_A
  dsimp only
  rw [View.canon_unit_zero hz]
  simp only [View.readAt_eq_ld, (hs0_0 t).read_unread, (hs0_1 t).read_unread, View.ld_unit_zero (S := S512x1024) hz, View.ld_unit_zero (S := S512x512) hz]
  unfold k0_pay2
  pointwise
  rfl

/-- a point between adds its own, -/
theorem next (t : Fin cfg0.N) (h : 1 ≤ t.val) (h3 : t.val < 3) (a : Fin 512) (d : Fin 1024) :
    (outsAt0 m c t.val t.isLt).2 (ix2 a d) = (outsAt0 m c (t.val - 1) (by omega)).2 (ix2 a d) + give m c a d t.val := by
  rw [give_at, outsAt0_B m c t (by omega) h (by omega)]
  unfold sout0_B_0
  dsimp only
  rw [View.read_writes_eq_canon _ _ _ (scover0_B_0 c _ _ _ _ _ _ _ _ _ _ _ _ _ _ _ _ _ _)]
  unfold kernelRun0_B
  dsimp only
  rw [View.canon_unit_zero hz]
  simp only [View.readAt_eq_ld, (hs0_0 t).read_unread, (hs0_1 t).read_unread, (Memref.isWhole_whole _).read_unread, View.ld_unit_zero (S := S512x1024) hz, View.ld_unit_zero (S := S512x512) hz]
  unfold k0_pay3
  pointwise
  rfl

/-- so the buffer holds the running sum, -/
theorem held (a : Fin 512) (d : Fin 1024) : ∀ (n : ℕ) (hn : n < cfg0.N), n < 3 →
    (outsAt0 m c n hn).2 (ix2 a d) = Blocks.acc (give m c a d) n
  | 0, hn, _ => (first m c ⟨0, hn⟩ rfl a d).trans (give_at m c ⟨0, hn⟩ a d).symm
  | n + 1, hn, h => (next m c ⟨n + 1, hn⟩ (by show 1 ≤ n + 1; omega) h a d).trans
      (congrArg (· + give m c a d (n + 1)) (held a d n (by omega) (by omega)))

/-- and the last point adds its own and the gradient that was there. -/
theorem last (t : Fin cfg0.N) (h3 : t.val = 3) (a : Fin 512) (d : Fin 1024) : (outsAt0 m c t.val t.isLt).1 (ix2 a d)
    = dh m c (ix2 a d) + ((outsAt0 m c (t.val - 1) (by omega)).2 (ix2 a d) + give m c a d t.val) := by
  rw [give_at, ← blk2 m c t a d, outsAt0_C m c t (by omega) (by omega) (by omega)]
  unfold out0_C_3
  dsimp only
  rw [View.read_writes_eq_canon _ _ _ (cover0_C_3 c _ _ _ _ _ _ _ _ _ _ _ _ _ _ _ _ _ _)]
  unfold kernelRun0_C
  dsimp only
  rw [View.canon_unit_zero hz]
  simp only [View.readAt_eq_ld, (hs0_0 t).read_unread, (hs0_1 t).read_unread, (hs0_2 t).read_unread, (Memref.isWhole_whole _).read_unread, View.ld_unit_zero (S := S512x1024) hz, View.ld_unit_zero (S := S512x512) hz]
  unfold kernelRun0_C.sl.v14 kernelRun0_C.sl.HS0_1
  rw [View.readCov_unit_zero _ hz]
  simp only [View.readAt_eq_ld, (hs0_0 t).read_unread, (hs0_1 t).read_unread, (Memref.isWhole_whole _).read_unread, View.ld_unit_zero (S := S512x1024) hz, View.ld_unit_zero (S := S512x512) hz]
  unfold k0_pay4 k0_pay3
  pointwise
  rfl

theorem flushes (t : Fin cfg0.N) (hf : (cfg0.win 3).flush t = true) : t.val = 3 := by
  have h := (flush0_3 t).mp hf
  have hN : t.val < 4 := t.isLt
  omega

theorem pay_apply (t : Fin cfg0.N) (h3 : t.val = 3) (a : Fin 512) (d : Fin 1024) :
    (outsAt0 m c t.val t.isLt).1 (ix2 a d) = entry (dkv m c) (w m c) (dh m c) a d := by
  rw [last m c t h3, held m c a d _ _ (by omega)]
  unfold entry
  rw [← sum_give]
  obtain ⟨n, hn⟩ := t
  obtain rfl : n = 3 := h3
  rfl

theorem cut (f : S512x1024.Idx → EReal) (G : S512x1024.Idx → EReal) (t : Fin cfg0.N)
    (h : ∀ (a : Fin 512) (d : Fin 1024), f (ix2 a d) = G (ix2 a d)) :
    (cfg0.win 3).cut (grid0.coords t) f = ((cfg0.win 3).blk t).view.read (Elt Ideal) G := by
  funext j
  rw [View.read_apply]
  have h0 : (j 0 : ℕ) < 512 := (j 0).isLt
  have h1 : (j 1 : ℕ) < 1024 := (j 1).isLt
  refine (congrArg f ?_).trans ((h ⟨(j 0 : ℕ), h0⟩ ⟨(j 1 : ℕ), h1⟩).trans (congrArg G ?_))
  · funext x
    match x with
    | ⟨0, _⟩ => rfl
    | ⟨1, _⟩ => rfl
  · funext x; apply Fin.ext
    match x with
    | ⟨0, _⟩ => show (j 0 : ℕ) = win0_3.index t 0 * 512 + 1 * (j 0 : ℕ)
                rw [(index3 t).1]; omega
    | ⟨1, _⟩ => show (j 1 : ℕ) = win0_3.index t 1 * 1024 + 1 * (j 1 : ℕ)
                rw [(index3 t).2]; omega

theorem flushed (t : Fin cfg0.N) (hf : (cfg0.win 3).flush t = true) : (dats m 0 c).flushed 3 t
    = ((cfg0.win 3).blk t).view.read (Elt Ideal) (result (dkv m c) (w m c) (dh m c)) := by
  rw [Value.flushed3]
  exact cut _ _ t fun a d => pay_apply m c t (flushes t hf) a d

/-- The blocks cover the result. -/
theorem cover (i : S512x1024.Idx) : ∃ t : Fin cfg0.N, (cfg0.win 3).flush t = true ∧ i ∈ ((cfg0.win 3).blk t).view.set := by
  have h0 : (i 0 : ℕ) < 512 := (i 0).isLt
  have h1 : (i 1 : ℕ) < 1024 := (i 1).isLt
  have hN : cfg0.N = 4 := N_0
  obtain ⟨t, ht⟩ : ∃ t : Fin cfg0.N, t.val = 3 := ⟨⟨_, by omega⟩, rfl⟩
  have e := index3 t
  refine ⟨t, (flush0_3 t).mpr (by omega), ?_⟩
  show i ∈ ((View.whole main_v2).slice (win0_3.rect t)).set
  rw [View.set_slice_whole, Rect.mem_set_unit]
  intro a
  match a with
  | ⟨0, _⟩ => show win0_3.index t 0 * 512 ≤ (i 0 : ℕ) ∧ (i 0 : ℕ) < win0_3.index t 0 * 512 + 512
              rw [e.1]; omega
  | ⟨1, _⟩ => show win0_3.index t 1 * 1024 ≤ (i 1 : ℕ) ∧ (i 1 : ℕ) < win0_3.index t 1 * 1024 + 1024
              rw [e.2]; omega

theorem final : (dats m 0 c).arrAt 3 cfg0.N = (result (dkv m c) (w m c) (dh m c)) :=
  (dats m 0 c).arrAt_eq_of_cover 3 _ (fun t hf => flushed m c t hf) cover

/-- The run, read: the result at its formula, the arguments unchanged. -/
theorem run : θ_run defs (onTc (τ := τ) (main (F := Ideal))) ⟨m, fun _ => 0, ρ⟩ fun r => ∀ c : Dev nD,
      r.2.mem ((c : Thread nD τ).loc main_v2) = (result (dkv m c) (w m c) (dh m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Kernel

/-! ## The claims -/

theorem frame_ref : Cert.quiescent_MemKvDgradRefIdeal := fun m ρ _ =>
  (θ_run _ _ _).mono (fun r h => ⟨fun c => (h c).2, sem_eq_zero_of_no_sems (by decide) r.2⟩)
    (Cert.MemKvDgradRefIdeal.Value.run (F := Ideal) m ρ)

theorem algebraic : Cert.algebraic_MemKvDgradIdeal_MemKvDgradRefIdeal := by
  intro m ρ m' ρ' _ args
  refine ⟨fun c => (result (dkv m c) (w m c) (dh m c)), run m ρ, ?_⟩
  refine (θ_run _ _ _).mono (fun r h c => ?_) (Cert.MemKvDgradRefIdeal.Value.run (F := Ideal) m' ρ')
  obtain ⟨a0, a1, a2⟩ := args c
  obtain ⟨h0, hk⟩ := h c
  refine ⟨h0.trans ?_, hk⟩
  rw [Cert.MemKvDgradRefIdeal.Read.val_main_v3_eq, a0, a1, a2]
  exact ref_eq _ _ _

end Cert.Products.MemKvDgrad

end
-- ==== Proof.Products.MemKvWgrad.lean ====
/-
  The gradient of the weight of the memory's keys and values, transposed: `dkvᵀ h`, a tile of rows at a point.
-/
module

public import Idealize.ShloMosaic.Lib.Pointwise
public import Idealize.ShloMosaic.Lib.Quiescent
public import proofs.«01_k».proof.Proof.Reals
public import proofs.«01_k».proof.Defs
public import proofs.«01_k».proof.Proof.Gen.MemKvWgradIdeal.Value
public import proofs.«01_k».proof.Proof.Gen.MemKvWgradRefIdeal.Run
public import proofs.«01_k».proof.Proof.Gen.MemKvWgradRefIdeal.Read

@[expose] public section

set_option maxRecDepth 16384

noncomputable section

open Idealize.ShloMosaic Idealize.ShloMosaic.TcCoe Idealize.SL.Sem

namespace Cert.Products.MemKvWgrad

/-! ## The mathematics -/

section Model
variable (h : (⟨2, ![512, 1024]⟩ : Shape).Idx → EReal) (dkv : (⟨2, ![512, 2048]⟩ : Shape).Idx → EReal)
/-- The result, entry by entry. -/
def entry (i : Fin 2048) (j : Fin 1024) : EReal := ∑ k : Fin 512, dkv (ix2 k i) * h (ix2 k j)

/-- The result as an array. -/
def result : (⟨2, ![2048, 1024]⟩ : Shape).Idx → EReal := fun i => entry h dkv (i 0) (i 1)

theorem result_apply (i : Fin 2048) (j : Fin 1024) : result h dkv (ix2 i j) = entry h dkv i j := rfl

/-! ## The reference -/

open Cert.MemKvWgradRefIdeal.Read in
theorem ref_apply (i : Fin 2048) (j : Fin 1024) : val_main_v5 (F := Ideal) h dkv (ix2 i j) = entry h dkv i j := by
  unfold val_main_v5 val_main_v4 val_main_v3 val_main_v2
  pointwise
  rfl

open Cert.MemKvWgradRefIdeal.Read in
theorem ref_eq : val_main_v5 (F := Ideal) h dkv = result h dkv := by
  funext i
  obtain ⟨a, b, rfl⟩ : ∃ a b, i = ix2 a b := ⟨i 0, i 1, by funext x; match x with | ⟨0, _⟩ => rfl | ⟨1, _⟩ => rfl⟩
  exact (ref_apply h dkv a b).trans (result_apply h dkv a b).symm

end Model

/-! ## The kernel -/

open Cert.MemKvWgradIdeal Cert.MemKvWgradIdeal.Gen

section Kernel

variable (m : (ℓ : Loc nD τ sig) → Buf (Elt Ideal) ℓ) (ρ : Dev nD → PrngReg) (c : Dev nD)
abbrev h : S512x1024.Idx → EReal := m ((c : Thread nD τ).loc main_arg0)
abbrev dkv : S512x2048.Idx → EReal := m ((c : Thread nD τ).loc main_arg1)

/-! Where the block of a point lies in an array. -/

theorem index0 : ∀ t : Fin cfg0.N, win0_0.index t 0 = 0 ∧ win0_0.index t 1 = t.val :=
  (by decide +kernel : ∀ t : Fin grid0.N, win0_0.index t 0 = 0 ∧ win0_0.index t 1 = t.val)
def dkvCol (t : Fin cfg0.N) (a : Fin 512) : Fin 2048 :=
  ⟨t.val * 512 + a.val, by have h : t.val < 4 := t.isLt; omega⟩
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
def outRow (t : Fin cfg0.N) (a : Fin 512) : Fin 2048 :=
  ⟨t.val * 512 + a.val, by have h : t.val < 4 := t.isLt; omega⟩

/-! What a point reads. -/

theorem array0 : V m c main_arg1 = dkv m c := V_main_arg1 m c

theorem blk0 (t : Fin cfg0.N) (a : Fin 512) (d : Fin 512) :
    iblk m c 0 t (ix2 a d) = dkv m c (ix2 a (dkvCol t d)) := by
  unfold iblk
  rw [View.read_apply]
  show V m c main_arg1 _ = _
  rw [array0]
  congr 1; funext x; apply Fin.ext
  match x with
  | ⟨0, _⟩ => show win0_0.index t 0 * 512 + 1 * a.val = a.val
              rw [(index0 t).1]; omega
  | ⟨1, _⟩ => show win0_0.index t 1 * 512 + 1 * d.val = t.val * 512 + d.val
              rw [(index0 t).2]; omega

theorem array1 : V m c main_v0 = h m c := by
  unfold V
  after_results
  rfl

theorem blk1 (t : Fin cfg0.N) (a : Fin 512) (d : Fin 1024) :
    iblk m c 1 t (ix2 a d) = h m c (ix2 a d) := by
  unfold iblk
  rw [View.read_apply]
  show V m c main_v0 _ = _
  rw [array1]
  congr 1; funext x; apply Fin.ext
  match x with
  | ⟨0, _⟩ => show win0_1.index t 0 * 512 + 1 * a.val = a.val
              rw [(index1 t).1]; omega
  | ⟨1, _⟩ => show win0_1.index t 1 * 1024 + 1 * d.val = d.val
              rw [(index1 t).2]; omega

theorem hz : (![0, 0] : Fin 2 → Nat) = fun _ => 0 := funext fun a => by fin_cases a <;> rfl

/-- What a point writes back, -/
theorem after (t : Fin cfg0.N) : (dats m 0 c).flushed 2 t
    = (cfg0.win 2).cut (grid0.coords t) (k0_pay1 (iblk m c 0 t) (iblk m c 1 t)) := by
  rw [Value.flushed2]
  unfold out0_2
  rw [View.canon_unit_zero hz]
  simp only [View.ld_unit_zero (S := S512x1024) hz, View.ld_unit_zero (S := S512x512) hz]

/-- entry by entry: the entries of its block of the result. -/
theorem pay_apply (t : Fin cfg0.N) (a : Fin 512) (d : Fin 1024) :
    k0_pay1 (iblk m c 0 t) (iblk m c 1 t) (ix2 a d)
      = entry (h m c) (dkv m c) (outRow t a) d := by
  unfold k0_pay1
  pointwise
  simp only [blk0, blk1]
  rfl

theorem cut (f : S512x1024.Idx → EReal) (G : S2048x1024.Idx → EReal) (t : Fin cfg0.N)
    (h : ∀ (a : Fin 512) (d : Fin 1024), f (ix2 a d) = G (ix2 (outRow t a) d)) :
    (cfg0.win 2).cut (grid0.coords t) f = ((cfg0.win 2).blk t).view.read (Elt Ideal) G := by
  funext j
  rw [View.read_apply]
  have h0 : (j 0 : ℕ) < 512 := (j 0).isLt
  have h1 : (j 1 : ℕ) < 1024 := (j 1).isLt
  refine (congrArg f ?_).trans ((h ⟨(j 0 : ℕ), h0⟩ ⟨(j 1 : ℕ), h1⟩).trans (congrArg G ?_))
  · funext x
    match x with
    | ⟨0, _⟩ => rfl
    | ⟨1, _⟩ => rfl
  · funext x; apply Fin.ext
    match x with
    | ⟨0, _⟩ => show t.val * 512 + (j 0 : ℕ) = win0_2.index t 0 * 512 + 1 * (j 0 : ℕ)
                rw [(index2 t).1]; omega
    | ⟨1, _⟩ => show (j 1 : ℕ) = win0_2.index t 1 * 1024 + 1 * (j 1 : ℕ)
                rw [(index2 t).2]; omega

theorem flushed (t : Fin cfg0.N) : (dats m 0 c).flushed 2 t
    = ((cfg0.win 2).blk t).view.read (Elt Ideal) (result (h m c) (dkv m c)) := by
  rw [after]
  exact cut _ _ t fun a d => pay_apply m c t a d

/-- The blocks cover the result. -/
theorem cover (i : S2048x1024.Idx) : ∃ t : Fin cfg0.N, (cfg0.win 2).flush t = true ∧ i ∈ ((cfg0.win 2).blk t).view.set := by
  have h0 : (i 0 : ℕ) < 2048 := (i 0).isLt
  have h1 : (i 1 : ℕ) < 1024 := (i 1).isLt
  have hN : cfg0.N = 4 := N_0
  obtain ⟨t, ht⟩ : ∃ t : Fin cfg0.N, t.val = (i 0 : ℕ) / 512 := ⟨⟨_, by omega⟩, rfl⟩
  have e := index2 t
  refine ⟨t, flush0_2 _, ?_⟩
  show i ∈ ((View.whole main_v1).slice (win0_2.rect t)).set
  rw [View.set_slice_whole, Rect.mem_set_unit]
  intro a
  match a with
  | ⟨0, _⟩ => show win0_2.index t 0 * 512 ≤ (i 0 : ℕ) ∧ (i 0 : ℕ) < win0_2.index t 0 * 512 + 512
              rw [e.1, ht]; omega
  | ⟨1, _⟩ => show win0_2.index t 1 * 1024 ≤ (i 1 : ℕ) ∧ (i 1 : ℕ) < win0_2.index t 1 * 1024 + 1024
              rw [e.2]; omega

theorem final : (dats m 0 c).arrAt 2 cfg0.N = (result (h m c) (dkv m c)) :=
  (dats m 0 c).arrAt_eq_of_cover 2 _ (fun t _ => flushed m c t) cover

/-- The run, read: the result at its formula, the arguments unchanged. -/
theorem run : θ_run defs (onTc (τ := τ) (main (F := Ideal))) ⟨m, fun _ => 0, ρ⟩ fun r => ∀ c : Dev nD,
      r.2.mem ((c : Thread nD τ).loc main_v1) = (result (h m c) (dkv m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Kernel

/-! ## The claims -/

theorem frame_ref : Cert.quiescent_MemKvWgradRefIdeal := fun m ρ _ =>
  (θ_run _ _ _).mono (fun r h => ⟨fun c => (h c).2, sem_eq_zero_of_no_sems (by decide) r.2⟩)
    (Cert.MemKvWgradRefIdeal.Value.run (F := Ideal) m ρ)

theorem algebraic : Cert.algebraic_MemKvWgradIdeal_MemKvWgradRefIdeal := by
  intro m ρ m' ρ' _ args
  refine ⟨fun c => (result (h m c) (dkv m c)), run m ρ, ?_⟩
  refine (θ_run _ _ _).mono (fun r h c => ?_) (Cert.MemKvWgradRefIdeal.Value.run (F := Ideal) m' ρ')
  obtain ⟨a0, a1⟩ := args c
  obtain ⟨h0, hk⟩ := h c
  refine ⟨h0.trans ?_, hk⟩
  rw [Cert.MemKvWgradRefIdeal.Read.val_main_v5_eq, a0, a1]
  exact ref_eq _ _

end Cert.Products.MemKvWgrad

end
-- ==== Proof.Norm.lean ====
/-
  The root-mean-square norm of one row and its gradient, over the extended reals. The row and what
  comes back through the norm may be infinite.
-/
module

public import proofs.«01_k».proof.Proof.Reals

@[expose] public section

noncomputable section

open Idealize.ShloMosaic

namespace Cert.Norm

open Reals

/-- The row's length, -/
def len : EReal := ((1024 : ℝ) : EReal)
/-- the number that keeps the mean square away from zero -/
def eps : EReal := Ideal.ofBits .f32 0x358637BD#32
/-- and the number `-1/2` of the derivative of `1 / sqrt`. -/
def mhalf : EReal := ((-(1 / 2) : ℝ) : EReal)

theorem ofBits_len : Ideal.ofBits .f32 0x44800000#32 = len := by
  simp [len, Ideal.ofBits, Ideal.ieee, -EReal.coe_mul]; norm_num

theorem ofBits_mhalf : Ideal.ofBits .f32 0xBF000000#32 = mhalf := by
  simp [mhalf, Ideal.ofBits, Ideal.ieee, -EReal.coe_mul]; norm_num

theorem eps_real : ∃ e : ℝ, 0 < e ∧ eps = e := by
  refine ⟨8796093 * 2 ^ (-43 : ℤ), by positivity, ?_⟩
  simp [eps, Ideal.ofBits, Ideal.ieee, -EReal.coe_mul]

variable (x : Fin 1024 → EReal)

/-- The mean square of a row, with `eps`, -/
def ms : EReal := Ideal.div (∑ k, x k * x k) len + eps
/-- one over its root, -/
def rs : EReal := Ideal.rsqrt (ms x)
/-- the normed row, -/
def hat (k : Fin 1024) : EReal := x k * rs x
/-- the norm with its gain. -/
def out (g : Fin 1024 → EReal) (k : Fin 1024) : EReal := hat x k * g k

/-- The gradient of the row, from `d`, which has come back through the gain: as the kernels form it -/
def grad (d : Fin 1024 → EReal) (k : Fin 1024) : EReal :=
  rs x * (d k - hat x k * Ideal.div (∑ j, d j * hat x j) len)

/-- and as the chain rule gives it: `slope` is the derivative of `rs` by the sum of squares, with the sum that meets it. -/
def slope (d : Fin 1024 → EReal) : EReal := Ideal.div ((∑ j, x j * d j) * (mhalf * Ideal.div (rs x) (ms x))) len
def chainGrad (d : Fin 1024 → EReal) (k : Fin 1024) : EReal := d k * rs x + x k * slope x d + slope x d * x k

theorem div_coe (a : EReal) {b : ℝ} (hb : b ≠ 0) : Ideal.div a b = a * ((b⁻¹ : ℝ) : EReal) := by
  unfold Ideal.div
  rw [if_neg (by exact_mod_cast hb), EReal.coe_inv]

theorem div_len (a : EReal) : Ideal.div a len = a * ((1024⁻¹ : ℝ) : EReal) := div_coe a (by norm_num)

/-- A real row has a real positive mean square `v`, and `rs` is `1 / sqrt v`. -/
theorem rs_real (hx : ∀ k, Fin' (x k)) : ∃ v r : ℝ, 0 < v ∧ 0 < r ∧ r * r * v = 1 ∧ ms x = v ∧ rs x = r := by
  choose y hy using hx
  obtain ⟨e, he, heps⟩ := eps_real
  have hm : ms x = (((∑ k, y k * y k) * 1024⁻¹ + e : ℝ) : EReal) := by
    unfold ms
    rw [div_len, heps, EReal.coe_add, EReal.coe_mul, coe_sum]
    simp only [hy, EReal.coe_mul]
  have hs : 0 ≤ ∑ k, y k * y k := Finset.sum_nonneg fun k _ => mul_self_nonneg _
  have hv : 0 < (∑ k, y k * y k) * 1024⁻¹ + e := by positivity
  refine ⟨_, (Real.sqrt ((∑ k, y k * y k) * 1024⁻¹ + e))⁻¹, hv, by positivity, ?_, hm, ?_⟩
  · rw [← mul_inv, Real.mul_self_sqrt hv.le, inv_mul_cancel₀ hv.ne']
  · unfold rs
    rw [hm]
    show (if _ < (0 : ℝ) then (⊥ : EReal) else if _ = (0 : ℝ) then ⊤ else _) = _
    rw [if_neg (not_lt.2 hv.le), if_neg hv.ne']

/-- A multiple twice. -/
theorem add_self (s : EReal) (a : ℝ) : s * (a : EReal) + s * (a : EReal) = s * ((2 * a : ℝ) : EReal) := by
  have h : ∀ z : EReal, z + z = ((2 : ℝ) : EReal) * z := fun z => by
    have := EReal.right_distrib_of_nonneg (a := 1) (b := 1) (c := z) zero_le_one zero_le_one
    rw [one_mul] at this
    rw [← this]
    norm_num
    rfl
  rw [h, EReal.coe_mul]
  ac_rfl

theorem mul_self_nonneg' (a : EReal) : 0 ≤ a * a := by
  rcases le_total 0 a with h | h
  · exact EReal.mul_nonneg h h
  · rw [← neg_mul_neg]
    exact EReal.mul_nonneg (EReal.neg_nonneg.2 h) (EReal.neg_nonneg.2 h)

theorem mul_self_top {a : EReal} (h : ¬Fin' a) : a * a = ⊤ := by
  induction a with
  | bot => exact EReal.bot_mul_bot
  | coe r => exact absurd ⟨r, rfl⟩ h
  | top => exact EReal.top_mul_top

/-- A row with an infinite entry has an infinite mean square, -/
theorem ms_top {j : Fin 1024} (h : ¬Fin' (x j)) : ms x = ⊤ := by
  obtain ⟨e, _, heps⟩ := eps_real
  have hs : ∑ k, x k * x k = ⊤ := top_le_iff.1 ((mul_self_top h).symm.le.trans
    (Finset.single_le_sum (f := fun k => x k * x k) (fun k _ => mul_self_nonneg' (x k)) (Finset.mem_univ j)))
  unfold ms
  rw [hs, div_len, heps, EReal.top_mul_coe_of_pos (by norm_num), EReal.top_add_coe]

/-- so that one over its root is zero, -/
theorem rs_zero {j : Fin 1024} (h : ¬Fin' (x j)) : rs x = 0 := by
  unfold rs
  rw [ms_top x h]
  rfl

/-- and the normed row is finite in all cases. -/
theorem hat_fin (k : Fin 1024) : Fin' (hat x k) := by
  unfold hat
  by_cases hx : ∀ k, Fin' (x k)
  · obtain ⟨_, r, _, _, _, _, hr⟩ := rs_real x hx
    exact (hx k).mul ⟨r, hr⟩
  · obtain ⟨j, hj⟩ := not_forall.1 hx
    rw [rs_zero x hj, mul_zero]
    exact ⟨0, rfl⟩

/-- The two gradients are the same where the row is real, -/
theorem chainGrad_real (hx : ∀ k, Fin' (x k)) (d : Fin 1024 → EReal) (k : Fin 1024) : chainGrad x d k = grad x d k := by
  obtain ⟨v, r, hv, hr, hrv, hms, hrs⟩ := rs_real x hx
  obtain ⟨y, hy⟩ := hx k
  have hsum : ∑ j, d j * hat x j = (∑ j, x j * d j) * (r : EReal) := by
    rw [sum_mul_coe _ hr.le]
    exact Finset.sum_congr rfl fun j _ => by unfold hat; rw [hrs]; ac_rfl
  unfold chainGrad grad slope
  rw [hsum, hms, div_coe _ hv.ne', div_len, div_len]
  unfold hat mhalf
  rw [hrs, hy, coe_mul_sub hr.le, add_assoc, sub_eq_add_neg]
  generalize (∑ j, x j * d j) = s
  congr 1
  · exact mul_comm _ _
  · have e1 : (y : EReal) * (s * (((-(1 / 2) : ℝ) : EReal) * ((r : EReal) * ((v⁻¹ : ℝ) : EReal))) * ((1024⁻¹ : ℝ) : EReal))
        = s * ((y * (-(1 / 2) * (r * v⁻¹)) * 1024⁻¹ : ℝ) : EReal) := by
      simp only [EReal.coe_mul]; ac_rfl
    have e2 : (r : EReal) * ((y : EReal) * (r : EReal) * (s * (r : EReal) * ((1024⁻¹ : ℝ) : EReal)))
        = s * ((r * (y * r) * r * 1024⁻¹ : ℝ) : EReal) := by
      simp only [EReal.coe_mul]; ac_rfl
    rw [mul_comm _ (y : EReal), e1, e2, add_self, ← mul_neg, ← EReal.coe_neg]
    congr 2
    have : v⁻¹ = r * r := by
      field_simp
      linarith
    rw [this]
    ring

/-- and where it isn't, both are zero. -/
theorem chainGrad_eq (d : Fin 1024 → EReal) (k : Fin 1024) : chainGrad x d k = grad x d k := by
  by_cases hx : ∀ k, Fin' (x k)
  · exact chainGrad_real x hx d k
  obtain ⟨j, hj⟩ := not_forall.1 hx
  unfold chainGrad grad slope
  rw [rs_zero x hj, ms_top x hj, div_len]
  unfold Ideal.div
  rw [if_neg EReal.top_ne_zero]
  simp only [zero_mul, mul_zero, add_zero]

end Cert.Norm

end
-- ==== Proof.Products.MemNorm.lean ====
/-
  The root-mean-square norm of the memory's tokens with its gain, all of them at one point.
-/
module

public import Idealize.ShloMosaic.Lib.Pointwise
public import Idealize.ShloMosaic.Lib.Quiescent
public import proofs.«01_k».proof.Proof.Norm
public import proofs.«01_k».proof.Defs
public import proofs.«01_k».proof.Proof.Gen.MemNormIdeal.Value
public import proofs.«01_k».proof.Proof.Gen.MemNormRefIdeal.Run
public import proofs.«01_k».proof.Proof.Gen.MemNormRefIdeal.Read

@[expose] public section

set_option maxRecDepth 16384

noncomputable section

open Idealize.ShloMosaic Idealize.ShloMosaic.TcCoe Idealize.SL.Sem

namespace Cert.Products.MemNorm

/-! ## The mathematics -/

section Model
variable (x : (⟨2, ![512, 1024]⟩ : Shape).Idx → EReal) (g : (⟨2, ![1, 1024]⟩ : Shape).Idx → EReal)
/-- The result, entry by entry. -/
def entry (i : Fin 512) (j : Fin 1024) : EReal := Norm.out (fun k => x (ix2 i k)) (fun k => g (ix2 0 k)) j

/-- The result as an array. -/
def result : (⟨2, ![512, 1024]⟩ : Shape).Idx → EReal := fun i => entry x g (i 0) (i 1)

theorem result_apply (i : Fin 512) (j : Fin 1024) : result x g (ix2 i j) = entry x g i j := rfl

/-! ## The reference -/

open Cert.MemNormRefIdeal.Read in
theorem ref_apply (i : Fin 512) (j : Fin 1024) : val_main_v12 (F := Ideal) x g (ix2 i j) = entry x g i j := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise
  simp only [Ideal.ofBits_zero_f32, zero_add, Norm.ofBits_len]
  rfl

open Cert.MemNormRefIdeal.Read in
theorem ref_eq : val_main_v12 (F := Ideal) x g = result x g := by
  funext i
  obtain ⟨a, b, rfl⟩ : ∃ a b, i = ix2 a b := ⟨i 0, i 1, by funext x; match x with | ⟨0, _⟩ => rfl | ⟨1, _⟩ => rfl⟩
  exact (ref_apply x g a b).trans (result_apply x g a b).symm

end Model

/-! ## The kernel -/

open Cert.MemNormIdeal Cert.MemNormIdeal.Gen

section Kernel

variable (m : (ℓ : Loc nD τ sig) → Buf (Elt Ideal) ℓ) (ρ : Dev nD → PrngReg) (c : Dev nD)
abbrev x : S512x1024.Idx → EReal := m ((c : Thread nD τ).loc main_arg0)
abbrev g : S1x1024.Idx → EReal := m ((c : Thread nD τ).loc main_arg1)

/-! Where the block of a point lies in an array. -/

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)

/-! What a point reads. -/

theorem array0 : V m c main_arg0 = x m c := V_main_arg0 m c

theorem blk0 (t : Fin cfg0.N) (a : Fin 512) (d : Fin 1024) :
    iblk m c 0 t (ix2 a d) = x m c (ix2 a d) := by
  unfold iblk
  rw [View.read_apply]
  show V m c main_arg0 _ = _
  rw [array0]
  congr 1; funext x; apply Fin.ext
  match x with
  | ⟨0, _⟩ => show win0_0.index t 0 * 512 + 1 * a.val = a.val
              rw [(index0 t).1]; omega
  | ⟨1, _⟩ => show win0_0.index t 1 * 1024 + 1 * d.val = d.val
              rw [(index0 t).2]; omega

theorem array1 : V m c main_arg1 = g m c := V_main_arg1 m c

theorem blk1 (t : Fin cfg0.N) (a : Fin 1) (d : Fin 1024) :
    iblk m c 1 t (ix2 a d) = g m c (ix2 a d) := by
  unfold iblk
  rw [View.read_apply]
  show V m c main_arg1 _ = _
  rw [array1]
  congr 1; funext x; apply Fin.ext
  match x with
  | ⟨0, _⟩ => show win0_1.index t 0 * 1 + 1 * a.val = a.val
              rw [(index1 t).1]; omega
  | ⟨1, _⟩ => show win0_1.index t 1 * 1024 + 1 * d.val = d.val
              rw [(index1 t).2]; omega

theorem hz : (![0, 0] : Fin 2 → Nat) = fun _ => 0 := funext fun a => by fin_cases a <;> rfl

/-- What a point writes back, -/
theorem after (t : Fin cfg0.N) : (dats m 0 c).flushed 2 t
    = (cfg0.win 2).cut (grid0.coords t) (k0_pay1 (iblk m c 0 t) (iblk m c 1 t)) := by
  rw [Value.flushed2]
  unfold out0_2
  rw [View.canon_unit_zero hz]
  simp only [View.ld_unit_zero (S := S1x1024) hz, View.ld_unit_zero (S := S512x1024) hz]

/-- entry by entry: the entries of its block of the result. -/
theorem pay_apply (t : Fin cfg0.N) (a : Fin 512) (d : Fin 1024) :
    k0_pay1 (iblk m c 0 t) (iblk m c 1 t) (ix2 a d)
      = entry (x m c) (g m c) a d := by
  unfold k0_pay1
  pointwise
  simp only [blk0, blk1, Norm.ofBits_len]
  rfl

theorem cut (f : S512x1024.Idx → EReal) (G : S512x1024.Idx → EReal) (t : Fin cfg0.N)
    (h : ∀ (a : Fin 512) (d : Fin 1024), f (ix2 a d) = G (ix2 a d)) :
    (cfg0.win 2).cut (grid0.coords t) f = ((cfg0.win 2).blk t).view.read (Elt Ideal) G := by
  funext j
  rw [View.read_apply]
  have h0 : (j 0 : ℕ) < 512 := (j 0).isLt
  have h1 : (j 1 : ℕ) < 1024 := (j 1).isLt
  refine (congrArg f ?_).trans ((h ⟨(j 0 : ℕ), h0⟩ ⟨(j 1 : ℕ), h1⟩).trans (congrArg G ?_))
  · funext x
    match x with
    | ⟨0, _⟩ => rfl
    | ⟨1, _⟩ => rfl
  · funext x; apply Fin.ext
    match x with
    | ⟨0, _⟩ => show (j 0 : ℕ) = win0_2.index t 0 * 512 + 1 * (j 0 : ℕ)
                rw [(index2 t).1]; omega
    | ⟨1, _⟩ => show (j 1 : ℕ) = win0_2.index t 1 * 1024 + 1 * (j 1 : ℕ)
                rw [(index2 t).2]; omega

theorem flushed (t : Fin cfg0.N) : (dats m 0 c).flushed 2 t
    = ((cfg0.win 2).blk t).view.read (Elt Ideal) (result (x m c) (g m c)) := by
  rw [after]
  exact cut _ _ t fun a d => pay_apply m c t a d

/-- The blocks cover the result. -/
theorem cover (i : S512x1024.Idx) : ∃ t : Fin cfg0.N, (cfg0.win 2).flush t = true ∧ i ∈ ((cfg0.win 2).blk t).view.set := by
  have h0 : (i 0 : ℕ) < 512 := (i 0).isLt
  have h1 : (i 1 : ℕ) < 1024 := (i 1).isLt
  have hN : cfg0.N = 1 := N_0
  obtain ⟨t, ht⟩ : ∃ t : Fin cfg0.N, t.val = (i 0 : ℕ) / 512 := ⟨⟨_, by omega⟩, rfl⟩
  have e := index2 t
  refine ⟨t, flush0_2 _, ?_⟩
  show i ∈ ((View.whole main_v0).slice (win0_2.rect t)).set
  rw [View.set_slice_whole, Rect.mem_set_unit]
  intro a
  match a with
  | ⟨0, _⟩ => show win0_2.index t 0 * 512 ≤ (i 0 : ℕ) ∧ (i 0 : ℕ) < win0_2.index t 0 * 512 + 512
              rw [e.1]; omega
  | ⟨1, _⟩ => show win0_2.index t 1 * 1024 ≤ (i 1 : ℕ) ∧ (i 1 : ℕ) < win0_2.index t 1 * 1024 + 1024
              rw [e.2]; omega

theorem final : (dats m 0 c).arrAt 2 cfg0.N = (result (x m c) (g m c)) :=
  (dats m 0 c).arrAt_eq_of_cover 2 _ (fun t _ => flushed m c t) cover

/-- The run, read: the result at its formula, the arguments unchanged. -/
theorem run : θ_run defs (onTc (τ := τ) (main (F := Ideal))) ⟨m, fun _ => 0, ρ⟩ fun r => ∀ c : Dev nD,
      r.2.mem ((c : Thread nD τ).loc main_v0) = (result (x m c) (g m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Kernel

/-! ## The claims -/

theorem frame_ref : Cert.quiescent_MemNormRefIdeal := fun m ρ _ =>
  (θ_run _ _ _).mono (fun r h => ⟨fun c => (h c).2, sem_eq_zero_of_no_sems (by decide) r.2⟩)
    (Cert.MemNormRefIdeal.Value.run (F := Ideal) m ρ)

theorem algebraic : Cert.algebraic_MemNormIdeal_MemNormRefIdeal := by
  intro m ρ m' ρ' _ args
  refine ⟨fun c => (result (x m c) (g m c)), run m ρ, ?_⟩
  refine (θ_run _ _ _).mono (fun r h c => ?_) (Cert.MemNormRefIdeal.Value.run (F := Ideal) m' ρ')
  obtain ⟨a0, a1⟩ := args c
  obtain ⟨h0, hk⟩ := h c
  refine ⟨h0.trans ?_, hk⟩
  rw [Cert.MemNormRefIdeal.Read.val_main_v12_eq, a0, a1]
  exact ref_eq _ _

end Cert.Products.MemNorm

end
-- ==== Proof.Products.MixInWgrad.lean ====
/-
  The gradient of the weight of the product into a mixer: `dzᵀ h`, a tile of rows at a point.
-/
module

public import Idealize.ShloMosaic.Lib.Pointwise
public import Idealize.ShloMosaic.Lib.Quiescent
public import proofs.«01_k».proof.Proof.Reals
public import proofs.«01_k».proof.Defs
public import proofs.«01_k».proof.Proof.Gen.MixInWgradIdeal.Value
public import proofs.«01_k».proof.Proof.Gen.MixInWgradRefIdeal.Run
public import proofs.«01_k».proof.Proof.Gen.MixInWgradRefIdeal.Read

@[expose] public section

set_option maxRecDepth 16384

noncomputable section

open Idealize.ShloMosaic Idealize.ShloMosaic.TcCoe Idealize.SL.Sem

namespace Cert.Products.MixInWgrad

/-! ## The mathematics -/

section Model
variable (h : (⟨2, ![4096, 1024]⟩ : Shape).Idx → EReal) (dz : (⟨2, ![4096, 5120]⟩ : Shape).Idx → EReal)
/-- The result, entry by entry. -/
def entry (i : Fin 5120) (j : Fin 1024) : EReal := ∑ k : Fin 4096, dz (ix2 k i) * h (ix2 k j)

/-- The result as an array. -/
def result : (⟨2, ![5120, 1024]⟩ : Shape).Idx → EReal := fun i => entry h dz (i 0) (i 1)

theorem result_apply (i : Fin 5120) (j : Fin 1024) : result h dz (ix2 i j) = entry h dz i j := rfl

/-! ## The reference -/

open Cert.MixInWgradRefIdeal.Read in
theorem ref_apply (i : Fin 5120) (j : Fin 1024) : val_main_v5 (F := Ideal) h dz (ix2 i j) = entry h dz i j := by
  unfold val_main_v5 val_main_v4 val_main_v3 val_main_v2
  pointwise
  rfl

open Cert.MixInWgradRefIdeal.Read in
theorem ref_eq : val_main_v5 (F := Ideal) h dz = result h dz := by
  funext i
  obtain ⟨a, b, rfl⟩ : ∃ a b, i = ix2 a b := ⟨i 0, i 1, by funext x; match x with | ⟨0, _⟩ => rfl | ⟨1, _⟩ => rfl⟩
  exact (ref_apply h dz a b).trans (result_apply h dz a b).symm

end Model

/-! ## The kernel -/

open Cert.MixInWgradIdeal Cert.MixInWgradIdeal.Gen

section Kernel

variable (m : (ℓ : Loc nD τ sig) → Buf (Elt Ideal) ℓ) (ρ : Dev nD → PrngReg) (c : Dev nD)
abbrev h : S4096x1024.Idx → EReal := m ((c : Thread nD τ).loc main_arg0)
abbrev dz : S4096x5120.Idx → EReal := m ((c : Thread nD τ).loc main_arg1)

/-! Where the block of a point lies in an array. -/

theorem index0 : ∀ t : Fin cfg0.N, win0_0.index t 0 = 0 ∧ win0_0.index t 1 = t.val :=
  (by decide +kernel : ∀ t : Fin grid0.N, win0_0.index t 0 = 0 ∧ win0_0.index t 1 = t.val)
def dzCol (t : Fin cfg0.N) (a : Fin 1024) : Fin 5120 :=
  ⟨t.val * 1024 + a.val, by have h : t.val < 5 := t.isLt; omega⟩
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
def outRow (t : Fin cfg0.N) (a : Fin 1024) : Fin 5120 :=
  ⟨t.val * 1024 + a.val, by have h : t.val < 5 := t.isLt; omega⟩

/-! What a point reads. -/

theorem array0 : V m c main_v0 = dz m c := by
  unfold V
  after_results
  rfl

theorem blk0 (t : Fin cfg0.N) (a : Fin 4096) (d : Fin 1024) :
    iblk m c 0 t (ix2 a d) = dz m c (ix2 a (dzCol t d)) := by
  unfold iblk
  rw [View.read_apply]
  show V m c main_v0 _ = _
  rw [array0]
  congr 1; funext x; apply Fin.ext
  match x with
  | ⟨0, _⟩ => show win0_0.index t 0 * 4096 + 1 * a.val = a.val
              rw [(index0 t).1]; omega
  | ⟨1, _⟩ => show win0_0.index t 1 * 1024 + 1 * d.val = t.val * 1024 + d.val
              rw [(index0 t).2]; omega

theorem array1 : V m c main_v1 = h m c := by
  unfold V
  after_results
  rfl

theorem blk1 (t : Fin cfg0.N) (a : Fin 4096) (d : Fin 1024) :
    iblk m c 1 t (ix2 a d) = h m c (ix2 a d) := by
  unfold iblk
  rw [View.read_apply]
  show V m c main_v1 _ = _
  rw [array1]
  congr 1; funext x; apply Fin.ext
  match x with
  | ⟨0, _⟩ => show win0_1.index t 0 * 4096 + 1 * a.val = a.val
              rw [(index1 t).1]; omega
  | ⟨1, _⟩ => show win0_1.index t 1 * 1024 + 1 * d.val = d.val
              rw [(index1 t).2]; omega

theorem hz : (![0, 0] : Fin 2 → Nat) = fun _ => 0 := funext fun a => by fin_cases a <;> rfl

/-- What a point writes back, -/
theorem after (t : Fin cfg0.N) : (dats m 0 c).flushed 2 t
    = (cfg0.win 2).cut (grid0.coords t) (k0_pay1 (iblk m c 0 t) (iblk m c 1 t)) := by
  rw [Value.flushed2]
  unfold out0_2
  rw [View.canon_unit_zero hz]
  simp only [View.ld_unit_zero (S := S4096x1024) hz]

/-- entry by entry: the entries of its block of the result. -/
theorem pay_apply (t : Fin cfg0.N) (a : Fin 1024) (d : Fin 1024) :
    k0_pay1 (iblk m c 0 t) (iblk m c 1 t) (ix2 a d)
      = entry (h m c) (dz m c) (outRow t a) d := by
  unfold k0_pay1
  pointwise
  simp only [blk0, blk1]
  rfl

theorem cut (f : S1024x1024.Idx → EReal) (G : S5120x1024.Idx → EReal) (t : Fin cfg0.N)
    (h : ∀ (a : Fin 1024) (d : Fin 1024), f (ix2 a d) = G (ix2 (outRow t a) d)) :
    (cfg0.win 2).cut (grid0.coords t) f = ((cfg0.win 2).blk t).view.read (Elt Ideal) G := by
  funext j
  rw [View.read_apply]
  have h0 : (j 0 : ℕ) < 1024 := (j 0).isLt
  have h1 : (j 1 : ℕ) < 1024 := (j 1).isLt
  refine (congrArg f ?_).trans ((h ⟨(j 0 : ℕ), h0⟩ ⟨(j 1 : ℕ), h1⟩).trans (congrArg G ?_))
  · funext x
    match x with
    | ⟨0, _⟩ => rfl
    | ⟨1, _⟩ => rfl
  · funext x; apply Fin.ext
    match x with
    | ⟨0, _⟩ => show t.val * 1024 + (j 0 : ℕ) = win0_2.index t 0 * 1024 + 1 * (j 0 : ℕ)
                rw [(index2 t).1]; omega
    | ⟨1, _⟩ => show (j 1 : ℕ) = win0_2.index t 1 * 1024 + 1 * (j 1 : ℕ)
                rw [(index2 t).2]; omega

theorem flushed (t : Fin cfg0.N) : (dats m 0 c).flushed 2 t
    = ((cfg0.win 2).blk t).view.read (Elt Ideal) (result (h m c) (dz m c)) := by
  rw [after]
  exact cut _ _ t fun a d => pay_apply m c t a d

/-- The blocks cover the result. -/
theorem cover (i : S5120x1024.Idx) : ∃ t : Fin cfg0.N, (cfg0.win 2).flush t = true ∧ i ∈ ((cfg0.win 2).blk t).view.set := by
  have h0 : (i 0 : ℕ) < 5120 := (i 0).isLt
  have h1 : (i 1 : ℕ) < 1024 := (i 1).isLt
  have hN : cfg0.N = 5 := N_0
  obtain ⟨t, ht⟩ : ∃ t : Fin cfg0.N, t.val = (i 0 : ℕ) / 1024 := ⟨⟨_, by omega⟩, rfl⟩
  have e := index2 t
  refine ⟨t, flush0_2 _, ?_⟩
  show i ∈ ((View.whole main_v2).slice (win0_2.rect t)).set
  rw [View.set_slice_whole, Rect.mem_set_unit]
  intro a
  match a with
  | ⟨0, _⟩ => show win0_2.index t 0 * 1024 ≤ (i 0 : ℕ) ∧ (i 0 : ℕ) < win0_2.index t 0 * 1024 + 1024
              rw [e.1, ht]; omega
  | ⟨1, _⟩ => show win0_2.index t 1 * 1024 ≤ (i 1 : ℕ) ∧ (i 1 : ℕ) < win0_2.index t 1 * 1024 + 1024
              rw [e.2]; omega

theorem final : (dats m 0 c).arrAt 2 cfg0.N = (result (h m c) (dz m c)) :=
  (dats m 0 c).arrAt_eq_of_cover 2 _ (fun t _ => flushed m c t) cover

/-- The run, read: the result at its formula, the arguments unchanged. -/
theorem run : θ_run defs (onTc (τ := τ) (main (F := Ideal))) ⟨m, fun _ => 0, ρ⟩ fun r => ∀ c : Dev nD,
      r.2.mem ((c : Thread nD τ).loc main_v2) = (result (h m c) (dz m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Kernel

/-! ## The claims -/

theorem frame_ref : Cert.quiescent_MixInWgradRefIdeal := fun m ρ _ =>
  (θ_run _ _ _).mono (fun r h => ⟨fun c => (h c).2, sem_eq_zero_of_no_sems (by decide) r.2⟩)
    (Cert.MixInWgradRefIdeal.Value.run (F := Ideal) m ρ)

theorem algebraic : Cert.algebraic_MixInWgradIdeal_MixInWgradRefIdeal := by
  intro m ρ m' ρ' _ args
  refine ⟨fun c => (result (h m c) (dz m c)), run m ρ, ?_⟩
  refine (θ_run _ _ _).mono (fun r h c => ?_) (Cert.MixInWgradRefIdeal.Value.run (F := Ideal) m' ρ')
  obtain ⟨a0, a1⟩ := args c
  obtain ⟨h0, hk⟩ := h c
  refine ⟨h0.trans ?_, hk⟩
  rw [Cert.MixInWgradRefIdeal.Read.val_main_v5_eq, a0, a1]
  exact ref_eq _ _

end Cert.Products.MixInWgrad

end
-- ==== Proof.MixInDgradPay.lean ====
/-
  What one point of the gradient through a mixer's norm and product computes from its blocks.
-/
module

public import Idealize.ShloMosaic.Lib.Pointwise
public import proofs.«01_k».proof.Proof.Norm
public import proofs.«01_k».proof.Proof.Gen.MixInDgradIdeal.Skeleton

@[expose] public section

set_option maxRecDepth 16384

noncomputable section

open Idealize.ShloMosaic

namespace Cert.MixIn.Pay

open Cert.MixInDgradIdeal Cert.MixInDgradIdeal.Gen

variable (z : Vec Ideal S512x5120 .bf16) (w : Vec Ideal S5120x1024 .bf16) (x : Vec Ideal S512x1024 .f32)
  (g : Vec Ideal S1x1024 .f32) (res : Vec Ideal S512x1024 .f32) (old : Vec Ideal S1x1024 .f32)

/-- A row of the block, -/
def row (a : Fin 512) : Fin 1024 → EReal := fun k => x (ix2 a k)
/-- what comes back through the product, -/
def dh (a : Fin 512) (k : Fin 1024) : EReal := ∑ j : Fin 5120, z (ix2 a j) * w (ix2 j k)
/-- and through the gain. -/
def dxh (a : Fin 512) : Fin 1024 → EReal := fun k => dh z w a k * g (ix2 0 k)

theorem dh_apply (a : Fin 512) (k : Fin 1024) : k0_pay3 z w (ix2 a k) = dh z w a k := by
  unfold k0_pay3
  pointwise
  rfl

theorem rs_apply (a : Fin 512) : k0_pay4 x (ix2 a 0) = Norm.rs (row x a) := by
  unfold k0_pay4
  pointwise
  simp only [Norm.ofBits_len]
  rfl

theorem hat_apply (a : Fin 512) (k : Fin 1024) : k0_pay5 x (ix2 a k) = Norm.hat (row x a) k := by
  unfold k0_pay5
  pointwise
  rw [rs_apply]
  rfl

theorem dg_apply (k : Fin 1024) : k0_pay6 z w x (ix2 0 k) = ∑ a : Fin 512, dh z w a k * Norm.hat (row x a) k := by
  unfold k0_pay6
  pointwise
  simp only [dh_apply, hat_apply]

theorem more_apply (k : Fin 1024) :
    k0_pay7 z w x old (ix2 0 k) = old (ix2 0 k) + ∑ a : Fin 512, dh z w a k * Norm.hat (row x a) k := by
  unfold k0_pay7
  pointwise
  rw [dg_apply]

theorem dxh_apply (a : Fin 512) (k : Fin 1024) : k0_pay8 z w g (ix2 a k) = dxh z w g a k := by
  unfold k0_pay8
  pointwise
  rw [dh_apply]
  rfl

theorem mean_apply (a : Fin 512) (k : Fin 1024) : k0_pay9 z w x g (ix2 a k)
    = Norm.hat (row x a) k * Ideal.div (∑ j, dxh z w g a j * Norm.hat (row x a) j) Norm.len := by
  unfold k0_pay9
  pointwise
  simp only [hat_apply, dxh_apply, Norm.ofBits_len]

theorem dx_apply (a : Fin 512) (k : Fin 1024) :
    k0_pay1 (k0_pay4 x) (k0_pay8 z w g) res (k0_pay9 z w x g) (ix2 a k)
      = res (ix2 a k) + Norm.grad (row x a) (dxh z w g a) k := by
  unfold k0_pay1
  pointwise
  rw [rs_apply, dxh_apply, mean_apply]
  rfl

/-- The narrowed gradient is the gradient. -/
theorem dx16_eq : k0_pay2 (k0_pay4 x) (k0_pay8 z w g) res (k0_pay9 z w x g)
    = k0_pay1 (k0_pay4 x) (k0_pay8 z w g) res (k0_pay9 z w x g) := rfl

end Cert.MixIn.Pay

end
-- ==== Proof.MixInDgradRef.lean ====
/-
  The gradient through the norm and the product into a mixer: the formulas, and the reference at them.
-/
module

public import Idealize.ShloMosaic.Lib.Pointwise
public import proofs.«01_k».proof.Proof.Norm
public import proofs.«01_k».proof.Proof.Gen.MixInDgradRefIdeal.Read

@[expose] public section

set_option maxRecDepth 16384

noncomputable section

open Idealize.ShloMosaic

namespace Cert.MixIn

section Model
variable (x : (⟨2, ![4096, 1024]⟩ : Shape).Idx → EReal) (g : (⟨2, ![1, 1024]⟩ : Shape).Idx → EReal)
  (w : (⟨2, ![1024, 5120]⟩ : Shape).Idx → EReal) (dz : (⟨2, ![4096, 5120]⟩ : Shape).Idx → EReal)
  (dres : (⟨2, ![4096, 1024]⟩ : Shape).Idx → EReal)

/-- A row of the residual stream, -/
def row (i : Fin 4096) : Fin 1024 → EReal := fun k => x (ix2 i k)
/-- what comes back through the product, -/
def dh (i : Fin 4096) (k : Fin 1024) : EReal := ∑ j : Fin 5120, dz (ix2 i j) * w (ix2 k j)
/-- and through the gain. -/
def dxh (i : Fin 4096) : Fin 1024 → EReal := fun k => dh w dz i k * g (ix2 0 k)

/-- The gradient of the residual stream, -/
def dx (i : Fin 4096) (k : Fin 1024) : EReal := dres (ix2 i k) + Norm.grad (row x i) (dxh g w dz i) k
/-- and of the gain. -/
def dg (k : Fin 1024) : EReal := ∑ i : Fin 4096, dh w dz i k * Norm.hat (row x i) k

/-- The two as arrays. -/
def dxs : (⟨2, ![4096, 1024]⟩ : Shape).Idx → EReal := fun i => dx x g w dz dres (i 0) (i 1)
def dgs : (⟨2, ![1, 1024]⟩ : Shape).Idx → EReal := fun i => dg x w dz (i 1)

/-! ## The reference -/

open Cert.MixInDgradRefIdeal.Read

theorem ref_ms (i : Fin 4096) : val_main_v6 (F := Ideal) x (ix2 i 0) = Norm.ms (row x i) := by
  unfold val_main_v6 val_main_v5 val_main_cst_1 val_main_v4 val_main_v3 val_main_cst_0 val_main_v2 val_main_v1 val_main_cst val_main_v0
  pointwise
  simp only [Norm.ofBits_len, Ideal.ofBits_zero_f32, zero_add]
  rfl

theorem ref_rs (i : Fin 4096) : val_main_v7 (F := Ideal) x (ix2 i 0) = Norm.rs (row x i) := by
  unfold val_main_v7
  pointwise
  rw [ref_ms]
  rfl

theorem ref_hat (i : Fin 4096) (k : Fin 1024) : val_main_v12 (F := Ideal) x (ix2 i k) = Norm.hat (row x i) k := by
  unfold val_main_v12 val_main_v11
  pointwise
  rw [ref_rs]
  rfl

theorem ref_dh (i : Fin 4096) (k : Fin 1024) : val_main_v16 (F := Ideal) w dz (ix2 i k) = dh w dz i k := by
  unfold val_main_v16
  pointwise
  rfl

theorem ref_dg (k : Fin 1024) : val_main_v19 (F := Ideal) x w dz (ix2 0 k) = dg x w dz k := by
  unfold val_main_v19 val_main_v18 val_main_cst_3 val_main_v17
  pointwise
  simp only [ref_hat, ref_dh, Ideal.ofBits_zero_f32, zero_add]
  exact Finset.sum_congr rfl fun i _ => mul_comm _ _

theorem ref_dxh (i : Fin 4096) (k : Fin 1024) : val_main_v21 (F := Ideal) g w dz (ix2 i k) = dxh g w dz i k := by
  unfold val_main_v21 val_main_v20
  pointwise
  rw [ref_dh]
  rfl

theorem ref_slope (i : Fin 4096) (k : Fin 1024) :
    val_main_v31 (F := Ideal) x g w dz (ix2 i k) = Norm.slope (row x i) (dxh g w dz i) := by
  unfold val_main_v31 val_main_v30 val_main_cst_6 val_main_v29 val_main_v28 val_main_cst_5 val_main_v27 val_main_v10 val_main_v9 val_main_cst_2
    val_main_v8 val_main_v24 val_main_v23 val_main_cst_4 val_main_v22
  pointwise
  simp only [Fin.sum_univ_one, ref_dxh, Ideal.ofBits_zero_f32, zero_add, Norm.ofBits_len, Norm.ofBits_mhalf]
  rw [ref_rs, ref_ms]
  rfl

theorem ref_dx (i : Fin 4096) (k : Fin 1024) :
    val_main_v36 (F := Ideal) x g w dz dres (ix2 i k) = dx x g w dz dres i k := by
  unfold dx
  rw [← Norm.chainGrad_eq (row x i)]
  unfold val_main_v36 val_main_v35 val_main_v34 val_main_v33 val_main_v32 val_main_v26 val_main_v25
  pointwise
  rw [ref_slope, ref_dxh, ref_rs]
  rfl

theorem ref_dxs : val_main_v36 (F := Ideal) x g w dz dres = dxs x g w dz dres := by
  funext i
  obtain ⟨a, b, rfl⟩ : ∃ a b, i = ix2 a b := ⟨i 0, i 1, by funext x; match x with | ⟨0, _⟩ => rfl | ⟨1, _⟩ => rfl⟩
  exact ref_dx x g w dz dres a b

theorem ref_dgs : val_main_v19 (F := Ideal) x w dz = dgs x w dz := by
  funext i
  obtain ⟨a, b, rfl⟩ : ∃ a b, i = ix2 a b := ⟨i 0, i 1, by funext x; match x with | ⟨0, _⟩ => rfl | ⟨1, _⟩ => rfl⟩
  obtain rfl : a = 0 := Subsingleton.elim _ _
  exact ref_dg x w dz b

end Model

end Cert.MixIn

end
-- ==== Proof.MixInDgrad.lean ====
/-
  The gradient through a mixer's norm and product, by the kernel: a tile of 512 rows at a point, the gain's gradient
  added up over the points.
-/
module

public import Idealize.ShloMosaic.Lib.Pointwise
public import proofs.«01_k».proof.Proof.Blocks
public import proofs.«01_k».proof.Proof.MixInDgradPay
public import proofs.«01_k».proof.Proof.MixInDgradRef
public import proofs.«01_k».proof.Proof.Gen.MixInDgradIdeal.Value

@[expose] public section

set_option maxRecDepth 16384

noncomputable section

open Idealize.ShloMosaic Idealize.ShloMosaic.TcCoe Idealize.SL.Sem

namespace Cert.MixIn.Kernel

open Cert.MixInDgradIdeal Cert.MixInDgradIdeal.Gen

variable (m : (ℓ : Loc nD τ sig) → Buf (Elt Ideal) ℓ) (ρ : Dev nD → PrngReg) (c : Dev nD)
abbrev x : S4096x1024.Idx → EReal := m ((c : Thread nD τ).loc main_arg0)
abbrev g : S1x1024.Idx → EReal := m ((c : Thread nD τ).loc main_arg1)
abbrev w : S1024x5120.Idx → EReal := m ((c : Thread nD τ).loc main_arg2)
abbrev dz : S4096x5120.Idx → EReal := m ((c : Thread nD τ).loc main_arg3)
abbrev dres : S4096x1024.Idx → EReal := m ((c : Thread nD τ).loc main_arg4)

/-! Where the block of a point lies in an array. -/

def at_ (t : Fin cfg0.N) (a : Fin 512) : Fin 4096 :=
  ⟨t.val * 512 + a.val, by have h : t.val < 8 := t.isLt; omega⟩
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)

/-! What a point reads. -/

theorem array0 : V m c main_v0 = dz m c := by
  unfold V
  after_results
  rfl

theorem array1 (j : Fin 5120) (k : Fin 1024) : V m c main_v2 (ix2 j k) = w m c (ix2 k j) := by
  unfold V
  after_results
  pointwise

theorem blk0 (t : Fin cfg0.N) (a : Fin 512) (d : Fin 5120) : iblk m c 0 t (ix2 a d) = dz m c (ix2 (at_ t a) d) := by
  unfold iblk
  rw [View.read_apply]
  show V m c main_v0 _ = _
  rw [array0]
  congr 1; funext q; apply Fin.ext
  match q with
  | ⟨0, _⟩ => show win0_0.index t 0 * 512 + 1 * a.val = t.val * 512 + a.val
              rw [(index0 t).1]; omega
  | ⟨1, _⟩ => show win0_0.index t 1 * 5120 + 1 * d.val = d.val
              rw [(index0 t).2]; omega

theorem blk1 (t : Fin cfg0.N) (a : Fin 5120) (d : Fin 1024) : iblk m c 1 t (ix2 a d) = w m c (ix2 d a) := by
  rw [← array1]
  unfold iblk
  rw [View.read_apply]
  show V m c main_v2 _ = _
  congr 1; funext q; apply Fin.ext
  match q with
  | ⟨0, _⟩ => show win0_1.index t 0 * 5120 + 1 * a.val = a.val
              rw [(index1 t).1]; omega
  | ⟨1, _⟩ => show win0_1.index t 1 * 1024 + 1 * d.val = d.val
              rw [(index1 t).2]; omega

theorem blk2 (t : Fin cfg0.N) (a : Fin 512) (d : Fin 1024) : iblk m c 2 t (ix2 a d) = x m c (ix2 (at_ t a) d) := by
  unfold iblk
  rw [View.read_apply]
  show V m c main_arg0 _ = _
  rw [V_main_arg0 m c]
  congr 1; funext q; apply Fin.ext
  match q with
  | ⟨0, _⟩ => show win0_2.index t 0 * 512 + 1 * a.val = t.val * 512 + a.val
              rw [(index2 t).1]; omega
  | ⟨1, _⟩ => show win0_2.index t 1 * 1024 + 1 * d.val = d.val
              rw [(index2 t).2]; omega

theorem blk3 (t : Fin cfg0.N) (a : Fin 1) (d : Fin 1024) : iblk m c 3 t (ix2 a d) = g m c (ix2 a d) := by
  unfold iblk
  rw [View.read_apply]
  show V m c main_arg1 _ = _
  rw [V_main_arg1 m c]
  congr 1; funext q; apply Fin.ext
  match q with
  | ⟨0, _⟩ => show win0_3.index t 0 * 1 + 1 * a.val = a.val
              rw [(index3 t).1]; omega
  | ⟨1, _⟩ => show win0_3.index t 1 * 1024 + 1 * d.val = d.val
              rw [(index3 t).2]; omega

theorem blk4 (t : Fin cfg0.N) (a : Fin 512) (d : Fin 1024) : iblk m c 4 t (ix2 a d) = dres m c (ix2 (at_ t a) d) := by
  unfold iblk
  rw [View.read_apply]
  show V m c main_arg4 _ = _
  rw [V_main_arg4 m c]
  congr 1; funext q; apply Fin.ext
  match q with
  | ⟨0, _⟩ => show win0_4.index t 0 * 512 + 1 * a.val = t.val * 512 + a.val
              rw [(index4 t).1]; omega
  | ⟨1, _⟩ => show win0_4.index t 1 * 1024 + 1 * d.val = d.val
              rw [(index4 t).2]; omega

/-! The point's rows are the rows of the arrays. -/

theorem row_eq (t : Fin cfg0.N) (a : Fin 512) : Pay.row (iblk m c 2 t) a = row (x m c) (at_ t a) :=
  funext fun k => blk2 m c t a k

theorem dh_eq (t : Fin cfg0.N) (a : Fin 512) (k : Fin 1024) :
    Pay.dh (iblk m c 0 t) (iblk m c 1 t) a k = dh (w m c) (dz m c) (at_ t a) k :=
  Finset.sum_congr rfl fun j _ => by rw [blk0, blk1]

theorem dxh_eq (t : Fin cfg0.N) (a : Fin 512) :
    Pay.dxh (iblk m c 0 t) (iblk m c 1 t) (iblk m c 3 t) a = dxh (g m c) (w m c) (dz m c) (at_ t a) := by
  funext k
  show Pay.dh _ _ a k * iblk m c 3 t (ix2 0 k) = _
  rw [dh_eq, blk3]
  rfl

/-! ## The gradient of the residual stream -/

theorem hz : (![0, 0] : Fin 2 → Nat) = fun _ => 0 := funext fun a => by fin_cases a <;> rfl

/-- What a point computes, -/
abbrev tile (t : Fin cfg0.N) : Vec Ideal S512x1024 .f32 :=
  k0_pay1 (k0_pay4 (iblk m c 2 t)) (k0_pay8 (iblk m c 0 t) (iblk m c 1 t) (iblk m c 3 t)) (iblk m c 4 t)
    (k0_pay9 (iblk m c 0 t) (iblk m c 1 t) (iblk m c 2 t) (iblk m c 3 t))

/-- entry by entry. -/
theorem tile_apply (t : Fin cfg0.N) (a : Fin 512) (k : Fin 1024) :
    tile m c t (ix2 a k) = dx (x m c) (g m c) (w m c) (dz m c) (dres m c) (at_ t a) k := by
  refine (Pay.dx_apply ..).trans ?_
  rw [row_eq, dxh_eq, blk4]
  rfl

/-! What is written back, at the first point and at the others. -/

theorem after5_A (t : Fin cfg0.N) (h0 : t.val % 8 = 0) (h1 : ¬1 ≤ t.val) : (dats m 0 c).flushed 5 t
    = (cfg0.win 5).cut (grid0.coords t) (tile m c t) := by
  rw [Value.flushed5_A m c t h0 h1]
  unfold out0_A_5
  rw [View.read_writes_eq_canon _ _ _ (fun _ => cover0_A_5 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S512x5120) hz, View.ld_unit_zero (S := S5120x1024) hz, View.ld_unit_zero (S := S512x1024) hz, View.ld_unit_zero (S := S1x1024) hz]

theorem after5_B (t : Fin cfg0.N) (h0 : ¬t.val % 8 = 0) (h1 : 1 ≤ t.val) : (dats m 0 c).flushed 5 t
    = (cfg0.win 5).cut (grid0.coords t) (tile m c t) := by
  rw [Value.flushed5_B m c t h0 h1]
  unfold out0_B_5
  rw [View.read_writes_eq_canon _ _ _ (fun _ => cover0_B_5 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S512x5120) hz, View.ld_unit_zero (S := S5120x1024) hz, View.ld_unit_zero (S := S512x1024) hz, View.ld_unit_zero (S := S1x1024) hz]

theorem after6_A (t : Fin cfg0.N) (h0 : t.val % 8 = 0) (h1 : ¬1 ≤ t.val) : (dats m 0 c).flushed 6 t
    = (cfg0.win 6).cut (grid0.coords t) (k0_pay2 (k0_pay4 (iblk m c 2 t)) (k0_pay8 (iblk m c 0 t) (iblk m c 1 t) (iblk m c 3 t)) (iblk m c 4 t)
      (k0_pay9 (iblk m c 0 t) (iblk m c 1 t) (iblk m c 2 t) (iblk m c 3 t))) := by
  rw [Value.flushed6_A m c t h0 h1]
  unfold out0_A_6
  rw [View.read_writes_eq_canon _ _ _ (fun _ => cover0_A_6 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S512x5120) hz, View.ld_unit_zero (S := S5120x1024) hz, View.ld_unit_zero (S := S512x1024) hz, View.ld_unit_zero (S := S1x1024) hz]

theorem after6_B (t : Fin cfg0.N) (h0 : ¬t.val % 8 = 0) (h1 : 1 ≤ t.val) : (dats m 0 c).flushed 6 t
    = (cfg0.win 6).cut (grid0.coords t) (k0_pay2 (k0_pay4 (iblk m c 2 t)) (k0_pay8 (iblk m c 0 t) (iblk m c 1 t) (iblk m c 3 t)) (iblk m c 4 t)
      (k0_pay9 (iblk m c 0 t) (iblk m c 1 t) (iblk m c 2 t) (iblk m c 3 t))) := by
  rw [Value.flushed6_B m c t h0 h1]
  unfold out0_B_6
  rw [View.read_writes_eq_canon _ _ _ (fun _ => cover0_B_6 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S512x5120) hz, View.ld_unit_zero (S := S5120x1024) hz, View.ld_unit_zero (S := S512x1024) hz, View.ld_unit_zero (S := S1x1024) hz]

theorem after5 (t : Fin cfg0.N) : (dats m 0 c).flushed 5 t = (cfg0.win 5).cut (grid0.coords t) (tile m c t) := by
  have hN : t.val < 8 := t.isLt
  by_cases h : t.val % 8 = 0
  · exact after5_A m c t h (by omega)
  · exact after5_B m c t h (by omega)

theorem cut5 (f : S512x1024.Idx → EReal) (G : S4096x1024.Idx → EReal) (t : Fin cfg0.N)
    (h : ∀ (a : Fin 512) (d : Fin 1024), f (ix2 a d) = G (ix2 (at_ t a) d)) :
    (cfg0.win 5).cut (grid0.coords t) f = ((cfg0.win 5).blk t).view.read (Elt Ideal) G := by
  funext j
  rw [View.read_apply]
  have h0 : (j 0 : ℕ) < 512 := (j 0).isLt
  have h1 : (j 1 : ℕ) < 1024 := (j 1).isLt
  refine (congrArg f ?_).trans ((h ⟨(j 0 : ℕ), h0⟩ ⟨(j 1 : ℕ), h1⟩).trans (congrArg G ?_))
  · funext q
    match q with
    | ⟨0, _⟩ => rfl
    | ⟨1, _⟩ => rfl
  · funext q; apply Fin.ext
    match q with
    | ⟨0, _⟩ => show t.val * 512 + (j 0 : ℕ) = win0_5.index t 0 * 512 + 1 * (j 0 : ℕ)
                rw [(index5 t).1]; omega
    | ⟨1, _⟩ => show (j 1 : ℕ) = win0_5.index t 1 * 1024 + 1 * (j 1 : ℕ)
                rw [(index5 t).2]; omega

theorem flushed5 (t : Fin cfg0.N) : (dats m 0 c).flushed 5 t
    = ((cfg0.win 5).blk t).view.read (Elt Ideal) (dxs (x m c) (g m c) (w m c) (dz m c) (dres m c)) := by
  rw [after5]
  exact cut5 _ _ t fun a d => tile_apply m c t a d

theorem cover5 (i : S4096x1024.Idx) : ∃ t : Fin cfg0.N, (cfg0.win 5).flush t = true ∧ i ∈ ((cfg0.win 5).blk t).view.set := by
  have h0 : (i 0 : ℕ) < 4096 := (i 0).isLt
  have h1 : (i 1 : ℕ) < 1024 := (i 1).isLt
  have hN : cfg0.N = 8 := N_0
  obtain ⟨t, ht⟩ : ∃ t : Fin cfg0.N, t.val = (i 0 : ℕ) / 512 := ⟨⟨_, by omega⟩, rfl⟩
  have e := index5 t
  refine ⟨t, flush0_5 _, ?_⟩
  show i ∈ ((View.whole main_v3_0).slice (win0_5.rect t)).set
  rw [View.set_slice_whole, Rect.mem_set_unit]
  intro a
  match a with
  | ⟨0, _⟩ => show win0_5.index t 0 * 512 ≤ (i 0 : ℕ) ∧ (i 0 : ℕ) < win0_5.index t 0 * 512 + 512
              rw [e.1, ht]; omega
  | ⟨1, _⟩ => show win0_5.index t 1 * 1024 ≤ (i 1 : ℕ) ∧ (i 1 : ℕ) < win0_5.index t 1 * 1024 + 1024
              rw [e.2]; omega

theorem final5 : (dats m 0 c).arrAt 5 cfg0.N = dxs (x m c) (g m c) (w m c) (dz m c) (dres m c) :=
  (dats m 0 c).arrAt_eq_of_cover 5 _ (fun t _ => flushed5 m c t) cover5

theorem after6 (t : Fin cfg0.N) : (dats m 0 c).flushed 6 t = (cfg0.win 6).cut (grid0.coords t) (tile m c t) := by
  have hN : t.val < 8 := t.isLt
  by_cases h : t.val % 8 = 0
  · exact after6_A m c t h (by omega)
  · exact after6_B m c t h (by omega)

theorem cut6 (f : S512x1024.Idx → EReal) (G : S4096x1024.Idx → EReal) (t : Fin cfg0.N)
    (h : ∀ (a : Fin 512) (d : Fin 1024), f (ix2 a d) = G (ix2 (at_ t a) d)) :
    (cfg0.win 6).cut (grid0.coords t) f = ((cfg0.win 6).blk t).view.read (Elt Ideal) G := by
  funext j
  rw [View.read_apply]
  have h0 : (j 0 : ℕ) < 512 := (j 0).isLt
  have h1 : (j 1 : ℕ) < 1024 := (j 1).isLt
  refine (congrArg f ?_).trans ((h ⟨(j 0 : ℕ), h0⟩ ⟨(j 1 : ℕ), h1⟩).trans (congrArg G ?_))
  · funext q
    match q with
    | ⟨0, _⟩ => rfl
    | ⟨1, _⟩ => rfl
  · funext q; apply Fin.ext
    match q with
    | ⟨0, _⟩ => show t.val * 512 + (j 0 : ℕ) = win0_6.index t 0 * 512 + 1 * (j 0 : ℕ)
                rw [(index6 t).1]; omega
    | ⟨1, _⟩ => show (j 1 : ℕ) = win0_6.index t 1 * 1024 + 1 * (j 1 : ℕ)
                rw [(index6 t).2]; omega

theorem flushed6 (t : Fin cfg0.N) : (dats m 0 c).flushed 6 t
    = ((cfg0.win 6).blk t).view.read (Elt Ideal) (dxs (x m c) (g m c) (w m c) (dz m c) (dres m c)) := by
  rw [after6]
  exact cut6 _ _ t fun a d => tile_apply m c t a d

theorem cover6 (i : S4096x1024.Idx) : ∃ t : Fin cfg0.N, (cfg0.win 6).flush t = true ∧ i ∈ ((cfg0.win 6).blk t).view.set := by
  have h0 : (i 0 : ℕ) < 4096 := (i 0).isLt
  have h1 : (i 1 : ℕ) < 1024 := (i 1).isLt
  have hN : cfg0.N = 8 := N_0
  obtain ⟨t, ht⟩ : ∃ t : Fin cfg0.N, t.val = (i 0 : ℕ) / 512 := ⟨⟨_, by omega⟩, rfl⟩
  have e := index6 t
  refine ⟨t, flush0_6 _, ?_⟩
  show i ∈ ((View.whole main_v3_1).slice (win0_6.rect t)).set
  rw [View.set_slice_whole, Rect.mem_set_unit]
  intro a
  match a with
  | ⟨0, _⟩ => show win0_6.index t 0 * 512 ≤ (i 0 : ℕ) ∧ (i 0 : ℕ) < win0_6.index t 0 * 512 + 512
              rw [e.1, ht]; omega
  | ⟨1, _⟩ => show win0_6.index t 1 * 1024 ≤ (i 1 : ℕ) ∧ (i 1 : ℕ) < win0_6.index t 1 * 1024 + 1024
              rw [e.2]; omega

theorem final6 : (dats m 0 c).arrAt 6 cfg0.N = dxs (x m c) (g m c) (w m c) (dz m c) (dres m c) :=
  (dats m 0 c).arrAt_eq_of_cover 6 _ (fun t _ => flushed6 m c t) cover6

/-! ## The gradient of the gain -/

/-! What its array holds after a point: after the first the point's sum, after another what was there and the point's sum. -/

theorem gain_A (t : Fin cfg0.N) (h0 : t.val % 8 = 0) (h1 : ¬1 ≤ t.val) : (outsAt0 m c t.val t.isLt).2.2 = k0_pay6 (iblk m c 0 t) (iblk m c 1 t) (iblk m c 2 t) := by
  rw [outsAt0_A m c t h0 h1]
  dsimp only
  unfold out0_A_7
  rw [View.read_writes_eq_canon _ _ _ (fun _ => cover0_A_7 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_7 t).read_unread,
    View.ld_unit_zero (S := S512x5120) hz, View.ld_unit_zero (S := S5120x1024) hz, View.ld_unit_zero (S := S512x1024) hz, View.ld_unit_zero (S := S1x1024) hz]

theorem gain_B (t : Fin cfg0.N) (h0 : ¬t.val % 8 = 0) (h1 : 1 ≤ t.val) : (outsAt0 m c t.val t.isLt).2.2 = k0_pay7 (iblk m c 0 t) (iblk m c 1 t) (iblk m c 2 t)
      (outsAt0 m c (t.val - 1) (Nat.lt_of_le_of_lt (Nat.sub_le _ _) t.isLt)).2.2 := by
  rw [outsAt0_B m c t h0 h1]
  dsimp only
  unfold out0_B_7
  rw [View.read_writes_eq_canon _ _ _ (fun _ => cover0_B_7 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_7 t).read_unread,
    View.ld_unit_zero (S := S512x5120) hz, View.ld_unit_zero (S := S5120x1024) hz, View.ld_unit_zero (S := S512x1024) hz, View.ld_unit_zero (S := S1x1024) hz]

/-- A point's sum. -/
def part (k : Fin 1024) (n : ℕ) : EReal :=
  if h : n < cfg0.N then ∑ a : Fin 512, dh (w m c) (dz m c) (at_ ⟨n, h⟩ a) k * Norm.hat (row (x m c) (at_ ⟨n, h⟩ a)) k else 0

theorem part_eq (k : Fin 1024) (t : Fin cfg0.N) :
    ∑ a : Fin 512, Pay.dh (iblk m c 0 t) (iblk m c 1 t) a k * Norm.hat (Pay.row (iblk m c 2 t) a) k = part m c k t.val := by
  unfold part
  rw [dif_pos t.isLt]
  exact Finset.sum_congr rfl fun a _ => by rw [dh_eq, row_eq]

/-- After a point the array holds the running sum, -/
theorem gain (k : Fin 1024) : ∀ (n : ℕ) (h : n < cfg0.N), (outsAt0 m c n h).2.2 (ix2 0 k) = Blocks.acc (part m c k) n
  | 0, h => by
    rw [gain_A m c ⟨0, h⟩ rfl (by simp), Pay.dg_apply, part_eq]
    rfl
  | n + 1, h => by
    have hN : cfg0.N = 8 := N_0
    have h0 : ¬(⟨n + 1, h⟩ : Fin cfg0.N).val % 8 = 0 := by dsimp only; omega
    rw [gain_B m c ⟨n + 1, h⟩ h0 (Nat.succ_le_succ (Nat.zero_le n)), Pay.more_apply, part_eq]
    exact congrArg (· + part m c k (n + 1)) (gain k n (Nat.lt_of_succ_lt h))

/-- and after the last the sum over all rows. -/
theorem gain_last (k : Fin 1024) (h : 7 < cfg0.N) : (outsAt0 m c 7 h).2.2 (ix2 0 k) = dg (x m c) (w m c) (dz m c) k := by
  rw [gain]
  refine Blocks.acc_rows (B := 512) (R := 4096) rfl _ _ fun t ht => ?_
  have hN : cfg0.N = 8 := N_0
  unfold part
  rw [dif_pos (show t < cfg0.N by omega)]
  rfl

theorem cut7 (f G : S1x1024.Idx → EReal) (t : Fin cfg0.N) (h : ∀ (k : Fin 1024), f (ix2 0 k) = G (ix2 0 k)) :
    (cfg0.win 7).cut (grid0.coords t) f = ((cfg0.win 7).blk t).view.read (Elt Ideal) G := by
  funext j
  rw [View.read_apply]
  have h0 : (j 0 : ℕ) < 1 := (j 0).isLt
  have h1 : (j 1 : ℕ) < 1024 := (j 1).isLt
  refine (congrArg f ?_).trans ((h ⟨(j 1 : ℕ), h1⟩).trans (congrArg G ?_))
  · funext q; apply Fin.ext
    match q with
    | ⟨0, _⟩ => show (j 0 : ℕ) = 0
                omega
    | ⟨1, _⟩ => rfl
  · funext q; apply Fin.ext
    match q with
    | ⟨0, _⟩ => show 0 = win0_7.index t 0 * 1 + 1 * (j 0 : ℕ)
                rw [(index7 t).1]; omega
    | ⟨1, _⟩ => show (j 1 : ℕ) = win0_7.index t 1 * 1024 + 1 * (j 1 : ℕ)
                rw [(index7 t).2]; omega

theorem flushed7 (t : Fin cfg0.N) (hf : (cfg0.win 7).flush t = true) : (dats m 0 c).flushed 7 t
    = ((cfg0.win 7).blk t).view.read (Elt Ideal) (dgs (x m c) (w m c) (dz m c)) := by
  have hN : cfg0.N = 8 := N_0
  have h7 : t.val = 7 := by have := (flush0_7 t).mp hf; have := t.isLt; omega
  obtain ⟨n, hn⟩ := t
  obtain rfl : n = 7 := h7
  rw [Value.flushed7]
  exact cut7 _ _ _ fun k => gain_last m c k hn

theorem cover7 (i : S1x1024.Idx) : ∃ t : Fin cfg0.N, (cfg0.win 7).flush t = true ∧ i ∈ ((cfg0.win 7).blk t).view.set := by
  have h0 : (i 0 : ℕ) < 1 := (i 0).isLt
  have h1 : (i 1 : ℕ) < 1024 := (i 1).isLt
  have hN : cfg0.N = 8 := N_0
  obtain ⟨t, ht⟩ : ∃ t : Fin cfg0.N, t.val = 7 := ⟨⟨_, by omega⟩, rfl⟩
  have e := index7 t
  refine ⟨t, (flush0_7 t).mpr (by omega), ?_⟩
  show i ∈ ((View.whole main_v3_2).slice (win0_7.rect t)).set
  rw [View.set_slice_whole, Rect.mem_set_unit]
  intro a
  match a with
  | ⟨0, _⟩ => show win0_7.index t 0 * 1 ≤ (i 0 : ℕ) ∧ (i 0 : ℕ) < win0_7.index t 0 * 1 + 1
              rw [e.1]; omega
  | ⟨1, _⟩ => show win0_7.index t 1 * 1024 ≤ (i 1 : ℕ) ∧ (i 1 : ℕ) < win0_7.index t 1 * 1024 + 1024
              rw [e.2]; omega

theorem final7 : (dats m 0 c).arrAt 7 cfg0.N = dgs (x m c) (w m c) (dz m c) :=
  (dats m 0 c).arrAt_eq_of_cover 7 _ (flushed7 m c) cover7

/-- The run, read: the results at their formulas, the arguments unchanged. -/
theorem run : θ_run defs (onTc (τ := τ) (main (F := Ideal))) ⟨m, fun _ => 0, ρ⟩ fun r => ∀ c : Dev nD,
      r.2.mem ((c : Thread nD τ).loc main_v3_0) = dxs (x m c) (g m c) (w m c) (dz m c) (dres m c)
      ∧ r.2.mem ((c : Thread nD τ).loc main_v3_1) = dxs (x m c) (g m c) (w m c) (dz m c) (dres m c)
      ∧ r.2.mem ((c : Thread nD τ).loc main_v3_2) = dgs (x m c) (w m c) (dz m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c),
    (h c).2.2.2⟩) (Value.run_blocks m ρ)

end Cert.MixIn.Kernel

end
-- ==== Proof.MixInDgradClaim.lean ====
/-
  The claims of the gradient through a mixer's norm and product.
-/
module

public import Idealize.ShloMosaic.Lib.Pointwise
public import Idealize.ShloMosaic.Lib.Quiescent
public import proofs.«01_k».proof.Defs
public import proofs.«01_k».proof.Proof.MixInDgrad
public import proofs.«01_k».proof.Proof.Gen.MixInDgradRefIdeal.Run

@[expose] public section

set_option maxRecDepth 16384

noncomputable section

open Idealize.ShloMosaic Idealize.ShloMosaic.TcCoe Idealize.SL.Sem

namespace Cert.MixIn

theorem frame_ref : Cert.quiescent_MixInDgradRefIdeal := fun m ρ _ =>
  (θ_run _ _ _).mono (fun r h => ⟨fun c => (h c).2.2.2, sem_eq_zero_of_no_sems (by decide) r.2⟩)
    (Cert.MixInDgradRefIdeal.Value.run (F := Ideal) m ρ)

theorem algebraic : Cert.algebraic_MixInDgradIdeal_MixInDgradRefIdeal := by
  intro m ρ m' ρ' _ args
  open Kernel in
  refine ⟨fun c => dxs (x m c) (g m c) (w m c) (dz m c) (dres m c), fun c => dxs (x m c) (g m c) (w m c) (dz m c) (dres m c),
    fun c => dgs (x m c) (w m c) (dz m c), run m ρ, ?_⟩
  refine (θ_run _ _ _).mono (fun r h c => ?_) (Cert.MixInDgradRefIdeal.Value.run (F := Ideal) m' ρ')
  obtain ⟨a0, a1, a2, a3, a4⟩ := args c
  obtain ⟨h0, h1, h2, hk⟩ := h c
  refine ⟨h0.trans ?_, h1.trans ?_, h2.trans ?_, hk⟩
  · rw [Cert.MixInDgradRefIdeal.Read.val_main_v36_eq, a0, a1, a2, a3, a4]
    exact ref_dxs _ _ _ _ _
  · rw [Cert.MixInDgradRefIdeal.Read.val_main_v37_eq, a0, a1, a2, a3, a4]
    exact ref_dxs _ _ _ _ _
  · rw [Cert.MixInDgradRefIdeal.Read.val_main_v19_eq, a0, a2, a3]
    exact ref_dgs _ _ _

end Cert.MixIn

end
-- ==== Proof.Pieces.lean ====
/-
  A block put together from the pieces that the stores of a point leave in it.
-/
module

public import Idealize.ShloMosaic.PureOps.Ideal.Laws
public import Idealize.ShloMosaic.Lib.Pipeline.ReadBack
public import Idealize.ShloMosaic.Lib.Pipeline.ValueKit.Tiles

@[expose] public section

noncomputable section

open Idealize.ShloMosaic

namespace Cert.Pieces

/-- Pieces that are all of one function, and cover the block, give the function. -/
theorem canon_eq {s : Shape} {e : EltTy} {L : List (View.Piece (Elt Ideal) s e)} (G : s.Idx → Elt Ideal e) (h : View.PiecesOf G L)
    (hc : ∀ y, ∃ p ∈ L, y ∈ p.1.set) : View.canon L = G :=
  funext fun y => by
    have := View.canon_append_of_piecesOf G [] L h y (hc y)
    rwa [List.append_nil] at this

end Cert.Pieces

end
-- ==== Proof.Ffn.lean ====
/-
  A half-step SwiGLU network of one row, over the extended reals: the norm, the two halves of the first product, the
  gate, the second product, and the gradients through them. The kernel writes the logistic function as a hyperbolic
  tangent and factors the gate's derivative; both are proved equal to the textbook forms here.
-/
module

public import proofs.«01_k».proof.Proof.Norm

@[expose] public section

noncomputable section

open Idealize.ShloMosaic

namespace Cert.Ffn

open Reals

/-! ## The gate -/

/-- The logistic function, -/
def logistic (v : EReal) : EReal := Ideal.div 1 (1 + Ideal.exp (-v))
/-- and the same by a hyperbolic tangent. -/
def tlogistic (v : EReal) : EReal := half * Ideal.tanh (half * v) + half

/-- `v` times the logistic function of `v`, -/
def silu (v : EReal) : EReal := v * logistic v
/-- the derivative of `silu v * u` in `v`, by the product rule, -/
def slope (v u : EReal) : EReal := u * logistic v + v * u * (logistic v * (1 - logistic v))
/-- and with `u` in front. -/
def fslope (v u : EReal) : EReal := u * (logistic v + v * logistic v * (1 - logistic v))

theorem logistic_coe (v : ℝ) : logistic v = (((1 + Real.exp (-v))⁻¹ : ℝ) : EReal) := by
  have h : (1 : EReal) + Ideal.exp (-(v : EReal)) = ((1 + Real.exp (-v) : ℝ) : EReal) := by
    rw [← EReal.coe_neg, EReal.coe_add]
    rfl
  unfold logistic
  rw [h, Norm.div_coe _ (by positivity), one_mul]

theorem tanh_half (v : ℝ) : 1 / 2 * Real.tanh (1 / 2 * v) + 1 / 2 = (1 + Real.exp (-v))⁻¹ := by
  have e : Real.exp (-v) = Real.exp (-(1 / 2 * v)) * Real.exp (-(1 / 2 * v)) := by rw [← Real.exp_add]; congr 1; ring
  have hp := Real.exp_pos (1 / 2 * v)
  rw [Real.tanh_eq_sinh_div_cosh, Real.sinh_eq, Real.cosh_eq, e, Real.exp_neg]
  field_simp
  ring

/-- The two logistic functions are the same, -/
theorem tlogistic_eq (v : EReal) : tlogistic v = logistic v := by
  induction v with
  | bot =>
    have h : half * (⊥ : EReal) = ⊥ := EReal.coe_mul_bot_of_pos (by norm_num)
    unfold tlogistic logistic
    rw [h, EReal.neg_bot]
    show half * (-1) + half = Ideal.div 1 (1 + ⊤)
    rw [EReal.add_top_of_ne_bot (by decide)]
    unfold Ideal.div half
    rw [if_neg (by decide), EReal.inv_top, mul_zero, mul_neg, mul_one, ← EReal.coe_neg, ← EReal.coe_add]
    norm_num
  | top =>
    have h : half * (⊤ : EReal) = ⊤ := EReal.coe_mul_top_of_pos (by norm_num)
    unfold tlogistic logistic
    rw [h, EReal.neg_top]
    show half * 1 + half = Ideal.div 1 (1 + 0)
    unfold Ideal.div half
    rw [add_zero, if_neg (one_ne_zero), inv_one, mul_one, mul_one, ← EReal.coe_add]
    norm_num
  | coe v =>
    rw [logistic_coe, ← tanh_half]
    unfold tlogistic half
    rw [← EReal.coe_mul]
    show ((1 / 2 : ℝ) : EReal) * ((Real.tanh (1 / 2 * v) : ℝ) : EReal) + _ = _
    rw [← EReal.coe_mul, ← EReal.coe_add]

theorem logistic_fin {v : EReal} (hv : Fin' v) : Fin' (logistic v) := by
  obtain ⟨r, rfl⟩ := hv
  exact ⟨_, logistic_coe r⟩

/-- and so are the two derivatives, where the arguments are real. -/
theorem fslope_eq {v u : EReal} (hv : Fin' v) (hu : Fin' u) : fslope v u = slope v u := by
  obtain ⟨s, hs⟩ := logistic_fin hv
  obtain ⟨v, rfl⟩ := hv
  obtain ⟨u, rfl⟩ := hu
  unfold fslope slope
  rw [hs]
  have h1 : (1 : EReal) - (s : EReal) = ((1 - s : ℝ) : EReal) := by rw [EReal.coe_sub]; rfl
  rw [h1]
  simp only [← EReal.coe_mul, ← EReal.coe_add]
  congr 1
  ring

theorem silu_fin {v : EReal} (hv : Fin' v) : Fin' (silu v) := hv.mul (logistic_fin hv)

theorem slope_fin {v u : EReal} (hv : Fin' v) (hu : Fin' u) : Fin' (slope v u) := by
  rw [← fslope_eq hv hu]
  obtain ⟨s, hs⟩ := logistic_fin hv
  have h1 : Fin' (1 - logistic v) := ⟨1 - s, by rw [hs, EReal.coe_sub]; rfl⟩
  exact hu.mul ((logistic_fin hv).add ((hv.mul (logistic_fin hv)).mul h1))

/-- A factor in front of the derivative goes to the other factor. -/
theorem mul_slope {d v u : EReal} (hd : Fin' d) (hv : Fin' v) (hu : Fin' u) : slope v (d * u) = d * slope v u := by
  obtain ⟨s, hs⟩ := logistic_fin hv
  obtain ⟨v, rfl⟩ := hv
  obtain ⟨u, rfl⟩ := hu
  obtain ⟨d, rfl⟩ := hd
  unfold slope
  rw [hs]
  have h1 : (1 : EReal) - (s : EReal) = ((1 - s : ℝ) : EReal) := by rw [EReal.coe_sub]; rfl
  rw [h1]
  simp only [← EReal.coe_mul, ← EReal.coe_add]
  congr 1
  ring

/-! ## The network -/

variable (x g : Fin 1024 → EReal) (wi : Fin 1024 → Fin 5632 → EReal) (wo : Fin 2816 → Fin 1024 → EReal)

/-- The columns of the two halves of the first product. -/
def lo (j : Fin 2816) : Fin 5632 := ⟨j.val, by have := j.isLt; omega⟩
def hi (j : Fin 2816) : Fin 5632 := ⟨2816 + j.val, by have := j.isLt; omega⟩

/-- The first product, -/
def u (j : Fin 5632) : EReal := ∑ k, Norm.out x g k * wi k j
/-- its two halves, -/
def gate (j : Fin 2816) : EReal := u x g wi (lo j)
def up (j : Fin 2816) : EReal := u x g wi (hi j)
/-- the gated product, -/
def act (j : Fin 2816) : EReal := silu (gate x g wi j) * up x g wi j
/-- the second product, half of it on top of the row. -/
def y (k : Fin 1024) : EReal := x k + half * ∑ j, act x g wi j * wo j k

/-- The derivatives of the gated product in the two halves. -/
def slopes (p : Fin 2) (j : Fin 2816) : EReal :=
  if p = 0 then slope (gate x g wi j) (up x g wi j) else silu (gate x g wi j)

/-- The same with the factor in front. -/
def fslopes (p : Fin 2) (j : Fin 2816) : EReal :=
  if p = 0 then fslope (gate x g wi j) (up x g wi j) else silu (gate x g wi j)

theorem out_fin (hg : ∀ k, Fin' (g k)) (k : Fin 1024) : Fin' (Norm.out x g k) := (Norm.hat_fin x k).mul (hg k)

theorem u_fin (hg : ∀ k, Fin' (g k)) (hw : ∀ k j, Fin' (wi k j)) (j : Fin 5632) : Fin' (u x g wi j) :=
  Fin'.sum _ fun k => (out_fin x g hg k).mul (hw k j)

theorem fslopes_eq (hg : ∀ k, Fin' (g k)) (hw : ∀ k j, Fin' (wi k j)) (p : Fin 2) (j : Fin 2816) :
    fslopes x g wi p j = slopes x g wi p j := by
  unfold fslopes slopes gate up
  rw [fslope_eq (u_fin x g wi hg hw _) (u_fin x g wi hg hw _)]

/-! ## Its gradient -/

variable (dy : Fin 1024 → EReal)

/-- What comes back through the second product, -/
def da (j : Fin 2816) : EReal := (∑ k, dy k * wo j k) * half
/-- through the gate, -/
def du (p : Fin 2) (j : Fin 2816) : EReal := da wo dy j * slopes x g wi p j
/-- through the first product, -/
def dh (k : Fin 1024) : EReal := (∑ j, du x g wi wo dy 0 j * wi k (lo j)) + ∑ j, du x g wi wo dy 1 j * wi k (hi j)
/-- and through the norm. -/
def dx (k : Fin 1024) : EReal := dy k + Norm.grad x (fun k => dh x g wi wo dy k * g k) k

theorem da_eq (j : Fin 2816) : ∑ k, half * dy k * wo j k = da wo dy j := by
  unfold da
  rw [mul_comm, half_mul_sum]
  exact Finset.sum_congr rfl fun k _ => mul_assoc _ _ _

/-- A sum over the columns of the first product is a sum over each half. -/
theorem sum_halves (f : Fin 5632 → EReal) : ∑ j, f j = (∑ j, f (lo j)) + ∑ j, f (hi j) :=
  Fin.sum_univ_add (a := 2816) (b := 2816) f

end Cert.Ffn

end
-- ==== Proof.FfnFwdPay.lean ====
/-
  What one point of the half-step network computes from its blocks. The columns of the first product come in two
  tiles of 1408, and what the point stores is put together from the tiles.
-/
module

public import Idealize.ShloMosaic.Lib.Pointwise
public import proofs.«01_k».proof.Proof.Pieces
public import proofs.«01_k».proof.Proof.Ffn
public import proofs.«01_k».proof.Proof.Gen.FfnFwdIdeal.Skeleton

@[expose] public section

set_option maxRecDepth 16384

noncomputable section

open Idealize.ShloMosaic

namespace Cert.Ffn.Fwd.Pay

open Cert.FfnFwdIdeal Cert.FfnFwdIdeal.Gen

/-! ## A tile -/

section Tile
variable (h : FVec Ideal S256x1024 .bf16) (wg wu : Vec Ideal S1408x1024 .bf16)

/-- A row of `h` against a row of a tile of weights. -/
def col (w : Vec Ideal S1408x1024 .bf16) (a : Fin 256) (j : Fin 1408) : EReal := ∑ k : Fin 1024, h (ix2 a k) * w (ix2 j k)

theorem gate_apply (a : Fin 256) (j : Fin 1408) : k0_pay13 h wg (ix2 a j) = col h wg a j := by
  unfold k0_pay13
  pointwise
  rfl

theorem up_apply (a : Fin 256) (j : Fin 1408) : k0_pay14 h wu (ix2 a j) = col h wu a j := by
  unfold k0_pay14
  pointwise
  rfl

theorem sig_apply (a : Fin 256) (j : Fin 1408) : k0_pay15 h wg (ix2 a j) = logistic (col h wg a j) := by
  unfold k0_pay15
  pointwise
  rw [gate_apply, Reals.ofBits_half]
  exact tlogistic_eq _

theorem silu_apply (a : Fin 256) (j : Fin 1408) : k0_pay16 h wg (ix2 a j) = silu (col h wg a j) := by
  unfold k0_pay16
  pointwise
  rw [gate_apply, sig_apply]
  rfl

theorem act_apply (a : Fin 256) (j : Fin 1408) :
    k0_pay2 (k0_pay14 h wu) (k0_pay16 h wg) (ix2 a j) = silu (col h wg a j) * col h wu a j := by
  unfold k0_pay2
  pointwise
  rw [silu_apply, up_apply]

theorem slope_apply (a : Fin 256) (j : Fin 1408) :
    k0_pay17 h wg wu (ix3 0 a j) = fslope (col h wg a j) (col h wu a j) := by
  unfold k0_pay17
  pointwise
  rw [silu_apply, up_apply, sig_apply]
  rfl

theorem plane_apply (a : Fin 256) (j : Fin 1408) : k0_pay1 (k0_pay18 h wg) (ix3 0 a j) = silu (col h wg a j) := by
  unfold k0_pay1 k0_pay18
  pointwise
  rw [silu_apply]

end Tile

/-! ## The point -/

variable (x : Vec Ideal S256x1024 .f32) (g : Vec Ideal S1x1024 .f32) (w : Vec Ideal S5632x1024 .bf16) (wo : Vec Ideal S2816x1024 .bf16)

/-- A row of the block, the gain and the weights, by their coordinates. -/
def row (a : Fin 256) : Fin 1024 → EReal := fun k => x (ix2 a k)
def gain : Fin 1024 → EReal := fun k => g (ix2 0 k)
def win : Fin 1024 → Fin 5632 → EReal := fun k j => w (ix2 j k)
def wout : Fin 2816 → Fin 1024 → EReal := fun j k => wo (ix2 j k)

theorem h_apply (a : Fin 256) (k : Fin 1024) : k0_pay4 x g (ix2 a k) = Norm.out (row x a) (gain g) k := by
  unfold k0_pay4
  pointwise
  simp only [Norm.ofBits_len]
  rfl

/-- A tile of the weights, `off` rows down. -/
abbrev tile (off : ℕ) (hi : ∀ a, (![off, 0] : Fin 2 → ℕ) a + S1408x1024.size a ≤ S5632x1024.size a) : Vec Ideal S1408x1024 .bf16 :=
  View.ld w (Rect.unit (s := S5632x1024) ![off, 0] S1408x1024.size hi)

theorem col_tile (off : ℕ) (hi) (a : Fin 256) (j : Fin 1408) (q : Fin 5632) (hq : q.val = off + j.val) :
    col (k0_pay4 x g) (tile w off hi) a j = u (row x a) (gain g) (win w) q := by
  refine Finset.sum_congr rfl fun k _ => ?_
  rw [h_apply]
  congr 1
  show w _ = w _
  congr 1; funext b; apply Fin.ext
  match b with
  | ⟨0, _⟩ => show off + 1 * j.val = q.val
              omega
  | ⟨1, _⟩ => show 0 + 1 * k.val = k.val
              omega

/-- The gated product of the block -/
def acts : S256x2816.Idx → EReal := fun i => act (row x (i 0)) (gain g) (win w) (i 1)
/-- and the planes of the derivatives, the first with its factor in front. -/
def zs : S2x256x2816.Idx → EReal := fun i => fslopes (row x (i 1)) (gain g) (win w) (i 0) (i 2)

abbrev g0 := tile w 0 inb_S5632x1024_S1408x1024_0_0
abbrev g1 := tile w 1408 inb_S5632x1024_S1408x1024_1408_0
abbrev u0 := tile w 2816 inb_S5632x1024_S1408x1024_2816_0
abbrev u1 := tile w 4224 inb_S5632x1024_S1408x1024_4224_0

/-- What the point stores of the gated product, -/
abbrev actPieces : List (View.Piece (Elt Ideal) S256x2816 .bf16) :=
  [⟨Rect.unit (s := S256x2816) ![0, 1408] S256x1408.size inb_S256x2816_S256x1408_0_1408,
      k0_pay2 (k0_pay14 (k0_pay4 x g) (u1 w)) (k0_pay16 (k0_pay4 x g) (g1 w))⟩,
   ⟨Rect.unit (s := S256x2816) ![0, 0] S256x1408.size inb_S256x2816_S256x1408_0_0, k0_pay12 (k0_pay6 x g (u0 w)) (k0_pay8 x g (g0 w))⟩]

/-- and of the planes. -/
abbrev zPieces : List (View.Piece (Elt Ideal) S2x256x2816 .bf16) :=
  [⟨Rect.unit (s := S2x256x2816) ![1, 0, 1408] S1x256x1408.size inb_S2x256x2816_S1x256x1408_1_0_1408, k0_pay1 (k0_pay18 (k0_pay4 x g) (g1 w))⟩,
   ⟨Rect.unit (s := S2x256x2816) ![0, 0, 1408] S1x256x1408.size inb_S2x256x2816_S1x256x1408_0_0_1408, k0_pay17 (k0_pay4 x g) (g1 w) (u1 w)⟩,
   ⟨Rect.unit (s := S2x256x2816) ![1, 0, 0] S1x256x1408.size inb_S2x256x2816_S1x256x1408_1_0_0, k0_pay11 (k0_pay8 x g (g0 w))⟩,
   ⟨Rect.unit (s := S2x256x2816) ![0, 0, 0] S1x256x1408.size inb_S2x256x2816_S1x256x1408_0_0_0, k0_pay10 (k0_pay9 x g (g0 w) (u0 w))⟩]

/-! Where an entry of a tile lies in the block. -/

theorem emb_act (off : ℕ) (hb) (a : Fin 256) (j : Fin 1408) (q : Fin 2816) (hq : q.val = off + j.val) :
    (Rect.unit (s := S256x2816) ![0, off] S256x1408.size hb).emb (ix2 a j) = ix2 a q := by
  funext b; apply Fin.ext
  match b with
  | ⟨0, _⟩ => show 0 + 1 * a.val = a.val
              omega
  | ⟨1, _⟩ => show off + 1 * j.val = q.val
              omega

theorem emb_z (p : Fin 2) (off : ℕ) (hb) (a : Fin 256) (j : Fin 1408) (q : Fin 2816) (hq : q.val = off + j.val) :
    (Rect.unit (s := S2x256x2816) ![p.val, 0, off] S1x256x1408.size hb).emb (ix3 0 a j) = ix3 p a q := by
  funext b; apply Fin.ext
  match b with
  | ⟨0, _⟩ => show p.val + 1 * 0 = p.val
              omega
  | ⟨1, _⟩ => show 0 + 1 * a.val = a.val
              omega
  | ⟨2, _⟩ => show off + 1 * j.val = q.val
              omega

theorem split2 (y : S256x1408.Idx) : ∃ a j, y = ix2 a j :=
  ⟨y 0, y 1, by funext b; match b with | ⟨0, _⟩ => rfl | ⟨1, _⟩ => rfl⟩

theorem split3 (y : S1x256x1408.Idx) : ∃ a j, y = ix3 0 a j :=
  ⟨y 1, y 2, by
    funext b
    match b with
    | ⟨0, _⟩ => exact Subsingleton.elim (α := Fin 1) _ _
    | ⟨1, _⟩ => rfl
    | ⟨2, _⟩ => rfl⟩

/-- A tile's part of the gated product -/
theorem act_tile (off : ℕ) (hg hu hb) (y : S256x1408.Idx) (ho : off + 1408 ≤ 2816) :
    k0_pay2 (k0_pay14 (k0_pay4 x g) (tile w (2816 + off) hu)) (k0_pay16 (k0_pay4 x g) (tile w off hg)) y
      = acts x g w ((Rect.unit (s := S256x2816) ![0, off] S256x1408.size hb).emb y) := by
  obtain ⟨a, j, rfl⟩ := split2 y
  have hj := j.isLt
  let q : Fin 2816 := ⟨off + j.val, by omega⟩
  refine (act_apply ..).trans ?_
  rw [emb_act off hb a j q rfl, col_tile x g w off hg a j (lo q) rfl,
    col_tile x g w (2816 + off) hu a j (hi q) (by show 2816 + (off + j.val) = _; omega)]
  rfl

/-- and of the planes. -/
theorem slope_tile (off : ℕ) (hg hu hb) (y : S1x256x1408.Idx) (ho : off + 1408 ≤ 2816) :
    k0_pay17 (k0_pay4 x g) (tile w off hg) (tile w (2816 + off) hu) y
      = zs x g w ((Rect.unit (s := S2x256x2816) ![0, 0, off] S1x256x1408.size hb).emb y) := by
  obtain ⟨a, j, rfl⟩ := split3 y
  have hj := j.isLt
  let q : Fin 2816 := ⟨off + j.val, by omega⟩
  refine (slope_apply ..).trans ?_
  refine Eq.trans ?_ (congrArg (zs x g w) (emb_z 0 off hb a j q rfl)).symm
  rw [col_tile x g w off hg a j (lo q) rfl,
    col_tile x g w (2816 + off) hu a j (hi q) (by show 2816 + (off + j.val) = _; omega)]
  rfl

theorem plane_tile (off : ℕ) (hg hb) (y : S1x256x1408.Idx) (ho : off + 1408 ≤ 2816) :
    k0_pay1 (k0_pay18 (k0_pay4 x g) (tile w off hg)) y
      = zs x g w ((Rect.unit (s := S2x256x2816) ![1, 0, off] S1x256x1408.size hb).emb y) := by
  obtain ⟨a, j, rfl⟩ := split3 y
  have hj := j.isLt
  let q : Fin 2816 := ⟨off + j.val, by omega⟩
  refine (plane_apply ..).trans ?_
  refine Eq.trans ?_ (congrArg (zs x g w) (emb_z 1 off hb a j q rfl)).symm
  rw [col_tile x g w off hg a j (lo q) rfl]
  rfl

/-- Put together: the gated product, -/
theorem act_canon : View.canon (actPieces x g w) = acts x g w :=
  Pieces.canon_eq (s := S256x2816) (e := .bf16) (acts x g w)
    ⟨fun y => act_tile x g w 1408 inb_S5632x1024_S1408x1024_1408_0 inb_S5632x1024_S1408x1024_4224_0
      inb_S256x2816_S256x1408_0_1408 y (by omega),
     fun y => act_tile x g w 0 inb_S5632x1024_S1408x1024_0_0 inb_S5632x1024_S1408x1024_2816_0
      inb_S256x2816_S256x1408_0_0 y (by omega), trivial⟩
    (View.cover_of_tiled_head _ _ _ rfl)

/-- and the planes. -/
theorem z_canon : View.canon (zPieces x g w) = zs x g w :=
  Pieces.canon_eq (s := S2x256x2816) (e := .bf16) (zs x g w)
    ⟨fun y => plane_tile x g w 1408 inb_S5632x1024_S1408x1024_1408_0 inb_S2x256x2816_S1x256x1408_1_0_1408 y (by omega),
     fun y => slope_tile x g w 1408 inb_S5632x1024_S1408x1024_1408_0 inb_S5632x1024_S1408x1024_4224_0
      inb_S2x256x2816_S1x256x1408_0_0_1408 y (by omega),
     fun y => plane_tile x g w 0 inb_S5632x1024_S1408x1024_0_0 inb_S2x256x2816_S1x256x1408_1_0_0 y (by omega),
     fun y => slope_tile x g w 0 inb_S5632x1024_S1408x1024_0_0 inb_S5632x1024_S1408x1024_2816_0
      inb_S2x256x2816_S1x256x1408_0_0_0 y (by omega), trivial⟩
    (View.cover_of_tiled_head _ _ _ rfl)

/-- The gated product read back whole. -/
theorem act_back {s : RefSig} {κ : Kind} {sp : Space} (v : View s κ sp S256x2816 .bf16) (hb) :
    v.readCov (actPieces x g w) (Rect.unit (s := S256x2816) ![0, 0] S256x2816.size hb).toLoadRect = acts x g w := by
  rw [View.readCov_eq_canon', act_canon]
  funext j
  congr 1
  funext b; apply Fin.ext
  match b with
  | ⟨0, _⟩ => show 0 + 1 * (j 0).val = (j 0).val
              omega
  | ⟨1, _⟩ => show 0 + 1 * (j 1).val = (j 1).val
              omega

theorem y_apply (a : Fin 256) (k : Fin 1024) :
    k0_pay3 x (acts x g w) wo (ix2 a k) = y (row x a) (gain g) (win w) (wout wo) k := by
  unfold k0_pay3
  pointwise
  rw [Reals.ofBits_half]
  rfl

end Cert.Ffn.Fwd.Pay

end
-- ==== Proof.FfnDgradPay.lean ====
/-
  What one point of the gradient of a half-step network computes from its blocks. What comes back through the second
  product comes in two tiles of 1408 columns; the point stores the planes tile by tile and reads them back for the
  first product.
-/
module

public import Idealize.ShloMosaic.Lib.Pointwise
public import Idealize.ShloMosaic.Lib.Pipeline.ReadBack
public import proofs.«01_k».proof.Proof.Pieces
public import proofs.«01_k».proof.Proof.FfnFwdPay
public import proofs.«01_k».proof.Proof.Gen.FfnDgradIdeal.Skeleton

@[expose] public section

set_option maxRecDepth 16384

noncomputable section

open Idealize.ShloMosaic

namespace Cert.Ffn.Dgrad.Pay

open Cert.FfnDgradIdeal Cert.FfnDgradIdeal.Gen

variable (dy : Vec Ideal S256x1024 .bf16) (wo : Vec Ideal S2816x1024 .bf16) (z : Vec Ideal S2x256x2816 .bf16)
  (w : Vec Ideal S5632x1024 .bf16) (x : Vec Ideal S256x1024 .f32) (g : Vec Ideal S1x1024 .f32) (res : Vec Ideal S256x1024 .f32)
  (old : Vec Ideal S1x1024 .f32)

/-- A row of the block and of what reaches it, the gain and the weights, by their coordinates, -/
def row (a : Fin 256) : Fin 1024 → EReal := fun k => x (ix2 a k)
def drow (a : Fin 256) : Fin 1024 → EReal := fun k => dy (ix2 a k)
def gain : Fin 1024 → EReal := fun k => g (ix2 0 k)
def win : Fin 1024 → Fin 5632 → EReal := fun k j => w (ix2 j k)
def wout : Fin 2816 → Fin 1024 → EReal := fun j k => wo (ix2 j k)
/-- what reaches the first product's columns, -/
def du (p : Fin 2) (a : Fin 256) (j : Fin 2816) : EReal := da (wout wo) (drow dy a) j * z (ix3 p a j)
/-- what reaches the normed row -/
def dh (a : Fin 256) (k : Fin 1024) : EReal :=
  (∑ j, du dy wo z 0 a j * win w k (lo j)) + ∑ j, du dy wo z 1 a j * win w k (hi j)
/-- and has come back through the gain; -/
def dxh (a : Fin 256) : Fin 1024 → EReal := fun k => dh dy wo z w a k * gain g k
/-- the planes as an array. -/
def dus : S2x256x2816.Idx → EReal := fun i => du dy wo z (i 0) (i 1) (i 2)

/-! ## The planes -/

section Tile
variable (wt : Vec Ideal S1408x1024 .bf16) (zt : Vec Ideal S1x256x1408 .bf16)

/-- A row of `dy` against a row of a tile of weights, halved. -/
def col (a : Fin 256) (j : Fin 1408) : EReal := (∑ k : Fin 1024, dy (ix2 a k) * wt (ix2 j k)) * Reals.half

theorem col_apply (a : Fin 256) (j : Fin 1408) : k0_pay7 dy wt (ix2 a j) = col dy wt a j := by
  unfold k0_pay7 k0_pay6
  pointwise
  rw [Reals.ofBits_half]
  rfl

/-- The four stores compute the same of their tiles. -/
theorem plane_apply (a : Fin 256) (j : Fin 1408) : k0_pay8 dy wt zt (ix3 0 a j) = col dy wt a j * zt (ix3 0 a j) := by
  unfold k0_pay8
  pointwise
  rw [col_apply]

theorem plane9 : k0_pay9 dy wt zt = k0_pay8 dy wt zt := rfl
theorem plane12 : k0_pay12 (k0_pay11 dy wt zt) = k0_pay8 dy wt zt := rfl
theorem plane13 : k0_pay13 (k0_pay10 dy wt) zt = k0_pay8 dy wt zt := rfl

end Tile

/-- A tile of the weights, `off` rows down, -/
abbrev tile (off : ℕ) (hi : ∀ a, (![off, 0] : Fin 2 → ℕ) a + S1408x1024.size a ≤ S2816x1024.size a) : Vec Ideal S1408x1024 .bf16 :=
  View.ld wo (Rect.unit (s := S2816x1024) ![off, 0] S1408x1024.size hi)
/-- and of the planes. -/
abbrev ztile (p off : ℕ) (hi : ∀ a, (![p, 0, off] : Fin 3 → ℕ) a + S1x256x1408.size a ≤ S2x256x2816.size a) : Vec Ideal S1x256x1408 .bf16 :=
  View.ld z (Rect.unit (s := S2x256x2816) ![p, 0, off] S1x256x1408.size hi)

theorem col_tile (off : ℕ) (hb) (a : Fin 256) (j : Fin 1408) (q : Fin 2816) (hq : q.val = off + j.val) :
    col dy (tile wo off hb) a j = da (wout wo) (drow dy a) q := by
  refine congrArg (· * Reals.half) (Finset.sum_congr rfl fun k _ => ?_)
  congr 1
  show wo _ = wo _
  congr 1; funext b; apply Fin.ext
  match b with
  | ⟨0, _⟩ => show off + 1 * j.val = q.val
              omega
  | ⟨1, _⟩ => show 0 + 1 * k.val = k.val
              omega

/-- A tile's part of the planes. -/
theorem plane_tile (p : Fin 2) (off : ℕ) (ho hz hb) (y : S1x256x1408.Idx) (hle : off + 1408 ≤ 2816) :
    k0_pay8 dy (tile wo off ho) (ztile z p.val off hz) y
      = dus dy wo z ((Rect.unit (s := S2x256x2816) ![p.val, 0, off] S1x256x1408.size hb).emb y) := by
  obtain ⟨a, j, rfl⟩ := Fwd.Pay.split3 y
  have hj := j.isLt
  let q : Fin 2816 := ⟨off + j.val, by omega⟩
  refine (plane_apply ..).trans ?_
  refine Eq.trans ?_ (congrArg (dus dy wo z) (Fwd.Pay.emb_z p off hb a j q rfl)).symm
  rw [col_tile dy wo off ho a j q rfl]
  exact congrArg (fun f => da (wout wo) (drow dy a) q * z f) (Fwd.Pay.emb_z p off hz a j q rfl)

/-- What the point stores of the planes: -/
abbrev pieces : List (View.Piece (Elt Ideal) S2x256x2816 .bf16) :=
  [⟨Rect.unit (s := S2x256x2816) ![1, 0, 1408] S1x256x1408.size inb_S2x256x2816_S1x256x1408_1_0_1408,
      k0_pay13 (k0_pay10 dy (tile wo 1408 inb_S2816x1024_S1408x1024_1408_0)) (ztile z 1 1408 inb_S2x256x2816_S1x256x1408_1_0_1408)⟩,
   ⟨Rect.unit (s := S2x256x2816) ![0, 0, 1408] S1x256x1408.size inb_S2x256x2816_S1x256x1408_0_0_1408,
      k0_pay12 (k0_pay11 dy (tile wo 1408 inb_S2816x1024_S1408x1024_1408_0) (ztile z 0 1408 inb_S2x256x2816_S1x256x1408_0_0_1408))⟩,
   ⟨Rect.unit (s := S2x256x2816) ![1, 0, 0] S1x256x1408.size inb_S2x256x2816_S1x256x1408_1_0_0,
      k0_pay9 dy (tile wo 0 inb_S2816x1024_S1408x1024_0_0) (ztile z 1 0 inb_S2x256x2816_S1x256x1408_1_0_0)⟩,
   ⟨Rect.unit (s := S2x256x2816) ![0, 0, 0] S1x256x1408.size inb_S2x256x2816_S1x256x1408_0_0_0,
      k0_pay8 dy (tile wo 0 inb_S2816x1024_S1408x1024_0_0) (ztile z 0 0 inb_S2x256x2816_S1x256x1408_0_0_0)⟩]

/-- put together, the planes, -/
theorem canon_pieces : View.canon (pieces dy wo z) = dus dy wo z :=
  Pieces.canon_eq (s := S2x256x2816) (e := .bf16) (dus dy wo z)
    ⟨fun y => plane_tile dy wo z 1 1408 inb_S2816x1024_S1408x1024_1408_0 inb_S2x256x2816_S1x256x1408_1_0_1408
      inb_S2x256x2816_S1x256x1408_1_0_1408 y (by omega),
     fun y => plane_tile dy wo z 0 1408 inb_S2816x1024_S1408x1024_1408_0 inb_S2x256x2816_S1x256x1408_0_0_1408
      inb_S2x256x2816_S1x256x1408_0_0_1408 y (by omega),
     fun y => plane_tile dy wo z 1 0 inb_S2816x1024_S1408x1024_0_0 inb_S2x256x2816_S1x256x1408_1_0_0
      inb_S2x256x2816_S1x256x1408_1_0_0 y (by omega),
     fun y => plane_tile dy wo z 0 0 inb_S2816x1024_S1408x1024_0_0 inb_S2x256x2816_S1x256x1408_0_0_0
      inb_S2x256x2816_S1x256x1408_0_0_0 y (by omega), trivial⟩
    (View.cover_of_tiled_head _ _ _ rfl)

/-- and a plane read back whole. -/
def plane (p : Fin 2) : Vec Ideal S1x256x2816 .bf16 := fun y => du dy wo z p (y 1) (y 2)

theorem back {s : RefSig} {κ : Kind} {sp : Space} (v : View s κ sp S2x256x2816 .bf16) (p : Fin 2) (hb) :
    v.readCov (pieces dy wo z) (Rect.unit (s := S2x256x2816) ![p.val, 0, 0] S1x256x2816.size hb).toLoadRect = plane dy wo z p := by
  rw [View.readCov_eq_canon', canon_pieces]
  funext y
  have h0 : (y 0).val < 1 := (y 0).isLt
  show dus dy wo z _ = dus dy wo z (ix3 p (y 1) (y 2))
  congr 1
  funext b; apply Fin.ext
  match b with
  | ⟨0, _⟩ => show p.val + 1 * (y 0).val = p.val
              omega
  | ⟨1, _⟩ => show 0 + 1 * (y 1).val = (y 1).val
              omega
  | ⟨2, _⟩ => show 0 + 1 * (y 2).val = (y 2).val
              omega

/-! ## The normed row -/

/-- What the point forms of the planes and the first weight. -/
abbrev dhb : FVec Ideal S256x1024 .f32 :=
  k0_pay14 (plane dy wo z 0) (View.ld w (Rect.unit (s := S5632x1024) ![0, 0] S2816x1024.size inb_S5632x1024_S2816x1024_0_0))
    (plane dy wo z 1) (View.ld w (Rect.unit (s := S5632x1024) ![2816, 0] S2816x1024.size inb_S5632x1024_S2816x1024_2816_0))

theorem dh_apply (a : Fin 256) (k : Fin 1024) : dhb dy wo z w (ix2 a k) = dh dy wo z w a k := by
  show k0_pay14 _ _ _ _ _ = _
  unfold k0_pay14
  pointwise
  rfl

theorem rs_apply (a : Fin 256) : k0_pay15 x (ix2 a 0) = Norm.rs (row x a) := by
  unfold k0_pay15
  pointwise
  simp only [Norm.ofBits_len]
  rfl

theorem hat_apply (a : Fin 256) (k : Fin 1024) : k0_pay1 x (k0_pay15 x) (ix2 a k) = Norm.hat (row x a) k := by
  unfold k0_pay1
  pointwise
  rw [rs_apply]
  rfl

/-! ## The gain and the row -/

theorem dg_apply (k : Fin 1024) : k0_pay2 (dhb dy wo z w) x (k0_pay15 x) (ix2 0 k)
    = ∑ a : Fin 256, dh dy wo z w a k * Norm.hat (row x a) k := by
  unfold k0_pay2
  pointwise
  simp only [dh_apply, hat_apply]

theorem more_apply (k : Fin 1024) : k0_pay3 (dhb dy wo z w) x (k0_pay15 x) old (ix2 0 k)
    = old (ix2 0 k) + ∑ a : Fin 256, dh dy wo z w a k * Norm.hat (row x a) k := by
  unfold k0_pay3
  pointwise
  rw [dg_apply]

theorem dx_apply (a : Fin 256) (k : Fin 1024) : k0_pay4 (dhb dy wo z w) x (k0_pay15 x) g res (ix2 a k)
    = res (ix2 a k) + Norm.grad (row x a) (dxh dy wo z w g a) k := by
  unfold k0_pay4
  pointwise
  simp only [dh_apply, hat_apply, rs_apply, Norm.ofBits_len]
  rfl

/-- The narrowed gradient is the gradient. -/
theorem dx16_eq : k0_pay5 (dhb dy wo z w) x (k0_pay15 x) g res = k0_pay4 (dhb dy wo z w) x (k0_pay15 x) g res := rfl

end Cert.Ffn.Dgrad.Pay

end
-- ==== Proof.FfnFwdRef.lean ====
/-
  The half-step network's reference at the formulas.
-/
module

public import Idealize.ShloMosaic.Lib.Pointwise
public import proofs.«01_k».proof.Proof.Ffn
public import proofs.«01_k».proof.Proof.Planes
public import proofs.«01_k».proof.Proof.Gen.FfnFwdRefIdeal.Read

@[expose] public section

set_option maxRecDepth 16384

noncomputable section

open Idealize.ShloMosaic

namespace Cert.Ffn.Fwd

variable (x : (⟨2, ![4096, 1024]⟩ : Shape).Idx → EReal) (g : (⟨2, ![1, 1024]⟩ : Shape).Idx → EReal)
  (wi : (⟨2, ![1024, 5632]⟩ : Shape).Idx → EReal) (wo : (⟨2, ![2816, 1024]⟩ : Shape).Idx → EReal)

/-- A row of the residual stream, the gain and the weights, by their coordinates. -/
def row (i : Fin 4096) : Fin 1024 → EReal := fun k => x (ix2 i k)
def gain : Fin 1024 → EReal := fun k => g (ix2 0 k)
def win : Fin 1024 → Fin 5632 → EReal := fun k j => wi (ix2 k j)
def wout : Fin 2816 → Fin 1024 → EReal := fun j k => wo (ix2 j k)

/-- The results as arrays: the residual stream, -/
def ys : (⟨2, ![4096, 1024]⟩ : Shape).Idx → EReal := fun i => y (row x (i 0)) (gain g) (win wi) (wout wo) (i 1)
/-- the normed rows, -/
def hs : (⟨2, ![4096, 1024]⟩ : Shape).Idx → EReal := fun i => Norm.out (row x (i 0)) (gain g) (i 1)
/-- the derivatives of the gate -/
def zs : (⟨3, ![2, 4096, 2816]⟩ : Shape).Idx → EReal := fun i => slopes (row x (i 1)) (gain g) (win wi) (i 0) (i 2)
/-- and the gated product. -/
def acts : (⟨2, ![4096, 2816]⟩ : Shape).Idx → EReal := fun i => act (row x (i 0)) (gain g) (win wi) (i 1)

open Cert.FfnFwdRefIdeal.Read

theorem ref_rs (i : Fin 4096) : val_main_v7 (F := Ideal) x (ix2 i 0) = Norm.rs (row x i) := by
  unfold val_main_v7 val_main_v6 val_main_v5 val_main_cst_1 val_main_v4 val_main_v3 val_main_cst_0 val_main_v2 val_main_v1 val_main_cst
    val_main_v0
  pointwise
  simp only [Norm.ofBits_len, Ideal.ofBits_zero_f32, zero_add]
  rfl

theorem ref_h (i : Fin 4096) (k : Fin 1024) : val_main_v11 (F := Ideal) x g (ix2 i k) = Norm.out (row x i) (gain g) k := by
  unfold val_main_v11 val_main_v10 val_main_v9 val_main_v8
  pointwise
  rw [ref_rs]
  rfl

theorem ref_u (i : Fin 4096) (j : Fin 5632) :
    val_main_v12 (F := Ideal) x g wi (ix2 i j) = u (row x i) (gain g) (win wi) j := by
  unfold val_main_v12
  pointwise
  simp only [ref_h]
  rfl

/-- The later copies of the norm and of the first product are the first ones. -/
theorem v15_eq : val_main_v15 (F := Ideal) x g wi = val_main_v12 x g wi := rfl
theorem v37_eq : val_main_v37 (F := Ideal) x g wi = val_main_v12 x g wi := rfl

theorem ref_gate (i : Fin 4096) (j : Fin 2816) : val_main_v13 (F := Ideal) x g wi (ix2 i j) = gate (row x i) (gain g) (win wi) j := by
  unfold val_main_v13
  pointwise
  exact ref_u x g wi i (lo j)

theorem ref_up (i : Fin 4096) (j : Fin 2816) : val_main_v14 (F := Ideal) x g wi (ix2 i j) = up (row x i) (gain g) (win wi) j := by
  unfold val_main_v14
  pointwise
  exact ref_u x g wi i (hi j)

theorem v38_eq : val_main_v38 (F := Ideal) x g wi = val_main_v13 x g wi := rfl
theorem v40_eq : val_main_v40 (F := Ideal) x g wi = val_main_v14 x g wi := rfl

theorem ref_act (i : Fin 4096) (j : Fin 2816) : val_main_v56 (F := Ideal) x g wi (ix2 i j) = act (row x i) (gain g) (win wi) j := by
  unfold val_main_v56 val_main_v55 val_main_call3_v5 val_main_call3_v4 val_main_call3_cst_0 val_main_call3_v3 val_main_call3_v2
    val_main_call3_cst val_main_call3_v1 val_main_call3_v0
  pointwise
  simp only [ref_gate, ref_up, Ideal.ofBits_one_f32]
  rfl

theorem v19_eq : val_main_v19 (F := Ideal) x g wi = val_main_v56 x g wi := rfl

theorem ref_y (i : Fin 4096) (k : Fin 1024) :
    val_main_v23 (F := Ideal) x g wi wo (ix2 i k) = y (row x i) (gain g) (win wi) (wout wo) k := by
  unfold val_main_v23 val_main_v22 val_main_v21 val_main_cst_2 val_main_v20
  pointwise
  simp only [v19_eq, ref_act, Reals.ofBits_half]
  rfl

theorem ref_sig (i : Fin 4096) (j : Fin 2816) :
    val_main_v39_2 (F := Ideal) x g wi (ix2 i j) = logistic (gate (row x i) (gain g) (win wi) j) := by
  unfold val_main_v39_2 val_main_call1_v4 val_main_call1_cst_0 val_main_call1_v3 val_main_call1_v2 val_main_call1_cst val_main_call1_v1
    val_main_call1_v0
  pointwise
  simp only [v38_eq, ref_gate, Ideal.ofBits_one_f32]
  rfl

theorem ref_slope (i : Fin 4096) (j : Fin 2816) : val_main_v46 (F := Ideal) x g wi (ix2 i j)
    = slope (gate (row x i) (gain g) (win wi) j) (up (row x i) (gain g) (win wi) j) := by
  unfold val_main_v46 val_main_call2_v2 val_main_call2_v1 val_main_call2_v0 val_main_v44 val_main_v42 val_main_cst_6 val_main_v39_1
    val_main_call1_v7 val_main_call1_v6 val_main_call1_cst_1
  pointwise
  simp only [ref_sig, v38_eq, v40_eq, ref_gate, ref_up, Ideal.ofBits_one_f32, one_mul]
  rfl

theorem ref_silu (i : Fin 4096) (j : Fin 2816) : val_main_v43 (F := Ideal) x g wi (ix2 i j) = silu (gate (row x i) (gain g) (win wi) j) := by
  unfold val_main_v43 val_main_v42 val_main_cst_6 val_main_v39_0
  pointwise
  simp only [ref_sig, v38_eq, ref_gate, Ideal.ofBits_one_f32, mul_one]
  rfl

/-- The two derivatives side by side: padded with zeros and added. -/
theorem ref_lo (i : Fin 4096) (j : Fin 2816) : val_main_v49 (F := Ideal) x g wi (ix2 i j) = slopes (row x i) (gain g) (win wi) 0 j := by
  unfold val_main_v49 val_main_v48 val_main_v47 val_main_v45 val_main_cst_7 val_main_cst_8
  pointwise
  rw [dif_neg fun h => h.1, zero_add, ref_slope]
  rfl

theorem ref_hi (i : Fin 4096) (j : Fin 2816) : val_main_v50 (F := Ideal) x g wi (ix2 i j) = slopes (row x i) (gain g) (win wi) 1 j := by
  unfold val_main_v50 val_main_v48 val_main_v47 val_main_v45 val_main_cst_7 val_main_cst_8
  pointwise
  rw [ref_silu]
  rfl

theorem ref_z (p : Fin 2) (i : Fin 4096) (j : Fin 2816) :
    val_main_v54 (F := Ideal) x g wi (ix3 p i j) = slopes (row x i) (gain g) (win wi) p j := by
  unfold val_main_v54 val_main_v53 val_main_v52 val_main_v51
  pointwise
  simp only [ref_lo, ref_hi]
  match p with
  | 0 => rfl
  | 1 => rfl

/-! The results whole. -/

theorem idx_split {n k : ℕ} (i : (⟨2, ![n, k]⟩ : Shape).Idx) : ∃ a b, i = ix2 a b :=
  ⟨i 0, i 1, by funext x; match x with | ⟨0, _⟩ => rfl | ⟨1, _⟩ => rfl⟩

theorem ref_ys : val_main_v23 (F := Ideal) x g wi wo = ys x g wi wo := by
  funext i
  obtain ⟨a, b, rfl⟩ := idx_split i
  exact ref_y x g wi wo a b

theorem ref_hs : val_main_v24 (F := Ideal) x g = hs x g := by
  funext i
  obtain ⟨a, b, rfl⟩ := idx_split i
  exact ref_h x g a b

theorem ref_zs : val_main_v54 (F := Ideal) x g wi = zs x g wi := by
  funext i
  obtain ⟨p, a, b, rfl⟩ := Planes.idx_split i
  exact ref_z x g wi p a b

theorem ref_acts : val_main_v57 (F := Ideal) x g wi = acts x g wi := by
  funext i
  obtain ⟨a, b, rfl⟩ := idx_split i
  exact ref_act x g wi a b

end Cert.Ffn.Fwd

end
-- ==== Proof.FfnDgradRef.lean ====
/-
  The gradient of a half-step network: the formulas, and the reference at them.
-/
module

public import Idealize.ShloMosaic.Lib.Pointwise
public import proofs.«01_k».proof.Proof.FfnFwdRef
public import proofs.«01_k».proof.Proof.Gen.FfnDgradRefIdeal.Read

@[expose] public section

set_option maxRecDepth 16384

noncomputable section

open Idealize.ShloMosaic

namespace Cert.Ffn.Dgrad

open Cert.Ffn.Fwd (row gain win wout idx_split)

variable (x : (⟨2, ![4096, 1024]⟩ : Shape).Idx → EReal) (g : (⟨2, ![1, 1024]⟩ : Shape).Idx → EReal)
  (wi : (⟨2, ![1024, 5632]⟩ : Shape).Idx → EReal) (wo : (⟨2, ![2816, 1024]⟩ : Shape).Idx → EReal)
  (dy : (⟨2, ![4096, 1024]⟩ : Shape).Idx → EReal)

/-- What reaches the first product's columns, by planes, at a row, -/
abbrev duAt (p : Fin 2) (i : Fin 4096) (j : Fin 2816) : EReal := du (row x i) (gain g) (win wi) (wout wo) (row dy i) p j
/-- what reaches the normed row -/
abbrev dhAt (i : Fin 4096) (k : Fin 1024) : EReal := dh (row x i) (gain g) (win wi) (wout wo) (row dy i) k
/-- and the row, -/
abbrev dxAt (i : Fin 4096) (k : Fin 1024) : EReal := dx (row x i) (gain g) (win wi) (wout wo) (row dy i) k
/-- and what reaches the gain. -/
def dgAt (k : Fin 1024) : EReal := ∑ i : Fin 4096, dhAt x g wi wo dy i k * Norm.hat (row x i) k

/-- The three as arrays. -/
def dzs : (⟨3, ![2, 4096, 2816]⟩ : Shape).Idx → EReal := fun i => duAt x g wi wo dy (i 0) (i 1) (i 2)
def dxs : (⟨2, ![4096, 1024]⟩ : Shape).Idx → EReal := fun i => dxAt x g wi wo dy (i 0) (i 1)
def dgs : (⟨2, ![1, 1024]⟩ : Shape).Idx → EReal := fun i => dgAt x g wi wo dy (i 1)

/-- All arrays but the norm's input are finite. -/
structure Finite : Prop where
  g : ∀ k, Reals.Fin' (g (ix2 0 k))
  wi : ∀ k j, Reals.Fin' (wi (ix2 k j))
  wo : ∀ j k, Reals.Fin' (wo (ix2 j k))
  dy : ∀ i k, Reals.Fin' (dy (ix2 i k))

section
variable {x g wi wo dy} (f : Finite g wi wo dy)
include f

theorem Finite.gate (i : Fin 4096) (j : Fin 2816) : Reals.Fin' (gate (row x i) (gain g) (win wi) j) := u_fin _ _ _ f.g f.wi _
theorem Finite.up (i : Fin 4096) (j : Fin 2816) : Reals.Fin' (up (row x i) (gain g) (win wi) j) := u_fin _ _ _ f.g f.wi _
theorem Finite.da (i : Fin 4096) (j : Fin 2816) : Reals.Fin' (da (wout wo) (row dy i) j) :=
  (Reals.Fin'.sum _ fun k => (f.dy i k).mul (f.wo j k)).mul ⟨1 / 2, rfl⟩

end

open Cert.FfnDgradRefIdeal.Read

/-! The forward stages are those of the network's reference. -/

theorem v6_eq : val_main_v6 (F := Ideal) x = Cert.FfnFwdRefIdeal.Read.val_main_v6 x := rfl
theorem v7_eq : val_main_v7 (F := Ideal) x = Cert.FfnFwdRefIdeal.Read.val_main_v7 x := rfl
theorem v16_eq : val_main_v16 (F := Ideal) x g wi = Cert.FfnFwdRefIdeal.Read.val_main_v13 x g wi := rfl
theorem v17_eq : val_main_v17 (F := Ideal) x g wi = Cert.FfnFwdRefIdeal.Read.val_main_v14 x g wi := rfl
theorem v18_2_eq : val_main_v18_2 (F := Ideal) x g wi = Cert.FfnFwdRefIdeal.Read.val_main_v39_2 x g wi := rfl
theorem v66_eq : val_main_v66 (F := Ideal) x g wi = val_main_v16 x g wi := rfl
theorem v68_eq : val_main_v68 (F := Ideal) x g wi = val_main_v17 x g wi := rfl
theorem v67_0_eq : val_main_v67_0 (F := Ideal) x g wi = val_main_v18_0 x g wi := rfl
theorem v67_1_eq : val_main_v67_1 (F := Ideal) x g wi = val_main_v18_1 x g wi := rfl
theorem v67_2_eq : val_main_v67_2 (F := Ideal) x g wi = val_main_v18_2 x g wi := rfl

theorem ref_ms (i : Fin 4096) : val_main_v6 (F := Ideal) x (ix2 i 0) = Norm.ms (row x i) := by
  unfold val_main_v6 val_main_v5 val_main_cst_1 val_main_v4 val_main_v3 val_main_cst_0 val_main_v2 val_main_v1 val_main_cst val_main_v0
  pointwise
  simp only [Norm.ofBits_len, Ideal.ofBits_zero_f32, zero_add]
  rfl

theorem ref_rs (i : Fin 4096) : val_main_v7 (F := Ideal) x (ix2 i 0) = Norm.rs (row x i) := by
  rw [v7_eq]
  exact Fwd.ref_rs x i

theorem ref_hat (i : Fin 4096) (k : Fin 1024) : val_main_v12 (F := Ideal) x (ix2 i k) = Norm.hat (row x i) k := by
  unfold val_main_v12 val_main_v11
  pointwise
  rw [ref_rs]
  rfl

theorem ref_gate (i : Fin 4096) (j : Fin 2816) : val_main_v16 (F := Ideal) x g wi (ix2 i j) = gate (row x i) (gain g) (win wi) j := by
  rw [v16_eq]
  exact Fwd.ref_gate x g wi i j

theorem ref_up (i : Fin 4096) (j : Fin 2816) : val_main_v17 (F := Ideal) x g wi (ix2 i j) = up (row x i) (gain g) (win wi) j := by
  rw [v17_eq]
  exact Fwd.ref_up x g wi i j

theorem ref_logistic (i : Fin 4096) (j : Fin 2816) :
    val_main_v18_2 (F := Ideal) x g wi (ix2 i j) = logistic (gate (row x i) (gain g) (win wi) j) := by
  rw [v18_2_eq]
  exact Fwd.ref_sig x g wi i j

theorem ref_bump (i : Fin 4096) (j : Fin 2816) : val_main_v18_1 (F := Ideal) x g wi (ix2 i j)
    = logistic (gate (row x i) (gain g) (win wi) j) * (1 - logistic (gate (row x i) (gain g) (win wi) j)) := by
  unfold val_main_v18_1 val_main_call0_v7 val_main_call0_v6 val_main_call0_cst_1
  pointwise
  simp only [ref_logistic, Ideal.ofBits_one_f32]

theorem ref_silu (i : Fin 4096) (j : Fin 2816) : val_main_v18_0 (F := Ideal) x g wi (ix2 i j) = silu (gate (row x i) (gain g) (win wi) j) := by
  unfold val_main_v18_0
  pointwise
  rw [ref_logistic, ref_gate]
  rfl

/-! What comes back through the second product, twice over: on the way to the rows, and for the planes. -/

theorem ref_da (i : Fin 4096) (j : Fin 2816) : val_main_v27 (F := Ideal) wo dy (ix2 i j) = da (wout wo) (row dy i) j := by
  unfold val_main_v27 val_main_v26 val_main_v25 val_main_cst_4 val_main_v24
  pointwise
  simp only [Reals.ofBits_half]
  exact da_eq (wout wo) (row dy i) j

theorem ref_da' (i : Fin 4096) (j : Fin 2816) : val_main_v75 (F := Ideal) wo dy (ix2 i j) = da (wout wo) (row dy i) j := by
  unfold val_main_v75 val_main_v74 val_main_v73 val_main_cst_13
  pointwise
  simp only [Reals.ofBits_half]
  exact da_eq (wout wo) (row dy i) j

section
variable {x g wi wo dy} (f : Finite g wi wo dy)
include f

theorem slope_at (i : Fin 4096) (j : Fin 2816) :
    da (wout wo) (row dy i) j * up (row x i) (gain g) (win wi) j * logistic (gate (row x i) (gain g) (win wi) j)
      + gate (row x i) (gain g) (win wi) j * (da (wout wo) (row dy i) j * up (row x i) (gain g) (win wi) j)
        * (logistic (gate (row x i) (gain g) (win wi) j) * (1 - logistic (gate (row x i) (gain g) (win wi) j)))
      = duAt x g wi wo dy 0 i j :=
  mul_slope (f.da i j) (f.gate i j) (f.up i j)

theorem ref_du0 (i : Fin 4096) (j : Fin 2816) : val_main_v30 (F := Ideal) x g wi wo dy (ix2 i j) = duAt x g wi wo dy 0 i j := by
  unfold val_main_v30 val_main_call1_v2 val_main_call1_v1 val_main_call1_v0 val_main_v29
  pointwise
  rw [ref_bump, ref_logistic, ref_gate, ref_up, ref_da]
  exact slope_at f i j

theorem ref_du0' (i : Fin 4096) (j : Fin 2816) : val_main_v79 (F := Ideal) x g wi wo dy (ix2 i j) = duAt x g wi wo dy 0 i j := by
  unfold val_main_v79 val_main_call3_v2 val_main_call3_v1 val_main_call3_v0 val_main_v77
  pointwise
  rw [v67_1_eq, v67_2_eq, v66_eq, v68_eq, ref_bump, ref_logistic, ref_gate, ref_up, ref_da']
  exact slope_at f i j

end

theorem ref_du1 (i : Fin 4096) (j : Fin 2816) : val_main_v28 (F := Ideal) x g wi wo dy (ix2 i j) = duAt x g wi wo dy 1 i j := by
  unfold val_main_v28
  pointwise
  rw [ref_silu, ref_da]
  exact mul_comm _ _

theorem ref_du1' (i : Fin 4096) (j : Fin 2816) : val_main_v76 (F := Ideal) x g wi wo dy (ix2 i j) = duAt x g wi wo dy 1 i j := by
  unfold val_main_v76
  pointwise
  rw [v67_0_eq, ref_silu, ref_da']
  exact mul_comm _ _

section
variable {x g wi wo dy} (f : Finite g wi wo dy)
include f

/-! The planes: the two halves padded with zeros and added, then split again. -/

theorem ref_lo (i : Fin 4096) (j : Fin 2816) : val_main_v82 (F := Ideal) x g wi wo dy (ix2 i j) = duAt x g wi wo dy 0 i j := by
  unfold val_main_v82 val_main_v81 val_main_v80 val_main_v78 val_main_cst_14 val_main_cst_15
  pointwise
  rw [dif_neg fun h => h.1, zero_add, ref_du0' f]

omit f in
theorem ref_hi (i : Fin 4096) (j : Fin 2816) : val_main_v83 (F := Ideal) x g wi wo dy (ix2 i j) = duAt x g wi wo dy 1 i j := by
  unfold val_main_v83 val_main_v81 val_main_v80 val_main_v78 val_main_cst_14 val_main_cst_15
  pointwise
  rw [ref_du1']

theorem ref_dz (p : Fin 2) (i : Fin 4096) (j : Fin 2816) :
    val_main_v87 (F := Ideal) x g wi wo dy (ix3 p i j) = duAt x g wi wo dy p i j := by
  unfold val_main_v87 val_main_v86 val_main_v85 val_main_v84
  pointwise
  simp only [ref_lo f, ref_hi]
  match p with
  | 0 => rfl
  | 1 => rfl

theorem ref_dzs : val_main_v87 (F := Ideal) x g wi wo dy = dzs x g wi wo dy := by
  funext i
  obtain ⟨p, a, b, rfl⟩ := Planes.idx_split i
  exact ref_dz f p a b

/-! The rows and the gain. -/

theorem ref_halves0 (i : Fin 4096) (j : Fin 2816) : val_main_v31 (F := Ideal) x g wi wo dy (ix2 i (lo j)) = duAt x g wi wo dy 0 i j := by
  unfold val_main_v31
  pointwise
  exact (dif_pos (show (lo j).val < 2816 from j.isLt)).trans (ref_du0 f i j)

omit f in
theorem ref_halves1 (i : Fin 4096) (j : Fin 2816) : val_main_v31 (F := Ideal) x g wi wo dy (ix2 i (hi j)) = duAt x g wi wo dy 1 i j := by
  unfold val_main_v31
  pointwise
  refine (dif_neg (show ¬(hi j).val < 2816 from Nat.not_lt.2 (Nat.le_add_right 2816 j.val))).trans ?_
  refine Eq.trans (congrArg (fun q => val_main_v28 (F := Ideal) x g wi wo dy (ix2 i q)) (Fin.ext ?_)) (ref_du1 x g wi wo dy i j)
  exact Nat.add_sub_cancel_left 2816 j.val

theorem ref_dh (i : Fin 4096) (k : Fin 1024) : val_main_v32 (F := Ideal) x g wi wo dy (ix2 i k) = dhAt x g wi wo dy i k := by
  unfold val_main_v32
  pointwise
  rw [sum_halves]
  simp only [ref_halves0 f, ref_halves1]
  rfl

theorem ref_dg (k : Fin 1024) : val_main_v35 (F := Ideal) x g wi wo dy (ix2 0 k) = dgAt x g wi wo dy k := by
  unfold val_main_v35 val_main_v34 val_main_cst_5 val_main_v33
  pointwise
  simp only [ref_hat, ref_dh f, Ideal.ofBits_zero_f32, zero_add]
  exact Finset.sum_congr rfl fun i _ => mul_comm _ _

theorem ref_dgs : val_main_v35 (F := Ideal) x g wi wo dy = dgs x g wi wo dy := by
  funext i
  obtain ⟨a, b, rfl⟩ := idx_split i
  obtain rfl : a = 0 := Subsingleton.elim _ _
  exact ref_dg f b

theorem ref_dxh (i : Fin 4096) (k : Fin 1024) :
    val_main_v37 (F := Ideal) x g wi wo dy (ix2 i k) = dhAt x g wi wo dy i k * gain g k := by
  unfold val_main_v37 val_main_v36
  pointwise
  rw [ref_dh f]
  rfl

theorem ref_slope (i : Fin 4096) (k : Fin 1024) : val_main_v48 (F := Ideal) x g wi wo dy (ix2 i k)
    = Norm.slope (row x i) (fun k => dhAt x g wi wo dy i k * gain g k) := by
  unfold val_main_v48 val_main_v47 val_main_cst_8 val_main_v46 val_main_v45 val_main_cst_7 val_main_v44 val_main_v40 val_main_v39
    val_main_cst_6 val_main_v38 val_main_v10 val_main_v9 val_main_cst_2 val_main_v8
  pointwise
  simp only [Fin.sum_univ_one, ref_dxh f, Ideal.ofBits_zero_f32, zero_add, Norm.ofBits_len, Norm.ofBits_mhalf]
  rw [ref_rs, ref_ms]
  rfl

theorem ref_dx (i : Fin 4096) (k : Fin 1024) : val_main_v52 (F := Ideal) x g wi wo dy (ix2 i k) = dxAt x g wi wo dy i k := by
  unfold dxAt dx
  rw [← Norm.chainGrad_eq (row x i)]
  unfold val_main_v52 val_main_v51 val_main_v50 val_main_v49 val_main_v43 val_main_v42 val_main_v41
  pointwise
  rw [ref_slope f, ref_dxh f, ref_rs]
  unfold Norm.chainGrad
  rw [← add_assoc, ← add_assoc]
  rfl

theorem ref_dxs : val_main_v52 (F := Ideal) x g wi wo dy = dxs x g wi wo dy := by
  funext i
  obtain ⟨a, b, rfl⟩ := idx_split i
  exact ref_dx f a b

end

end Cert.Ffn.Dgrad

end
-- ==== Proof.FfnDgrad.lean ====
/-
  The gradient of a half-step network by the kernel: 256 rows at a point, the gain's gradient added up over the points.
-/
module

public import Idealize.ShloMosaic.Lib.Pointwise
public import proofs.«01_k».proof.Proof.Blocks
public import proofs.«01_k».proof.Proof.FfnDgradPay
public import proofs.«01_k».proof.Proof.FfnDgradRef
public import proofs.«01_k».proof.Proof.Gen.FfnDgradIdeal.Value

@[expose] public section

set_option maxRecDepth 16384

noncomputable section

open Idealize.ShloMosaic Idealize.ShloMosaic.TcCoe Idealize.SL.Sem

namespace Cert.Ffn.Dgrad.Kernel

open Cert.FfnDgradIdeal Cert.FfnDgradIdeal.Gen
open Cert.Ffn.Fwd (row gain win wout)

variable (m : (ℓ : Loc nD τ sig) → Buf (Elt Ideal) ℓ) (ρ : Dev nD → PrngReg) (c : Dev nD)
abbrev x : S4096x1024.Idx → EReal := m ((c : Thread nD τ).loc main_arg0)
abbrev g : S1x1024.Idx → EReal := m ((c : Thread nD τ).loc main_arg1)
abbrev wi : S1024x5632.Idx → EReal := m ((c : Thread nD τ).loc main_arg2)
abbrev wo : S2816x1024.Idx → EReal := m ((c : Thread nD τ).loc main_arg3)
abbrev dy : S4096x1024.Idx → EReal := m ((c : Thread nD τ).loc main_arg4)

/-! Where the block of a point lies in an array. -/

def at_ (t : Fin cfg0.N) (a : Fin 256) : Fin 4096 :=
  ⟨t.val * 256 + a.val, by have h : t.val < 16 := t.isLt; omega⟩

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = t.val ∧ win0_1.index t 1 = 0 :=
  (by decide +kernel : ∀ t : Fin grid0.N, win0_1.index t 0 = t.val ∧ win0_1.index t 1 = 0)

theorem index2 : ∀ t : Fin cfg0.N, win0_2.index t 0 = 0 ∧ win0_2.index t 1 = 0 :=
  (by decide +kernel : ∀ t : Fin grid0.N, win0_2.index t 0 = 0 ∧ win0_2.index t 1 = 0)

theorem index3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)

theorem index4 : ∀ t : Fin cfg0.N, win0_4.index t 0 = 0 ∧ win0_4.index t 1 = 0 :=
  (by decide +kernel : ∀ t : Fin grid0.N, win0_4.index t 0 = 0 ∧ win0_4.index t 1 = 0)

theorem index5 : ∀ t : Fin cfg0.N, win0_5.index t 0 = t.val ∧ win0_5.index t 1 = 0 :=
  (by decide +kernel : ∀ t : Fin grid0.N, win0_5.index t 0 = t.val ∧ win0_5.index t 1 = 0)

theorem index6 : ∀ t : Fin cfg0.N, win0_6.index t 0 = 0 ∧ win0_6.index t 1 = 0 :=
  (by decide +kernel : ∀ t : Fin grid0.N, win0_6.index t 0 = 0 ∧ win0_6.index t 1 = 0)

theorem index7 : ∀ t : Fin cfg0.N, win0_7.index t 0 = 0 ∧ win0_7.index t 1 = t.val ∧ win0_7.index t 2 = 0 :=
  (by decide +kernel : ∀ t : Fin grid0.N, win0_7.index t 0 = 0 ∧ win0_7.index t 1 = t.val ∧ win0_7.index t 2 = 0)

theorem index8 : ∀ t : Fin cfg0.N, win0_8.index t 0 = t.val ∧ win0_8.index t 1 = 0 :=
  (by decide +kernel : ∀ t : Fin grid0.N, win0_8.index t 0 = t.val ∧ win0_8.index t 1 = 0)

theorem index9 : ∀ t : Fin cfg0.N, win0_9.index t 0 = t.val ∧ win0_9.index t 1 = 0 :=
  (by decide +kernel : ∀ t : Fin grid0.N, win0_9.index t 0 = t.val ∧ win0_9.index t 1 = 0)

theorem index10 : ∀ t : Fin cfg0.N, win0_10.index t 0 = 0 ∧ win0_10.index t 1 = 0 :=
  (by decide +kernel : ∀ t : Fin grid0.N, win0_10.index t 0 = 0 ∧ win0_10.index t 1 = 0)

/-! What a point reads. -/

theorem array0 : V m c main_v30 = dy m c := by
  unfold V
  simp only [hostOps0, hostOps0_1, hostOps0_2, hostOps0_3, hostOps0_4, List.flatten_cons, List.flatten_nil, List.append_nil,
    List.cons_append, List.nil_append]
  after_results_simp
  rfl

theorem array2 : V m c main_v31 = wo m c := by
  unfold V
  simp only [hostOps0, hostOps0_1, hostOps0_2, hostOps0_3, hostOps0_4, List.flatten_cons, List.flatten_nil, List.append_nil,
    List.cons_append, List.nil_append]
  after_results_simp
  rfl

/-- The planes of the derivatives are those of the network's reference. -/
theorem array3 : V m c main_v29 = Cert.FfnFwdRefIdeal.Read.val_main_v54 (F := Ideal) (x m c) (g m c) (wi m c) := by
  unfold V
  simp only [hostOps0, hostOps0_1, hostOps0_2, hostOps0_3, hostOps0_4, List.flatten_cons, List.flatten_nil, List.append_nil,
    List.cons_append, List.nil_append]
  after_results_simp
  rfl

theorem array4 (j : Fin 5632) (k : Fin 1024) : V m c main_v33 (ix2 j k) = wi m c (ix2 k j) := by
  unfold V
  simp only [hostOps0, hostOps0_1, hostOps0_2, hostOps0_3, hostOps0_4, List.flatten_cons, List.flatten_nil, List.append_nil,
    List.cons_append, List.nil_append]
  after_results_simp
  pointwise

theorem blk0 (t : Fin cfg0.N) (a : Fin 256) (d : Fin 1024) : iblk m c 0 t (ix2 a d) = dy m c (ix2 (at_ t a) d) := by
  unfold iblk
  rw [View.read_apply]
  show V m c main_v30 _ = _
  rw [array0]
  congr 1; funext q; apply Fin.ext
  match q with
  | ⟨0, _⟩ => show win0_0.index t 0 * 256 + 1 * a.val = t.val * 256 + a.val
              rw [(index0 t).1]; omega
  | ⟨1, _⟩ => show win0_0.index t 1 * 1024 + 1 * d.val = d.val
              rw [(index0 t).2]; omega

theorem blk1 (t : Fin cfg0.N) (a : Fin 256) (d : Fin 1024) : iblk m c 1 t (ix2 a d) = dy m c (ix2 (at_ t a) d) := by
  unfold iblk
  rw [View.read_apply]
  show V m c main_arg4 _ = _
  rw [V_main_arg4 m c]
  congr 1; funext q; apply Fin.ext
  match q with
  | ⟨0, _⟩ => show win0_1.index t 0 * 256 + 1 * a.val = t.val * 256 + a.val
              rw [(index1 t).1]; omega
  | ⟨1, _⟩ => show win0_1.index t 1 * 1024 + 1 * d.val = d.val
              rw [(index1 t).2]; omega

theorem blk2 (t : Fin cfg0.N) (a : Fin 2816) (d : Fin 1024) : iblk m c 2 t (ix2 a d) = wo m c (ix2 a d) := by
  unfold iblk
  rw [View.read_apply]
  show V m c main_v31 _ = _
  rw [array2]
  congr 1; funext q; apply Fin.ext
  match q with
  | ⟨0, _⟩ => show win0_2.index t 0 * 2816 + 1 * a.val = a.val
              rw [(index2 t).1]; omega
  | ⟨1, _⟩ => show win0_2.index t 1 * 1024 + 1 * d.val = d.val
              rw [(index2 t).2]; omega

theorem blk5 (t : Fin cfg0.N) (a : Fin 256) (d : Fin 1024) : iblk m c 5 t (ix2 a d) = x m c (ix2 (at_ t a) d) := by
  unfold iblk
  rw [View.read_apply]
  show V m c main_arg0 _ = _
  rw [V_main_arg0 m c]
  congr 1; funext q; apply Fin.ext
  match q with
  | ⟨0, _⟩ => show win0_5.index t 0 * 256 + 1 * a.val = t.val * 256 + a.val
              rw [(index5 t).1]; omega
  | ⟨1, _⟩ => show win0_5.index t 1 * 1024 + 1 * d.val = d.val
              rw [(index5 t).2]; omega

theorem blk6 (t : Fin cfg0.N) (a : Fin 1) (d : Fin 1024) : iblk m c 6 t (ix2 a d) = g m c (ix2 a d) := by
  unfold iblk
  rw [View.read_apply]
  show V m c main_arg1 _ = _
  rw [V_main_arg1 m c]
  congr 1; funext q; apply Fin.ext
  match q with
  | ⟨0, _⟩ => show win0_6.index t 0 * 1 + 1 * a.val = a.val
              rw [(index6 t).1]; omega
  | ⟨1, _⟩ => show win0_6.index t 1 * 1024 + 1 * d.val = d.val
              rw [(index6 t).2]; omega

theorem blk3 (t : Fin cfg0.N) (p : Fin 2) (a : Fin 256) (d : Fin 2816) :
    iblk m c 3 t (ix3 p a d) = slopes (row (x m c) (at_ t a)) (gain (g m c)) (win (wi m c)) p d := by
  rw [← Fwd.ref_z, ← array3]
  unfold iblk
  rw [View.read_apply]
  show V m c main_v29 _ = _
  congr 1; funext q; apply Fin.ext
  match q with
  | ⟨0, _⟩ => show win0_3.index t 0 * 2 + 1 * p.val = p.val
              rw [(index3 t).1]; omega
  | ⟨1, _⟩ => show win0_3.index t 1 * 256 + 1 * a.val = t.val * 256 + a.val
              rw [(index3 t).2.1]; omega
  | ⟨2, _⟩ => show win0_3.index t 2 * 2816 + 1 * d.val = d.val
              rw [(index3 t).2.2]; omega

theorem blk4 (t : Fin cfg0.N) (a : Fin 5632) (d : Fin 1024) : iblk m c 4 t (ix2 a d) = wi m c (ix2 d a) := by
  rw [← array4]
  unfold iblk
  rw [View.read_apply]
  show V m c main_v33 _ = _
  congr 1; funext q; apply Fin.ext
  match q with
  | ⟨0, _⟩ => show win0_4.index t 0 * 5632 + 1 * a.val = a.val
              rw [(index4 t).1]; omega
  | ⟨1, _⟩ => show win0_4.index t 1 * 1024 + 1 * d.val = d.val
              rw [(index4 t).2]; omega

/-! The point's rows, gain and weights are those of the arrays. -/

theorem row_eq (t : Fin cfg0.N) (a : Fin 256) : Pay.row (iblk m c 5 t) a = row (x m c) (at_ t a) :=
  funext fun k => blk5 m c t a k

theorem drow_eq (t : Fin cfg0.N) (a : Fin 256) : Pay.drow (iblk m c 0 t) a = row (dy m c) (at_ t a) :=
  funext fun k => blk0 m c t a k

theorem gain_eq (t : Fin cfg0.N) : Pay.gain (iblk m c 6 t) = gain (g m c) := funext fun k => blk6 m c t 0 k

theorem win_eq (t : Fin cfg0.N) : Pay.win (iblk m c 4 t) = win (wi m c) := funext fun k => funext fun j => blk4 m c t j k

theorem wout_eq (t : Fin cfg0.N) : Pay.wout (iblk m c 2 t) = wout (wo m c) := funext fun j => funext fun k => blk2 m c t j k

theorem du_eq (t : Fin cfg0.N) (p : Fin 2) (a : Fin 256) (j : Fin 2816) :
    Pay.du (iblk m c 0 t) (iblk m c 2 t) (iblk m c 3 t) p a j
      = duAt (x m c) (g m c) (wi m c) (wo m c) (dy m c) p (at_ t a) j := by
  unfold Pay.du
  rw [drow_eq, wout_eq, blk3]
  rfl

theorem dh_eq (t : Fin cfg0.N) (a : Fin 256) (k : Fin 1024) :
    Pay.dh (iblk m c 0 t) (iblk m c 2 t) (iblk m c 3 t) (iblk m c 4 t) a k
      = dhAt (x m c) (g m c) (wi m c) (wo m c) (dy m c) (at_ t a) k := by
  unfold Pay.dh
  rw [win_eq]
  simp only [du_eq]
  rfl

theorem dxh_eq (t : Fin cfg0.N) (a : Fin 256) :
    Pay.dxh (iblk m c 0 t) (iblk m c 2 t) (iblk m c 3 t) (iblk m c 4 t) (iblk m c 6 t) a
      = fun k => dhAt (x m c) (g m c) (wi m c) (wo m c) (dy m c) (at_ t a) k * gain (g m c) k := by
  funext k
  show Pay.dh _ _ _ _ a k * Pay.gain _ k = _
  rw [dh_eq, gain_eq]

/-! ## The planes and the gradient of the residual stream -/

theorem hz : (![0, 0] : Fin 2 → Nat) = fun _ => 0 := funext fun a => by fin_cases a <;> rfl

/-- What a point computes: of the normed rows, -/
abbrev dhs (t : Fin cfg0.N) : FVec Ideal S256x1024 .f32 := Pay.dhb (iblk m c 0 t) (iblk m c 2 t) (iblk m c 3 t) (iblk m c 4 t)
/-- of the rows -/
abbrev tile (t : Fin cfg0.N) : FVec Ideal S256x1024 .f32 :=
  k0_pay4 (dhs m c t) (iblk m c 5 t) (k0_pay15 (iblk m c 5 t)) (iblk m c 6 t) (iblk m c 1 t)
/-- and of the planes. -/
abbrev planes (t : Fin cfg0.N) : S2x256x2816.Idx → EReal := Pay.dus (iblk m c 0 t) (iblk m c 2 t) (iblk m c 3 t)

theorem tile_apply (t : Fin cfg0.N) (a : Fin 256) (k : Fin 1024) :
    tile m c t (ix2 a k) = dxAt (x m c) (g m c) (wi m c) (wo m c) (dy m c) (at_ t a) k := by
  refine (Pay.dx_apply ..).trans ?_
  rw [row_eq, dxh_eq, blk1]
  rfl

/-- The sum of two products, where both read back what was stored. -/
theorem back (t : Fin cfg0.N) {s : RefSig} {κ : Kind} {sp : Space} (v : View s κ sp S2x256x2816 .bf16) (h0 h1) (w0 w1) :
    k0_pay14 (v.readCov (Pay.pieces (iblk m c 0 t) (iblk m c 2 t) (iblk m c 3 t))
        (Rect.unit (s := S2x256x2816) ![0, 0, 0] S1x256x2816.size h0).toLoadRect) w0
      (v.readCov (Pay.pieces (iblk m c 0 t) (iblk m c 2 t) (iblk m c 3 t))
        (Rect.unit (s := S2x256x2816) ![1, 0, 0] S1x256x2816.size h1).toLoadRect) w1
      = k0_pay14 (Pay.plane (iblk m c 0 t) (iblk m c 2 t) (iblk m c 3 t) 0) w0
          (Pay.plane (iblk m c 0 t) (iblk m c 2 t) (iblk m c 3 t) 1) w1 :=
  congrArg₂ (fun f h => k0_pay14 f w0 h w1) (Pay.back _ _ _ v 0 h0) (Pay.back _ _ _ v 1 h1)

/-! What is written back, at the first point and at the others. -/

theorem after7_A (t : Fin cfg0.N) (h0 : t.val % 16 = 0) (h1 : ¬1 ≤ t.val) : (dats m 0 c).flushed 7 t
    = (cfg0.win 7).cut (grid0.coords t) (planes m c t) := by
  rw [Value.flushed7_A m c t h0 h1]
  unfold out0_A_7
  rw [View.read_writes_eq_canon _ _ _ (fun _ => cover0_A_7 ..)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread,
    View.ld_unit_zero (S := S256x1024) hz, View.ld_unit_zero (S := S1x1024) hz]
  exact congrArg ((cfg0.win 7).cut (grid0.coords t)) (Pay.canon_pieces ..)

theorem after7_B (t : Fin cfg0.N) (h0 : ¬t.val % 16 = 0) (h1 : 1 ≤ t.val) : (dats m 0 c).flushed 7 t
    = (cfg0.win 7).cut (grid0.coords t) (planes m c t) := by
  rw [Value.flushed7_B m c t h0 h1]
  unfold out0_B_7
  rw [View.read_writes_eq_canon _ _ _ (fun _ => cover0_B_7 ..)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread,
    View.ld_unit_zero (S := S256x1024) hz, View.ld_unit_zero (S := S1x1024) hz]
  exact congrArg ((cfg0.win 7).cut (grid0.coords t)) (Pay.canon_pieces ..)

theorem after8_A (t : Fin cfg0.N) (h0 : t.val % 16 = 0) (h1 : ¬1 ≤ t.val) : (dats m 0 c).flushed 8 t
    = (cfg0.win 8).cut (grid0.coords t) (tile m c t) := by
  rw [Value.flushed8_A m c t h0 h1]
  unfold out0_A_8
  rw [View.read_writes_eq_canon _ _ _ (fun _ => cover0_A_8 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread,
    View.ld_unit_zero (S := S256x1024) hz, View.ld_unit_zero (S := S1x1024) hz]
  exact congrArg (fun f => (cfg0.win 8).cut (grid0.coords t) (k0_pay4 f (iblk m c 5 t) (k0_pay15 (iblk m c 5 t)) (iblk m c 6 t) (iblk m c 1 t)))
    (back m c t ..)

theorem after8_B (t : Fin cfg0.N) (h0 : ¬t.val % 16 = 0) (h1 : 1 ≤ t.val) : (dats m 0 c).flushed 8 t
    = (cfg0.win 8).cut (grid0.coords t) (tile m c t) := by
  rw [Value.flushed8_B m c t h0 h1]
  unfold out0_B_8
  rw [View.read_writes_eq_canon _ _ _ (fun _ => cover0_B_8 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread,
    View.ld_unit_zero (S := S256x1024) hz, View.ld_unit_zero (S := S1x1024) hz]
  exact congrArg (fun f => (cfg0.win 8).cut (grid0.coords t) (k0_pay4 f (iblk m c 5 t) (k0_pay15 (iblk m c 5 t)) (iblk m c 6 t) (iblk m c 1 t)))
    (back m c t ..)

theorem after9_A (t : Fin cfg0.N) (h0 : t.val % 16 = 0) (h1 : ¬1 ≤ t.val) : (dats m 0 c).flushed 9 t
    = (cfg0.win 9).cut (grid0.coords t) (tile m c t) := by
  rw [Value.flushed9_A m c t h0 h1]
  unfold out0_A_9
  rw [View.read_writes_eq_canon _ _ _ (fun _ => cover0_A_9 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread,
    View.ld_unit_zero (S := S256x1024) hz, View.ld_unit_zero (S := S1x1024) hz]
  exact congrArg (fun f => (cfg0.win 9).cut (grid0.coords t) (k0_pay5 f (iblk m c 5 t) (k0_pay15 (iblk m c 5 t)) (iblk m c 6 t) (iblk m c 1 t)))
    (back m c t ..)

theorem after9_B (t : Fin cfg0.N) (h0 : ¬t.val % 16 = 0) (h1 : 1 ≤ t.val) : (dats m 0 c).flushed 9 t
    = (cfg0.win 9).cut (grid0.coords t) (tile m c t) := by
  rw [Value.flushed9_B m c t h0 h1]
  unfold out0_B_9
  rw [View.read_writes_eq_canon _ _ _ (fun _ => cover0_B_9 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread,
    View.ld_unit_zero (S := S256x1024) hz, View.ld_unit_zero (S := S1x1024) hz]
  exact congrArg (fun f => (cfg0.win 9).cut (grid0.coords t) (k0_pay5 f (iblk m c 5 t) (k0_pay15 (iblk m c 5 t)) (iblk m c 6 t) (iblk m c 1 t)))
    (back m c t ..)

theorem after7 (t : Fin cfg0.N) : (dats m 0 c).flushed 7 t = (cfg0.win 7).cut (grid0.coords t) (planes m c t) := by
  have hN : t.val < 16 := t.isLt
  by_cases h : t.val % 16 = 0
  · exact after7_A m c t h (by omega)
  · exact after7_B m c t h (by omega)

theorem cut7 (f : S2x256x2816.Idx → EReal) (G : S2x4096x2816.Idx → EReal) (t : Fin cfg0.N)
    (h : ∀ (p : Fin 2) (a : Fin 256) (d : Fin 2816), f (ix3 p a d) = G (ix3 p (at_ t a) d)) :
    (cfg0.win 7).cut (grid0.coords t) f = ((cfg0.win 7).blk t).view.read (Elt Ideal) G := by
  funext j
  rw [View.read_apply]
  have h0 : (j 0 : ℕ) < 2 := (j 0).isLt
  have h1 : (j 1 : ℕ) < 256 := (j 1).isLt
  have h2 : (j 2 : ℕ) < 2816 := (j 2).isLt
  refine (congrArg f ?_).trans ((h ⟨(j 0 : ℕ), h0⟩ ⟨(j 1 : ℕ), h1⟩ ⟨(j 2 : ℕ), h2⟩).trans (congrArg G ?_))
  · funext q
    match q with
    | ⟨0, _⟩ => rfl
    | ⟨1, _⟩ => rfl
    | ⟨2, _⟩ => rfl
  · funext q; apply Fin.ext
    match q with
    | ⟨0, _⟩ => show (j 0 : ℕ) = win0_7.index t 0 * 2 + 1 * (j 0 : ℕ)
                rw [(index7 t).1]; omega
    | ⟨1, _⟩ => show t.val * 256 + (j 1 : ℕ) = win0_7.index t 1 * 256 + 1 * (j 1 : ℕ)
                rw [(index7 t).2.1]; omega
    | ⟨2, _⟩ => show (j 2 : ℕ) = win0_7.index t 2 * 2816 + 1 * (j 2 : ℕ)
                rw [(index7 t).2.2]; omega

theorem flushed7 (t : Fin cfg0.N) : (dats m 0 c).flushed 7 t
    = ((cfg0.win 7).blk t).view.read (Elt Ideal) (dzs (x m c) (g m c) (wi m c) (wo m c) (dy m c)) := by
  rw [after7]
  exact cut7 _ _ t fun p a j => du_eq m c t p a j

theorem cover7 (i : S2x4096x2816.Idx) : ∃ t : Fin cfg0.N, (cfg0.win 7).flush t = true ∧ i ∈ ((cfg0.win 7).blk t).view.set := by
  have h0 : (i 0 : ℕ) < 2 := (i 0).isLt
  have h1 : (i 1 : ℕ) < 4096 := (i 1).isLt
  have h2 : (i 2 : ℕ) < 2816 := (i 2).isLt
  have hN : cfg0.N = 16 := N_0
  obtain ⟨t, ht⟩ : ∃ t : Fin cfg0.N, t.val = (i 1 : ℕ) / 256 := ⟨⟨_, by omega⟩, rfl⟩
  have e := index7 t
  refine ⟨t, flush0_7 _, ?_⟩
  show i ∈ ((View.whole main_v34_0).slice (win0_7.rect t)).set
  rw [View.set_slice_whole, Rect.mem_set_unit]
  intro a
  match a with
  | ⟨0, _⟩ => show win0_7.index t 0 * 2 ≤ (i 0 : ℕ) ∧ (i 0 : ℕ) < win0_7.index t 0 * 2 + 2
              rw [e.1]; omega
  | ⟨1, _⟩ => show win0_7.index t 1 * 256 ≤ (i 1 : ℕ) ∧ (i 1 : ℕ) < win0_7.index t 1 * 256 + 256
              rw [e.2.1, ht]; omega
  | ⟨2, _⟩ => show win0_7.index t 2 * 2816 ≤ (i 2 : ℕ) ∧ (i 2 : ℕ) < win0_7.index t 2 * 2816 + 2816
              rw [e.2.2]; omega

theorem final7 : (dats m 0 c).arrAt 7 cfg0.N = dzs (x m c) (g m c) (wi m c) (wo m c) (dy m c) :=
  (dats m 0 c).arrAt_eq_of_cover 7 _ (fun t _ => flushed7 m c t) cover7

theorem after8 (t : Fin cfg0.N) : (dats m 0 c).flushed 8 t = (cfg0.win 8).cut (grid0.coords t) (tile m c t) := by
  have hN : t.val < 16 := t.isLt
  by_cases h : t.val % 16 = 0
  · exact after8_A m c t h (by omega)
  · exact after8_B m c t h (by omega)

theorem cut8 (f : S256x1024.Idx → EReal) (G : S4096x1024.Idx → EReal) (t : Fin cfg0.N)
    (h : ∀ (a : Fin 256) (d : Fin 1024), f (ix2 a d) = G (ix2 (at_ t a) d)) :
    (cfg0.win 8).cut (grid0.coords t) f = ((cfg0.win 8).blk t).view.read (Elt Ideal) G := by
  funext j
  rw [View.read_apply]
  have h0 : (j 0 : ℕ) < 256 := (j 0).isLt
  have h1 : (j 1 : ℕ) < 1024 := (j 1).isLt
  refine (congrArg f ?_).trans ((h ⟨(j 0 : ℕ), h0⟩ ⟨(j 1 : ℕ), h1⟩).trans (congrArg G ?_))
  · funext q
    match q with
    | ⟨0, _⟩ => rfl
    | ⟨1, _⟩ => rfl
  · funext q; apply Fin.ext
    match q with
    | ⟨0, _⟩ => show t.val * 256 + (j 0 : ℕ) = win0_8.index t 0 * 256 + 1 * (j 0 : ℕ)
                rw [(index8 t).1]; omega
    | ⟨1, _⟩ => show (j 1 : ℕ) = win0_8.index t 1 * 1024 + 1 * (j 1 : ℕ)
                rw [(index8 t).2]; omega

theorem flushed8 (t : Fin cfg0.N) : (dats m 0 c).flushed 8 t
    = ((cfg0.win 8).blk t).view.read (Elt Ideal) (dxs (x m c) (g m c) (wi m c) (wo m c) (dy m c)) := by
  rw [after8]
  exact cut8 _ _ t fun a d => tile_apply m c t a d

theorem cover8 (i : S4096x1024.Idx) : ∃ t : Fin cfg0.N, (cfg0.win 8).flush t = true ∧ i ∈ ((cfg0.win 8).blk t).view.set := by
  have h0 : (i 0 : ℕ) < 4096 := (i 0).isLt
  have h1 : (i 1 : ℕ) < 1024 := (i 1).isLt
  have hN : cfg0.N = 16 := N_0
  obtain ⟨t, ht⟩ : ∃ t : Fin cfg0.N, t.val = (i 0 : ℕ) / 256 := ⟨⟨_, by omega⟩, rfl⟩
  have e := index8 t
  refine ⟨t, flush0_8 _, ?_⟩
  show i ∈ ((View.whole main_v34_1).slice (win0_8.rect t)).set
  rw [View.set_slice_whole, Rect.mem_set_unit]
  intro a
  match a with
  | ⟨0, _⟩ => show win0_8.index t 0 * 256 ≤ (i 0 : ℕ) ∧ (i 0 : ℕ) < win0_8.index t 0 * 256 + 256
              rw [e.1, ht]; omega
  | ⟨1, _⟩ => show win0_8.index t 1 * 1024 ≤ (i 1 : ℕ) ∧ (i 1 : ℕ) < win0_8.index t 1 * 1024 + 1024
              rw [e.2]; omega

theorem final8 : (dats m 0 c).arrAt 8 cfg0.N = dxs (x m c) (g m c) (wi m c) (wo m c) (dy m c) :=
  (dats m 0 c).arrAt_eq_of_cover 8 _ (fun t _ => flushed8 m c t) cover8

theorem after9 (t : Fin cfg0.N) : (dats m 0 c).flushed 9 t = (cfg0.win 9).cut (grid0.coords t) (tile m c t) := by
  have hN : t.val < 16 := t.isLt
  by_cases h : t.val % 16 = 0
  · exact after9_A m c t h (by omega)
  · exact after9_B m c t h (by omega)

theorem cut9 (f : S256x1024.Idx → EReal) (G : S4096x1024.Idx → EReal) (t : Fin cfg0.N)
    (h : ∀ (a : Fin 256) (d : Fin 1024), f (ix2 a d) = G (ix2 (at_ t a) d)) :
    (cfg0.win 9).cut (grid0.coords t) f = ((cfg0.win 9).blk t).view.read (Elt Ideal) G := by
  funext j
  rw [View.read_apply]
  have h0 : (j 0 : ℕ) < 256 := (j 0).isLt
  have h1 : (j 1 : ℕ) < 1024 := (j 1).isLt
  refine (congrArg f ?_).trans ((h ⟨(j 0 : ℕ), h0⟩ ⟨(j 1 : ℕ), h1⟩).trans (congrArg G ?_))
  · funext q
    match q with
    | ⟨0, _⟩ => rfl
    | ⟨1, _⟩ => rfl
  · funext q; apply Fin.ext
    match q with
    | ⟨0, _⟩ => show t.val * 256 + (j 0 : ℕ) = win0_9.index t 0 * 256 + 1 * (j 0 : ℕ)
                rw [(index9 t).1]; omega
    | ⟨1, _⟩ => show (j 1 : ℕ) = win0_9.index t 1 * 1024 + 1 * (j 1 : ℕ)
                rw [(index9 t).2]; omega

theorem flushed9 (t : Fin cfg0.N) : (dats m 0 c).flushed 9 t
    = ((cfg0.win 9).blk t).view.read (Elt Ideal) (dxs (x m c) (g m c) (wi m c) (wo m c) (dy m c)) := by
  rw [after9]
  exact cut9 _ _ t fun a d => tile_apply m c t a d

theorem cover9 (i : S4096x1024.Idx) : ∃ t : Fin cfg0.N, (cfg0.win 9).flush t = true ∧ i ∈ ((cfg0.win 9).blk t).view.set := by
  have h0 : (i 0 : ℕ) < 4096 := (i 0).isLt
  have h1 : (i 1 : ℕ) < 1024 := (i 1).isLt
  have hN : cfg0.N = 16 := N_0
  obtain ⟨t, ht⟩ : ∃ t : Fin cfg0.N, t.val = (i 0 : ℕ) / 256 := ⟨⟨_, by omega⟩, rfl⟩
  have e := index9 t
  refine ⟨t, flush0_9 _, ?_⟩
  show i ∈ ((View.whole main_v34_2).slice (win0_9.rect t)).set
  rw [View.set_slice_whole, Rect.mem_set_unit]
  intro a
  match a with
  | ⟨0, _⟩ => show win0_9.index t 0 * 256 ≤ (i 0 : ℕ) ∧ (i 0 : ℕ) < win0_9.index t 0 * 256 + 256
              rw [e.1, ht]; omega
  | ⟨1, _⟩ => show win0_9.index t 1 * 1024 ≤ (i 1 : ℕ) ∧ (i 1 : ℕ) < win0_9.index t 1 * 1024 + 1024
              rw [e.2]; omega

theorem final9 : (dats m 0 c).arrAt 9 cfg0.N = dxs (x m c) (g m c) (wi m c) (wo m c) (dy m c) :=
  (dats m 0 c).arrAt_eq_of_cover 9 _ (fun t _ => flushed9 m c t) cover9

/-! ## The gradient of the gain -/

/-! What its array holds after a point: after the first the point's sum, after another what was there and the point's sum. -/

theorem gain_A (t : Fin cfg0.N) (h0 : t.val % 16 = 0) (h1 : ¬1 ≤ t.val) : (outsAt0 m c t.val t.isLt).2.2.2
    = k0_pay2 (dhs m c t) (iblk m c 5 t) (k0_pay15 (iblk m c 5 t)) := by
  rw [outsAt0_A m c t h0 h1]
  dsimp only
  unfold out0_A_10
  rw [View.read_writes_eq_canon _ _ _ (fun _ => cover0_A_10 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread,
    View.ld_unit_zero (S := S256x1024) hz, View.ld_unit_zero (S := S1x1024) hz]
  exact congrArg (fun f => k0_pay2 f (iblk m c 5 t) (k0_pay15 (iblk m c 5 t)))
    (back m c t ..)

theorem gain_B (t : Fin cfg0.N) (h0 : ¬t.val % 16 = 0) (h1 : 1 ≤ t.val) : (outsAt0 m c t.val t.isLt).2.2.2
    = k0_pay3 (dhs m c t) (iblk m c 5 t) (k0_pay15 (iblk m c 5 t))
      (outsAt0 m c (t.val - 1) (Nat.lt_of_le_of_lt (Nat.sub_le _ _) t.isLt)).2.2.2 := by
  rw [outsAt0_B m c t h0 h1]
  dsimp only
  unfold out0_B_10
  rw [View.read_writes_eq_canon _ _ _ (fun _ => cover0_B_10 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_10 t).read_unread,
    View.ld_unit_zero (S := S256x1024) hz, View.ld_unit_zero (S := S1x1024) hz]
  exact congrArg (fun f => k0_pay3 f (iblk m c 5 t) (k0_pay15 (iblk m c 5 t))
      (outsAt0 m c (t.val - 1) (Nat.lt_of_le_of_lt (Nat.sub_le _ _) t.isLt)).2.2.2)
    (back m c t ..)

/-- A point's sum. -/
def part (k : Fin 1024) (n : ℕ) : EReal :=
  if h : n < cfg0.N then ∑ a : Fin 256, dhAt (x m c) (g m c) (wi m c) (wo m c) (dy m c) (at_ ⟨n, h⟩ a) k
    * Norm.hat (row (x m c) (at_ ⟨n, h⟩ a)) k else 0

theorem part_eq (k : Fin 1024) (t : Fin cfg0.N) :
    ∑ a : Fin 256, Pay.dh (iblk m c 0 t) (iblk m c 2 t) (iblk m c 3 t) (iblk m c 4 t) a k * Norm.hat (Pay.row (iblk m c 5 t) a) k
      = part m c k t.val := by
  unfold part
  rw [dif_pos t.isLt]
  exact Finset.sum_congr rfl fun a _ => by rw [dh_eq, row_eq]

/-- After a point the array holds the running sum, -/
theorem gain_acc (k : Fin 1024) : ∀ (n : ℕ) (h : n < cfg0.N), (outsAt0 m c n h).2.2.2 (ix2 0 k) = Blocks.acc (part m c k) n
  | 0, h => by
    rw [gain_A m c ⟨0, h⟩ rfl (by simp), Pay.dg_apply, part_eq]
    rfl
  | n + 1, h => by
    have hN : cfg0.N = 16 := N_0
    have h0 : ¬(⟨n + 1, h⟩ : Fin cfg0.N).val % 16 = 0 := by dsimp only; omega
    rw [gain_B m c ⟨n + 1, h⟩ h0 (Nat.succ_le_succ (Nat.zero_le n)), Pay.more_apply, part_eq]
    exact congrArg (· + part m c k (n + 1)) (gain_acc k n (Nat.lt_of_succ_lt h))

/-- and after the last the sum over all rows. -/
theorem gain_last (k : Fin 1024) (h : 15 < cfg0.N) :
    (outsAt0 m c 15 h).2.2.2 (ix2 0 k) = dgAt (x m c) (g m c) (wi m c) (wo m c) (dy m c) k := by
  rw [gain_acc]
  refine Blocks.acc_rows (B := 256) (R := 4096) rfl _ _ fun t ht => ?_
  have hN : cfg0.N = 16 := N_0
  unfold part
  rw [dif_pos (show t < cfg0.N by omega)]
  rfl

theorem cut10 (f G : S1x1024.Idx → EReal) (t : Fin cfg0.N) (h : ∀ (k : Fin 1024), f (ix2 0 k) = G (ix2 0 k)) :
    (cfg0.win 10).cut (grid0.coords t) f = ((cfg0.win 10).blk t).view.read (Elt Ideal) G := by
  funext j
  rw [View.read_apply]
  have h0 : (j 0 : ℕ) < 1 := (j 0).isLt
  have h1 : (j 1 : ℕ) < 1024 := (j 1).isLt
  refine (congrArg f ?_).trans ((h ⟨(j 1 : ℕ), h1⟩).trans (congrArg G ?_))
  · funext q; apply Fin.ext
    match q with
    | ⟨0, _⟩ => show (j 0 : ℕ) = 0
                omega
    | ⟨1, _⟩ => rfl
  · funext q; apply Fin.ext
    match q with
    | ⟨0, _⟩ => show 0 = win0_10.index t 0 * 1 + 1 * (j 0 : ℕ)
                rw [(index10 t).1]; omega
    | ⟨1, _⟩ => show (j 1 : ℕ) = win0_10.index t 1 * 1024 + 1 * (j 1 : ℕ)
                rw [(index10 t).2]; omega

theorem flushed10 (t : Fin cfg0.N) (hf : (cfg0.win 10).flush t = true) : (dats m 0 c).flushed 10 t
    = ((cfg0.win 10).blk t).view.read (Elt Ideal) (dgs (x m c) (g m c) (wi m c) (wo m c) (dy m c)) := by
  have hN : cfg0.N = 16 := N_0
  have h7 : t.val = 15 := by have := (flush0_10 t).mp hf; have := t.isLt; omega
  obtain ⟨n, hn⟩ := t
  obtain rfl : n = 15 := h7
  rw [Value.flushed10]
  exact cut10 _ _ _ fun k => gain_last m c k hn

theorem cover10 (i : S1x1024.Idx) : ∃ t : Fin cfg0.N, (cfg0.win 10).flush t = true ∧ i ∈ ((cfg0.win 10).blk t).view.set := by
  have h0 : (i 0 : ℕ) < 1 := (i 0).isLt
  have h1 : (i 1 : ℕ) < 1024 := (i 1).isLt
  have hN : cfg0.N = 16 := N_0
  obtain ⟨t, ht⟩ : ∃ t : Fin cfg0.N, t.val = 15 := ⟨⟨_, by omega⟩, rfl⟩
  have e := index10 t
  refine ⟨t, (flush0_10 t).mpr (by omega), ?_⟩
  show i ∈ ((View.whole main_v34_3).slice (win0_10.rect t)).set
  rw [View.set_slice_whole, Rect.mem_set_unit]
  intro a
  match a with
  | ⟨0, _⟩ => show win0_10.index t 0 * 1 ≤ (i 0 : ℕ) ∧ (i 0 : ℕ) < win0_10.index t 0 * 1 + 1
              rw [e.1]; omega
  | ⟨1, _⟩ => show win0_10.index t 1 * 1024 ≤ (i 1 : ℕ) ∧ (i 1 : ℕ) < win0_10.index t 1 * 1024 + 1024
              rw [e.2]; omega

theorem final10 : (dats m 0 c).arrAt 10 cfg0.N = dgs (x m c) (g m c) (wi m c) (wo m c) (dy m c) :=
  (dats m 0 c).arrAt_eq_of_cover 10 _ (flushed10 m c) cover10

/-- The run, read: the results at their formulas, the arguments unchanged. -/
theorem run : θ_run defs (onTc (τ := τ) (main (F := Ideal))) ⟨m, fun _ => 0, ρ⟩ fun r => ∀ c : Dev nD,
      r.2.mem ((c : Thread nD τ).loc main_v34_0) = dzs (x m c) (g m c) (wi m c) (wo m c) (dy m c)
      ∧ r.2.mem ((c : Thread nD τ).loc main_v34_1) = dxs (x m c) (g m c) (wi m c) (wo m c) (dy m c)
      ∧ r.2.mem ((c : Thread nD τ).loc main_v34_2) = dxs (x m c) (g m c) (wi m c) (wo m c) (dy m c)
      ∧ r.2.mem ((c : Thread nD τ).loc main_v34_3) = dgs (x m c) (g m c) (wi m c) (wo m c) (dy m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final7 m c), (h c).2.1.trans (final8 m c), (h c).2.2.1.trans (final9 m c),
    (h c).2.2.2.1.trans (final10 m c), (h c).2.2.2.2⟩) (Value.run_blocks m ρ)

end Cert.Ffn.Dgrad.Kernel

end
-- ==== Proof.FfnDgradClaim.lean ====
/-
  The claims of the gradient of the half-step network.
-/
module

public import Idealize.ShloMosaic.Lib.Pointwise
public import Idealize.ShloMosaic.Lib.Quiescent
public import proofs.«01_k».proof.Defs
public import proofs.«01_k».proof.Proof.FfnDgrad
public import proofs.«01_k».proof.Proof.Gen.FfnDgradRefIdeal.Run
public import proofs.«01_k».proof.Proof.Gen.Pre_finite_ffn

@[expose] public section

set_option maxRecDepth 16384

noncomputable section

open Idealize.ShloMosaic Idealize.ShloMosaic.TcCoe Idealize.SL.Sem

namespace Cert.Ffn.Dgrad

/-- The precondition, read: every array but the norm's input is finite. -/
theorem finite {x : (⟨2, ![4096, 1024]⟩ : Shape).Idx → EReal} {g : (⟨2, ![1, 1024]⟩ : Shape).Idx → EReal}
    {wi : (⟨2, ![1024, 5632]⟩ : Shape).Idx → EReal} {wo : (⟨2, ![2816, 1024]⟩ : Shape).Idx → EReal}
    {dy : (⟨2, ![4096, 1024]⟩ : Shape).Idx → EReal}
    (h : Cert.Pre_finite_ffn.fn (F := Ideal) x g wi wo dy = fun _ => 1#1) : Finite g wi wo dy := by
  have e := congrFun h ix0
  unfold Cert.Pre_finite_ffn.fn at e
  dsimp only at e
  obtain ⟨e, e4⟩ := IntOp.andi_eq_one.1 e
  obtain ⟨e, e3⟩ := IntOp.andi_eq_one.1 e
  obtain ⟨e1, e2⟩ := IntOp.andi_eq_one.1 e
  refine ⟨fun k => ?_, fun k j => ?_, fun j k => ?_, fun i k => ?_⟩
  · have q := Host.reduce_andi_all _ _ _ _ _ e1 (ix2 0 k)
    pointwise at q
    exact Reals.fin_of_bit q
  · have q := Host.reduce_andi_all _ _ _ _ _ e2 (ix2 k j)
    pointwise at q
    exact Reals.fin_of_bit q
  · have q := Host.reduce_andi_all _ _ _ _ _ e3 (ix2 j k)
    pointwise at q
    exact Reals.fin_of_bit q
  · have q := Host.reduce_andi_all _ _ _ _ _ e4 (ix2 i k)
    pointwise at q
    exact Reals.fin_of_bit q

theorem frame_ref : Cert.quiescent_FfnDgradRefIdeal := fun m ρ _ =>
  (θ_run _ _ _).mono (fun r h => ⟨fun c => (h c).2.2.2.2, sem_eq_zero_of_no_sems (by decide) r.2⟩)
    (Cert.FfnDgradRefIdeal.Value.run (F := Ideal) m ρ)

theorem algebraic : Cert.algebraic_FfnDgradIdeal_FfnDgradRefIdeal_pre_finite_ffn := by
  intro m ρ m' ρ' pre args
  open Kernel in
  refine ⟨fun c => dzs (x m c) (g m c) (wi m c) (wo m c) (dy m c), fun c => dxs (x m c) (g m c) (wi m c) (wo m c) (dy m c),
    fun c => dxs (x m c) (g m c) (wi m c) (wo m c) (dy m c), fun c => dgs (x m c) (g m c) (wi m c) (wo m c) (dy m c),
    run m ρ, ?_⟩
  refine (θ_run _ _ _).mono (fun r h c => ?_) (Cert.FfnDgradRefIdeal.Value.run (F := Ideal) m' ρ')
  obtain ⟨a0, a1, a2, a3, a4⟩ := args c
  obtain ⟨h0, h1, h2, h3, hk⟩ := h c
  have f := finite (pre c)
  refine ⟨h0.trans ?_, h1.trans ?_, h2.trans ?_, h3.trans ?_, hk⟩
  · rw [Cert.FfnDgradRefIdeal.Read.val_main_v87_eq, a0, a1, a2, a3, a4]
    exact ref_dzs f
  · rw [Cert.FfnDgradRefIdeal.Read.val_main_v52_eq, a0, a1, a2, a3, a4]
    exact ref_dxs f
  · rw [Cert.FfnDgradRefIdeal.Read.val_main_v88_eq, a0, a1, a2, a3, a4]
    exact ref_dxs f
  · rw [Cert.FfnDgradRefIdeal.Read.val_main_v35_eq, a0, a1, a2, a3, a4]
    exact ref_dgs f

end Cert.Ffn.Dgrad

end
-- ==== Proof.FfnFwd.lean ====
/-
  The half-step network by the kernel: 256 rows at a point, each point writing its rows of the four results.
-/
module

public import Idealize.ShloMosaic.Lib.Pointwise
public import proofs.«01_k».proof.Proof.FfnFwdPay
public import proofs.«01_k».proof.Proof.FfnFwdRef
public import proofs.«01_k».proof.Proof.Gen.FfnFwdIdeal.Value

@[expose] public section

set_option maxRecDepth 16384

noncomputable section

open Idealize.ShloMosaic Idealize.ShloMosaic.TcCoe Idealize.SL.Sem

namespace Cert.Ffn.Fwd.Kernel

open Cert.FfnFwdIdeal Cert.FfnFwdIdeal.Gen

variable (m : (ℓ : Loc nD τ sig) → Buf (Elt Ideal) ℓ) (ρ : Dev nD → PrngReg) (c : Dev nD)
abbrev x : S4096x1024.Idx → EReal := m ((c : Thread nD τ).loc main_arg0)
abbrev g : S1x1024.Idx → EReal := m ((c : Thread nD τ).loc main_arg1)
abbrev wi : S1024x5632.Idx → EReal := m ((c : Thread nD τ).loc main_arg2)
abbrev wo : S2816x1024.Idx → EReal := m ((c : Thread nD τ).loc main_arg3)

/-! Where the block of a point lies in an array. -/

def at_ (t : Fin cfg0.N) (a : Fin 256) : Fin 4096 :=
  ⟨t.val * 256 + a.val, by have h : t.val < 16 := t.isLt; omega⟩

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = 0 ∧ win0_1.index t 1 = 0 :=
  (by decide +kernel : ∀ t : Fin grid0.N, win0_1.index t 0 = 0 ∧ win0_1.index t 1 = 0)

theorem index2 : ∀ t : Fin cfg0.N, win0_2.index t 0 = 0 ∧ win0_2.index t 1 = 0 :=
  (by decide +kernel : ∀ t : Fin grid0.N, win0_2.index t 0 = 0 ∧ win0_2.index t 1 = 0)

theorem index3 : ∀ t : Fin cfg0.N, win0_3.index t 0 = 0 ∧ win0_3.index t 1 = 0 :=
  (by decide +kernel : ∀ t : Fin grid0.N, win0_3.index t 0 = 0 ∧ win0_3.index t 1 = 0)

theorem index4 : ∀ t : Fin cfg0.N, win0_4.index t 0 = t.val ∧ win0_4.index t 1 = 0 :=
  (by decide +kernel : ∀ t : Fin grid0.N, win0_4.index t 0 = t.val ∧ win0_4.index t 1 = 0)

theorem index5 : ∀ t : Fin cfg0.N, win0_5.index t 0 = t.val ∧ win0_5.index t 1 = 0 :=
  (by decide +kernel : ∀ t : Fin grid0.N, win0_5.index t 0 = t.val ∧ win0_5.index t 1 = 0)

theorem index6 : ∀ t : Fin cfg0.N, win0_6.index t 0 = 0 ∧ win0_6.index t 1 = t.val ∧ win0_6.index t 2 = 0 :=
  (by decide +kernel : ∀ t : Fin grid0.N, win0_6.index t 0 = 0 ∧ win0_6.index t 1 = t.val ∧ win0_6.index t 2 = 0)

theorem index7 : ∀ t : Fin cfg0.N, win0_7.index t 0 = t.val ∧ win0_7.index t 1 = 0 :=
  (by decide +kernel : ∀ t : Fin grid0.N, win0_7.index t 0 = t.val ∧ win0_7.index t 1 = 0)

/-! What a point reads. -/

theorem array2 (j : Fin 5632) (k : Fin 1024) : V m c main_v1 (ix2 j k) = wi m c (ix2 k j) := by
  unfold V
  after_results
  pointwise

theorem array3 : V m c main_v2 = wo m c := by
  unfold V
  after_results
  rfl

theorem blk0 (t : Fin cfg0.N) (a : Fin 256) (d : Fin 1024) : iblk m c 0 t (ix2 a d) = x m c (ix2 (at_ t a) d) := by
  unfold iblk
  rw [View.read_apply]
  show V m c main_arg0 _ = _
  rw [V_main_arg0 m c]
  congr 1; funext q; apply Fin.ext
  match q with
  | ⟨0, _⟩ => show win0_0.index t 0 * 256 + 1 * a.val = t.val * 256 + a.val
              rw [(index0 t).1]; omega
  | ⟨1, _⟩ => show win0_0.index t 1 * 1024 + 1 * d.val = d.val
              rw [(index0 t).2]; omega

theorem blk1 (t : Fin cfg0.N) (a : Fin 1) (d : Fin 1024) : iblk m c 1 t (ix2 a d) = g m c (ix2 a d) := by
  unfold iblk
  rw [View.read_apply]
  show V m c main_arg1 _ = _
  rw [V_main_arg1 m c]
  congr 1; funext q; apply Fin.ext
  match q with
  | ⟨0, _⟩ => show win0_1.index t 0 * 1 + 1 * a.val = a.val
              rw [(index1 t).1]; omega
  | ⟨1, _⟩ => show win0_1.index t 1 * 1024 + 1 * d.val = d.val
              rw [(index1 t).2]; omega

theorem blk2 (t : Fin cfg0.N) (a : Fin 5632) (d : Fin 1024) : iblk m c 2 t (ix2 a d) = wi m c (ix2 d a) := by
  rw [← array2]
  unfold iblk
  rw [View.read_apply]
  show V m c main_v1 _ = _
  congr 1; funext q; apply Fin.ext
  match q with
  | ⟨0, _⟩ => show win0_2.index t 0 * 5632 + 1 * a.val = a.val
              rw [(index2 t).1]; omega
  | ⟨1, _⟩ => show win0_2.index t 1 * 1024 + 1 * d.val = d.val
              rw [(index2 t).2]; omega

theorem blk3 (t : Fin cfg0.N) (a : Fin 2816) (d : Fin 1024) : iblk m c 3 t (ix2 a d) = wo m c (ix2 a d) := by
  unfold iblk
  rw [View.read_apply]
  show V m c main_v2 _ = _
  rw [array3]
  congr 1; funext q; apply Fin.ext
  match q with
  | ⟨0, _⟩ => show win0_3.index t 0 * 2816 + 1 * a.val = a.val
              rw [(index3 t).1]; omega
  | ⟨1, _⟩ => show win0_3.index t 1 * 1024 + 1 * d.val = d.val
              rw [(index3 t).2]; omega

/-! The point's rows, gain and weights are those of the arrays. -/

theorem row_eq (t : Fin cfg0.N) (a : Fin 256) : Pay.row (iblk m c 0 t) a = row (x m c) (at_ t a) :=
  funext fun k => blk0 m c t a k

theorem gain_eq (t : Fin cfg0.N) : Pay.gain (iblk m c 1 t) = gain (g m c) := funext fun k => blk1 m c t 0 k

theorem win_eq (t : Fin cfg0.N) : Pay.win (iblk m c 2 t) = win (wi m c) := funext fun k => funext fun j => blk2 m c t j k

theorem wout_eq (t : Fin cfg0.N) : Pay.wout (iblk m c 3 t) = wout (wo m c) := funext fun j => funext fun k => blk3 m c t j k

/-! ## What a point writes back -/

theorem hz : (![0, 0] : Fin 2 → Nat) = fun _ => 0 := funext fun a => by fin_cases a <;> rfl

theorem after4 (t : Fin cfg0.N) : (dats m 0 c).flushed 4 t
    = (cfg0.win 4).cut (grid0.coords t) (k0_pay3 (iblk m c 0 t) (Pay.acts (iblk m c 0 t) (iblk m c 1 t) (iblk m c 2 t)) (iblk m c 3 t)) := by
  rw [Value.flushed4_A m c t]
  unfold out0_A_4
  rw [View.read_writes_eq_canon _ _ _ (fun _ => cover0_A_4 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S256x1024) hz, View.ld_unit_zero (S := S1x1024) hz, View.ld_unit_zero (S := S2816x1024) hz]
  exact congrArg (fun f => (cfg0.win 4).cut (grid0.coords t) (k0_pay3 (iblk m c 0 t) f (iblk m c 3 t))) (Pay.act_back ..)

theorem after5 (t : Fin cfg0.N) : (dats m 0 c).flushed 5 t
    = (cfg0.win 5).cut (grid0.coords t) (k0_pay4 (iblk m c 0 t) (iblk m c 1 t)) := by
  rw [Value.flushed5_A m c t]
  unfold out0_A_5
  rw [View.read_writes_eq_canon _ _ _ (fun _ => cover0_A_5 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S256x1024) hz, View.ld_unit_zero (S := S1x1024) hz, View.ld_unit_zero (S := S2816x1024) hz]

theorem after6 (t : Fin cfg0.N) : (dats m 0 c).flushed 6 t
    = (cfg0.win 6).cut (grid0.coords t) (Pay.zs (iblk m c 0 t) (iblk m c 1 t) (iblk m c 2 t)) := by
  rw [Value.flushed6_A m c t]
  unfold out0_A_6
  rw [View.read_writes_eq_canon _ _ _ (fun _ => cover0_A_6 ..)]
  unfold kernelRun0_A
  dsimp only
  sl_unfold_words
  simp only [View.readAt_eq_ld, (hs0_0 t).read_unread, (hs0_1 t).read_unread, (hs0_2 t).read_unread, (hs0_3 t).read_unread,
    View.ld_unit_zero (S := S256x1024) hz, View.ld_unit_zero (S := S1x1024) hz, View.ld_unit_zero (S := S2816x1024) hz]
  exact congrArg ((cfg0.win 6).cut (grid0.coords t)) (Pay.z_canon ..)

theorem after7 (t : Fin cfg0.N) : (dats m 0 c).flushed 7 t
    = (cfg0.win 7).cut (grid0.coords t) (Pay.acts (iblk m c 0 t) (iblk m c 1 t) (iblk m c 2 t)) := by
  rw [Value.flushed7_A m c t]
  unfold out0_A_7
  rw [View.read_writes_eq_canon _ _ _ (fun _ => cover0_A_7 ..)]
  unfold kernelRun0_A
  dsimp only
  sl_unfold_words
  simp only [View.readAt_eq_ld, (hs0_0 t).read_unread, (hs0_1 t).read_unread, (hs0_2 t).read_unread, (hs0_3 t).read_unread,
    View.ld_unit_zero (S := S256x1024) hz, View.ld_unit_zero (S := S1x1024) hz, View.ld_unit_zero (S := S2816x1024) hz]
  exact congrArg ((cfg0.win 7).cut (grid0.coords t)) (Pay.act_canon ..)

/-! The arrays are finite, where the planes of the derivatives need it. -/

theorem planes_eq (hg : ∀ k, Reals.Fin' (g m c (ix2 0 k)))
    (hw : ∀ k j, Reals.Fin' (wi m c (ix2 k j))) (t : Fin cfg0.N) (p : Fin 2) (a : Fin 256) (j : Fin 2816) :
    Pay.zs (iblk m c 0 t) (iblk m c 1 t) (iblk m c 2 t) (ix3 p a j) = zs (x m c) (g m c) (wi m c) (ix3 p (at_ t a) j) := by
  show fslopes _ _ _ p j = _
  rw [show Pay.row (iblk m c 0 t) (ix3 p a j 1) = row (x m c) (at_ t a) from row_eq m c t a, gain_eq, win_eq]
  exact fslopes_eq _ _ _ hg hw p j

theorem cut4 (f : S256x1024.Idx → EReal) (G : S4096x1024.Idx → EReal) (t : Fin cfg0.N)
    (h : ∀ (a : Fin 256) (d : Fin 1024), f (ix2 a d) = G (ix2 (at_ t a) d)) :
    (cfg0.win 4).cut (grid0.coords t) f = ((cfg0.win 4).blk t).view.read (Elt Ideal) G := by
  funext j
  rw [View.read_apply]
  have h0 : (j 0 : ℕ) < 256 := (j 0).isLt
  have h1 : (j 1 : ℕ) < 1024 := (j 1).isLt
  refine (congrArg f ?_).trans ((h ⟨(j 0 : ℕ), h0⟩ ⟨(j 1 : ℕ), h1⟩).trans (congrArg G ?_))
  · funext q
    match q with
    | ⟨0, _⟩ => rfl
    | ⟨1, _⟩ => rfl
  · funext q; apply Fin.ext
    match q with
    | ⟨0, _⟩ => show t.val * 256 + (j 0 : ℕ) = win0_4.index t 0 * 256 + 1 * (j 0 : ℕ)
                rw [(index4 t).1]; omega
    | ⟨1, _⟩ => show (j 1 : ℕ) = win0_4.index t 1 * 1024 + 1 * (j 1 : ℕ)
                rw [(index4 t).2]; omega

theorem flushed4 (t : Fin cfg0.N) :
    (dats m 0 c).flushed 4 t = ((cfg0.win 4).blk t).view.read (Elt Ideal) (ys (x m c) (g m c) (wi m c) (wo m c)) := by
  rw [after4]
  exact cut4 _ _ t fun a k => (Pay.y_apply ..).trans (by rw [row_eq, gain_eq, win_eq, wout_eq]; rfl)

theorem cover4 (i : S4096x1024.Idx) : ∃ t : Fin cfg0.N, (cfg0.win 4).flush t = true ∧ i ∈ ((cfg0.win 4).blk t).view.set := by
  have h0 : (i 0 : ℕ) < 4096 := (i 0).isLt
  have h1 : (i 1 : ℕ) < 1024 := (i 1).isLt
  have hN : cfg0.N = 16 := N_0
  obtain ⟨t, ht⟩ : ∃ t : Fin cfg0.N, t.val = (i 0 : ℕ) / 256 := ⟨⟨_, by omega⟩, rfl⟩
  have e := index4 t
  refine ⟨t, flush0_4 _, ?_⟩
  show i ∈ ((View.whole main_v3_0).slice (win0_4.rect t)).set
  rw [View.set_slice_whole, Rect.mem_set_unit]
  intro a
  match a with
  | ⟨0, _⟩ => show win0_4.index t 0 * 256 ≤ (i 0 : ℕ) ∧ (i 0 : ℕ) < win0_4.index t 0 * 256 + 256
              rw [e.1, ht]; omega
  | ⟨1, _⟩ => show win0_4.index t 1 * 1024 ≤ (i 1 : ℕ) ∧ (i 1 : ℕ) < win0_4.index t 1 * 1024 + 1024
              rw [e.2]; omega

theorem final4 : (dats m 0 c).arrAt 4 cfg0.N = ys (x m c) (g m c) (wi m c) (wo m c) :=
  (dats m 0 c).arrAt_eq_of_cover 4 _ (fun t _ => flushed4 m c t) cover4

theorem cut5 (f : S256x1024.Idx → EReal) (G : S4096x1024.Idx → EReal) (t : Fin cfg0.N)
    (h : ∀ (a : Fin 256) (d : Fin 1024), f (ix2 a d) = G (ix2 (at_ t a) d)) :
    (cfg0.win 5).cut (grid0.coords t) f = ((cfg0.win 5).blk t).view.read (Elt Ideal) G := by
  funext j
  rw [View.read_apply]
  have h0 : (j 0 : ℕ) < 256 := (j 0).isLt
  have h1 : (j 1 : ℕ) < 1024 := (j 1).isLt
  refine (congrArg f ?_).trans ((h ⟨(j 0 : ℕ), h0⟩ ⟨(j 1 : ℕ), h1⟩).trans (congrArg G ?_))
  · funext q
    match q with
    | ⟨0, _⟩ => rfl
    | ⟨1, _⟩ => rfl
  · funext q; apply Fin.ext
    match q with
    | ⟨0, _⟩ => show t.val * 256 + (j 0 : ℕ) = win0_5.index t 0 * 256 + 1 * (j 0 : ℕ)
                rw [(index5 t).1]; omega
    | ⟨1, _⟩ => show (j 1 : ℕ) = win0_5.index t 1 * 1024 + 1 * (j 1 : ℕ)
                rw [(index5 t).2]; omega

theorem flushed5 (t : Fin cfg0.N) :
    (dats m 0 c).flushed 5 t = ((cfg0.win 5).blk t).view.read (Elt Ideal) (hs (x m c) (g m c)) := by
  rw [after5]
  exact cut5 _ _ t fun a k => (Pay.h_apply ..).trans (by rw [row_eq, gain_eq]; rfl)

theorem cover5 (i : S4096x1024.Idx) : ∃ t : Fin cfg0.N, (cfg0.win 5).flush t = true ∧ i ∈ ((cfg0.win 5).blk t).view.set := by
  have h0 : (i 0 : ℕ) < 4096 := (i 0).isLt
  have h1 : (i 1 : ℕ) < 1024 := (i 1).isLt
  have hN : cfg0.N = 16 := N_0
  obtain ⟨t, ht⟩ : ∃ t : Fin cfg0.N, t.val = (i 0 : ℕ) / 256 := ⟨⟨_, by omega⟩, rfl⟩
  have e := index5 t
  refine ⟨t, flush0_5 _, ?_⟩
  show i ∈ ((View.whole main_v3_1).slice (win0_5.rect t)).set
  rw [View.set_slice_whole, Rect.mem_set_unit]
  intro a
  match a with
  | ⟨0, _⟩ => show win0_5.index t 0 * 256 ≤ (i 0 : ℕ) ∧ (i 0 : ℕ) < win0_5.index t 0 * 256 + 256
              rw [e.1, ht]; omega
  | ⟨1, _⟩ => show win0_5.index t 1 * 1024 ≤ (i 1 : ℕ) ∧ (i 1 : ℕ) < win0_5.index t 1 * 1024 + 1024
              rw [e.2]; omega

theorem final5 : (dats m 0 c).arrAt 5 cfg0.N = hs (x m c) (g m c) :=
  (dats m 0 c).arrAt_eq_of_cover 5 _ (fun t _ => flushed5 m c t) cover5

theorem cut6 (f : S2x256x2816.Idx → EReal) (G : S2x4096x2816.Idx → EReal) (t : Fin cfg0.N)
    (h : ∀ (p : Fin 2) (a : Fin 256) (d : Fin 2816), f (ix3 p a d) = G (ix3 p (at_ t a) d)) :
    (cfg0.win 6).cut (grid0.coords t) f = ((cfg0.win 6).blk t).view.read (Elt Ideal) G := by
  funext j
  rw [View.read_apply]
  have h0 : (j 0 : ℕ) < 2 := (j 0).isLt
  have h1 : (j 1 : ℕ) < 256 := (j 1).isLt
  have h2 : (j 2 : ℕ) < 2816 := (j 2).isLt
  refine (congrArg f ?_).trans ((h ⟨(j 0 : ℕ), h0⟩ ⟨(j 1 : ℕ), h1⟩ ⟨(j 2 : ℕ), h2⟩).trans (congrArg G ?_))
  · funext q
    match q with
    | ⟨0, _⟩ => rfl
    | ⟨1, _⟩ => rfl
    | ⟨2, _⟩ => rfl
  · funext q; apply Fin.ext
    match q with
    | ⟨0, _⟩ => show (j 0 : ℕ) = win0_6.index t 0 * 2 + 1 * (j 0 : ℕ)
                rw [(index6 t).1]; omega
    | ⟨1, _⟩ => show t.val * 256 + (j 1 : ℕ) = win0_6.index t 1 * 256 + 1 * (j 1 : ℕ)
                rw [(index6 t).2.1]; omega
    | ⟨2, _⟩ => show (j 2 : ℕ) = win0_6.index t 2 * 2816 + 1 * (j 2 : ℕ)
                rw [(index6 t).2.2]; omega

theorem flushed6 (hg : ∀ k, Reals.Fin' (g m c (ix2 0 k)))
    (hw : ∀ k j, Reals.Fin' (wi m c (ix2 k j))) (t : Fin cfg0.N) :
    (dats m 0 c).flushed 6 t = ((cfg0.win 6).blk t).view.read (Elt Ideal) (zs (x m c) (g m c) (wi m c)) := by
  rw [after6]
  exact cut6 _ _ t fun p a j => planes_eq m c hg hw t p a j

theorem cover6 (i : S2x4096x2816.Idx) : ∃ t : Fin cfg0.N, (cfg0.win 6).flush t = true ∧ i ∈ ((cfg0.win 6).blk t).view.set := by
  have h0 : (i 0 : ℕ) < 2 := (i 0).isLt
  have h1 : (i 1 : ℕ) < 4096 := (i 1).isLt
  have h2 : (i 2 : ℕ) < 2816 := (i 2).isLt
  have hN : cfg0.N = 16 := N_0
  obtain ⟨t, ht⟩ : ∃ t : Fin cfg0.N, t.val = (i 1 : ℕ) / 256 := ⟨⟨_, by omega⟩, rfl⟩
  have e := index6 t
  refine ⟨t, flush0_6 _, ?_⟩
  show i ∈ ((View.whole main_v3_2).slice (win0_6.rect t)).set
  rw [View.set_slice_whole, Rect.mem_set_unit]
  intro a
  match a with
  | ⟨0, _⟩ => show win0_6.index t 0 * 2 ≤ (i 0 : ℕ) ∧ (i 0 : ℕ) < win0_6.index t 0 * 2 + 2
              rw [e.1]; omega
  | ⟨1, _⟩ => show win0_6.index t 1 * 256 ≤ (i 1 : ℕ) ∧ (i 1 : ℕ) < win0_6.index t 1 * 256 + 256
              rw [e.2.1, ht]; omega
  | ⟨2, _⟩ => show win0_6.index t 2 * 2816 ≤ (i 2 : ℕ) ∧ (i 2 : ℕ) < win0_6.index t 2 * 2816 + 2816
              rw [e.2.2]; omega

theorem final6 (hg : ∀ k, Reals.Fin' (g m c (ix2 0 k)))
    (hw : ∀ k j, Reals.Fin' (wi m c (ix2 k j))) : (dats m 0 c).arrAt 6 cfg0.N = zs (x m c) (g m c) (wi m c) :=
  (dats m 0 c).arrAt_eq_of_cover 6 _ (fun t _ => flushed6 m c hg hw t) cover6

theorem cut7 (f : S256x2816.Idx → EReal) (G : S4096x2816.Idx → EReal) (t : Fin cfg0.N)
    (h : ∀ (a : Fin 256) (d : Fin 2816), f (ix2 a d) = G (ix2 (at_ t a) d)) :
    (cfg0.win 7).cut (grid0.coords t) f = ((cfg0.win 7).blk t).view.read (Elt Ideal) G := by
  funext j
  rw [View.read_apply]
  have h0 : (j 0 : ℕ) < 256 := (j 0).isLt
  have h1 : (j 1 : ℕ) < 2816 := (j 1).isLt
  refine (congrArg f ?_).trans ((h ⟨(j 0 : ℕ), h0⟩ ⟨(j 1 : ℕ), h1⟩).trans (congrArg G ?_))
  · funext q
    match q with
    | ⟨0, _⟩ => rfl
    | ⟨1, _⟩ => rfl
  · funext q; apply Fin.ext
    match q with
    | ⟨0, _⟩ => show t.val * 256 + (j 0 : ℕ) = win0_7.index t 0 * 256 + 1 * (j 0 : ℕ)
                rw [(index7 t).1]; omega
    | ⟨1, _⟩ => show (j 1 : ℕ) = win0_7.index t 1 * 2816 + 1 * (j 1 : ℕ)
                rw [(index7 t).2]; omega

theorem flushed7 (t : Fin cfg0.N) :
    (dats m 0 c).flushed 7 t = ((cfg0.win 7).blk t).view.read (Elt Ideal) (acts (x m c) (g m c) (wi m c)) := by
  rw [after7]
  exact cut7 _ _ t fun a j => by
    show act (Pay.row _ a) (Pay.gain _) (Pay.win _) j = act (row (x m c) (at_ t a)) _ _ j
    rw [row_eq, gain_eq, win_eq]

theorem cover7 (i : S4096x2816.Idx) : ∃ t : Fin cfg0.N, (cfg0.win 7).flush t = true ∧ i ∈ ((cfg0.win 7).blk t).view.set := by
  have h0 : (i 0 : ℕ) < 4096 := (i 0).isLt
  have h1 : (i 1 : ℕ) < 2816 := (i 1).isLt
  have hN : cfg0.N = 16 := N_0
  obtain ⟨t, ht⟩ : ∃ t : Fin cfg0.N, t.val = (i 0 : ℕ) / 256 := ⟨⟨_, by omega⟩, rfl⟩
  have e := index7 t
  refine ⟨t, flush0_7 _, ?_⟩
  show i ∈ ((View.whole main_v3_3).slice (win0_7.rect t)).set
  rw [View.set_slice_whole, Rect.mem_set_unit]
  intro a
  match a with
  | ⟨0, _⟩ => show win0_7.index t 0 * 256 ≤ (i 0 : ℕ) ∧ (i 0 : ℕ) < win0_7.index t 0 * 256 + 256
              rw [e.1, ht]; omega
  | ⟨1, _⟩ => show win0_7.index t 1 * 2816 ≤ (i 1 : ℕ) ∧ (i 1 : ℕ) < win0_7.index t 1 * 2816 + 2816
              rw [e.2]; omega

theorem final7 : (dats m 0 c).arrAt 7 cfg0.N = acts (x m c) (g m c) (wi m c) :=
  (dats m 0 c).arrAt_eq_of_cover 7 _ (fun t _ => flushed7 m c t) cover7

/-- The run, read: the results at their formulas, the arguments unchanged. -/
theorem run (hg : ∀ c k, Reals.Fin' (g m c (ix2 0 k)))
    (hw : ∀ c k j, Reals.Fin' (wi m c (ix2 k j))) :
    θ_run defs (onTc (τ := τ) (main (F := Ideal))) ⟨m, fun _ => 0, ρ⟩ fun r => ∀ c : Dev nD,
      r.2.mem ((c : Thread nD τ).loc main_v3_0) = ys (x m c) (g m c) (wi m c) (wo m c)
      ∧ r.2.mem ((c : Thread nD τ).loc main_v3_1) = hs (x m c) (g m c)
      ∧ r.2.mem ((c : Thread nD τ).loc main_v3_2) = zs (x m c) (g m c) (wi m c)
      ∧ r.2.mem ((c : Thread nD τ).loc main_v3_3) = acts (x m c) (g m c) (wi m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c),
    (h c).2.2.1.trans (final6 m c (hg c) (hw c)), (h c).2.2.2.1.trans (final7 m c), (h c).2.2.2.2⟩) (Value.run_blocks m ρ)

end Cert.Ffn.Fwd.Kernel

end
-- ==== Proof.FfnFwdClaim.lean ====
/-
  The claims of the half-step network.
-/
module

public import Idealize.ShloMosaic.Lib.Pointwise
public import Idealize.ShloMosaic.Lib.Quiescent
public import proofs.«01_k».proof.Defs
public import proofs.«01_k».proof.Proof.FfnFwd
public import proofs.«01_k».proof.Proof.Gen.FfnFwdRefIdeal.Run
public import proofs.«01_k».proof.Proof.Gen.Pre_finite_up

@[expose] public section

set_option maxRecDepth 16384

noncomputable section

open Idealize.ShloMosaic Idealize.ShloMosaic.TcCoe Idealize.SL.Sem

namespace Cert.Ffn.Fwd

/-- The precondition, read: the gain and the first weight are finite. -/
theorem finite {x : (⟨2, ![4096, 1024]⟩ : Shape).Idx → EReal} {g : (⟨2, ![1, 1024]⟩ : Shape).Idx → EReal}
    {wi : (⟨2, ![1024, 5632]⟩ : Shape).Idx → EReal} {wo}
    (h : Cert.Pre_finite_up.fn (F := Ideal) x g wi wo = fun _ => 1#1) :
    (∀ k, Reals.Fin' (g (ix2 0 k))) ∧ ∀ k j, Reals.Fin' (wi (ix2 k j)) := by
  have e := congrFun h ix0
  unfold Cert.Pre_finite_up.fn at e
  dsimp only at e
  obtain ⟨e1, e2⟩ := IntOp.andi_eq_one.1 e
  refine ⟨fun k => ?_, fun k j => ?_⟩
  · have q := Host.reduce_andi_all _ _ _ _ _ e1 (ix2 0 k)
    pointwise at q
    exact Reals.fin_of_bit q
  · have q := Host.reduce_andi_all _ _ _ _ _ e2 (ix2 k j)
    pointwise at q
    exact Reals.fin_of_bit q

theorem frame_ref : Cert.quiescent_FfnFwdRefIdeal := fun m ρ _ =>
  (θ_run _ _ _).mono (fun r h => ⟨fun c => (h c).2.2.2.2, sem_eq_zero_of_no_sems (by decide) r.2⟩)
    (Cert.FfnFwdRefIdeal.Value.run (F := Ideal) m ρ)

theorem algebraic : Cert.algebraic_FfnFwdIdeal_FfnFwdRefIdeal_pre_finite_up := by
  intro m ρ m' ρ' pre args
  open Kernel in
  refine ⟨fun c => ys (x m c) (g m c) (wi m c) (wo m c), fun c => hs (x m c) (g m c), fun c => zs (x m c) (g m c) (wi m c),
    fun c => acts (x m c) (g m c) (wi m c),
    run m ρ (fun c => (finite (pre c)).1) (fun c => (finite (pre c)).2), ?_⟩
  refine (θ_run _ _ _).mono (fun r h c => ?_) (Cert.FfnFwdRefIdeal.Value.run (F := Ideal) m' ρ')
  obtain ⟨a0, a1, a2, a3⟩ := args c
  obtain ⟨h0, h1, h2, h3, hk⟩ := h c
  refine ⟨h0.trans ?_, h1.trans ?_, h2.trans ?_, h3.trans ?_, hk⟩
  · rw [Cert.FfnFwdRefIdeal.Read.val_main_v23_eq, a0, a1, a2, a3]
    exact ref_ys _ _ _ _
  · rw [Cert.FfnFwdRefIdeal.Read.val_main_v24_eq, a0, a1]
    exact ref_hs _ _
  · rw [Cert.FfnFwdRefIdeal.Read.val_main_v54_eq, a0, a1, a2]
    exact ref_zs _ _ _
  · rw [Cert.FfnFwdRefIdeal.Read.val_main_v57_eq, a0, a1, a2]
    exact ref_acts _ _ _

end Cert.Ffn.Fwd

end
-- ==== Proof.MemNormBwdRef.lean ====
/-
  The gradient through the memory's norm: the formulas, and the reference at them.
-/
module

public import Idealize.ShloMosaic.Lib.Pointwise
public import proofs.«01_k».proof.Proof.Norm
public import proofs.«01_k».proof.Proof.Gen.MemNormBwdRefIdeal.Read

@[expose] public section

set_option maxRecDepth 16384

noncomputable section

open Idealize.ShloMosaic

namespace Cert.Memory

section Model
variable (x : (⟨2, ![512, 1024]⟩ : Shape).Idx → EReal) (g : (⟨2, ![1, 1024]⟩ : Shape).Idx → EReal)
  (dh dres : (⟨2, ![512, 1024]⟩ : Shape).Idx → EReal)

/-- A row of the memory, -/
def row (i : Fin 512) : Fin 1024 → EReal := fun k => x (ix2 i k)
/-- and what comes back through the gain. -/
def dxh (i : Fin 512) : Fin 1024 → EReal := fun k => dh (ix2 i k) * g (ix2 0 k)

/-- The gradient of the memory, -/
def dx (i : Fin 512) (k : Fin 1024) : EReal := dres (ix2 i k) + Norm.grad (row x i) (dxh g dh i) k
/-- and of the gain. -/
def dg (k : Fin 1024) : EReal := ∑ i : Fin 512, dh (ix2 i k) * Norm.hat (row x i) k

/-- The two as arrays. -/
def dxs : (⟨2, ![512, 1024]⟩ : Shape).Idx → EReal := fun i => dx x g dh dres (i 0) (i 1)
def dgs : (⟨2, ![1, 1024]⟩ : Shape).Idx → EReal := fun i => dg x dh (i 1)

/-! ## The reference -/

open Cert.MemNormBwdRefIdeal.Read

theorem ref_ms (i : Fin 512) : val_main_v6 (F := Ideal) x (ix2 i 0) = Norm.ms (row x i) := by
  unfold val_main_v6 val_main_v5 val_main_cst_1 val_main_v4 val_main_v3 val_main_cst_0 val_main_v2 val_main_v1 val_main_cst val_main_v0
  pointwise
  simp only [Norm.ofBits_len, Ideal.ofBits_zero_f32, zero_add]
  rfl

theorem ref_rs (i : Fin 512) : val_main_v7 (F := Ideal) x (ix2 i 0) = Norm.rs (row x i) := by
  unfold val_main_v7
  pointwise
  rw [ref_ms]
  rfl

theorem ref_hat (i : Fin 512) (k : Fin 1024) : val_main_v12 (F := Ideal) x (ix2 i k) = Norm.hat (row x i) k := by
  unfold val_main_v12 val_main_v11
  pointwise
  rw [ref_rs]
  rfl

theorem ref_dg (k : Fin 1024) : val_main_v17 (F := Ideal) x dh (ix2 0 k) = dg x dh k := by
  unfold val_main_v17 val_main_v16 val_main_cst_3 val_main_v15
  pointwise
  simp only [ref_hat, Ideal.ofBits_zero_f32, zero_add]
  exact Finset.sum_congr rfl fun i _ => mul_comm _ _

theorem ref_dxh (i : Fin 512) (k : Fin 1024) : val_main_v19 (F := Ideal) g dh (ix2 i k) = dxh g dh i k := by
  unfold val_main_v19 val_main_v18
  pointwise
  rfl

theorem ref_slope (i : Fin 512) (k : Fin 1024) :
    val_main_v29 (F := Ideal) x g dh (ix2 i k) = Norm.slope (row x i) (dxh g dh i) := by
  unfold val_main_v29 val_main_v28 val_main_cst_6 val_main_v27 val_main_v26 val_main_cst_5 val_main_v25 val_main_v10 val_main_v9 val_main_cst_2
    val_main_v8 val_main_v22 val_main_v21 val_main_cst_4 val_main_v20
  pointwise
  simp only [Fin.sum_univ_one, ref_dxh, Ideal.ofBits_zero_f32, zero_add, Norm.ofBits_len, Norm.ofBits_mhalf]
  rw [ref_rs, ref_ms]
  rfl

theorem ref_dx (i : Fin 512) (k : Fin 1024) :
    val_main_v34 (F := Ideal) x g dh dres (ix2 i k) = dx x g dh dres i k := by
  unfold dx
  rw [← Norm.chainGrad_eq (row x i)]
  unfold val_main_v34 val_main_v33 val_main_v32 val_main_v31 val_main_v30 val_main_v24 val_main_v23
  pointwise
  rw [ref_slope, ref_dxh, ref_rs]
  rfl

theorem ref_dxs : val_main_v34 (F := Ideal) x g dh dres = dxs x g dh dres := by
  funext i
  obtain ⟨a, b, rfl⟩ : ∃ a b, i = ix2 a b := ⟨i 0, i 1, by funext x; match x with | ⟨0, _⟩ => rfl | ⟨1, _⟩ => rfl⟩
  exact ref_dx x g dh dres a b

theorem ref_dgs : val_main_v17 (F := Ideal) x dh = dgs x dh := by
  funext i
  obtain ⟨a, b, rfl⟩ : ∃ a b, i = ix2 a b := ⟨i 0, i 1, by funext x; match x with | ⟨0, _⟩ => rfl | ⟨1, _⟩ => rfl⟩
  obtain rfl : a = 0 := Subsingleton.elim _ _
  exact ref_dg x dh b

end Model

end Cert.Memory

end
-- ==== Proof.MemNormBwd.lean ====
/-
  The gradient through the memory's norm, by the kernel: all of its rows at the one point.
-/
module

public import Idealize.ShloMosaic.Lib.Pointwise
public import proofs.«01_k».proof.Proof.MemNormBwdRef
public import proofs.«01_k».proof.Proof.Gen.MemNormBwdIdeal.Value
public import proofs.«01_k».proof.Defs
public import Idealize.ShloMosaic.Adequacy
public import proofs.«01_k».proof.Proof.Gen.MemNormBwdRefIdeal.Run
public import proofs.«01_k».proof.Proof.Gen.MemNormBwdIdeal.Frame

@[expose] public section

set_option maxRecDepth 16384

noncomputable section

open Idealize.ShloMosaic Idealize.ShloMosaic.TcCoe Idealize.SL.Sem

namespace Cert.Memory.Kernel

open Cert.MemNormBwdIdeal Cert.MemNormBwdIdeal.Gen

variable (m : (ℓ : Loc nD τ sig) → Buf (Elt Ideal) ℓ) (ρ : Dev nD → PrngReg) (c : Dev nD)
abbrev x : S512x1024.Idx → EReal := m ((c : Thread nD τ).loc main_arg0)
abbrev g : S1x1024.Idx → EReal := m ((c : Thread nD τ).loc main_arg1)
abbrev dh : S512x1024.Idx → EReal := m ((c : Thread nD τ).loc main_arg2)
abbrev dres : S512x1024.Idx → EReal := m ((c : Thread nD τ).loc main_arg3)

/-! Where the block of a point lies in an array. -/

def at_ (t : Fin cfg0.N) (a : Fin 512) : Fin 512 :=
  ⟨t.val * 512 + a.val, by have h : t.val < 1 := t.isLt; omega⟩
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

/-! What a point reads. -/

theorem blk0 (t : Fin cfg0.N) (a : Fin 512) (d : Fin 1024) : iblk m c 0 t (ix2 a d) = x m c (ix2 (at_ t a) d) := by
  unfold iblk
  rw [View.read_apply]
  show V m c main_arg0 _ = _
  rw [V_main_arg0 m c]
  congr 1; funext q; apply Fin.ext
  match q with
  | ⟨0, _⟩ => show win0_0.index t 0 * 512 + 1 * a.val = t.val * 512 + a.val
              rw [(index0 t).1]; omega
  | ⟨1, _⟩ => show win0_0.index t 1 * 1024 + 1 * d.val = d.val
              rw [(index0 t).2]; omega

theorem blk1 (t : Fin cfg0.N) (a : Fin 1) (d : Fin 1024) : iblk m c 1 t (ix2 a d) = g m c (ix2 a d) := by
  unfold iblk
  rw [View.read_apply]
  show V m c main_arg1 _ = _
  rw [V_main_arg1 m c]
  congr 1; funext q; apply Fin.ext
  match q with
  | ⟨0, _⟩ => show win0_1.index t 0 * 1 + 1 * a.val = a.val
              rw [(index1 t).1]; omega
  | ⟨1, _⟩ => show win0_1.index t 1 * 1024 + 1 * d.val = d.val
              rw [(index1 t).2]; omega

theorem blk2 (t : Fin cfg0.N) (a : Fin 512) (d : Fin 1024) : iblk m c 2 t (ix2 a d) = dh m c (ix2 (at_ t a) d) := by
  unfold iblk
  rw [View.read_apply]
  show V m c main_arg2 _ = _
  rw [V_main_arg2 m c]
  congr 1; funext q; apply Fin.ext
  match q with
  | ⟨0, _⟩ => show win0_2.index t 0 * 512 + 1 * a.val = t.val * 512 + a.val
              rw [(index2 t).1]; omega
  | ⟨1, _⟩ => show win0_2.index t 1 * 1024 + 1 * d.val = d.val
              rw [(index2 t).2]; omega

theorem blk3 (t : Fin cfg0.N) (a : Fin 512) (d : Fin 1024) : iblk m c 3 t (ix2 a d) = dres m c (ix2 (at_ t a) d) := by
  unfold iblk
  rw [View.read_apply]
  show V m c main_arg3 _ = _
  rw [V_main_arg3 m c]
  congr 1; funext q; apply Fin.ext
  match q with
  | ⟨0, _⟩ => show win0_3.index t 0 * 512 + 1 * a.val = t.val * 512 + a.val
              rw [(index3 t).1]; omega
  | ⟨1, _⟩ => show win0_3.index t 1 * 1024 + 1 * d.val = d.val
              rw [(index3 t).2]; omega

/-! What the point computes. -/

section Pay
variable (x : Vec Ideal S512x1024 .f32) (g : Vec Ideal S1x1024 .f32) (dh dres : Vec Ideal S512x1024 .f32)

theorem rs_apply (a : Fin 512) : k0_pay2 x (ix2 a 0) = Norm.rs (row x a) := by
  unfold k0_pay2
  pointwise
  simp only [Norm.ofBits_len]
  rfl

theorem hat_apply (a : Fin 512) (k : Fin 1024) : k0_pay3 x (ix2 a k) = Norm.hat (row x a) k := by
  unfold k0_pay3
  pointwise
  rw [rs_apply]
  rfl

theorem dg_apply (k : Fin 1024) : k0_pay4 x dh (ix2 0 k) = dg x dh k := by
  unfold k0_pay4
  pointwise
  simp only [hat_apply]
  rfl

theorem dx_apply (a : Fin 512) (k : Fin 1024) : k0_pay6 x dh g dres (ix2 a k) = dx x g dh dres a k := by
  unfold k0_pay6
  pointwise
  simp only [rs_apply, hat_apply, Norm.ofBits_len]
  rfl

end Pay

/-! The blocks are the arrays. -/

theorem at_eq (t : Fin cfg0.N) (a : Fin 512) : at_ t a = a := by
  have h : t.val < 1 := t.isLt
  apply Fin.ext
  show t.val * 512 + a.val = a.val
  omega

theorem whole2 {p q : S512x1024.Idx → EReal} (h : ∀ a d, p (ix2 a d) = q (ix2 a d)) : p = q := by
  funext i
  obtain ⟨a, b, rfl⟩ : ∃ a b, i = ix2 a b := ⟨i 0, i 1, by funext x; match x with | ⟨0, _⟩ => rfl | ⟨1, _⟩ => rfl⟩
  exact h a b

theorem arr0 (t : Fin cfg0.N) : iblk m c 0 t = x m c := whole2 fun a d => (blk0 m c t a d).trans (by rw [at_eq])
theorem arr2 (t : Fin cfg0.N) : iblk m c 2 t = dh m c := whole2 fun a d => (blk2 m c t a d).trans (by rw [at_eq])
theorem arr3 (t : Fin cfg0.N) : iblk m c 3 t = dres m c := whole2 fun a d => (blk3 m c t a d).trans (by rw [at_eq])
theorem arr1 (t : Fin cfg0.N) : iblk m c 1 t = g m c := by
  funext i
  obtain ⟨a, b, rfl⟩ : ∃ a b, i = ix2 a b := ⟨i 0, i 1, by funext x; match x with | ⟨0, _⟩ => rfl | ⟨1, _⟩ => rfl⟩
  exact blk1 m c t a b

theorem hz : (![0, 0] : Fin 2 → Nat) = fun _ => 0 := funext fun a => by fin_cases a <;> rfl

abbrev tile (t : Fin cfg0.N) : Vec Ideal S512x1024 .f32 := k0_pay6 (iblk m c 0 t) (iblk m c 2 t) (iblk m c 1 t) (iblk m c 3 t)

theorem tile_apply (t : Fin cfg0.N) (a : Fin 512) (k : Fin 1024) :
    tile m c t (ix2 a k) = dx (x m c) (g m c) (dh m c) (dres m c) (at_ t a) k := by
  refine (dx_apply ..).trans ?_
  rw [arr0, arr1, arr2, arr3, at_eq]

/-! What is written back. -/

theorem after4 (t : Fin cfg0.N) : (dats m 0 c).flushed 4 t
    = (cfg0.win 4).cut (grid0.coords t) (tile m c t) := by
  rw [Value.flushed4_A]
  unfold out0_A_4
  rw [View.read_writes_eq_canon _ _ _ (fun _ => cover0_A_4 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S512x1024) hz, View.ld_unit_zero (S := S1x1024) hz]

theorem cut4 (f : S512x1024.Idx → EReal) (G : S512x1024.Idx → EReal) (t : Fin cfg0.N)
    (h : ∀ (a : Fin 512) (d : Fin 1024), f (ix2 a d) = G (ix2 (at_ t a) d)) :
    (cfg0.win 4).cut (grid0.coords t) f = ((cfg0.win 4).blk t).view.read (Elt Ideal) G := by
  funext j
  rw [View.read_apply]
  have h0 : (j 0 : ℕ) < 512 := (j 0).isLt
  have h1 : (j 1 : ℕ) < 1024 := (j 1).isLt
  refine (congrArg f ?_).trans ((h ⟨(j 0 : ℕ), h0⟩ ⟨(j 1 : ℕ), h1⟩).trans (congrArg G ?_))
  · funext q
    match q with
    | ⟨0, _⟩ => rfl
    | ⟨1, _⟩ => rfl
  · funext q; apply Fin.ext
    match q with
    | ⟨0, _⟩ => show t.val * 512 + (j 0 : ℕ) = win0_4.index t 0 * 512 + 1 * (j 0 : ℕ)
                rw [(index4 t).1]; omega
    | ⟨1, _⟩ => show (j 1 : ℕ) = win0_4.index t 1 * 1024 + 1 * (j 1 : ℕ)
                rw [(index4 t).2]; omega

theorem flushed4 (t : Fin cfg0.N) : (dats m 0 c).flushed 4 t
    = ((cfg0.win 4).blk t).view.read (Elt Ideal) (dxs (x m c) (g m c) (dh m c) (dres m c)) := by
  rw [after4]
  exact cut4 _ _ t fun a d => tile_apply m c t a d

theorem cover4 (i : S512x1024.Idx) : ∃ t : Fin cfg0.N, (cfg0.win 4).flush t = true ∧ i ∈ ((cfg0.win 4).blk t).view.set := by
  have h0 : (i 0 : ℕ) < 512 := (i 0).isLt
  have h1 : (i 1 : ℕ) < 1024 := (i 1).isLt
  have hN : cfg0.N = 1 := N_0
  obtain ⟨t, ht⟩ : ∃ t : Fin cfg0.N, t.val = (i 0 : ℕ) / 512 := ⟨⟨_, by omega⟩, rfl⟩
  have e := index4 t
  refine ⟨t, flush0_4 _, ?_⟩
  show i ∈ ((View.whole main_v0_0).slice (win0_4.rect t)).set
  rw [View.set_slice_whole, Rect.mem_set_unit]
  intro a
  match a with
  | ⟨0, _⟩ => show win0_4.index t 0 * 512 ≤ (i 0 : ℕ) ∧ (i 0 : ℕ) < win0_4.index t 0 * 512 + 512
              rw [e.1, ht]; omega
  | ⟨1, _⟩ => show win0_4.index t 1 * 1024 ≤ (i 1 : ℕ) ∧ (i 1 : ℕ) < win0_4.index t 1 * 1024 + 1024
              rw [e.2]; omega

theorem final4 : (dats m 0 c).arrAt 4 cfg0.N = dxs (x m c) (g m c) (dh m c) (dres m c) :=
  (dats m 0 c).arrAt_eq_of_cover 4 _ (fun t _ => flushed4 m c t) cover4

theorem after5 (t : Fin cfg0.N) : (dats m 0 c).flushed 5 t
    = (cfg0.win 5).cut (grid0.coords t) (k0_pay1 (F := Ideal) (tile m c t)) := by
  rw [Value.flushed5_A]
  unfold out0_A_5
  rw [View.read_writes_eq_canon _ _ _ (fun _ => cover0_A_5 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S512x1024) hz, View.ld_unit_zero (S := S1x1024) hz]

theorem cut5 (f : S512x1024.Idx → EReal) (G : S512x1024.Idx → EReal) (t : Fin cfg0.N)
    (h : ∀ (a : Fin 512) (d : Fin 1024), f (ix2 a d) = G (ix2 (at_ t a) d)) :
    (cfg0.win 5).cut (grid0.coords t) f = ((cfg0.win 5).blk t).view.read (Elt Ideal) G := by
  funext j
  rw [View.read_apply]
  have h0 : (j 0 : ℕ) < 512 := (j 0).isLt
  have h1 : (j 1 : ℕ) < 1024 := (j 1).isLt
  refine (congrArg f ?_).trans ((h ⟨(j 0 : ℕ), h0⟩ ⟨(j 1 : ℕ), h1⟩).trans (congrArg G ?_))
  · funext q
    match q with
    | ⟨0, _⟩ => rfl
    | ⟨1, _⟩ => rfl
  · funext q; apply Fin.ext
    match q with
    | ⟨0, _⟩ => show t.val * 512 + (j 0 : ℕ) = win0_5.index t 0 * 512 + 1 * (j 0 : ℕ)
                rw [(index5 t).1]; omega
    | ⟨1, _⟩ => show (j 1 : ℕ) = win0_5.index t 1 * 1024 + 1 * (j 1 : ℕ)
                rw [(index5 t).2]; omega

theorem flushed5 (t : Fin cfg0.N) : (dats m 0 c).flushed 5 t
    = ((cfg0.win 5).blk t).view.read (Elt Ideal) (dxs (x m c) (g m c) (dh m c) (dres m c)) := by
  rw [after5]
  exact cut5 _ _ t fun a d => tile_apply m c t a d

theorem cover5 (i : S512x1024.Idx) : ∃ t : Fin cfg0.N, (cfg0.win 5).flush t = true ∧ i ∈ ((cfg0.win 5).blk t).view.set := by
  have h0 : (i 0 : ℕ) < 512 := (i 0).isLt
  have h1 : (i 1 : ℕ) < 1024 := (i 1).isLt
  have hN : cfg0.N = 1 := N_0
  obtain ⟨t, ht⟩ : ∃ t : Fin cfg0.N, t.val = (i 0 : ℕ) / 512 := ⟨⟨_, by omega⟩, rfl⟩
  have e := index5 t
  refine ⟨t, flush0_5 _, ?_⟩
  show i ∈ ((View.whole main_v0_1).slice (win0_5.rect t)).set
  rw [View.set_slice_whole, Rect.mem_set_unit]
  intro a
  match a with
  | ⟨0, _⟩ => show win0_5.index t 0 * 512 ≤ (i 0 : ℕ) ∧ (i 0 : ℕ) < win0_5.index t 0 * 512 + 512
              rw [e.1, ht]; omega
  | ⟨1, _⟩ => show win0_5.index t 1 * 1024 ≤ (i 1 : ℕ) ∧ (i 1 : ℕ) < win0_5.index t 1 * 1024 + 1024
              rw [e.2]; omega

theorem final5 : (dats m 0 c).arrAt 5 cfg0.N = dxs (x m c) (g m c) (dh m c) (dres m c) :=
  (dats m 0 c).arrAt_eq_of_cover 5 _ (fun t _ => flushed5 m c t) cover5

theorem after6 (t : Fin cfg0.N) : (dats m 0 c).flushed 6 t
    = (cfg0.win 6).cut (grid0.coords t) (k0_pay4 (iblk m c 0 t) (iblk m c 2 t)) := by
  rw [Value.flushed6_A]
  unfold out0_A_6
  rw [View.read_writes_eq_canon _ _ _ (fun _ => cover0_A_6 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S512x1024) hz, View.ld_unit_zero (S := S1x1024) hz]

theorem cut6 (f G : S1x1024.Idx → EReal) (t : Fin cfg0.N) (h : ∀ (k : Fin 1024), f (ix2 0 k) = G (ix2 0 k)) :
    (cfg0.win 6).cut (grid0.coords t) f = ((cfg0.win 6).blk t).view.read (Elt Ideal) G := by
  funext j
  rw [View.read_apply]
  have h0 : (j 0 : ℕ) < 1 := (j 0).isLt
  have h1 : (j 1 : ℕ) < 1024 := (j 1).isLt
  refine (congrArg f ?_).trans ((h ⟨(j 1 : ℕ), h1⟩).trans (congrArg G ?_))
  · funext q; apply Fin.ext
    match q with
    | ⟨0, _⟩ => show (j 0 : ℕ) = 0
                omega
    | ⟨1, _⟩ => rfl
  · funext q; apply Fin.ext
    match q with
    | ⟨0, _⟩ => show 0 = win0_6.index t 0 * 1 + 1 * (j 0 : ℕ)
                rw [(index6 t).1]; omega
    | ⟨1, _⟩ => show (j 1 : ℕ) = win0_6.index t 1 * 1024 + 1 * (j 1 : ℕ)
                rw [(index6 t).2]; omega

theorem flushed6 (t : Fin cfg0.N) (hf : (cfg0.win 6).flush t = true) : (dats m 0 c).flushed 6 t
    = ((cfg0.win 6).blk t).view.read (Elt Ideal) (dgs (x m c) (dh m c)) := by
  rw [after6]
  refine cut6 _ _ t fun k => (dg_apply _ _ k).trans ?_
  rw [arr0, arr2]
  rfl

theorem cover6 (i : S1x1024.Idx) : ∃ t : Fin cfg0.N, (cfg0.win 6).flush t = true ∧ i ∈ ((cfg0.win 6).blk t).view.set := by
  have h0 : (i 0 : ℕ) < 1 := (i 0).isLt
  have h1 : (i 1 : ℕ) < 1024 := (i 1).isLt
  have hN : cfg0.N = 1 := N_0
  obtain ⟨t, ht⟩ : ∃ t : Fin cfg0.N, t.val = 0 := ⟨⟨_, by omega⟩, rfl⟩
  have e := index6 t
  refine ⟨t, flush0_6 _, ?_⟩
  show i ∈ ((View.whole main_v0_2).slice (win0_6.rect t)).set
  rw [View.set_slice_whole, Rect.mem_set_unit]
  intro a
  match a with
  | ⟨0, _⟩ => show win0_6.index t 0 * 1 ≤ (i 0 : ℕ) ∧ (i 0 : ℕ) < win0_6.index t 0 * 1 + 1
              rw [e.1]; omega
  | ⟨1, _⟩ => show win0_6.index t 1 * 1024 ≤ (i 1 : ℕ) ∧ (i 1 : ℕ) < win0_6.index t 1 * 1024 + 1024
              rw [e.2]; omega

theorem final6 : (dats m 0 c).arrAt 6 cfg0.N = dgs (x m c) (dh m c) :=
  (dats m 0 c).arrAt_eq_of_cover 6 _ (flushed6 m c) cover6

/-- The run, read: the results at their formulas, the arguments unchanged. -/
theorem run : θ_run defs (onTc (τ := τ) (main (F := Ideal))) ⟨m, fun _ => 0, ρ⟩ fun r => ∀ c : Dev nD,
      r.2.mem ((c : Thread nD τ).loc main_v0_0) = dxs (x m c) (g m c) (dh m c) (dres m c)
      ∧ r.2.mem ((c : Thread nD τ).loc main_v0_1) = dxs (x m c) (g m c) (dh m c) (dres m c)
      ∧ r.2.mem ((c : Thread nD τ).loc main_v0_2) = dgs (x m c) (dh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c),
    (h c).2.2.2⟩) (Value.run_blocks m ρ)

end Cert.Memory.Kernel

namespace Cert.Memory

theorem frame_ref : Cert.quiescent_MemNormBwdRefIdeal := fun m ρ _ =>
  (θ_run _ _ _).mono (fun r h => ⟨fun c => (h c).2.2.2, sem_eq_zero_of_no_sems (by decide) r.2⟩)
    (Cert.MemNormBwdRefIdeal.Value.run (F := Ideal) m ρ)

theorem algebraic : Cert.algebraic_MemNormBwdIdeal_MemNormBwdRefIdeal := by
  intro m ρ m' ρ' _ args
  open Kernel in
  refine ⟨fun c => dxs (x m c) (g m c) (dh m c) (dres m c), fun c => dxs (x m c) (g m c) (dh m c) (dres m c), fun c => dgs (x m c) (dh m c), run m ρ, ?_⟩
  refine (θ_run _ _ _).mono (fun r h c => ?_) (Cert.MemNormBwdRefIdeal.Value.run (F := Ideal) m' ρ')
  obtain ⟨a0, a1, a2, a3⟩ := args c
  obtain ⟨h0, h1, h2, hk⟩ := h c
  refine ⟨h0.trans ?_, h1.trans ?_, h2.trans ?_, hk⟩
  · rw [Cert.MemNormBwdRefIdeal.Read.val_main_v34_eq, a0, a1, a2, a3]
    exact ref_dxs _ _ _ _
  · rw [Cert.MemNormBwdRefIdeal.Read.val_main_v35_eq, a0, a1, a2, a3]
    exact ref_dxs _ _ _ _
  · rw [Cert.MemNormBwdRefIdeal.Read.val_main_v17_eq, a0, a2]
    exact ref_dgs _ _

end Cert.Memory

end
-- ==== Proof.LossRef.lean ====
/-
  The loss head: the formulas, and the reference at them.
-/
module

public import Idealize.ShloMosaic.Lib.Pointwise
public import proofs.«01_k».proof.Proof.Norm
public import proofs.«01_k».proof.Proof.Gen.LossHeadRefIdeal.Read

@[expose] public section

set_option maxRecDepth 16384

noncomputable section

open Idealize.ShloMosaic

namespace Cert.Loss

open Reals

section Model
variable (x : (⟨2, ![4096, 1024]⟩ : Shape).Idx → EReal) (g : (⟨2, ![1, 1024]⟩ : Shape).Idx → EReal)
  (y : (⟨2, ![4096, 1024]⟩ : Shape).Idx → EReal)

/-- A row of the last block, -/
def row (i : Fin 4096) : Fin 1024 → EReal := fun k => x (ix2 i k)
/-- its norm less the target, -/
def err (i : Fin 4096) (k : Fin 1024) : EReal := Norm.hat (row x i) k * g (ix2 0 k) - y (ix2 i k)
/-- the row's mean square error, -/
def mean (i : Fin 4096) : EReal := Ideal.div (∑ k, err x g y i k * err x g y i k) Norm.len
/-- and the loss: half the sum over the rows. -/
def loss : EReal := half * ∑ i, mean x g y i

/-- What the loss gives back to the norm, -/
def dy (i : Fin 4096) (k : Fin 1024) : EReal := err x g y i k * ((1024⁻¹ : ℝ) : EReal)
/-- through the gain, -/
def dxh (i : Fin 4096) : Fin 1024 → EReal := fun k => dy x g y i k * g (ix2 0 k)
/-- to the rows -/
def dx (i : Fin 4096) (k : Fin 1024) : EReal := Norm.grad (row x i) (dxh x g y i) k
/-- and to the gain. -/
def dg (k : Fin 1024) : EReal := ∑ i : Fin 4096, dy x g y i k * Norm.hat (row x i) k

/-- The results as arrays. -/
def dxs : (⟨2, ![4096, 1024]⟩ : Shape).Idx → EReal := fun i => dx x g y (i 0) (i 1)
def dgs : (⟨2, ![1, 1024]⟩ : Shape).Idx → EReal := fun i => dg x g y (i 1)
def losses : (⟨2, ![1, 128]⟩ : Shape).Idx → EReal := fun _ => loss x g y

theorem ofBits_two : Ideal.ofBits .f32 0x40000000#32 = ((2 : ℝ) : EReal) := by
  simp [Ideal.ofBits, Ideal.ieee, -EReal.coe_mul]; norm_num

theorem ofBits_inv_len : Ideal.ofBits .f32 0x3A800000#32 = ((1024⁻¹ : ℝ) : EReal) := by
  simp [Ideal.ofBits, Ideal.ieee, -EReal.coe_mul]; norm_num

/-! ## The reference -/

open Cert.LossHeadRefIdeal.Read

theorem ref_ms (i : Fin 4096) : val_main_v6 (F := Ideal) x (ix2 i 0) = Norm.ms (row x i) := by
  unfold val_main_v6 val_main_v5 val_main_cst_1 val_main_v4 val_main_v3 val_main_cst_0 val_main_v2 val_main_v1 val_main_cst val_main_v0
  pointwise
  simp only [Norm.ofBits_len, Ideal.ofBits_zero_f32, zero_add]
  rfl

theorem ref_rs (i : Fin 4096) : val_main_v7 (F := Ideal) x (ix2 i 0) = Norm.rs (row x i) := by
  unfold val_main_v7
  pointwise
  rw [ref_ms]
  rfl

theorem ref_hat (i : Fin 4096) (k : Fin 1024) : val_main_v12 (F := Ideal) x (ix2 i k) = Norm.hat (row x i) k := by
  unfold val_main_v12 val_main_v11
  pointwise
  rw [ref_rs]
  rfl

theorem ref_err (i : Fin 4096) (k : Fin 1024) : val_main_v15 (F := Ideal) x g y (ix2 i k) = err x g y i k := by
  unfold val_main_v15 val_main_v14 val_main_v13
  pointwise
  rw [ref_hat]
  rfl

theorem ref_mean (i : Fin 4096) : val_main_v21 (F := Ideal) x g y (ix1 i) = mean x g y i := by
  unfold val_main_v21 val_main_v20 val_main_cst_5 val_main_v19 val_main_cst_4 val_main_v16
  pointwise
  simp only [ref_err, Norm.ofBits_len, Ideal.ofBits_zero_f32, zero_add]
  rfl

theorem ref_loss : val_main_v50 (F := Ideal) x g y = losses x g y := by
  funext i
  obtain ⟨a, b, rfl⟩ : ∃ a b, i = ix2 a b := ⟨i 0, i 1, by funext x; match x with | ⟨0, _⟩ => rfl | ⟨1, _⟩ => rfl⟩
  unfold val_main_v50 val_main_v23 val_main_cst_7 val_main_v22 val_main_cst_6
  pointwise
  simp only [ref_mean, Reals.ofBits_half, Ideal.ofBits_zero_f32, zero_add]
  rfl

/-- The reference halves and doubles. -/
theorem ref_dy (i : Fin 4096) (k : Fin 1024) : val_main_v29 (F := Ideal) x g y (ix2 i k) = dy x g y i k := by
  unfold val_main_v29 val_main_v28 val_main_v27 val_main_v26 val_main_cst_10 val_main_v25 val_main_v24 val_main_cst_8 val_main_cst_9
    val_main_v18 val_main_v17 val_main_cst_3
  pointwise
  rw [ref_err, Reals.ofBits_half, Norm.ofBits_len, Norm.div_len, ofBits_two, half, ← EReal.coe_mul, ← mul_assoc,
    ← EReal.coe_mul, mul_comm]
  unfold dy
  congr 2
  norm_num

theorem ref_dg (k : Fin 1024) : val_main_v32 (F := Ideal) x g y (ix2 0 k) = dg x g y k := by
  unfold val_main_v32 val_main_v31 val_main_cst_11 val_main_v30
  pointwise
  simp only [ref_hat, ref_dy, Ideal.ofBits_zero_f32, zero_add]
  exact Finset.sum_congr rfl fun i _ => mul_comm _ _

theorem ref_dxh (i : Fin 4096) (k : Fin 1024) : val_main_v34 (F := Ideal) x g y (ix2 i k) = dxh x g y i k := by
  unfold val_main_v34 val_main_v33
  pointwise
  rw [ref_dy]
  rfl

theorem ref_slope (i : Fin 4096) (k : Fin 1024) :
    val_main_v44 (F := Ideal) x g y (ix2 i k) = Norm.slope (row x i) (dxh x g y i) := by
  unfold val_main_v44 val_main_v43 val_main_cst_14 val_main_v42 val_main_v41 val_main_cst_13 val_main_v40 val_main_v10 val_main_v9 val_main_cst_2
    val_main_v8 val_main_v37 val_main_v36 val_main_cst_12 val_main_v35
  pointwise
  simp only [Fin.sum_univ_one, ref_dxh, Ideal.ofBits_zero_f32, zero_add, Norm.ofBits_len, Norm.ofBits_mhalf]
  rw [ref_rs, ref_ms]
  rfl

theorem ref_dx (i : Fin 4096) (k : Fin 1024) :
    val_main_v48 (F := Ideal) x g y (ix2 i k) = dx x g y i k := by
  unfold dx
  rw [← Norm.chainGrad_eq (row x i)]
  unfold val_main_v48 val_main_v47 val_main_v46 val_main_v45 val_main_v39 val_main_v38
  pointwise
  rw [ref_slope, ref_dxh, ref_rs]
  rfl

theorem ref_dxs : val_main_v48 (F := Ideal) x g y = dxs x g y := by
  funext i
  obtain ⟨a, b, rfl⟩ : ∃ a b, i = ix2 a b := ⟨i 0, i 1, by funext x; match x with | ⟨0, _⟩ => rfl | ⟨1, _⟩ => rfl⟩
  exact ref_dx x g y a b

theorem ref_dgs : val_main_v32 (F := Ideal) x g y = dgs x g y := by
  funext i
  obtain ⟨a, b, rfl⟩ : ∃ a b, i = ix2 a b := ⟨i 0, i 1, by funext x; match x with | ⟨0, _⟩ => rfl | ⟨1, _⟩ => rfl⟩
  obtain rfl : a = 0 := Subsingleton.elim _ _
  exact ref_dg x g y b

end Model

end Cert.Loss

end
-- ==== Proof.LossPay.lean ====
/-
  What one point of the loss head computes from its blocks.
-/
module

public import Idealize.ShloMosaic.Lib.Pointwise
public import proofs.«01_k».proof.Proof.LossRef
public import proofs.«01_k».proof.Proof.Gen.LossHeadIdeal.Skeleton

@[expose] public section

set_option maxRecDepth 16384

noncomputable section

open Idealize.ShloMosaic

namespace Cert.Loss.Pay

open Cert.LossHeadIdeal Cert.LossHeadIdeal.Gen

variable (x : Vec Ideal S512x1024 .f32) (g : Vec Ideal S1x1024 .f32) (y : Vec Ideal S512x1024 .f32)

/-- A row of the block, -/
def row (a : Fin 512) : Fin 1024 → EReal := fun k => x (ix2 a k)
/-- its norm less the target, -/
def err (a : Fin 512) (k : Fin 1024) : EReal := Norm.hat (row x a) k * g (ix2 0 k) - y (ix2 a k)
/-- its mean square, -/
def mean (a : Fin 512) : EReal := Ideal.div (∑ k, err x g y a k * err x g y a k) Norm.len
/-- what it gives back to the norm, -/
def dy (a : Fin 512) (k : Fin 1024) : EReal := err x g y a k * ((1024⁻¹ : ℝ) : EReal)
/-- and through the gain. -/
def dxh (a : Fin 512) : Fin 1024 → EReal := fun k => dy x g y a k * g (ix2 0 k)

theorem rs_apply (a : Fin 512) : k0_pay5 x (ix2 a 0) = Norm.rs (row x a) := by
  unfold k0_pay5
  pointwise
  simp only [Norm.ofBits_len]
  rfl

theorem hat_apply (a : Fin 512) (k : Fin 1024) : k0_pay6 x (ix2 a k) = Norm.hat (row x a) k := by
  unfold k0_pay6
  pointwise
  rw [rs_apply]
  rfl

theorem err_apply (a : Fin 512) (k : Fin 1024) : k0_pay7 x g y (ix2 a k) = err x g y a k := by
  unfold k0_pay7
  pointwise
  rw [hat_apply]
  rfl

theorem loss_apply (k : Fin 128) : k0_pay8 x g y (ix2 0 k) = Reals.half * ∑ a, mean x g y a := by
  unfold k0_pay8
  pointwise
  simp only [err_apply, Norm.ofBits_len, Reals.ofBits_half, Ideal.ofBits_zero_f32, zero_add, Fin.sum_univ_one]
  rfl

theorem dy_apply (a : Fin 512) (k : Fin 1024) : k0_pay9 x g y (ix2 a k) = dy x g y a k := by
  unfold k0_pay9
  pointwise
  rw [err_apply, ofBits_inv_len]
  rfl

theorem dg_apply (k : Fin 1024) : k0_pay10 x g y (ix2 0 k) = ∑ a : Fin 512, dy x g y a k * Norm.hat (row x a) k := by
  unfold k0_pay10
  pointwise
  simp only [dy_apply, hat_apply]

theorem more_dg (v old : Vec Ideal S1x1024 .f32) (k : Fin 1024) : k0_pay1 v old (ix2 0 k) = old (ix2 0 k) + v (ix2 0 k) := by
  unfold k0_pay1
  pointwise

theorem more_loss (v old : Vec Ideal S1x128 .f32) (k : Fin 128) : k0_pay2 v old (ix2 0 k) = old (ix2 0 k) + v (ix2 0 k) := by
  unfold k0_pay2
  pointwise

theorem dx_apply (a : Fin 512) (k : Fin 1024) :
    k0_pay3 g (k0_pay5 x) (k0_pay6 x) (k0_pay9 x g y) (ix2 a k) = Norm.grad (row x a) (dxh x g y a) k := by
  unfold k0_pay3
  pointwise
  simp only [rs_apply, hat_apply, dy_apply, Norm.ofBits_len]
  rfl

end Cert.Loss.Pay

end
-- ==== Proof.LossHead.lean ====
/-
  The loss head by the kernel: a tile of 512 rows at a point, the gain's gradient and the loss added up over the points.
-/
module

public import Idealize.ShloMosaic.Lib.Pointwise
public import proofs.«01_k».proof.Proof.Blocks
public import proofs.«01_k».proof.Proof.LossPay
public import proofs.«01_k».proof.Proof.LossRef
public import proofs.«01_k».proof.Proof.Gen.LossHeadIdeal.Value

@[expose] public section

set_option maxRecDepth 16384

noncomputable section

open Idealize.ShloMosaic Idealize.ShloMosaic.TcCoe Idealize.SL.Sem

namespace Cert.Loss.Kernel

open Cert.LossHeadIdeal Cert.LossHeadIdeal.Gen

variable (m : (ℓ : Loc nD τ sig) → Buf (Elt Ideal) ℓ) (ρ : Dev nD → PrngReg) (c : Dev nD)
abbrev x : S4096x1024.Idx → EReal := m ((c : Thread nD τ).loc main_arg0)
abbrev g : S1x1024.Idx → EReal := m ((c : Thread nD τ).loc main_arg1)
abbrev y : S4096x1024.Idx → EReal := m ((c : Thread nD τ).loc main_arg2)

/-! Where the block of a point lies in an array. -/

def at_ (t : Fin cfg0.N) (a : Fin 512) : Fin 4096 :=
  ⟨t.val * 512 + a.val, by have h : t.val < 8 := t.isLt; omega⟩
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

/-! What a point reads. -/

theorem blk0 (t : Fin cfg0.N) (a : Fin 512) (d : Fin 1024) : iblk m c 0 t (ix2 a d) = x m c (ix2 (at_ t a) d) := by
  unfold iblk
  rw [View.read_apply]
  show V m c main_arg0 _ = _
  rw [V_main_arg0 m c]
  congr 1; funext q; apply Fin.ext
  match q with
  | ⟨0, _⟩ => show win0_0.index t 0 * 512 + 1 * a.val = t.val * 512 + a.val
              rw [(index0 t).1]; omega
  | ⟨1, _⟩ => show win0_0.index t 1 * 1024 + 1 * d.val = d.val
              rw [(index0 t).2]; omega

theorem blk1 (t : Fin cfg0.N) (a : Fin 1) (d : Fin 1024) : iblk m c 1 t (ix2 a d) = g m c (ix2 a d) := by
  unfold iblk
  rw [View.read_apply]
  show V m c main_arg1 _ = _
  rw [V_main_arg1 m c]
  congr 1; funext q; apply Fin.ext
  match q with
  | ⟨0, _⟩ => show win0_1.index t 0 * 1 + 1 * a.val = a.val
              rw [(index1 t).1]; omega
  | ⟨1, _⟩ => show win0_1.index t 1 * 1024 + 1 * d.val = d.val
              rw [(index1 t).2]; omega

theorem blk2 (t : Fin cfg0.N) (a : Fin 512) (d : Fin 1024) : iblk m c 2 t (ix2 a d) = y m c (ix2 (at_ t a) d) := by
  unfold iblk
  rw [View.read_apply]
  show V m c main_arg2 _ = _
  rw [V_main_arg2 m c]
  congr 1; funext q; apply Fin.ext
  match q with
  | ⟨0, _⟩ => show win0_2.index t 0 * 512 + 1 * a.val = t.val * 512 + a.val
              rw [(index2 t).1]; omega
  | ⟨1, _⟩ => show win0_2.index t 1 * 1024 + 1 * d.val = d.val
              rw [(index2 t).2]; omega

/-! The point's rows are the rows of the arrays. -/

theorem row_eq (t : Fin cfg0.N) (a : Fin 512) : Pay.row (iblk m c 0 t) a = row (x m c) (at_ t a) :=
  funext fun k => blk0 m c t a k

theorem err_eq (t : Fin cfg0.N) (a : Fin 512) (k : Fin 1024) :
    Pay.err (iblk m c 0 t) (iblk m c 1 t) (iblk m c 2 t) a k = err (x m c) (g m c) (y m c) (at_ t a) k := by
  unfold Pay.err
  rw [row_eq, blk1, blk2]
  rfl

theorem mean_eq (t : Fin cfg0.N) (a : Fin 512) :
    Pay.mean (iblk m c 0 t) (iblk m c 1 t) (iblk m c 2 t) a = mean (x m c) (g m c) (y m c) (at_ t a) := by
  unfold Pay.mean
  simp only [err_eq]
  rfl

theorem dy_eq (t : Fin cfg0.N) (a : Fin 512) (k : Fin 1024) :
    Pay.dy (iblk m c 0 t) (iblk m c 1 t) (iblk m c 2 t) a k = dy (x m c) (g m c) (y m c) (at_ t a) k := by
  unfold Pay.dy
  rw [err_eq]
  rfl

theorem dxh_eq (t : Fin cfg0.N) (a : Fin 512) :
    Pay.dxh (iblk m c 0 t) (iblk m c 1 t) (iblk m c 2 t) a = dxh (x m c) (g m c) (y m c) (at_ t a) := by
  funext k
  show Pay.dy _ _ _ a k * iblk m c 1 t (ix2 0 k) = _
  rw [dy_eq, blk1]
  rfl

/-! ## The gradient of the rows -/

theorem hz : (![0, 0] : Fin 2 → Nat) = fun _ => 0 := funext fun a => by fin_cases a <;> rfl

/-- What a point computes, -/
abbrev tile (t : Fin cfg0.N) : Vec Ideal S512x1024 .f32 :=
  k0_pay3 (iblk m c 1 t) (k0_pay5 (iblk m c 0 t)) (k0_pay6 (iblk m c 0 t)) (k0_pay9 (iblk m c 0 t) (iblk m c 1 t) (iblk m c 2 t))

/-- entry by entry. -/
theorem tile_apply (t : Fin cfg0.N) (a : Fin 512) (k : Fin 1024) :
    tile m c t (ix2 a k) = dx (x m c) (g m c) (y m c) (at_ t a) k := by
  refine (Pay.dx_apply ..).trans ?_
  rw [row_eq, dxh_eq]
  rfl

/-! What is written back, at the first point and at the others. -/

theorem after3_A (t : Fin cfg0.N) (h0 : t.val % 8 = 0) (h1 : ¬1 ≤ t.val) : (dats m 0 c).flushed 3 t
    = (cfg0.win 3).cut (grid0.coords t) (tile m c t) := by
  rw [Value.flushed3_A m c t h0 h1]
  unfold out0_A_3
  rw [View.read_writes_eq_canon _ _ _ (fun _ => cover0_A_3 ..)]
  unfold kernelRun0_A
  dsimp only
  rw [View.canon_unit_zero hz]
  sl_unfold_words
  simp only [View.readAt_eq_ld, (hs0_0 t).read_unread, (hs0_1 t).read_unread, (hs0_2 t).read_unread,
    View.ld_unit_zero (S := S512x1024) hz, View.ld_unit_zero (S := S1x1024) hz]

theorem after3_B (t : Fin cfg0.N) (h0 : ¬t.val % 8 = 0) (h1 : 1 ≤ t.val) : (dats m 0 c).flushed 3 t
    = (cfg0.win 3).cut (grid0.coords t) (tile m c t) := by
  rw [Value.flushed3_B m c t h0 h1]
  unfold out0_B_3
  rw [View.read_writes_eq_canon _ _ _ (fun _ => cover0_B_3 ..)]
  unfold kernelRun0_B
  dsimp only
  rw [View.canon_unit_zero hz]
  sl_unfold_words
  simp only [View.readAt_eq_ld, (hs0_0 t).read_unread, (hs0_1 t).read_unread, (hs0_2 t).read_unread,
    View.ld_unit_zero (S := S512x1024) hz, View.ld_unit_zero (S := S1x1024) hz]

theorem after3 (t : Fin cfg0.N) : (dats m 0 c).flushed 3 t = (cfg0.win 3).cut (grid0.coords t) (tile m c t) := by
  have hN : t.val < 8 := t.isLt
  by_cases h : t.val % 8 = 0
  · exact after3_A m c t h (by omega)
  · exact after3_B m c t h (by omega)

theorem cut3 (f : S512x1024.Idx → EReal) (G : S4096x1024.Idx → EReal) (t : Fin cfg0.N)
    (h : ∀ (a : Fin 512) (d : Fin 1024), f (ix2 a d) = G (ix2 (at_ t a) d)) :
    (cfg0.win 3).cut (grid0.coords t) f = ((cfg0.win 3).blk t).view.read (Elt Ideal) G := by
  funext j
  rw [View.read_apply]
  have h0 : (j 0 : ℕ) < 512 := (j 0).isLt
  have h1 : (j 1 : ℕ) < 1024 := (j 1).isLt
  refine (congrArg f ?_).trans ((h ⟨(j 0 : ℕ), h0⟩ ⟨(j 1 : ℕ), h1⟩).trans (congrArg G ?_))
  · funext q
    match q with
    | ⟨0, _⟩ => rfl
    | ⟨1, _⟩ => rfl
  · funext q; apply Fin.ext
    match q with
    | ⟨0, _⟩ => show t.val * 512 + (j 0 : ℕ) = win0_3.index t 0 * 512 + 1 * (j 0 : ℕ)
                rw [(index3 t).1]; omega
    | ⟨1, _⟩ => show (j 1 : ℕ) = win0_3.index t 1 * 1024 + 1 * (j 1 : ℕ)
                rw [(index3 t).2]; omega

theorem flushed3 (t : Fin cfg0.N) : (dats m 0 c).flushed 3 t
    = ((cfg0.win 3).blk t).view.read (Elt Ideal) (dxs (x m c) (g m c) (y m c)) := by
  rw [after3]
  exact cut3 _ _ t fun a d => tile_apply m c t a d

theorem cover3 (i : S4096x1024.Idx) : ∃ t : Fin cfg0.N, (cfg0.win 3).flush t = true ∧ i ∈ ((cfg0.win 3).blk t).view.set := by
  have h0 : (i 0 : ℕ) < 4096 := (i 0).isLt
  have h1 : (i 1 : ℕ) < 1024 := (i 1).isLt
  have hN : cfg0.N = 8 := N_0
  obtain ⟨t, ht⟩ : ∃ t : Fin cfg0.N, t.val = (i 0 : ℕ) / 512 := ⟨⟨_, by omega⟩, rfl⟩
  have e := index3 t
  refine ⟨t, flush0_3 _, ?_⟩
  show i ∈ ((View.whole main_v0_0).slice (win0_3.rect t)).set
  rw [View.set_slice_whole, Rect.mem_set_unit]
  intro a
  match a with
  | ⟨0, _⟩ => show win0_3.index t 0 * 512 ≤ (i 0 : ℕ) ∧ (i 0 : ℕ) < win0_3.index t 0 * 512 + 512
              rw [e.1, ht]; omega
  | ⟨1, _⟩ => show win0_3.index t 1 * 1024 ≤ (i 1 : ℕ) ∧ (i 1 : ℕ) < win0_3.index t 1 * 1024 + 1024
              rw [e.2]; omega

theorem final3 : (dats m 0 c).arrAt 3 cfg0.N = dxs (x m c) (g m c) (y m c) :=
  (dats m 0 c).arrAt_eq_of_cover 3 _ (fun t _ => flushed3 m c t) cover3

theorem after4_A (t : Fin cfg0.N) (h0 : t.val % 8 = 0) (h1 : ¬1 ≤ t.val) : (dats m 0 c).flushed 4 t
    = (cfg0.win 4).cut (grid0.coords t) (k0_pay4 (iblk m c 1 t) (k0_pay5 (iblk m c 0 t)) (k0_pay6 (iblk m c 0 t)) (k0_pay9 (iblk m c 0 t) (iblk m c 1 t) (iblk m c 2 t))) := by
  rw [Value.flushed4_A m c t h0 h1]
  unfold out0_A_4
  rw [View.read_writes_eq_canon _ _ _ (fun _ => cover0_A_4 ..)]
  unfold kernelRun0_A
  dsimp only
  rw [View.canon_unit_zero hz]
  sl_unfold_words
  simp only [View.readAt_eq_ld, (hs0_0 t).read_unread, (hs0_1 t).read_unread, (hs0_2 t).read_unread,
    View.ld_unit_zero (S := S512x1024) hz, View.ld_unit_zero (S := S1x1024) hz]

theorem after4_B (t : Fin cfg0.N) (h0 : ¬t.val % 8 = 0) (h1 : 1 ≤ t.val) : (dats m 0 c).flushed 4 t
    = (cfg0.win 4).cut (grid0.coords t) (k0_pay4 (iblk m c 1 t) (k0_pay5 (iblk m c 0 t)) (k0_pay6 (iblk m c 0 t)) (k0_pay9 (iblk m c 0 t) (iblk m c 1 t) (iblk m c 2 t))) := by
  rw [Value.flushed4_B m c t h0 h1]
  unfold out0_B_4
  rw [View.read_writes_eq_canon _ _ _ (fun _ => cover0_B_4 ..)]
  unfold kernelRun0_B
  dsimp only
  rw [View.canon_unit_zero hz]
  sl_unfold_words
  simp only [View.readAt_eq_ld, (hs0_0 t).read_unread, (hs0_1 t).read_unread, (hs0_2 t).read_unread,
    View.ld_unit_zero (S := S512x1024) hz, View.ld_unit_zero (S := S1x1024) hz]

theorem after4 (t : Fin cfg0.N) : (dats m 0 c).flushed 4 t = (cfg0.win 4).cut (grid0.coords t) (tile m c t) := by
  have hN : t.val < 8 := t.isLt
  by_cases h : t.val % 8 = 0
  · exact after4_A m c t h (by omega)
  · exact after4_B m c t h (by omega)

theorem cut4 (f : S512x1024.Idx → EReal) (G : S4096x1024.Idx → EReal) (t : Fin cfg0.N)
    (h : ∀ (a : Fin 512) (d : Fin 1024), f (ix2 a d) = G (ix2 (at_ t a) d)) :
    (cfg0.win 4).cut (grid0.coords t) f = ((cfg0.win 4).blk t).view.read (Elt Ideal) G := by
  funext j
  rw [View.read_apply]
  have h0 : (j 0 : ℕ) < 512 := (j 0).isLt
  have h1 : (j 1 : ℕ) < 1024 := (j 1).isLt
  refine (congrArg f ?_).trans ((h ⟨(j 0 : ℕ), h0⟩ ⟨(j 1 : ℕ), h1⟩).trans (congrArg G ?_))
  · funext q
    match q with
    | ⟨0, _⟩ => rfl
    | ⟨1, _⟩ => rfl
  · funext q; apply Fin.ext
    match q with
    | ⟨0, _⟩ => show t.val * 512 + (j 0 : ℕ) = win0_4.index t 0 * 512 + 1 * (j 0 : ℕ)
                rw [(index4 t).1]; omega
    | ⟨1, _⟩ => show (j 1 : ℕ) = win0_4.index t 1 * 1024 + 1 * (j 1 : ℕ)
                rw [(index4 t).2]; omega

theorem flushed4 (t : Fin cfg0.N) : (dats m 0 c).flushed 4 t
    = ((cfg0.win 4).blk t).view.read (Elt Ideal) (dxs (x m c) (g m c) (y m c)) := by
  rw [after4]
  exact cut4 _ _ t fun a d => tile_apply m c t a d

theorem cover4 (i : S4096x1024.Idx) : ∃ t : Fin cfg0.N, (cfg0.win 4).flush t = true ∧ i ∈ ((cfg0.win 4).blk t).view.set := by
  have h0 : (i 0 : ℕ) < 4096 := (i 0).isLt
  have h1 : (i 1 : ℕ) < 1024 := (i 1).isLt
  have hN : cfg0.N = 8 := N_0
  obtain ⟨t, ht⟩ : ∃ t : Fin cfg0.N, t.val = (i 0 : ℕ) / 512 := ⟨⟨_, by omega⟩, rfl⟩
  have e := index4 t
  refine ⟨t, flush0_4 _, ?_⟩
  show i ∈ ((View.whole main_v0_1).slice (win0_4.rect t)).set
  rw [View.set_slice_whole, Rect.mem_set_unit]
  intro a
  match a with
  | ⟨0, _⟩ => show win0_4.index t 0 * 512 ≤ (i 0 : ℕ) ∧ (i 0 : ℕ) < win0_4.index t 0 * 512 + 512
              rw [e.1, ht]; omega
  | ⟨1, _⟩ => show win0_4.index t 1 * 1024 ≤ (i 1 : ℕ) ∧ (i 1 : ℕ) < win0_4.index t 1 * 1024 + 1024
              rw [e.2]; omega

theorem final4 : (dats m 0 c).arrAt 4 cfg0.N = dxs (x m c) (g m c) (y m c) :=
  (dats m 0 c).arrAt_eq_of_cover 4 _ (fun t _ => flushed4 m c t) cover4

/-! ## The gain's gradient and the loss

What their arrays hold after a point: after the first the point's sum, after another what was there and the point's sum. -/

theorem gain_A (t : Fin cfg0.N) (h0 : t.val % 8 = 0) (h1 : ¬1 ≤ t.val) : (outsAt0 m c t.val t.isLt).2.2.1 = k0_pay10 (iblk m c 0 t) (iblk m c 1 t) (iblk m c 2 t) := by
  rw [outsAt0_A m c t h0 h1]
  dsimp only
  unfold out0_A_5
  rw [View.read_writes_eq_canon _ _ _ (fun _ => cover0_A_5 ..)]
  unfold kernelRun0_A
  dsimp only
  rw [View.canon_unit_zero hz]
  sl_unfold_words
  simp only [View.readAt_eq_ld, (hs0_0 t).read_unread, (hs0_1 t).read_unread, (hs0_2 t).read_unread, (hs0_5 t).read_unread, (hs0_6 t).read_unread,
    View.ld_unit_zero (S := S1x128) hz, View.ld_unit_zero (S := S512x1024) hz, View.ld_unit_zero (S := S1x1024) hz]

theorem gain_B (t : Fin cfg0.N) (h0 : ¬t.val % 8 = 0) (h1 : 1 ≤ t.val) : (outsAt0 m c t.val t.isLt).2.2.1 = k0_pay1 (k0_pay10 (iblk m c 0 t) (iblk m c 1 t) (iblk m c 2 t))
      (outsAt0 m c (t.val - 1) (Nat.lt_of_le_of_lt (Nat.sub_le _ _) t.isLt)).2.2.1 := by
  rw [outsAt0_B m c t h0 h1]
  dsimp only
  unfold out0_B_5
  rw [View.read_writes_eq_canon _ _ _ (fun _ => cover0_B_5 ..)]
  unfold kernelRun0_B
  dsimp only
  rw [View.canon_unit_zero hz]
  sl_unfold_words
  simp only [View.readAt_eq_ld, (hs0_0 t).read_unread, (hs0_1 t).read_unread, (hs0_2 t).read_unread, (hs0_5 t).read_unread, (hs0_6 t).read_unread,
    View.ld_unit_zero (S := S1x128) hz, View.ld_unit_zero (S := S512x1024) hz, View.ld_unit_zero (S := S1x1024) hz]

theorem cost_A (t : Fin cfg0.N) (h0 : t.val % 8 = 0) (h1 : ¬1 ≤ t.val) : (outsAt0 m c t.val t.isLt).2.2.2 = k0_pay8 (iblk m c 0 t) (iblk m c 1 t) (iblk m c 2 t) := by
  rw [outsAt0_A m c t h0 h1]
  dsimp only
  unfold out0_A_6
  rw [View.read_writes_eq_canon _ _ _ (fun _ => cover0_A_6 ..)]
  unfold kernelRun0_A
  dsimp only
  rw [View.canon_unit_zero hz]
  sl_unfold_words
  simp only [View.readAt_eq_ld, (hs0_0 t).read_unread, (hs0_1 t).read_unread, (hs0_2 t).read_unread, (hs0_5 t).read_unread, (hs0_6 t).read_unread,
    View.ld_unit_zero (S := S1x128) hz, View.ld_unit_zero (S := S512x1024) hz, View.ld_unit_zero (S := S1x1024) hz]

theorem cost_B (t : Fin cfg0.N) (h0 : ¬t.val % 8 = 0) (h1 : 1 ≤ t.val) : (outsAt0 m c t.val t.isLt).2.2.2 = k0_pay2 (k0_pay8 (iblk m c 0 t) (iblk m c 1 t) (iblk m c 2 t))
      (outsAt0 m c (t.val - 1) (Nat.lt_of_le_of_lt (Nat.sub_le _ _) t.isLt)).2.2.2 := by
  rw [outsAt0_B m c t h0 h1]
  dsimp only
  unfold out0_B_6
  rw [View.read_writes_eq_canon _ _ _ (fun _ => cover0_B_6 ..)]
  unfold kernelRun0_B
  dsimp only
  rw [View.canon_unit_zero hz]
  sl_unfold_words
  simp only [View.readAt_eq_ld, (hs0_0 t).read_unread, (hs0_1 t).read_unread, (hs0_2 t).read_unread, (hs0_5 t).read_unread, (hs0_6 t).read_unread,
    View.ld_unit_zero (S := S1x128) hz, View.ld_unit_zero (S := S512x1024) hz, View.ld_unit_zero (S := S1x1024) hz]

/-- A point's sum for the gain, -/
def part (k : Fin 1024) (n : ℕ) : EReal :=
  if h : n < cfg0.N then ∑ a : Fin 512, dy (x m c) (g m c) (y m c) (at_ ⟨n, h⟩ a) k * Norm.hat (row (x m c) (at_ ⟨n, h⟩ a)) k else 0

/-- and for the loss. -/
def share (n : ℕ) : EReal := if h : n < cfg0.N then ∑ a : Fin 512, Reals.half * mean (x m c) (g m c) (y m c) (at_ ⟨n, h⟩ a) else 0

theorem part_eq (k : Fin 1024) (t : Fin cfg0.N) :
    ∑ a : Fin 512, Pay.dy (iblk m c 0 t) (iblk m c 1 t) (iblk m c 2 t) a k * Norm.hat (Pay.row (iblk m c 0 t) a) k = part m c k t.val := by
  unfold part
  rw [dif_pos t.isLt]
  exact Finset.sum_congr rfl fun a _ => by rw [dy_eq, row_eq]

theorem share_eq (t : Fin cfg0.N) : Reals.half * ∑ a : Fin 512, Pay.mean (iblk m c 0 t) (iblk m c 1 t) (iblk m c 2 t) a = share m c t.val := by
  unfold share
  rw [dif_pos t.isLt, Reals.half_mul_sum]
  exact Finset.sum_congr rfl fun a _ => by rw [mean_eq]

/-- After a point the arrays hold the running sums, -/
theorem gain (k : Fin 1024) : ∀ (n : ℕ) (h : n < cfg0.N), (outsAt0 m c n h).2.2.1 (ix2 0 k) = Blocks.acc (part m c k) n
  | 0, h => by
    rw [gain_A m c ⟨0, h⟩ rfl (by simp), Pay.dg_apply, part_eq]
    rfl
  | n + 1, h => by
    have hN : cfg0.N = 8 := N_0
    have h0 : ¬(⟨n + 1, h⟩ : Fin cfg0.N).val % 8 = 0 := by dsimp only; omega
    rw [gain_B m c ⟨n + 1, h⟩ h0 (Nat.succ_le_succ (Nat.zero_le n)), Pay.more_dg, Pay.dg_apply, part_eq]
    exact congrArg (· + part m c k (n + 1)) (gain k n (Nat.lt_of_succ_lt h))

theorem cost (k : Fin 128) : ∀ (n : ℕ) (h : n < cfg0.N), (outsAt0 m c n h).2.2.2 (ix2 0 k) = Blocks.acc (share m c) n
  | 0, h => by
    rw [cost_A m c ⟨0, h⟩ rfl (by simp), Pay.loss_apply, share_eq]
    rfl
  | n + 1, h => by
    have hN : cfg0.N = 8 := N_0
    have h0 : ¬(⟨n + 1, h⟩ : Fin cfg0.N).val % 8 = 0 := by dsimp only; omega
    rw [cost_B m c ⟨n + 1, h⟩ h0 (Nat.succ_le_succ (Nat.zero_le n)), Pay.more_loss, Pay.loss_apply, share_eq]
    exact congrArg (· + share m c (n + 1)) (cost k n (Nat.lt_of_succ_lt h))

/-- and after the last the sums over all rows. -/
theorem gain_last (k : Fin 1024) (h : 7 < cfg0.N) : (outsAt0 m c 7 h).2.2.1 (ix2 0 k) = dg (x m c) (g m c) (y m c) k := by
  rw [gain]
  refine Blocks.acc_rows (B := 512) (R := 4096) rfl _ _ fun t ht => ?_
  have hN : cfg0.N = 8 := N_0
  unfold part
  rw [dif_pos (show t < cfg0.N by omega)]
  rfl

theorem cost_last (k : Fin 128) (h : 7 < cfg0.N) : (outsAt0 m c 7 h).2.2.2 (ix2 0 k) = loss (x m c) (g m c) (y m c) := by
  rw [cost]
  unfold loss
  rw [Reals.half_mul_sum]
  refine Blocks.acc_rows (B := 512) (R := 4096) rfl _ _ fun t ht => ?_
  have hN : cfg0.N = 8 := N_0
  unfold share
  rw [dif_pos (show t < cfg0.N by omega)]
  rfl

theorem gain_last_at (t : Fin cfg0.N) (h7 : t.val = 7) (k : Fin 1024) :
    (outsAt0 m c t.val t.isLt).2.2.1 (ix2 0 k) = (dgs (x m c) (g m c) (y m c)) (ix2 0 k) := by
  obtain ⟨n, hn⟩ := t
  obtain rfl : n = 7 := h7
  exact gain_last m c k hn

theorem cut5 (f G : S1x1024.Idx → EReal) (t : Fin cfg0.N) (h : ∀ (k : Fin 1024), f (ix2 0 k) = G (ix2 0 k)) :
    (cfg0.win 5).cut (grid0.coords t) f = ((cfg0.win 5).blk t).view.read (Elt Ideal) G := by
  funext j
  rw [View.read_apply]
  have h0 : (j 0 : ℕ) < 1 := (j 0).isLt
  have h1 : (j 1 : ℕ) < 1024 := (j 1).isLt
  refine (congrArg f ?_).trans ((h ⟨(j 1 : ℕ), h1⟩).trans (congrArg G ?_))
  · funext q; apply Fin.ext
    match q with
    | ⟨0, _⟩ => show (j 0 : ℕ) = 0
                omega
    | ⟨1, _⟩ => rfl
  · funext q; apply Fin.ext
    match q with
    | ⟨0, _⟩ => show 0 = win0_5.index t 0 * 1 + 1 * (j 0 : ℕ)
                rw [(index5 t).1]; omega
    | ⟨1, _⟩ => show (j 1 : ℕ) = win0_5.index t 1 * 1024 + 1 * (j 1 : ℕ)
                rw [(index5 t).2]; omega

theorem flushed5 (t : Fin cfg0.N) (hf : (cfg0.win 5).flush t = true) : (dats m 0 c).flushed 5 t
    = ((cfg0.win 5).blk t).view.read (Elt Ideal) (dgs (x m c) (g m c) (y m c)) := by
  have hN : cfg0.N = 8 := N_0
  have h7 : t.val = 7 := by have := (flush0_5 t).mp hf; have := t.isLt; omega
  have e : ∀ k, (outsAt0 m c t.val t.isLt).2.2.1 (ix2 0 k) = (dgs (x m c) (g m c) (y m c)) (ix2 0 k) := gain_last_at m c t h7
  rw [Value.flushed5]
  exact cut5 _ _ t e

theorem cover5 (i : S1x1024.Idx) : ∃ t : Fin cfg0.N, (cfg0.win 5).flush t = true ∧ i ∈ ((cfg0.win 5).blk t).view.set := by
  have h0 : (i 0 : ℕ) < 1 := (i 0).isLt
  have h1 : (i 1 : ℕ) < 1024 := (i 1).isLt
  have hN : cfg0.N = 8 := N_0
  obtain ⟨t, ht⟩ : ∃ t : Fin cfg0.N, t.val = 7 := ⟨⟨_, by omega⟩, rfl⟩
  have e := index5 t
  refine ⟨t, (flush0_5 t).mpr (by omega), ?_⟩
  show i ∈ ((View.whole main_v0_2).slice (win0_5.rect t)).set
  rw [View.set_slice_whole, Rect.mem_set_unit]
  intro a
  match a with
  | ⟨0, _⟩ => show win0_5.index t 0 * 1 ≤ (i 0 : ℕ) ∧ (i 0 : ℕ) < win0_5.index t 0 * 1 + 1
              rw [e.1]; omega
  | ⟨1, _⟩ => show win0_5.index t 1 * 1024 ≤ (i 1 : ℕ) ∧ (i 1 : ℕ) < win0_5.index t 1 * 1024 + 1024
              rw [e.2]; omega

theorem final5 : (dats m 0 c).arrAt 5 cfg0.N = dgs (x m c) (g m c) (y m c) :=
  (dats m 0 c).arrAt_eq_of_cover 5 _ (flushed5 m c) cover5

theorem cost_last_at (t : Fin cfg0.N) (h7 : t.val = 7) (k : Fin 128) :
    (outsAt0 m c t.val t.isLt).2.2.2 (ix2 0 k) = (losses (x m c) (g m c) (y m c)) (ix2 0 k) := by
  obtain ⟨n, hn⟩ := t
  obtain rfl : n = 7 := h7
  exact cost_last m c k hn

theorem cut6 (f G : S1x128.Idx → EReal) (t : Fin cfg0.N) (h : ∀ (k : Fin 128), f (ix2 0 k) = G (ix2 0 k)) :
    (cfg0.win 6).cut (grid0.coords t) f = ((cfg0.win 6).blk t).view.read (Elt Ideal) G := by
  funext j
  rw [View.read_apply]
  have h0 : (j 0 : ℕ) < 1 := (j 0).isLt
  have h1 : (j 1 : ℕ) < 128 := (j 1).isLt
  refine (congrArg f ?_).trans ((h ⟨(j 1 : ℕ), h1⟩).trans (congrArg G ?_))
  · funext q; apply Fin.ext
    match q with
    | ⟨0, _⟩ => show (j 0 : ℕ) = 0
                omega
    | ⟨1, _⟩ => rfl
  · funext q; apply Fin.ext
    match q with
    | ⟨0, _⟩ => show 0 = win0_6.index t 0 * 1 + 1 * (j 0 : ℕ)
                rw [(index6 t).1]; omega
    | ⟨1, _⟩ => show (j 1 : ℕ) = win0_6.index t 1 * 128 + 1 * (j 1 : ℕ)
                rw [(index6 t).2]; omega

theorem flushed6 (t : Fin cfg0.N) (hf : (cfg0.win 6).flush t = true) : (dats m 0 c).flushed 6 t
    = ((cfg0.win 6).blk t).view.read (Elt Ideal) (losses (x m c) (g m c) (y m c)) := by
  have hN : cfg0.N = 8 := N_0
  have h7 : t.val = 7 := by have := (flush0_6 t).mp hf; have := t.isLt; omega
  have e : ∀ k, (outsAt0 m c t.val t.isLt).2.2.2 (ix2 0 k) = (losses (x m c) (g m c) (y m c)) (ix2 0 k) := cost_last_at m c t h7
  rw [Value.flushed6]
  exact cut6 _ _ t e

theorem cover6 (i : S1x128.Idx) : ∃ t : Fin cfg0.N, (cfg0.win 6).flush t = true ∧ i ∈ ((cfg0.win 6).blk t).view.set := by
  have h0 : (i 0 : ℕ) < 1 := (i 0).isLt
  have h1 : (i 1 : ℕ) < 128 := (i 1).isLt
  have hN : cfg0.N = 8 := N_0
  obtain ⟨t, ht⟩ : ∃ t : Fin cfg0.N, t.val = 7 := ⟨⟨_, by omega⟩, rfl⟩
  have e := index6 t
  refine ⟨t, (flush0_6 t).mpr (by omega), ?_⟩
  show i ∈ ((View.whole main_v0_3).slice (win0_6.rect t)).set
  rw [View.set_slice_whole, Rect.mem_set_unit]
  intro a
  match a with
  | ⟨0, _⟩ => show win0_6.index t 0 * 1 ≤ (i 0 : ℕ) ∧ (i 0 : ℕ) < win0_6.index t 0 * 1 + 1
              rw [e.1]; omega
  | ⟨1, _⟩ => show win0_6.index t 1 * 128 ≤ (i 1 : ℕ) ∧ (i 1 : ℕ) < win0_6.index t 1 * 128 + 128
              rw [e.2]; omega

theorem final6 : (dats m 0 c).arrAt 6 cfg0.N = losses (x m c) (g m c) (y m c) :=
  (dats m 0 c).arrAt_eq_of_cover 6 _ (flushed6 m c) cover6

/-- The run, read: the results at their formulas, the arguments unchanged. -/
theorem run : θ_run defs (onTc (τ := τ) (main (F := Ideal))) ⟨m, fun _ => 0, ρ⟩ fun r => ∀ c : Dev nD,
      r.2.mem ((c : Thread nD τ).loc main_v0_0) = dxs (x m c) (g m c) (y m c)
      ∧ r.2.mem ((c : Thread nD τ).loc main_v0_1) = dxs (x m c) (g m c) (y m c)
      ∧ r.2.mem ((c : Thread nD τ).loc main_v0_2) = dgs (x m c) (g m c) (y m c)
      ∧ r.2.mem ((c : Thread nD τ).loc main_v0_3) = losses (x m c) (g m c) (y m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2.1.trans (final5 m c),
    (h c).2.2.2.1.trans (final6 m c), (h c).2.2.2.2⟩) (Value.run_blocks m ρ)

end Cert.Loss.Kernel

end
-- ==== Proof.LossClaim.lean ====
/-
  The claims about the loss head: half the sum of the rows' mean square errors, with its gradients.
-/
module

public import proofs.«01_k».proof.Proof.LossHead
public import proofs.«01_k».proof.Proof.LossRef
public import proofs.«01_k».proof.Proof.Gen.LossHeadRefIdeal.Run
public import proofs.«01_k».proof.Defs
public import Idealize.ShloMosaic.Adequacy
public import proofs.«01_k».proof.Proof.Gen.LossHeadIdeal.Frame

@[expose] public section

set_option maxRecDepth 16384

noncomputable section

open Idealize.ShloMosaic Idealize.ShloMosaic.TcCoe Idealize.SL.Sem

namespace Cert.Loss

theorem frame_ref : Cert.quiescent_LossHeadRefIdeal := fun m ρ _ =>
  (θ_run _ _ _).mono (fun r h => ⟨fun c => (h c).2.2.2.2, sem_eq_zero_of_no_sems (by decide) r.2⟩)
    (Cert.LossHeadRefIdeal.Value.run (F := Ideal) m ρ)

theorem algebraic : Cert.algebraic_LossHeadIdeal_LossHeadRefIdeal := by
  intro m ρ m' ρ' _ args
  open Kernel in
  refine ⟨fun c => dxs (x m c) (g m c) (y m c), fun c => dxs (x m c) (g m c) (y m c), fun c => dgs (x m c) (g m c) (y m c),
    fun c => losses (x m c) (g m c) (y m c), run m ρ, ?_⟩
  refine (θ_run _ _ _).mono (fun r h c => ?_) (Cert.LossHeadRefIdeal.Value.run (F := Ideal) m' ρ')
  obtain ⟨a0, a1, a2⟩ := args c
  obtain ⟨h0, h1, h2, h3, hk⟩ := h c
  refine ⟨h0.trans ?_, h1.trans ?_, h2.trans ?_, h3.trans ?_, hk⟩
  · rw [Cert.LossHeadRefIdeal.Read.val_main_v48_eq, a0, a1, a2]
    exact ref_dxs _ _ _
  · rw [Cert.LossHeadRefIdeal.Read.val_main_v49_eq, a0, a1, a2]
    exact ref_dxs _ _ _
  · rw [Cert.LossHeadRefIdeal.Read.val_main_v32_eq, a0, a1, a2]
    exact ref_dgs _ _ _
  · rw [Cert.LossHeadRefIdeal.Read.val_main_v50_eq, a0, a1, a2]
    exact ref_loss _ _ _

end Cert.Loss

end
-- ==== Proof.Gate.lean ====
/-
  The gated mixer as mathematics: two halves pass through the Gaussian error unit, the second is normalised along its
  row, mixed along time inside chunks of 128 rows by lower triangular weights, one matrix to every 256 columns, and
  multiplies the first.
-/
module

public import Idealize.ShloMosaic.PureOps.Ideal.Laws
public import Idealize.ShloMosaic.Lib.ValueIdx
public import proofs.«01_k».proof.Proof.Reals

@[expose] public section

noncomputable section

open Idealize.ShloMosaic

namespace Cert.Gate

/-- The float words that the programs write for √½ and for the length of a row. -/
def root : EReal := Scalar.ofBits (F := Ideal) .f32 0x3F3504F3#32
def len : EReal := Scalar.ofBits (F := Ideal) .f32 0x45000000#32
def half : EReal := Scalar.ofBits (F := Ideal) .f32 0x3F000000#32
def eps : EReal := Scalar.ofBits (F := Ideal) .f32 0x358637BD#32

/-- The Gaussian error unit. -/
def gelu (x : EReal) : EReal := x * (half * (1 + Ideal.erf (x * root)))

/-- The same by the complementary error function. -/
theorem gelu_erfc (x : EReal) : half * x * Ideal.erfc (-x * root) = gelu x := by
  unfold gelu
  rw [neg_mul, Ideal.erfc_neg, mul_comm half x, mul_assoc]

variable (v : Fin 2048 → EReal) (g b : Fin 2048 → EReal)

/-- The row through the unit, less its mean, -/
def centred (k : Fin 2048) : EReal := gelu (v k) - Ideal.div (∑ j, gelu (v j)) len

/-- the reciprocal of its deviation, -/
def rs : EReal := Ideal.rsqrt (Ideal.div (∑ j, centred v j * centred v j) len + eps)

/-- and the row normalised. -/
def normed (k : Fin 2048) : EReal := centred v k * rs v * g k + b k

/-- The weight of time `s` in time `a`: those after it count nothing. -/
def causal (a s : Fin 128) (w : EReal) : EReal := if s ≤ a then w else 0

theorem sge_bit : ∀ a s : Fin 128,
    IntOp.cmpi .sge (BitVec.ofNat 32 a.val) (BitVec.ofNat 32 s.val) = if s ≤ a then 1#1 else 0#1 := by decide +kernel

theorem sge_zero_bit : ∀ a s : Fin 128,
    IntOp.cmpi .sge (IntOp.addi (BitVec.ofNat 32 a.val) 0#32) (BitVec.ofNat 32 s.val) = if s ≤ a then 1#1 else 0#1 := by
  decide +kernel

theorem select_causal (a s : Fin 128) (w : EReal) : Scalar.select (if s ≤ a then 1#1 else 0#1) w 0 = causal a s w := by
  unfold causal
  by_cases h : s ≤ a
  · rw [if_pos h, if_pos h]; rfl
  · rw [if_neg h, if_neg h]; rfl

/-- One entry of the gated product: column `q` at time `a` of a chunk whose rows are `v`. -/
def gated (u : EReal) (v : Fin 128 → Fin 2048 → EReal) (w : Fin 128 → EReal) (bias : EReal) (a : Fin 128) (q : Fin 2048) : EReal :=
  gelu u * (∑ s, causal a s (w s) * normed (v s) g b q + bias)

end Cert.Gate

end
-- ==== Proof.GateFwdPay.lean ====
/-
  What one point of the gated mixer's forward pass computes from its blocks: 256 rows, two chunks, with the columns in
  eight groups of 256. The point stores a tile of the product for every chunk and group, and what the memory gave.
-/
module

public import Idealize.ShloMosaic.Lib.Pointwise
public import proofs.«01_k».proof.Proof.Pieces
public import proofs.«01_k».proof.Proof.Gate
public import proofs.«01_k».proof.Proof.Gen.GmlpFwdIdeal.Skeleton

@[expose] public section

set_option maxRecDepth 16384

noncomputable section

open Idealize.ShloMosaic

namespace Cert.Gate.Fwd.Pay

open Cert.GmlpFwdIdeal Cert.GmlpFwdIdeal.Gen

variable (u v : Vec Ideal S256x2048 .f32) (o : Vec Ideal S256x1024 .bf16) (g b : Vec Ideal S1x2048 .f32) (w : Vec Ideal S8x128x128 .f32)
  (bt : Vec Ideal S128x8 .f32)

/-- A row of the second half, and gain and shift. -/
def vRow (a : Fin 256) : Fin 2048 → EReal := fun k => v (ix2 a k)
def vec (g : Vec Ideal S1x2048 .f32) : Fin 2048 → EReal := fun k => g (ix2 0 k)

def mate (i : Fin 256) (s : Fin 128) : Fin 256 := ⟨i.val / 128 * 128 + s.val, by omega⟩
def time (i : Fin 256) : Fin 128 := ⟨i.val % 128, by omega⟩
def group (q : Fin 2048) : Fin 8 := ⟨q.val / 256, by omega⟩

/-- The gated product of the block -/
def prods (i : Fin 256) (q : Fin 2048) : EReal :=
  gated (vec g) (vec b) (u (ix2 i q)) (fun s => vRow v (mate i s)) (fun s => w (ix3 (group q) (time i) s)) (bt (ix2 (time i) (group q)))
    (time i) q

/-- and all that the point stores. -/
def outs : S256x3072.Idx → EReal := fun i =>
  if h : (i 1).val < 2048 then prods u v g b w bt (i 0) ⟨(i 1).val, h⟩ else o (ix2 (i 0) ⟨(i 1).val - 2048, by
    have : (i 1).val < 3072 := (i 1).isLt
    omega⟩)

/-! ## The rows -/

theorem first_apply (a : Fin 256) (q : Fin 2048) : k0_pay2 u (ix2 a q) = gelu (u (ix2 a q)) := by
  unfold k0_pay2
  pointwise
  rfl

theorem centred_apply (a : Fin 256) (q : Fin 2048) : k0_pay3 v (ix2 a q) = centred (vRow v a) q := by
  unfold k0_pay3
  pointwise
  rfl

theorem square_apply (a : Fin 256) :
    k0_pay4 v (ix2 a 0) = Ideal.div (∑ j, centred (vRow v a) j * centred (vRow v a) j) len := by
  unfold k0_pay4
  pointwise
  simp only [centred_apply]
  rfl

/-- The normalised rows. -/
abbrev nv : FVec Ideal S256x2048 .bf16 := k0_pay6 g b (k0_pay3 v) (k0_pay4 v) (k0_pay5 (F := Ideal))

theorem normed_apply (a : Fin 256) (q : Fin 2048) : nv v g b (ix2 a q) = normed (vRow v a) (vec g) (vec b) q := by
  show k0_pay6 _ _ _ _ _ _ = _
  unfold k0_pay6
  pointwise
  rw [centred_apply, square_apply]
  rfl

/-! ## The weights -/

/-- The weights of a group. -/
abbrev slab (k : ℕ) (hi : ∀ a, (![k, 0, 0] : Fin 3 → ℕ) a + S1x128x128.size a ≤ S8x128x128.size a) : Vec Ideal S1x128x128 .f32 :=
  View.ld w (Rect.unit (s := S8x128x128) ![k, 0, 0] S1x128x128.size hi)

theorem slab_apply (k : Fin 8) (hi) (a s : Fin 128) : slab w k.val hi (ix3 0 a s) = w (ix3 k a s) := by
  show w _ = w _
  congr 1; funext c; apply Fin.ext
  match c with
  | ⟨0, _⟩ => show k.val + 1 * 0 = k.val
              omega
  | ⟨1, _⟩ => show 0 + 1 * a.val = a.val
              omega
  | ⟨2, _⟩ => show 0 + 1 * s.val = s.val
              omega

/-- Those that count, the others zero. -/
theorem weight_apply (k : Fin 8) (hi) (a s : Fin 128) :
    k0_pay15 (F := Ideal) k0_pay7 (slab w k.val hi) (ix2 a s) = causal a s (w (ix3 k a s)) := by
  rw [← slab_apply w k hi]
  unfold k0_pay15 k0_pay7
  pointwise
  rw [sge_bit]
  exact select_causal _ _ _

theorem bias_apply (a : Fin 128) (k : Fin 8) : k0_pay8 bt (ix2 a k) = bt (ix2 a k) := by
  unfold k0_pay8
  pointwise

/-! ## A tile -/

/-- Where an entry of a tile lies in the block. -/
theorem emb_tile (n : Fin 2) (k : Fin 8) (hb) (a : Fin 128) (d : Fin 256) :
    (Rect.unit (s := S256x3072) ![n.val * 128, k.val * 256] S128x256.size hb).emb (ix2 a d)
      = ix2 (⟨n.val * 128 + a.val, by omega⟩ : Fin 256) (⟨k.val * 256 + d.val, by omega⟩ : Fin 3072) := by
  funext c; apply Fin.ext
  match c with
  | ⟨0, _⟩ => show n.val * 128 + 1 * a.val = n.val * 128 + a.val
              omega
  | ⟨1, _⟩ => show k.val * 256 + 1 * d.val = k.val * 256 + d.val
              omega

/-- A tile's entry is the product's there. -/
theorem tile_apply (n : Fin 2) (k : Fin 8) (hi hb) (a : Fin 128) (d : Fin 256) :
    k0_pay2 u (ix2 (⟨n.val * 128 + a.val, by omega⟩ : Fin 256) (⟨k.val * 256 + d.val, by omega⟩ : Fin 2048))
        * (∑ s : Fin 128, k0_pay15 (F := Ideal) k0_pay7 (slab w k.val hi) (ix2 a s)
            * nv v g b (ix2 (⟨n.val * 128 + s.val, by omega⟩ : Fin 256) (⟨k.val * 256 + d.val, by omega⟩ : Fin 2048))
          + k0_pay8 bt (ix2 a k))
      = outs u v o g b w bt ((Rect.unit (s := S256x3072) ![n.val * 128, k.val * 256] S128x256.size hb).emb (ix2 a d)) := by
  have hk := k.isLt
  have ha := a.isLt
  have hd := d.isLt
  rw [emb_tile n k hb a d, first_apply, bias_apply]
  simp only [weight_apply, normed_apply]
  have h : k.val * 256 + d.val < 2048 := by omega
  refine Eq.trans ?_ (dif_pos (c := k.val * 256 + d.val < 2048) h).symm
  have e0 : time (⟨n.val * 128 + a.val, by omega⟩ : Fin 256) = a := Fin.ext (by show (n.val * 128 + a.val) % 128 = a.val; omega)
  have e1 : group (⟨k.val * 256 + d.val, h⟩ : Fin 2048) = k := Fin.ext (by show (k.val * 256 + d.val) / 256 = k.val; omega)
  have e2 : ∀ s, mate (⟨n.val * 128 + a.val, by omega⟩ : Fin 256) s = ⟨n.val * 128 + s.val, by omega⟩ := fun s =>
    Fin.ext (by show (n.val * 128 + a.val) / 128 * 128 + s.val = n.val * 128 + s.val; omega)
  show _ = prods u v g b w bt (⟨n.val * 128 + a.val, by omega⟩ : Fin 256) ⟨k.val * 256 + d.val, h⟩
  unfold prods gated
  simp only [e0, e1, e2]

theorem split (y : S128x256.Idx) : ∃ a d, y = ix2 a d :=
  ⟨y 0, y 1, by funext b; match b with | ⟨0, _⟩ => rfl | ⟨1, _⟩ => rfl⟩

/-! The tiles, a group after the other. -/

theorem tile0_0 (y : S128x256.Idx) :
    k0_pay10 (k0_pay2 u) g b (k0_pay3 v) (k0_pay4 v) (k0_pay5 (F := Ideal)) bt (slab w 0 inb_S8x128x128_S1x128x128_0_0_0) y
      = outs u v o g b w bt ((Rect.unit (s := S256x3072) ![0, 0] S128x256.size inb_S256x3072_S128x256_0_0).emb y) := by
  obtain ⟨a, d, rfl⟩ := split y
  refine Eq.trans ?_ (tile_apply u v o g b w bt 0 0 inb_S8x128x128_S1x128x128_0_0_0 inb_S256x3072_S128x256_0_0 a d)
  unfold k0_pay10
  pointwise
  rfl

theorem tile1_0 (y : S128x256.Idx) :
    k0_pay11 (k0_pay2 u) g b (k0_pay3 v) (k0_pay4 v) (k0_pay5 (F := Ideal)) bt (slab w 0 inb_S8x128x128_S1x128x128_0_0_0) y
      = outs u v o g b w bt ((Rect.unit (s := S256x3072) ![128, 0] S128x256.size inb_S256x3072_S128x256_128_0).emb y) := by
  obtain ⟨a, d, rfl⟩ := split y
  refine Eq.trans ?_ (tile_apply u v o g b w bt 1 0 inb_S8x128x128_S1x128x128_0_0_0 inb_S256x3072_S128x256_128_0 a d)
  unfold k0_pay11
  pointwise
  rfl

theorem tile0_1 (y : S128x256.Idx) :
    k0_pay13 (k0_pay2 u) (nv v g b) (k0_pay8 bt) (k0_pay12 (slab w 1 inb_S8x128x128_S1x128x128_1_0_0)) y
      = outs u v o g b w bt ((Rect.unit (s := S256x3072) ![0, 256] S128x256.size inb_S256x3072_S128x256_0_256).emb y) := by
  obtain ⟨a, d, rfl⟩ := split y
  refine Eq.trans ?_ (tile_apply u v o g b w bt 0 1 inb_S8x128x128_S1x128x128_1_0_0 inb_S256x3072_S128x256_0_256 a d)
  unfold k0_pay13
  pointwise
  rfl

theorem tile1_1 (y : S128x256.Idx) :
    k0_pay14 (k0_pay2 u) (nv v g b) (k0_pay8 bt) (k0_pay12 (slab w 1 inb_S8x128x128_S1x128x128_1_0_0)) y
      = outs u v o g b w bt ((Rect.unit (s := S256x3072) ![128, 256] S128x256.size inb_S256x3072_S128x256_128_256).emb y) := by
  obtain ⟨a, d, rfl⟩ := split y
  refine Eq.trans ?_ (tile_apply u v o g b w bt 1 1 inb_S8x128x128_S1x128x128_1_0_0 inb_S256x3072_S128x256_128_256 a d)
  unfold k0_pay14
  pointwise
  rfl

theorem tile0_2 (y : S128x256.Idx) :
    k0_pay16 (k0_pay2 u) (nv v g b) k0_pay7 (k0_pay8 bt) (slab w 2 inb_S8x128x128_S1x128x128_2_0_0) y
      = outs u v o g b w bt ((Rect.unit (s := S256x3072) ![0, 512] S128x256.size inb_S256x3072_S128x256_0_512).emb y) := by
  obtain ⟨a, d, rfl⟩ := split y
  refine Eq.trans ?_ (tile_apply u v o g b w bt 0 2 inb_S8x128x128_S1x128x128_2_0_0 inb_S256x3072_S128x256_0_512 a d)
  unfold k0_pay16
  pointwise

theorem tile1_2 (y : S128x256.Idx) :
    k0_pay17 (k0_pay2 u) (nv v g b) k0_pay7 (k0_pay8 bt) (slab w 2 inb_S8x128x128_S1x128x128_2_0_0) y
      = outs u v o g b w bt ((Rect.unit (s := S256x3072) ![128, 512] S128x256.size inb_S256x3072_S128x256_128_512).emb y) := by
  obtain ⟨a, d, rfl⟩ := split y
  refine Eq.trans ?_ (tile_apply u v o g b w bt 1 2 inb_S8x128x128_S1x128x128_2_0_0 inb_S256x3072_S128x256_128_512 a d)
  unfold k0_pay17
  pointwise

theorem tile0_3 (y : S128x256.Idx) :
    k0_pay19 (k0_pay2 u) (nv v g b) k0_pay7 (k0_pay8 bt) (slab w 3 inb_S8x128x128_S1x128x128_3_0_0) y
      = outs u v o g b w bt ((Rect.unit (s := S256x3072) ![0, 768] S128x256.size inb_S256x3072_S128x256_0_768).emb y) := by
  obtain ⟨a, d, rfl⟩ := split y
  refine Eq.trans ?_ (tile_apply u v o g b w bt 0 3 inb_S8x128x128_S1x128x128_3_0_0 inb_S256x3072_S128x256_0_768 a d)
  unfold k0_pay19
  pointwise
  rfl

theorem tile1_3 (y : S128x256.Idx) :
    k0_pay20 (k0_pay2 u) (nv v g b) k0_pay7 (k0_pay8 bt) (slab w 3 inb_S8x128x128_S1x128x128_3_0_0) y
      = outs u v o g b w bt ((Rect.unit (s := S256x3072) ![128, 768] S128x256.size inb_S256x3072_S128x256_128_768).emb y) := by
  obtain ⟨a, d, rfl⟩ := split y
  refine Eq.trans ?_ (tile_apply u v o g b w bt 1 3 inb_S8x128x128_S1x128x128_3_0_0 inb_S256x3072_S128x256_128_768 a d)
  unfold k0_pay20
  pointwise
  rfl

theorem tile0_4 (y : S128x256.Idx) :
    k0_pay22 (k0_pay2 u) (nv v g b) k0_pay7 (k0_pay8 bt) (slab w 4 inb_S8x128x128_S1x128x128_4_0_0) y
      = outs u v o g b w bt ((Rect.unit (s := S256x3072) ![0, 1024] S128x256.size inb_S256x3072_S128x256_0_1024).emb y) := by
  obtain ⟨a, d, rfl⟩ := split y
  refine Eq.trans ?_ (tile_apply u v o g b w bt 0 4 inb_S8x128x128_S1x128x128_4_0_0 inb_S256x3072_S128x256_0_1024 a d)
  unfold k0_pay22
  pointwise
  rfl

theorem tile1_4 (y : S128x256.Idx) :
    k0_pay24 (k0_pay2 u) (k0_pay8 bt) (k0_pay21 k0_pay7 (slab w 4 inb_S8x128x128_S1x128x128_4_0_0)) (k0_pay23 (nv v g b)) (constant S128x256 .f32 0x00000000#32) y
      = outs u v o g b w bt ((Rect.unit (s := S256x3072) ![128, 1024] S128x256.size inb_S256x3072_S128x256_128_1024).emb y) := by
  obtain ⟨a, d, rfl⟩ := split y
  refine Eq.trans ?_ (tile_apply u v o g b w bt 1 4 inb_S8x128x128_S1x128x128_4_0_0 inb_S256x3072_S128x256_128_1024 a d)
  unfold k0_pay24 k0_pay23
  pointwise
  rfl

theorem tile0_5 (y : S128x256.Idx) :
    k0_pay26 (k0_pay2 u) (nv v g b) k0_pay7 (k0_pay8 bt) (slab w 5 inb_S8x128x128_S1x128x128_5_0_0) y
      = outs u v o g b w bt ((Rect.unit (s := S256x3072) ![0, 1280] S128x256.size inb_S256x3072_S128x256_0_1280).emb y) := by
  obtain ⟨a, d, rfl⟩ := split y
  refine Eq.trans ?_ (tile_apply u v o g b w bt 0 5 inb_S8x128x128_S1x128x128_5_0_0 inb_S256x3072_S128x256_0_1280 a d)
  unfold k0_pay26
  pointwise
  rfl

theorem tile1_5 (y : S128x256.Idx) :
    k0_pay27 (k0_pay2 u) (nv v g b) k0_pay7 (k0_pay8 bt) (slab w 5 inb_S8x128x128_S1x128x128_5_0_0) y
      = outs u v o g b w bt ((Rect.unit (s := S256x3072) ![128, 1280] S128x256.size inb_S256x3072_S128x256_128_1280).emb y) := by
  obtain ⟨a, d, rfl⟩ := split y
  refine Eq.trans ?_ (tile_apply u v o g b w bt 1 5 inb_S8x128x128_S1x128x128_5_0_0 inb_S256x3072_S128x256_128_1280 a d)
  unfold k0_pay27
  pointwise
  rfl

theorem tile0_6 (y : S128x256.Idx) :
    k0_pay31 (k0_pay2 u) (k0_pay29 (nv v g b) k0_pay7 (slab w 6 inb_S8x128x128_S1x128x128_6_0_0)) (k0_pay30 (k0_pay8 bt)) y
      = outs u v o g b w bt ((Rect.unit (s := S256x3072) ![0, 1536] S128x256.size inb_S256x3072_S128x256_0_1536).emb y) := by
  obtain ⟨a, d, rfl⟩ := split y
  refine Eq.trans ?_ (tile_apply u v o g b w bt 0 6 inb_S8x128x128_S1x128x128_6_0_0 inb_S256x3072_S128x256_0_1536 a d)
  unfold k0_pay31 k0_pay29 k0_pay30
  pointwise
  rfl

theorem tile1_6 (y : S128x256.Idx) :
    k0_pay32 (k0_pay2 u) (nv v g b) (k0_pay8 bt) (k0_pay28 k0_pay7 (slab w 6 inb_S8x128x128_S1x128x128_6_0_0)) y
      = outs u v o g b w bt ((Rect.unit (s := S256x3072) ![128, 1536] S128x256.size inb_S256x3072_S128x256_128_1536).emb y) := by
  obtain ⟨a, d, rfl⟩ := split y
  refine Eq.trans ?_ (tile_apply u v o g b w bt 1 6 inb_S8x128x128_S1x128x128_6_0_0 inb_S256x3072_S128x256_128_1536 a d)
  unfold k0_pay32
  pointwise
  rfl

theorem tile0_7 (y : S128x256.Idx) :
    k0_pay34 (k0_pay2 u) (nv v g b) k0_pay7 (k0_pay8 bt) (slab w 7 inb_S8x128x128_S1x128x128_7_0_0) y
      = outs u v o g b w bt ((Rect.unit (s := S256x3072) ![0, 1792] S128x256.size inb_S256x3072_S128x256_0_1792).emb y) := by
  obtain ⟨a, d, rfl⟩ := split y
  refine Eq.trans ?_ (tile_apply u v o g b w bt 0 7 inb_S8x128x128_S1x128x128_7_0_0 inb_S256x3072_S128x256_0_1792 a d)
  unfold k0_pay34
  pointwise
  rfl

theorem tile1_7 (y : S128x256.Idx) :
    k0_pay35 (k0_pay2 u) (nv v g b) k0_pay7 (k0_pay8 bt) (slab w 7 inb_S8x128x128_S1x128x128_7_0_0) y
      = outs u v o g b w bt ((Rect.unit (s := S256x3072) ![128, 1792] S128x256.size inb_S256x3072_S128x256_128_1792).emb y) := by
  obtain ⟨a, d, rfl⟩ := split y
  refine Eq.trans ?_ (tile_apply u v o g b w bt 1 7 inb_S8x128x128_S1x128x128_7_0_0 inb_S256x3072_S128x256_128_1792 a d)
  unfold k0_pay35
  pointwise
  rfl

/-- What the memory gave, behind the product. -/
theorem tail (y : S256x1024.Idx) :
    k0_pay1 o y = outs u v o g b w bt ((Rect.unit (s := S256x3072) ![0, 2048] S256x1024.size inb_S256x3072_S256x1024_0_2048).emb y) := by
  obtain ⟨a, d, rfl⟩ : ∃ (a : Fin 256) (d : Fin 1024), y = ix2 a d :=
    ⟨y 0, y 1, by funext b; match b with | ⟨0, _⟩ => rfl | ⟨1, _⟩ => rfl⟩
  have e : (Rect.unit (s := S256x3072) ![0, 2048] S256x1024.size inb_S256x3072_S256x1024_0_2048).emb (ix2 a d)
      = ix2 a (⟨2048 + d.val, by omega⟩ : Fin 3072) := by
    funext c; apply Fin.ext
    match c with
    | ⟨0, _⟩ => show 0 + 1 * a.val = a.val
                omega
    | ⟨1, _⟩ => show 2048 + 1 * d.val = 2048 + d.val
                omega
  rw [e]
  refine Eq.trans ?_ (dif_neg (c := 2048 + d.val < 2048) (by omega)).symm
  unfold k0_pay1
  pointwise

/-- All that the point stores, the last first, -/
abbrev pieces : List (View.Piece (Elt Ideal) S256x3072 .bf16) :=
  [⟨Rect.unit (s := S256x3072) ![128, 1792] S128x256.size inb_S256x3072_S128x256_128_1792,
      k0_pay35 (k0_pay2 u) (nv v g b) k0_pay7 (k0_pay8 bt) (slab w 7 inb_S8x128x128_S1x128x128_7_0_0)⟩,
   ⟨Rect.unit (s := S256x3072) ![0, 1792] S128x256.size inb_S256x3072_S128x256_0_1792,
      k0_pay34 (k0_pay2 u) (nv v g b) k0_pay7 (k0_pay8 bt) (slab w 7 inb_S8x128x128_S1x128x128_7_0_0)⟩,
   ⟨Rect.unit (s := S256x3072) ![128, 1536] S128x256.size inb_S256x3072_S128x256_128_1536,
      k0_pay32 (k0_pay2 u) (nv v g b) (k0_pay8 bt) (k0_pay28 k0_pay7 (slab w 6 inb_S8x128x128_S1x128x128_6_0_0))⟩,
   ⟨Rect.unit (s := S256x3072) ![0, 1536] S128x256.size inb_S256x3072_S128x256_0_1536,
      k0_pay31 (k0_pay2 u) (k0_pay29 (nv v g b) k0_pay7 (slab w 6 inb_S8x128x128_S1x128x128_6_0_0)) (k0_pay30 (k0_pay8 bt))⟩,
   ⟨Rect.unit (s := S256x3072) ![128, 1280] S128x256.size inb_S256x3072_S128x256_128_1280,
      k0_pay27 (k0_pay2 u) (nv v g b) k0_pay7 (k0_pay8 bt) (slab w 5 inb_S8x128x128_S1x128x128_5_0_0)⟩,
   ⟨Rect.unit (s := S256x3072) ![0, 1280] S128x256.size inb_S256x3072_S128x256_0_1280,
      k0_pay26 (k0_pay2 u) (nv v g b) k0_pay7 (k0_pay8 bt) (slab w 5 inb_S8x128x128_S1x128x128_5_0_0)⟩,
   ⟨Rect.unit (s := S256x3072) ![128, 1024] S128x256.size inb_S256x3072_S128x256_128_1024,
      k0_pay24 (k0_pay2 u) (k0_pay8 bt) (k0_pay21 k0_pay7 (slab w 4 inb_S8x128x128_S1x128x128_4_0_0)) (k0_pay23 (nv v g b)) (constant S128x256 .f32 0x00000000#32)⟩,
   ⟨Rect.unit (s := S256x3072) ![0, 1024] S128x256.size inb_S256x3072_S128x256_0_1024,
      k0_pay22 (k0_pay2 u) (nv v g b) k0_pay7 (k0_pay8 bt) (slab w 4 inb_S8x128x128_S1x128x128_4_0_0)⟩,
   ⟨Rect.unit (s := S256x3072) ![128, 768] S128x256.size inb_S256x3072_S128x256_128_768,
      k0_pay20 (k0_pay2 u) (nv v g b) k0_pay7 (k0_pay8 bt) (slab w 3 inb_S8x128x128_S1x128x128_3_0_0)⟩,
   ⟨Rect.unit (s := S256x3072) ![0, 768] S128x256.size inb_S256x3072_S128x256_0_768,
      k0_pay19 (k0_pay2 u) (nv v g b) k0_pay7 (k0_pay8 bt) (slab w 3 inb_S8x128x128_S1x128x128_3_0_0)⟩,
   ⟨Rect.unit (s := S256x3072) ![128, 512] S128x256.size inb_S256x3072_S128x256_128_512,
      k0_pay17 (k0_pay2 u) (nv v g b) k0_pay7 (k0_pay8 bt) (slab w 2 inb_S8x128x128_S1x128x128_2_0_0)⟩,
   ⟨Rect.unit (s := S256x3072) ![0, 512] S128x256.size inb_S256x3072_S128x256_0_512,
      k0_pay16 (k0_pay2 u) (nv v g b) k0_pay7 (k0_pay8 bt) (slab w 2 inb_S8x128x128_S1x128x128_2_0_0)⟩,
   ⟨Rect.unit (s := S256x3072) ![128, 256] S128x256.size inb_S256x3072_S128x256_128_256,
      k0_pay14 (k0_pay2 u) (nv v g b) (k0_pay8 bt) (k0_pay12 (slab w 1 inb_S8x128x128_S1x128x128_1_0_0))⟩,
   ⟨Rect.unit (s := S256x3072) ![0, 256] S128x256.size inb_S256x3072_S128x256_0_256,
      k0_pay13 (k0_pay2 u) (nv v g b) (k0_pay8 bt) (k0_pay12 (slab w 1 inb_S8x128x128_S1x128x128_1_0_0))⟩,
   ⟨Rect.unit (s := S256x3072) ![128, 0] S128x256.size inb_S256x3072_S128x256_128_0,
      k0_pay11 (k0_pay2 u) g b (k0_pay3 v) (k0_pay4 v) (k0_pay5 (F := Ideal)) bt (slab w 0 inb_S8x128x128_S1x128x128_0_0_0)⟩,
   ⟨Rect.unit (s := S256x3072) ![0, 0] S128x256.size inb_S256x3072_S128x256_0_0,
      k0_pay10 (k0_pay2 u) g b (k0_pay3 v) (k0_pay4 v) (k0_pay5 (F := Ideal)) bt (slab w 0 inb_S8x128x128_S1x128x128_0_0_0)⟩,
   ⟨Rect.unit (s := S256x3072) ![0, 2048] S256x1024.size inb_S256x3072_S256x1024_0_2048, k0_pay1 o⟩]

/-- put together. -/
theorem canon_pieces (hc : ∀ y, ∃ p ∈ pieces u v o g b w bt, y ∈ p.1.set) : View.canon (pieces u v o g b w bt) = outs u v o g b w bt :=
  Pieces.canon_eq (s := S256x3072) (e := .bf16) (outs u v o g b w bt)
    ⟨tile1_7 u v o g b w bt,
     tile0_7 u v o g b w bt,
     tile1_6 u v o g b w bt,
     tile0_6 u v o g b w bt,
     tile1_5 u v o g b w bt,
     tile0_5 u v o g b w bt,
     tile1_4 u v o g b w bt,
     tile0_4 u v o g b w bt,
     tile1_3 u v o g b w bt,
     tile0_3 u v o g b w bt,
     tile1_2 u v o g b w bt,
     tile0_2 u v o g b w bt,
     tile1_1 u v o g b w bt,
     tile0_1 u v o g b w bt,
     tile1_0 u v o g b w bt,
     tile0_0 u v o g b w bt,
     tail u v o g b w bt,
     trivial⟩ hc

end Cert.Gate.Fwd.Pay

end
-- ==== Proof.GateFwdRef.lean ====
/-
  The gated mixer's forward pass by the reference, read at an entry.
-/
module

public import Idealize.ShloMosaic.Lib.Pointwise
public import proofs.«01_k».proof.Proof.Gate
public import proofs.«01_k».proof.Proof.Gen.GmlpFwdRefIdeal.Read

@[expose] public section

set_option maxRecDepth 16384

noncomputable section

open Idealize.ShloMosaic Idealize.ShloMosaic.TcCoe Idealize.SL.Sem

namespace Cert.Gate.Fwd

open Cert.GmlpFwdRefIdeal Cert.GmlpFwdRefIdeal.Read

variable (z : (⟨2, ![4096, 5120]⟩ : Shape).Idx → EReal) (o : (⟨2, ![4096, 1024]⟩ : Shape).Idx → EReal)
  (g b : (⟨2, ![1, 2048]⟩ : Shape).Idx → EReal) (w : (⟨3, ![8, 128, 128]⟩ : Shape).Idx → EReal) (bs : (⟨2, ![8, 128]⟩ : Shape).Idx → EReal)

/-- A row's first half, its second half, gain and shift. -/
def uRow (i : Fin 4096) : Fin 2048 → EReal := fun k => z (ix2 i ⟨k.val, by omega⟩)
def vRow (i : Fin 4096) : Fin 2048 → EReal := fun k => z (ix2 i ⟨2048 + k.val, by omega⟩)
def vec (g : (⟨2, ![1, 2048]⟩ : Shape).Idx → EReal) : Fin 2048 → EReal := fun k => g (ix2 0 k)

/-- The row of time `s` in the chunk that holds row `i`, the row's time there, and the group of a column. -/
def mate (i : Fin 4096) (s : Fin 128) : Fin 4096 := ⟨i.val / 128 * 128 + s.val, by omega⟩
def time (i : Fin 4096) : Fin 128 := ⟨i.val % 128, by omega⟩
def group (q : Fin 2048) : Fin 8 := ⟨q.val / 256, by omega⟩

/-- The gated product -/
def prods (i : Fin 4096) (q : Fin 2048) : EReal :=
  gated (vec g) (vec b) (uRow z i q) (fun s => vRow z (mate i s)) (fun s => w (ix3 (group q) (time i) s)) (bs (ix2 (group q) (time i)))
    (time i) q

/-- and, behind it, what the memory gave. -/
def outs : (⟨2, ![4096, 3072]⟩ : Shape).Idx → EReal := fun i =>
  if h : (i 1).val < 2048 then prods z g b w bs (i 0) ⟨(i 1).val, h⟩ else o (ix2 (i 0) ⟨(i 1).val - 2048, by
    have : (i 1).val < 3072 := (i 1).isLt
    omega⟩)

/-! ## The reference's stages -/

/-- A row of the array from the sequence and the time in it. -/
def at2 (p : Fin 2) (a : Fin 2048) : Fin 4096 := ⟨p.val * 2048 + a.val, by omega⟩

theorem first_apply (p : Fin 2) (a d : Fin 2048) : val_main_v12 (F := Ideal) z (ix3 p a d) = gelu (uRow z (at2 p a) d) := by
  unfold val_main_v12 val_main_v11 val_main_v10 val_main_v9 val_main_v8 val_main_v7 val_main_v6 val_main_cst val_main_cst_0
    val_main_v1 val_main_v0
  pointwise
  exact gelu_erfc _

theorem second_apply (p : Fin 2) (a d : Fin 2048) : val_main_v19 (F := Ideal) z (ix3 p a d) = gelu (vRow z (at2 p a) d) := by
  unfold val_main_v19 val_main_v18 val_main_v17 val_main_v16 val_main_v15 val_main_v14 val_main_v13 val_main_cst_1 val_main_cst_2
    val_main_v2 val_main_v0
  pointwise
  exact gelu_erfc _

theorem centred_apply (p : Fin 2) (a d : Fin 2048) : val_main_v25 (F := Ideal) z (ix3 p a d) = centred (vRow z (at2 p a)) d := by
  unfold val_main_v25 val_main_v24 val_main_v23 val_main_v22 val_main_v21 val_main_v20 val_main_cst_3 val_main_cst_4
  pointwise
  simp only [second_apply]
  rfl

theorem scaled_apply (p : Fin 2) (a d : Fin 2048) :
    val_main_v35 (F := Ideal) z (ix3 p a d) = centred (vRow z (at2 p a)) d * rs (vRow z (at2 p a)) := by
  unfold val_main_v35 val_main_v34 val_main_v33 val_main_v32 val_main_v31 val_main_v30 val_main_v29 val_main_v28 val_main_v27
    val_main_v26 val_main_cst_5 val_main_cst_6 val_main_cst_7
  pointwise
  simp only [centred_apply]
  rfl

theorem normed_apply (p : Fin 2) (a d : Fin 2048) :
    val_main_v41 (F := Ideal) z g b (ix3 p a d) = normed (vRow z (at2 p a)) (vec g) (vec b) d := by
  unfold val_main_v41 val_main_v40 val_main_v39 val_main_v38 val_main_v37 val_main_v36 val_main_v4 val_main_v5
  pointwise
  rw [scaled_apply]
  rfl

theorem weight_apply (k : Fin 8) (t s : Fin 128) : val_main_v46 (F := Ideal) w (ix3 k t s) = causal t s (w (ix3 k t s)) := by
  unfold val_main_v46 val_main_call1_v1 val_main_call1_v2 val_main_call1_v0 val_main_v45 val_main_v44 val_main_call0_v5 val_main_call0_v4
    val_main_call0_v3 val_main_call0_v2 val_main_call0_v1 val_main_call0_v0 val_main_v43 val_main_call0_c_0 val_main_call0_c val_main_c
    val_main_cst_8
  pointwise
  rw [sge_zero_bit, show (id (constant (F := Ideal) S_ .f32 0#32) ix0 : EReal) = 0 from Ideal.ofBits_zero_f32]
  by_cases h : s ≤ t
  · rw [if_pos h, causal, if_pos h]; rfl
  · rw [if_neg h, causal, if_neg h]; rfl

theorem mixed_apply (p : Fin 2) (n : Fin 16) (t : Fin 128) (k : Fin 8) (d : Fin 256) :
    val_main_v52 (F := Ideal) z g b w bs (ix5 p n t k d)
      = ∑ s, causal t s (w (ix3 k t s)) * normed (vRow z (at2 p ⟨n.val * 128 + s.val, by omega⟩)) (vec g) (vec b) ⟨k.val * 256 + d.val, by omega⟩
        + bs (ix2 k t) := by
  unfold val_main_v52 val_main_v51 val_main_v50 val_main_v49 val_main_v48 val_main_v47
  pointwise
  refine congrArg (· + _) (Finset.sum_congr rfl fun s _ => ?_)
  rw [weight_apply, mul_comm]
  congr 1
  unfold val_main_v42
  pointwise
  exact normed_apply z g b p _ _

/-- An entry of the product from the places its operands are read at. -/
theorem prods_of (i : Fin 4096) (q : Fin 2048) {i' : Fin 4096} {q' : Fin 2048} {t : Fin 128} {k : Fin 8} {r : Fin 128 → Fin 4096}
    (hi : i' = i) (hq : q' = q) (ht : t = time i) (hk : k = group q) (hr : ∀ s, r s = mate i s) :
    gelu (uRow z i' q) * (∑ s, causal t s (w (ix3 k t s)) * normed (vRow z (r s)) (vec g) (vec b) q' + bs (ix2 k t))
      = prods z g b w bs i q := by
  obtain rfl : r = mate i := funext hr
  subst hi hq ht hk
  rfl

theorem prods_apply (i : Fin 4096) (q : Fin 2048) : val_main_v55 (F := Ideal) z g b w bs (ix2 i q) = prods z g b w bs i q := by
  unfold val_main_v55 val_main_v54 val_main_v53
  pointwise
  rw [first_apply, mixed_apply]
  have hi := i.isLt
  have hq := q.isLt
  refine prods_of z g b w bs i q (Fin.ext ?_) (Fin.ext ?_) (Fin.ext ?_) rfl fun s => Fin.ext ?_
  · show i.val / 2048 * 2048 + i.val % 2048 = i.val
    omega
  · show q.val / 256 * 256 + q.val % 256 = q.val
    omega
  · show i.val % 2048 % 128 = i.val % 128
    omega
  · show i.val / 2048 * 2048 + (i.val % 2048 / 128 * 128 + s.val) = i.val / 128 * 128 + s.val
    omega

theorem ref_outs : val_main_v57 (F := Ideal) z o g b w bs = outs z o g b w bs := by
  funext i
  obtain ⟨i, q, rfl⟩ : ∃ a b, i = ix2 a b := ⟨i 0, i 1, by funext c; match c with | ⟨0, _⟩ => rfl | ⟨1, _⟩ => rfl⟩
  unfold val_main_v57 val_main_v56
  pointwise
  show _ = if h : q.val < 2048 then prods z g b w bs i ⟨q.val, h⟩ else _
  split
  · exact prods_apply ..
  · rfl

end Cert.Gate.Fwd

end
-- ==== Proof.GateFwd.lean ====
/-
  The gated mixer's forward pass by the kernel: 256 rows at a point, each point writing its rows of the result.
-/
module

public import Idealize.ShloMosaic.Lib.Pointwise
public import proofs.«01_k».proof.Proof.GateFwdPay
public import proofs.«01_k».proof.Proof.GateFwdRef
public import proofs.«01_k».proof.Proof.Gen.GmlpFwdIdeal.Value

@[expose] public section

set_option maxRecDepth 16384

noncomputable section

open Idealize.ShloMosaic Idealize.ShloMosaic.TcCoe Idealize.SL.Sem

namespace Cert.Gate.Fwd.Kernel

open Cert.GmlpFwdIdeal Cert.GmlpFwdIdeal.Gen

variable (m : (ℓ : Loc nD τ sig) → Buf (Elt Ideal) ℓ) (ρ : Dev nD → PrngReg) (c : Dev nD)
abbrev z : S4096x5120.Idx → EReal := m ((c : Thread nD τ).loc main_arg0)
abbrev o : S4096x1024.Idx → EReal := m ((c : Thread nD τ).loc main_arg1)
abbrev g : S1x2048.Idx → EReal := m ((c : Thread nD τ).loc main_arg2)
abbrev b : S1x2048.Idx → EReal := m ((c : Thread nD τ).loc main_arg3)
abbrev w : S8x128x128.Idx → EReal := m ((c : Thread nD τ).loc main_arg4)
abbrev bs : S8x128.Idx → EReal := m ((c : Thread nD τ).loc main_arg5)

/-! Where the block of a point lies in an array. -/

def at_ (t : Fin cfg0.N) (a : Fin 256) : Fin 4096 :=
  ⟨t.val * 256 + a.val, by have h : t.val < 16 := t.isLt; omega⟩

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = t.val ∧ win0_1.index t 1 = 1 :=
  (by decide +kernel : ∀ t : Fin grid0.N, win0_1.index t 0 = t.val ∧ win0_1.index t 1 = 1)

theorem index2 : ∀ t : Fin cfg0.N, win0_2.index t 0 = t.val ∧ win0_2.index t 1 = 0 :=
  (by decide +kernel : ∀ t : Fin grid0.N, win0_2.index t 0 = t.val ∧ win0_2.index t 1 = 0)

theorem index3 : ∀ t : Fin cfg0.N, win0_3.index t 0 = 0 ∧ win0_3.index t 1 = 0 :=
  (by decide +kernel : ∀ t : Fin grid0.N, win0_3.index t 0 = 0 ∧ win0_3.index t 1 = 0)

theorem index4 : ∀ t : Fin cfg0.N, win0_4.index t 0 = 0 ∧ win0_4.index t 1 = 0 :=
  (by decide +kernel : ∀ t : Fin grid0.N, win0_4.index t 0 = 0 ∧ win0_4.index t 1 = 0)

theorem index5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

theorem index6 : ∀ t : Fin cfg0.N, win0_6.index t 0 = 0 ∧ win0_6.index t 1 = 0 :=
  (by decide +kernel : ∀ t : Fin grid0.N, win0_6.index t 0 = 0 ∧ win0_6.index t 1 = 0)

theorem index7 : ∀ t : Fin cfg0.N, win0_7.index t 0 = t.val ∧ win0_7.index t 1 = 0 :=
  (by decide +kernel : ∀ t : Fin grid0.N, win0_7.index t 0 = t.val ∧ win0_7.index t 1 = 0)

/-! What a point reads. -/

theorem array2 : V m c main_v0 = o m c := by
  unfold V
  after_results
  rfl

theorem array6 (a : Fin 128) (k : Fin 8) : V m c main_v1 (ix2 a k) = bs m c (ix2 k a) := by
  unfold V
  after_results
  pointwise

/-- The first half's block: the window is never cut, so that the block is the array's. -/
theorem blk0 (t : Fin cfg0.N) (a : Fin 256) (k : Fin 2048) :
    X0_0 m c t (ix2 a k) = z m c (ix2 (at_ t a) ⟨k.val, by omega⟩) := by
  unfold X0_0 Pipeline.Window.fill
  rw [dif_pos (moved0_0 t (ix2 a k))]
  unfold iblk
  rw [View.read_apply]
  show V m c main_arg0 _ = _
  rw [V_main_arg0 m c]
  congr 1; funext q; apply Fin.ext
  match q with
  | ⟨0, _⟩ => show win0_0.index t 0 * 256 + 1 * a.val = t.val * 256 + a.val
              rw [(index0 t).1]; omega
  | ⟨1, _⟩ => show win0_0.index t 1 * 2048 + 1 * k.val = k.val
              rw [(index0 t).2]; omega

/-- The second half's block: the window is never cut, so that the block is the array's. -/
theorem blk1 (t : Fin cfg0.N) (a : Fin 256) (k : Fin 2048) :
    X0_1 m c t (ix2 a k) = z m c (ix2 (at_ t a) ⟨2048 + k.val, by omega⟩) := by
  unfold X0_1 Pipeline.Window.fill
  rw [dif_pos (moved0_1 t (ix2 a k))]
  unfold iblk
  rw [View.read_apply]
  show V m c main_arg0 _ = _
  rw [V_main_arg0 m c]
  congr 1; funext q; apply Fin.ext
  match q with
  | ⟨0, _⟩ => show win0_1.index t 0 * 256 + 1 * a.val = t.val * 256 + a.val
              rw [(index1 t).1]; omega
  | ⟨1, _⟩ => show win0_1.index t 1 * 2048 + 1 * k.val = 2048 + k.val
              rw [(index1 t).2]; omega

theorem blk2 (t : Fin cfg0.N) (a : Fin 256) (k : Fin 1024) : iblk m c 2 t (ix2 a k) = o m c (ix2 (at_ t a) k) := by
  unfold iblk
  rw [View.read_apply]
  show V m c main_v0 _ = _
  rw [array2]
  congr 1; funext q; apply Fin.ext
  match q with
  | ⟨0, _⟩ => show win0_2.index t 0 * 256 + 1 * a.val = t.val * 256 + a.val
              rw [(index2 t).1]; omega
  | ⟨1, _⟩ => show win0_2.index t 1 * 1024 + 1 * k.val = k.val
              rw [(index2 t).2]; omega

theorem blk3 (t : Fin cfg0.N) (a : Fin 1) (k : Fin 2048) : iblk m c 3 t (ix2 a k) = g m c (ix2 a k) := by
  unfold iblk
  rw [View.read_apply]
  show V m c main_arg2 _ = _
  rw [V_main_arg2 m c]
  congr 1; funext q; apply Fin.ext
  match q with
  | ⟨0, _⟩ => show win0_3.index t 0 * 1 + 1 * a.val = a.val
              rw [(index3 t).1]; omega
  | ⟨1, _⟩ => show win0_3.index t 1 * 2048 + 1 * k.val = k.val
              rw [(index3 t).2]; omega

theorem blk4 (t : Fin cfg0.N) (a : Fin 1) (k : Fin 2048) : iblk m c 4 t (ix2 a k) = b m c (ix2 a k) := by
  unfold iblk
  rw [View.read_apply]
  show V m c main_arg3 _ = _
  rw [V_main_arg3 m c]
  congr 1; funext q; apply Fin.ext
  match q with
  | ⟨0, _⟩ => show win0_4.index t 0 * 1 + 1 * a.val = a.val
              rw [(index4 t).1]; omega
  | ⟨1, _⟩ => show win0_4.index t 1 * 2048 + 1 * k.val = k.val
              rw [(index4 t).2]; omega

theorem blk5 (t : Fin cfg0.N) (a : Fin 8) (k : Fin 128) (d : Fin 128) : iblk m c 5 t (ix3 a k d) = w m c (ix3 a k d) := by
  unfold iblk
  rw [View.read_apply]
  show V m c main_arg4 _ = _
  rw [V_main_arg4 m c]
  congr 1; funext q; apply Fin.ext
  match q with
  | ⟨0, _⟩ => show win0_5.index t 0 * 8 + 1 * a.val = a.val
              rw [(index5 t).1]; omega
  | ⟨1, _⟩ => show win0_5.index t 1 * 128 + 1 * k.val = k.val
              rw [(index5 t).2.1]; omega
  | ⟨2, _⟩ => show win0_5.index t 2 * 128 + 1 * d.val = d.val
              rw [(index5 t).2.2]; omega

theorem blk6 (t : Fin cfg0.N) (a : Fin 128) (k : Fin 8) : iblk m c 6 t (ix2 a k) = bs m c (ix2 k a) := by
  rw [← array6]
  unfold iblk
  rw [View.read_apply]
  show V m c main_v1 _ = _
  congr 1; funext q; apply Fin.ext
  match q with
  | ⟨0, _⟩ => show win0_6.index t 0 * 128 + 1 * a.val = a.val
              rw [(index6 t).1]; omega
  | ⟨1, _⟩ => show win0_6.index t 1 * 8 + 1 * k.val = k.val
              rw [(index6 t).2]; omega

/-! ## What a point writes back -/

theorem hz : (![0, 0] : Fin 2 → Nat) = fun _ => 0 := funext fun a => by fin_cases a <;> rfl

theorem after7 (t : Fin cfg0.N) : (dats m 0 c).flushed 7 t
    = (cfg0.win 7).cut (grid0.coords t)
        (Pay.outs (X0_0 m c t) (X0_1 m c t) (iblk m c 2 t) (iblk m c 3 t) (iblk m c 4 t) (iblk m c 5 t) (iblk m c 6 t)) := by
  rw [Value.flushed7_A m c t]
  unfold out0_A_7
  rw [View.read_writes_eq_canon _ _ _ (fun _ => cover0_A_7 ..)]
  have hc := cover0_A_7 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (X0_0 m c t) (X0_1 m c t) (iblk m c 2 t) (iblk m c 3 t)
    (iblk m c 4 t) (iblk m c 5 t) (iblk m c 6 t)
  revert hc
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread,
    View.ld_unit_zero (S := S256x2048) hz, View.ld_unit_zero (S := S1x2048) hz, View.ld_unit_zero (S := S256x1024) hz,
    View.ld_unit_zero (S := S128x8) hz]
  intro hc
  exact congrArg ((cfg0.win 7).cut (grid0.coords t)) (Pay.canon_pieces _ _ _ _ _ _ _ hc)

/-- The block of the product is the array's. -/
theorem prods_eq (t : Fin cfg0.N) (a : Fin 256) (q : Fin 2048) :
    Pay.prods (X0_0 m c t) (X0_1 m c t) (iblk m c 3 t) (iblk m c 4 t) (iblk m c 5 t) (iblk m c 6 t) a q
      = prods (z m c) (g m c) (b m c) (w m c) (bs m c) (at_ t a) q := by
  have h3 : Pay.vec (iblk m c 3 t) = vec (g m c) := funext fun k => blk3 m c t 0 k
  have h4 : Pay.vec (iblk m c 4 t) = vec (b m c) := funext fun k => blk4 m c t 0 k
  have hv : ∀ s, Pay.vRow (X0_1 m c t) (Pay.mate a s) = vRow (z m c) (mate (at_ t a) s) := fun s => funext fun k => by
    refine (blk1 m c t _ k).trans (congrArg (fun i => z m c (ix2 i _)) (Fin.ext ?_))
    show t.val * 256 + (a.val / 128 * 128 + s.val) = (t.val * 256 + a.val) / 128 * 128 + s.val
    omega
  have ht : Pay.time a = time (at_ t a) := Fin.ext (by
    show a.val % 128 = (t.val * 256 + a.val) % 128
    omega)
  unfold Pay.prods prods
  simp only [h3, h4, hv, blk5]
  rw [blk0, blk6, ht]
  rfl

theorem outs_eq (t : Fin cfg0.N) (a : Fin 256) (q : Fin 3072) :
    Pay.outs (X0_0 m c t) (X0_1 m c t) (iblk m c 2 t) (iblk m c 3 t) (iblk m c 4 t) (iblk m c 5 t) (iblk m c 6 t) (ix2 a q)
      = outs (z m c) (o m c) (g m c) (b m c) (w m c) (bs m c) (ix2 (at_ t a) q) := by
  show dite (q.val < 2048) _ _ = dite (q.val < 2048) _ _
  exact dite_congr rfl (fun h => prods_eq m c t a ⟨q.val, h⟩) (fun h => blk2 m c t a ⟨q.val - 2048, by omega⟩)

theorem cut7 (f : S256x3072.Idx → EReal) (G : S4096x3072.Idx → EReal) (t : Fin cfg0.N)
    (h : ∀ (a : Fin 256) (d : Fin 3072), f (ix2 a d) = G (ix2 (at_ t a) d)) :
    (cfg0.win 7).cut (grid0.coords t) f = ((cfg0.win 7).blk t).view.read (Elt Ideal) G := by
  funext j
  rw [View.read_apply]
  have h0 : (j 0 : ℕ) < 256 := (j 0).isLt
  have h1 : (j 1 : ℕ) < 3072 := (j 1).isLt
  refine (congrArg f ?_).trans ((h ⟨(j 0 : ℕ), h0⟩ ⟨(j 1 : ℕ), h1⟩).trans (congrArg G ?_))
  · funext q
    match q with
    | ⟨0, _⟩ => rfl
    | ⟨1, _⟩ => rfl
  · funext q; apply Fin.ext
    match q with
    | ⟨0, _⟩ => show t.val * 256 + (j 0 : ℕ) = win0_7.index t 0 * 256 + 1 * (j 0 : ℕ)
                rw [(index7 t).1]; omega
    | ⟨1, _⟩ => show (j 1 : ℕ) = win0_7.index t 1 * 3072 + 1 * (j 1 : ℕ)
                rw [(index7 t).2]; omega

theorem flushed7 (t : Fin cfg0.N) : (dats m 0 c).flushed 7 t
    = ((cfg0.win 7).blk t).view.read (Elt Ideal) (outs (z m c) (o m c) (g m c) (b m c) (w m c) (bs m c)) := by
  rw [after7]
  exact cut7 _ _ t fun a q => outs_eq m c t a q

theorem cover7 (i : S4096x3072.Idx) : ∃ t : Fin cfg0.N, (cfg0.win 7).flush t = true ∧ i ∈ ((cfg0.win 7).blk t).view.set := by
  have h0 : (i 0 : ℕ) < 4096 := (i 0).isLt
  have h1 : (i 1 : ℕ) < 3072 := (i 1).isLt
  have hN : cfg0.N = 16 := N_0
  obtain ⟨t, ht⟩ : ∃ t : Fin cfg0.N, t.val = (i 0 : ℕ) / 256 := ⟨⟨_, by omega⟩, rfl⟩
  have e := index7 t
  refine ⟨t, flush0_7 _, ?_⟩
  show i ∈ ((View.whole main_v2).slice (win0_7.rect t)).set
  rw [View.set_slice_whole, Rect.mem_set_unit]
  intro a
  match a with
  | ⟨0, _⟩ => show win0_7.index t 0 * 256 ≤ (i 0 : ℕ) ∧ (i 0 : ℕ) < win0_7.index t 0 * 256 + 256
              rw [e.1, ht]; omega
  | ⟨1, _⟩ => show win0_7.index t 1 * 3072 ≤ (i 1 : ℕ) ∧ (i 1 : ℕ) < win0_7.index t 1 * 3072 + 3072
              rw [e.2]; omega

theorem final7 : (dats m 0 c).arrAt 7 cfg0.N = outs (z m c) (o m c) (g m c) (b m c) (w m c) (bs m c) :=
  (dats m 0 c).arrAt_eq_of_cover 7 _ (fun t _ => flushed7 m c t) cover7

/-- The run, read: the result at its formula, the arguments unchanged. -/
theorem run : θ_run defs (onTc (τ := τ) (main (F := Ideal))) ⟨m, fun _ => 0, ρ⟩ fun r => ∀ c : Dev nD,
      r.2.mem ((c : Thread nD τ).loc main_v2) = outs (z m c) (o m c) (g m c) (b m c) (w m c) (bs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final7 m c), (h c).2⟩) (Value.run_blocks m ρ)

end Cert.Gate.Fwd.Kernel

end
-- ==== Proof.GateFwdClaim.lean ====
/-
  The claims about the gated mixer's forward pass.
-/
module

public import Idealize.ShloMosaic.Lib.Quiescent
public import proofs.«01_k».proof.Defs
public import proofs.«01_k».proof.Proof.GateFwd
public import proofs.«01_k».proof.Proof.Gen.GmlpFwdRefIdeal.Run

@[expose] public section

set_option maxRecDepth 16384

noncomputable section

open Idealize.ShloMosaic Idealize.ShloMosaic.TcCoe Idealize.SL.Sem

namespace Cert.Gate.Fwd

theorem frame_ref : Cert.quiescent_GmlpFwdRefIdeal := fun m ρ _ =>
  (θ_run _ _ _).mono (fun r h => ⟨fun c => (h c).2, sem_eq_zero_of_no_sems (by decide) r.2⟩)
    (Cert.GmlpFwdRefIdeal.Value.run (F := Ideal) m ρ)

theorem algebraic : Cert.algebraic_GmlpFwdIdeal_GmlpFwdRefIdeal := by
  intro m ρ m' ρ' _ args
  open Kernel in
  refine ⟨fun c => outs (z m c) (o m c) (g m c) (b m c) (w m c) (bs m c), run m ρ, ?_⟩
  refine (θ_run _ _ _).mono (fun r h c => ?_) (Cert.GmlpFwdRefIdeal.Value.run (F := Ideal) m' ρ')
  obtain ⟨a0, a1, a2, a3, a4, a5⟩ := args c
  obtain ⟨h0, hk⟩ := h c
  refine ⟨h0.trans ?_, hk⟩
  rw [Cert.GmlpFwdRefIdeal.Read.val_main_v57_eq, a0, a1, a2, a3, a4, a5]
  exact ref_outs _ _ _ _ _ _

end Cert.Gate.Fwd

end
-- ==== Proof.Adam.lean ====
/-
  One step of the optimiser at one entry of a weight: the means of the gradient and of its square move, and the entry's
  change is the ratio of the two, corrected for the start, with the weight's decay.
-/
module

public import Idealize.ShloMosaic.PureOps.Ideal.Laws
public import Idealize.ShloMosaic.Lib.ValueIdx

@[expose] public section

noncomputable section

open Idealize.ShloMosaic

namespace Cert.Adam

/-- The number that a float word of the programs stands for. -/
abbrev num (w : BitVec 32) : EReal := Scalar.ofBits (F := Ideal) .f32 w

/-- The mean of the gradient moves a tenth of the way, -/
def mean (g m : EReal) : EReal := num 0x3F666666#32 * m + num 0x3DCCCCCD#32 * g

/-- that of its square a thousandth, -/
def meanSq (g v : EReal) : EReal := num 0x3F7FBE77#32 * v + num 0x3A83126F#32 * (g * g)

/-- and the change of the entry `w`. -/
def delta (w g m v : EReal) : EReal :=
  num 0xBA83126F#32 * (Ideal.div (Ideal.div (mean g m) (num 0x3F26BD02#32))
    (Ideal.sqrt (Ideal.div (meanSq g v) (num 0x3C231ACC#32)) + num 0x322BCC77#32) + num 0x3C23D70A#32 * w)

end Cert.Adam

end
-- ==== Proof.Adam.HgrnOut.lean ====
/-
  The optimiser's step on the recurrence mixer's second weight: the slots of the eight parts of a gradient are added, half of the columns at a point.
-/
module

public import Idealize.ShloMosaic.Lib.Pointwise
public import Idealize.ShloMosaic.Lib.Quiescent
public import proofs.«01_k».proof.Defs
public import proofs.«01_k».proof.Proof.Adam
public import proofs.«01_k».proof.Proof.Gen.AdamHgrnOutIdeal.Value
public import proofs.«01_k».proof.Proof.Gen.AdamHgrnOutRefIdeal.Run
public import proofs.«01_k».proof.Proof.Gen.AdamHgrnOutRefIdeal.Read

@[expose] public section

set_option maxRecDepth 16384

noncomputable section

open Idealize.ShloMosaic Idealize.ShloMosaic.TcCoe Idealize.SL.Sem

namespace Cert.Adam.HgrnOut

open Cert.AdamHgrnOutIdeal Cert.AdamHgrnOutIdeal.Gen

/-! ## The results as functions of the arguments -/

/-- The gradient: the sum of its eight slots. -/
def grads (s0 : S8x256x1024.Idx → EReal) (i : S1x256x1024.Idx) : EReal := ∑ s : Fin 8, s0 (ix3 s (i 1) (i 2))

variable (s0 : S8x256x1024.Idx → EReal) (w m v : S1x256x1024.Idx → EReal)

def deltas (i : S1x256x1024.Idx) : EReal := delta (w i) (grads s0 i) (m i) (v i)
def means (i : S1x256x1024.Idx) : EReal := mean (grads s0 i) (m i)
def meanSqs (i : S1x256x1024.Idx) : EReal := meanSq (grads s0 i) (v i)

/-! ## A point's blocks -/

section
variable (X : S8x256x512.Idx → EReal) (G : S256x512.Idx → EReal) (W M V : S1x256x512.Idx → EReal)

/-- The gradient's block. -/
def blockG (i : S1x256x512.Idx) : EReal := ∑ s : Fin 8, X (ix3 s (i 1) (i 2))
def blockD (i : S1x256x512.Idx) : EReal := delta (W i) (blockG X i) (M i) (V i)
def blockM (i : S1x256x512.Idx) : EReal := mean (blockG X i) (M i)
def blockV (i : S1x256x512.Idx) : EReal := meanSq (blockG X i) (V i)

theorem sum_apply0 (a : Fin 256) (k : Fin 512) : k0_pay4 (F := Ideal)
    (View.ld X (Rect.unit (s := S8x256x512) ![0, 0, 0] S1x256x512.size inb_S8x256x512_S1x256x512_0_0_0))
    (View.ld X (Rect.unit (s := S8x256x512) ![1, 0, 0] S1x256x512.size inb_S8x256x512_S1x256x512_1_0_0))
    (View.ld X (Rect.unit (s := S8x256x512) ![2, 0, 0] S1x256x512.size inb_S8x256x512_S1x256x512_2_0_0))
    (View.ld X (Rect.unit (s := S8x256x512) ![3, 0, 0] S1x256x512.size inb_S8x256x512_S1x256x512_3_0_0))
    (View.ld X (Rect.unit (s := S8x256x512) ![4, 0, 0] S1x256x512.size inb_S8x256x512_S1x256x512_4_0_0))
    (View.ld X (Rect.unit (s := S8x256x512) ![5, 0, 0] S1x256x512.size inb_S8x256x512_S1x256x512_5_0_0))
    (View.ld X (Rect.unit (s := S8x256x512) ![6, 0, 0] S1x256x512.size inb_S8x256x512_S1x256x512_6_0_0))
    (View.ld X (Rect.unit (s := S8x256x512) ![7, 0, 0] S1x256x512.size inb_S8x256x512_S1x256x512_7_0_0))
    (ix2 a k) = ∑ s : Fin 8, X (ix3 s a k) := by
  rw [Fin.sum_univ_eight]
  unfold k0_pay4
  pointwise

theorem grad_apply (a : Fin 256) (k : Fin 512) : (k0_pay5 (F := Ideal) G : S1x256x512.Idx → EReal) (ix3 0 a k)
    = G (ix2 a k) := by
  unfold k0_pay5
  pointwise

theorem delta_apply (a : Fin 256) (k : Fin 512) : (k0_pay1 (F := Ideal) (k0_pay6 (F := Ideal) W) (k0_pay9 (F := Ideal) G M V) (Scalar.ofBits .f32 0x3C23D70A#32) : S1x256x512.Idx → EReal) (ix3 0 a k)
    = delta (W (ix3 0 a k)) (G (ix2 a k)) (M (ix3 0 a k)) (V (ix3 0 a k)) := by
  unfold k0_pay1 k0_pay6 k0_pay9 k0_pay7 k0_pay8
  pointwise
  rfl

theorem mean_apply (a : Fin 256) (k : Fin 512) : (k0_pay2 (F := Ideal) (k0_pay7 (F := Ideal) G M) : S1x256x512.Idx → EReal) (ix3 0 a k)
    = mean (G (ix2 a k)) (M (ix3 0 a k)) := by
  unfold k0_pay2 k0_pay7
  pointwise
  rfl

theorem meanSq_apply (a : Fin 256) (k : Fin 512) : (k0_pay3 (F := Ideal) (k0_pay8 (F := Ideal) G V) : S1x256x512.Idx → EReal) (ix3 0 a k)
    = meanSq (G (ix2 a k)) (V (ix3 0 a k)) := by
  unfold k0_pay3 k0_pay8
  pointwise
  rfl

theorem eq_ix3 (i : S1x256x512.Idx) : i = ix3 0 (i 1) (i 2) := by
  funext q
  match q with
  | ⟨0, _⟩ => exact Subsingleton.elim (α := Fin 1) _ _
  | ⟨1, _⟩ => rfl
  | ⟨2, _⟩ => rfl

theorem grad_block (h : ∀ (a : Fin 256) (k : Fin 512), G (ix2 a k) = ∑ s : Fin 8, X (ix3 s a k)) :
    (k0_pay5 (F := Ideal) G : S1x256x512.Idx → EReal) = blockG X := by
  funext i
  have e := eq_ix3 i
  rw [e]
  refine (grad_apply G (i 1) (i 2)).trans ?_
  rw [h (i 1) (i 2)]
  rfl

theorem delta_block (h : ∀ (a : Fin 256) (k : Fin 512), G (ix2 a k) = ∑ s : Fin 8, X (ix3 s a k)) :
    (k0_pay1 (F := Ideal) (k0_pay6 (F := Ideal) W) (k0_pay9 (F := Ideal) G M V) (Scalar.ofBits .f32 0x3C23D70A#32) : S1x256x512.Idx → EReal) = blockD X W M V := by
  funext i
  have e := eq_ix3 i
  rw [e]
  refine (delta_apply G W M V (i 1) (i 2)).trans ?_
  rw [h (i 1) (i 2)]
  rfl

theorem mean_block (h : ∀ (a : Fin 256) (k : Fin 512), G (ix2 a k) = ∑ s : Fin 8, X (ix3 s a k)) :
    (k0_pay2 (F := Ideal) (k0_pay7 (F := Ideal) G M) : S1x256x512.Idx → EReal) = blockM X M := by
  funext i
  have e := eq_ix3 i
  rw [e]
  refine (mean_apply G M (i 1) (i 2)).trans ?_
  rw [h (i 1) (i 2)]
  rfl

theorem meanSq_block (h : ∀ (a : Fin 256) (k : Fin 512), G (ix2 a k) = ∑ s : Fin 8, X (ix3 s a k)) :
    (k0_pay3 (F := Ideal) (k0_pay8 (F := Ideal) G V) : S1x256x512.Idx → EReal) = blockV X V := by
  funext i
  have e := eq_ix3 i
  rw [e]
  refine (meanSq_apply G V (i 1) (i 2)).trans ?_
  rw [h (i 1) (i 2)]
  rfl

end

/-! ## What a point reads and writes -/

section
variable (m : (ℓ : Loc nD τ sig) → Buf (Elt Ideal) ℓ) (ρ : Dev nD → PrngReg) (c : Dev nD)
abbrev S0 : S8x256x1024.Idx → EReal := m ((c : Thread nD τ).loc main_arg0)
abbrev aw : S1x256x1024.Idx → EReal := m ((c : Thread nD τ).loc main_arg1)
abbrev am : S1x256x1024.Idx → EReal := m ((c : Thread nD τ).loc main_arg2)
abbrev av : S1x256x1024.Idx → EReal := m ((c : Thread nD τ).loc main_arg3)

theorem points (t : Fin cfg0.N) : t.val < 2 := t.isLt

/-- Where the block of a point lies in a weight. -/
def at_ (t : Fin cfg0.N) (i : S1x256x512.Idx) : S1x256x1024.Idx :=
  ix3 ⟨t.val / 2, by have h := points t; omega⟩ (i 1) ⟨t.val % 2 * 512 + (i 2).val, by have h : (i 2).val < 512 := (i 2).isLt; omega⟩

theorem index0 : ∀ t : Fin cfg0.N, win0_0.index t 0 = 0 ∧ win0_0.index t 1 = 0 ∧ win0_0.index t 2 = t.val % 2 :=
  (by decide +kernel : ∀ t : Fin grid0.N, win0_0.index t 0 = 0 ∧ win0_0.index t 1 = 0 ∧ win0_0.index t 2 = t.val % 2)

theorem index1 : ∀ t : Fin cfg0.N, win0_1.index t 0 = t.val / 2 ∧ win0_1.index t 1 = 0 ∧ win0_1.index t 2 = t.val % 2 :=
  (by decide +kernel : ∀ t : Fin grid0.N, win0_1.index t 0 = t.val / 2 ∧ win0_1.index t 1 = 0 ∧ win0_1.index t 2 = t.val % 2)

theorem index2 : ∀ t : Fin cfg0.N, win0_2.index t 0 = t.val / 2 ∧ win0_2.index t 1 = 0 ∧ win0_2.index t 2 = t.val % 2 :=
  (by decide +kernel : ∀ t : Fin grid0.N, win0_2.index t 0 = t.val / 2 ∧ win0_2.index t 1 = 0 ∧ win0_2.index t 2 = t.val % 2)

theorem index3 : ∀ t : Fin cfg0.N, win0_3.index t 0 = t.val / 2 ∧ win0_3.index t 1 = 0 ∧ win0_3.index t 2 = t.val % 2 :=
  (by decide +kernel : ∀ t : Fin grid0.N, win0_3.index t 0 = t.val / 2 ∧ win0_3.index t 1 = 0 ∧ win0_3.index t 2 = t.val % 2)

theorem index4 : ∀ t : Fin cfg0.N, win0_4.index t 0 = t.val / 2 ∧ win0_4.index t 1 = 0 ∧ win0_4.index t 2 = t.val % 2 :=
  (by decide +kernel : ∀ t : Fin grid0.N, win0_4.index t 0 = t.val / 2 ∧ win0_4.index t 1 = 0 ∧ win0_4.index t 2 = t.val % 2)

theorem slot0 (t : Fin cfg0.N) (s : Fin 8) (a : Fin 256) (k : Fin 512) :
    iblk m c 0 t (ix3 s a k) = S0 m c (ix3 s a ⟨t.val % 2 * 512 + k.val, by omega⟩) := by
  unfold iblk
  rw [View.read_apply]
  show V m c main_arg0 _ = _
  rw [V_main_arg0 m c]
  congr 1; funext q; apply Fin.ext
  match q with
  | ⟨0, _⟩ => show win0_0.index t 0 * 8 + 1 * s.val = s.val
              rw [(index0 t).1]; omega
  | ⟨1, _⟩ => show win0_0.index t 1 * 256 + 1 * a.val = a.val
              rw [(index0 t).2.1]; omega
  | ⟨2, _⟩ => show win0_0.index t 2 * 512 + 1 * k.val = t.val % 2 * 512 + k.val
              rw [(index0 t).2.2]; omega

theorem block1 (t : Fin cfg0.N) (i : S1x256x512.Idx) : iblk m c 1 t i = aw m c (at_ t i) := by
  have h0 : (i 0).val < 1 := (i 0).isLt
  unfold iblk
  rw [View.read_apply]
  show V m c main_arg1 _ = _
  rw [V_main_arg1 m c]
  congr 1; funext q; apply Fin.ext
  match q with
  | ⟨0, _⟩ => show win0_1.index t 0 * 1 + 1 * (i 0).val = t.val / 2
              rw [(index1 t).1]; omega
  | ⟨1, _⟩ => show win0_1.index t 1 * 256 + 1 * (i 1).val = (i 1).val
              rw [(index1 t).2.1]; omega
  | ⟨2, _⟩ => show win0_1.index t 2 * 512 + 1 * (i 2).val = t.val % 2 * 512 + (i 2).val
              rw [(index1 t).2.2]; omega

theorem block2 (t : Fin cfg0.N) (i : S1x256x512.Idx) : iblk m c 2 t i = am m c (at_ t i) := by
  have h0 : (i 0).val < 1 := (i 0).isLt
  unfold iblk
  rw [View.read_apply]
  show V m c main_arg2 _ = _
  rw [V_main_arg2 m c]
  congr 1; funext q; apply Fin.ext
  match q with
  | ⟨0, _⟩ => show win0_2.index t 0 * 1 + 1 * (i 0).val = t.val / 2
              rw [(index2 t).1]; omega
  | ⟨1, _⟩ => show win0_2.index t 1 * 256 + 1 * (i 1).val = (i 1).val
              rw [(index2 t).2.1]; omega
  | ⟨2, _⟩ => show win0_2.index t 2 * 512 + 1 * (i 2).val = t.val % 2 * 512 + (i 2).val
              rw [(index2 t).2.2]; omega

theorem block3 (t : Fin cfg0.N) (i : S1x256x512.Idx) : iblk m c 3 t i = av m c (at_ t i) := by
  have h0 : (i 0).val < 1 := (i 0).isLt
  unfold iblk
  rw [View.read_apply]
  show V m c main_arg3 _ = _
  rw [V_main_arg3 m c]
  congr 1; funext q; apply Fin.ext
  match q with
  | ⟨0, _⟩ => show win0_3.index t 0 * 1 + 1 * (i 0).val = t.val / 2
              rw [(index3 t).1]; omega
  | ⟨1, _⟩ => show win0_3.index t 1 * 256 + 1 * (i 1).val = (i 1).val
              rw [(index3 t).2.1]; omega
  | ⟨2, _⟩ => show win0_3.index t 2 * 512 + 1 * (i 2).val = t.val % 2 * 512 + (i 2).val
              rw [(index3 t).2.2]; omega

theorem hz : (![0, 0, 0] : Fin 3 → Nat) = fun _ => 0 := funext fun a => by fin_cases a <;> rfl
theorem hz2 : (![0, 0] : Fin 2 → Nat) = fun _ => 0 := funext fun a => by fin_cases a <;> rfl

theorem after4_A (t : Fin cfg0.N) : (dats m 0 c).flushed 4 t
    = (cfg0.win 4).cut (grid0.coords t) (blockG (iblk m c 0 t)) := by
  rw [Value.flushed4_A m c t]
  unfold out0_A_4
  rw [View.read_writes_eq_canon _ _ _ (fun _ => cover0_A_4 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S1x256x512) hz, View.ld_unit_zero (S := S256x512) hz2]
  rw [View.readCov_unit_zero _ hz2]
  exact congrArg ((cfg0.win 4).cut (grid0.coords t)) (grad_block _ _ (sum_apply0 (iblk m c 0 t)))

theorem after5_A (t : Fin cfg0.N) : (dats m 0 c).flushed 5 t
    = (cfg0.win 5).cut (grid0.coords t) (blockD (iblk m c 0 t) (iblk m c 1 t) (iblk m c 2 t) (iblk m c 3 t)) := by
  rw [Value.flushed5_A m c t]
  unfold out0_A_5
  rw [View.read_writes_eq_canon _ _ _ (fun _ => cover0_A_5 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S1x256x512) hz, View.ld_unit_zero (S := S256x512) hz2]
  rw [View.readCov_unit_zero _ hz2]
  exact congrArg ((cfg0.win 5).cut (grid0.coords t)) (delta_block _ _ _ _ _ (sum_apply0 (iblk m c 0 t)))

theorem after6_A (t : Fin cfg0.N) : (dats m 0 c).flushed 6 t
    = (cfg0.win 6).cut (grid0.coords t) (blockM (iblk m c 0 t) (iblk m c 2 t)) := by
  rw [Value.flushed6_A m c t]
  unfold out0_A_6
  rw [View.read_writes_eq_canon _ _ _ (fun _ => cover0_A_6 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S1x256x512) hz, View.ld_unit_zero (S := S256x512) hz2]
  rw [View.readCov_unit_zero _ hz2]
  exact congrArg ((cfg0.win 6).cut (grid0.coords t)) (mean_block _ _ _ (sum_apply0 (iblk m c 0 t)))

theorem after7_A (t : Fin cfg0.N) : (dats m 0 c).flushed 7 t
    = (cfg0.win 7).cut (grid0.coords t) (blockV (iblk m c 0 t) (iblk m c 3 t)) := by
  rw [Value.flushed7_A m c t]
  unfold out0_A_7
  rw [View.read_writes_eq_canon _ _ _ (fun _ => cover0_A_7 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S1x256x512) hz, View.ld_unit_zero (S := S256x512) hz2]
  rw [View.readCov_unit_zero _ hz2]
  exact congrArg ((cfg0.win 7).cut (grid0.coords t)) (meanSq_block _ _ _ (sum_apply0 (iblk m c 0 t)))

theorem blockG_eq (t : Fin cfg0.N) (i : S1x256x512.Idx) : blockG (iblk m c 0 t) i = grads (S0 m c) (at_ t i) :=
  Finset.sum_congr rfl fun s _ => slot0 m c t s _ _

theorem cut4 (f : S1x256x512.Idx → EReal) (A : S1x256x1024.Idx → EReal) (t : Fin cfg0.N) (h : ∀ i, f i = A (at_ t i)) :
    (cfg0.win 4).cut (grid0.coords t) f = ((cfg0.win 4).blk t).view.read (Elt Ideal) A := by
  funext i
  rw [View.read_apply]
  have h0 : (i 0 : ℕ) < 1 := (i 0).isLt
  have h1 : (i 1 : ℕ) < 256 := (i 1).isLt
  have h2 : (i 2 : ℕ) < 512 := (i 2).isLt
  refine (congrArg f ?_).trans ((h (ix3 ⟨(i 0 : ℕ), h0⟩ ⟨(i 1 : ℕ), h1⟩ ⟨(i 2 : ℕ), h2⟩)).trans (congrArg A ?_))
  · funext q
    match q with
    | ⟨0, _⟩ => rfl
    | ⟨1, _⟩ => rfl
    | ⟨2, _⟩ => rfl
  · funext q; apply Fin.ext
    match q with
    | ⟨0, _⟩ => show t.val / 2 = win0_4.index t 0 * 1 + 1 * (i 0 : ℕ)
                rw [(index4 t).1]; omega
    | ⟨1, _⟩ => show (i 1 : ℕ) = win0_4.index t 1 * 256 + 1 * (i 1 : ℕ)
                rw [(index4 t).2.1]; omega
    | ⟨2, _⟩ => show t.val % 2 * 512 + (i 2 : ℕ) = win0_4.index t 2 * 512 + 1 * (i 2 : ℕ)
                rw [(index4 t).2.2]; omega

theorem flushed4 (t : Fin cfg0.N) : (dats m 0 c).flushed 4 t
    = ((cfg0.win 4).blk t).view.read (Elt Ideal) (grads (S0 m c)) := by
  rw [after4_A]
  exact cut4 _ _ t fun i => blockG_eq m c t i

/-- Every entry of a weight lies in the block of a point. -/
theorem inside (i : S1x256x1024.Idx) : ∃ t : Fin cfg0.N, ∀ a : Fin 3,
    win0_4.index t a * S1x256x512.size a ≤ (i a : ℕ) ∧ (i a : ℕ) < win0_4.index t a * S1x256x512.size a + S1x256x512.size a := by
  have h0 : (i 0 : ℕ) < 1 := (i 0).isLt
  have h1 : (i 1 : ℕ) < 256 := (i 1).isLt
  have h2 : (i 2 : ℕ) < 1024 := (i 2).isLt
  have hN : cfg0.N = 2 := N_0
  obtain ⟨t, ht⟩ : ∃ t : Fin cfg0.N, t.val = (i 0 : ℕ) * 2 + (i 2 : ℕ) / 512 := ⟨⟨_, by omega⟩, rfl⟩
  have e := index4 t
  refine ⟨t, fun a => ?_⟩
  match a with
  | ⟨0, _⟩ => show win0_4.index t 0 * 1 ≤ (i 0 : ℕ) ∧ (i 0 : ℕ) < win0_4.index t 0 * 1 + 1
              rw [e.1, ht]; omega
  | ⟨1, _⟩ => show win0_4.index t 1 * 256 ≤ (i 1 : ℕ) ∧ (i 1 : ℕ) < win0_4.index t 1 * 256 + 256
              rw [e.2.1]; omega
  | ⟨2, _⟩ => show win0_4.index t 2 * 512 ≤ (i 2 : ℕ) ∧ (i 2 : ℕ) < win0_4.index t 2 * 512 + 512
              rw [e.2.2, ht]; omega

theorem cover4 (i : S1x256x1024.Idx) : ∃ t : Fin cfg0.N, (cfg0.win 4).flush t = true ∧ i ∈ ((cfg0.win 4).blk t).view.set := by
  obtain ⟨t, ht⟩ := inside i
  refine ⟨t, flush0_4 _, ?_⟩
  show i ∈ ((View.whole main_v0_0).slice (win0_4.rect t)).set
  rw [View.set_slice_whole, Rect.mem_set_unit]
  exact ht

theorem final4 : (dats m 0 c).arrAt 4 cfg0.N = grads (S0 m c) :=
  (dats m 0 c).arrAt_eq_of_cover 4 _ (fun t _ => flushed4 m c t) cover4

theorem cut5 (f : S1x256x512.Idx → EReal) (A : S1x256x1024.Idx → EReal) (t : Fin cfg0.N) (h : ∀ i, f i = A (at_ t i)) :
    (cfg0.win 5).cut (grid0.coords t) f = ((cfg0.win 5).blk t).view.read (Elt Ideal) A :=
  cut4 f A t h

theorem flushed5 (t : Fin cfg0.N) : (dats m 0 c).flushed 5 t
    = ((cfg0.win 5).blk t).view.read (Elt Ideal) (deltas (S0 m c) (aw m c) (am m c) (av m c)) := by
  rw [after5_A]
  exact cut5 _ _ t fun i => by unfold blockD deltas; rw [blockG_eq m c t i, block1, block2, block3]

theorem cover5 (i : S1x256x1024.Idx) : ∃ t : Fin cfg0.N, (cfg0.win 5).flush t = true ∧ i ∈ ((cfg0.win 5).blk t).view.set := by
  obtain ⟨t, ht⟩ := inside i
  refine ⟨t, flush0_5 _, ?_⟩
  show i ∈ ((View.whole main_v0_1).slice (win0_5.rect t)).set
  rw [View.set_slice_whole, Rect.mem_set_unit]
  exact ht

theorem final5 : (dats m 0 c).arrAt 5 cfg0.N = deltas (S0 m c) (aw m c) (am m c) (av m c) :=
  (dats m 0 c).arrAt_eq_of_cover 5 _ (fun t _ => flushed5 m c t) cover5

theorem cut6 (f : S1x256x512.Idx → EReal) (A : S1x256x1024.Idx → EReal) (t : Fin cfg0.N) (h : ∀ i, f i = A (at_ t i)) :
    (cfg0.win 6).cut (grid0.coords t) f = ((cfg0.win 6).blk t).view.read (Elt Ideal) A :=
  cut4 f A t h

theorem flushed6 (t : Fin cfg0.N) : (dats m 0 c).flushed 6 t
    = ((cfg0.win 6).blk t).view.read (Elt Ideal) (means (S0 m c) (am m c)) := by
  rw [after6_A]
  exact cut6 _ _ t fun i => by unfold blockM means; rw [blockG_eq m c t i, block2]

theorem cover6 (i : S1x256x1024.Idx) : ∃ t : Fin cfg0.N, (cfg0.win 6).flush t = true ∧ i ∈ ((cfg0.win 6).blk t).view.set := by
  obtain ⟨t, ht⟩ := inside i
  refine ⟨t, flush0_6 _, ?_⟩
  show i ∈ ((View.whole main_v0_2).slice (win0_6.rect t)).set
  rw [View.set_slice_whole, Rect.mem_set_unit]
  exact ht

theorem final6 : (dats m 0 c).arrAt 6 cfg0.N = means (S0 m c) (am m c) :=
  (dats m 0 c).arrAt_eq_of_cover 6 _ (fun t _ => flushed6 m c t) cover6

theorem cut7 (f : S1x256x512.Idx → EReal) (A : S1x256x1024.Idx → EReal) (t : Fin cfg0.N) (h : ∀ i, f i = A (at_ t i)) :
    (cfg0.win 7).cut (grid0.coords t) f = ((cfg0.win 7).blk t).view.read (Elt Ideal) A :=
  cut4 f A t h

theorem flushed7 (t : Fin cfg0.N) : (dats m 0 c).flushed 7 t
    = ((cfg0.win 7).blk t).view.read (Elt Ideal) (meanSqs (S0 m c) (av m c)) := by
  rw [after7_A]
  exact cut7 _ _ t fun i => by unfold blockV meanSqs; rw [blockG_eq m c t i, block3]

theorem cover7 (i : S1x256x1024.Idx) : ∃ t : Fin cfg0.N, (cfg0.win 7).flush t = true ∧ i ∈ ((cfg0.win 7).blk t).view.set := by
  obtain ⟨t, ht⟩ := inside i
  refine ⟨t, flush0_7 _, ?_⟩
  show i ∈ ((View.whole main_v0_3).slice (win0_7.rect t)).set
  rw [View.set_slice_whole, Rect.mem_set_unit]
  exact ht

theorem final7 : (dats m 0 c).arrAt 7 cfg0.N = meanSqs (S0 m c) (av m c) :=
  (dats m 0 c).arrAt_eq_of_cover 7 _ (fun t _ => flushed7 m c t) cover7

/-- The run, read: each result at its formula, the arguments unchanged. -/
theorem run : θ_run defs (onTc (τ := τ) (main (F := Ideal))) ⟨m, fun _ => 0, ρ⟩ fun r => ∀ c : Dev nD,
      r.2.mem ((c : Thread nD τ).loc main_v0_0) = grads (S0 m c)
      ∧ r.2.mem ((c : Thread nD τ).loc main_v0_1) = deltas (S0 m c) (aw m c) (am m c) (av m c)
      ∧ r.2.mem ((c : Thread nD τ).loc main_v0_2) = means (S0 m c) (am m c)
      ∧ r.2.mem ((c : Thread nD τ).loc main_v0_3) = meanSqs (S0 m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c),
    (h c).2.2.1.trans (final6 m c), (h c).2.2.2.1.trans (final7 m c), (h c).2.2.2.2⟩) (Value.run_blocks m ρ)

end

/-! ## The reference -/

section
open Cert.AdamHgrnOutRefIdeal.Read

theorem ref_grads : val_main_v2 (F := Ideal) s0 = grads s0 := by
  funext i
  rw [val_main_v2_apply, val_main_v1_apply, val_main_cst_apply,
    show (FloatOps.ofBits (F := Ideal) .f32 0x00000000#32 : EReal) = 0 from Ideal.ofBits_zero_f32, zero_add]
  refine Finset.sum_congr rfl fun s _ => ?_
  rw [val_main_v0_apply]
  refine congrArg s0 (funext fun q => Fin.ext ?_)
  match q with
  | ⟨0, _⟩ => rfl
  | ⟨1, _⟩ => rfl
  | ⟨2, _⟩ => rfl

theorem ref_mean : val_main_v7 (F := Ideal) s0 m = means s0 m := by
  funext i
  simp only [val_main_v3_apply, val_main_v4_apply, val_main_v5_apply, val_main_v6_apply, val_main_v7_apply,
    val_main_cst_0_apply, val_main_cst_1_apply, val_main_cst_2_apply, val_main_cst_3_apply, val_main_cst_4_apply, val_main_cst_5_apply, val_main_cst_6_apply, val_main_cst_7_apply, val_main_cst_8_apply, ref_grads]
  rfl

theorem ref_meanSq : val_main_v13 (F := Ideal) s0 v = meanSqs s0 v := by
  funext i
  simp only [val_main_v8_apply, val_main_v9_apply, val_main_v10_apply, val_main_v11_apply, val_main_v12_apply, val_main_v13_apply,
    val_main_cst_0_apply, val_main_cst_1_apply, val_main_cst_2_apply, val_main_cst_3_apply, val_main_cst_4_apply, val_main_cst_5_apply, val_main_cst_6_apply, val_main_cst_7_apply, val_main_cst_8_apply, ref_grads]
  rfl

theorem ref_delta : val_main_v26 (F := Ideal) s0 w m v = deltas s0 w m v := by
  funext i
  simp only [val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply,
    val_main_cst_0_apply, val_main_cst_1_apply, val_main_cst_2_apply, val_main_cst_3_apply, val_main_cst_4_apply, val_main_cst_5_apply, val_main_cst_6_apply, val_main_cst_7_apply, val_main_cst_8_apply, ref_grads]
  rfl

end

/-! ## The claims -/

theorem frame_ref : Cert.quiescent_AdamHgrnOutRefIdeal := fun m ρ _ =>
  (θ_run _ _ _).mono (fun r h => ⟨fun c => (h c).2.2.2.2, sem_eq_zero_of_no_sems (by decide) r.2⟩)
    (Cert.AdamHgrnOutRefIdeal.Value.run (F := Ideal) m ρ)

theorem algebraic : Cert.algebraic_AdamHgrnOutIdeal_AdamHgrnOutRefIdeal := by
  intro m ρ m' ρ' _ args
  refine ⟨fun c => grads (S0 m c), fun c => deltas (S0 m c) (aw m c) (am m c) (av m c),
    fun c => means (S0 m c) (am m c), fun c => meanSqs (S0 m c) (av m c), run m ρ, ?_⟩
  refine (θ_run _ _ _).mono (fun r h c => ?_) (Cert.AdamHgrnOutRefIdeal.Value.run (F := Ideal) m' ρ')
  obtain ⟨a0, a1, a2, a3⟩ := args c
  obtain ⟨h0, h1, h2, h3, hk⟩ := h c
  refine ⟨h0.trans ?_, h1.trans ?_, h2.trans ?_, h3.trans ?_, hk⟩
  · rw [Cert.AdamHgrnOutRefIdeal.Read.val_main_v2_eq, a0]
    exact ref_grads _
  · rw [Cert.AdamHgrnOutRefIdeal.Read.val_main_v26_eq, a0, a1, a2, a3]
    exact ref_delta _ _ _ _
  · rw [Cert.AdamHgrnOutRefIdeal.Read.val_main_v7_eq, a0, a2]
    exact ref_mean _ _
  · rw [Cert.AdamHgrnOutRefIdeal.Read.val_main_v13_eq, a0, a3]
    exact ref_meanSq _ _

end Cert.Adam.HgrnOut

end
-- ==== Proof.Adam.GmlpOut.lean ====
/-
  The optimiser's step on the gating mixer's second weight: the slots of the eight parts of a gradient are added, half of the columns at a point.
-/
module

public import Idealize.ShloMosaic.Lib.Pointwise
public import Idealize.ShloMosaic.Lib.Quiescent
public import proofs.«01_k».proof.Defs
public import proofs.«01_k».proof.Proof.Adam
public import proofs.«01_k».proof.Proof.Gen.AdamGmlpOutIdeal.Value
public import proofs.«01_k».proof.Proof.Gen.AdamGmlpOutRefIdeal.Run
public import proofs.«01_k».proof.Proof.Gen.AdamGmlpOutRefIdeal.Read

@[expose] public section

set_option maxRecDepth 16384

noncomputable section

open Idealize.ShloMosaic Idealize.ShloMosaic.TcCoe Idealize.SL.Sem

namespace Cert.Adam.GmlpOut

open Cert.AdamGmlpOutIdeal Cert.AdamGmlpOutIdeal.Gen

/-! ## The results as functions of the arguments -/

/-- The gradient: the sum of its eight slots. -/
def grads (s0 : S8x384x1024.Idx → EReal) (i : S1x384x1024.Idx) : EReal := ∑ s : Fin 8, s0 (ix3 s (i 1) (i 2))

variable (s0 : S8x384x1024.Idx → EReal) (w m v : S1x384x1024.Idx → EReal)

def deltas (i : S1x384x1024.Idx) : EReal := delta (w i) (grads s0 i) (m i) (v i)
def means (i : S1x384x1024.Idx) : EReal := mean (grads s0 i) (m i)
def meanSqs (i : S1x384x1024.Idx) : EReal := meanSq (grads s0 i) (v i)

/-! ## A point's blocks -/

section
variable (X : S8x384x512.Idx → EReal) (G : S384x512.Idx → EReal) (W M V : S1x384x512.Idx → EReal)

/-- The gradient's block. -/
def blockG (i : S1x384x512.Idx) : EReal := ∑ s : Fin 8, X (ix3 s (i 1) (i 2))
def blockD (i : S1x384x512.Idx) : EReal := delta (W i) (blockG X i) (M i) (V i)
def blockM (i : S1x384x512.Idx) : EReal := mean (blockG X i) (M i)
def blockV (i : S1x384x512.Idx) : EReal := meanSq (blockG X i) (V i)

theorem sum_apply0 (a : Fin 384) (k : Fin 512) : k0_pay4 (F := Ideal)
    (View.ld X (Rect.unit (s := S8x384x512) ![0, 0, 0] S1x384x512.size inb_S8x384x512_S1x384x512_0_0_0))
    (View.ld X (Rect.unit (s := S8x384x512) ![1, 0, 0] S1x384x512.size inb_S8x384x512_S1x384x512_1_0_0))
    (View.ld X (Rect.unit (s := S8x384x512) ![2, 0, 0] S1x384x512.size inb_S8x384x512_S1x384x512_2_0_0))
    (View.ld X (Rect.unit (s := S8x384x512) ![3, 0, 0] S1x384x512.size inb_S8x384x512_S1x384x512_3_0_0))
    (View.ld X (Rect.unit (s := S8x384x512) ![4, 0, 0] S1x384x512.size inb_S8x384x512_S1x384x512_4_0_0))
    (View.ld X (Rect.unit (s := S8x384x512) ![5, 0, 0] S1x384x512.size inb_S8x384x512_S1x384x512_5_0_0))
    (View.ld X (Rect.unit (s := S8x384x512) ![6, 0, 0] S1x384x512.size inb_S8x384x512_S1x384x512_6_0_0))
    (View.ld X (Rect.unit (s := S8x384x512) ![7, 0, 0] S1x384x512.size inb_S8x384x512_S1x384x512_7_0_0))
    (ix2 a k) = ∑ s : Fin 8, X (ix3 s a k) := by
  rw [Fin.sum_univ_eight]
  unfold k0_pay4
  pointwise

theorem grad_apply (a : Fin 384) (k : Fin 512) : (k0_pay5 (F := Ideal) G : S1x384x512.Idx → EReal) (ix3 0 a k)
    = G (ix2 a k) := by
  unfold k0_pay5
  pointwise

theorem delta_apply (a : Fin 384) (k : Fin 512) : (k0_pay1 (F := Ideal) (k0_pay6 (F := Ideal) W) (k0_pay9 (F := Ideal) G M V) (Scalar.ofBits .f32 0x3C23D70A#32) : S1x384x512.Idx → EReal) (ix3 0 a k)
    = delta (W (ix3 0 a k)) (G (ix2 a k)) (M (ix3 0 a k)) (V (ix3 0 a k)) := by
  unfold k0_pay1 k0_pay6 k0_pay9 k0_pay7 k0_pay8
  pointwise
  rfl

theorem mean_apply (a : Fin 384) (k : Fin 512) : (k0_pay2 (F := Ideal) (k0_pay7 (F := Ideal) G M) : S1x384x512.Idx → EReal) (ix3 0 a k)
    = mean (G (ix2 a k)) (M (ix3 0 a k)) := by
  unfold k0_pay2 k0_pay7
  pointwise
  rfl

theorem meanSq_apply (a : Fin 384) (k : Fin 512) : (k0_pay3 (F := Ideal) (k0_pay8 (F := Ideal) G V) : S1x384x512.Idx → EReal) (ix3 0 a k)
    = meanSq (G (ix2 a k)) (V (ix3 0 a k)) := by
  unfold k0_pay3 k0_pay8
  pointwise
  rfl

theorem eq_ix3 (i : S1x384x512.Idx) : i = ix3 0 (i 1) (i 2) := by
  funext q
  match q with
  | ⟨0, _⟩ => exact Subsingleton.elim (α := Fin 1) _ _
  | ⟨1, _⟩ => rfl
  | ⟨2, _⟩ => rfl

theorem grad_block (h : ∀ (a : Fin 384) (k : Fin 512), G (ix2 a k) = ∑ s : Fin 8, X (ix3 s a k)) :
    (k0_pay5 (F := Ideal) G : S1x384x512.Idx → EReal) = blockG X := by
  funext i
  have e := eq_ix3 i
  rw [e]
  refine (grad_apply G (i 1) (i 2)).trans ?_
  rw [h (i 1) (i 2)]
  rfl

theorem delta_block (h : ∀ (a : Fin 384) (k : Fin 512), G (ix2 a k) = ∑ s : Fin 8, X (ix3 s a k)) :
    (k0_pay1 (F := Ideal) (k0_pay6 (F := Ideal) W) (k0_pay9 (F := Ideal) G M V) (Scalar.ofBits .f32 0x3C23D70A#32) : S1x384x512.Idx → EReal) = blockD X W M V := by
  funext i
  have e := eq_ix3 i
  rw [e]
  refine (delta_apply G W M V (i 1) (i 2)).trans ?_
  rw [h (i 1) (i 2)]
  rfl

theorem mean_block (h : ∀ (a : Fin 384) (k : Fin 512), G (ix2 a k) = ∑ s : Fin 8, X (ix3 s a k)) :
    (k0_pay2 (F := Ideal) (k0_pay7 (F := Ideal) G M) : S1x384x512.Idx → EReal) = blockM X M := by
  funext i
  have e := eq_ix3 i
  rw [e]
  refine (mean_apply G M (i 1) (i 2)).trans ?_
  rw [h (i 1) (i 2)]
  rfl

theorem meanSq_block (h : ∀ (a : Fin 384) (k : Fin 512), G (ix2 a k) = ∑ s : Fin 8, X (ix3 s a k)) :
    (k0_pay3 (F := Ideal) (k0_pay8 (F := Ideal) G V) : S1x384x512.Idx → EReal) = blockV X V := by
  funext i
  have e := eq_ix3 i
  rw [e]
  refine (meanSq_apply G V (i 1) (i 2)).trans ?_
  rw [h (i 1) (i 2)]
  rfl

end

/-! ## What a point reads and writes -/

section
variable (m : (ℓ : Loc nD τ sig) → Buf (Elt Ideal) ℓ) (ρ : Dev nD → PrngReg) (c : Dev nD)
abbrev S0 : S8x384x1024.Idx → EReal := m ((c : Thread nD τ).loc main_arg0)
abbrev aw : S1x384x1024.Idx → EReal := m ((c : Thread nD τ).loc main_arg1)
abbrev am : S1x384x1024.Idx → EReal := m ((c : Thread nD τ).loc main_arg2)
abbrev av : S1x384x1024.Idx → EReal := m ((c : Thread nD τ).loc main_arg3)

theorem points (t : Fin cfg0.N) : t.val < 2 := t.isLt

/-- Where the block of a point lies in a weight. -/
def at_ (t : Fin cfg0.N) (i : S1x384x512.Idx) : S1x384x1024.Idx :=
  ix3 ⟨t.val / 2, by have h := points t; omega⟩ (i 1) ⟨t.val % 2 * 512 + (i 2).val, by have h : (i 2).val < 512 := (i 2).isLt; omega⟩

theorem index0 : ∀ t : Fin cfg0.N, win0_0.index t 0 = 0 ∧ win0_0.index t 1 = 0 ∧ win0_0.index t 2 = t.val % 2 :=
  (by decide +kernel : ∀ t : Fin grid0.N, win0_0.index t 0 = 0 ∧ win0_0.index t 1 = 0 ∧ win0_0.index t 2 = t.val % 2)

theorem index1 : ∀ t : Fin cfg0.N, win0_1.index t 0 = t.val / 2 ∧ win0_1.index t 1 = 0 ∧ win0_1.index t 2 = t.val % 2 :=
  (by decide +kernel : ∀ t : Fin grid0.N, win0_1.index t 0 = t.val / 2 ∧ win0_1.index t 1 = 0 ∧ win0_1.index t 2 = t.val % 2)

theorem index2 : ∀ t : Fin cfg0.N, win0_2.index t 0 = t.val / 2 ∧ win0_2.index t 1 = 0 ∧ win0_2.index t 2 = t.val % 2 :=
  (by decide +kernel : ∀ t : Fin grid0.N, win0_2.index t 0 = t.val / 2 ∧ win0_2.index t 1 = 0 ∧ win0_2.index t 2 = t.val % 2)

theorem index3 : ∀ t : Fin cfg0.N, win0_3.index t 0 = t.val / 2 ∧ win0_3.index t 1 = 0 ∧ win0_3.index t 2 = t.val % 2 :=
  (by decide +kernel : ∀ t : Fin grid0.N, win0_3.index t 0 = t.val / 2 ∧ win0_3.index t 1 = 0 ∧ win0_3.index t 2 = t.val % 2)

theorem index4 : ∀ t : Fin cfg0.N, win0_4.index t 0 = t.val / 2 ∧ win0_4.index t 1 = 0 ∧ win0_4.index t 2 = t.val % 2 :=
  (by decide +kernel : ∀ t : Fin grid0.N, win0_4.index t 0 = t.val / 2 ∧ win0_4.index t 1 = 0 ∧ win0_4.index t 2 = t.val % 2)

theorem slot0 (t : Fin cfg0.N) (s : Fin 8) (a : Fin 384) (k : Fin 512) :
    iblk m c 0 t (ix3 s a k) = S0 m c (ix3 s a ⟨t.val % 2 * 512 + k.val, by omega⟩) := by
  unfold iblk
  rw [View.read_apply]
  show V m c main_arg0 _ = _
  rw [V_main_arg0 m c]
  congr 1; funext q; apply Fin.ext
  match q with
  | ⟨0, _⟩ => show win0_0.index t 0 * 8 + 1 * s.val = s.val
              rw [(index0 t).1]; omega
  | ⟨1, _⟩ => show win0_0.index t 1 * 384 + 1 * a.val = a.val
              rw [(index0 t).2.1]; omega
  | ⟨2, _⟩ => show win0_0.index t 2 * 512 + 1 * k.val = t.val % 2 * 512 + k.val
              rw [(index0 t).2.2]; omega

theorem block1 (t : Fin cfg0.N) (i : S1x384x512.Idx) : iblk m c 1 t i = aw m c (at_ t i) := by
  have h0 : (i 0).val < 1 := (i 0).isLt
  unfold iblk
  rw [View.read_apply]
  show V m c main_arg1 _ = _
  rw [V_main_arg1 m c]
  congr 1; funext q; apply Fin.ext
  match q with
  | ⟨0, _⟩ => show win0_1.index t 0 * 1 + 1 * (i 0).val = t.val / 2
              rw [(index1 t).1]; omega
  | ⟨1, _⟩ => show win0_1.index t 1 * 384 + 1 * (i 1).val = (i 1).val
              rw [(index1 t).2.1]; omega
  | ⟨2, _⟩ => show win0_1.index t 2 * 512 + 1 * (i 2).val = t.val % 2 * 512 + (i 2).val
              rw [(index1 t).2.2]; omega

theorem block2 (t : Fin cfg0.N) (i : S1x384x512.Idx) : iblk m c 2 t i = am m c (at_ t i) := by
  have h0 : (i 0).val < 1 := (i 0).isLt
  unfold iblk
  rw [View.read_apply]
  show V m c main_arg2 _ = _
  rw [V_main_arg2 m c]
  congr 1; funext q; apply Fin.ext
  match q with
  | ⟨0, _⟩ => show win0_2.index t 0 * 1 + 1 * (i 0).val = t.val / 2
              rw [(index2 t).1]; omega
  | ⟨1, _⟩ => show win0_2.index t 1 * 384 + 1 * (i 1).val = (i 1).val
              rw [(index2 t).2.1]; omega
  | ⟨2, _⟩ => show win0_2.index t 2 * 512 + 1 * (i 2).val = t.val % 2 * 512 + (i 2).val
              rw [(index2 t).2.2]; omega

theorem block3 (t : Fin cfg0.N) (i : S1x384x512.Idx) : iblk m c 3 t i = av m c (at_ t i) := by
  have h0 : (i 0).val < 1 := (i 0).isLt
  unfold iblk
  rw [View.read_apply]
  show V m c main_arg3 _ = _
  rw [V_main_arg3 m c]
  congr 1; funext q; apply Fin.ext
  match q with
  | ⟨0, _⟩ => show win0_3.index t 0 * 1 + 1 * (i 0).val = t.val / 2
              rw [(index3 t).1]; omega
  | ⟨1, _⟩ => show win0_3.index t 1 * 384 + 1 * (i 1).val = (i 1).val
              rw [(index3 t).2.1]; omega
  | ⟨2, _⟩ => show win0_3.index t 2 * 512 + 1 * (i 2).val = t.val % 2 * 512 + (i 2).val
              rw [(index3 t).2.2]; omega

theorem hz : (![0, 0, 0] : Fin 3 → Nat) = fun _ => 0 := funext fun a => by fin_cases a <;> rfl
theorem hz2 : (![0, 0] : Fin 2 → Nat) = fun _ => 0 := funext fun a => by fin_cases a <;> rfl

theorem after4_A (t : Fin cfg0.N) : (dats m 0 c).flushed 4 t
    = (cfg0.win 4).cut (grid0.coords t) (blockG (iblk m c 0 t)) := by
  rw [Value.flushed4_A m c t]
  unfold out0_A_4
  rw [View.read_writes_eq_canon _ _ _ (fun _ => cover0_A_4 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S1x384x512) hz, View.ld_unit_zero (S := S384x512) hz2]
  rw [View.readCov_unit_zero _ hz2]
  exact congrArg ((cfg0.win 4).cut (grid0.coords t)) (grad_block _ _ (sum_apply0 (iblk m c 0 t)))

theorem after5_A (t : Fin cfg0.N) : (dats m 0 c).flushed 5 t
    = (cfg0.win 5).cut (grid0.coords t) (blockD (iblk m c 0 t) (iblk m c 1 t) (iblk m c 2 t) (iblk m c 3 t)) := by
  rw [Value.flushed5_A m c t]
  unfold out0_A_5
  rw [View.read_writes_eq_canon _ _ _ (fun _ => cover0_A_5 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S1x384x512) hz, View.ld_unit_zero (S := S384x512) hz2]
  rw [View.readCov_unit_zero _ hz2]
  exact congrArg ((cfg0.win 5).cut (grid0.coords t)) (delta_block _ _ _ _ _ (sum_apply0 (iblk m c 0 t)))

theorem after6_A (t : Fin cfg0.N) : (dats m 0 c).flushed 6 t
    = (cfg0.win 6).cut (grid0.coords t) (blockM (iblk m c 0 t) (iblk m c 2 t)) := by
  rw [Value.flushed6_A m c t]
  unfold out0_A_6
  rw [View.read_writes_eq_canon _ _ _ (fun _ => cover0_A_6 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S1x384x512) hz, View.ld_unit_zero (S := S384x512) hz2]
  rw [View.readCov_unit_zero _ hz2]
  exact congrArg ((cfg0.win 6).cut (grid0.coords t)) (mean_block _ _ _ (sum_apply0 (iblk m c 0 t)))

theorem after7_A (t : Fin cfg0.N) : (dats m 0 c).flushed 7 t
    = (cfg0.win 7).cut (grid0.coords t) (blockV (iblk m c 0 t) (iblk m c 3 t)) := by
  rw [Value.flushed7_A m c t]
  unfold out0_A_7
  rw [View.read_writes_eq_canon _ _ _ (fun _ => cover0_A_7 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S1x384x512) hz, View.ld_unit_zero (S := S384x512) hz2]
  rw [View.readCov_unit_zero _ hz2]
  exact congrArg ((cfg0.win 7).cut (grid0.coords t)) (meanSq_block _ _ _ (sum_apply0 (iblk m c 0 t)))

theorem blockG_eq (t : Fin cfg0.N) (i : S1x384x512.Idx) : blockG (iblk m c 0 t) i = grads (S0 m c) (at_ t i) :=
  Finset.sum_congr rfl fun s _ => slot0 m c t s _ _

theorem cut4 (f : S1x384x512.Idx → EReal) (A : S1x384x1024.Idx → EReal) (t : Fin cfg0.N) (h : ∀ i, f i = A (at_ t i)) :
    (cfg0.win 4).cut (grid0.coords t) f = ((cfg0.win 4).blk t).view.read (Elt Ideal) A := by
  funext i
  rw [View.read_apply]
  have h0 : (i 0 : ℕ) < 1 := (i 0).isLt
  have h1 : (i 1 : ℕ) < 384 := (i 1).isLt
  have h2 : (i 2 : ℕ) < 512 := (i 2).isLt
  refine (congrArg f ?_).trans ((h (ix3 ⟨(i 0 : ℕ), h0⟩ ⟨(i 1 : ℕ), h1⟩ ⟨(i 2 : ℕ), h2⟩)).trans (congrArg A ?_))
  · funext q
    match q with
    | ⟨0, _⟩ => rfl
    | ⟨1, _⟩ => rfl
    | ⟨2, _⟩ => rfl
  · funext q; apply Fin.ext
    match q with
    | ⟨0, _⟩ => show t.val / 2 = win0_4.index t 0 * 1 + 1 * (i 0 : ℕ)
                rw [(index4 t).1]; omega
    | ⟨1, _⟩ => show (i 1 : ℕ) = win0_4.index t 1 * 384 + 1 * (i 1 : ℕ)
                rw [(index4 t).2.1]; omega
    | ⟨2, _⟩ => show t.val % 2 * 512 + (i 2 : ℕ) = win0_4.index t 2 * 512 + 1 * (i 2 : ℕ)
                rw [(index4 t).2.2]; omega

theorem flushed4 (t : Fin cfg0.N) : (dats m 0 c).flushed 4 t
    = ((cfg0.win 4).blk t).view.read (Elt Ideal) (grads (S0 m c)) := by
  rw [after4_A]
  exact cut4 _ _ t fun i => blockG_eq m c t i

/-- Every entry of a weight lies in the block of a point. -/
theorem inside (i : S1x384x1024.Idx) : ∃ t : Fin cfg0.N, ∀ a : Fin 3,
    win0_4.index t a * S1x384x512.size a ≤ (i a : ℕ) ∧ (i a : ℕ) < win0_4.index t a * S1x384x512.size a + S1x384x512.size a := by
  have h0 : (i 0 : ℕ) < 1 := (i 0).isLt
  have h1 : (i 1 : ℕ) < 384 := (i 1).isLt
  have h2 : (i 2 : ℕ) < 1024 := (i 2).isLt
  have hN : cfg0.N = 2 := N_0
  obtain ⟨t, ht⟩ : ∃ t : Fin cfg0.N, t.val = (i 0 : ℕ) * 2 + (i 2 : ℕ) / 512 := ⟨⟨_, by omega⟩, rfl⟩
  have e := index4 t
  refine ⟨t, fun a => ?_⟩
  match a with
  | ⟨0, _⟩ => show win0_4.index t 0 * 1 ≤ (i 0 : ℕ) ∧ (i 0 : ℕ) < win0_4.index t 0 * 1 + 1
              rw [e.1, ht]; omega
  | ⟨1, _⟩ => show win0_4.index t 1 * 384 ≤ (i 1 : ℕ) ∧ (i 1 : ℕ) < win0_4.index t 1 * 384 + 384
              rw [e.2.1]; omega
  | ⟨2, _⟩ => show win0_4.index t 2 * 512 ≤ (i 2 : ℕ) ∧ (i 2 : ℕ) < win0_4.index t 2 * 512 + 512
              rw [e.2.2, ht]; omega

theorem cover4 (i : S1x384x1024.Idx) : ∃ t : Fin cfg0.N, (cfg0.win 4).flush t = true ∧ i ∈ ((cfg0.win 4).blk t).view.set := by
  obtain ⟨t, ht⟩ := inside i
  refine ⟨t, flush0_4 _, ?_⟩
  show i ∈ ((View.whole main_v0_0).slice (win0_4.rect t)).set
  rw [View.set_slice_whole, Rect.mem_set_unit]
  exact ht

theorem final4 : (dats m 0 c).arrAt 4 cfg0.N = grads (S0 m c) :=
  (dats m 0 c).arrAt_eq_of_cover 4 _ (fun t _ => flushed4 m c t) cover4

theorem cut5 (f : S1x384x512.Idx → EReal) (A : S1x384x1024.Idx → EReal) (t : Fin cfg0.N) (h : ∀ i, f i = A (at_ t i)) :
    (cfg0.win 5).cut (grid0.coords t) f = ((cfg0.win 5).blk t).view.read (Elt Ideal) A :=
  cut4 f A t h

theorem flushed5 (t : Fin cfg0.N) : (dats m 0 c).flushed 5 t
    = ((cfg0.win 5).blk t).view.read (Elt Ideal) (deltas (S0 m c) (aw m c) (am m c) (av m c)) := by
  rw [after5_A]
  exact cut5 _ _ t fun i => by unfold blockD deltas; rw [blockG_eq m c t i, block1, block2, block3]

theorem cover5 (i : S1x384x1024.Idx) : ∃ t : Fin cfg0.N, (cfg0.win 5).flush t = true ∧ i ∈ ((cfg0.win 5).blk t).view.set := by
  obtain ⟨t, ht⟩ := inside i
  refine ⟨t, flush0_5 _, ?_⟩
  show i ∈ ((View.whole main_v0_1).slice (win0_5.rect t)).set
  rw [View.set_slice_whole, Rect.mem_set_unit]
  exact ht

theorem final5 : (dats m 0 c).arrAt 5 cfg0.N = deltas (S0 m c) (aw m c) (am m c) (av m c) :=
  (dats m 0 c).arrAt_eq_of_cover 5 _ (fun t _ => flushed5 m c t) cover5

theorem cut6 (f : S1x384x512.Idx → EReal) (A : S1x384x1024.Idx → EReal) (t : Fin cfg0.N) (h : ∀ i, f i = A (at_ t i)) :
    (cfg0.win 6).cut (grid0.coords t) f = ((cfg0.win 6).blk t).view.read (Elt Ideal) A :=
  cut4 f A t h

theorem flushed6 (t : Fin cfg0.N) : (dats m 0 c).flushed 6 t
    = ((cfg0.win 6).blk t).view.read (Elt Ideal) (means (S0 m c) (am m c)) := by
  rw [after6_A]
  exact cut6 _ _ t fun i => by unfold blockM means; rw [blockG_eq m c t i, block2]

theorem cover6 (i : S1x384x1024.Idx) : ∃ t : Fin cfg0.N, (cfg0.win 6).flush t = true ∧ i ∈ ((cfg0.win 6).blk t).view.set := by
  obtain ⟨t, ht⟩ := inside i
  refine ⟨t, flush0_6 _, ?_⟩
  show i ∈ ((View.whole main_v0_2).slice (win0_6.rect t)).set
  rw [View.set_slice_whole, Rect.mem_set_unit]
  exact ht

theorem final6 : (dats m 0 c).arrAt 6 cfg0.N = means (S0 m c) (am m c) :=
  (dats m 0 c).arrAt_eq_of_cover 6 _ (fun t _ => flushed6 m c t) cover6

theorem cut7 (f : S1x384x512.Idx → EReal) (A : S1x384x1024.Idx → EReal) (t : Fin cfg0.N) (h : ∀ i, f i = A (at_ t i)) :
    (cfg0.win 7).cut (grid0.coords t) f = ((cfg0.win 7).blk t).view.read (Elt Ideal) A :=
  cut4 f A t h

theorem flushed7 (t : Fin cfg0.N) : (dats m 0 c).flushed 7 t
    = ((cfg0.win 7).blk t).view.read (Elt Ideal) (meanSqs (S0 m c) (av m c)) := by
  rw [after7_A]
  exact cut7 _ _ t fun i => by unfold blockV meanSqs; rw [blockG_eq m c t i, block3]

theorem cover7 (i : S1x384x1024.Idx) : ∃ t : Fin cfg0.N, (cfg0.win 7).flush t = true ∧ i ∈ ((cfg0.win 7).blk t).view.set := by
  obtain ⟨t, ht⟩ := inside i
  refine ⟨t, flush0_7 _, ?_⟩
  show i ∈ ((View.whole main_v0_3).slice (win0_7.rect t)).set
  rw [View.set_slice_whole, Rect.mem_set_unit]
  exact ht

theorem final7 : (dats m 0 c).arrAt 7 cfg0.N = meanSqs (S0 m c) (av m c) :=
  (dats m 0 c).arrAt_eq_of_cover 7 _ (fun t _ => flushed7 m c t) cover7

/-- The run, read: each result at its formula, the arguments unchanged. -/
theorem run : θ_run defs (onTc (τ := τ) (main (F := Ideal))) ⟨m, fun _ => 0, ρ⟩ fun r => ∀ c : Dev nD,
      r.2.mem ((c : Thread nD τ).loc main_v0_0) = grads (S0 m c)
      ∧ r.2.mem ((c : Thread nD τ).loc main_v0_1) = deltas (S0 m c) (aw m c) (am m c) (av m c)
      ∧ r.2.mem ((c : Thread nD τ).loc main_v0_2) = means (S0 m c) (am m c)
      ∧ r.2.mem ((c : Thread nD τ).loc main_v0_3) = meanSqs (S0 m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c),
    (h c).2.2.1.trans (final6 m c), (h c).2.2.2.1.trans (final7 m c), (h c).2.2.2.2⟩) (Value.run_blocks m ρ)

end

/-! ## The reference -/

section
open Cert.AdamGmlpOutRefIdeal.Read

theorem ref_grads : val_main_v2 (F := Ideal) s0 = grads s0 := by
  funext i
  rw [val_main_v2_apply, val_main_v1_apply, val_main_cst_apply,
    show (FloatOps.ofBits (F := Ideal) .f32 0x00000000#32 : EReal) = 0 from Ideal.ofBits_zero_f32, zero_add]
  refine Finset.sum_congr rfl fun s _ => ?_
  rw [val_main_v0_apply]
  refine congrArg s0 (funext fun q => Fin.ext ?_)
  match q with
  | ⟨0, _⟩ => rfl
  | ⟨1, _⟩ => rfl
  | ⟨2, _⟩ => rfl

theorem ref_mean : val_main_v7 (F := Ideal) s0 m = means s0 m := by
  funext i
  simp only [val_main_v3_apply, val_main_v4_apply, val_main_v5_apply, val_main_v6_apply, val_main_v7_apply,
    val_main_cst_0_apply, val_main_cst_1_apply, val_main_cst_2_apply, val_main_cst_3_apply, val_main_cst_4_apply, val_main_cst_5_apply, val_main_cst_6_apply, val_main_cst_7_apply, val_main_cst_8_apply, ref_grads]
  rfl

theorem ref_meanSq : val_main_v13 (F := Ideal) s0 v = meanSqs s0 v := by
  funext i
  simp only [val_main_v8_apply, val_main_v9_apply, val_main_v10_apply, val_main_v11_apply, val_main_v12_apply, val_main_v13_apply,
    val_main_cst_0_apply, val_main_cst_1_apply, val_main_cst_2_apply, val_main_cst_3_apply, val_main_cst_4_apply, val_main_cst_5_apply, val_main_cst_6_apply, val_main_cst_7_apply, val_main_cst_8_apply, ref_grads]
  rfl

theorem ref_delta : val_main_v26 (F := Ideal) s0 w m v = deltas s0 w m v := by
  funext i
  simp only [val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply,
    val_main_cst_0_apply, val_main_cst_1_apply, val_main_cst_2_apply, val_main_cst_3_apply, val_main_cst_4_apply, val_main_cst_5_apply, val_main_cst_6_apply, val_main_cst_7_apply, val_main_cst_8_apply, ref_grads]
  rfl

end

/-! ## The claims -/

theorem frame_ref : Cert.quiescent_AdamGmlpOutRefIdeal := fun m ρ _ =>
  (θ_run _ _ _).mono (fun r h => ⟨fun c => (h c).2.2.2.2, sem_eq_zero_of_no_sems (by decide) r.2⟩)
    (Cert.AdamGmlpOutRefIdeal.Value.run (F := Ideal) m ρ)

theorem algebraic : Cert.algebraic_AdamGmlpOutIdeal_AdamGmlpOutRefIdeal := by
  intro m ρ m' ρ' _ args
  refine ⟨fun c => grads (S0 m c), fun c => deltas (S0 m c) (aw m c) (am m c) (av m c),
    fun c => means (S0 m c) (am m c), fun c => meanSqs (S0 m c) (av m c), run m ρ, ?_⟩
  refine (θ_run _ _ _).mono (fun r h c => ?_) (Cert.AdamGmlpOutRefIdeal.Value.run (F := Ideal) m' ρ')
  obtain ⟨a0, a1, a2, a3⟩ := args c
  obtain ⟨h0, h1, h2, h3, hk⟩ := h c
  refine ⟨h0.trans ?_, h1.trans ?_, h2.trans ?_, h3.trans ?_, hk⟩
  · rw [Cert.AdamGmlpOutRefIdeal.Read.val_main_v2_eq, a0]
    exact ref_grads _
  · rw [Cert.AdamGmlpOutRefIdeal.Read.val_main_v26_eq, a0, a1, a2, a3]
    exact ref_delta _ _ _ _
  · rw [Cert.AdamGmlpOutRefIdeal.Read.val_main_v7_eq, a0, a2]
    exact ref_mean _ _
  · rw [Cert.AdamGmlpOutRefIdeal.Read.val_main_v13_eq, a0, a3]
    exact ref_meanSq _ _

end Cert.Adam.GmlpOut

end
-- ==== Proof.Adam.MixIn.lean ====
/-
  The optimiser's step on a mixer's first weight: the slots of the eight parts of a gradient are added, half of the columns at a point.
-/
module

public import Idealize.ShloMosaic.Lib.Pointwise
public import Idealize.ShloMosaic.Lib.Quiescent
public import proofs.«01_k».proof.Defs
public import proofs.«01_k».proof.Proof.Adam
public import proofs.«01_k».proof.Proof.Gen.AdamMixInIdeal.Value
public import proofs.«01_k».proof.Proof.Gen.AdamMixInRefIdeal.Run
public import proofs.«01_k».proof.Proof.Gen.AdamMixInRefIdeal.Read

@[expose] public section

set_option maxRecDepth 16384

noncomputable section

open Idealize.ShloMosaic Idealize.ShloMosaic.TcCoe Idealize.SL.Sem

namespace Cert.Adam.MixIn

open Cert.AdamMixInIdeal Cert.AdamMixInIdeal.Gen

/-! ## The results as functions of the arguments -/

/-- The gradient: the sum of its eight slots. -/
def grads (s0 : S8x640x1024.Idx → EReal) (i : S1x1024x640.Idx) : EReal := ∑ s : Fin 8, s0 (ix3 s (i 2) (i 1))

variable (s0 : S8x640x1024.Idx → EReal) (w m v : S1x1024x640.Idx → EReal)

def deltas (i : S1x1024x640.Idx) : EReal := delta (w i) (grads s0 i) (m i) (v i)
def means (i : S1x1024x640.Idx) : EReal := mean (grads s0 i) (m i)
def meanSqs (i : S1x1024x640.Idx) : EReal := meanSq (grads s0 i) (v i)

/-! ## A point's blocks -/

section
variable (X : S8x640x512.Idx → EReal) (G : S640x512.Idx → EReal) (W M V : S1x512x640.Idx → EReal)

/-- The gradient's block. -/
def blockG (i : S1x512x640.Idx) : EReal := ∑ s : Fin 8, X (ix3 s (i 2) (i 1))
def blockD (i : S1x512x640.Idx) : EReal := delta (W i) (blockG X i) (M i) (V i)
def blockM (i : S1x512x640.Idx) : EReal := mean (blockG X i) (M i)
def blockV (i : S1x512x640.Idx) : EReal := meanSq (blockG X i) (V i)

theorem sum_apply0 (a : Fin 640) (k : Fin 512) : k0_pay4 (F := Ideal)
    (View.ld X (Rect.unit (s := S8x640x512) ![0, 0, 0] S1x640x512.size inb_S8x640x512_S1x640x512_0_0_0))
    (View.ld X (Rect.unit (s := S8x640x512) ![1, 0, 0] S1x640x512.size inb_S8x640x512_S1x640x512_1_0_0))
    (View.ld X (Rect.unit (s := S8x640x512) ![2, 0, 0] S1x640x512.size inb_S8x640x512_S1x640x512_2_0_0))
    (View.ld X (Rect.unit (s := S8x640x512) ![3, 0, 0] S1x640x512.size inb_S8x640x512_S1x640x512_3_0_0))
    (View.ld X (Rect.unit (s := S8x640x512) ![4, 0, 0] S1x640x512.size inb_S8x640x512_S1x640x512_4_0_0))
    (View.ld X (Rect.unit (s := S8x640x512) ![5, 0, 0] S1x640x512.size inb_S8x640x512_S1x640x512_5_0_0))
    (View.ld X (Rect.unit (s := S8x640x512) ![6, 0, 0] S1x640x512.size inb_S8x640x512_S1x640x512_6_0_0))
    (View.ld X (Rect.unit (s := S8x640x512) ![7, 0, 0] S1x640x512.size inb_S8x640x512_S1x640x512_7_0_0))
    (ix2 a k) = ∑ s : Fin 8, X (ix3 s a k) := by
  rw [Fin.sum_univ_eight]
  unfold k0_pay4
  pointwise

theorem grad_apply (a : Fin 512) (k : Fin 640) : (k0_pay6 (F := Ideal) G : S1x512x640.Idx → EReal) (ix3 0 a k)
    = G (ix2 k a) := by
  unfold k0_pay6 k0_pay5
  pointwise

theorem delta_apply (a : Fin 512) (k : Fin 640) : (k0_pay1 (F := Ideal) (k0_pay7 (F := Ideal) W) (k0_pay10 (F := Ideal) G M V) : S1x512x640.Idx → EReal) (ix3 0 a k)
    = delta (W (ix3 0 a k)) (G (ix2 k a)) (M (ix3 0 a k)) (V (ix3 0 a k)) := by
  unfold k0_pay1 k0_pay7 k0_pay10 k0_pay8 k0_pay9 k0_pay5
  pointwise
  rfl

theorem mean_apply (a : Fin 512) (k : Fin 640) : (k0_pay2 (F := Ideal) (k0_pay8 (F := Ideal) G M) : S1x512x640.Idx → EReal) (ix3 0 a k)
    = mean (G (ix2 k a)) (M (ix3 0 a k)) := by
  unfold k0_pay2 k0_pay8 k0_pay5
  pointwise
  rfl

theorem meanSq_apply (a : Fin 512) (k : Fin 640) : (k0_pay3 (F := Ideal) (k0_pay9 (F := Ideal) G V) : S1x512x640.Idx → EReal) (ix3 0 a k)
    = meanSq (G (ix2 k a)) (V (ix3 0 a k)) := by
  unfold k0_pay3 k0_pay9 k0_pay5
  pointwise
  rfl

theorem eq_ix3 (i : S1x512x640.Idx) : i = ix3 0 (i 1) (i 2) := by
  funext q
  match q with
  | ⟨0, _⟩ => exact Subsingleton.elim (α := Fin 1) _ _
  | ⟨1, _⟩ => rfl
  | ⟨2, _⟩ => rfl

theorem grad_block (h : ∀ (a : Fin 640) (k : Fin 512), G (ix2 a k) = ∑ s : Fin 8, X (ix3 s a k)) :
    (k0_pay6 (F := Ideal) G : S1x512x640.Idx → EReal) = blockG X := by
  funext i
  have e := eq_ix3 i
  rw [e]
  refine (grad_apply G (i 1) (i 2)).trans ?_
  rw [h (i 2) (i 1)]
  rfl

theorem delta_block (h : ∀ (a : Fin 640) (k : Fin 512), G (ix2 a k) = ∑ s : Fin 8, X (ix3 s a k)) :
    (k0_pay1 (F := Ideal) (k0_pay7 (F := Ideal) W) (k0_pay10 (F := Ideal) G M V) : S1x512x640.Idx → EReal) = blockD X W M V := by
  funext i
  have e := eq_ix3 i
  rw [e]
  refine (delta_apply G W M V (i 1) (i 2)).trans ?_
  rw [h (i 2) (i 1)]
  rfl

theorem mean_block (h : ∀ (a : Fin 640) (k : Fin 512), G (ix2 a k) = ∑ s : Fin 8, X (ix3 s a k)) :
    (k0_pay2 (F := Ideal) (k0_pay8 (F := Ideal) G M) : S1x512x640.Idx → EReal) = blockM X M := by
  funext i
  have e := eq_ix3 i
  rw [e]
  refine (mean_apply G M (i 1) (i 2)).trans ?_
  rw [h (i 2) (i 1)]
  rfl

theorem meanSq_block (h : ∀ (a : Fin 640) (k : Fin 512), G (ix2 a k) = ∑ s : Fin 8, X (ix3 s a k)) :
    (k0_pay3 (F := Ideal) (k0_pay9 (F := Ideal) G V) : S1x512x640.Idx → EReal) = blockV X V := by
  funext i
  have e := eq_ix3 i
  rw [e]
  refine (meanSq_apply G V (i 1) (i 2)).trans ?_
  rw [h (i 2) (i 1)]
  rfl

end

/-! ## What a point reads and writes -/

section
variable (m : (ℓ : Loc nD τ sig) → Buf (Elt Ideal) ℓ) (ρ : Dev nD → PrngReg) (c : Dev nD)
abbrev S0 : S8x640x1024.Idx → EReal := m ((c : Thread nD τ).loc main_arg0)
abbrev aw : S1x1024x640.Idx → EReal := m ((c : Thread nD τ).loc main_arg1)
abbrev am : S1x1024x640.Idx → EReal := m ((c : Thread nD τ).loc main_arg2)
abbrev av : S1x1024x640.Idx → EReal := m ((c : Thread nD τ).loc main_arg3)

theorem points (t : Fin cfg0.N) : t.val < 2 := t.isLt

/-- Where the block of a point lies in a weight. -/
def at_ (t : Fin cfg0.N) (i : S1x512x640.Idx) : S1x1024x640.Idx :=
  ix3 ⟨t.val / 2, by have h := points t; omega⟩ ⟨t.val % 2 * 512 + (i 1).val, by have h : (i 1).val < 512 := (i 1).isLt; omega⟩ (i 2)

theorem index0 : ∀ t : Fin cfg0.N, win0_0.index t 0 = 0 ∧ win0_0.index t 1 = 0 ∧ win0_0.index t 2 = t.val % 2 :=
  (by decide +kernel : ∀ t : Fin grid0.N, win0_0.index t 0 = 0 ∧ win0_0.index t 1 = 0 ∧ win0_0.index t 2 = t.val % 2)

theorem index1 : ∀ t : Fin cfg0.N, win0_1.index t 0 = t.val / 2 ∧ win0_1.index t 1 = t.val % 2 ∧ win0_1.index t 2 = 0 :=
  (by decide +kernel : ∀ t : Fin grid0.N, win0_1.index t 0 = t.val / 2 ∧ win0_1.index t 1 = t.val % 2 ∧ win0_1.index t 2 = 0)

theorem index2 : ∀ t : Fin cfg0.N, win0_2.index t 0 = t.val / 2 ∧ win0_2.index t 1 = t.val % 2 ∧ win0_2.index t 2 = 0 :=
  (by decide +kernel : ∀ t : Fin grid0.N, win0_2.index t 0 = t.val / 2 ∧ win0_2.index t 1 = t.val % 2 ∧ win0_2.index t 2 = 0)

theorem index3 : ∀ t : Fin cfg0.N, win0_3.index t 0 = t.val / 2 ∧ win0_3.index t 1 = t.val % 2 ∧ win0_3.index t 2 = 0 :=
  (by decide +kernel : ∀ t : Fin grid0.N, win0_3.index t 0 = t.val / 2 ∧ win0_3.index t 1 = t.val % 2 ∧ win0_3.index t 2 = 0)

theorem index4 : ∀ t : Fin cfg0.N, win0_4.index t 0 = t.val / 2 ∧ win0_4.index t 1 = t.val % 2 ∧ win0_4.index t 2 = 0 :=
  (by decide +kernel : ∀ t : Fin grid0.N, win0_4.index t 0 = t.val / 2 ∧ win0_4.index t 1 = t.val % 2 ∧ win0_4.index t 2 = 0)

theorem slot0 (t : Fin cfg0.N) (s : Fin 8) (a : Fin 640) (k : Fin 512) :
    iblk m c 0 t (ix3 s a k) = S0 m c (ix3 s a ⟨t.val % 2 * 512 + k.val, by omega⟩) := by
  unfold iblk
  rw [View.read_apply]
  show V m c main_arg0 _ = _
  rw [V_main_arg0 m c]
  congr 1; funext q; apply Fin.ext
  match q with
  | ⟨0, _⟩ => show win0_0.index t 0 * 8 + 1 * s.val = s.val
              rw [(index0 t).1]; omega
  | ⟨1, _⟩ => show win0_0.index t 1 * 640 + 1 * a.val = a.val
              rw [(index0 t).2.1]; omega
  | ⟨2, _⟩ => show win0_0.index t 2 * 512 + 1 * k.val = t.val % 2 * 512 + k.val
              rw [(index0 t).2.2]; omega

theorem block1 (t : Fin cfg0.N) (i : S1x512x640.Idx) : iblk m c 1 t i = aw m c (at_ t i) := by
  have h0 : (i 0).val < 1 := (i 0).isLt
  unfold iblk
  rw [View.read_apply]
  show V m c main_arg1 _ = _
  rw [V_main_arg1 m c]
  congr 1; funext q; apply Fin.ext
  match q with
  | ⟨0, _⟩ => show win0_1.index t 0 * 1 + 1 * (i 0).val = t.val / 2
              rw [(index1 t).1]; omega
  | ⟨1, _⟩ => show win0_1.index t 1 * 512 + 1 * (i 1).val = t.val % 2 * 512 + (i 1).val
              rw [(index1 t).2.1]; omega
  | ⟨2, _⟩ => show win0_1.index t 2 * 640 + 1 * (i 2).val = (i 2).val
              rw [(index1 t).2.2]; omega

theorem block2 (t : Fin cfg0.N) (i : S1x512x640.Idx) : iblk m c 2 t i = am m c (at_ t i) := by
  have h0 : (i 0).val < 1 := (i 0).isLt
  unfold iblk
  rw [View.read_apply]
  show V m c main_arg2 _ = _
  rw [V_main_arg2 m c]
  congr 1; funext q; apply Fin.ext
  match q with
  | ⟨0, _⟩ => show win0_2.index t 0 * 1 + 1 * (i 0).val = t.val / 2
              rw [(index2 t).1]; omega
  | ⟨1, _⟩ => show win0_2.index t 1 * 512 + 1 * (i 1).val = t.val % 2 * 512 + (i 1).val
              rw [(index2 t).2.1]; omega
  | ⟨2, _⟩ => show win0_2.index t 2 * 640 + 1 * (i 2).val = (i 2).val
              rw [(index2 t).2.2]; omega

theorem block3 (t : Fin cfg0.N) (i : S1x512x640.Idx) : iblk m c 3 t i = av m c (at_ t i) := by
  have h0 : (i 0).val < 1 := (i 0).isLt
  unfold iblk
  rw [View.read_apply]
  show V m c main_arg3 _ = _
  rw [V_main_arg3 m c]
  congr 1; funext q; apply Fin.ext
  match q with
  | ⟨0, _⟩ => show win0_3.index t 0 * 1 + 1 * (i 0).val = t.val / 2
              rw [(index3 t).1]; omega
  | ⟨1, _⟩ => show win0_3.index t 1 * 512 + 1 * (i 1).val = t.val % 2 * 512 + (i 1).val
              rw [(index3 t).2.1]; omega
  | ⟨2, _⟩ => show win0_3.index t 2 * 640 + 1 * (i 2).val = (i 2).val
              rw [(index3 t).2.2]; omega

theorem hz : (![0, 0, 0] : Fin 3 → Nat) = fun _ => 0 := funext fun a => by fin_cases a <;> rfl
theorem hz2 : (![0, 0] : Fin 2 → Nat) = fun _ => 0 := funext fun a => by fin_cases a <;> rfl

theorem after4_A (t : Fin cfg0.N) : (dats m 0 c).flushed 4 t
    = (cfg0.win 4).cut (grid0.coords t) (blockG (iblk m c 0 t)) := by
  rw [Value.flushed4_A m c t]
  unfold out0_A_4
  rw [View.read_writes_eq_canon _ _ _ (fun _ => cover0_A_4 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S1x512x640) hz, View.ld_unit_zero (S := S640x512) hz2]
  rw [View.readCov_unit_zero _ hz2]
  exact congrArg ((cfg0.win 4).cut (grid0.coords t)) (grad_block _ _ (sum_apply0 (iblk m c 0 t)))

theorem after5_A (t : Fin cfg0.N) : (dats m 0 c).flushed 5 t
    = (cfg0.win 5).cut (grid0.coords t) (blockD (iblk m c 0 t) (iblk m c 1 t) (iblk m c 2 t) (iblk m c 3 t)) := by
  rw [Value.flushed5_A m c t]
  unfold out0_A_5
  rw [View.read_writes_eq_canon _ _ _ (fun _ => cover0_A_5 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S1x512x640) hz, View.ld_unit_zero (S := S640x512) hz2]
  rw [View.readCov_unit_zero _ hz2]
  exact congrArg ((cfg0.win 5).cut (grid0.coords t)) (delta_block _ _ _ _ _ (sum_apply0 (iblk m c 0 t)))

theorem after6_A (t : Fin cfg0.N) : (dats m 0 c).flushed 6 t
    = (cfg0.win 6).cut (grid0.coords t) (blockM (iblk m c 0 t) (iblk m c 2 t)) := by
  rw [Value.flushed6_A m c t]
  unfold out0_A_6
  rw [View.read_writes_eq_canon _ _ _ (fun _ => cover0_A_6 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S1x512x640) hz, View.ld_unit_zero (S := S640x512) hz2]
  rw [View.readCov_unit_zero _ hz2]
  exact congrArg ((cfg0.win 6).cut (grid0.coords t)) (mean_block _ _ _ (sum_apply0 (iblk m c 0 t)))

theorem after7_A (t : Fin cfg0.N) : (dats m 0 c).flushed 7 t
    = (cfg0.win 7).cut (grid0.coords t) (blockV (iblk m c 0 t) (iblk m c 3 t)) := by
  rw [Value.flushed7_A m c t]
  unfold out0_A_7
  rw [View.read_writes_eq_canon _ _ _ (fun _ => cover0_A_7 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread,
    View.ld_unit_zero (S := S1x512x640) hz, View.ld_unit_zero (S := S640x512) hz2]
  rw [View.readCov_unit_zero _ hz2]
  exact congrArg ((cfg0.win 7).cut (grid0.coords t)) (meanSq_block _ _ _ (sum_apply0 (iblk m c 0 t)))

theorem blockG_eq (t : Fin cfg0.N) (i : S1x512x640.Idx) : blockG (iblk m c 0 t) i = grads (S0 m c) (at_ t i) :=
  Finset.sum_congr rfl fun s _ => slot0 m c t s _ _

theorem cut4 (f : S1x512x640.Idx → EReal) (A : S1x1024x640.Idx → EReal) (t : Fin cfg0.N) (h : ∀ i, f i = A (at_ t i)) :
    (cfg0.win 4).cut (grid0.coords t) f = ((cfg0.win 4).blk t).view.read (Elt Ideal) A := by
  funext i
  rw [View.read_apply]
  have h0 : (i 0 : ℕ) < 1 := (i 0).isLt
  have h1 : (i 1 : ℕ) < 512 := (i 1).isLt
  have h2 : (i 2 : ℕ) < 640 := (i 2).isLt
  refine (congrArg f ?_).trans ((h (ix3 ⟨(i 0 : ℕ), h0⟩ ⟨(i 1 : ℕ), h1⟩ ⟨(i 2 : ℕ), h2⟩)).trans (congrArg A ?_))
  · funext q
    match q with
    | ⟨0, _⟩ => rfl
    | ⟨1, _⟩ => rfl
    | ⟨2, _⟩ => rfl
  · funext q; apply Fin.ext
    match q with
    | ⟨0, _⟩ => show t.val / 2 = win0_4.index t 0 * 1 + 1 * (i 0 : ℕ)
                rw [(index4 t).1]; omega
    | ⟨1, _⟩ => show t.val % 2 * 512 + (i 1 : ℕ) = win0_4.index t 1 * 512 + 1 * (i 1 : ℕ)
                rw [(index4 t).2.1]; omega
    | ⟨2, _⟩ => show (i 2 : ℕ) = win0_4.index t 2 * 640 + 1 * (i 2 : ℕ)
                rw [(index4 t).2.2]; omega

theorem flushed4 (t : Fin cfg0.N) : (dats m 0 c).flushed 4 t
    = ((cfg0.win 4).blk t).view.read (Elt Ideal) (grads (S0 m c)) := by
  rw [after4_A]
  exact cut4 _ _ t fun i => blockG_eq m c t i

/-- Every entry of a weight lies in the block of a point. -/
theorem inside (i : S1x1024x640.Idx) : ∃ t : Fin cfg0.N, ∀ a : Fin 3,
    win0_4.index t a * S1x512x640.size a ≤ (i a : ℕ) ∧ (i a : ℕ) < win0_4.index t a * S1x512x640.size a + S1x512x640.size a := by
  have h0 : (i 0 : ℕ) < 1 := (i 0).isLt
  have h1 : (i 1 : ℕ) < 1024 := (i 1).isLt
  have h2 : (i 2 : ℕ) < 640 := (i 2).isLt
  have hN : cfg0.N = 2 := N_0
  obtain ⟨t, ht⟩ : ∃ t : Fin cfg0.N, t.val = (i 0 : ℕ) * 2 + (i 1 : ℕ) / 512 := ⟨⟨_, by omega⟩, rfl⟩
  have e := index4 t
  refine ⟨t, fun a => ?_⟩
  match a with
  | ⟨0, _⟩ => show win0_4.index t 0 * 1 ≤ (i 0 : ℕ) ∧ (i 0 : ℕ) < win0_4.index t 0 * 1 + 1
              rw [e.1, ht]; omega
  | ⟨1, _⟩ => show win0_4.index t 1 * 512 ≤ (i 1 : ℕ) ∧ (i 1 : ℕ) < win0_4.index t 1 * 512 + 512
              rw [e.2.1, ht]; omega
  | ⟨2, _⟩ => show win0_4.index t 2 * 640 ≤ (i 2 : ℕ) ∧ (i 2 : ℕ) < win0_4.index t 2 * 640 + 640
              rw [e.2.2]; omega

theorem cover4 (i : S1x1024x640.Idx) : ∃ t : Fin cfg0.N, (cfg0.win 4).flush t = true ∧ i ∈ ((cfg0.win 4).blk t).view.set := by
  obtain ⟨t, ht⟩ := inside i
  refine ⟨t, flush0_4 _, ?_⟩
  show i ∈ ((View.whole main_v0_0).slice (win0_4.rect t)).set
  rw [View.set_slice_whole, Rect.mem_set_unit]
  exact ht

theorem final4 : (dats m 0 c).arrAt 4 cfg0.N = grads (S0 m c) :=
  (dats m 0 c).arrAt_eq_of_cover 4 _ (fun t _ => flushed4 m c t) cover4

theorem cut5 (f : S1x512x640.Idx → EReal) (A : S1x1024x640.Idx → EReal) (t : Fin cfg0.N) (h : ∀ i, f i = A (at_ t i)) :
    (cfg0.win 5).cut (grid0.coords t) f = ((cfg0.win 5).blk t).view.read (Elt Ideal) A :=
  cut4 f A t h

theorem flushed5 (t : Fin cfg0.N) : (dats m 0 c).flushed 5 t
    = ((cfg0.win 5).blk t).view.read (Elt Ideal) (deltas (S0 m c) (aw m c) (am m c) (av m c)) := by
  rw [after5_A]
  exact cut5 _ _ t fun i => by unfold blockD deltas; rw [blockG_eq m c t i, block1, block2, block3]

theorem cover5 (i : S1x1024x640.Idx) : ∃ t : Fin cfg0.N, (cfg0.win 5).flush t = true ∧ i ∈ ((cfg0.win 5).blk t).view.set := by
  obtain ⟨t, ht⟩ := inside i
  refine ⟨t, flush0_5 _, ?_⟩
  show i ∈ ((View.whole main_v0_1).slice (win0_5.rect t)).set
  rw [View.set_slice_whole, Rect.mem_set_unit]
  exact ht

theorem final5 : (dats m 0 c).arrAt 5 cfg0.N = deltas (S0 m c) (aw m c) (am m c) (av m c) :=
  (dats m 0 c).arrAt_eq_of_cover 5 _ (fun t _ => flushed5 m c t) cover5

theorem cut6 (f : S1x512x640.Idx → EReal) (A : S1x1024x640.Idx → EReal) (t : Fin cfg0.N) (h : ∀ i, f i = A (at_ t i)) :
    (cfg0.win 6).cut (grid0.coords t) f = ((cfg0.win 6).blk t).view.read (Elt Ideal) A :=
  cut4 f A t h

theorem flushed6 (t : Fin cfg0.N) : (dats m 0 c).flushed 6 t
    = ((cfg0.win 6).blk t).view.read (Elt Ideal) (means (S0 m c) (am m c)) := by
  rw [after6_A]
  exact cut6 _ _ t fun i => by unfold blockM means; rw [blockG_eq m c t i, block2]

theorem cover6 (i : S1x1024x640.Idx) : ∃ t : Fin cfg0.N, (cfg0.win 6).flush t = true ∧ i ∈ ((cfg0.win 6).blk t).view.set := by
  obtain ⟨t, ht⟩ := inside i
  refine ⟨t, flush0_6 _, ?_⟩
  show i ∈ ((View.whole main_v0_2).slice (win0_6.rect t)).set
  rw [View.set_slice_whole, Rect.mem_set_unit]
  exact ht

theorem final6 : (dats m 0 c).arrAt 6 cfg0.N = means (S0 m c) (am m c) :=
  (dats m 0 c).arrAt_eq_of_cover 6 _ (fun t _ => flushed6 m c t) cover6

theorem cut7 (f : S1x512x640.Idx → EReal) (A : S1x1024x640.Idx → EReal) (t : Fin cfg0.N) (h : ∀ i, f i = A (at_ t i)) :
    (cfg0.win 7).cut (grid0.coords t) f = ((cfg0.win 7).blk t).view.read (Elt Ideal) A :=
  cut4 f A t h

theorem flushed7 (t : Fin cfg0.N) : (dats m 0 c).flushed 7 t
    = ((cfg0.win 7).blk t).view.read (Elt Ideal) (meanSqs (S0 m c) (av m c)) := by
  rw [after7_A]
  exact cut7 _ _ t fun i => by unfold blockV meanSqs; rw [blockG_eq m c t i, block3]

theorem cover7 (i : S1x1024x640.Idx) : ∃ t : Fin cfg0.N, (cfg0.win 7).flush t = true ∧ i ∈ ((cfg0.win 7).blk t).view.set := by
  obtain ⟨t, ht⟩ := inside i
  refine ⟨t, flush0_7 _, ?_⟩
  show i ∈ ((View.whole main_v0_3).slice (win0_7.rect t)).set
  rw [View.set_slice_whole, Rect.mem_set_unit]
  exact ht

theorem final7 : (dats m 0 c).arrAt 7 cfg0.N = meanSqs (S0 m c) (av m c) :=
  (dats m 0 c).arrAt_eq_of_cover 7 _ (fun t _ => flushed7 m c t) cover7

/-- The run, read: each result at its formula, the arguments unchanged. -/
theorem run : θ_run defs (onTc (τ := τ) (main (F := Ideal))) ⟨m, fun _ => 0, ρ⟩ fun r => ∀ c : Dev nD,
      r.2.mem ((c : Thread nD τ).loc main_v0_0) = grads (S0 m c)
      ∧ r.2.mem ((c : Thread nD τ).loc main_v0_1) = deltas (S0 m c) (aw m c) (am m c) (av m c)
      ∧ r.2.mem ((c : Thread nD τ).loc main_v0_2) = means (S0 m c) (am m c)
      ∧ r.2.mem ((c : Thread nD τ).loc main_v0_3) = meanSqs (S0 m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c),
    (h c).2.2.1.trans (final6 m c), (h c).2.2.2.1.trans (final7 m c), (h c).2.2.2.2⟩) (Value.run_blocks m ρ)

end

/-! ## The reference -/

section
open Cert.AdamMixInRefIdeal.Read

theorem ref_grads : val_main_v3 (F := Ideal) s0 = grads s0 := by
  funext i
  rw [val_main_v3_apply, val_main_v2_apply, val_main_v1_apply, val_main_cst_apply,
    show (FloatOps.ofBits (F := Ideal) .f32 0x00000000#32 : EReal) = 0 from Ideal.ofBits_zero_f32, zero_add]
  refine Finset.sum_congr rfl fun s _ => ?_
  rw [val_main_v0_apply]
  refine congrArg s0 (funext fun q => Fin.ext ?_)
  match q with
  | ⟨0, _⟩ => rfl
  | ⟨1, _⟩ => rfl
  | ⟨2, _⟩ => rfl

theorem ref_mean : val_main_v8 (F := Ideal) s0 m = means s0 m := by
  funext i
  simp only [val_main_v4_apply, val_main_v5_apply, val_main_v6_apply, val_main_v7_apply, val_main_v8_apply,
    val_main_cst_0_apply, val_main_cst_1_apply, val_main_cst_2_apply, val_main_cst_3_apply, val_main_cst_4_apply, val_main_cst_5_apply, val_main_cst_6_apply, val_main_cst_7_apply, val_main_cst_8_apply, ref_grads]
  rfl

theorem ref_meanSq : val_main_v14 (F := Ideal) s0 v = meanSqs s0 v := by
  funext i
  simp only [val_main_v9_apply, val_main_v10_apply, val_main_v11_apply, val_main_v12_apply, val_main_v13_apply, val_main_v14_apply,
    val_main_cst_0_apply, val_main_cst_1_apply, val_main_cst_2_apply, val_main_cst_3_apply, val_main_cst_4_apply, val_main_cst_5_apply, val_main_cst_6_apply, val_main_cst_7_apply, val_main_cst_8_apply, ref_grads]
  rfl

theorem ref_delta : val_main_v27 (F := Ideal) s0 w m v = deltas s0 w m v := by
  funext i
  simp only [val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply,
    val_main_cst_0_apply, val_main_cst_1_apply, val_main_cst_2_apply, val_main_cst_3_apply, val_main_cst_4_apply, val_main_cst_5_apply, val_main_cst_6_apply, val_main_cst_7_apply, val_main_cst_8_apply, ref_grads]
  rfl

end

/-! ## The claims -/

theorem frame_ref : Cert.quiescent_AdamMixInRefIdeal := fun m ρ _ =>
  (θ_run _ _ _).mono (fun r h => ⟨fun c => (h c).2.2.2.2, sem_eq_zero_of_no_sems (by decide) r.2⟩)
    (Cert.AdamMixInRefIdeal.Value.run (F := Ideal) m ρ)

theorem algebraic : Cert.algebraic_AdamMixInIdeal_AdamMixInRefIdeal := by
  intro m ρ m' ρ' _ args
  refine ⟨fun c => grads (S0 m c), fun c => deltas (S0 m c) (aw m c) (am m c) (av m c),
    fun c => means (S0 m c) (am m c), fun c => meanSqs (S0 m c) (av m c), run m ρ, ?_⟩
  refine (θ_run _ _ _).mono (fun r h c => ?_) (Cert.AdamMixInRefIdeal.Value.run (F := Ideal) m' ρ')
  obtain ⟨a0, a1, a2, a3⟩ := args c
  obtain ⟨h0, h1, h2, h3, hk⟩ := h c
  refine ⟨h0.trans ?_, h1.trans ?_, h2.trans ?_, h3.trans ?_, hk⟩
  · rw [Cert.AdamMixInRefIdeal.Read.val_main_v3_eq, a0]
    exact ref_grads _
  · rw [Cert.AdamMixInRefIdeal.Read.val_main_v27_eq, a0, a1, a2, a3]
    exact ref_delta _ _ _ _
  · rw [Cert.AdamMixInRefIdeal.Read.val_main_v8_eq, a0, a2]
    exact ref_mean _ _
  · rw [Cert.AdamMixInRefIdeal.Read.val_main_v14_eq, a0, a3]
    exact ref_meanSq _ _

end Cert.Adam.MixIn

end
-- ==== Proof.Adam.FfnIn.lean ====
/-
  The optimiser's step on the FFNs' first weight, of both layers: the slots of the eight parts of a gradient are added, half of the columns at a point.
-/
module

public import Idealize.ShloMosaic.Lib.Pointwise
public import Idealize.ShloMosaic.Lib.Quiescent
public import proofs.«01_k».proof.Defs
public import proofs.«01_k».proof.Proof.Adam
public import proofs.«01_k».proof.Proof.Gen.AdamFfnInIdeal.Value
public import proofs.«01_k».proof.Proof.Gen.AdamFfnInRefIdeal.Run
public import proofs.«01_k».proof.Proof.Gen.AdamFfnInRefIdeal.Read

@[expose] public section

set_option maxRecDepth 16384

noncomputable section

open Idealize.ShloMosaic Idealize.ShloMosaic.TcCoe Idealize.SL.Sem

namespace Cert.Adam.FfnIn

open Cert.AdamFfnInIdeal Cert.AdamFfnInIdeal.Gen

/-! ## The results as functions of the arguments -/

/-- The gradient: the sum of its eight slots. -/
def grads (s0 s1 : S8x704x1024.Idx → EReal) (i : S2x704x1024.Idx) : EReal :=
  if (i 0).val = 0 then ∑ s : Fin 8, s0 (ix3 s (i 1) (i 2)) else ∑ s : Fin 8, s1 (ix3 s (i 1) (i 2))

variable (s0 s1 : S8x704x1024.Idx → EReal) (w m v : S2x704x1024.Idx → EReal)

def deltas (i : S2x704x1024.Idx) : EReal := delta (w i) (grads s0 s1 i) (m i) (v i)
def means (i : S2x704x1024.Idx) : EReal := mean (grads s0 s1 i) (m i)
def meanSqs (i : S2x704x1024.Idx) : EReal := meanSq (grads s0 s1 i) (v i)

/-! ## A point's blocks -/

section
variable (X : S8x704x512.Idx → EReal) (G : S704x512.Idx → EReal) (W M V : S1x704x512.Idx → EReal)

/-- The gradient's block. -/
def blockG (i : S1x704x512.Idx) : EReal := ∑ s : Fin 8, X (ix3 s (i 1) (i 2))
def blockD (i : S1x704x512.Idx) : EReal := delta (W i) (blockG X i) (M i) (V i)
def blockM (i : S1x704x512.Idx) : EReal := mean (blockG X i) (M i)
def blockV (i : S1x704x512.Idx) : EReal := meanSq (blockG X i) (V i)

theorem sum_apply0 (a : Fin 704) (k : Fin 512) : k0_pay4 (F := Ideal)
    (View.ld X (Rect.unit (s := S8x704x512) ![0, 0, 0] S1x704x512.size inb_S8x704x512_S1x704x512_0_0_0))
    (View.ld X (Rect.unit (s := S8x704x512) ![1, 0, 0] S1x704x512.size inb_S8x704x512_S1x704x512_1_0_0))
    (View.ld X (Rect.unit (s := S8x704x512) ![2, 0, 0] S1x704x512.size inb_S8x704x512_S1x704x512_2_0_0))
    (View.ld X (Rect.unit (s := S8x704x512) ![3, 0, 0] S1x704x512.size inb_S8x704x512_S1x704x512_3_0_0))
    (View.ld X (Rect.unit (s := S8x704x512) ![4, 0, 0] S1x704x512.size inb_S8x704x512_S1x704x512_4_0_0))
    (View.ld X (Rect.unit (s := S8x704x512) ![5, 0, 0] S1x704x512.size inb_S8x704x512_S1x704x512_5_0_0))
    (View.ld X (Rect.unit (s := S8x704x512) ![6, 0, 0] S1x704x512.size inb_S8x704x512_S1x704x512_6_0_0))
    (View.ld X (Rect.unit (s := S8x704x512) ![7, 0, 0] S1x704x512.size inb_S8x704x512_S1x704x512_7_0_0))
    (ix2 a k) = ∑ s : Fin 8, X (ix3 s a k) := by
  rw [Fin.sum_univ_eight]
  unfold k0_pay4
  pointwise

theorem sum_apply1 (a : Fin 704) (k : Fin 512) : k0_pay5 (F := Ideal)
    (View.ld X (Rect.unit (s := S8x704x512) ![0, 0, 0] S1x704x512.size inb_S8x704x512_S1x704x512_0_0_0))
    (View.ld X (Rect.unit (s := S8x704x512) ![1, 0, 0] S1x704x512.size inb_S8x704x512_S1x704x512_1_0_0))
    (View.ld X (Rect.unit (s := S8x704x512) ![2, 0, 0] S1x704x512.size inb_S8x704x512_S1x704x512_2_0_0))
    (View.ld X (Rect.unit (s := S8x704x512) ![3, 0, 0] S1x704x512.size inb_S8x704x512_S1x704x512_3_0_0))
    (View.ld X (Rect.unit (s := S8x704x512) ![4, 0, 0] S1x704x512.size inb_S8x704x512_S1x704x512_4_0_0))
    (View.ld X (Rect.unit (s := S8x704x512) ![5, 0, 0] S1x704x512.size inb_S8x704x512_S1x704x512_5_0_0))
    (View.ld X (Rect.unit (s := S8x704x512) ![6, 0, 0] S1x704x512.size inb_S8x704x512_S1x704x512_6_0_0))
    (View.ld X (Rect.unit (s := S8x704x512) ![7, 0, 0] S1x704x512.size inb_S8x704x512_S1x704x512_7_0_0))
    (ix2 a k) = ∑ s : Fin 8, X (ix3 s a k) := by
  rw [Fin.sum_univ_eight]
  unfold k0_pay5
  pointwise

theorem grad_apply (a : Fin 704) (k : Fin 512) : (k0_pay6 (F := Ideal) G : S1x704x512.Idx → EReal) (ix3 0 a k)
    = G (ix2 a k) := by
  unfold k0_pay6
  pointwise

theorem delta_apply (a : Fin 704) (k : Fin 512) : (k0_pay1 (F := Ideal) (k0_pay7 (F := Ideal) W) (k0_pay10 (F := Ideal) G M) (k0_pay11 (F := Ideal) G V) : S1x704x512.Idx → EReal) (ix3 0 a k)
    = delta (W (ix3 0 a k)) (G (ix2 a k)) (M (ix3 0 a k)) (V (ix3 0 a k)) := by
  unfold k0_pay1 k0_pay7 k0_pay10 k0_pay11 k0_pay8 k0_pay9
  pointwise
  rfl

theorem mean_apply (a : Fin 704) (k : Fin 512) : (k0_pay2 (F := Ideal) (k0_pay8 (F := Ideal) G M) : S1x704x512.Idx → EReal) (ix3 0 a k)
    = mean (G (ix2 a k)) (M (ix3 0 a k)) := by
  unfold k0_pay2 k0_pay8
  pointwise
  rfl

theorem meanSq_apply (a : Fin 704) (k : Fin 512) : (k0_pay3 (F := Ideal) (k0_pay9 (F := Ideal) G V) : S1x704x512.Idx → EReal) (ix3 0 a k)
    = meanSq (G (ix2 a k)) (V (ix3 0 a k)) := by
  unfold k0_pay3 k0_pay9
  pointwise
  rfl

theorem eq_ix3 (i : S1x704x512.Idx) : i = ix3 0 (i 1) (i 2) := by
  funext q
  match q with
  | ⟨0, _⟩ => exact Subsingleton.elim (α := Fin 1) _ _
  | ⟨1, _⟩ => rfl
  | ⟨2, _⟩ => rfl

theorem grad_block (h : ∀ (a : Fin 704) (k : Fin 512), G (ix2 a k) = ∑ s : Fin 8, X (ix3 s a k)) :
    (k0_pay6 (F := Ideal) G : S1x704x512.Idx → EReal) = blockG X := by
  funext i
  have e := eq_ix3 i
  rw [e]
  refine (grad_apply G (i 1) (i 2)).trans ?_
  rw [h (i 1) (i 2)]
  rfl

theorem delta_block (h : ∀ (a : Fin 704) (k : Fin 512), G (ix2 a k) = ∑ s : Fin 8, X (ix3 s a k)) :
    (k0_pay1 (F := Ideal) (k0_pay7 (F := Ideal) W) (k0_pay10 (F := Ideal) G M) (k0_pay11 (F := Ideal) G V) : S1x704x512.Idx → EReal) = blockD X W M V := by
  funext i
  have e := eq_ix3 i
  rw [e]
  refine (delta_apply G W M V (i 1) (i 2)).trans ?_
  rw [h (i 1) (i 2)]
  rfl

theorem mean_block (h : ∀ (a : Fin 704) (k : Fin 512), G (ix2 a k) = ∑ s : Fin 8, X (ix3 s a k)) :
    (k0_pay2 (F := Ideal) (k0_pay8 (F := Ideal) G M) : S1x704x512.Idx → EReal) = blockM X M := by
  funext i
  have e := eq_ix3 i
  rw [e]
  refine (mean_apply G M (i 1) (i 2)).trans ?_
  rw [h (i 1) (i 2)]
  rfl

theorem meanSq_block (h : ∀ (a : Fin 704) (k : Fin 512), G (ix2 a k) = ∑ s : Fin 8, X (ix3 s a k)) :
    (k0_pay3 (F := Ideal) (k0_pay9 (F := Ideal) G V) : S1x704x512.Idx → EReal) = blockV X V := by
  funext i
  have e := eq_ix3 i
  rw [e]
  refine (meanSq_apply G V (i 1) (i 2)).trans ?_
  rw [h (i 1) (i 2)]
  rfl

end

/-! ## What a point reads and writes -/

section
variable (m : (ℓ : Loc nD τ sig) → Buf (Elt Ideal) ℓ) (ρ : Dev nD → PrngReg) (c : Dev nD)
abbrev S0 : S8x704x1024.Idx → EReal := m ((c : Thread nD τ).loc main_arg0)
abbrev S1 : S8x704x1024.Idx → EReal := m ((c : Thread nD τ).loc main_arg1)
abbrev aw : S2x704x1024.Idx → EReal := m ((c : Thread nD τ).loc main_arg2)
abbrev am : S2x704x1024.Idx → EReal := m ((c : Thread nD τ).loc main_arg3)
abbrev av : S2x704x1024.Idx → EReal := m ((c : Thread nD τ).loc main_arg4)

theorem points (t : Fin cfg0.N) : t.val < 4 := t.isLt

/-- Where the block of a point lies in a weight. -/
def at_ (t : Fin cfg0.N) (i : S1x704x512.Idx) : S2x704x1024.Idx :=
  ix3 ⟨t.val / 2, by have h := points t; omega⟩ (i 1) ⟨t.val % 2 * 512 + (i 2).val, by have h : (i 2).val < 512 := (i 2).isLt; omega⟩

theorem index0 : ∀ t : Fin cfg0.N, win0_0.index t 0 = 0 ∧ win0_0.index t 1 = 0 ∧ (t.val < 2 → win0_0.index t 2 = t.val % 2) :=
  (by decide +kernel : ∀ t : Fin grid0.N, win0_0.index t 0 = 0 ∧ win0_0.index t 1 = 0 ∧ (t.val < 2 → win0_0.index t 2 = t.val % 2))

theorem index1 : ∀ t : Fin cfg0.N, win0_1.index t 0 = 0 ∧ win0_1.index t 1 = 0 ∧ (2 ≤ t.val → win0_1.index t 2 = t.val % 2) :=
  (by decide +kernel : ∀ t : Fin grid0.N, win0_1.index t 0 = 0 ∧ win0_1.index t 1 = 0 ∧ (2 ≤ t.val → win0_1.index t 2 = t.val % 2))

theorem index2 : ∀ t : Fin cfg0.N, win0_2.index t 0 = t.val / 2 ∧ win0_2.index t 1 = 0 ∧ win0_2.index t 2 = t.val % 2 :=
  (by decide +kernel : ∀ t : Fin grid0.N, win0_2.index t 0 = t.val / 2 ∧ win0_2.index t 1 = 0 ∧ win0_2.index t 2 = t.val % 2)

theorem index3 : ∀ t : Fin cfg0.N, win0_3.index t 0 = t.val / 2 ∧ win0_3.index t 1 = 0 ∧ win0_3.index t 2 = t.val % 2 :=
  (by decide +kernel : ∀ t : Fin grid0.N, win0_3.index t 0 = t.val / 2 ∧ win0_3.index t 1 = 0 ∧ win0_3.index t 2 = t.val % 2)

theorem index4 : ∀ t : Fin cfg0.N, win0_4.index t 0 = t.val / 2 ∧ win0_4.index t 1 = 0 ∧ win0_4.index t 2 = t.val % 2 :=
  (by decide +kernel : ∀ t : Fin grid0.N, win0_4.index t 0 = t.val / 2 ∧ win0_4.index t 1 = 0 ∧ win0_4.index t 2 = t.val % 2)

theorem index5 : ∀ t : Fin cfg0.N, win0_5.index t 0 = t.val / 2 ∧ win0_5.index t 1 = 0 ∧ win0_5.index t 2 = t.val % 2 :=
  (by decide +kernel : ∀ t : Fin grid0.N, win0_5.index t 0 = t.val / 2 ∧ win0_5.index t 1 = 0 ∧ win0_5.index t 2 = t.val % 2)

theorem slot0 (t : Fin cfg0.N) (h : t.val < 2) (s : Fin 8) (a : Fin 704) (k : Fin 512) :
    iblk m c 0 t (ix3 s a k) = S0 m c (ix3 s a ⟨t.val % 2 * 512 + k.val, by omega⟩) := by
  unfold iblk
  rw [View.read_apply]
  show V m c main_arg0 _ = _
  rw [V_main_arg0 m c]
  congr 1; funext q; apply Fin.ext
  match q with
  | ⟨0, _⟩ => show win0_0.index t 0 * 8 + 1 * s.val = s.val
              rw [(index0 t).1]; omega
  | ⟨1, _⟩ => show win0_0.index t 1 * 704 + 1 * a.val = a.val
              rw [(index0 t).2.1]; omega
  | ⟨2, _⟩ => show win0_0.index t 2 * 512 + 1 * k.val = t.val % 2 * 512 + k.val
              rw [(index0 t).2.2 h]; omega

theorem slot1 (t : Fin cfg0.N) (h : 2 ≤ t.val) (s : Fin 8) (a : Fin 704) (k : Fin 512) :
    iblk m c 1 t (ix3 s a k) = S1 m c (ix3 s a ⟨t.val % 2 * 512 + k.val, by omega⟩) := by
  unfold iblk
  rw [View.read_apply]
  show V m c main_arg1 _ = _
  rw [V_main_arg1 m c]
  congr 1; funext q; apply Fin.ext
  match q with
  | ⟨0, _⟩ => show win0_1.index t 0 * 8 + 1 * s.val = s.val
              rw [(index1 t).1]; omega
  | ⟨1, _⟩ => show win0_1.index t 1 * 704 + 1 * a.val = a.val
              rw [(index1 t).2.1]; omega
  | ⟨2, _⟩ => show win0_1.index t 2 * 512 + 1 * k.val = t.val % 2 * 512 + k.val
              rw [(index1 t).2.2 h]; omega

theorem block2 (t : Fin cfg0.N) (i : S1x704x512.Idx) : iblk m c 2 t i = aw m c (at_ t i) := by
  have h0 : (i 0).val < 1 := (i 0).isLt
  unfold iblk
  rw [View.read_apply]
  show V m c main_arg2 _ = _
  rw [V_main_arg2 m c]
  congr 1; funext q; apply Fin.ext
  match q with
  | ⟨0, _⟩ => show win0_2.index t 0 * 1 + 1 * (i 0).val = t.val / 2
              rw [(index2 t).1]; omega
  | ⟨1, _⟩ => show win0_2.index t 1 * 704 + 1 * (i 1).val = (i 1).val
              rw [(index2 t).2.1]; omega
  | ⟨2, _⟩ => show win0_2.index t 2 * 512 + 1 * (i 2).val = t.val % 2 * 512 + (i 2).val
              rw [(index2 t).2.2]; omega

theorem block3 (t : Fin cfg0.N) (i : S1x704x512.Idx) : iblk m c 3 t i = am m c (at_ t i) := by
  have h0 : (i 0).val < 1 := (i 0).isLt
  unfold iblk
  rw [View.read_apply]
  show V m c main_arg3 _ = _
  rw [V_main_arg3 m c]
  congr 1; funext q; apply Fin.ext
  match q with
  | ⟨0, _⟩ => show win0_3.index t 0 * 1 + 1 * (i 0).val = t.val / 2
              rw [(index3 t).1]; omega
  | ⟨1, _⟩ => show win0_3.index t 1 * 704 + 1 * (i 1).val = (i 1).val
              rw [(index3 t).2.1]; omega
  | ⟨2, _⟩ => show win0_3.index t 2 * 512 + 1 * (i 2).val = t.val % 2 * 512 + (i 2).val
              rw [(index3 t).2.2]; omega

theorem block4 (t : Fin cfg0.N) (i : S1x704x512.Idx) : iblk m c 4 t i = av m c (at_ t i) := by
  have h0 : (i 0).val < 1 := (i 0).isLt
  unfold iblk
  rw [View.read_apply]
  show V m c main_arg4 _ = _
  rw [V_main_arg4 m c]
  congr 1; funext q; apply Fin.ext
  match q with
  | ⟨0, _⟩ => show win0_4.index t 0 * 1 + 1 * (i 0).val = t.val / 2
              rw [(index4 t).1]; omega
  | ⟨1, _⟩ => show win0_4.index t 1 * 704 + 1 * (i 1).val = (i 1).val
              rw [(index4 t).2.1]; omega
  | ⟨2, _⟩ => show win0_4.index t 2 * 512 + 1 * (i 2).val = t.val % 2 * 512 + (i 2).val
              rw [(index4 t).2.2]; omega

theorem hz : (![0, 0, 0] : Fin 3 → Nat) = fun _ => 0 := funext fun a => by fin_cases a <;> rfl
theorem hz2 : (![0, 0] : Fin 2 → Nat) = fun _ => 0 := funext fun a => by fin_cases a <;> rfl

theorem after5_A (t : Fin cfg0.N) (h0 : t.val < 2) (h1 : ¬2 ≤ t.val) : (dats m 0 c).flushed 5 t
    = (cfg0.win 5).cut (grid0.coords t) (blockG (iblk m c 0 t)) := by
  rw [Value.flushed5_A m c t h0 h1]
  unfold out0_A_5
  rw [View.read_writes_eq_canon _ _ _ (fun _ => cover0_A_5 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x704x512) hz, View.ld_unit_zero (S := S704x512) hz2]
  rw [View.readCov_unit_zero _ hz2]
  exact congrArg ((cfg0.win 5).cut (grid0.coords t)) (grad_block _ _ (sum_apply0 (iblk m c 0 t)))

theorem after6_A (t : Fin cfg0.N) (h0 : t.val < 2) (h1 : ¬2 ≤ t.val) : (dats m 0 c).flushed 6 t
    = (cfg0.win 6).cut (grid0.coords t) (blockD (iblk m c 0 t) (iblk m c 2 t) (iblk m c 3 t) (iblk m c 4 t)) := by
  rw [Value.flushed6_A m c t h0 h1]
  unfold out0_A_6
  rw [View.read_writes_eq_canon _ _ _ (fun _ => cover0_A_6 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x704x512) hz, View.ld_unit_zero (S := S704x512) hz2]
  rw [View.readCov_unit_zero _ hz2]
  exact congrArg ((cfg0.win 6).cut (grid0.coords t)) (delta_block _ _ _ _ _ (sum_apply0 (iblk m c 0 t)))

theorem after7_A (t : Fin cfg0.N) (h0 : t.val < 2) (h1 : ¬2 ≤ t.val) : (dats m 0 c).flushed 7 t
    = (cfg0.win 7).cut (grid0.coords t) (blockM (iblk m c 0 t) (iblk m c 3 t)) := by
  rw [Value.flushed7_A m c t h0 h1]
  unfold out0_A_7
  rw [View.read_writes_eq_canon _ _ _ (fun _ => cover0_A_7 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x704x512) hz, View.ld_unit_zero (S := S704x512) hz2]
  rw [View.readCov_unit_zero _ hz2]
  exact congrArg ((cfg0.win 7).cut (grid0.coords t)) (mean_block _ _ _ (sum_apply0 (iblk m c 0 t)))

theorem after8_A (t : Fin cfg0.N) (h0 : t.val < 2) (h1 : ¬2 ≤ t.val) : (dats m 0 c).flushed 8 t
    = (cfg0.win 8).cut (grid0.coords t) (blockV (iblk m c 0 t) (iblk m c 4 t)) := by
  rw [Value.flushed8_A m c t h0 h1]
  unfold out0_A_8
  rw [View.read_writes_eq_canon _ _ _ (fun _ => cover0_A_8 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x704x512) hz, View.ld_unit_zero (S := S704x512) hz2]
  rw [View.readCov_unit_zero _ hz2]
  exact congrArg ((cfg0.win 8).cut (grid0.coords t)) (meanSq_block _ _ _ (sum_apply0 (iblk m c 0 t)))

theorem after5_B (t : Fin cfg0.N) (h0 : ¬t.val < 2) (h1 : 2 ≤ t.val) : (dats m 0 c).flushed 5 t
    = (cfg0.win 5).cut (grid0.coords t) (blockG (iblk m c 1 t)) := by
  rw [Value.flushed5_B m c t h0 h1]
  unfold out0_B_5
  rw [View.read_writes_eq_canon _ _ _ (fun _ => cover0_B_5 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x704x512) hz, View.ld_unit_zero (S := S704x512) hz2]
  rw [View.readCov_unit_zero _ hz2]
  exact congrArg ((cfg0.win 5).cut (grid0.coords t)) (grad_block _ _ (sum_apply1 (iblk m c 1 t)))

theorem after6_B (t : Fin cfg0.N) (h0 : ¬t.val < 2) (h1 : 2 ≤ t.val) : (dats m 0 c).flushed 6 t
    = (cfg0.win 6).cut (grid0.coords t) (blockD (iblk m c 1 t) (iblk m c 2 t) (iblk m c 3 t) (iblk m c 4 t)) := by
  rw [Value.flushed6_B m c t h0 h1]
  unfold out0_B_6
  rw [View.read_writes_eq_canon _ _ _ (fun _ => cover0_B_6 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x704x512) hz, View.ld_unit_zero (S := S704x512) hz2]
  rw [View.readCov_unit_zero _ hz2]
  exact congrArg ((cfg0.win 6).cut (grid0.coords t)) (delta_block _ _ _ _ _ (sum_apply1 (iblk m c 1 t)))

theorem after7_B (t : Fin cfg0.N) (h0 : ¬t.val < 2) (h1 : 2 ≤ t.val) : (dats m 0 c).flushed 7 t
    = (cfg0.win 7).cut (grid0.coords t) (blockM (iblk m c 1 t) (iblk m c 3 t)) := by
  rw [Value.flushed7_B m c t h0 h1]
  unfold out0_B_7
  rw [View.read_writes_eq_canon _ _ _ (fun _ => cover0_B_7 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x704x512) hz, View.ld_unit_zero (S := S704x512) hz2]
  rw [View.readCov_unit_zero _ hz2]
  exact congrArg ((cfg0.win 7).cut (grid0.coords t)) (mean_block _ _ _ (sum_apply1 (iblk m c 1 t)))

theorem after8_B (t : Fin cfg0.N) (h0 : ¬t.val < 2) (h1 : 2 ≤ t.val) : (dats m 0 c).flushed 8 t
    = (cfg0.win 8).cut (grid0.coords t) (blockV (iblk m c 1 t) (iblk m c 4 t)) := by
  rw [Value.flushed8_B m c t h0 h1]
  unfold out0_B_8
  rw [View.read_writes_eq_canon _ _ _ (fun _ => cover0_B_8 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x704x512) hz, View.ld_unit_zero (S := S704x512) hz2]
  rw [View.readCov_unit_zero _ hz2]
  exact congrArg ((cfg0.win 8).cut (grid0.coords t)) (meanSq_block _ _ _ (sum_apply1 (iblk m c 1 t)))

theorem blockG_eq0 (t : Fin cfg0.N) (h : t.val < 2) (i : S1x704x512.Idx) : blockG (iblk m c 0 t) i = grads (S0 m c) (S1 m c) (at_ t i) := by
  have e : ((at_ t i) 0).val = t.val / 2 := rfl
  unfold grads
  rw [if_pos (by omega)]
  exact Finset.sum_congr rfl fun s _ => slot0 m c t h s _ _

theorem blockG_eq1 (t : Fin cfg0.N) (h : 2 ≤ t.val) (i : S1x704x512.Idx) : blockG (iblk m c 1 t) i = grads (S0 m c) (S1 m c) (at_ t i) := by
  have e : ((at_ t i) 0).val = t.val / 2 := rfl
  unfold grads
  rw [if_neg (by omega)]
  exact Finset.sum_congr rfl fun s _ => slot1 m c t h s _ _

theorem cut5 (f : S1x704x512.Idx → EReal) (A : S2x704x1024.Idx → EReal) (t : Fin cfg0.N) (h : ∀ i, f i = A (at_ t i)) :
    (cfg0.win 5).cut (grid0.coords t) f = ((cfg0.win 5).blk t).view.read (Elt Ideal) A := by
  funext i
  rw [View.read_apply]
  have h0 : (i 0 : ℕ) < 1 := (i 0).isLt
  have h1 : (i 1 : ℕ) < 704 := (i 1).isLt
  have h2 : (i 2 : ℕ) < 512 := (i 2).isLt
  refine (congrArg f ?_).trans ((h (ix3 ⟨(i 0 : ℕ), h0⟩ ⟨(i 1 : ℕ), h1⟩ ⟨(i 2 : ℕ), h2⟩)).trans (congrArg A ?_))
  · funext q
    match q with
    | ⟨0, _⟩ => rfl
    | ⟨1, _⟩ => rfl
    | ⟨2, _⟩ => rfl
  · funext q; apply Fin.ext
    match q with
    | ⟨0, _⟩ => show t.val / 2 = win0_5.index t 0 * 1 + 1 * (i 0 : ℕ)
                rw [(index5 t).1]; omega
    | ⟨1, _⟩ => show (i 1 : ℕ) = win0_5.index t 1 * 704 + 1 * (i 1 : ℕ)
                rw [(index5 t).2.1]; omega
    | ⟨2, _⟩ => show t.val % 2 * 512 + (i 2 : ℕ) = win0_5.index t 2 * 512 + 1 * (i 2 : ℕ)
                rw [(index5 t).2.2]; omega

theorem flushed5 (t : Fin cfg0.N) : (dats m 0 c).flushed 5 t
    = ((cfg0.win 5).blk t).view.read (Elt Ideal) (grads (S0 m c) (S1 m c)) := by
  by_cases h : t.val < 2
  · rw [after5_A m c t h (by omega)]
    exact cut5 _ _ t fun i => blockG_eq0 m c t h i
  · rw [after5_B m c t h (by omega)]
    exact cut5 _ _ t fun i => blockG_eq1 m c t (by omega) i

/-- Every entry of a weight lies in the block of a point. -/
theorem inside (i : S2x704x1024.Idx) : ∃ t : Fin cfg0.N, ∀ a : Fin 3,
    win0_5.index t a * S1x704x512.size a ≤ (i a : ℕ) ∧ (i a : ℕ) < win0_5.index t a * S1x704x512.size a + S1x704x512.size a := by
  have h0 : (i 0 : ℕ) < 2 := (i 0).isLt
  have h1 : (i 1 : ℕ) < 704 := (i 1).isLt
  have h2 : (i 2 : ℕ) < 1024 := (i 2).isLt
  have hN : cfg0.N = 4 := N_0
  obtain ⟨t, ht⟩ : ∃ t : Fin cfg0.N, t.val = (i 0 : ℕ) * 2 + (i 2 : ℕ) / 512 := ⟨⟨_, by omega⟩, rfl⟩
  have e := index5 t
  refine ⟨t, fun a => ?_⟩
  match a with
  | ⟨0, _⟩ => show win0_5.index t 0 * 1 ≤ (i 0 : ℕ) ∧ (i 0 : ℕ) < win0_5.index t 0 * 1 + 1
              rw [e.1, ht]; omega
  | ⟨1, _⟩ => show win0_5.index t 1 * 704 ≤ (i 1 : ℕ) ∧ (i 1 : ℕ) < win0_5.index t 1 * 704 + 704
              rw [e.2.1]; omega
  | ⟨2, _⟩ => show win0_5.index t 2 * 512 ≤ (i 2 : ℕ) ∧ (i 2 : ℕ) < win0_5.index t 2 * 512 + 512
              rw [e.2.2, ht]; omega

theorem cover5 (i : S2x704x1024.Idx) : ∃ t : Fin cfg0.N, (cfg0.win 5).flush t = true ∧ i ∈ ((cfg0.win 5).blk t).view.set := by
  obtain ⟨t, ht⟩ := inside i
  refine ⟨t, flush0_5 _, ?_⟩
  show i ∈ ((View.whole main_v0_0).slice (win0_5.rect t)).set
  rw [View.set_slice_whole, Rect.mem_set_unit]
  exact ht

theorem final5 : (dats m 0 c).arrAt 5 cfg0.N = grads (S0 m c) (S1 m c) :=
  (dats m 0 c).arrAt_eq_of_cover 5 _ (fun t _ => flushed5 m c t) cover5

theorem cut6 (f : S1x704x512.Idx → EReal) (A : S2x704x1024.Idx → EReal) (t : Fin cfg0.N) (h : ∀ i, f i = A (at_ t i)) :
    (cfg0.win 6).cut (grid0.coords t) f = ((cfg0.win 6).blk t).view.read (Elt Ideal) A :=
  cut5 f A t h

theorem flushed6 (t : Fin cfg0.N) : (dats m 0 c).flushed 6 t
    = ((cfg0.win 6).blk t).view.read (Elt Ideal) (deltas (S0 m c) (S1 m c) (aw m c) (am m c) (av m c)) := by
  by_cases h : t.val < 2
  · rw [after6_A m c t h (by omega)]
    exact cut6 _ _ t fun i => by unfold blockD deltas; rw [blockG_eq0 m c t h i, block2, block3, block4]
  · rw [after6_B m c t h (by omega)]
    exact cut6 _ _ t fun i => by unfold blockD deltas; rw [blockG_eq1 m c t (by omega) i, block2, block3, block4]

theorem cover6 (i : S2x704x1024.Idx) : ∃ t : Fin cfg0.N, (cfg0.win 6).flush t = true ∧ i ∈ ((cfg0.win 6).blk t).view.set := by
  obtain ⟨t, ht⟩ := inside i
  refine ⟨t, flush0_6 _, ?_⟩
  show i ∈ ((View.whole main_v0_1).slice (win0_6.rect t)).set
  rw [View.set_slice_whole, Rect.mem_set_unit]
  exact ht

theorem final6 : (dats m 0 c).arrAt 6 cfg0.N = deltas (S0 m c) (S1 m c) (aw m c) (am m c) (av m c) :=
  (dats m 0 c).arrAt_eq_of_cover 6 _ (fun t _ => flushed6 m c t) cover6

theorem cut7 (f : S1x704x512.Idx → EReal) (A : S2x704x1024.Idx → EReal) (t : Fin cfg0.N) (h : ∀ i, f i = A (at_ t i)) :
    (cfg0.win 7).cut (grid0.coords t) f = ((cfg0.win 7).blk t).view.read (Elt Ideal) A :=
  cut5 f A t h

theorem flushed7 (t : Fin cfg0.N) : (dats m 0 c).flushed 7 t
    = ((cfg0.win 7).blk t).view.read (Elt Ideal) (means (S0 m c) (S1 m c) (am m c)) := by
  by_cases h : t.val < 2
  · rw [after7_A m c t h (by omega)]
    exact cut7 _ _ t fun i => by unfold blockM means; rw [blockG_eq0 m c t h i, block3]
  · rw [after7_B m c t h (by omega)]
    exact cut7 _ _ t fun i => by unfold blockM means; rw [blockG_eq1 m c t (by omega) i, block3]

theorem cover7 (i : S2x704x1024.Idx) : ∃ t : Fin cfg0.N, (cfg0.win 7).flush t = true ∧ i ∈ ((cfg0.win 7).blk t).view.set := by
  obtain ⟨t, ht⟩ := inside i
  refine ⟨t, flush0_7 _, ?_⟩
  show i ∈ ((View.whole main_v0_2).slice (win0_7.rect t)).set
  rw [View.set_slice_whole, Rect.mem_set_unit]
  exact ht

theorem final7 : (dats m 0 c).arrAt 7 cfg0.N = means (S0 m c) (S1 m c) (am m c) :=
  (dats m 0 c).arrAt_eq_of_cover 7 _ (fun t _ => flushed7 m c t) cover7

theorem cut8 (f : S1x704x512.Idx → EReal) (A : S2x704x1024.Idx → EReal) (t : Fin cfg0.N) (h : ∀ i, f i = A (at_ t i)) :
    (cfg0.win 8).cut (grid0.coords t) f = ((cfg0.win 8).blk t).view.read (Elt Ideal) A :=
  cut5 f A t h

theorem flushed8 (t : Fin cfg0.N) : (dats m 0 c).flushed 8 t
    = ((cfg0.win 8).blk t).view.read (Elt Ideal) (meanSqs (S0 m c) (S1 m c) (av m c)) := by
  by_cases h : t.val < 2
  · rw [after8_A m c t h (by omega)]
    exact cut8 _ _ t fun i => by unfold blockV meanSqs; rw [blockG_eq0 m c t h i, block4]
  · rw [after8_B m c t h (by omega)]
    exact cut8 _ _ t fun i => by unfold blockV meanSqs; rw [blockG_eq1 m c t (by omega) i, block4]

theorem cover8 (i : S2x704x1024.Idx) : ∃ t : Fin cfg0.N, (cfg0.win 8).flush t = true ∧ i ∈ ((cfg0.win 8).blk t).view.set := by
  obtain ⟨t, ht⟩ := inside i
  refine ⟨t, flush0_8 _, ?_⟩
  show i ∈ ((View.whole main_v0_3).slice (win0_8.rect t)).set
  rw [View.set_slice_whole, Rect.mem_set_unit]
  exact ht

theorem final8 : (dats m 0 c).arrAt 8 cfg0.N = meanSqs (S0 m c) (S1 m c) (av m c) :=
  (dats m 0 c).arrAt_eq_of_cover 8 _ (fun t _ => flushed8 m c t) cover8

/-- The run, read: each result at its formula, the arguments unchanged. -/
theorem run : θ_run defs (onTc (τ := τ) (main (F := Ideal))) ⟨m, fun _ => 0, ρ⟩ fun r => ∀ c : Dev nD,
      r.2.mem ((c : Thread nD τ).loc main_v0_0) = grads (S0 m c) (S1 m c)
      ∧ r.2.mem ((c : Thread nD τ).loc main_v0_1) = deltas (S0 m c) (S1 m c) (aw m c) (am m c) (av m c)
      ∧ r.2.mem ((c : Thread nD τ).loc main_v0_2) = means (S0 m c) (S1 m c) (am m c)
      ∧ r.2.mem ((c : Thread nD τ).loc main_v0_3) = meanSqs (S0 m c) (S1 m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c),
    (h c).2.2.1.trans (final7 m c), (h c).2.2.2.1.trans (final8 m c), (h c).2.2.2.2⟩) (Value.run_blocks m ρ)

end

/-! ## The reference -/

section
open Cert.AdamFfnInRefIdeal.Read

theorem ref_layer0 (a : Fin 704) (k : Fin 1024) : val_main_v4 (F := Ideal) s0 (ix3 0 a k)
    = ∑ s : Fin 8, s0 (ix3 s a k) := by
  rw [val_main_v4_apply, val_main_v1_apply, val_main_cst_apply,
    show (FloatOps.ofBits (F := Ideal) .f32 0x00000000#32 : EReal) = 0 from Ideal.ofBits_zero_f32, zero_add]
  refine Finset.sum_congr rfl fun s _ => ?_
  rw [val_main_v0_apply]
  refine congrArg s0 (funext fun q => Fin.ext ?_)
  match q with
  | ⟨0, _⟩ => rfl
  | ⟨1, _⟩ => rfl
  | ⟨2, _⟩ => rfl

theorem ref_layer1 (a : Fin 704) (k : Fin 1024) : val_main_v5 (F := Ideal) s1 (ix3 0 a k)
    = ∑ s : Fin 8, s1 (ix3 s a k) := by
  rw [val_main_v5_apply, val_main_v3_apply, val_main_cst_0_apply,
    show (FloatOps.ofBits (F := Ideal) .f32 0x00000000#32 : EReal) = 0 from Ideal.ofBits_zero_f32, zero_add]
  refine Finset.sum_congr rfl fun s _ => ?_
  rw [val_main_v2_apply]
  refine congrArg s1 (funext fun q => Fin.ext ?_)
  match q with
  | ⟨0, _⟩ => rfl
  | ⟨1, _⟩ => rfl
  | ⟨2, _⟩ => rfl

theorem ref_grads : val_main_v6 (F := Ideal) s0 s1 = grads s0 s1 := by
  funext i
  obtain ⟨l, a, k, rfl⟩ : ∃ l a k, i = ix3 l a k := ⟨i 0, i 1, i 2, by
    funext q
    match q with
    | ⟨0, _⟩ => rfl
    | ⟨1, _⟩ => rfl
    | ⟨2, _⟩ => rfl⟩
  unfold val_main_v6
  match l with
  | ⟨0, _⟩ =>
    refine Eq.trans ?_ (ref_layer0 s0 a k)
    generalize val_main_v4 (F := Ideal) s0 = y
    pointwise
  | ⟨1, _⟩ =>
    refine Eq.trans ?_ (ref_layer1 s1 a k)
    generalize val_main_v5 (F := Ideal) s1 = y
    pointwise

theorem ref_mean : val_main_v11 (F := Ideal) s0 s1 m = means s0 s1 m := by
  funext i
  simp only [val_main_v7_apply, val_main_v8_apply, val_main_v9_apply, val_main_v10_apply, val_main_v11_apply,
    val_main_cst_1_apply, val_main_cst_2_apply, val_main_cst_3_apply, val_main_cst_4_apply, val_main_cst_5_apply, val_main_cst_6_apply, val_main_cst_7_apply, val_main_cst_8_apply, val_main_cst_9_apply, ref_grads]
  rfl

theorem ref_meanSq : val_main_v17 (F := Ideal) s0 s1 v = meanSqs s0 s1 v := by
  funext i
  simp only [val_main_v12_apply, val_main_v13_apply, val_main_v14_apply, val_main_v15_apply, val_main_v16_apply, val_main_v17_apply,
    val_main_cst_1_apply, val_main_cst_2_apply, val_main_cst_3_apply, val_main_cst_4_apply, val_main_cst_5_apply, val_main_cst_6_apply, val_main_cst_7_apply, val_main_cst_8_apply, val_main_cst_9_apply, ref_grads]
  rfl

theorem ref_delta : val_main_v30 (F := Ideal) s0 s1 w m v = deltas s0 s1 w m v := by
  funext i
  simp only [val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply,
    val_main_cst_1_apply, val_main_cst_2_apply, val_main_cst_3_apply, val_main_cst_4_apply, val_main_cst_5_apply, val_main_cst_6_apply, val_main_cst_7_apply, val_main_cst_8_apply, val_main_cst_9_apply, ref_grads]
  rfl

end

/-! ## The claims -/

theorem frame_ref : Cert.quiescent_AdamFfnInRefIdeal := fun m ρ _ =>
  (θ_run _ _ _).mono (fun r h => ⟨fun c => (h c).2.2.2.2, sem_eq_zero_of_no_sems (by decide) r.2⟩)
    (Cert.AdamFfnInRefIdeal.Value.run (F := Ideal) m ρ)

theorem algebraic : Cert.algebraic_AdamFfnInIdeal_AdamFfnInRefIdeal := by
  intro m ρ m' ρ' _ args
  refine ⟨fun c => grads (S0 m c) (S1 m c), fun c => deltas (S0 m c) (S1 m c) (aw m c) (am m c) (av m c),
    fun c => means (S0 m c) (S1 m c) (am m c), fun c => meanSqs (S0 m c) (S1 m c) (av m c), run m ρ, ?_⟩
  refine (θ_run _ _ _).mono (fun r h c => ?_) (Cert.AdamFfnInRefIdeal.Value.run (F := Ideal) m' ρ')
  obtain ⟨a0, a1, a2, a3, a4⟩ := args c
  obtain ⟨h0, h1, h2, h3, hk⟩ := h c
  refine ⟨h0.trans ?_, h1.trans ?_, h2.trans ?_, h3.trans ?_, hk⟩
  · rw [Cert.AdamFfnInRefIdeal.Read.val_main_v6_eq, a0, a1]
    exact ref_grads _ _
  · rw [Cert.AdamFfnInRefIdeal.Read.val_main_v30_eq, a0, a1, a2, a3, a4]
    exact ref_delta _ _ _ _ _
  · rw [Cert.AdamFfnInRefIdeal.Read.val_main_v11_eq, a0, a1, a3]
    exact ref_mean _ _ _
  · rw [Cert.AdamFfnInRefIdeal.Read.val_main_v17_eq, a0, a1, a4]
    exact ref_meanSq _ _ _

end Cert.Adam.FfnIn

end
-- ==== Proof.Adam.FfnOut.lean ====
/-
  The optimiser's step on the FFNs' second weight, of both layers: the slots of the eight parts of a gradient are added, half of the columns at a point.
-/
module

public import Idealize.ShloMosaic.Lib.Pointwise
public import Idealize.ShloMosaic.Lib.Quiescent
public import proofs.«01_k».proof.Defs
public import proofs.«01_k».proof.Proof.Adam
public import proofs.«01_k».proof.Proof.Gen.AdamFfnOutIdeal.Value
public import proofs.«01_k».proof.Proof.Gen.AdamFfnOutRefIdeal.Run
public import proofs.«01_k».proof.Proof.Gen.AdamFfnOutRefIdeal.Read

@[expose] public section

set_option maxRecDepth 16384

noncomputable section

open Idealize.ShloMosaic Idealize.ShloMosaic.TcCoe Idealize.SL.Sem

namespace Cert.Adam.FfnOut

open Cert.AdamFfnOutIdeal Cert.AdamFfnOutIdeal.Gen

/-! ## The results as functions of the arguments -/

/-- The gradient: the sum of its eight slots. -/
def grads (s0 s1 : S8x352x1024.Idx → EReal) (i : S2x352x1024.Idx) : EReal :=
  if (i 0).val = 0 then ∑ s : Fin 8, s0 (ix3 s (i 1) (i 2)) else ∑ s : Fin 8, s1 (ix3 s (i 1) (i 2))

variable (s0 s1 : S8x352x1024.Idx → EReal) (w m v : S2x352x1024.Idx → EReal)

def deltas (i : S2x352x1024.Idx) : EReal := delta (w i) (grads s0 s1 i) (m i) (v i)
def means (i : S2x352x1024.Idx) : EReal := mean (grads s0 s1 i) (m i)
def meanSqs (i : S2x352x1024.Idx) : EReal := meanSq (grads s0 s1 i) (v i)

/-! ## A point's blocks -/

section
variable (X : S8x352x512.Idx → EReal) (G : S352x512.Idx → EReal) (W M V : S1x352x512.Idx → EReal)

/-- The gradient's block. -/
def blockG (i : S1x352x512.Idx) : EReal := ∑ s : Fin 8, X (ix3 s (i 1) (i 2))
def blockD (i : S1x352x512.Idx) : EReal := delta (W i) (blockG X i) (M i) (V i)
def blockM (i : S1x352x512.Idx) : EReal := mean (blockG X i) (M i)
def blockV (i : S1x352x512.Idx) : EReal := meanSq (blockG X i) (V i)

theorem sum_apply0 (a : Fin 352) (k : Fin 512) : k0_pay4 (F := Ideal)
    (View.ld X (Rect.unit (s := S8x352x512) ![0, 0, 0] S1x352x512.size inb_S8x352x512_S1x352x512_0_0_0))
    (View.ld X (Rect.unit (s := S8x352x512) ![1, 0, 0] S1x352x512.size inb_S8x352x512_S1x352x512_1_0_0))
    (View.ld X (Rect.unit (s := S8x352x512) ![2, 0, 0] S1x352x512.size inb_S8x352x512_S1x352x512_2_0_0))
    (View.ld X (Rect.unit (s := S8x352x512) ![3, 0, 0] S1x352x512.size inb_S8x352x512_S1x352x512_3_0_0))
    (View.ld X (Rect.unit (s := S8x352x512) ![4, 0, 0] S1x352x512.size inb_S8x352x512_S1x352x512_4_0_0))
    (View.ld X (Rect.unit (s := S8x352x512) ![5, 0, 0] S1x352x512.size inb_S8x352x512_S1x352x512_5_0_0))
    (View.ld X (Rect.unit (s := S8x352x512) ![6, 0, 0] S1x352x512.size inb_S8x352x512_S1x352x512_6_0_0))
    (View.ld X (Rect.unit (s := S8x352x512) ![7, 0, 0] S1x352x512.size inb_S8x352x512_S1x352x512_7_0_0))
    (ix2 a k) = ∑ s : Fin 8, X (ix3 s a k) := by
  rw [Fin.sum_univ_eight]
  unfold k0_pay4
  pointwise

theorem sum_apply1 (a : Fin 352) (k : Fin 512) : k0_pay5 (F := Ideal)
    (View.ld X (Rect.unit (s := S8x352x512) ![0, 0, 0] S1x352x512.size inb_S8x352x512_S1x352x512_0_0_0))
    (View.ld X (Rect.unit (s := S8x352x512) ![1, 0, 0] S1x352x512.size inb_S8x352x512_S1x352x512_1_0_0))
    (View.ld X (Rect.unit (s := S8x352x512) ![2, 0, 0] S1x352x512.size inb_S8x352x512_S1x352x512_2_0_0))
    (View.ld X (Rect.unit (s := S8x352x512) ![3, 0, 0] S1x352x512.size inb_S8x352x512_S1x352x512_3_0_0))
    (View.ld X (Rect.unit (s := S8x352x512) ![4, 0, 0] S1x352x512.size inb_S8x352x512_S1x352x512_4_0_0))
    (View.ld X (Rect.unit (s := S8x352x512) ![5, 0, 0] S1x352x512.size inb_S8x352x512_S1x352x512_5_0_0))
    (View.ld X (Rect.unit (s := S8x352x512) ![6, 0, 0] S1x352x512.size inb_S8x352x512_S1x352x512_6_0_0))
    (View.ld X (Rect.unit (s := S8x352x512) ![7, 0, 0] S1x352x512.size inb_S8x352x512_S1x352x512_7_0_0))
    (ix2 a k) = ∑ s : Fin 8, X (ix3 s a k) := by
  rw [Fin.sum_univ_eight]
  unfold k0_pay5
  pointwise

theorem grad_apply (a : Fin 352) (k : Fin 512) : (k0_pay6 (F := Ideal) G : S1x352x512.Idx → EReal) (ix3 0 a k)
    = G (ix2 a k) := by
  unfold k0_pay6
  pointwise

theorem delta_apply (a : Fin 352) (k : Fin 512) : (k0_pay1 (F := Ideal) (k0_pay7 (F := Ideal) W) (k0_pay10 (F := Ideal) G M) (k0_pay11 (F := Ideal) G V) : S1x352x512.Idx → EReal) (ix3 0 a k)
    = delta (W (ix3 0 a k)) (G (ix2 a k)) (M (ix3 0 a k)) (V (ix3 0 a k)) := by
  unfold k0_pay1 k0_pay7 k0_pay10 k0_pay11 k0_pay8 k0_pay9
  pointwise
  rfl

theorem mean_apply (a : Fin 352) (k : Fin 512) : (k0_pay2 (F := Ideal) (k0_pay8 (F := Ideal) G M) : S1x352x512.Idx → EReal) (ix3 0 a k)
    = mean (G (ix2 a k)) (M (ix3 0 a k)) := by
  unfold k0_pay2 k0_pay8
  pointwise
  rfl

theorem meanSq_apply (a : Fin 352) (k : Fin 512) : (k0_pay3 (F := Ideal) (k0_pay9 (F := Ideal) G V) : S1x352x512.Idx → EReal) (ix3 0 a k)
    = meanSq (G (ix2 a k)) (V (ix3 0 a k)) := by
  unfold k0_pay3 k0_pay9
  pointwise
  rfl

theorem eq_ix3 (i : S1x352x512.Idx) : i = ix3 0 (i 1) (i 2) := by
  funext q
  match q with
  | ⟨0, _⟩ => exact Subsingleton.elim (α := Fin 1) _ _
  | ⟨1, _⟩ => rfl
  | ⟨2, _⟩ => rfl

theorem grad_block (h : ∀ (a : Fin 352) (k : Fin 512), G (ix2 a k) = ∑ s : Fin 8, X (ix3 s a k)) :
    (k0_pay6 (F := Ideal) G : S1x352x512.Idx → EReal) = blockG X := by
  funext i
  have e := eq_ix3 i
  rw [e]
  refine (grad_apply G (i 1) (i 2)).trans ?_
  rw [h (i 1) (i 2)]
  rfl

theorem delta_block (h : ∀ (a : Fin 352) (k : Fin 512), G (ix2 a k) = ∑ s : Fin 8, X (ix3 s a k)) :
    (k0_pay1 (F := Ideal) (k0_pay7 (F := Ideal) W) (k0_pay10 (F := Ideal) G M) (k0_pay11 (F := Ideal) G V) : S1x352x512.Idx → EReal) = blockD X W M V := by
  funext i
  have e := eq_ix3 i
  rw [e]
  refine (delta_apply G W M V (i 1) (i 2)).trans ?_
  rw [h (i 1) (i 2)]
  rfl

theorem mean_block (h : ∀ (a : Fin 352) (k : Fin 512), G (ix2 a k) = ∑ s : Fin 8, X (ix3 s a k)) :
    (k0_pay2 (F := Ideal) (k0_pay8 (F := Ideal) G M) : S1x352x512.Idx → EReal) = blockM X M := by
  funext i
  have e := eq_ix3 i
  rw [e]
  refine (mean_apply G M (i 1) (i 2)).trans ?_
  rw [h (i 1) (i 2)]
  rfl

theorem meanSq_block (h : ∀ (a : Fin 352) (k : Fin 512), G (ix2 a k) = ∑ s : Fin 8, X (ix3 s a k)) :
    (k0_pay3 (F := Ideal) (k0_pay9 (F := Ideal) G V) : S1x352x512.Idx → EReal) = blockV X V := by
  funext i
  have e := eq_ix3 i
  rw [e]
  refine (meanSq_apply G V (i 1) (i 2)).trans ?_
  rw [h (i 1) (i 2)]
  rfl

end

/-! ## What a point reads and writes -/

section
variable (m : (ℓ : Loc nD τ sig) → Buf (Elt Ideal) ℓ) (ρ : Dev nD → PrngReg) (c : Dev nD)
abbrev S0 : S8x352x1024.Idx → EReal := m ((c : Thread nD τ).loc main_arg0)
abbrev S1 : S8x352x1024.Idx → EReal := m ((c : Thread nD τ).loc main_arg1)
abbrev aw : S2x352x1024.Idx → EReal := m ((c : Thread nD τ).loc main_arg2)
abbrev am : S2x352x1024.Idx → EReal := m ((c : Thread nD τ).loc main_arg3)
abbrev av : S2x352x1024.Idx → EReal := m ((c : Thread nD τ).loc main_arg4)

theorem points (t : Fin cfg0.N) : t.val < 4 := t.isLt

/-- Where the block of a point lies in a weight. -/
def at_ (t : Fin cfg0.N) (i : S1x352x512.Idx) : S2x352x1024.Idx :=
  ix3 ⟨t.val / 2, by have h := points t; omega⟩ (i 1) ⟨t.val % 2 * 512 + (i 2).val, by have h : (i 2).val < 512 := (i 2).isLt; omega⟩

theorem index0 : ∀ t : Fin cfg0.N, win0_0.index t 0 = 0 ∧ win0_0.index t 1 = 0 ∧ (t.val < 2 → win0_0.index t 2 = t.val % 2) :=
  (by decide +kernel : ∀ t : Fin grid0.N, win0_0.index t 0 = 0 ∧ win0_0.index t 1 = 0 ∧ (t.val < 2 → win0_0.index t 2 = t.val % 2))

theorem index1 : ∀ t : Fin cfg0.N, win0_1.index t 0 = 0 ∧ win0_1.index t 1 = 0 ∧ (2 ≤ t.val → win0_1.index t 2 = t.val % 2) :=
  (by decide +kernel : ∀ t : Fin grid0.N, win0_1.index t 0 = 0 ∧ win0_1.index t 1 = 0 ∧ (2 ≤ t.val → win0_1.index t 2 = t.val % 2))

theorem index2 : ∀ t : Fin cfg0.N, win0_2.index t 0 = t.val / 2 ∧ win0_2.index t 1 = 0 ∧ win0_2.index t 2 = t.val % 2 :=
  (by decide +kernel : ∀ t : Fin grid0.N, win0_2.index t 0 = t.val / 2 ∧ win0_2.index t 1 = 0 ∧ win0_2.index t 2 = t.val % 2)

theorem index3 : ∀ t : Fin cfg0.N, win0_3.index t 0 = t.val / 2 ∧ win0_3.index t 1 = 0 ∧ win0_3.index t 2 = t.val % 2 :=
  (by decide +kernel : ∀ t : Fin grid0.N, win0_3.index t 0 = t.val / 2 ∧ win0_3.index t 1 = 0 ∧ win0_3.index t 2 = t.val % 2)

theorem index4 : ∀ t : Fin cfg0.N, win0_4.index t 0 = t.val / 2 ∧ win0_4.index t 1 = 0 ∧ win0_4.index t 2 = t.val % 2 :=
  (by decide +kernel : ∀ t : Fin grid0.N, win0_4.index t 0 = t.val / 2 ∧ win0_4.index t 1 = 0 ∧ win0_4.index t 2 = t.val % 2)

theorem index5 : ∀ t : Fin cfg0.N, win0_5.index t 0 = t.val / 2 ∧ win0_5.index t 1 = 0 ∧ win0_5.index t 2 = t.val % 2 :=
  (by decide +kernel : ∀ t : Fin grid0.N, win0_5.index t 0 = t.val / 2 ∧ win0_5.index t 1 = 0 ∧ win0_5.index t 2 = t.val % 2)

theorem slot0 (t : Fin cfg0.N) (h : t.val < 2) (s : Fin 8) (a : Fin 352) (k : Fin 512) :
    iblk m c 0 t (ix3 s a k) = S0 m c (ix3 s a ⟨t.val % 2 * 512 + k.val, by omega⟩) := by
  unfold iblk
  rw [View.read_apply]
  show V m c main_arg0 _ = _
  rw [V_main_arg0 m c]
  congr 1; funext q; apply Fin.ext
  match q with
  | ⟨0, _⟩ => show win0_0.index t 0 * 8 + 1 * s.val = s.val
              rw [(index0 t).1]; omega
  | ⟨1, _⟩ => show win0_0.index t 1 * 352 + 1 * a.val = a.val
              rw [(index0 t).2.1]; omega
  | ⟨2, _⟩ => show win0_0.index t 2 * 512 + 1 * k.val = t.val % 2 * 512 + k.val
              rw [(index0 t).2.2 h]; omega

theorem slot1 (t : Fin cfg0.N) (h : 2 ≤ t.val) (s : Fin 8) (a : Fin 352) (k : Fin 512) :
    iblk m c 1 t (ix3 s a k) = S1 m c (ix3 s a ⟨t.val % 2 * 512 + k.val, by omega⟩) := by
  unfold iblk
  rw [View.read_apply]
  show V m c main_arg1 _ = _
  rw [V_main_arg1 m c]
  congr 1; funext q; apply Fin.ext
  match q with
  | ⟨0, _⟩ => show win0_1.index t 0 * 8 + 1 * s.val = s.val
              rw [(index1 t).1]; omega
  | ⟨1, _⟩ => show win0_1.index t 1 * 352 + 1 * a.val = a.val
              rw [(index1 t).2.1]; omega
  | ⟨2, _⟩ => show win0_1.index t 2 * 512 + 1 * k.val = t.val % 2 * 512 + k.val
              rw [(index1 t).2.2 h]; omega

theorem block2 (t : Fin cfg0.N) (i : S1x352x512.Idx) : iblk m c 2 t i = aw m c (at_ t i) := by
  have h0 : (i 0).val < 1 := (i 0).isLt
  unfold iblk
  rw [View.read_apply]
  show V m c main_arg2 _ = _
  rw [V_main_arg2 m c]
  congr 1; funext q; apply Fin.ext
  match q with
  | ⟨0, _⟩ => show win0_2.index t 0 * 1 + 1 * (i 0).val = t.val / 2
              rw [(index2 t).1]; omega
  | ⟨1, _⟩ => show win0_2.index t 1 * 352 + 1 * (i 1).val = (i 1).val
              rw [(index2 t).2.1]; omega
  | ⟨2, _⟩ => show win0_2.index t 2 * 512 + 1 * (i 2).val = t.val % 2 * 512 + (i 2).val
              rw [(index2 t).2.2]; omega

theorem block3 (t : Fin cfg0.N) (i : S1x352x512.Idx) : iblk m c 3 t i = am m c (at_ t i) := by
  have h0 : (i 0).val < 1 := (i 0).isLt
  unfold iblk
  rw [View.read_apply]
  show V m c main_arg3 _ = _
  rw [V_main_arg3 m c]
  congr 1; funext q; apply Fin.ext
  match q with
  | ⟨0, _⟩ => show win0_3.index t 0 * 1 + 1 * (i 0).val = t.val / 2
              rw [(index3 t).1]; omega
  | ⟨1, _⟩ => show win0_3.index t 1 * 352 + 1 * (i 1).val = (i 1).val
              rw [(index3 t).2.1]; omega
  | ⟨2, _⟩ => show win0_3.index t 2 * 512 + 1 * (i 2).val = t.val % 2 * 512 + (i 2).val
              rw [(index3 t).2.2]; omega

theorem block4 (t : Fin cfg0.N) (i : S1x352x512.Idx) : iblk m c 4 t i = av m c (at_ t i) := by
  have h0 : (i 0).val < 1 := (i 0).isLt
  unfold iblk
  rw [View.read_apply]
  show V m c main_arg4 _ = _
  rw [V_main_arg4 m c]
  congr 1; funext q; apply Fin.ext
  match q with
  | ⟨0, _⟩ => show win0_4.index t 0 * 1 + 1 * (i 0).val = t.val / 2
              rw [(index4 t).1]; omega
  | ⟨1, _⟩ => show win0_4.index t 1 * 352 + 1 * (i 1).val = (i 1).val
              rw [(index4 t).2.1]; omega
  | ⟨2, _⟩ => show win0_4.index t 2 * 512 + 1 * (i 2).val = t.val % 2 * 512 + (i 2).val
              rw [(index4 t).2.2]; omega

theorem hz : (![0, 0, 0] : Fin 3 → Nat) = fun _ => 0 := funext fun a => by fin_cases a <;> rfl
theorem hz2 : (![0, 0] : Fin 2 → Nat) = fun _ => 0 := funext fun a => by fin_cases a <;> rfl

theorem after5_A (t : Fin cfg0.N) (h0 : t.val < 2) (h1 : ¬2 ≤ t.val) : (dats m 0 c).flushed 5 t
    = (cfg0.win 5).cut (grid0.coords t) (blockG (iblk m c 0 t)) := by
  rw [Value.flushed5_A m c t h0 h1]
  unfold out0_A_5
  rw [View.read_writes_eq_canon _ _ _ (fun _ => cover0_A_5 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x352x512) hz, View.ld_unit_zero (S := S352x512) hz2]
  rw [View.readCov_unit_zero _ hz2]
  exact congrArg ((cfg0.win 5).cut (grid0.coords t)) (grad_block _ _ (sum_apply0 (iblk m c 0 t)))

theorem after6_A (t : Fin cfg0.N) (h0 : t.val < 2) (h1 : ¬2 ≤ t.val) : (dats m 0 c).flushed 6 t
    = (cfg0.win 6).cut (grid0.coords t) (blockD (iblk m c 0 t) (iblk m c 2 t) (iblk m c 3 t) (iblk m c 4 t)) := by
  rw [Value.flushed6_A m c t h0 h1]
  unfold out0_A_6
  rw [View.read_writes_eq_canon _ _ _ (fun _ => cover0_A_6 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x352x512) hz, View.ld_unit_zero (S := S352x512) hz2]
  rw [View.readCov_unit_zero _ hz2]
  exact congrArg ((cfg0.win 6).cut (grid0.coords t)) (delta_block _ _ _ _ _ (sum_apply0 (iblk m c 0 t)))

theorem after7_A (t : Fin cfg0.N) (h0 : t.val < 2) (h1 : ¬2 ≤ t.val) : (dats m 0 c).flushed 7 t
    = (cfg0.win 7).cut (grid0.coords t) (blockM (iblk m c 0 t) (iblk m c 3 t)) := by
  rw [Value.flushed7_A m c t h0 h1]
  unfold out0_A_7
  rw [View.read_writes_eq_canon _ _ _ (fun _ => cover0_A_7 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x352x512) hz, View.ld_unit_zero (S := S352x512) hz2]
  rw [View.readCov_unit_zero _ hz2]
  exact congrArg ((cfg0.win 7).cut (grid0.coords t)) (mean_block _ _ _ (sum_apply0 (iblk m c 0 t)))

theorem after8_A (t : Fin cfg0.N) (h0 : t.val < 2) (h1 : ¬2 ≤ t.val) : (dats m 0 c).flushed 8 t
    = (cfg0.win 8).cut (grid0.coords t) (blockV (iblk m c 0 t) (iblk m c 4 t)) := by
  rw [Value.flushed8_A m c t h0 h1]
  unfold out0_A_8
  rw [View.read_writes_eq_canon _ _ _ (fun _ => cover0_A_8 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x352x512) hz, View.ld_unit_zero (S := S352x512) hz2]
  rw [View.readCov_unit_zero _ hz2]
  exact congrArg ((cfg0.win 8).cut (grid0.coords t)) (meanSq_block _ _ _ (sum_apply0 (iblk m c 0 t)))

theorem after5_B (t : Fin cfg0.N) (h0 : ¬t.val < 2) (h1 : 2 ≤ t.val) : (dats m 0 c).flushed 5 t
    = (cfg0.win 5).cut (grid0.coords t) (blockG (iblk m c 1 t)) := by
  rw [Value.flushed5_B m c t h0 h1]
  unfold out0_B_5
  rw [View.read_writes_eq_canon _ _ _ (fun _ => cover0_B_5 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x352x512) hz, View.ld_unit_zero (S := S352x512) hz2]
  rw [View.readCov_unit_zero _ hz2]
  exact congrArg ((cfg0.win 5).cut (grid0.coords t)) (grad_block _ _ (sum_apply1 (iblk m c 1 t)))

theorem after6_B (t : Fin cfg0.N) (h0 : ¬t.val < 2) (h1 : 2 ≤ t.val) : (dats m 0 c).flushed 6 t
    = (cfg0.win 6).cut (grid0.coords t) (blockD (iblk m c 1 t) (iblk m c 2 t) (iblk m c 3 t) (iblk m c 4 t)) := by
  rw [Value.flushed6_B m c t h0 h1]
  unfold out0_B_6
  rw [View.read_writes_eq_canon _ _ _ (fun _ => cover0_B_6 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x352x512) hz, View.ld_unit_zero (S := S352x512) hz2]
  rw [View.readCov_unit_zero _ hz2]
  exact congrArg ((cfg0.win 6).cut (grid0.coords t)) (delta_block _ _ _ _ _ (sum_apply1 (iblk m c 1 t)))

theorem after7_B (t : Fin cfg0.N) (h0 : ¬t.val < 2) (h1 : 2 ≤ t.val) : (dats m 0 c).flushed 7 t
    = (cfg0.win 7).cut (grid0.coords t) (blockM (iblk m c 1 t) (iblk m c 3 t)) := by
  rw [Value.flushed7_B m c t h0 h1]
  unfold out0_B_7
  rw [View.read_writes_eq_canon _ _ _ (fun _ => cover0_B_7 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x352x512) hz, View.ld_unit_zero (S := S352x512) hz2]
  rw [View.readCov_unit_zero _ hz2]
  exact congrArg ((cfg0.win 7).cut (grid0.coords t)) (mean_block _ _ _ (sum_apply1 (iblk m c 1 t)))

theorem after8_B (t : Fin cfg0.N) (h0 : ¬t.val < 2) (h1 : 2 ≤ t.val) : (dats m 0 c).flushed 8 t
    = (cfg0.win 8).cut (grid0.coords t) (blockV (iblk m c 1 t) (iblk m c 4 t)) := by
  rw [Value.flushed8_B m c t h0 h1]
  unfold out0_B_8
  rw [View.read_writes_eq_canon _ _ _ (fun _ => cover0_B_8 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x352x512) hz, View.ld_unit_zero (S := S352x512) hz2]
  rw [View.readCov_unit_zero _ hz2]
  exact congrArg ((cfg0.win 8).cut (grid0.coords t)) (meanSq_block _ _ _ (sum_apply1 (iblk m c 1 t)))

theorem blockG_eq0 (t : Fin cfg0.N) (h : t.val < 2) (i : S1x352x512.Idx) : blockG (iblk m c 0 t) i = grads (S0 m c) (S1 m c) (at_ t i) := by
  have e : ((at_ t i) 0).val = t.val / 2 := rfl
  unfold grads
  rw [if_pos (by omega)]
  exact Finset.sum_congr rfl fun s _ => slot0 m c t h s _ _

theorem blockG_eq1 (t : Fin cfg0.N) (h : 2 ≤ t.val) (i : S1x352x512.Idx) : blockG (iblk m c 1 t) i = grads (S0 m c) (S1 m c) (at_ t i) := by
  have e : ((at_ t i) 0).val = t.val / 2 := rfl
  unfold grads
  rw [if_neg (by omega)]
  exact Finset.sum_congr rfl fun s _ => slot1 m c t h s _ _

theorem cut5 (f : S1x352x512.Idx → EReal) (A : S2x352x1024.Idx → EReal) (t : Fin cfg0.N) (h : ∀ i, f i = A (at_ t i)) :
    (cfg0.win 5).cut (grid0.coords t) f = ((cfg0.win 5).blk t).view.read (Elt Ideal) A := by
  funext i
  rw [View.read_apply]
  have h0 : (i 0 : ℕ) < 1 := (i 0).isLt
  have h1 : (i 1 : ℕ) < 352 := (i 1).isLt
  have h2 : (i 2 : ℕ) < 512 := (i 2).isLt
  refine (congrArg f ?_).trans ((h (ix3 ⟨(i 0 : ℕ), h0⟩ ⟨(i 1 : ℕ), h1⟩ ⟨(i 2 : ℕ), h2⟩)).trans (congrArg A ?_))
  · funext q
    match q with
    | ⟨0, _⟩ => rfl
    | ⟨1, _⟩ => rfl
    | ⟨2, _⟩ => rfl
  · funext q; apply Fin.ext
    match q with
    | ⟨0, _⟩ => show t.val / 2 = win0_5.index t 0 * 1 + 1 * (i 0 : ℕ)
                rw [(index5 t).1]; omega
    | ⟨1, _⟩ => show (i 1 : ℕ) = win0_5.index t 1 * 352 + 1 * (i 1 : ℕ)
                rw [(index5 t).2.1]; omega
    | ⟨2, _⟩ => show t.val % 2 * 512 + (i 2 : ℕ) = win0_5.index t 2 * 512 + 1 * (i 2 : ℕ)
                rw [(index5 t).2.2]; omega

theorem flushed5 (t : Fin cfg0.N) : (dats m 0 c).flushed 5 t
    = ((cfg0.win 5).blk t).view.read (Elt Ideal) (grads (S0 m c) (S1 m c)) := by
  by_cases h : t.val < 2
  · rw [after5_A m c t h (by omega)]
    exact cut5 _ _ t fun i => blockG_eq0 m c t h i
  · rw [after5_B m c t h (by omega)]
    exact cut5 _ _ t fun i => blockG_eq1 m c t (by omega) i

/-- Every entry of a weight lies in the block of a point. -/
theorem inside (i : S2x352x1024.Idx) : ∃ t : Fin cfg0.N, ∀ a : Fin 3,
    win0_5.index t a * S1x352x512.size a ≤ (i a : ℕ) ∧ (i a : ℕ) < win0_5.index t a * S1x352x512.size a + S1x352x512.size a := by
  have h0 : (i 0 : ℕ) < 2 := (i 0).isLt
  have h1 : (i 1 : ℕ) < 352 := (i 1).isLt
  have h2 : (i 2 : ℕ) < 1024 := (i 2).isLt
  have hN : cfg0.N = 4 := N_0
  obtain ⟨t, ht⟩ : ∃ t : Fin cfg0.N, t.val = (i 0 : ℕ) * 2 + (i 2 : ℕ) / 512 := ⟨⟨_, by omega⟩, rfl⟩
  have e := index5 t
  refine ⟨t, fun a => ?_⟩
  match a with
  | ⟨0, _⟩ => show win0_5.index t 0 * 1 ≤ (i 0 : ℕ) ∧ (i 0 : ℕ) < win0_5.index t 0 * 1 + 1
              rw [e.1, ht]; omega
  | ⟨1, _⟩ => show win0_5.index t 1 * 352 ≤ (i 1 : ℕ) ∧ (i 1 : ℕ) < win0_5.index t 1 * 352 + 352
              rw [e.2.1]; omega
  | ⟨2, _⟩ => show win0_5.index t 2 * 512 ≤ (i 2 : ℕ) ∧ (i 2 : ℕ) < win0_5.index t 2 * 512 + 512
              rw [e.2.2, ht]; omega

theorem cover5 (i : S2x352x1024.Idx) : ∃ t : Fin cfg0.N, (cfg0.win 5).flush t = true ∧ i ∈ ((cfg0.win 5).blk t).view.set := by
  obtain ⟨t, ht⟩ := inside i
  refine ⟨t, flush0_5 _, ?_⟩
  show i ∈ ((View.whole main_v0_0).slice (win0_5.rect t)).set
  rw [View.set_slice_whole, Rect.mem_set_unit]
  exact ht

theorem final5 : (dats m 0 c).arrAt 5 cfg0.N = grads (S0 m c) (S1 m c) :=
  (dats m 0 c).arrAt_eq_of_cover 5 _ (fun t _ => flushed5 m c t) cover5

theorem cut6 (f : S1x352x512.Idx → EReal) (A : S2x352x1024.Idx → EReal) (t : Fin cfg0.N) (h : ∀ i, f i = A (at_ t i)) :
    (cfg0.win 6).cut (grid0.coords t) f = ((cfg0.win 6).blk t).view.read (Elt Ideal) A :=
  cut5 f A t h

theorem flushed6 (t : Fin cfg0.N) : (dats m 0 c).flushed 6 t
    = ((cfg0.win 6).blk t).view.read (Elt Ideal) (deltas (S0 m c) (S1 m c) (aw m c) (am m c) (av m c)) := by
  by_cases h : t.val < 2
  · rw [after6_A m c t h (by omega)]
    exact cut6 _ _ t fun i => by unfold blockD deltas; rw [blockG_eq0 m c t h i, block2, block3, block4]
  · rw [after6_B m c t h (by omega)]
    exact cut6 _ _ t fun i => by unfold blockD deltas; rw [blockG_eq1 m c t (by omega) i, block2, block3, block4]

theorem cover6 (i : S2x352x1024.Idx) : ∃ t : Fin cfg0.N, (cfg0.win 6).flush t = true ∧ i ∈ ((cfg0.win 6).blk t).view.set := by
  obtain ⟨t, ht⟩ := inside i
  refine ⟨t, flush0_6 _, ?_⟩
  show i ∈ ((View.whole main_v0_1).slice (win0_6.rect t)).set
  rw [View.set_slice_whole, Rect.mem_set_unit]
  exact ht

theorem final6 : (dats m 0 c).arrAt 6 cfg0.N = deltas (S0 m c) (S1 m c) (aw m c) (am m c) (av m c) :=
  (dats m 0 c).arrAt_eq_of_cover 6 _ (fun t _ => flushed6 m c t) cover6

theorem cut7 (f : S1x352x512.Idx → EReal) (A : S2x352x1024.Idx → EReal) (t : Fin cfg0.N) (h : ∀ i, f i = A (at_ t i)) :
    (cfg0.win 7).cut (grid0.coords t) f = ((cfg0.win 7).blk t).view.read (Elt Ideal) A :=
  cut5 f A t h

theorem flushed7 (t : Fin cfg0.N) : (dats m 0 c).flushed 7 t
    = ((cfg0.win 7).blk t).view.read (Elt Ideal) (means (S0 m c) (S1 m c) (am m c)) := by
  by_cases h : t.val < 2
  · rw [after7_A m c t h (by omega)]
    exact cut7 _ _ t fun i => by unfold blockM means; rw [blockG_eq0 m c t h i, block3]
  · rw [after7_B m c t h (by omega)]
    exact cut7 _ _ t fun i => by unfold blockM means; rw [blockG_eq1 m c t (by omega) i, block3]

theorem cover7 (i : S2x352x1024.Idx) : ∃ t : Fin cfg0.N, (cfg0.win 7).flush t = true ∧ i ∈ ((cfg0.win 7).blk t).view.set := by
  obtain ⟨t, ht⟩ := inside i
  refine ⟨t, flush0_7 _, ?_⟩
  show i ∈ ((View.whole main_v0_2).slice (win0_7.rect t)).set
  rw [View.set_slice_whole, Rect.mem_set_unit]
  exact ht

theorem final7 : (dats m 0 c).arrAt 7 cfg0.N = means (S0 m c) (S1 m c) (am m c) :=
  (dats m 0 c).arrAt_eq_of_cover 7 _ (fun t _ => flushed7 m c t) cover7

theorem cut8 (f : S1x352x512.Idx → EReal) (A : S2x352x1024.Idx → EReal) (t : Fin cfg0.N) (h : ∀ i, f i = A (at_ t i)) :
    (cfg0.win 8).cut (grid0.coords t) f = ((cfg0.win 8).blk t).view.read (Elt Ideal) A :=
  cut5 f A t h

theorem flushed8 (t : Fin cfg0.N) : (dats m 0 c).flushed 8 t
    = ((cfg0.win 8).blk t).view.read (Elt Ideal) (meanSqs (S0 m c) (S1 m c) (av m c)) := by
  by_cases h : t.val < 2
  · rw [after8_A m c t h (by omega)]
    exact cut8 _ _ t fun i => by unfold blockV meanSqs; rw [blockG_eq0 m c t h i, block4]
  · rw [after8_B m c t h (by omega)]
    exact cut8 _ _ t fun i => by unfold blockV meanSqs; rw [blockG_eq1 m c t (by omega) i, block4]

theorem cover8 (i : S2x352x1024.Idx) : ∃ t : Fin cfg0.N, (cfg0.win 8).flush t = true ∧ i ∈ ((cfg0.win 8).blk t).view.set := by
  obtain ⟨t, ht⟩ := inside i
  refine ⟨t, flush0_8 _, ?_⟩
  show i ∈ ((View.whole main_v0_3).slice (win0_8.rect t)).set
  rw [View.set_slice_whole, Rect.mem_set_unit]
  exact ht

theorem final8 : (dats m 0 c).arrAt 8 cfg0.N = meanSqs (S0 m c) (S1 m c) (av m c) :=
  (dats m 0 c).arrAt_eq_of_cover 8 _ (fun t _ => flushed8 m c t) cover8

/-- The run, read: each result at its formula, the arguments unchanged. -/
theorem run : θ_run defs (onTc (τ := τ) (main (F := Ideal))) ⟨m, fun _ => 0, ρ⟩ fun r => ∀ c : Dev nD,
      r.2.mem ((c : Thread nD τ).loc main_v0_0) = grads (S0 m c) (S1 m c)
      ∧ r.2.mem ((c : Thread nD τ).loc main_v0_1) = deltas (S0 m c) (S1 m c) (aw m c) (am m c) (av m c)
      ∧ r.2.mem ((c : Thread nD τ).loc main_v0_2) = means (S0 m c) (S1 m c) (am m c)
      ∧ r.2.mem ((c : Thread nD τ).loc main_v0_3) = meanSqs (S0 m c) (S1 m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c),
    (h c).2.2.1.trans (final7 m c), (h c).2.2.2.1.trans (final8 m c), (h c).2.2.2.2⟩) (Value.run_blocks m ρ)

end

/-! ## The reference -/

section
open Cert.AdamFfnOutRefIdeal.Read

theorem ref_layer0 (a : Fin 352) (k : Fin 1024) : val_main_v4 (F := Ideal) s0 (ix3 0 a k)
    = ∑ s : Fin 8, s0 (ix3 s a k) := by
  rw [val_main_v4_apply, val_main_v1_apply, val_main_cst_apply,
    show (FloatOps.ofBits (F := Ideal) .f32 0x00000000#32 : EReal) = 0 from Ideal.ofBits_zero_f32, zero_add]
  refine Finset.sum_congr rfl fun s _ => ?_
  rw [val_main_v0_apply]
  refine congrArg s0 (funext fun q => Fin.ext ?_)
  match q with
  | ⟨0, _⟩ => rfl
  | ⟨1, _⟩ => rfl
  | ⟨2, _⟩ => rfl

theorem ref_layer1 (a : Fin 352) (k : Fin 1024) : val_main_v5 (F := Ideal) s1 (ix3 0 a k)
    = ∑ s : Fin 8, s1 (ix3 s a k) := by
  rw [val_main_v5_apply, val_main_v3_apply, val_main_cst_0_apply,
    show (FloatOps.ofBits (F := Ideal) .f32 0x00000000#32 : EReal) = 0 from Ideal.ofBits_zero_f32, zero_add]
  refine Finset.sum_congr rfl fun s _ => ?_
  rw [val_main_v2_apply]
  refine congrArg s1 (funext fun q => Fin.ext ?_)
  match q with
  | ⟨0, _⟩ => rfl
  | ⟨1, _⟩ => rfl
  | ⟨2, _⟩ => rfl

theorem ref_grads : val_main_v6 (F := Ideal) s0 s1 = grads s0 s1 := by
  funext i
  obtain ⟨l, a, k, rfl⟩ : ∃ l a k, i = ix3 l a k := ⟨i 0, i 1, i 2, by
    funext q
    match q with
    | ⟨0, _⟩ => rfl
    | ⟨1, _⟩ => rfl
    | ⟨2, _⟩ => rfl⟩
  unfold val_main_v6
  match l with
  | ⟨0, _⟩ =>
    refine Eq.trans ?_ (ref_layer0 s0 a k)
    generalize val_main_v4 (F := Ideal) s0 = y
    pointwise
  | ⟨1, _⟩ =>
    refine Eq.trans ?_ (ref_layer1 s1 a k)
    generalize val_main_v5 (F := Ideal) s1 = y
    pointwise

theorem ref_mean : val_main_v11 (F := Ideal) s0 s1 m = means s0 s1 m := by
  funext i
  simp only [val_main_v7_apply, val_main_v8_apply, val_main_v9_apply, val_main_v10_apply, val_main_v11_apply,
    val_main_cst_1_apply, val_main_cst_2_apply, val_main_cst_3_apply, val_main_cst_4_apply, val_main_cst_5_apply, val_main_cst_6_apply, val_main_cst_7_apply, val_main_cst_8_apply, val_main_cst_9_apply, ref_grads]
  rfl

theorem ref_meanSq : val_main_v17 (F := Ideal) s0 s1 v = meanSqs s0 s1 v := by
  funext i
  simp only [val_main_v12_apply, val_main_v13_apply, val_main_v14_apply, val_main_v15_apply, val_main_v16_apply, val_main_v17_apply,
    val_main_cst_1_apply, val_main_cst_2_apply, val_main_cst_3_apply, val_main_cst_4_apply, val_main_cst_5_apply, val_main_cst_6_apply, val_main_cst_7_apply, val_main_cst_8_apply, val_main_cst_9_apply, ref_grads]
  rfl

theorem ref_delta : val_main_v30 (F := Ideal) s0 s1 w m v = deltas s0 s1 w m v := by
  funext i
  simp only [val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply,
    val_main_cst_1_apply, val_main_cst_2_apply, val_main_cst_3_apply, val_main_cst_4_apply, val_main_cst_5_apply, val_main_cst_6_apply, val_main_cst_7_apply, val_main_cst_8_apply, val_main_cst_9_apply, ref_grads]
  rfl

end

/-! ## The claims -/

theorem frame_ref : Cert.quiescent_AdamFfnOutRefIdeal := fun m ρ _ =>
  (θ_run _ _ _).mono (fun r h => ⟨fun c => (h c).2.2.2.2, sem_eq_zero_of_no_sems (by decide) r.2⟩)
    (Cert.AdamFfnOutRefIdeal.Value.run (F := Ideal) m ρ)

theorem algebraic : Cert.algebraic_AdamFfnOutIdeal_AdamFfnOutRefIdeal := by
  intro m ρ m' ρ' _ args
  refine ⟨fun c => grads (S0 m c) (S1 m c), fun c => deltas (S0 m c) (S1 m c) (aw m c) (am m c) (av m c),
    fun c => means (S0 m c) (S1 m c) (am m c), fun c => meanSqs (S0 m c) (S1 m c) (av m c), run m ρ, ?_⟩
  refine (θ_run _ _ _).mono (fun r h c => ?_) (Cert.AdamFfnOutRefIdeal.Value.run (F := Ideal) m' ρ')
  obtain ⟨a0, a1, a2, a3, a4⟩ := args c
  obtain ⟨h0, h1, h2, h3, hk⟩ := h c
  refine ⟨h0.trans ?_, h1.trans ?_, h2.trans ?_, h3.trans ?_, hk⟩
  · rw [Cert.AdamFfnOutRefIdeal.Read.val_main_v6_eq, a0, a1]
    exact ref_grads _ _
  · rw [Cert.AdamFfnOutRefIdeal.Read.val_main_v30_eq, a0, a1, a2, a3, a4]
    exact ref_delta _ _ _ _ _
  · rw [Cert.AdamFfnOutRefIdeal.Read.val_main_v11_eq, a0, a1, a3]
    exact ref_mean _ _ _
  · rw [Cert.AdamFfnOutRefIdeal.Read.val_main_v17_eq, a0, a1, a4]
    exact ref_meanSq _ _ _

end Cert.Adam.FfnOut

end
-- ==== Proof.Adam.MemKv.lean ====
/-
  The optimiser's step on the weight of the memory's keys and values, of both layers: the slots of the eight parts of a gradient are added, half of the columns at a point.
-/
module

public import Idealize.ShloMosaic.Lib.Pointwise
public import Idealize.ShloMosaic.Lib.Quiescent
public import proofs.«01_k».proof.Defs
public import proofs.«01_k».proof.Proof.Adam
public import proofs.«01_k».proof.Proof.Gen.AdamMemKvIdeal.Value
public import proofs.«01_k».proof.Proof.Gen.AdamMemKvRefIdeal.Run
public import proofs.«01_k».proof.Proof.Gen.AdamMemKvRefIdeal.Read

@[expose] public section

set_option maxRecDepth 16384

noncomputable section

open Idealize.ShloMosaic Idealize.ShloMosaic.TcCoe Idealize.SL.Sem

namespace Cert.Adam.MemKv

open Cert.AdamMemKvIdeal Cert.AdamMemKvIdeal.Gen

/-! ## The results as functions of the arguments -/

/-- The gradient: the sum of its eight slots. -/
def grads (s0 s1 : S8x256x1024.Idx → EReal) (i : S2x1024x256.Idx) : EReal :=
  if (i 0).val = 0 then ∑ s : Fin 8, s0 (ix3 s (i 2) (i 1)) else ∑ s : Fin 8, s1 (ix3 s (i 2) (i 1))

variable (s0 s1 : S8x256x1024.Idx → EReal) (w m v : S2x1024x256.Idx → EReal)

def deltas (i : S2x1024x256.Idx) : EReal := delta (w i) (grads s0 s1 i) (m i) (v i)
def means (i : S2x1024x256.Idx) : EReal := mean (grads s0 s1 i) (m i)
def meanSqs (i : S2x1024x256.Idx) : EReal := meanSq (grads s0 s1 i) (v i)

/-! ## A point's blocks -/

section
variable (X : S8x256x512.Idx → EReal) (G : S256x512.Idx → EReal) (W M V : S1x512x256.Idx → EReal)

/-- The gradient's block. -/
def blockG (i : S1x512x256.Idx) : EReal := ∑ s : Fin 8, X (ix3 s (i 2) (i 1))
def blockD (i : S1x512x256.Idx) : EReal := delta (W i) (blockG X i) (M i) (V i)
def blockM (i : S1x512x256.Idx) : EReal := mean (blockG X i) (M i)
def blockV (i : S1x512x256.Idx) : EReal := meanSq (blockG X i) (V i)

theorem sum_apply0 (a : Fin 256) (k : Fin 512) : k0_pay4 (F := Ideal)
    (View.ld X (Rect.unit (s := S8x256x512) ![0, 0, 0] S1x256x512.size inb_S8x256x512_S1x256x512_0_0_0))
    (View.ld X (Rect.unit (s := S8x256x512) ![1, 0, 0] S1x256x512.size inb_S8x256x512_S1x256x512_1_0_0))
    (View.ld X (Rect.unit (s := S8x256x512) ![2, 0, 0] S1x256x512.size inb_S8x256x512_S1x256x512_2_0_0))
    (View.ld X (Rect.unit (s := S8x256x512) ![3, 0, 0] S1x256x512.size inb_S8x256x512_S1x256x512_3_0_0))
    (View.ld X (Rect.unit (s := S8x256x512) ![4, 0, 0] S1x256x512.size inb_S8x256x512_S1x256x512_4_0_0))
    (View.ld X (Rect.unit (s := S8x256x512) ![5, 0, 0] S1x256x512.size inb_S8x256x512_S1x256x512_5_0_0))
    (View.ld X (Rect.unit (s := S8x256x512) ![6, 0, 0] S1x256x512.size inb_S8x256x512_S1x256x512_6_0_0))
    (View.ld X (Rect.unit (s := S8x256x512) ![7, 0, 0] S1x256x512.size inb_S8x256x512_S1x256x512_7_0_0))
    (ix2 a k) = ∑ s : Fin 8, X (ix3 s a k) := by
  rw [Fin.sum_univ_eight]
  unfold k0_pay4
  pointwise

theorem sum_apply1 (a : Fin 256) (k : Fin 512) : k0_pay5 (F := Ideal)
    (View.ld X (Rect.unit (s := S8x256x512) ![0, 0, 0] S1x256x512.size inb_S8x256x512_S1x256x512_0_0_0))
    (View.ld X (Rect.unit (s := S8x256x512) ![1, 0, 0] S1x256x512.size inb_S8x256x512_S1x256x512_1_0_0))
    (View.ld X (Rect.unit (s := S8x256x512) ![2, 0, 0] S1x256x512.size inb_S8x256x512_S1x256x512_2_0_0))
    (View.ld X (Rect.unit (s := S8x256x512) ![3, 0, 0] S1x256x512.size inb_S8x256x512_S1x256x512_3_0_0))
    (View.ld X (Rect.unit (s := S8x256x512) ![4, 0, 0] S1x256x512.size inb_S8x256x512_S1x256x512_4_0_0))
    (View.ld X (Rect.unit (s := S8x256x512) ![5, 0, 0] S1x256x512.size inb_S8x256x512_S1x256x512_5_0_0))
    (View.ld X (Rect.unit (s := S8x256x512) ![6, 0, 0] S1x256x512.size inb_S8x256x512_S1x256x512_6_0_0))
    (View.ld X (Rect.unit (s := S8x256x512) ![7, 0, 0] S1x256x512.size inb_S8x256x512_S1x256x512_7_0_0))
    (ix2 a k) = ∑ s : Fin 8, X (ix3 s a k) := by
  rw [Fin.sum_univ_eight]
  unfold k0_pay5
  pointwise

theorem grad_apply (a : Fin 512) (k : Fin 256) : (k0_pay7 (F := Ideal) G : S1x512x256.Idx → EReal) (ix3 0 a k)
    = G (ix2 k a) := by
  unfold k0_pay7 k0_pay6
  pointwise

theorem delta_apply (a : Fin 512) (k : Fin 256) : (k0_pay1 (F := Ideal) (k0_pay8 (F := Ideal) W) (k0_pay10 (F := Ideal) G V) (k0_pay11 (F := Ideal) G M) (k0_pay12 (F := Ideal)) : S1x512x256.Idx → EReal) (ix3 0 a k)
    = delta (W (ix3 0 a k)) (G (ix2 k a)) (M (ix3 0 a k)) (V (ix3 0 a k)) := by
  unfold k0_pay1 k0_pay8 k0_pay11 k0_pay12 k0_pay9 k0_pay10 k0_pay6
  pointwise
  rfl

theorem mean_apply (a : Fin 512) (k : Fin 256) : (k0_pay2 (F := Ideal) (k0_pay9 (F := Ideal) G M) : S1x512x256.Idx → EReal) (ix3 0 a k)
    = mean (G (ix2 k a)) (M (ix3 0 a k)) := by
  unfold k0_pay2 k0_pay9 k0_pay6
  pointwise
  rfl

theorem meanSq_apply (a : Fin 512) (k : Fin 256) : (k0_pay3 (F := Ideal) (k0_pay10 (F := Ideal) G V) : S1x512x256.Idx → EReal) (ix3 0 a k)
    = meanSq (G (ix2 k a)) (V (ix3 0 a k)) := by
  unfold k0_pay3 k0_pay10 k0_pay6
  pointwise
  rfl

theorem eq_ix3 (i : S1x512x256.Idx) : i = ix3 0 (i 1) (i 2) := by
  funext q
  match q with
  | ⟨0, _⟩ => exact Subsingleton.elim (α := Fin 1) _ _
  | ⟨1, _⟩ => rfl
  | ⟨2, _⟩ => rfl

theorem grad_block (h : ∀ (a : Fin 256) (k : Fin 512), G (ix2 a k) = ∑ s : Fin 8, X (ix3 s a k)) :
    (k0_pay7 (F := Ideal) G : S1x512x256.Idx → EReal) = blockG X := by
  funext i
  have e := eq_ix3 i
  rw [e]
  refine (grad_apply G (i 1) (i 2)).trans ?_
  rw [h (i 2) (i 1)]
  rfl

theorem delta_block (h : ∀ (a : Fin 256) (k : Fin 512), G (ix2 a k) = ∑ s : Fin 8, X (ix3 s a k)) :
    (k0_pay1 (F := Ideal) (k0_pay8 (F := Ideal) W) (k0_pay10 (F := Ideal) G V) (k0_pay11 (F := Ideal) G M) (k0_pay12 (F := Ideal)) : S1x512x256.Idx → EReal) = blockD X W M V := by
  funext i
  have e := eq_ix3 i
  rw [e]
  refine (delta_apply G W M V (i 1) (i 2)).trans ?_
  rw [h (i 2) (i 1)]
  rfl

theorem mean_block (h : ∀ (a : Fin 256) (k : Fin 512), G (ix2 a k) = ∑ s : Fin 8, X (ix3 s a k)) :
    (k0_pay2 (F := Ideal) (k0_pay9 (F := Ideal) G M) : S1x512x256.Idx → EReal) = blockM X M := by
  funext i
  have e := eq_ix3 i
  rw [e]
  refine (mean_apply G M (i 1) (i 2)).trans ?_
  rw [h (i 2) (i 1)]
  rfl

theorem meanSq_block (h : ∀ (a : Fin 256) (k : Fin 512), G (ix2 a k) = ∑ s : Fin 8, X (ix3 s a k)) :
    (k0_pay3 (F := Ideal) (k0_pay10 (F := Ideal) G V) : S1x512x256.Idx → EReal) = blockV X V := by
  funext i
  have e := eq_ix3 i
  rw [e]
  refine (meanSq_apply G V (i 1) (i 2)).trans ?_
  rw [h (i 2) (i 1)]
  rfl

end

/-! ## What a point reads and writes -/

section
variable (m : (ℓ : Loc nD τ sig) → Buf (Elt Ideal) ℓ) (ρ : Dev nD → PrngReg) (c : Dev nD)
abbrev S0 : S8x256x1024.Idx → EReal := m ((c : Thread nD τ).loc main_arg0)
abbrev S1 : S8x256x1024.Idx → EReal := m ((c : Thread nD τ).loc main_arg1)
abbrev aw : S2x1024x256.Idx → EReal := m ((c : Thread nD τ).loc main_arg2)
abbrev am : S2x1024x256.Idx → EReal := m ((c : Thread nD τ).loc main_arg3)
abbrev av : S2x1024x256.Idx → EReal := m ((c : Thread nD τ).loc main_arg4)

theorem points (t : Fin cfg0.N) : t.val < 4 := t.isLt

/-- Where the block of a point lies in a weight. -/
def at_ (t : Fin cfg0.N) (i : S1x512x256.Idx) : S2x1024x256.Idx :=
  ix3 ⟨t.val / 2, by have h := points t; omega⟩ ⟨t.val % 2 * 512 + (i 1).val, by have h : (i 1).val < 512 := (i 1).isLt; omega⟩ (i 2)

theorem index0 : ∀ t : Fin cfg0.N, win0_0.index t 0 = 0 ∧ win0_0.index t 1 = 0 ∧ (t.val < 2 → win0_0.index t 2 = t.val % 2) :=
  (by decide +kernel : ∀ t : Fin grid0.N, win0_0.index t 0 = 0 ∧ win0_0.index t 1 = 0 ∧ (t.val < 2 → win0_0.index t 2 = t.val % 2))

theorem index1 : ∀ t : Fin cfg0.N, win0_1.index t 0 = 0 ∧ win0_1.index t 1 = 0 ∧ (2 ≤ t.val → win0_1.index t 2 = t.val % 2) :=
  (by decide +kernel : ∀ t : Fin grid0.N, win0_1.index t 0 = 0 ∧ win0_1.index t 1 = 0 ∧ (2 ≤ t.val → win0_1.index t 2 = t.val % 2))

theorem index2 : ∀ t : Fin cfg0.N, win0_2.index t 0 = t.val / 2 ∧ win0_2.index t 1 = t.val % 2 ∧ win0_2.index t 2 = 0 :=
  (by decide +kernel : ∀ t : Fin grid0.N, win0_2.index t 0 = t.val / 2 ∧ win0_2.index t 1 = t.val % 2 ∧ win0_2.index t 2 = 0)

theorem index3 : ∀ t : Fin cfg0.N, win0_3.index t 0 = t.val / 2 ∧ win0_3.index t 1 = t.val % 2 ∧ win0_3.index t 2 = 0 :=
  (by decide +kernel : ∀ t : Fin grid0.N, win0_3.index t 0 = t.val / 2 ∧ win0_3.index t 1 = t.val % 2 ∧ win0_3.index t 2 = 0)

theorem index4 : ∀ t : Fin cfg0.N, win0_4.index t 0 = t.val / 2 ∧ win0_4.index t 1 = t.val % 2 ∧ win0_4.index t 2 = 0 :=
  (by decide +kernel : ∀ t : Fin grid0.N, win0_4.index t 0 = t.val / 2 ∧ win0_4.index t 1 = t.val % 2 ∧ win0_4.index t 2 = 0)

theorem index5 : ∀ t : Fin cfg0.N, win0_5.index t 0 = t.val / 2 ∧ win0_5.index t 1 = t.val % 2 ∧ win0_5.index t 2 = 0 :=
  (by decide +kernel : ∀ t : Fin grid0.N, win0_5.index t 0 = t.val / 2 ∧ win0_5.index t 1 = t.val % 2 ∧ win0_5.index t 2 = 0)

theorem slot0 (t : Fin cfg0.N) (h : t.val < 2) (s : Fin 8) (a : Fin 256) (k : Fin 512) :
    iblk m c 0 t (ix3 s a k) = S0 m c (ix3 s a ⟨t.val % 2 * 512 + k.val, by omega⟩) := by
  unfold iblk
  rw [View.read_apply]
  show V m c main_arg0 _ = _
  rw [V_main_arg0 m c]
  congr 1; funext q; apply Fin.ext
  match q with
  | ⟨0, _⟩ => show win0_0.index t 0 * 8 + 1 * s.val = s.val
              rw [(index0 t).1]; omega
  | ⟨1, _⟩ => show win0_0.index t 1 * 256 + 1 * a.val = a.val
              rw [(index0 t).2.1]; omega
  | ⟨2, _⟩ => show win0_0.index t 2 * 512 + 1 * k.val = t.val % 2 * 512 + k.val
              rw [(index0 t).2.2 h]; omega

theorem slot1 (t : Fin cfg0.N) (h : 2 ≤ t.val) (s : Fin 8) (a : Fin 256) (k : Fin 512) :
    iblk m c 1 t (ix3 s a k) = S1 m c (ix3 s a ⟨t.val % 2 * 512 + k.val, by omega⟩) := by
  unfold iblk
  rw [View.read_apply]
  show V m c main_arg1 _ = _
  rw [V_main_arg1 m c]
  congr 1; funext q; apply Fin.ext
  match q with
  | ⟨0, _⟩ => show win0_1.index t 0 * 8 + 1 * s.val = s.val
              rw [(index1 t).1]; omega
  | ⟨1, _⟩ => show win0_1.index t 1 * 256 + 1 * a.val = a.val
              rw [(index1 t).2.1]; omega
  | ⟨2, _⟩ => show win0_1.index t 2 * 512 + 1 * k.val = t.val % 2 * 512 + k.val
              rw [(index1 t).2.2 h]; omega

theorem block2 (t : Fin cfg0.N) (i : S1x512x256.Idx) : iblk m c 2 t i = aw m c (at_ t i) := by
  have h0 : (i 0).val < 1 := (i 0).isLt
  unfold iblk
  rw [View.read_apply]
  show V m c main_arg2 _ = _
  rw [V_main_arg2 m c]
  congr 1; funext q; apply Fin.ext
  match q with
  | ⟨0, _⟩ => show win0_2.index t 0 * 1 + 1 * (i 0).val = t.val / 2
              rw [(index2 t).1]; omega
  | ⟨1, _⟩ => show win0_2.index t 1 * 512 + 1 * (i 1).val = t.val % 2 * 512 + (i 1).val
              rw [(index2 t).2.1]; omega
  | ⟨2, _⟩ => show win0_2.index t 2 * 256 + 1 * (i 2).val = (i 2).val
              rw [(index2 t).2.2]; omega

theorem block3 (t : Fin cfg0.N) (i : S1x512x256.Idx) : iblk m c 3 t i = am m c (at_ t i) := by
  have h0 : (i 0).val < 1 := (i 0).isLt
  unfold iblk
  rw [View.read_apply]
  show V m c main_arg3 _ = _
  rw [V_main_arg3 m c]
  congr 1; funext q; apply Fin.ext
  match q with
  | ⟨0, _⟩ => show win0_3.index t 0 * 1 + 1 * (i 0).val = t.val / 2
              rw [(index3 t).1]; omega
  | ⟨1, _⟩ => show win0_3.index t 1 * 512 + 1 * (i 1).val = t.val % 2 * 512 + (i 1).val
              rw [(index3 t).2.1]; omega
  | ⟨2, _⟩ => show win0_3.index t 2 * 256 + 1 * (i 2).val = (i 2).val
              rw [(index3 t).2.2]; omega

theorem block4 (t : Fin cfg0.N) (i : S1x512x256.Idx) : iblk m c 4 t i = av m c (at_ t i) := by
  have h0 : (i 0).val < 1 := (i 0).isLt
  unfold iblk
  rw [View.read_apply]
  show V m c main_arg4 _ = _
  rw [V_main_arg4 m c]
  congr 1; funext q; apply Fin.ext
  match q with
  | ⟨0, _⟩ => show win0_4.index t 0 * 1 + 1 * (i 0).val = t.val / 2
              rw [(index4 t).1]; omega
  | ⟨1, _⟩ => show win0_4.index t 1 * 512 + 1 * (i 1).val = t.val % 2 * 512 + (i 1).val
              rw [(index4 t).2.1]; omega
  | ⟨2, _⟩ => show win0_4.index t 2 * 256 + 1 * (i 2).val = (i 2).val
              rw [(index4 t).2.2]; omega

theorem hz : (![0, 0, 0] : Fin 3 → Nat) = fun _ => 0 := funext fun a => by fin_cases a <;> rfl
theorem hz2 : (![0, 0] : Fin 2 → Nat) = fun _ => 0 := funext fun a => by fin_cases a <;> rfl

theorem after5_A (t : Fin cfg0.N) (h0 : t.val < 2) (h1 : ¬2 ≤ t.val) : (dats m 0 c).flushed 5 t
    = (cfg0.win 5).cut (grid0.coords t) (blockG (iblk m c 0 t)) := by
  rw [Value.flushed5_A m c t h0 h1]
  unfold out0_A_5
  rw [View.read_writes_eq_canon _ _ _ (fun _ => cover0_A_5 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x512x256) hz, View.ld_unit_zero (S := S256x512) hz2]
  rw [View.readCov_unit_zero _ hz2]
  exact congrArg ((cfg0.win 5).cut (grid0.coords t)) (grad_block _ _ (sum_apply0 (iblk m c 0 t)))

theorem after6_A (t : Fin cfg0.N) (h0 : t.val < 2) (h1 : ¬2 ≤ t.val) : (dats m 0 c).flushed 6 t
    = (cfg0.win 6).cut (grid0.coords t) (blockD (iblk m c 0 t) (iblk m c 2 t) (iblk m c 3 t) (iblk m c 4 t)) := by
  rw [Value.flushed6_A m c t h0 h1]
  unfold out0_A_6
  rw [View.read_writes_eq_canon _ _ _ (fun _ => cover0_A_6 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x512x256) hz, View.ld_unit_zero (S := S256x512) hz2]
  rw [View.readCov_unit_zero _ hz2]
  exact congrArg ((cfg0.win 6).cut (grid0.coords t)) (delta_block _ _ _ _ _ (sum_apply0 (iblk m c 0 t)))

theorem after7_A (t : Fin cfg0.N) (h0 : t.val < 2) (h1 : ¬2 ≤ t.val) : (dats m 0 c).flushed 7 t
    = (cfg0.win 7).cut (grid0.coords t) (blockM (iblk m c 0 t) (iblk m c 3 t)) := by
  rw [Value.flushed7_A m c t h0 h1]
  unfold out0_A_7
  rw [View.read_writes_eq_canon _ _ _ (fun _ => cover0_A_7 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x512x256) hz, View.ld_unit_zero (S := S256x512) hz2]
  rw [View.readCov_unit_zero _ hz2]
  exact congrArg ((cfg0.win 7).cut (grid0.coords t)) (mean_block _ _ _ (sum_apply0 (iblk m c 0 t)))

theorem after8_A (t : Fin cfg0.N) (h0 : t.val < 2) (h1 : ¬2 ≤ t.val) : (dats m 0 c).flushed 8 t
    = (cfg0.win 8).cut (grid0.coords t) (blockV (iblk m c 0 t) (iblk m c 4 t)) := by
  rw [Value.flushed8_A m c t h0 h1]
  unfold out0_A_8
  rw [View.read_writes_eq_canon _ _ _ (fun _ => cover0_A_8 ..)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x512x256) hz, View.ld_unit_zero (S := S256x512) hz2]
  rw [View.readCov_unit_zero _ hz2]
  exact congrArg ((cfg0.win 8).cut (grid0.coords t)) (meanSq_block _ _ _ (sum_apply0 (iblk m c 0 t)))

theorem after5_B (t : Fin cfg0.N) (h0 : ¬t.val < 2) (h1 : 2 ≤ t.val) : (dats m 0 c).flushed 5 t
    = (cfg0.win 5).cut (grid0.coords t) (blockG (iblk m c 1 t)) := by
  rw [Value.flushed5_B m c t h0 h1]
  unfold out0_B_5
  rw [View.read_writes_eq_canon _ _ _ (fun _ => cover0_B_5 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x512x256) hz, View.ld_unit_zero (S := S256x512) hz2]
  rw [View.readCov_unit_zero _ hz2]
  exact congrArg ((cfg0.win 5).cut (grid0.coords t)) (grad_block _ _ (sum_apply1 (iblk m c 1 t)))

theorem after6_B (t : Fin cfg0.N) (h0 : ¬t.val < 2) (h1 : 2 ≤ t.val) : (dats m 0 c).flushed 6 t
    = (cfg0.win 6).cut (grid0.coords t) (blockD (iblk m c 1 t) (iblk m c 2 t) (iblk m c 3 t) (iblk m c 4 t)) := by
  rw [Value.flushed6_B m c t h0 h1]
  unfold out0_B_6
  rw [View.read_writes_eq_canon _ _ _ (fun _ => cover0_B_6 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x512x256) hz, View.ld_unit_zero (S := S256x512) hz2]
  rw [View.readCov_unit_zero _ hz2]
  exact congrArg ((cfg0.win 6).cut (grid0.coords t)) (delta_block _ _ _ _ _ (sum_apply1 (iblk m c 1 t)))

theorem after7_B (t : Fin cfg0.N) (h0 : ¬t.val < 2) (h1 : 2 ≤ t.val) : (dats m 0 c).flushed 7 t
    = (cfg0.win 7).cut (grid0.coords t) (blockM (iblk m c 1 t) (iblk m c 3 t)) := by
  rw [Value.flushed7_B m c t h0 h1]
  unfold out0_B_7
  rw [View.read_writes_eq_canon _ _ _ (fun _ => cover0_B_7 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x512x256) hz, View.ld_unit_zero (S := S256x512) hz2]
  rw [View.readCov_unit_zero _ hz2]
  exact congrArg ((cfg0.win 7).cut (grid0.coords t)) (mean_block _ _ _ (sum_apply1 (iblk m c 1 t)))

theorem after8_B (t : Fin cfg0.N) (h0 : ¬t.val < 2) (h1 : 2 ≤ t.val) : (dats m 0 c).flushed 8 t
    = (cfg0.win 8).cut (grid0.coords t) (blockV (iblk m c 1 t) (iblk m c 4 t)) := by
  rw [Value.flushed8_B m c t h0 h1]
  unfold out0_B_8
  rw [View.read_writes_eq_canon _ _ _ (fun _ => cover0_B_8 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread,
    View.ld_unit_zero (S := S1x512x256) hz, View.ld_unit_zero (S := S256x512) hz2]
  rw [View.readCov_unit_zero _ hz2]
  exact congrArg ((cfg0.win 8).cut (grid0.coords t)) (meanSq_block _ _ _ (sum_apply1 (iblk m c 1 t)))

theorem blockG_eq0 (t : Fin cfg0.N) (h : t.val < 2) (i : S1x512x256.Idx) : blockG (iblk m c 0 t) i = grads (S0 m c) (S1 m c) (at_ t i) := by
  have e : ((at_ t i) 0).val = t.val / 2 := rfl
  unfold grads
  rw [if_pos (by omega)]
  exact Finset.sum_congr rfl fun s _ => slot0 m c t h s _ _

theorem blockG_eq1 (t : Fin cfg0.N) (h : 2 ≤ t.val) (i : S1x512x256.Idx) : blockG (iblk m c 1 t) i = grads (S0 m c) (S1 m c) (at_ t i) := by
  have e : ((at_ t i) 0).val = t.val / 2 := rfl
  unfold grads
  rw [if_neg (by omega)]
  exact Finset.sum_congr rfl fun s _ => slot1 m c t h s _ _

theorem cut5 (f : S1x512x256.Idx → EReal) (A : S2x1024x256.Idx → EReal) (t : Fin cfg0.N) (h : ∀ i, f i = A (at_ t i)) :
    (cfg0.win 5).cut (grid0.coords t) f = ((cfg0.win 5).blk t).view.read (Elt Ideal) A := by
  funext i
  rw [View.read_apply]
  have h0 : (i 0 : ℕ) < 1 := (i 0).isLt
  have h1 : (i 1 : ℕ) < 512 := (i 1).isLt
  have h2 : (i 2 : ℕ) < 256 := (i 2).isLt
  refine (congrArg f ?_).trans ((h (ix3 ⟨(i 0 : ℕ), h0⟩ ⟨(i 1 : ℕ), h1⟩ ⟨(i 2 : ℕ), h2⟩)).trans (congrArg A ?_))
  · funext q
    match q with
    | ⟨0, _⟩ => rfl
    | ⟨1, _⟩ => rfl
    | ⟨2, _⟩ => rfl
  · funext q; apply Fin.ext
    match q with
    | ⟨0, _⟩ => show t.val / 2 = win0_5.index t 0 * 1 + 1 * (i 0 : ℕ)
                rw [(index5 t).1]; omega
    | ⟨1, _⟩ => show t.val % 2 * 512 + (i 1 : ℕ) = win0_5.index t 1 * 512 + 1 * (i 1 : ℕ)
                rw [(index5 t).2.1]; omega
    | ⟨2, _⟩ => show (i 2 : ℕ) = win0_5.index t 2 * 256 + 1 * (i 2 : ℕ)
                rw [(index5 t).2.2]; omega

theorem flushed5 (t : Fin cfg0.N) : (dats m 0 c).flushed 5 t
    = ((cfg0.win 5).blk t).view.read (Elt Ideal) (grads (S0 m c) (S1 m c)) := by
  by_cases h : t.val < 2
  · rw [after5_A m c t h (by omega)]
    exact cut5 _ _ t fun i => blockG_eq0 m c t h i
  · rw [after5_B m c t h (by omega)]
    exact cut5 _ _ t fun i => blockG_eq1 m c t (by omega) i

/-- Every entry of a weight lies in the block of a point. -/
theorem inside (i : S2x1024x256.Idx) : ∃ t : Fin cfg0.N, ∀ a : Fin 3,
    win0_5.index t a * S1x512x256.size a ≤ (i a : ℕ) ∧ (i a : ℕ) < win0_5.index t a * S1x512x256.size a + S1x512x256.size a := by
  have h0 : (i 0 : ℕ) < 2 := (i 0).isLt
  have h1 : (i 1 : ℕ) < 1024 := (i 1).isLt
  have h2 : (i 2 : ℕ) < 256 := (i 2).isLt
  have hN : cfg0.N = 4 := N_0
  obtain ⟨t, ht⟩ : ∃ t : Fin cfg0.N, t.val = (i 0 : ℕ) * 2 + (i 1 : ℕ) / 512 := ⟨⟨_, by omega⟩, rfl⟩
  have e := index5 t
  refine ⟨t, fun a => ?_⟩
  match a with
  | ⟨0, _⟩ => show win0_5.index t 0 * 1 ≤ (i 0 : ℕ) ∧ (i 0 : ℕ) < win0_5.index t 0 * 1 + 1
              rw [e.1, ht]; omega
  | ⟨1, _⟩ => show win0_5.index t 1 * 512 ≤ (i 1 : ℕ) ∧ (i 1 : ℕ) < win0_5.index t 1 * 512 + 512
              rw [e.2.1, ht]; omega
  | ⟨2, _⟩ => show win0_5.index t 2 * 256 ≤ (i 2 : ℕ) ∧ (i 2 : ℕ) < win0_5.index t 2 * 256 + 256
              rw [e.2.2]; omega

theorem cover5 (i : S2x1024x256.Idx) : ∃ t : Fin cfg0.N, (cfg0.win 5).flush t = true ∧ i ∈ ((cfg0.win 5).blk t).view.set := by
  obtain ⟨t, ht⟩ := inside i
  refine ⟨t, flush0_5 _, ?_⟩
  show i ∈ ((View.whole main_v0_0).slice (win0_5.rect t)).set
  rw [View.set_slice_whole, Rect.mem_set_unit]
  exact ht

theorem final5 : (dats m 0 c).arrAt 5 cfg0.N = grads (S0 m c) (S1 m c) :=
  (dats m 0 c).arrAt_eq_of_cover 5 _ (fun t _ => flushed5 m c t) cover5

theorem cut6 (f : S1x512x256.Idx → EReal) (A : S2x1024x256.Idx → EReal) (t : Fin cfg0.N) (h : ∀ i, f i = A (at_ t i)) :
    (cfg0.win 6).cut (grid0.coords t) f = ((cfg0.win 6).blk t).view.read (Elt Ideal) A :=
  cut5 f A t h

theorem flushed6 (t : Fin cfg0.N) : (dats m 0 c).flushed 6 t
    = ((cfg0.win 6).blk t).view.read (Elt Ideal) (deltas (S0 m c) (S1 m c) (aw m c) (am m c) (av m c)) := by
  by_cases h : t.val < 2
  · rw [after6_A m c t h (by omega)]
    exact cut6 _ _ t fun i => by unfold blockD deltas; rw [blockG_eq0 m c t h i, block2, block3, block4]
  · rw [after6_B m c t h (by omega)]
    exact cut6 _ _ t fun i => by unfold blockD deltas; rw [blockG_eq1 m c t (by omega) i, block2, block3, block4]

theorem cover6 (i : S2x1024x256.Idx) : ∃ t : Fin cfg0.N, (cfg0.win 6).flush t = true ∧ i ∈ ((cfg0.win 6).blk t).view.set := by
  obtain ⟨t, ht⟩ := inside i
  refine ⟨t, flush0_6 _, ?_⟩
  show i ∈ ((View.whole main_v0_1).slice (win0_6.rect t)).set
  rw [View.set_slice_whole, Rect.mem_set_unit]
  exact ht

theorem final6 : (dats m 0 c).arrAt 6 cfg0.N = deltas (S0 m c) (S1 m c) (aw m c) (am m c) (av m c) :=
  (dats m 0 c).arrAt_eq_of_cover 6 _ (fun t _ => flushed6 m c t) cover6

theorem cut7 (f : S1x512x256.Idx → EReal) (A : S2x1024x256.Idx → EReal) (t : Fin cfg0.N) (h : ∀ i, f i = A (at_ t i)) :
    (cfg0.win 7).cut (grid0.coords t) f = ((cfg0.win 7).blk t).view.read (Elt Ideal) A :=
  cut5 f A t h

theorem flushed7 (t : Fin cfg0.N) : (dats m 0 c).flushed 7 t
    = ((cfg0.win 7).blk t).view.read (Elt Ideal) (means (S0 m c) (S1 m c) (am m c)) := by
  by_cases h : t.val < 2
  · rw [after7_A m c t h (by omega)]
    exact cut7 _ _ t fun i => by unfold blockM means; rw [blockG_eq0 m c t h i, block3]
  · rw [after7_B m c t h (by omega)]
    exact cut7 _ _ t fun i => by unfold blockM means; rw [blockG_eq1 m c t (by omega) i, block3]

theorem cover7 (i : S2x1024x256.Idx) : ∃ t : Fin cfg0.N, (cfg0.win 7).flush t = true ∧ i ∈ ((cfg0.win 7).blk t).view.set := by
  obtain ⟨t, ht⟩ := inside i
  refine ⟨t, flush0_7 _, ?_⟩
  show i ∈ ((View.whole main_v0_2).slice (win0_7.rect t)).set
  rw [View.set_slice_whole, Rect.mem_set_unit]
  exact ht

theorem final7 : (dats m 0 c).arrAt 7 cfg0.N = means (S0 m c) (S1 m c) (am m c) :=
  (dats m 0 c).arrAt_eq_of_cover 7 _ (fun t _ => flushed7 m c t) cover7

theorem cut8 (f : S1x512x256.Idx → EReal) (A : S2x1024x256.Idx → EReal) (t : Fin cfg0.N) (h : ∀ i, f i = A (at_ t i)) :
    (cfg0.win 8).cut (grid0.coords t) f = ((cfg0.win 8).blk t).view.read (Elt Ideal) A :=
  cut5 f A t h

theorem flushed8 (t : Fin cfg0.N) : (dats m 0 c).flushed 8 t
    = ((cfg0.win 8).blk t).view.read (Elt Ideal) (meanSqs (S0 m c) (S1 m c) (av m c)) := by
  by_cases h : t.val < 2
  · rw [after8_A m c t h (by omega)]
    exact cut8 _ _ t fun i => by unfold blockV meanSqs; rw [blockG_eq0 m c t h i, block4]
  · rw [after8_B m c t h (by omega)]
    exact cut8 _ _ t fun i => by unfold blockV meanSqs; rw [blockG_eq1 m c t (by omega) i, block4]

theorem cover8 (i : S2x1024x256.Idx) : ∃ t : Fin cfg0.N, (cfg0.win 8).flush t = true ∧ i ∈ ((cfg0.win 8).blk t).view.set := by
  obtain ⟨t, ht⟩ := inside i
  refine ⟨t, flush0_8 _, ?_⟩
  show i ∈ ((View.whole main_v0_3).slice (win0_8.rect t)).set
  rw [View.set_slice_whole, Rect.mem_set_unit]
  exact ht

theorem final8 : (dats m 0 c).arrAt 8 cfg0.N = meanSqs (S0 m c) (S1 m c) (av m c) :=
  (dats m 0 c).arrAt_eq_of_cover 8 _ (fun t _ => flushed8 m c t) cover8

/-- The run, read: each result at its formula, the arguments unchanged. -/
theorem run : θ_run defs (onTc (τ := τ) (main (F := Ideal))) ⟨m, fun _ => 0, ρ⟩ fun r => ∀ c : Dev nD,
      r.2.mem ((c : Thread nD τ).loc main_v0_0) = grads (S0 m c) (S1 m c)
      ∧ r.2.mem ((c : Thread nD τ).loc main_v0_1) = deltas (S0 m c) (S1 m c) (aw m c) (am m c) (av m c)
      ∧ r.2.mem ((c : Thread nD τ).loc main_v0_2) = means (S0 m c) (S1 m c) (am m c)
      ∧ r.2.mem ((c : Thread nD τ).loc main_v0_3) = meanSqs (S0 m c) (S1 m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c),
    (h c).2.2.1.trans (final7 m c), (h c).2.2.2.1.trans (final8 m c), (h c).2.2.2.2⟩) (Value.run_blocks m ρ)

end

/-! ## The reference -/

section
open Cert.AdamMemKvRefIdeal.Read

theorem ref_layer0 (a : Fin 1024) (k : Fin 256) : val_main_v6 (F := Ideal) s0 (ix3 0 a k)
    = ∑ s : Fin 8, s0 (ix3 s k a) := by
  rw [val_main_v6_apply, val_main_v2_apply, val_main_v1_apply, val_main_cst_apply,
    show (FloatOps.ofBits (F := Ideal) .f32 0x00000000#32 : EReal) = 0 from Ideal.ofBits_zero_f32, zero_add]
  refine Finset.sum_congr rfl fun s _ => ?_
  rw [val_main_v0_apply]
  refine congrArg s0 (funext fun q => Fin.ext ?_)
  match q with
  | ⟨0, _⟩ => rfl
  | ⟨1, _⟩ => rfl
  | ⟨2, _⟩ => rfl

theorem ref_layer1 (a : Fin 1024) (k : Fin 256) : val_main_v7 (F := Ideal) s1 (ix3 0 a k)
    = ∑ s : Fin 8, s1 (ix3 s k a) := by
  rw [val_main_v7_apply, val_main_v5_apply, val_main_v4_apply, val_main_cst_0_apply,
    show (FloatOps.ofBits (F := Ideal) .f32 0x00000000#32 : EReal) = 0 from Ideal.ofBits_zero_f32, zero_add]
  refine Finset.sum_congr rfl fun s _ => ?_
  rw [val_main_v3_apply]
  refine congrArg s1 (funext fun q => Fin.ext ?_)
  match q with
  | ⟨0, _⟩ => rfl
  | ⟨1, _⟩ => rfl
  | ⟨2, _⟩ => rfl

theorem ref_grads : val_main_v8 (F := Ideal) s0 s1 = grads s0 s1 := by
  funext i
  obtain ⟨l, a, k, rfl⟩ : ∃ l a k, i = ix3 l a k := ⟨i 0, i 1, i 2, by
    funext q
    match q with
    | ⟨0, _⟩ => rfl
    | ⟨1, _⟩ => rfl
    | ⟨2, _⟩ => rfl⟩
  unfold val_main_v8
  match l with
  | ⟨0, _⟩ =>
    refine Eq.trans ?_ (ref_layer0 s0 a k)
    generalize val_main_v6 (F := Ideal) s0 = y
    pointwise
  | ⟨1, _⟩ =>
    refine Eq.trans ?_ (ref_layer1 s1 a k)
    generalize val_main_v7 (F := Ideal) s1 = y
    pointwise

theorem ref_mean : val_main_v13 (F := Ideal) s0 s1 m = means s0 s1 m := by
  funext i
  simp only [val_main_v9_apply, val_main_v10_apply, val_main_v11_apply, val_main_v12_apply, val_main_v13_apply,
    val_main_cst_1_apply, val_main_cst_2_apply, val_main_cst_3_apply, val_main_cst_4_apply, val_main_cst_5_apply, val_main_cst_6_apply, val_main_cst_7_apply, val_main_cst_8_apply, val_main_cst_9_apply, ref_grads]
  rfl

theorem ref_meanSq : val_main_v19 (F := Ideal) s0 s1 v = meanSqs s0 s1 v := by
  funext i
  simp only [val_main_v14_apply, val_main_v15_apply, val_main_v16_apply, val_main_v17_apply, val_main_v18_apply, val_main_v19_apply,
    val_main_cst_1_apply, val_main_cst_2_apply, val_main_cst_3_apply, val_main_cst_4_apply, val_main_cst_5_apply, val_main_cst_6_apply, val_main_cst_7_apply, val_main_cst_8_apply, val_main_cst_9_apply, ref_grads]
  rfl

theorem ref_delta : val_main_v32 (F := Ideal) s0 s1 w m v = deltas s0 s1 w m v := by
  funext i
  simp only [val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply,
    val_main_cst_1_apply, val_main_cst_2_apply, val_main_cst_3_apply, val_main_cst_4_apply, val_main_cst_5_apply, val_main_cst_6_apply, val_main_cst_7_apply, val_main_cst_8_apply, val_main_cst_9_apply, ref_grads]
  rfl

end

/-! ## The claims -/

theorem frame_ref : Cert.quiescent_AdamMemKvRefIdeal := fun m ρ _ =>
  (θ_run _ _ _).mono (fun r h => ⟨fun c => (h c).2.2.2.2, sem_eq_zero_of_no_sems (by decide) r.2⟩)
    (Cert.AdamMemKvRefIdeal.Value.run (F := Ideal) m ρ)

theorem algebraic : Cert.algebraic_AdamMemKvIdeal_AdamMemKvRefIdeal := by
  intro m ρ m' ρ' _ args
  refine ⟨fun c => grads (S0 m c) (S1 m c), fun c => deltas (S0 m c) (S1 m c) (aw m c) (am m c) (av m c),
    fun c => means (S0 m c) (S1 m c) (am m c), fun c => meanSqs (S0 m c) (S1 m c) (av m c), run m ρ, ?_⟩
  refine (θ_run _ _ _).mono (fun r h c => ?_) (Cert.AdamMemKvRefIdeal.Value.run (F := Ideal) m' ρ')
  obtain ⟨a0, a1, a2, a3, a4⟩ := args c
  obtain ⟨h0, h1, h2, h3, hk⟩ := h c
  refine ⟨h0.trans ?_, h1.trans ?_, h2.trans ?_, h3.trans ?_, hk⟩
  · rw [Cert.AdamMemKvRefIdeal.Read.val_main_v8_eq, a0, a1]
    exact ref_grads _ _
  · rw [Cert.AdamMemKvRefIdeal.Read.val_main_v32_eq, a0, a1, a2, a3, a4]
    exact ref_delta _ _ _ _ _
  · rw [Cert.AdamMemKvRefIdeal.Read.val_main_v13_eq, a0, a1, a3]
    exact ref_mean _ _ _
  · rw [Cert.AdamMemKvRefIdeal.Read.val_main_v19_eq, a0, a1, a4]
    exact ref_meanSq _ _ _

end Cert.Adam.MemKv

end
-- ==== Proof.lean ====
/-
  The proof of everything `Defs.lean` claims. Each kernel has its own directory beside this file.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.FfnDgrad.Frame
public import proofs.«01_k».proof.Proof.Gen.FfnDgradIdeal.Frame
public import proofs.«01_k».proof.Proof.Gen.FfnDgradRefIdeal
public import proofs.«01_k».proof.Proof.Gen.FfnFwd.Frame
public import proofs.«01_k».proof.Proof.Gen.FfnFwdIdeal.Frame
public import proofs.«01_k».proof.Proof.Gen.FfnFwdRefIdeal
public import proofs.«01_k».proof.Proof.Gen.FfnOutWgrad.Frame
public import proofs.«01_k».proof.Proof.Gen.FfnOutWgradIdeal.Frame
public import proofs.«01_k».proof.Proof.Gen.FfnOutWgradRefIdeal
public import proofs.«01_k».proof.Proof.Gen.FfnInWgrad.Frame
public import proofs.«01_k».proof.Proof.Gen.FfnInWgradIdeal.Frame
public import proofs.«01_k».proof.Proof.Gen.FfnInWgradRefIdeal
public import proofs.«01_k».proof.Proof.Gen.MixInDgrad.Frame
public import proofs.«01_k».proof.Proof.Gen.MixInDgradIdeal.Frame
public import proofs.«01_k».proof.Proof.Gen.MixInDgradRefIdeal
public import proofs.«01_k».proof.Proof.Gen.MixInWgrad.Frame
public import proofs.«01_k».proof.Proof.Gen.MixInWgradIdeal.Frame
public import proofs.«01_k».proof.Proof.Gen.MixInWgradRefIdeal
public import proofs.«01_k».proof.Proof.Gen.HgrnOut.Frame
public import proofs.«01_k».proof.Proof.Gen.HgrnOutIdeal.Frame
public import proofs.«01_k».proof.Proof.Gen.HgrnOutRefIdeal
public import proofs.«01_k».proof.Proof.Gen.HgrnOutWgrad.Frame
public import proofs.«01_k».proof.Proof.Gen.HgrnOutWgradIdeal.Frame
public import proofs.«01_k».proof.Proof.Gen.HgrnOutWgradRefIdeal
public import proofs.«01_k».proof.Proof.Gen.HgrnOutDgrad.Frame
public import proofs.«01_k».proof.Proof.Gen.HgrnOutDgradIdeal.Frame
public import proofs.«01_k».proof.Proof.Gen.HgrnOutDgradRefIdeal
public import proofs.«01_k».proof.Proof.Gen.GmlpOut.Frame
public import proofs.«01_k».proof.Proof.Gen.GmlpOutIdeal.Frame
public import proofs.«01_k».proof.Proof.Gen.GmlpOutRefIdeal
public import proofs.«01_k».proof.Proof.Gen.GmlpOutWgrad.Frame
public import proofs.«01_k».proof.Proof.Gen.GmlpOutWgradIdeal.Frame
public import proofs.«01_k».proof.Proof.Gen.GmlpOutWgradRefIdeal
public import proofs.«01_k».proof.Proof.Gen.GmlpOutDgrad.Frame
public import proofs.«01_k».proof.Proof.Gen.GmlpOutDgradIdeal.Frame
public import proofs.«01_k».proof.Proof.Gen.GmlpOutDgradRefIdeal
public import proofs.«01_k».proof.Proof.Gen.AttnFwd.Frame
public import proofs.«01_k».proof.Proof.Gen.AttnFwdIdeal.Frame
public import proofs.«01_k».proof.Proof.Gen.AttnFwdRefIdeal
public import proofs.«01_k».proof.Proof.Gen.MemKv.Frame
public import proofs.«01_k».proof.Proof.Gen.MemKvIdeal.Frame
public import proofs.«01_k».proof.Proof.Gen.MemKvRefIdeal
public import proofs.«01_k».proof.Proof.Gen.MemKvWgrad.Frame
public import proofs.«01_k».proof.Proof.Gen.MemKvWgradIdeal.Frame
public import proofs.«01_k».proof.Proof.Gen.MemKvWgradRefIdeal
public import proofs.«01_k».proof.Proof.Gen.MemKvDgrad.Frame
public import proofs.«01_k».proof.Proof.Gen.MemKvDgradIdeal.Frame
public import proofs.«01_k».proof.Proof.Gen.MemKvDgradRefIdeal
public import proofs.«01_k».proof.Proof.Gen.MemNorm.Frame
public import proofs.«01_k».proof.Proof.Gen.MemNormIdeal.Frame
public import proofs.«01_k».proof.Proof.Gen.MemNormRefIdeal
public import proofs.«01_k».proof.Proof.Gen.MemNormBwd.Frame
public import proofs.«01_k».proof.Proof.Gen.MemNormBwdIdeal.Frame
public import proofs.«01_k».proof.Proof.Gen.MemNormBwdRefIdeal
public import proofs.«01_k».proof.Proof.Gen.LossHead.Frame
public import proofs.«01_k».proof.Proof.Gen.LossHeadIdeal.Frame
public import proofs.«01_k».proof.Proof.Gen.LossHeadRefIdeal
public import proofs.«01_k».proof.Proof.Gen.GmlpFwd.Frame
public import proofs.«01_k».proof.Proof.Gen.GmlpFwdIdeal.Frame
public import proofs.«01_k».proof.Proof.Gen.GmlpFwdRefIdeal
public import proofs.«01_k».proof.Proof.Gen.AdamHgrnOut.Frame
public import proofs.«01_k».proof.Proof.Gen.AdamHgrnOutIdeal.Frame
public import proofs.«01_k».proof.Proof.Gen.AdamHgrnOutRefIdeal
public import proofs.«01_k».proof.Proof.Gen.AdamGmlpOut.Frame
public import proofs.«01_k».proof.Proof.Gen.AdamGmlpOutIdeal.Frame
public import proofs.«01_k».proof.Proof.Gen.AdamGmlpOutRefIdeal
public import proofs.«01_k».proof.Proof.Gen.AdamMixIn.Frame
public import proofs.«01_k».proof.Proof.Gen.AdamMixInIdeal.Frame
public import proofs.«01_k».proof.Proof.Gen.AdamMixInRefIdeal
public import proofs.«01_k».proof.Proof.Gen.AdamFfnIn.Frame
public import proofs.«01_k».proof.Proof.Gen.AdamFfnInIdeal.Frame
public import proofs.«01_k».proof.Proof.Gen.AdamFfnInRefIdeal
public import proofs.«01_k».proof.Proof.Gen.AdamFfnOut.Frame
public import proofs.«01_k».proof.Proof.Gen.AdamFfnOutIdeal.Frame
public import proofs.«01_k».proof.Proof.Gen.AdamFfnOutRefIdeal
public import proofs.«01_k».proof.Proof.Gen.AdamMemKv.Frame
public import proofs.«01_k».proof.Proof.Gen.AdamMemKvIdeal.Frame
public import proofs.«01_k».proof.Proof.Gen.AdamMemKvRefIdeal
public import proofs.«01_k».proof.Proof.Gen.Pre_finite_scores
public import proofs.«01_k».proof.Proof.Gen.Pre_finite_ffn
public import proofs.«01_k».proof.Proof.Gen.Pre_finite_up
public import proofs.«01_k».proof.Proof.Attn.Claim
public import proofs.«01_k».proof.Proof.Products.AttnFwd
public import proofs.«01_k».proof.Proof.Products.FfnInWgrad
public import proofs.«01_k».proof.Proof.Products.FfnOutWgrad
public import proofs.«01_k».proof.Proof.Products.GmlpOut
public import proofs.«01_k».proof.Proof.Products.GmlpOutDgrad
public import proofs.«01_k».proof.Proof.Products.GmlpOutWgrad
public import proofs.«01_k».proof.Proof.Products.HgrnOut
public import proofs.«01_k».proof.Proof.Products.HgrnOutDgrad
public import proofs.«01_k».proof.Proof.Products.HgrnOutWgrad
public import proofs.«01_k».proof.Proof.Products.MemKv
public import proofs.«01_k».proof.Proof.Products.MemKvDgrad
public import proofs.«01_k».proof.Proof.Products.MemKvWgrad
public import proofs.«01_k».proof.Proof.Products.MemNorm
public import proofs.«01_k».proof.Proof.Products.MixInWgrad
public import proofs.«01_k».proof.Proof.MixInDgradClaim
public import proofs.«01_k».proof.Proof.FfnDgradClaim
public import proofs.«01_k».proof.Proof.FfnFwdClaim
public import proofs.«01_k».proof.Proof.MemNormBwd
public import proofs.«01_k».proof.Proof.LossClaim
public import proofs.«01_k».proof.Proof.GateFwdClaim
public import proofs.«01_k».proof.Proof.Adam.HgrnOut
public import proofs.«01_k».proof.Proof.Adam.GmlpOut
public import proofs.«01_k».proof.Proof.Adam.MixIn
public import proofs.«01_k».proof.Proof.Adam.FfnIn
public import proofs.«01_k».proof.Proof.Adam.FfnOut
public import proofs.«01_k».proof.Proof.Adam.MemKv
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.FfnDgrad.Gen.facts, Cert.FfnDgradIdeal.Gen.facts, Cert.FfnDgradRefIdeal.Gen.facts, Cert.FfnFwd.Gen.facts, Cert.FfnFwdIdeal.Gen.facts, Cert.FfnFwdRefIdeal.Gen.facts, Cert.FfnOutWgrad.Gen.facts, Cert.FfnOutWgradIdeal.Gen.facts, Cert.FfnOutWgradRefIdeal.Gen.facts, Cert.FfnInWgrad.Gen.facts, Cert.FfnInWgradIdeal.Gen.facts, Cert.FfnInWgradRefIdeal.Gen.facts, Cert.MixInDgrad.Gen.facts, Cert.MixInDgradIdeal.Gen.facts, Cert.MixInDgradRefIdeal.Gen.facts, Cert.MixInWgrad.Gen.facts, Cert.MixInWgradIdeal.Gen.facts, Cert.MixInWgradRefIdeal.Gen.facts, Cert.HgrnOut.Gen.facts, Cert.HgrnOutIdeal.Gen.facts, Cert.HgrnOutRefIdeal.Gen.facts, Cert.HgrnOutWgrad.Gen.facts, Cert.HgrnOutWgradIdeal.Gen.facts, Cert.HgrnOutWgradRefIdeal.Gen.facts, Cert.HgrnOutDgrad.Gen.facts, Cert.HgrnOutDgradIdeal.Gen.facts, Cert.HgrnOutDgradRefIdeal.Gen.facts, Cert.GmlpOut.Gen.facts, Cert.GmlpOutIdeal.Gen.facts, Cert.GmlpOutRefIdeal.Gen.facts, Cert.GmlpOutWgrad.Gen.facts, Cert.GmlpOutWgradIdeal.Gen.facts, Cert.GmlpOutWgradRefIdeal.Gen.facts, Cert.GmlpOutDgrad.Gen.facts, Cert.GmlpOutDgradIdeal.Gen.facts, Cert.GmlpOutDgradRefIdeal.Gen.facts, Cert.AttnFwd.Gen.facts, Cert.AttnFwdIdeal.Gen.facts, Cert.AttnFwdRefIdeal.Gen.facts, Cert.MemKv.Gen.facts, Cert.MemKvIdeal.Gen.facts, Cert.MemKvRefIdeal.Gen.facts, Cert.MemKvWgrad.Gen.facts, Cert.MemKvWgradIdeal.Gen.facts, Cert.MemKvWgradRefIdeal.Gen.facts, Cert.MemKvDgrad.Gen.facts, Cert.MemKvDgradIdeal.Gen.facts, Cert.MemKvDgradRefIdeal.Gen.facts, Cert.MemNorm.Gen.facts, Cert.MemNormIdeal.Gen.facts, Cert.MemNormRefIdeal.Gen.facts, Cert.MemNormBwd.Gen.facts, Cert.MemNormBwdIdeal.Gen.facts, Cert.MemNormBwdRefIdeal.Gen.facts, Cert.LossHead.Gen.facts, Cert.LossHeadIdeal.Gen.facts, Cert.LossHeadRefIdeal.Gen.facts, Cert.GmlpFwd.Gen.facts, Cert.GmlpFwdIdeal.Gen.facts, Cert.GmlpFwdRefIdeal.Gen.facts, Cert.AdamHgrnOut.Gen.facts, Cert.AdamHgrnOutIdeal.Gen.facts, Cert.AdamHgrnOutRefIdeal.Gen.facts, Cert.AdamGmlpOut.Gen.facts, Cert.AdamGmlpOutIdeal.Gen.facts, Cert.AdamGmlpOutRefIdeal.Gen.facts, Cert.AdamMixIn.Gen.facts, Cert.AdamMixInIdeal.Gen.facts, Cert.AdamMixInRefIdeal.Gen.facts, Cert.AdamFfnIn.Gen.facts, Cert.AdamFfnInIdeal.Gen.facts, Cert.AdamFfnInRefIdeal.Gen.facts, Cert.AdamFfnOut.Gen.facts, Cert.AdamFfnOutIdeal.Gen.facts, Cert.AdamFfnOutRefIdeal.Gen.facts, Cert.AdamMemKv.Gen.facts, Cert.AdamMemKvIdeal.Gen.facts, Cert.AdamMemKvRefIdeal.Gen.facts, Cert.Pre_finite_scores.Gen.facts, Cert.Pre_finite_ffn.Gen.facts, Cert.Pre_finite_up.Gen.facts,
    fun m ρ _ => Cert.Kernel.Gen.frame m ρ,
    fun m ρ _ => Cert.KernelIdeal.Gen.frame m ρ,
    fun m ρ _ => Cert.KernelIdeal.Gen.frame m ρ,
    Cert.Attn.frame_ref,
    fun m ρ _ => Cert.Attn.frame_ref m ρ trivial,
    fun m ρ _ => Cert.FfnDgrad.Gen.frame m ρ,
    fun m ρ _ => Cert.FfnDgradIdeal.Gen.frame m ρ,
    fun m ρ _ => Cert.FfnDgradIdeal.Gen.frame m ρ,
    Cert.Ffn.Dgrad.frame_ref,
    fun m ρ _ => Cert.Ffn.Dgrad.frame_ref m ρ trivial,
    fun m ρ _ => Cert.FfnFwd.Gen.frame m ρ,
    fun m ρ _ => Cert.FfnFwdIdeal.Gen.frame m ρ,
    fun m ρ _ => Cert.FfnFwdIdeal.Gen.frame m ρ,
    Cert.Ffn.Fwd.frame_ref,
    fun m ρ _ => Cert.Ffn.Fwd.frame_ref m ρ trivial,
    fun m ρ _ => Cert.FfnOutWgrad.Gen.frame m ρ,
    fun m ρ _ => Cert.FfnOutWgradIdeal.Gen.frame m ρ,
    Cert.Products.FfnOutWgrad.frame_ref,
    fun m ρ _ => Cert.FfnInWgrad.Gen.frame m ρ,
    fun m ρ _ => Cert.FfnInWgradIdeal.Gen.frame m ρ,
    Cert.Products.FfnInWgrad.frame_ref,
    fun m ρ _ => Cert.MixInDgrad.Gen.frame m ρ,
    fun m ρ _ => Cert.MixInDgradIdeal.Gen.frame m ρ,
    Cert.MixIn.frame_ref,
    fun m ρ _ => Cert.MixInWgrad.Gen.frame m ρ,
    fun m ρ _ => Cert.MixInWgradIdeal.Gen.frame m ρ,
    Cert.Products.MixInWgrad.frame_ref,
    fun m ρ _ => Cert.HgrnOut.Gen.frame m ρ,
    fun m ρ _ => Cert.HgrnOutIdeal.Gen.frame m ρ,
    Cert.Products.HgrnOut.frame_ref,
    fun m ρ _ => Cert.HgrnOutWgrad.Gen.frame m ρ,
    fun m ρ _ => Cert.HgrnOutWgradIdeal.Gen.frame m ρ,
    Cert.Products.HgrnOutWgrad.frame_ref,
    fun m ρ _ => Cert.HgrnOutDgrad.Gen.frame m ρ,
    fun m ρ _ => Cert.HgrnOutDgradIdeal.Gen.frame m ρ,
    Cert.Products.HgrnOutDgrad.frame_ref,
    fun m ρ _ => Cert.GmlpOut.Gen.frame m ρ,
    fun m ρ _ => Cert.GmlpOutIdeal.Gen.frame m ρ,
    Cert.Products.GmlpOut.frame_ref,
    fun m ρ _ => Cert.GmlpOutWgrad.Gen.frame m ρ,
    fun m ρ _ => Cert.GmlpOutWgradIdeal.Gen.frame m ρ,
    Cert.Products.GmlpOutWgrad.frame_ref,
    fun m ρ _ => Cert.GmlpOutDgrad.Gen.frame m ρ,
    fun m ρ _ => Cert.GmlpOutDgradIdeal.Gen.frame m ρ,
    Cert.Products.GmlpOutDgrad.frame_ref,
    fun m ρ _ => Cert.AttnFwd.Gen.frame m ρ,
    fun m ρ _ => Cert.AttnFwdIdeal.Gen.frame m ρ,
    Cert.Products.AttnFwd.frame_ref,
    fun m ρ _ => Cert.MemKv.Gen.frame m ρ,
    fun m ρ _ => Cert.MemKvIdeal.Gen.frame m ρ,
    Cert.Products.MemKv.frame_ref,
    fun m ρ _ => Cert.MemKvWgrad.Gen.frame m ρ,
    fun m ρ _ => Cert.MemKvWgradIdeal.Gen.frame m ρ,
    Cert.Products.MemKvWgrad.frame_ref,
    fun m ρ _ => Cert.MemKvDgrad.Gen.frame m ρ,
    fun m ρ _ => Cert.MemKvDgradIdeal.Gen.frame m ρ,
    Cert.Products.MemKvDgrad.frame_ref,
    fun m ρ _ => Cert.MemNorm.Gen.frame m ρ,
    fun m ρ _ => Cert.MemNormIdeal.Gen.frame m ρ,
    Cert.Products.MemNorm.frame_ref,
    fun m ρ _ => Cert.MemNormBwd.Gen.frame m ρ,
    fun m ρ _ => Cert.MemNormBwdIdeal.Gen.frame m ρ,
    Cert.Memory.frame_ref,
    fun m ρ _ => Cert.LossHead.Gen.frame m ρ,
    fun m ρ _ => Cert.LossHeadIdeal.Gen.frame m ρ,
    Cert.Loss.frame_ref,
    fun m ρ _ => Cert.GmlpFwd.Gen.frame m ρ,
    fun m ρ _ => Cert.GmlpFwdIdeal.Gen.frame m ρ,
    Cert.Gate.Fwd.frame_ref,
    fun m ρ _ => Cert.AdamHgrnOut.Gen.frame m ρ,
    fun m ρ _ => Cert.AdamHgrnOutIdeal.Gen.frame m ρ,
    Cert.Adam.HgrnOut.frame_ref,
    fun m ρ _ => Cert.AdamGmlpOut.Gen.frame m ρ,
    fun m ρ _ => Cert.AdamGmlpOutIdeal.Gen.frame m ρ,
    Cert.Adam.GmlpOut.frame_ref,
    fun m ρ _ => Cert.AdamMixIn.Gen.frame m ρ,
    fun m ρ _ => Cert.AdamMixInIdeal.Gen.frame m ρ,
    Cert.Adam.MixIn.frame_ref,
    fun m ρ _ => Cert.AdamFfnIn.Gen.frame m ρ,
    fun m ρ _ => Cert.AdamFfnInIdeal.Gen.frame m ρ,
    Cert.Adam.FfnIn.frame_ref,
    fun m ρ _ => Cert.AdamFfnOut.Gen.frame m ρ,
    fun m ρ _ => Cert.AdamFfnOutIdeal.Gen.frame m ρ,
    Cert.Adam.FfnOut.frame_ref,
    fun m ρ _ => Cert.AdamMemKv.Gen.frame m ρ,
    fun m ρ _ => Cert.AdamMemKvIdeal.Gen.frame m ρ,
    Cert.Adam.MemKv.frame_ref,
    trivial,
    Cert.Attn.algebraic,
    trivial,
    Cert.Ffn.Dgrad.algebraic,
    trivial,
    Cert.Ffn.Fwd.algebraic,
    trivial,
    Cert.Products.FfnOutWgrad.algebraic,
    trivial,
    Cert.Products.FfnInWgrad.algebraic,
    trivial,
    Cert.MixIn.algebraic,
    trivial,
    Cert.Products.MixInWgrad.algebraic,
    trivial,
    Cert.Products.HgrnOut.algebraic,
    trivial,
    Cert.Products.HgrnOutWgrad.algebraic,
    trivial,
    Cert.Products.HgrnOutDgrad.algebraic,
    trivial,
    Cert.Products.GmlpOut.algebraic,
    trivial,
    Cert.Products.GmlpOutWgrad.algebraic,
    trivial,
    Cert.Products.GmlpOutDgrad.algebraic,
    trivial,
    Cert.Products.AttnFwd.algebraic,
    trivial,
    Cert.Products.MemKv.algebraic,
    trivial,
    Cert.Products.MemKvWgrad.algebraic,
    trivial,
    Cert.Products.MemKvDgrad.algebraic,
    trivial,
    Cert.Products.MemNorm.algebraic,
    trivial,
    Cert.Memory.algebraic,
    trivial,
    Cert.Loss.algebraic,
    trivial,
    Cert.Gate.Fwd.algebraic,
    trivial,
    Cert.Adam.HgrnOut.algebraic,
    trivial,
    Cert.Adam.GmlpOut.algebraic,
    trivial,
    Cert.Adam.MixIn.algebraic,
    trivial,
    Cert.Adam.FfnIn.algebraic,
    trivial,
    Cert.Adam.FfnOut.algebraic,
    trivial,
    Cert.Adam.MemKv.algebraic⟩

end Cert.Proof

end
